-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Dx1 (m : (ℓ : Loc Cert.Dx1.nD Cert.Dx1.τ Cert.Dx1.sig) → Buf (Elt Bits) ℓ) : Prop :=
  True

def Pre_Dx1Ideal (m : (ℓ : Loc Cert.Dx1Ideal.nD Cert.Dx1Ideal.τ Cert.Dx1Ideal.sig) → Buf (Elt Ideal) ℓ) : Prop :=
  True

def Pre_Dx1Ideal_dx1_finite [hPre_dx1_finite : Cert.Pre_dx1_finite.Facts] (m : (ℓ : Loc Cert.Dx1Ideal.nD Cert.Dx1Ideal.τ Cert.Dx1Ideal.sig) → Buf (Elt Ideal) ℓ) : Prop :=
  ∀ c : Dev Cert.Dx1Ideal.nD,
    (Cert.Pre_dx1_finite.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))) = (fun _ => 1#1)

def Pre_Dx1RefIdeal (m : (ℓ : Loc Cert.Dx1RefIdeal.nD Cert.Dx1RefIdeal.τ Cert.Dx1RefIdeal.sig) → Buf (Elt Ideal) ℓ) : Prop :=
  True

def Pre_Dx1RefIdeal_dx1_finite [hPre_dx1_finite : Cert.Pre_dx1_finite.Facts] (m : (ℓ : Loc Cert.Dx1RefIdeal.nD Cert.Dx1RefIdeal.τ Cert.Dx1RefIdeal.sig) → Buf (Elt Ideal) ℓ) : Prop :=
  ∀ c : Dev Cert.Dx1RefIdeal.nD,
    (Cert.Pre_dx1_finite.fn (F := Ideal) (m ((c.tc : Thread Cert.Dx1RefIdeal.nD Cert.Dx1RefIdeal.τ).loc Cert.Dx1RefIdeal.main_arg0)) (m ((c.tc : Thread Cert.Dx1RefIdeal.nD Cert.Dx1RefIdeal.τ).loc Cert.Dx1RefIdeal.main_arg1)) (m ((c.tc : Thread Cert.Dx1RefIdeal.nD Cert.Dx1RefIdeal.τ).loc Cert.Dx1RefIdeal.main_arg2)) (m ((c.tc : Thread Cert.Dx1RefIdeal.nD Cert.Dx1RefIdeal.τ).loc Cert.Dx1RefIdeal.main_arg3)) (m ((c.tc : Thread Cert.Dx1RefIdeal.nD Cert.Dx1RefIdeal.τ).loc Cert.Dx1RefIdeal.main_arg4))) = (fun _ => 1#1)

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_dx_finite [hPre_dx_finite : Cert.Pre_dx_finite.Facts] (m : (ℓ : Loc Cert.DxIdeal.nD Cert.DxIdeal.τ Cert.DxIdeal.sig) → Buf (Elt Ideal) ℓ) : Prop :=
  ∀ c : Dev Cert.DxIdeal.nD,
    (Cert.Pre_dx_finite.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4))) = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_dx_finite [hPre_dx_finite : Cert.Pre_dx_finite.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_dx_finite.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_loss_finite [hPre_loss_finite : Cert.Pre_loss_finite.Facts] (m : (ℓ : Loc Cert.LossIdeal.nD Cert.LossIdeal.τ Cert.LossIdeal.sig) → Buf (Elt Ideal) ℓ) : Prop :=
  ∀ c : Dev Cert.LossIdeal.nD,
    (Cert.Pre_loss_finite.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_pool_finite [hPre_pool_finite : Cert.Pre_pool_finite.Facts] (m : (ℓ : Loc Cert.PoolIdeal.nD Cert.PoolIdeal.τ Cert.PoolIdeal.sig) → Buf (Elt Ideal) ℓ) : Prop :=
  ∀ c : Dev Cert.PoolIdeal.nD,
    (Cert.Pre_pool_finite.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3)) (m ((c.tc : Thread Cert.PoolIdeal.nD Cert.PoolIdeal.τ).loc Cert.PoolIdeal.main_arg4))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_pool_finite [hPre_pool_finite : Cert.Pre_pool_finite.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_pool_finite.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3)) (m ((c.tc : Thread Cert.PoolRefIdeal.nD Cert.PoolRefIdeal.τ).loc Cert.PoolRefIdeal.main_arg4))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_mid_finite [hPre_mid_finite : Cert.Pre_mid_finite.Facts] (m : (ℓ : Loc Cert.MidIdeal.nD Cert.MidIdeal.τ Cert.MidIdeal.sig) → Buf (Elt Ideal) ℓ) : Prop :=
  ∀ c : Dev Cert.MidIdeal.nD,
    (Cert.Pre_mid_finite.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_mid_finite [hPre_mid_finite : Cert.Pre_mid_finite.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_mid_finite.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Wu (m : (ℓ : Loc Cert.Wu.nD Cert.Wu.τ Cert.Wu.sig) → Buf (Elt Bits) ℓ) : Prop :=
  True

def Pre_WuIdeal (m : (ℓ : Loc Cert.WuIdeal.nD Cert.WuIdeal.τ Cert.WuIdeal.sig) → Buf (Elt Ideal) ℓ) : Prop :=
  True

def Pre_WuRefIdeal (m : (ℓ : Loc Cert.WuRefIdeal.nD Cert.WuRefIdeal.τ Cert.WuRefIdeal.sig) → Buf (Elt Ideal) ℓ) : Prop :=
  True

def Pre_Wi (m : (ℓ : Loc Cert.Wi.nD Cert.Wi.τ Cert.Wi.sig) → Buf (Elt Bits) ℓ) : Prop :=
  True

def Pre_WiIdeal (m : (ℓ : Loc Cert.WiIdeal.nD Cert.WiIdeal.τ Cert.WiIdeal.sig) → Buf (Elt Ideal) ℓ) : Prop :=
  True

def Pre_WiRefIdeal (m : (ℓ : Loc Cert.WiRefIdeal.nD Cert.WiRefIdeal.τ Cert.WiRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Dx1 [hDx1 : Cert.Dx1.Facts] : Prop :=
  ∀ (m : (ℓ : Loc Cert.Dx1.nD Cert.Dx1.τ Cert.Dx1.sig) → Buf (Elt Bits) ℓ) (g : Dev Cert.Dx1.nD → PrngReg), Pre_Dx1 m →
    θ_run (Cert.Dx1.defs (F := Bits)) (onTc (τ := Cert.Dx1.τ) (Cert.Dx1.main (F := Bits))) ⟨m, fun _ => 0, g⟩ (fun r => (∀ c : Dev Cert.Dx1.nD,
      r.2.mem ((c.tc : Thread Cert.Dx1.nD Cert.Dx1.τ).loc Cert.Dx1.main_arg0) = m ((c.tc : Thread Cert.Dx1.nD Cert.Dx1.τ).loc Cert.Dx1.main_arg0)
      ∧ r.2.mem ((c.tc : Thread Cert.Dx1.nD Cert.Dx1.τ).loc Cert.Dx1.main_arg1) = m ((c.tc : Thread Cert.Dx1.nD Cert.Dx1.τ).loc Cert.Dx1.main_arg1)
      ∧ r.2.mem ((c.tc : Thread Cert.Dx1.nD Cert.Dx1.τ).loc Cert.Dx1.main_arg2) = m ((c.tc : Thread Cert.Dx1.nD Cert.Dx1.τ).loc Cert.Dx1.main_arg2)
      ∧ r.2.mem ((c.tc : Thread Cert.Dx1.nD Cert.Dx1.τ).loc Cert.Dx1.main_arg3) = m ((c.tc : Thread Cert.Dx1.nD Cert.Dx1.τ).loc Cert.Dx1.main_arg3)
      ∧ r.2.mem ((c.tc : Thread Cert.Dx1.nD Cert.Dx1.τ).loc Cert.Dx1.main_arg4) = m ((c.tc : Thread Cert.Dx1.nD Cert.Dx1.τ).loc Cert.Dx1.main_arg4))
      ∧ r.2.sem = fun _ => 0)

def quiescent_Dx1Ideal [hDx1Ideal : Cert.Dx1Ideal.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2)
      ∧ r.2.mem ((c.tc : Thread Cert.Dx1Ideal.nD Cert.Dx1Ideal.τ).loc Cert.Dx1Ideal.main_arg3) = m ((c.tc : Thread Cert.Dx1Ideal.nD Cert.Dx1Ideal.τ).loc Cert.Dx1Ideal.main_arg3)
      ∧ r.2.mem ((c.tc : Thread Cert.Dx1Ideal.nD Cert.Dx1Ideal.τ).loc Cert.Dx1Ideal.main_arg4) = m ((c.tc : Thread Cert.Dx1Ideal.nD Cert.Dx1Ideal.τ).loc Cert.Dx1Ideal.main_arg4))
      ∧ r.2.sem = fun _ => 0)

def quiescent_Dx1Ideal_pre_dx1_finite [hDx1Ideal : Cert.Dx1Ideal.Facts] [hPre_dx1_finite : Cert.Pre_dx1_finite.Facts] : Prop :=
  ∀ (m : (ℓ : Loc Cert.Dx1Ideal.nD Cert.Dx1Ideal.τ Cert.Dx1Ideal.sig) → Buf (Elt Ideal) ℓ) (g : Dev Cert.Dx1Ideal.nD → PrngReg), Pre_Dx1Ideal_dx1_finite m →
    θ_run (Cert.Dx1Ideal.defs (F := Ideal)) (onTc (τ := Cert.Dx1Ideal.τ) (Cert.Dx1Ideal.main (F := Ideal))) ⟨m, fun _ => 0, g⟩ (fun r => (∀ c : Dev Cert.Dx1Ideal.nD,
      r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
      ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
      ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2)
      ∧ r.2.mem ((c.tc : Thread Cert.Dx1Ideal.nD Cert.Dx1Ideal.τ).loc Cert.Dx1Ideal.main_arg3) = m ((c.tc : Thread Cert.Dx1Ideal.nD Cert.Dx1Ideal.τ).loc Cert.Dx1Ideal.main_arg3)
      ∧ r.2.mem ((c.tc : Thread Cert.Dx1Ideal.nD Cert.Dx1Ideal.τ).loc Cert.Dx1Ideal.main_arg4) = m ((c.tc : Thread Cert.Dx1Ideal.nD Cert.Dx1Ideal.τ).loc Cert.Dx1Ideal.main_arg4))
      ∧ r.2.sem = fun _ => 0)

def quiescent_Dx1RefIdeal [hDx1RefIdeal : Cert.Dx1RefIdeal.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1)
      ∧ r.2.mem ((c.tc : Thread Cert.Dx1RefIdeal.nD Cert.Dx1RefIdeal.τ).loc Cert.Dx1RefIdeal.main_arg2) = m ((c.tc : Thread Cert.Dx1RefIdeal.nD Cert.Dx1RefIdeal.τ).loc Cert.Dx1RefIdeal.main_arg2)
      ∧ r.2.mem ((c.tc : Thread Cert.Dx1RefIdeal.nD Cert.Dx1RefIdeal.τ).loc Cert.Dx1RefIdeal.main_arg3) = m ((c.tc : Thread Cert.Dx1RefIdeal.nD Cert.Dx1RefIdeal.τ).loc Cert.Dx1RefIdeal.main_arg3)
      ∧ r.2.mem ((c.tc : Thread Cert.Dx1RefIdeal.nD Cert.Dx1RefIdeal.τ).loc Cert.Dx1RefIdeal.main_arg4) = m ((c.tc : Thread Cert.Dx1RefIdeal.nD Cert.Dx1RefIdeal.τ).loc Cert.Dx1RefIdeal.main_arg4))
      ∧ r.2.sem = fun _ => 0)

def quiescent_Dx1RefIdeal_pre_dx1_finite [hDx1RefIdeal : Cert.Dx1RefIdeal.Facts] [hPre_dx1_finite : Cert.Pre_dx1_finite.Facts] : Prop :=
  ∀ (m : (ℓ : Loc Cert.Dx1RefIdeal.nD Cert.Dx1RefIdeal.τ Cert.Dx1RefIdeal.sig) → Buf (Elt Ideal) ℓ) (g : Dev Cert.Dx1RefIdeal.nD → PrngReg), Pre_Dx1RefIdeal_dx1_finite m →
    θ_run (Cert.Dx1RefIdeal.defs (F := Ideal)) (onTc (τ := Cert.Dx1RefIdeal.τ) (Cert.Dx1RefIdeal.main (F := Ideal))) ⟨m, fun _ => 0, g⟩ (fun r => (∀ c : Dev Cert.Dx1RefIdeal.nD,
      r.2.mem ((c.tc : Thread Cert.Dx1RefIdeal.nD Cert.Dx1RefIdeal.τ).loc Cert.Dx1RefIdeal.main_arg0) = m ((c.tc : Thread Cert.Dx1RefIdeal.nD Cert.Dx1RefIdeal.τ).loc Cert.Dx1RefIdeal.main_arg0)
      ∧ r.2.mem ((c.tc : Thread Cert.Dx1RefIdeal.nD Cert.Dx1RefIdeal.τ).loc Cert.Dx1RefIdeal.main_arg1) = m ((c.tc : Thread Cert.Dx1RefIdeal.nD Cert.Dx1RefIdeal.τ).loc Cert.Dx1RefIdeal.main_arg1)
      ∧ r.2.mem ((c.tc : Thread Cert.Dx1RefIdeal.nD Cert.Dx1RefIdeal.τ).loc Cert.Dx1RefIdeal.main_arg2) = m ((c.tc : Thread Cert.Dx1RefIdeal.nD Cert.Dx1RefIdeal.τ).loc Cert.Dx1RefIdeal.main_arg2)
      ∧ r.2.mem ((c.tc : Thread Cert.Dx1RefIdeal.nD Cert.Dx1RefIdeal.τ).loc Cert.Dx1RefIdeal.main_arg3) = m ((c.tc : Thread Cert.Dx1RefIdeal.nD Cert.Dx1RefIdeal.τ).loc Cert.Dx1RefIdeal.main_arg3)
      ∧ r.2.mem ((c.tc : Thread Cert.Dx1RefIdeal.nD Cert.Dx1RefIdeal.τ).loc Cert.Dx1RefIdeal.main_arg4) = m ((c.tc : Thread Cert.Dx1RefIdeal.nD Cert.Dx1RefIdeal.τ).loc Cert.Dx1RefIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxIdeal_pre_dx_finite [hDxIdeal : Cert.DxIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg), Pre_DxIdeal_dx_finite m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_DxRefIdeal_pre_dx_finite [hDxRefIdeal : Cert.DxRefIdeal.Facts] [hPre_dx_finite : Cert.Pre_dx_finite.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_dx_finite m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_loss_finite [hLossIdeal : Cert.LossIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg), Pre_LossIdeal_loss_finite m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolIdeal_pre_pool_finite [hPoolIdeal : Cert.PoolIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_pool_finite m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_PoolRefIdeal_pre_pool_finite [hPoolRefIdeal : Cert.PoolRefIdeal.Facts] [hPre_pool_finite : Cert.Pre_pool_finite.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_pool_finite m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3)
      ∧ r.2.mem ((c.tc : Thread Cert.PoolRefIdeal.nD Cert.PoolRefIdeal.τ).loc Cert.PoolRefIdeal.main_arg4) = m ((c.tc : Thread Cert.PoolRefIdeal.nD Cert.PoolRefIdeal.τ).loc Cert.PoolRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_mid_finite [hMidIdeal : Cert.MidIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg), Pre_MidIdeal_mid_finite m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_mid_finite [hMidRefIdeal : Cert.MidRefIdeal.Facts] [hPre_mid_finite : Cert.Pre_mid_finite.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_mid_finite m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Wu [hWu : Cert.Wu.Facts] : Prop :=
  ∀ (m : (ℓ : Loc Cert.Wu.nD Cert.Wu.τ Cert.Wu.sig) → Buf (Elt Bits) ℓ) (g : Dev Cert.Wu.nD → PrngReg), Pre_Wu m →
    θ_run (Cert.Wu.defs (F := Bits)) (onTc (τ := Cert.Wu.τ) (Cert.Wu.main (F := Bits))) ⟨m, fun _ => 0, g⟩ (fun r => (∀ c : Dev Cert.Wu.nD,
      r.2.mem ((c.tc : Thread Cert.Wu.nD Cert.Wu.τ).loc Cert.Wu.main_arg0) = m ((c.tc : Thread Cert.Wu.nD Cert.Wu.τ).loc Cert.Wu.main_arg0)
      ∧ r.2.mem ((c.tc : Thread Cert.Wu.nD Cert.Wu.τ).loc Cert.Wu.main_arg1) = m ((c.tc : Thread Cert.Wu.nD Cert.Wu.τ).loc Cert.Wu.main_arg1))
      ∧ r.2.sem = fun _ => 0)

def quiescent_WuIdeal [hWuIdeal : Cert.WuIdeal.Facts] : Prop :=
  ∀ (m : (ℓ : Loc Cert.WuIdeal.nD Cert.WuIdeal.τ Cert.WuIdeal.sig) → Buf (Elt Ideal) ℓ) (g : Dev Cert.WuIdeal.nD → PrngReg), Pre_WuIdeal m →
    θ_run (Cert.WuIdeal.defs (F := Ideal)) (onTc (τ := Cert.WuIdeal.τ) (Cert.WuIdeal.main (F := Ideal))) ⟨m, fun _ => 0, g⟩ (fun r => (∀ c : Dev Cert.WuIdeal.nD,
      r.2.mem ((c.tc : Thread Cert.WuIdeal.nD Cert.WuIdeal.τ).loc Cert.WuIdeal.main_arg0) = m ((c.tc : Thread Cert.WuIdeal.nD Cert.WuIdeal.τ).loc Cert.WuIdeal.main_arg0)
      ∧ r.2.mem ((c.tc : Thread Cert.WuIdeal.nD Cert.WuIdeal.τ).loc Cert.WuIdeal.main_arg1) = m ((c.tc : Thread Cert.WuIdeal.nD Cert.WuIdeal.τ).loc Cert.WuIdeal.main_arg1))
      ∧ r.2.sem = fun _ => 0)

def quiescent_WuRefIdeal [hWuRefIdeal : Cert.WuRefIdeal.Facts] : Prop :=
  ∀ (m : (ℓ : Loc Cert.WuRefIdeal.nD Cert.WuRefIdeal.τ Cert.WuRefIdeal.sig) → Buf (Elt Ideal) ℓ) (g : Dev Cert.WuRefIdeal.nD → PrngReg), Pre_WuRefIdeal m →
    θ_run (Cert.WuRefIdeal.defs (F := Ideal)) (onTc (τ := Cert.WuRefIdeal.τ) (Cert.WuRefIdeal.main (F := Ideal))) ⟨m, fun _ => 0, g⟩ (fun r => (∀ c : Dev Cert.WuRefIdeal.nD,
      r.2.mem ((c.tc : Thread Cert.WuRefIdeal.nD Cert.WuRefIdeal.τ).loc Cert.WuRefIdeal.main_arg0) = m ((c.tc : Thread Cert.WuRefIdeal.nD Cert.WuRefIdeal.τ).loc Cert.WuRefIdeal.main_arg0)
      ∧ r.2.mem ((c.tc : Thread Cert.WuRefIdeal.nD Cert.WuRefIdeal.τ).loc Cert.WuRefIdeal.main_arg1) = m ((c.tc : Thread Cert.WuRefIdeal.nD Cert.WuRefIdeal.τ).loc Cert.WuRefIdeal.main_arg1))
      ∧ r.2.sem = fun _ => 0)

def quiescent_Wi [hWi : Cert.Wi.Facts] : Prop :=
  ∀ (m : (ℓ : Loc Cert.Wi.nD Cert.Wi.τ Cert.Wi.sig) → Buf (Elt Bits) ℓ) (g : Dev Cert.Wi.nD → PrngReg), Pre_Wi m →
    θ_run (Cert.Wi.defs (F := Bits)) (onTc (τ := Cert.Wi.τ) (Cert.Wi.main (F := Bits))) ⟨m, fun _ => 0, g⟩ (fun r => (∀ c : Dev Cert.Wi.nD,
      r.2.mem ((c.tc : Thread Cert.Wi.nD Cert.Wi.τ).loc Cert.Wi.main_arg0) = m ((c.tc : Thread Cert.Wi.nD Cert.Wi.τ).loc Cert.Wi.main_arg0)
      ∧ r.2.mem ((c.tc : Thread Cert.Wi.nD Cert.Wi.τ).loc Cert.Wi.main_arg1) = m ((c.tc : Thread Cert.Wi.nD Cert.Wi.τ).loc Cert.Wi.main_arg1))
      ∧ r.2.sem = fun _ => 0)

def quiescent_WiIdeal [hWiIdeal : Cert.WiIdeal.Facts] : Prop :=
  ∀ (m : (ℓ : Loc Cert.WiIdeal.nD Cert.WiIdeal.τ Cert.WiIdeal.sig) → Buf (Elt Ideal) ℓ) (g : Dev Cert.WiIdeal.nD → PrngReg), Pre_WiIdeal m →
    θ_run (Cert.WiIdeal.defs (F := Ideal)) (onTc (τ := Cert.WiIdeal.τ) (Cert.WiIdeal.main (F := Ideal))) ⟨m, fun _ => 0, g⟩ (fun r => (∀ c : Dev Cert.WiIdeal.nD,
      r.2.mem ((c.tc : Thread Cert.WiIdeal.nD Cert.WiIdeal.τ).loc Cert.WiIdeal.main_arg0) = m ((c.tc : Thread Cert.WiIdeal.nD Cert.WiIdeal.τ).loc Cert.WiIdeal.main_arg0)
      ∧ r.2.mem ((c.tc : Thread Cert.WiIdeal.nD Cert.WiIdeal.τ).loc Cert.WiIdeal.main_arg1) = m ((c.tc : Thread Cert.WiIdeal.nD Cert.WiIdeal.τ).loc Cert.WiIdeal.main_arg1))
      ∧ r.2.sem = fun _ => 0)

def quiescent_WiRefIdeal [hWiRefIdeal : Cert.WiRefIdeal.Facts] : Prop :=
  ∀ (m : (ℓ : Loc Cert.WiRefIdeal.nD Cert.WiRefIdeal.τ Cert.WiRefIdeal.sig) → Buf (Elt Ideal) ℓ) (g : Dev Cert.WiRefIdeal.nD → PrngReg), Pre_WiRefIdeal m →
    θ_run (Cert.WiRefIdeal.defs (F := Ideal)) (onTc (τ := Cert.WiRefIdeal.τ) (Cert.WiRefIdeal.main (F := Ideal))) ⟨m, fun _ => 0, g⟩ (fun r => (∀ c : Dev Cert.WiRefIdeal.nD,
      r.2.mem ((c.tc : Thread Cert.WiRefIdeal.nD Cert.WiRefIdeal.τ).loc Cert.WiRefIdeal.main_arg0) = m ((c.tc : Thread Cert.WiRefIdeal.nD Cert.WiRefIdeal.τ).loc Cert.WiRefIdeal.main_arg0)
      ∧ r.2.mem ((c.tc : Thread Cert.WiRefIdeal.nD Cert.WiRefIdeal.τ).loc Cert.WiRefIdeal.main_arg1) = m ((c.tc : Thread Cert.WiRefIdeal.nD Cert.WiRefIdeal.τ).loc Cert.WiRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v85) = v0 c
          ∧ r.2.mem ((c.tc : Thread Cert.ConvRefIdeal.nD Cert.ConvRefIdeal.τ).loc Cert.ConvRefIdeal.main_v67) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_Gate_GateIdeal : Prop :=
  True

def algebraic_GateIdeal_GateRefIdeal_on_gate_written [hGateIdeal : Cert.GateIdeal.Facts] [hGateRefIdeal : Cert.GateRefIdeal.Facts] [hOn_gate_written : Cert.On_gate_written.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v20_0)) (v1 : (c : Dev Cert.GateIdeal.nD) → Buf (Elt Ideal) ((c.tc : Thread Cert.GateIdeal.nD Cert.GateIdeal.τ).loc Cert.GateIdeal.main_v20_1)) (v2 : (c : Dev Cert.GateIdeal.nD) → Buf (Elt Ideal) ((c.tc : Thread Cert.GateIdeal.nD Cert.GateIdeal.τ).loc Cert.GateIdeal.main_v20_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          (∀ i : (⟨3, ![3, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 i = 1#1 → r.2.mem ((c.tc : Thread Cert.GateIdeal.nD Cert.GateIdeal.τ).loc Cert.GateIdeal.main_v20_0) i = v0 c i)
          ∧ (∀ i : (⟨3, ![6, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 i = 1#1 → r.2.mem ((c.tc : Thread Cert.GateIdeal.nD Cert.GateIdeal.τ).loc Cert.GateIdeal.main_v20_1) i = v1 c i)
          ∧ (∀ i : (⟨3, ![2, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 i = 1#1 → r.2.mem ((c.tc : Thread Cert.GateIdeal.nD Cert.GateIdeal.τ).loc Cert.GateIdeal.main_v20_2) i = v2 c i)
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          (∀ i : (⟨3, ![3, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 i = 1#1 → r.2.mem ((c.tc : Thread Cert.GateRefIdeal.nD Cert.GateRefIdeal.τ).loc Cert.GateRefIdeal.main_v60) i = v0 c i)
          ∧ (∀ i : (⟨3, ![6, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 i = 1#1 → r.2.mem ((c.tc : Thread Cert.GateRefIdeal.nD Cert.GateRefIdeal.τ).loc Cert.GateRefIdeal.main_v62) i = v1 c i)
          ∧ (∀ i : (⟨3, ![2, 4096, 1024]⟩ : Shape).Idx, (Cert.On_gate_written.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2 i = 1#1 → r.2.mem ((c.tc : Thread Cert.GateRefIdeal.nD Cert.GateRefIdeal.τ).loc Cert.GateRefIdeal.main_v66) i = v2 c i)
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Dx1_Dx1Ideal : Prop :=
  True

def algebraic_Dx1Ideal_Dx1RefIdeal_on_dx1_written_pre_dx1_finite [hDx1Ideal : Cert.Dx1Ideal.Facts] [hDx1RefIdeal : Cert.Dx1RefIdeal.Facts] [hPre_dx1_finite : Cert.Pre_dx1_finite.Facts] [hOn_dx1_written : Cert.On_dx1_written.Facts] : Prop :=
  ∀ (m : (ℓ : Loc Cert.Dx1Ideal.nD Cert.Dx1Ideal.τ Cert.Dx1Ideal.sig) → Buf (Elt Ideal) ℓ) (g : Dev Cert.Dx1Ideal.nD → PrngReg)
    (m' : (ℓ : Loc Cert.Dx1RefIdeal.nD Cert.Dx1RefIdeal.τ Cert.Dx1RefIdeal.sig) → Buf (Elt Ideal) ℓ) (g' : Dev Cert.Dx1RefIdeal.nD → PrngReg), Pre_Dx1Ideal_dx1_finite m →
    (∀ c : Dev Cert.Dx1Ideal.nD,
      m' ((c.tc : Thread Cert.Dx1RefIdeal.nD Cert.Dx1RefIdeal.τ).loc Cert.Dx1RefIdeal.main_arg0) = m ((c.tc : Thread Cert.Dx1Ideal.nD Cert.Dx1Ideal.τ).loc Cert.Dx1Ideal.main_arg0)
      ∧ m' ((c.tc : Thread Cert.Dx1RefIdeal.nD Cert.Dx1RefIdeal.τ).loc Cert.Dx1RefIdeal.main_arg1) = m ((c.tc : Thread Cert.Dx1Ideal.nD Cert.Dx1Ideal.τ).loc Cert.Dx1Ideal.main_arg1)
      ∧ m' ((c.tc : Thread Cert.Dx1RefIdeal.nD Cert.Dx1RefIdeal.τ).loc Cert.Dx1RefIdeal.main_arg2) = m ((c.tc : Thread Cert.Dx1Ideal.nD Cert.Dx1Ideal.τ).loc Cert.Dx1Ideal.main_arg2)
      ∧ m' ((c.tc : Thread Cert.Dx1RefIdeal.nD Cert.Dx1RefIdeal.τ).loc Cert.Dx1RefIdeal.main_arg3) = m ((c.tc : Thread Cert.Dx1Ideal.nD Cert.Dx1Ideal.τ).loc Cert.Dx1Ideal.main_arg3)
      ∧ m' ((c.tc : Thread Cert.Dx1RefIdeal.nD Cert.Dx1RefIdeal.τ).loc Cert.Dx1RefIdeal.main_arg4) = m ((c.tc : Thread Cert.Dx1Ideal.nD Cert.Dx1Ideal.τ).loc Cert.Dx1Ideal.main_arg4)) →
    ∃ (v0 : (c : Dev Cert.Dx1Ideal.nD) → Buf (Elt Ideal) ((c.tc : Thread Cert.Dx1Ideal.nD Cert.Dx1Ideal.τ).loc Cert.Dx1Ideal.main_v0_0)) (v1 : (c : Dev Cert.Dx1Ideal.nD) → Buf (Elt Ideal) ((c.tc : Thread Cert.Dx1Ideal.nD Cert.Dx1Ideal.τ).loc Cert.Dx1Ideal.main_v0_1)) (v2 : (c : Dev Cert.Dx1Ideal.nD) → Buf (Elt Ideal) ((c.tc : Thread Cert.Dx1Ideal.nD Cert.Dx1Ideal.τ).loc Cert.Dx1Ideal.main_v0_2)),
      θ_run (Cert.Dx1Ideal.defs (F := Ideal)) (onTc (τ := Cert.Dx1Ideal.τ) (Cert.Dx1Ideal.main (F := Ideal))) ⟨m, fun _ => 0, g⟩ (fun r => ∀ c : Dev Cert.Dx1Ideal.nD,
          (∀ i : (⟨2, ![4096, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).1 i = 1#1 → r.2.mem ((c.tc : Thread Cert.Dx1Ideal.nD Cert.Dx1Ideal.τ).loc Cert.Dx1Ideal.main_v0_0) i = v0 c i)
          ∧ (∀ i : (⟨3, ![3, 4096, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).2.1 i = 1#1 → r.2.mem ((c.tc : Thread Cert.Dx1Ideal.nD Cert.Dx1Ideal.τ).loc Cert.Dx1Ideal.main_v0_1) i = v1 c i)
          ∧ (∀ i : (⟨2, ![1, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).2.2 i = 1#1 → r.2.mem ((c.tc : Thread Cert.Dx1Ideal.nD Cert.Dx1Ideal.τ).loc Cert.Dx1Ideal.main_v0_2) i = v2 c i)
          ∧ r.2.mem ((c.tc : Thread Cert.Dx1Ideal.nD Cert.Dx1Ideal.τ).loc Cert.Dx1Ideal.main_arg0) = m ((c.tc : Thread Cert.Dx1Ideal.nD Cert.Dx1Ideal.τ).loc Cert.Dx1Ideal.main_arg0)
          ∧ r.2.mem ((c.tc : Thread Cert.Dx1Ideal.nD Cert.Dx1Ideal.τ).loc Cert.Dx1Ideal.main_arg1) = m ((c.tc : Thread Cert.Dx1Ideal.nD Cert.Dx1Ideal.τ).loc Cert.Dx1Ideal.main_arg1)
          ∧ r.2.mem ((c.tc : Thread Cert.Dx1Ideal.nD Cert.Dx1Ideal.τ).loc Cert.Dx1Ideal.main_arg2) = m ((c.tc : Thread Cert.Dx1Ideal.nD Cert.Dx1Ideal.τ).loc Cert.Dx1Ideal.main_arg2)
          ∧ r.2.mem ((c.tc : Thread Cert.Dx1Ideal.nD Cert.Dx1Ideal.τ).loc Cert.Dx1Ideal.main_arg3) = m ((c.tc : Thread Cert.Dx1Ideal.nD Cert.Dx1Ideal.τ).loc Cert.Dx1Ideal.main_arg3)
          ∧ r.2.mem ((c.tc : Thread Cert.Dx1Ideal.nD Cert.Dx1Ideal.τ).loc Cert.Dx1Ideal.main_arg4) = m ((c.tc : Thread Cert.Dx1Ideal.nD Cert.Dx1Ideal.τ).loc Cert.Dx1Ideal.main_arg4))
      ∧ θ_run (Cert.Dx1RefIdeal.defs (F := Ideal)) (onTc (τ := Cert.Dx1RefIdeal.τ) (Cert.Dx1RefIdeal.main (F := Ideal))) ⟨m', fun _ => 0, g'⟩ (fun r => ∀ c : Dev Cert.Dx1RefIdeal.nD,
          (∀ i : (⟨2, ![4096, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).1 i = 1#1 → r.2.mem ((c.tc : Thread Cert.Dx1RefIdeal.nD Cert.Dx1RefIdeal.τ).loc Cert.Dx1RefIdeal.main_v42) i = v0 c i)
          ∧ (∀ i : (⟨3, ![3, 4096, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).2.1 i = 1#1 → r.2.mem ((c.tc : Thread Cert.Dx1RefIdeal.nD Cert.Dx1RefIdeal.τ).loc Cert.Dx1RefIdeal.main_v45) i = v1 c i)
          ∧ (∀ i : (⟨2, ![1, 1024]⟩ : Shape).Idx, (Cert.On_dx1_written.fn (F := Ideal) (m ((c.tc : Thread Cert.Dx1Ideal.nD Cert.Dx1Ideal.τ).loc Cert.Dx1Ideal.main_arg0)) (m ((c.tc : Thread Cert.Dx1Ideal.nD Cert.Dx1Ideal.τ).loc Cert.Dx1Ideal.main_arg1)) (m ((c.tc : Thread Cert.Dx1Ideal.nD Cert.Dx1Ideal.τ).loc Cert.Dx1Ideal.main_arg2)) (m ((c.tc : Thread Cert.Dx1Ideal.nD Cert.Dx1Ideal.τ).loc Cert.Dx1Ideal.main_arg3)) (m ((c.tc : Thread Cert.Dx1Ideal.nD Cert.Dx1Ideal.τ).loc Cert.Dx1Ideal.main_arg4))).2.2 i = 1#1 → r.2.mem ((c.tc : Thread Cert.Dx1RefIdeal.nD Cert.Dx1RefIdeal.τ).loc Cert.Dx1RefIdeal.main_v25) i = v2 c i)
          ∧ r.2.mem ((c.tc : Thread Cert.Dx1RefIdeal.nD Cert.Dx1RefIdeal.τ).loc Cert.Dx1RefIdeal.main_arg0) = m' ((c.tc : Thread Cert.Dx1RefIdeal.nD Cert.Dx1RefIdeal.τ).loc Cert.Dx1RefIdeal.main_arg0)
          ∧ r.2.mem ((c.tc : Thread Cert.Dx1RefIdeal.nD Cert.Dx1RefIdeal.τ).loc Cert.Dx1RefIdeal.main_arg1) = m' ((c.tc : Thread Cert.Dx1RefIdeal.nD Cert.Dx1RefIdeal.τ).loc Cert.Dx1RefIdeal.main_arg1)
          ∧ r.2.mem ((c.tc : Thread Cert.Dx1RefIdeal.nD Cert.Dx1RefIdeal.τ).loc Cert.Dx1RefIdeal.main_arg2) = m' ((c.tc : Thread Cert.Dx1RefIdeal.nD Cert.Dx1RefIdeal.τ).loc Cert.Dx1RefIdeal.main_arg2)
          ∧ r.2.mem ((c.tc : Thread Cert.Dx1RefIdeal.nD Cert.Dx1RefIdeal.τ).loc Cert.Dx1RefIdeal.main_arg3) = m' ((c.tc : Thread Cert.Dx1RefIdeal.nD Cert.Dx1RefIdeal.τ).loc Cert.Dx1RefIdeal.main_arg3)
          ∧ r.2.mem ((c.tc : Thread Cert.Dx1RefIdeal.nD Cert.Dx1RefIdeal.τ).loc Cert.Dx1RefIdeal.main_arg4) = m' ((c.tc : Thread Cert.Dx1RefIdeal.nD Cert.Dx1RefIdeal.τ).loc Cert.Dx1RefIdeal.main_arg4))

def preserves_Dx_DxIdeal : Prop :=
  True

def algebraic_DxIdeal_DxRefIdeal_pre_dx_finite [hDxIdeal : Cert.DxIdeal.Facts] [hDxRefIdeal : Cert.DxRefIdeal.Facts] [hPre_dx_finite : Cert.Pre_dx_finite.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_dx_finite m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)) →
    ∃ (v0 : (c : Dev Cert.DxIdeal.nD) → Buf (Elt Ideal) ((c.tc : Thread Cert.DxIdeal.nD Cert.DxIdeal.τ).loc Cert.DxIdeal.main_v1_0)) (v1 : (c : Dev Cert.DxIdeal.nD) → Buf (Elt Ideal) ((c.tc : Thread Cert.DxIdeal.nD Cert.DxIdeal.τ).loc Cert.DxIdeal.main_v1_1)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v1_0) = v0 c
          ∧ r.2.mem ((c.tc : Thread Cert.DxIdeal.nD Cert.DxIdeal.τ).loc Cert.DxIdeal.main_v1_1) = v1 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v59) = v0 c
          ∧ r.2.mem ((c.tc : Thread Cert.DxRefIdeal.nD Cert.DxRefIdeal.τ).loc Cert.DxRefIdeal.main_v43) = v1 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4))

def preserves_Loss_LossIdeal : Prop :=
  True

def algebraic_LossIdeal_LossRefIdeal_pre_loss_finite [hLossIdeal : Cert.LossIdeal.Facts] [hLossRefIdeal : Cert.LossRefIdeal.Facts] [hPre_loss_finite : Cert.Pre_loss_finite.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_loss_finite m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v57) = v0 c
          ∧ r.2.mem ((c.tc : Thread Cert.LossRefIdeal.nD Cert.LossRefIdeal.τ).loc Cert.LossRefIdeal.main_v58) = v1 c
          ∧ r.2.mem ((c.tc : Thread Cert.LossRefIdeal.nD Cert.LossRefIdeal.τ).loc Cert.LossRefIdeal.main_v59) = v2 c
          ∧ r.2.mem ((c.tc : Thread Cert.LossRefIdeal.nD Cert.LossRefIdeal.τ).loc Cert.LossRefIdeal.main_v60) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Pool_PoolIdeal : Prop :=
  True

def algebraic_PoolIdeal_PoolRefIdeal_pre_pool_finite [hPoolIdeal : Cert.PoolIdeal.Facts] [hPoolRefIdeal : Cert.PoolRefIdeal.Facts] [hPre_pool_finite : Cert.Pre_pool_finite.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_pool_finite m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)
      ∧ m' ((c.tc : Thread Cert.PoolRefIdeal.nD Cert.PoolRefIdeal.τ).loc Cert.PoolRefIdeal.main_arg4) = m ((c.tc : Thread Cert.PoolIdeal.nD Cert.PoolIdeal.τ).loc Cert.PoolIdeal.main_arg4)) →
    ∃ (v0 : (c : Dev Cert.PoolIdeal.nD) → Buf (Elt Ideal) ((c.tc : Thread Cert.PoolIdeal.nD Cert.PoolIdeal.τ).loc Cert.PoolIdeal.main_v0_0)) (v1 : (c : Dev Cert.PoolIdeal.nD) → Buf (Elt Ideal) ((c.tc : Thread Cert.PoolIdeal.nD Cert.PoolIdeal.τ).loc Cert.PoolIdeal.main_v0_1)) (v2 : (c : Dev Cert.PoolIdeal.nD) → Buf (Elt Ideal) ((c.tc : Thread Cert.PoolIdeal.nD Cert.PoolIdeal.τ).loc Cert.PoolIdeal.main_v0_2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v0_0) = v0 c
          ∧ r.2.mem ((c.tc : Thread Cert.PoolIdeal.nD Cert.PoolIdeal.τ).loc Cert.PoolIdeal.main_v0_1) = v1 c
          ∧ r.2.mem ((c.tc : Thread Cert.PoolIdeal.nD Cert.PoolIdeal.τ).loc Cert.PoolIdeal.main_v0_2) = v2 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v175) = v0 c
          ∧ r.2.mem ((c.tc : Thread Cert.PoolRefIdeal.nD Cert.PoolRefIdeal.τ).loc Cert.PoolRefIdeal.main_v103) = v1 c
          ∧ r.2.mem ((c.tc : Thread Cert.PoolRefIdeal.nD Cert.PoolRefIdeal.τ).loc Cert.PoolRefIdeal.main_v97) = v2 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3)
          ∧ r.2.mem ((c.tc : Thread Cert.PoolRefIdeal.nD Cert.PoolRefIdeal.τ).loc Cert.PoolRefIdeal.main_arg4) = m' ((c.tc : Thread Cert.PoolRefIdeal.nD Cert.PoolRefIdeal.τ).loc Cert.PoolRefIdeal.main_arg4))

def preserves_Mid_MidIdeal : Prop :=
  True

def algebraic_MidIdeal_MidRefIdeal_pre_mid_finite [hMidIdeal : Cert.MidIdeal.Facts] [hMidRefIdeal : Cert.MidRefIdeal.Facts] [hPre_mid_finite : Cert.Pre_mid_finite.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_mid_finite m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v3_0)) (v1 : (c : Dev Cert.MidIdeal.nD) → Buf (Elt Ideal) ((c.tc : Thread Cert.MidIdeal.nD Cert.MidIdeal.τ).loc Cert.MidIdeal.main_v4_0)) (v2 : (c : Dev Cert.MidIdeal.nD) → Buf (Elt Ideal) ((c.tc : Thread Cert.MidIdeal.nD Cert.MidIdeal.τ).loc Cert.MidIdeal.main_v4_1)) (v3 : (c : Dev Cert.MidIdeal.nD) → Buf (Elt Ideal) ((c.tc : Thread Cert.MidIdeal.nD Cert.MidIdeal.τ).loc Cert.MidIdeal.main_v4_2)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v3_0) = v0 c
          ∧ r.2.mem ((c.tc : Thread Cert.MidIdeal.nD Cert.MidIdeal.τ).loc Cert.MidIdeal.main_v4_0) = v1 c
          ∧ r.2.mem ((c.tc : Thread Cert.MidIdeal.nD Cert.MidIdeal.τ).loc Cert.MidIdeal.main_v4_1) = v2 c
          ∧ r.2.mem ((c.tc : Thread Cert.MidIdeal.nD Cert.MidIdeal.τ).loc Cert.MidIdeal.main_v4_2) = v3 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v80) = v0 c
          ∧ r.2.mem ((c.tc : Thread Cert.MidRefIdeal.nD Cert.MidRefIdeal.τ).loc Cert.MidRefIdeal.main_v83) = v1 c
          ∧ r.2.mem ((c.tc : Thread Cert.MidRefIdeal.nD Cert.MidRefIdeal.τ).loc Cert.MidRefIdeal.main_v85) = v2 c
          ∧ r.2.mem ((c.tc : Thread Cert.MidRefIdeal.nD Cert.MidRefIdeal.τ).loc Cert.MidRefIdeal.main_v86) = v3 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)) (v2 : (c : Dev Cert.OutIdeal.nD) → Buf (Elt Ideal) ((c.tc : Thread Cert.OutIdeal.nD Cert.OutIdeal.τ).loc Cert.OutIdeal.main_v2_2)) (v3 : (c : Dev Cert.OutIdeal.nD) → Buf (Elt Ideal) ((c.tc : Thread Cert.OutIdeal.nD Cert.OutIdeal.τ).loc Cert.OutIdeal.main_v2_3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_v2_2) = v2 c
          ∧ r.2.mem ((c.tc : Thread Cert.OutIdeal.nD Cert.OutIdeal.τ).loc Cert.OutIdeal.main_v2_3) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v50) = v0 c
          ∧ r.2.mem ((c.tc : Thread Cert.OutRefIdeal.nD Cert.OutRefIdeal.τ).loc Cert.OutRefIdeal.main_v54) = v1 c
          ∧ r.2.mem ((c.tc : Thread Cert.OutRefIdeal.nD Cert.OutRefIdeal.τ).loc Cert.OutRefIdeal.main_v35) = v2 c
          ∧ r.2.mem ((c.tc : Thread Cert.OutRefIdeal.nD Cert.OutRefIdeal.τ).loc Cert.OutRefIdeal.main_v55) = v3 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Mix_MixIdeal : Prop :=
  True

def algebraic_MixIdeal_MixRefIdeal_on_mix_written_pre_mix_finite [hMixIdeal : Cert.MixIdeal.Facts] [hMixRefIdeal : Cert.MixRefIdeal.Facts] [hPre_mix_finite : Cert.Pre_mix_finite.Facts] [hOn_mix_written : Cert.On_mix_written.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_mix_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          (∀ i : (⟨3, ![3, 4096, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3))) i = 1#1 → r.2.mem ((c.tc : Thread Cert.MixIdeal.nD Cert.MixIdeal.τ).loc Cert.MixIdeal.main_v0) i = v0 c i)
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          (∀ i : (⟨3, ![3, 4096, 1024]⟩ : Shape).Idx, (Cert.On_mix_written.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3))) i = 1#1 → r.2.mem ((c.tc : Thread Cert.MixRefIdeal.nD Cert.MixRefIdeal.τ).loc Cert.MixRefIdeal.main_v121) i = v0 c i)
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v7) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v5) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Wu_WuIdeal : Prop :=
  True

def algebraic_WuIdeal_WuRefIdeal [hWuIdeal : Cert.WuIdeal.Facts] [hWuRefIdeal : Cert.WuRefIdeal.Facts] : Prop :=
  ∀ (m : (ℓ : Loc Cert.WuIdeal.nD Cert.WuIdeal.τ Cert.WuIdeal.sig) → Buf (Elt Ideal) ℓ) (g : Dev Cert.WuIdeal.nD → PrngReg)
    (m' : (ℓ : Loc Cert.WuRefIdeal.nD Cert.WuRefIdeal.τ Cert.WuRefIdeal.sig) → Buf (Elt Ideal) ℓ) (g' : Dev Cert.WuRefIdeal.nD → PrngReg), Pre_WuIdeal m →
    (∀ c : Dev Cert.WuIdeal.nD,
      m' ((c.tc : Thread Cert.WuRefIdeal.nD Cert.WuRefIdeal.τ).loc Cert.WuRefIdeal.main_arg0) = m ((c.tc : Thread Cert.WuIdeal.nD Cert.WuIdeal.τ).loc Cert.WuIdeal.main_arg0)
      ∧ m' ((c.tc : Thread Cert.WuRefIdeal.nD Cert.WuRefIdeal.τ).loc Cert.WuRefIdeal.main_arg1) = m ((c.tc : Thread Cert.WuIdeal.nD Cert.WuIdeal.τ).loc Cert.WuIdeal.main_arg1)) →
    ∃ (v0 : (c : Dev Cert.WuIdeal.nD) → Buf (Elt Ideal) ((c.tc : Thread Cert.WuIdeal.nD Cert.WuIdeal.τ).loc Cert.WuIdeal.main_v0)),
      θ_run (Cert.WuIdeal.defs (F := Ideal)) (onTc (τ := Cert.WuIdeal.τ) (Cert.WuIdeal.main (F := Ideal))) ⟨m, fun _ => 0, g⟩ (fun r => ∀ c : Dev Cert.WuIdeal.nD,
          r.2.mem ((c.tc : Thread Cert.WuIdeal.nD Cert.WuIdeal.τ).loc Cert.WuIdeal.main_v0) = v0 c
          ∧ r.2.mem ((c.tc : Thread Cert.WuIdeal.nD Cert.WuIdeal.τ).loc Cert.WuIdeal.main_arg0) = m ((c.tc : Thread Cert.WuIdeal.nD Cert.WuIdeal.τ).loc Cert.WuIdeal.main_arg0)
          ∧ r.2.mem ((c.tc : Thread Cert.WuIdeal.nD Cert.WuIdeal.τ).loc Cert.WuIdeal.main_arg1) = m ((c.tc : Thread Cert.WuIdeal.nD Cert.WuIdeal.τ).loc Cert.WuIdeal.main_arg1))
      ∧ θ_run (Cert.WuRefIdeal.defs (F := Ideal)) (onTc (τ := Cert.WuRefIdeal.τ) (Cert.WuRefIdeal.main (F := Ideal))) ⟨m', fun _ => 0, g'⟩ (fun r => ∀ c : Dev Cert.WuRefIdeal.nD,
          r.2.mem ((c.tc : Thread Cert.WuRefIdeal.nD Cert.WuRefIdeal.τ).loc Cert.WuRefIdeal.main_v10) = v0 c
          ∧ r.2.mem ((c.tc : Thread Cert.WuRefIdeal.nD Cert.WuRefIdeal.τ).loc Cert.WuRefIdeal.main_arg0) = m' ((c.tc : Thread Cert.WuRefIdeal.nD Cert.WuRefIdeal.τ).loc Cert.WuRefIdeal.main_arg0)
          ∧ r.2.mem ((c.tc : Thread Cert.WuRefIdeal.nD Cert.WuRefIdeal.τ).loc Cert.WuRefIdeal.main_arg1) = m' ((c.tc : Thread Cert.WuRefIdeal.nD Cert.WuRefIdeal.τ).loc Cert.WuRefIdeal.main_arg1))

def preserves_Wi_WiIdeal : Prop :=
  True

def algebraic_WiIdeal_WiRefIdeal [hWiIdeal : Cert.WiIdeal.Facts] [hWiRefIdeal : Cert.WiRefIdeal.Facts] : Prop :=
  ∀ (m : (ℓ : Loc Cert.WiIdeal.nD Cert.WiIdeal.τ Cert.WiIdeal.sig) → Buf (Elt Ideal) ℓ) (g : Dev Cert.WiIdeal.nD → PrngReg)
    (m' : (ℓ : Loc Cert.WiRefIdeal.nD Cert.WiRefIdeal.τ Cert.WiRefIdeal.sig) → Buf (Elt Ideal) ℓ) (g' : Dev Cert.WiRefIdeal.nD → PrngReg), Pre_WiIdeal m →
    (∀ c : Dev Cert.WiIdeal.nD,
      m' ((c.tc : Thread Cert.WiRefIdeal.nD Cert.WiRefIdeal.τ).loc Cert.WiRefIdeal.main_arg0) = m ((c.tc : Thread Cert.WiIdeal.nD Cert.WiIdeal.τ).loc Cert.WiIdeal.main_arg0)
      ∧ m' ((c.tc : Thread Cert.WiRefIdeal.nD Cert.WiRefIdeal.τ).loc Cert.WiRefIdeal.main_arg1) = m ((c.tc : Thread Cert.WiIdeal.nD Cert.WiIdeal.τ).loc Cert.WiIdeal.main_arg1)) →
    ∃ (v0 : (c : Dev Cert.WiIdeal.nD) → Buf (Elt Ideal) ((c.tc : Thread Cert.WiIdeal.nD Cert.WiIdeal.τ).loc Cert.WiIdeal.main_v0)),
      θ_run (Cert.WiIdeal.defs (F := Ideal)) (onTc (τ := Cert.WiIdeal.τ) (Cert.WiIdeal.main (F := Ideal))) ⟨m, fun _ => 0, g⟩ (fun r => ∀ c : Dev Cert.WiIdeal.nD,
          r.2.mem ((c.tc : Thread Cert.WiIdeal.nD Cert.WiIdeal.τ).loc Cert.WiIdeal.main_v0) = v0 c
          ∧ r.2.mem ((c.tc : Thread Cert.WiIdeal.nD Cert.WiIdeal.τ).loc Cert.WiIdeal.main_arg0) = m ((c.tc : Thread Cert.WiIdeal.nD Cert.WiIdeal.τ).loc Cert.WiIdeal.main_arg0)
          ∧ r.2.mem ((c.tc : Thread Cert.WiIdeal.nD Cert.WiIdeal.τ).loc Cert.WiIdeal.main_arg1) = m ((c.tc : Thread Cert.WiIdeal.nD Cert.WiIdeal.τ).loc Cert.WiIdeal.main_arg1))
      ∧ θ_run (Cert.WiRefIdeal.defs (F := Ideal)) (onTc (τ := Cert.WiRefIdeal.τ) (Cert.WiRefIdeal.main (F := Ideal))) ⟨m', fun _ => 0, g'⟩ (fun r => ∀ c : Dev Cert.WiRefIdeal.nD,
          r.2.mem ((c.tc : Thread Cert.WiRefIdeal.nD Cert.WiRefIdeal.τ).loc Cert.WiRefIdeal.main_v21) = v0 c
          ∧ r.2.mem ((c.tc : Thread Cert.WiRefIdeal.nD Cert.WiRefIdeal.τ).loc Cert.WiRefIdeal.main_arg0) = m' ((c.tc : Thread Cert.WiRefIdeal.nD Cert.WiRefIdeal.τ).loc Cert.WiRefIdeal.main_arg0)
          ∧ r.2.mem ((c.tc : Thread Cert.WiRefIdeal.nD Cert.WiRefIdeal.τ).loc Cert.WiRefIdeal.main_arg1) = m' ((c.tc : Thread Cert.WiRefIdeal.nD Cert.WiRefIdeal.τ).loc Cert.WiRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v0) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def Claim : Prop :=
  ∃ (hConv : Cert.Conv.Facts) (hConvIdeal : Cert.ConvIdeal.Facts) (hConvRefIdeal : Cert.ConvRefIdeal.Facts) (hGate : Cert.Gate.Facts) (hGateIdeal : Cert.GateIdeal.Facts) (hGateRefIdeal : Cert.GateRefIdeal.Facts) (hDx1 : Cert.Dx1.Facts) (hDx1Ideal : Cert.Dx1Ideal.Facts) (hDx1RefIdeal : Cert.Dx1RefIdeal.Facts) (hDx : Cert.Dx.Facts) (hDxIdeal : Cert.DxIdeal.Facts) (hDxRefIdeal : Cert.DxRefIdeal.Facts) (hLoss : Cert.Loss.Facts) (hLossIdeal : Cert.LossIdeal.Facts) (hLossRefIdeal : Cert.LossRefIdeal.Facts) (hPool : Cert.Pool.Facts) (hPoolIdeal : Cert.PoolIdeal.Facts) (hPoolRefIdeal : Cert.PoolRefIdeal.Facts) (hMid : Cert.Mid.Facts) (hMidIdeal : Cert.MidIdeal.Facts) (hMidRefIdeal : Cert.MidRefIdeal.Facts) (hOut : Cert.Out.Facts) (hOutIdeal : Cert.OutIdeal.Facts) (hOutRefIdeal : Cert.OutRefIdeal.Facts) (hMix : Cert.Mix.Facts) (hMixIdeal : Cert.MixIdeal.Facts) (hMixRefIdeal : Cert.MixRefIdeal.Facts) (hUp : Cert.Up.Facts) (hUpIdeal : Cert.UpIdeal.Facts) (hUpRefIdeal : Cert.UpRefIdeal.Facts) (hDa : Cert.Da.Facts) (hDaIdeal : Cert.DaIdeal.Facts) (hDaRefIdeal : Cert.DaRefIdeal.Facts) (hWu : Cert.Wu.Facts) (hWuIdeal : Cert.WuIdeal.Facts) (hWuRefIdeal : Cert.WuRefIdeal.Facts) (hWi : Cert.Wi.Facts) (hWiIdeal : Cert.WiIdeal.Facts) (hWiRefIdeal : Cert.WiRefIdeal.Facts) (hAdam : Cert.Adam.Facts) (hAdamIdeal : Cert.AdamIdeal.Facts) (hAdamRefIdeal : Cert.AdamRefIdeal.Facts) (hSlots : Cert.Slots.Facts) (hSlotsIdeal : Cert.SlotsIdeal.Facts) (hSlotsRefIdeal : Cert.SlotsRefIdeal.Facts) (hPre_dx1_finite : Cert.Pre_dx1_finite.Facts) (hPre_dx_finite : Cert.Pre_dx_finite.Facts) (hPre_loss_finite : Cert.Pre_loss_finite.Facts) (hPre_pool_finite : Cert.Pre_pool_finite.Facts) (hPre_mid_finite : Cert.Pre_mid_finite.Facts) (hPre_mix_finite : Cert.Pre_mix_finite.Facts) (hOn_gate_written : Cert.On_gate_written.Facts) (hOn_dx1_written : Cert.On_dx1_written.Facts) (hOn_mix_written : Cert.On_mix_written.Facts),
    quiescent_Conv (hConv := hConv)
    ∧ quiescent_ConvIdeal (hConvIdeal := hConvIdeal)
    ∧ quiescent_ConvRefIdeal (hConvRefIdeal := hConvRefIdeal)
    ∧ quiescent_Gate (hGate := hGate)
    ∧ quiescent_GateIdeal (hGateIdeal := hGateIdeal)
    ∧ quiescent_GateRefIdeal (hGateRefIdeal := hGateRefIdeal)
    ∧ quiescent_Dx1 (hDx1 := hDx1)
    ∧ quiescent_Dx1Ideal (hDx1Ideal := hDx1Ideal)
    ∧ quiescent_Dx1Ideal_pre_dx1_finite (hDx1Ideal := hDx1Ideal) (hPre_dx1_finite := hPre_dx1_finite)
    ∧ quiescent_Dx1RefIdeal (hDx1RefIdeal := hDx1RefIdeal)
    ∧ quiescent_Dx1RefIdeal_pre_dx1_finite (hDx1RefIdeal := hDx1RefIdeal) (hPre_dx1_finite := hPre_dx1_finite)
    ∧ quiescent_Dx (hDx := hDx)
    ∧ quiescent_DxIdeal (hDxIdeal := hDxIdeal)
    ∧ quiescent_DxIdeal_pre_dx_finite (hDxIdeal := hDxIdeal) (hPre_dx_finite := hPre_dx_finite)
    ∧ quiescent_DxRefIdeal (hDxRefIdeal := hDxRefIdeal)
    ∧ quiescent_DxRefIdeal_pre_dx_finite (hDxRefIdeal := hDxRefIdeal) (hPre_dx_finite := hPre_dx_finite)
    ∧ quiescent_Loss (hLoss := hLoss)
    ∧ quiescent_LossIdeal (hLossIdeal := hLossIdeal)
    ∧ quiescent_LossIdeal_pre_loss_finite (hLossIdeal := hLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_Pool (hPool := hPool)
    ∧ quiescent_PoolIdeal (hPoolIdeal := hPoolIdeal)
    ∧ quiescent_PoolIdeal_pre_pool_finite (hPoolIdeal := hPoolIdeal) (hPre_pool_finite := hPre_pool_finite)
    ∧ quiescent_PoolRefIdeal (hPoolRefIdeal := hPoolRefIdeal)
    ∧ quiescent_PoolRefIdeal_pre_pool_finite (hPoolRefIdeal := hPoolRefIdeal) (hPre_pool_finite := hPre_pool_finite)
    ∧ quiescent_Mid (hMid := hMid)
    ∧ quiescent_MidIdeal (hMidIdeal := hMidIdeal)
    ∧ quiescent_MidIdeal_pre_mid_finite (hMidIdeal := hMidIdeal) (hPre_mid_finite := hPre_mid_finite)
    ∧ quiescent_MidRefIdeal (hMidRefIdeal := hMidRefIdeal)
    ∧ quiescent_MidRefIdeal_pre_mid_finite (hMidRefIdeal := hMidRefIdeal) (hPre_mid_finite := hPre_mid_finite)
    ∧ quiescent_Out (hOut := hOut)
    ∧ quiescent_OutIdeal (hOutIdeal := hOutIdeal)
    ∧ quiescent_OutRefIdeal (hOutRefIdeal := hOutRefIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Up (hUp := hUp)
    ∧ quiescent_UpIdeal (hUpIdeal := hUpIdeal)
    ∧ quiescent_UpRefIdeal (hUpRefIdeal := hUpRefIdeal)
    ∧ quiescent_Da (hDa := hDa)
    ∧ quiescent_DaIdeal (hDaIdeal := hDaIdeal)
    ∧ quiescent_DaRefIdeal (hDaRefIdeal := hDaRefIdeal)
    ∧ quiescent_Wu (hWu := hWu)
    ∧ quiescent_WuIdeal (hWuIdeal := hWuIdeal)
    ∧ quiescent_WuRefIdeal (hWuRefIdeal := hWuRefIdeal)
    ∧ quiescent_Wi (hWi := hWi)
    ∧ quiescent_WiIdeal (hWiIdeal := hWiIdeal)
    ∧ quiescent_WiRefIdeal (hWiRefIdeal := hWiRefIdeal)
    ∧ quiescent_Adam (hAdam := hAdam)
    ∧ quiescent_AdamIdeal (hAdamIdeal := hAdamIdeal)
    ∧ quiescent_AdamRefIdeal (hAdamRefIdeal := hAdamRefIdeal)
    ∧ quiescent_Slots (hSlots := hSlots)
    ∧ quiescent_SlotsIdeal (hSlotsIdeal := hSlotsIdeal)
    ∧ quiescent_SlotsRefIdeal (hSlotsRefIdeal := hSlotsRefIdeal)
    ∧ preserves_Conv_ConvIdeal
    ∧ algebraic_ConvIdeal_ConvRefIdeal (hConvIdeal := hConvIdeal) (hConvRefIdeal := hConvRefIdeal)
    ∧ preserves_Gate_GateIdeal
    ∧ algebraic_GateIdeal_GateRefIdeal_on_gate_written (hGateIdeal := hGateIdeal) (hGateRefIdeal := hGateRefIdeal) (hOn_gate_written := hOn_gate_written)
    ∧ preserves_Dx1_Dx1Ideal
    ∧ algebraic_Dx1Ideal_Dx1RefIdeal_on_dx1_written_pre_dx1_finite (hDx1Ideal := hDx1Ideal) (hDx1RefIdeal := hDx1RefIdeal) (hPre_dx1_finite := hPre_dx1_finite) (hOn_dx1_written := hOn_dx1_written)
    ∧ preserves_Dx_DxIdeal
    ∧ algebraic_DxIdeal_DxRefIdeal_pre_dx_finite (hDxIdeal := hDxIdeal) (hDxRefIdeal := hDxRefIdeal) (hPre_dx_finite := hPre_dx_finite)
    ∧ preserves_Loss_LossIdeal
    ∧ algebraic_LossIdeal_LossRefIdeal_pre_loss_finite (hLossIdeal := hLossIdeal) (hLossRefIdeal := hLossRefIdeal) (hPre_loss_finite := hPre_loss_finite)
    ∧ preserves_Pool_PoolIdeal
    ∧ algebraic_PoolIdeal_PoolRefIdeal_pre_pool_finite (hPoolIdeal := hPoolIdeal) (hPoolRefIdeal := hPoolRefIdeal) (hPre_pool_finite := hPre_pool_finite)
    ∧ preserves_Mid_MidIdeal
    ∧ algebraic_MidIdeal_MidRefIdeal_pre_mid_finite (hMidIdeal := hMidIdeal) (hMidRefIdeal := hMidRefIdeal) (hPre_mid_finite := hPre_mid_finite)
    ∧ preserves_Out_OutIdeal
    ∧ algebraic_OutIdeal_OutRefIdeal (hOutIdeal := hOutIdeal) (hOutRefIdeal := hOutRefIdeal)
    ∧ preserves_Mix_MixIdeal
    ∧ algebraic_MixIdeal_MixRefIdeal_on_mix_written_pre_mix_finite (hMixIdeal := hMixIdeal) (hMixRefIdeal := hMixRefIdeal) (hPre_mix_finite := hPre_mix_finite) (hOn_mix_written := hOn_mix_written)
    ∧ preserves_Up_UpIdeal
    ∧ algebraic_UpIdeal_UpRefIdeal (hUpIdeal := hUpIdeal) (hUpRefIdeal := hUpRefIdeal)
    ∧ preserves_Da_DaIdeal
    ∧ algebraic_DaIdeal_DaRefIdeal (hDaIdeal := hDaIdeal) (hDaRefIdeal := hDaRefIdeal)
    ∧ preserves_Wu_WuIdeal
    ∧ algebraic_WuIdeal_WuRefIdeal (hWuIdeal := hWuIdeal) (hWuRefIdeal := hWuRefIdeal)
    ∧ preserves_Wi_WiIdeal
    ∧ algebraic_WiIdeal_WiRefIdeal (hWiIdeal := hWiIdeal) (hWiRefIdeal := hWiRefIdeal)
    ∧ preserves_Adam_AdamIdeal
    ∧ algebraic_AdamIdeal_AdamRefIdeal (hAdamIdeal := hAdamIdeal) (hAdamRefIdeal := hAdamRefIdeal)
    ∧ preserves_Slots_SlotsIdeal
    ∧ algebraic_SlotsIdeal_SlotsRefIdeal (hSlotsIdeal := hSlotsIdeal) (hSlotsRefIdeal := hSlotsRefIdeal)
-- ==== On_dx1_written.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S3x4096x1024 : Shape := ⟨3, ![3, 4096, 1024]⟩
abbrev S_ : Shape := ⟨0, ![]⟩

class Facts : Prop where
  bcast_S_S4096x1024 : S_.BroadcastsInDim S4096x1024 (![] : Fin 0 → Fin S4096x1024.rank)
  bcast_S_S3x4096x1024 : S_.BroadcastsInDim S3x4096x1024 (![] : Fin 0 → Fin S3x4096x1024.rank)
  bcast_S_S1x1024 : S_.BroadcastsInDim S1x1024 (![] : Fin 0 → Fin S1x1024.rank)

variable [Facts]

def fn {F : FTy → Type} [FloatOps F] (main_arg0 : FVec F S2x4096x2816 .bf16) (main_arg1 : FVec F S4x1024x1408 .bf16) (main_arg2 : FVec F S4096x1024 .f32) (main_arg3 : FVec F S4096x1024 .f32) (main_arg4 : FVec F S1x1024 .f32) : IVec S4096x1024 1 × IVec S3x4096x1024 1 × IVec S1x1024 1 :=
  let main_v0 : IVec S3x4096x1024 32 := iotaInDim S3x4096x1024 32 0
  let main_c : IVec S_ 1 := constantI S_ 1 1#1
  let main_v1 : IVec S4096x1024 1 := broadcastInDim S4096x1024 ![] bcast_S_S4096x1024 main_c
  let main_c_0 : IVec S_ 32 := constantI S_ 32 2#32
  let main_v2 : IVec S3x4096x1024 32 := broadcastInDim S3x4096x1024 ![] bcast_S_S3x4096x1024 main_c_0
  let main_v3 : IVec S3x4096x1024 1 := cmpi .eq main_v0 main_v2
  let main_c_1 : IVec S_ 1 := constantI S_ 1 1#1
  let main_v4 : IVec S1x1024 1 := broadcastInDim S1x1024 ![] bcast_S_S1x1024 main_c_1
  (main_v1, main_v3, main_v4)
-- ==== On_gate_written.lean ====
abbrev S4096x1024 : Shape := ⟨2, ![4096, 1024]⟩
abbrev S4096x6144 : Shape := ⟨2, ![4096, 6144]⟩
abbrev S2x4096x1024 : Shape := ⟨3, ![2, 4096, 1024]⟩
abbrev S3x1024x1024 : Shape := ⟨3, ![3, 1024, 1024]⟩
abbrev S6x4096x1024 : Shape := ⟨3, ![6, 4096, 1024]⟩
abbrev S_ : Shape := ⟨0, ![]⟩
abbrev S3x4096x1024 : Shape := ⟨3, ![3, 4096, 1024]⟩

class Facts : Prop where
  bcast_S_S3x4096x1024 : S_.BroadcastsInDim S3x4096x1024 (![] : Fin 0 → Fin S3x4096x1024.rank)
  bcast_S_S6x4096x1024 : S_.BroadcastsInDim S6x4096x1024 (![] : Fin 0 → Fin S6x4096x1024.rank)
  bcast_S_S2x4096x1024 : S_.BroadcastsInDim S2x4096x1024 (![] : Fin 0 → Fin S2x4096x1024.rank)

variable [Facts]

def fn {F : FTy → Type} [FloatOps F] (main_arg0 : FVec F S4096x1024 .bf16) (main_arg1 : FVec F S4096x6144 .bf16) (main_arg2 : FVec F S2x4096x1024 .bf16) (main_arg3 : FVec F S3x1024x1024 .bf16) : IVec S3x4096x1024 1 × IVec S6x4096x1024 1 × IVec S2x4096x1024 1 :=
  let main_v0 : IVec S6x4096x1024 32 := iotaInDim S6x4096x1024 32 0
  let main_c : IVec S_ 1 := constantI S_ 1 1#1
  let main_v1 : IVec S3x4096x1024 1 := broadcastInDim S3x4096x1024 ![] bcast_S_S3x4096x1024 main_c
  let main_c_0 : IVec S_ 32 := constantI S_ 32 4#32
  let main_v2 : IVec S6x4096x1024 32 := broadcastInDim S6x4096x1024 ![] bcast_S_S6x4096x1024 main_c_0
  let main_v3 : IVec S6x4096x1024 1 := cmpi .sge main_v0 main_v2
  let main_c_1 : IVec S_ 1 := constantI S_ 1 1#1
  let main_v4 : IVec S2x4096x1024 1 := broadcastInDim S2x4096x1024 ![] bcast_S_S2x4096x1024 main_c_1
  (main_v1, main_v3, main_v4)
-- ==== On_mix_written.lean ====
abbrev S4096x6144 : Shape := ⟨2, ![4096, 6144]⟩
abbrev S4x256x256 : Shape := ⟨3, ![4, 256, 256]⟩
abbrev S1x1024 : Shape := ⟨2, ![1, 1024]⟩
abbrev S3x1024 : Shape := ⟨2, ![3, 1024]⟩
abbrev S3x4096x1024 : Shape := ⟨3, ![3, 4096, 1024]⟩
abbrev S_ : Shape := ⟨0, ![]⟩

class Facts : Prop where
  bcast_S_S3x4096x1024 : S_.BroadcastsInDim S3x4096x1024 (![] : Fin 0 → Fin S3x4096x1024.rank)

variable [Facts]

def fn {F : FTy → Type} [FloatOps F] (main_arg0 : FVec F S4096x6144 .bf16) (main_arg1 : FVec F S4x256x256 .bf16) (main_arg2 : FVec F S1x1024 .f32) (main_arg3 : FVec F S3x1024 .f32) : IVec S3x4096x1024 1 :=
  let main_v0 : IVec S3x4096x1024 32 := iotaInDim S3x4096x1024 32 0
  let main_c : IVec S_ 32 := constantI S_ 32 2#32
  let main_v1 : IVec S3x4096x1024 32 := broadcastInDim S3x4096x1024 ![] bcast_S_S3x4096x1024 main_c
  let main_v2 : IVec S3x4096x1024 1 := cmpi .slt main_v0 main_v1
  main_v2
-- ==== Pre_dx1_finite.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S_ : Shape := ⟨0, ![]⟩

class Facts : Prop where
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S2x4096x2816 .bf16) (main_arg1 : FVec F S4x1024x1408 .bf16) (main_arg2 : FVec F S4096x1024 .f32) (main_arg3 : FVec F S4096x1024 .f32) (main_arg4 : FVec F S1x1024 .f32) : IVec S_ 1 :=
  let main_v0 : FVec F S2x4096x2816 .bf16 := Host.absf main_arg0
  let main_cst : FVec F S_ .bf16 := constant S_ .bf16 0x7F80#16
  let main_v1 : FVec F S2x4096x2816 .bf16 := broadcastInDim S2x4096x2816 ![] bcast_S_S2x4096x2816 main_cst
  let main_v2 : IVec S2x4096x2816 1 := cmpf .olt main_v0 main_v1
  let main_c : IVec S_ 1 := constantI S_ 1 1#1
  let main_v3 : IVec S_ 1 := (fun x v => Host.reduce IntOp.andi x v reducesTo_S2x4096x2816_S_d0_1_2 h_S_) main_v2 main_c
  let main_v4 : FVec F S4x1024x1408 .bf16 := Host.absf main_arg1
  let main_cst_0 : FVec F S_ .bf16 := constant S_ .bf16 0x7F80#16
  let main_v5 : FVec F S4x1024x1408 .bf16 := broadcastInDim S4x1024x1408 ![] bcast_S_S4x1024x1408 main_cst_0
  let main_v6 : IVec S4x1024x1408 1 := cmpf .olt main_v4 main_v5
  let main_c_1 : IVec S_ 1 := constantI S_ 1 1#1
  let main_v7 : IVec S_ 1 := (fun x v => Host.reduce IntOp.andi x v reducesTo_S4x1024x1408_S_d0_1_2 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_dx_finite.lean ====
abbrev S6x4096x1024 : Shape := ⟨3, ![6, 4096, 1024]⟩
abbrev S4x1024x1536 : Shape := ⟨3, ![4, 1024, 1536]⟩
abbrev S2x2048x1024 : Shape := ⟨3, ![2, 2048, 1024]⟩
abbrev S4096x1024 : Shape := ⟨2, ![4096, 1024]⟩
abbrev S1x1024 : Shape := ⟨2, ![1, 1024]⟩
abbrev S_ : Shape := ⟨0, ![]⟩

class Facts : Prop where
  bcast_S_S6x4096x1024 : S_.BroadcastsInDim S6x4096x1024 (![] : Fin 0 → Fin S6x4096x1024.rank)
  reducesTo_S6x4096x1024_S_d0_1_2 : S6x4096x1024.ReducesTo [0, 1, 2] S_
  h_S_ : 0 < S_.numel
  bcast_S_S4x1024x1536 : S_.BroadcastsInDim S4x1024x1536 (![] : Fin 0 → Fin S4x1024x1536.rank)
  reducesTo_S4x1024x1536_S_d0_1_2 : S4x1024x1536.ReducesTo [0, 1, 2] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S6x4096x1024 .bf16) (main_arg1 : FVec F S4x1024x1536 .bf16) (main_arg2 : FVec F S2x2048x1024 .f32) (main_arg3 : FVec F S4096x1024 .f32) (main_arg4 : FVec F S1x1024 .f32) : IVec S_ 1 :=
  let main_v0 : FVec F S6x4096x1024 .bf16 := Host.absf main_arg0
  let main_cst : FVec F S_ .bf16 := constant S_ .bf16 0x7F80#16
  let main_v1 : FVec F S6x4096x1024 .bf16 := broadcastInDim S6x4096x1024 ![] bcast_S_S6x4096x1024 main_cst
  let main_v2 : IVec S6x4096x1024 1 := cmpf .olt main_v0 main_v1
  let main_c : IVec S_ 1 := constantI S_ 1 1#1
  let main_v3 : IVec S_ 1 := (fun x v => Host.reduce IntOp.andi x v reducesTo_S6x4096x1024_S_d0_1_2 h_S_) main_v2 main_c
  let main_v4 : FVec F S4x1024x1536 .bf16 := Host.absf main_arg1
  let main_cst_0 : FVec F S_ .bf16 := constant S_ .bf16 0x7F80#16
  let main_v5 : FVec F S4x1024x1536 .bf16 := broadcastInDim S4x1024x1536 ![] bcast_S_S4x1024x1536 main_cst_0
  let main_v6 : IVec S4x1024x1536 1 := cmpf .olt main_v4 main_v5
  let main_c_1 : IVec S_ 1 := constantI S_ 1 1#1
  let main_v7 : IVec S_ 1 := (fun x v => Host.reduce IntOp.andi x v reducesTo_S4x1024x1536_S_d0_1_2 h_S_) main_v6 main_c_1
  let main_v8 : IVec S_ 1 := andi main_v3 main_v7
  let main_v9 : FVec F S2x2048x1024 .f32 := Host.absf main_arg2
  let main_cst_2 : FVec F S_ .f32 := constant S_ .f32 0x7F800000#32
  let main_v10 : FVec F S2x2048x1024 .f32 := broadcastInDim S2x2048x1024 ![] bcast_S_S2x2048x1024 main_cst_2
  let main_v11 : IVec S2x2048x1024 1 := cmpf .olt main_v9 main_v10
  let main_c_3 : IVec S_ 1 := constantI S_ 1 1#1
  let main_v12 : IVec S_ 1 := (fun x v => Host.reduce IntOp.andi x v reducesTo_S2x2048x1024_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_loss_finite.lean ====
abbrev S4096x2816 : Shape := ⟨2, ![4096, 2816]⟩
abbrev S2816x1024 : Shape := ⟨2, ![2816, 1024]⟩
abbrev S4096x1024 : Shape := ⟨2, ![4096, 1024]⟩
abbrev S2x2048x1024 : Shape := ⟨3, ![2, 2048, 1024]⟩
abbrev S1024 : Shape := ⟨1, ![1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4096x2816 .bf16) (main_arg1 : FVec F S2816x1024 .bf16) (main_arg2 : FVec F S4096x1024 .f32) (main_arg3 : FVec F S2x2048x1024 .f32) (main_arg4 : FVec F S1024 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_v13 main_v16
-- ==== Pre_mid_finite.lean ====
abbrev S4096x2816 : Shape := ⟨2, ![4096, 2816]⟩
abbrev S2x4096x2816 : Shape := ⟨3, ![2, 4096, 2816]⟩
abbrev S3x5632 : Shape := ⟨2, ![3, 5632]⟩
abbrev S1x5632 : Shape := ⟨2, ![1, 5632]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2x4096x2816 : S_.BroadcastsInDim S2x4096x2816 (![] : Fin 0 → Fin S2x4096x2816.rank)
  reducesTo_S2x4096x2816_S_d0_1_2 : S2x4096x2816.ReducesTo [0, 1, 2] S_
  bcast_S_S3x5632 : S_.BroadcastsInDim S3x5632 (![] : Fin 0 → Fin S3x5632.rank)
  reducesTo_S3x5632_S_d0_1 : S3x5632.ReducesTo [0, 1] S_
  bcast_S_S1x5632 : S_.BroadcastsInDim S1x5632 (![] : Fin 0 → Fin S1x5632.rank)
  reducesTo_S1x5632_S_d0_1 : S1x5632.ReducesTo [0, 1] S_

variable [Facts]

def fn_part1 {F : FTy → Type} [FloatOps F] (main_v13 : IVec S_ 1) (main_v16 : IVec S1x5632 1) : IVec S_ 1 :=
  let main_c_5 : IVec S_ 1 := constantI S_ 1 1#1
  let main_v17 : IVec S_ 1 := (fun x v => Host.reduce IntOp.andi x v reducesTo_S1x5632_S_d0_1 h_S_) main_v16 main_c_5
  let main_v18 : IVec S_ 1 := andi main_v13 main_v17
  main_v18

def fn {F : FTy → Type} [FloatOps F] (main_arg0 : FVec F S4096x2816 .bf16) (main_arg1 : FVec F S2x4096x2816 .bf16) (main_arg2 : FVec F S3x5632 .f32) (main_arg3 : FVec F S1x5632 .f32) : IVec S_ 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2x4096x2816 .bf16 := Host.absf main_arg1
  let main_cst_0 : FVec F S_ .bf16 := constant S_ .bf16 0x7F80#16
  let main_v5 : FVec F S2x4096x2816 .bf16 := broadcastInDim S2x4096x2816 ![] bcast_S_S2x4096x2816 main_cst_0
  let main_v6 : IVec S2x4096x2816 1 := cmpf .olt main_v4 main_v5
  let main_c_1 : IVec S_ 1 := constantI S_ 1 1#1
  let main_v7 : IVec S_ 1 := (fun x v => Host.reduce IntOp.andi x v reducesTo_S2x4096x2816_S_d0_1_2 h_S_) main_v6 main_c_1
  let main_v8 : IVec S_ 1 := andi main_v3 main_v7
  let main_v9 : FVec F S3x5632 .f32 := Host.absf main_arg2
  let main_cst_2 : FVec F S_ .f32 := constant S_ .f32 0x7F800000#32
  let main_v10 : FVec F S3x5632 .f32 := broadcastInDim S3x5632 ![] bcast_S_S3x5632 main_cst_2
  let main_v11 : IVec S3x5632 1 := cmpf .olt main_v9 main_v10
  let main_c_3 : IVec S_ 1 := constantI S_ 1 1#1
  let main_v12 : IVec S_ 1 := (fun x v => Host.reduce IntOp.andi x v reducesTo_S3x5632_S_d0_1 h_S_) main_v11 main_c_3
  let main_v13 : IVec S_ 1 := andi main_v8 main_v12
  let main_v14 : FVec F S1x5632 .f32 := Host.absf main_arg3
  let main_cst_4 : FVec F S_ .f32 := constant S_ .f32 0x7F800000#32
  let main_v15 : FVec F S1x5632 .f32 := broadcastInDim S1x5632 ![] bcast_S_S1x5632 main_cst_4
  let main_v16 : IVec S1x5632 1 := cmpf .olt main_v14 main_v15
  fn_part1 (F := F) main_v13 main_v16
-- ==== Pre_mix_finite.lean ====
abbrev S4096x6144 : Shape := ⟨2, ![4096, 6144]⟩
abbrev S4x256x256 : Shape := ⟨3, ![4, 256, 256]⟩
abbrev S1x1024 : Shape := ⟨2, ![1, 1024]⟩
abbrev S3x1024 : Shape := ⟨2, ![3, 1024]⟩
abbrev S4096x1024 : Shape := ⟨2, ![4096, 1024]⟩
abbrev S_ : Shape := ⟨0, ![]⟩

class Facts : Prop where
  slices_S4096x6144_S4096x1024_0_0 : S4096x6144.Slices ![0, 0] S4096x1024
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x6144 .bf16) (main_arg1 : FVec F S4x256x256 .bf16) (main_arg2 : FVec F S1x1024 .f32) (main_arg3 : FVec F S3x1024 .f32) : IVec S_ 1 :=
  let main_v0 : FVec F S4096x1024 .bf16 := (extractStridedSlice S4096x1024 ![0, 0] · slices_S4096x6144_S4096x1024_0_0) main_arg0
  let main_v1 : FVec F S4096x1024 .bf16 := Host.absf main_v0
  let main_cst : FVec F S_ .bf16 := constant S_ .bf16 0x7F80#16
  let main_v2 : FVec F S4096x1024 .bf16 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  main_v4
-- ==== Pre_pool_finite.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S4096x6144 : S_.BroadcastsInDim S4096x6144 (![] : Fin 0 → Fin S4096x6144.rank)
  reducesTo_S4096x6144_S_d0_1 : S4096x6144.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S6x4096x1024 .bf16) (main_arg1 : FVec F S2x4096x1024 .bf16) (main_arg2 : FVec F S4096x6144 .bf16) (main_arg3 : FVec F S4x256x256 .bf16) (main_arg4 : FVec F S1x1024 .f32) : IVec S_ 1 :=
  let main_v0 : FVec F S2x4096x1024 .bf16 := Host.absf main_arg1
  let main_cst : FVec F S_ .bf16 := constant S_ .bf16 0x7F80#16
  let main_v1 : FVec F S2x4096x1024 .bf16 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S4096x6144 .bf16 := Host.absf main_arg2
  let main_cst_0 : FVec F S_ .bf16 := constant S_ .bf16 0x7F80#16
  let main_v5 : FVec F S4096x6144 .bf16 := broadcastInDim S4096x6144 ![] bcast_S_S4096x6144 main_cst_0
  let main_v6 : IVec S4096x6144 1 := cmpf .olt main_v4 main_v5
  let main_c_1 : IVec S_ 1 := constantI S_ 1 1#1
  let main_v7 : IVec S_ 1 := (fun x v => Host.reduce IntOp.andi x v reducesTo_S4096x6144_S_d0_1 h_S_) main_v6 main_c_1
  let main_v8 : IVec S_ 1 := andi main_v3 main_v7
  let main_v9 : FVec F S4x256x256 .bf16 := Host.absf main_arg3
  let main_cst_2 : FVec F S_ .bf16 := constant S_ .bf16 0x7F80#16
  let main_v10 : FVec F S4x256x256 .bf16 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Conv.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S3x1024 : Shape := ⟨2, ![3, 1024]⟩
abbrev S1x2048x256 : Shape := ⟨3, ![1, 2048, 256]⟩
abbrev S2048x256 : Shape := ⟨2, ![2048, 256]⟩
abbrev S3x256 : Shape := ⟨2, ![3, 256]⟩
abbrev S3x2048x256 : Shape := ⟨3, ![3, 2048, 256]⟩
abbrev S1x256 : Shape := ⟨2, ![1, 256]⟩
abbrev S256 : Shape := ⟨1, ![256]⟩

abbrev nBuf : Space → Nat
  | .hbm => 6
  | .vmem => 14
  | .smem => 0
  | _ => 0

abbrev bufTy : (tb : Table) → Fin (tcTables nBuf tb) → BufTy
  | .hbm, ⟨0, _⟩ => ⟨S6x4096x1024, .bf16⟩
  | .hbm, ⟨1, _⟩ => ⟨S2x4096x1024, .bf16⟩
  | .hbm, ⟨2, _⟩ => ⟨S4096x6144, .bf16⟩
  | .hbm, ⟨3, _⟩ => ⟨S3x1024, .f32⟩
  | .hbm, ⟨4, _⟩ => ⟨S6x4096x1024, .bf16⟩
  | .hbm, ⟨5, _⟩ => ⟨S3x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S3x256, .f32⟩
  | .local _ .vmem, ⟨9, _⟩ => ⟨S3x256, .f32⟩
  | .local _ .vmem, ⟨10, _⟩ => ⟨S3x2048x256, .bf16⟩
  | .local _ .vmem, ⟨11, _⟩ => ⟨S3x2048x256, .bf16⟩
  | .local _ .vmem, ⟨12, _⟩ => ⟨S3x256, .f32⟩
  | .local _ .vmem, ⟨13, _⟩ => ⟨S3x256, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ConvRefIdeal.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S3x1024 : Shape := ⟨2, ![3, 1024]⟩
abbrev S4096x1024 : Shape := ⟨2, ![4096, 1024]⟩
abbrev S2x2048x1024 : Shape := ⟨3, ![2, 2048, 1024]⟩
abbrev S1x4096x1024 : Shape := ⟨3, ![1, 4096, 1024]⟩
abbrev S_ : Shape := ⟨0, ![]⟩
abbrev S2x1x1024 : Shape := ⟨3, ![2, 1, 1024]⟩
abbrev S2x2047x1024 : Shape := ⟨3, ![2, 2047, 1024]⟩
abbrev S2x2x1024 : Shape := ⟨3, ![2, 2, 1024]⟩
abbrev S2x2046x1024 : Shape := ⟨3, ![2, 2046, 1024]⟩
abbrev S1x1024 : Shape := ⟨2, ![1, 1024]⟩
abbrev S1024 : Shape := ⟨1, ![1024]⟩
abbrev S1x1x1024 : Shape := ⟨3, ![1, 1, 1024]⟩
abbrev S1x2x2048x1024 : Shape := ⟨4, ![1, 2, 2048, 1024]⟩
abbrev S3x2x2048x1024 : Shape := ⟨4, ![3, 2, 2048, 1024]⟩
abbrev S3x4096x1024 : Shape := ⟨3, ![3, 4096, 1024]⟩

abbrev nBuf : Space → Nat
  | .hbm => 105
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S2x4096x1024, .bf16⟩
  | .hbm, ⟨2, _⟩ => ⟨S4096x6144, .bf16⟩
  | .hbm, ⟨3, _⟩ => ⟨S3x1024, .f32⟩
  | .hbm, ⟨4, _⟩ => ⟨S4096x1024, .bf16⟩
  | .hbm, ⟨5, _⟩ => ⟨S4096x1024, .f32⟩
  | .hbm, ⟨6, _⟩ => ⟨S2x2048x1024, .f32⟩
  | .hbm, ⟨7, _⟩ => ⟨S4096x1024, .bf16⟩
  | .hbm, ⟨8, _⟩ => ⟨S4096x1024, .f32⟩
  | .hbm, ⟨9, _⟩ => ⟨S2x2048x1024, .f32⟩
  | .hbm, ⟨10, _⟩ => ⟨S4096x1024, .bf16⟩
  | .hbm, ⟨11, _⟩ => ⟨S4096x1024, .f32⟩
  | .hbm, ⟨12, _⟩ => ⟨S2x2048x1024, .f32⟩
  | .hbm, ⟨13, _⟩ => ⟨S1x4096x1024, .bf16⟩
  | .hbm, ⟨14, _⟩ => ⟨S4096x1024, .bf16⟩
  | .hbm, ⟨15, _⟩ => ⟨S4096x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x1x1024, .f32⟩
  | .hbm, ⟨20, _⟩ => ⟨S2x2047x1024, .f32⟩
  | .hbm, ⟨21, _⟩ => ⟨S2x2048x1024, .f32⟩
  | .hbm, ⟨22, _⟩ => ⟨S_, .f32⟩
  | .hbm, ⟨23, _⟩ => ⟨S2x1x1024, .f32⟩
  | .hbm, ⟨24, _⟩ => ⟨S_, .f32⟩
  | .hbm, ⟨25, _⟩ => ⟨S2x2x1024, .f32⟩
  | .hbm, ⟨26, _⟩ => ⟨S2x2046x1024, .f32⟩
  | .hbm, ⟨27, _⟩ => ⟨S2x2048x1024, .f32⟩
  | .hbm, ⟨28, _⟩ => ⟨S_, .f32⟩
  | .hbm, ⟨29, _⟩ => ⟨S2x2x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S1x1024, .f32⟩
  | .hbm, ⟨36, _⟩ => ⟨S1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S1x1024, .f32⟩
  | .hbm, ⟨42, _⟩ => ⟨S1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S_, .f32⟩
  | .hbm, ⟨54, _⟩ => ⟨S1024, .f32⟩
  | .hbm, ⟨55, _⟩ => ⟨S1x1x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S3x1024, .f32⟩
  | .hbm, ⟨61, _⟩ => ⟨S2x2048x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S1024, .f32⟩
  | .hbm, ⟨66, _⟩ => ⟨S1x1x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S3x1024, .f32⟩
  | .hbm, ⟨72, _⟩ => ⟨S3x1024, .f32⟩
  | .hbm, ⟨73, _⟩ => ⟨S2x2048x1024, .f32⟩
  | .hbm, ⟨74, _⟩ => ⟨S2x2048x1024, .f32⟩
  | .hbm, ⟨75, _⟩ => ⟨S2x2048x1024, .f32⟩
  | .hbm, ⟨76, _⟩ => ⟨S_, .f32⟩
  | .hbm, ⟨77, _⟩ => ⟨S1024, .f32⟩
  | .hbm, ⟨78, _⟩ => ⟨S1x1x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S3x1024, .f32⟩
  | .hbm, ⟨84, _⟩ => ⟨S3x1024, .f32⟩
  | .hbm, ⟨85, _⟩ => ⟨S2x2x1024, .f32⟩
  | .hbm, ⟨86, _⟩ => ⟨S2x2046x1024, .f32⟩
  | .hbm, ⟨87, _⟩ => ⟨S_, .f32⟩
  | .hbm, ⟨88, _⟩ => ⟨S2x2048x1024, .f32⟩
  | .hbm, ⟨89, _⟩ => ⟨S2x2048x1024, .f32⟩
  | .hbm, ⟨90, _⟩ => ⟨S2x1x1024, .f32⟩
  | .hbm, ⟨91, _⟩ => ⟨S2x2047x1024, .f32⟩
  | .hbm, ⟨92, _⟩ => ⟨S_, .f32⟩
  | .hbm, ⟨93, _⟩ => ⟨S2x2048x1024, .f32⟩
  | .hbm, ⟨94, _⟩ => ⟨S2x2048x1024, .f32⟩
  | .hbm, ⟨95, _⟩ => ⟨S2x2048x1024, .f32⟩
  | .hbm, ⟨96, _⟩ => ⟨S2x2048x1024, .f32⟩
  | .hbm, ⟨97, _⟩ => ⟨S1x2x2048x1024, .f32⟩
  | .hbm, ⟨98, _⟩ => ⟨S1x2x2048x1024, .f32⟩
  | .hbm, ⟨99, _⟩ => ⟨S1x2x2048x1024, .f32⟩
  | .hbm, ⟨100, _⟩ => ⟨S3x2x2048x1024, .f32⟩
  | .hbm, ⟨101, _⟩ => ⟨S3x4096x1024, .f32⟩
  | .hbm, ⟨102, _⟩ => ⟨S3x4096x1024, .bf16⟩
  | .hbm, ⟨103, _⟩ => ⟨S3x4096x1024, .bf16⟩
  | .hbm, ⟨104, _⟩ => ⟨S6x4096x1024, .bf16⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_cst_10 : Ref sig .tc := ⟨.hbm, 79, rfl⟩
abbrev main_v64 : Ref sig .tc := ⟨.hbm, 80, rfl⟩
abbrev main_v65 : Ref sig .tc := ⟨.hbm, 81, rfl⟩
abbrev main_cst_11 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_12 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_13 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== Gate.lean ====
abbrev S4096x1024 : Shape := ⟨2, ![4096, 1024]⟩
abbrev S4096x6144 : Shape := ⟨2, ![4096, 6144]⟩
abbrev S2x4096x1024 : Shape := ⟨3, ![2, 4096, 1024]⟩
abbrev S3x1024x1024 : Shape := ⟨3, ![3, 1024, 1024]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S3x4096x1024 : Shape := ⟨3, ![3, 4096, 1024]⟩
abbrev S6x4096x1024 : Shape := ⟨3, ![6, 4096, 1024]⟩
abbrev S512x1024 : Shape := ⟨2, ![512, 1024]⟩
abbrev S2x512x1024 : Shape := ⟨3, ![2, 512, 1024]⟩
abbrev S1x512x1024 : Shape := ⟨3, ![1, 512, 1024]⟩

abbrev nBuf : Space → Nat
  | .hbm => 27
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S2x4096x1024, .bf16⟩
  | .hbm, ⟨3, _⟩ => ⟨S3x1024x1024, .bf16⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S1x1024x1024, .bf16⟩
  | .hbm, ⟨8, _⟩ => ⟨S1024x1024, .bf16⟩
  | .hbm, ⟨9, _⟩ => ⟨S1024x1024, .f32⟩
  | .hbm, ⟨10, _⟩ => ⟨S4096x1024, .f32⟩
  | .hbm, ⟨11, _⟩ => ⟨S1x4096x1024, .bf16⟩
  | .hbm, ⟨12, _⟩ => ⟨S4096x1024, .bf16⟩
  | .hbm, ⟨13, _⟩ => ⟨S4096x1024, .f32⟩
  | .hbm, ⟨14, _⟩ => ⟨S1x1024x1024, .bf16⟩
  | .hbm, ⟨15, _⟩ => ⟨S1024x1024, .bf16⟩
  | .hbm, ⟨16, _⟩ => ⟨S1024x1024, .f32⟩
  | .hbm, ⟨17, _⟩ => ⟨S4096x1024, .f32⟩
  | .hbm, ⟨18, _⟩ => ⟨S1x4096x1024, .f32⟩
  | .hbm, ⟨19, _⟩ => ⟨S1x4096x1024, .f32⟩
  | .hbm, ⟨20, _⟩ => ⟨S2x4096x1024, .f32⟩
  | .hbm, ⟨21, _⟩ => ⟨S2x4096x1024, .bf16⟩
  | .hbm, ⟨22, _⟩ => ⟨S1x4096x1024, .bf16⟩
  | .hbm, ⟨23, _⟩ => ⟨S3x4096x1024, .bf16⟩
  | .hbm, ⟨24, _⟩ => ⟨S3x4096x1024, .bf16⟩
  | .hbm, ⟨25, _⟩ => ⟨S6x4096x1024, .bf16⟩
  | .hbm, ⟨26, _⟩ => ⟨S2x4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S3x1024x1024, .bf16⟩
  | .local _ .vmem, ⟨9, _⟩ => ⟨S2x512x1024, .bf16⟩
  | .local _ .vmem, ⟨10, _⟩ => ⟨S2x512x1024, .bf16⟩
  | .local _ .vmem, ⟨11, _⟩ => ⟨S2x512x1024, .bf16⟩
  | .local _ .vmem, ⟨12, _⟩ => ⟨S2x512x1024, .bf16⟩
  | .local _ .vmem, ⟨13, _⟩ => ⟨S2x512x1024, .bf16⟩
  | .local _ .vmem, ⟨14, _⟩ => ⟨S2x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20_0 : Ref sig .tc := ⟨.hbm, 24, rfl⟩
abbrev main_v20_1 : Ref sig .tc := ⟨.hbm, 25, rfl⟩
abbrev main_v20_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S4096x1024 : Shape := ⟨2, ![4096, 1024]⟩
abbrev S4096x6144 : Shape := ⟨2, ![4096, 6144]⟩
abbrev S2x4096x1024 : Shape := ⟨3, ![2, 4096, 1024]⟩
abbrev S3x1024x1024 : Shape := ⟨3, ![3, 1024, 1024]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S_ : Shape := ⟨0, ![]⟩
abbrev S3x4096x1024 : Shape := ⟨3, ![3, 4096, 1024]⟩
abbrev S4x4096x1024 : Shape := ⟨3, ![4, 4096, 1024]⟩
abbrev S6x4096x1024 : Shape := ⟨3, ![6, 4096, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S2x4096x1024, .bf16⟩
  | .hbm, ⟨3, _⟩ => ⟨S3x1024x1024, .bf16⟩
  | .hbm, ⟨4, _⟩ => ⟨S3x1024x1024, .f32⟩
  | .hbm, ⟨5, _⟩ => ⟨S1x4096x1024, .bf16⟩
  | .hbm, ⟨6, _⟩ => ⟨S4096x1024, .bf16⟩
  | .hbm, ⟨7, _⟩ => ⟨S4096x1024, .f32⟩
  | .hbm, ⟨8, _⟩ => ⟨S1x4096x1024, .bf16⟩
  | .hbm, ⟨9, _⟩ => ⟨S4096x1024, .bf16⟩
  | .hbm, ⟨10, _⟩ => ⟨S4096x1024, .f32⟩
  | .hbm, ⟨11, _⟩ => ⟨S1x1024x1024, .f32⟩
  | .hbm, ⟨12, _⟩ => ⟨S1024x1024, .f32⟩
  | .hbm, ⟨13, _⟩ => ⟨S1x1024x1024, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S1x1024x1024, .f32⟩
  | .hbm, ⟨22, _⟩ => ⟨S1024x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x4096x1024, .f32⟩
  | .hbm, ⟨62, _⟩ => ⟨S1x4096x1024, .f32⟩
  | .hbm, ⟨63, _⟩ => ⟨S2x4096x1024, .f32⟩
  | .hbm, ⟨64, _⟩ => ⟨S2x4096x1024, .bf16⟩
  | .hbm, ⟨65, _⟩ => ⟨S1x4096x1024, .f32⟩
  | .hbm, ⟨66, _⟩ => ⟨S1x4096x1024, .f32⟩
  | .hbm, ⟨67, _⟩ => ⟨S2x4096x1024, .f32⟩
  | .hbm, ⟨68, _⟩ => ⟨S2x4096x1024, .bf16⟩
  | .hbm, ⟨69, _⟩ => ⟨S1x4096x1024, .bf16⟩
  | .hbm, ⟨70, _⟩ => ⟨S3x4096x1024, .bf16⟩
  | .hbm, ⟨71, _⟩ => ⟨S_, .bf16⟩
  | .hbm, ⟨72, _⟩ => ⟨S4x4096x1024, .bf16⟩
  | .hbm, ⟨73, _⟩ => ⟨S6x4096x1024, .bf16⟩
  | .hbm, ⟨74, _⟩ => ⟨S1x4096x1024, .f32⟩
  | .hbm, ⟨75, _⟩ => ⟨S1x4096x1024, .f32⟩
  | .hbm, ⟨76, _⟩ => ⟨S2x4096x1024, .f32⟩
  | .hbm, ⟨77, _⟩ => ⟨S2x4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_5 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩

abbrev nD : Nat := 1
abbrev τ : Topo := Topo.v7x

variable {F : FTy → Type} [FloatOps F]
-- ==== Dx1.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S3x4096x1024 : Shape := ⟨3, ![3, 4096, 1024]⟩
abbrev S2x256x2816 : Shape := ⟨3, ![2, 256, 2816]⟩
abbrev S256x1024 : Shape := ⟨2, ![256, 1024]⟩
abbrev S1x256x1024 : Shape := ⟨3, ![1, 256, 1024]⟩
abbrev S1x256x1408 : Shape := ⟨3, ![1, 256, 1408]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S3x4096x1024, .bf16⟩
  | .hbm, ⟨7, _⟩ => ⟨S1x1024, .f32⟩
  | .local _ .vmem, ⟨0, _⟩ => ⟨S2x256x2816, .bf16⟩
  | .local _ .vmem, ⟨1, _⟩ => ⟨S2x256x2816, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Dx1RefIdeal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S1x1024 : Shape := ⟨2, ![1, 1024]⟩
abbrev S1024x4x1408 : Shape := ⟨3, ![1024, 4, 1408]⟩
abbrev S1024x5632 : Shape := ⟨2, ![1024, 5632]⟩
abbrev S4096x2x2816 : Shape := ⟨3, ![4096, 2, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x4096x1024 : Shape := ⟨3, ![1, 4096, 1024]⟩
abbrev S3x4096x1024 : Shape := ⟨3, ![3, 4096, 1024]⟩

abbrev nBuf : Space → Nat
  | .hbm => 59
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4x1024x1408, .f32⟩
  | .hbm, ⟨6, _⟩ => ⟨S1024x4x1408, .f32⟩
  | .hbm, ⟨7, _⟩ => ⟨S1024x5632, .f32⟩
  | .hbm, ⟨8, _⟩ => ⟨S2x4096x2816, .f32⟩
  | .hbm, ⟨9, _⟩ => ⟨S4096x2x2816, .f32⟩
  | .hbm, ⟨10, _⟩ => ⟨S4096x5632, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S1x4096x1024, .bf16⟩
  | .hbm, ⟨58, _⟩ => ⟨S3x4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Dx.lean ====
abbrev S6x4096x1024 : Shape := ⟨3, ![6, 4096, 1024]⟩
abbrev S4x1024x1536 : Shape := ⟨3, ![4, 1024, 1536]⟩
abbrev S2x2048x1024 : Shape := ⟨3, ![2, 2048, 1024]⟩
abbrev S4096x1024 : Shape := ⟨2, ![4096, 1024]⟩
abbrev S1x1024 : Shape := ⟨2, ![1, 1024]⟩
abbrev S6x256x1024 : Shape := ⟨3, ![6, 256, 1024]⟩
abbrev S256x1024 : Shape := ⟨2, ![256, 1024]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S6x4096x1024, .bf16⟩
  | .hbm, ⟨1, _⟩ => ⟨S4x1024x1536, .bf16⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S6x256x1024, .bf16⟩
  | .local _ .vmem, ⟨1, _⟩ => ⟨S6x256x1024, .bf16⟩
  | .local _ .vmem, ⟨2, _⟩ => ⟨S4x1024x1536, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxRefIdeal.lean ====
abbrev S6x4096x1024 : Shape := ⟨3, ![6, 4096, 1024]⟩
abbrev S4x1024x1536 : Shape := ⟨3, ![4, 1024, 1536]⟩
abbrev S2x2048x1024 : Shape := ⟨3, ![2, 2048, 1024]⟩
abbrev S4096x1024 : Shape := ⟨2, ![4096, 1024]⟩
abbrev S1x1024 : Shape := ⟨2, ![1, 1024]⟩
abbrev S1024x4x1536 : Shape := ⟨3, ![1024, 4, 1536]⟩
abbrev S1024x6144 : Shape := ⟨2, ![1024, 6144]⟩
abbrev S6x2x2048x1024 : Shape := ⟨4, ![6, 2, 2048, 1024]⟩
abbrev S1x2x2048x1024 : Shape := ⟨4, ![1, 2, 2048, 1024]⟩
abbrev S2x2048x6144 : Shape := ⟨3, ![2, 2048, 6144]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S6x4096x1024, .bf16⟩
  | .hbm, ⟨1, _⟩ => ⟨S4x1024x1536, .bf16⟩
  | .hbm, ⟨2, _⟩ => ⟨S2x2048x1024, .f32⟩
  | .hbm, ⟨3, _⟩ => ⟨S4096x1024, .f32⟩
  | .hbm, ⟨4, _⟩ => ⟨S1x1024, .f32⟩
  | .hbm, ⟨5, _⟩ => ⟨S4x1024x1536, .f32⟩
  | .hbm, ⟨6, _⟩ => ⟨S1024x4x1536, .f32⟩
  | .hbm, ⟨7, _⟩ => ⟨S1024x6144, .f32⟩
  | .hbm, ⟨8, _⟩ => ⟨S6x4096x1024, .f32⟩
  | .hbm, ⟨9, _⟩ => ⟨S6x2x2048x1024, .f32⟩
  | .hbm, ⟨10, _⟩ => ⟨S1x2x2048x1024, .f32⟩
  | .hbm, ⟨11, _⟩ => ⟨S2x2048x1024, .f32⟩
  | .hbm, ⟨12, _⟩ => ⟨S1x2x2048x1024, .f32⟩
  | .hbm, ⟨13, _⟩ => ⟨S2x2048x1024, .f32⟩
  | .hbm, ⟨14, _⟩ => ⟨S1x2x2048x1024, .f32⟩
  | .hbm, ⟨15, _⟩ => ⟨S2x2048x1024, .f32⟩
  | .hbm, ⟨16, _⟩ => ⟨S1x2x2048x1024, .f32⟩
  | .hbm, ⟨17, _⟩ => ⟨S2x2048x1024, .f32⟩
  | .hbm, ⟨18, _⟩ => ⟨S1x2x2048x1024, .f32⟩
  | .hbm, ⟨19, _⟩ => ⟨S2x2048x1024, .f32⟩
  | .hbm, ⟨20, _⟩ => ⟨S1x2x2048x1024, .f32⟩
  | .hbm, ⟨21, _⟩ => ⟨S2x2048x1024, .f32⟩
  | .hbm, ⟨22, _⟩ => ⟨S2x2048x6144, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1, .f32⟩
  | .hbm, ⟨35, _⟩ => ⟨S_, .f32⟩
  | .hbm, ⟨36, _⟩ => ⟨S2x2048x1, .f32⟩
  | .hbm, ⟨37, _⟩ => ⟨S2x2048x1, .f32⟩
  | .hbm, ⟨38, _⟩ => ⟨S2x2048x1024, .f32⟩
  | .hbm, ⟨39, _⟩ => ⟨S2x2048x1024, .f32⟩
  | .hbm, ⟨40, _⟩ => ⟨S1x1x1024, .f32⟩
  | .hbm, ⟨41, _⟩ => ⟨S2x2048x1024, .f32⟩
  | .hbm, ⟨42, _⟩ => ⟨S2x2048x1024, .f32⟩
  | .hbm, ⟨43, _⟩ => ⟨S2x2048x6144, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S_, .f32⟩
  | .hbm, ⟨48, _⟩ => ⟨S1024, .f32⟩
  | .hbm, ⟨49, _⟩ => ⟨S1x1x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2x2048x1024, .f32⟩
  | .hbm, ⟨56, _⟩ => ⟨S_, .f32⟩
  | .hbm, ⟨57, _⟩ => ⟨S2x2048, .f32⟩
  | .hbm, ⟨58, _⟩ => ⟨S2x2048x1, .f32⟩
  | .hbm, ⟨59, _⟩ => ⟨S2x2048x1024, .f32⟩
  | .hbm, ⟨60, _⟩ => ⟨S2x2048x1024, .f32⟩
  | .hbm, ⟨61, _⟩ => ⟨S2x2048x1024, .f32⟩
  | .hbm, ⟨62, _⟩ => ⟨S2x2048x1, .f32⟩
  | .hbm, ⟨63, _⟩ => ⟨S_, .f32⟩
  | .hbm, ⟨64, _⟩ => ⟨S2x2048x1, .f32⟩
  | .hbm, ⟨65, _⟩ => ⟨S2x2048x1, .f32⟩
  | .hbm, ⟨66, _⟩ => ⟨S_, .f32⟩
  | .hbm, ⟨67, _⟩ => ⟨S2x2048, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x1024, .f32⟩
  | .hbm, ⟨72, _⟩ => ⟨S2x2048x1024, .f32⟩
  | .hbm, ⟨73, _⟩ => ⟨S4096x1024, .f32⟩
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_v20 : Ref sig .tc := ⟨.hbm, 26, rfl⟩
abbrev main_cst_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Loss.lean ====
abbrev S4096x2816 : Shape := ⟨2, ![4096, 2816]⟩
abbrev S2816x1024 : Shape := ⟨2, ![2816, 1024]⟩
abbrev S4096x1024 : Shape := ⟨2, ![4096, 1024]⟩
abbrev S2x2048x1024 : Shape := ⟨3, ![2, 2048, 1024]⟩
abbrev S1024 : Shape := ⟨1, ![1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 11
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x2048x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1, .f32⟩
  | .hbm, ⟨10, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1, .f32⟩
  | .local _ .vmem, ⟨13, _⟩ => ⟨S1x1024, .f32⟩
  | .local _ .vmem, ⟨14, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v57 : BitVec 1 := Scalar.cmpi .eq arg0 c15_i32
  let v58 : BitVec 32 := Scalar.extui v57
  let c0_i32_30 : BitVec 32 := 0#32
  let v59 : BitVec 1 := Scalar.cmpi .ne v58 c0_i32_30
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S2816x1024 : Shape := ⟨2, ![2816, 1024]⟩
abbrev S4096x1024 : Shape := ⟨2, ![4096, 1024]⟩
abbrev S2x2048x1024 : Shape := ⟨3, ![2, 2048, 1024]⟩
abbrev S1024 : Shape := ⟨1, ![1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x1 : Shape := ⟨2, ![1, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S4096x2816, .f32⟩
  | .hbm, ⟨7, _⟩ => ⟨S2x2048x2816, .f32⟩
  | .hbm, ⟨8, _⟩ => ⟨S2816x1024, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S2x2048x1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S_, .f32⟩
  | .hbm, ⟨39, _⟩ => ⟨S2x2048, .f32⟩
  | .hbm, ⟨40, _⟩ => ⟨S2x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S_, .f32⟩
  | .hbm, ⟨56, _⟩ => ⟨S1024, .f32⟩
  | .hbm, ⟨57, _⟩ => ⟨S1x1x1024, .f32⟩
  | .hbm, ⟨58, _⟩ => ⟨S2x2048x1024, .f32⟩
  | .hbm, ⟨59, _⟩ => ⟨S2x2048x1024, .f32⟩
  | .hbm, ⟨60, _⟩ => ⟨S_, .f32⟩
  | .hbm, ⟨61, _⟩ => ⟨S1024, .f32⟩
  | .hbm, ⟨62, _⟩ => ⟨S2x2048x1024, .f32⟩
  | .hbm, ⟨63, _⟩ => ⟨S_, .f32⟩
  | .hbm, ⟨64, _⟩ => ⟨S2x2048, .f32⟩
  | .hbm, ⟨65, _⟩ => ⟨S2x2048x1, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x1024, .f32⟩
  | .hbm, ⟨80, _⟩ => ⟨S4096x1024, .bf16⟩
  | .hbm, ⟨81, _⟩ => ⟨S1x1, .f32⟩
  | .hbm, ⟨82, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== Pool.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S1x2048x256 : Shape := ⟨3, ![1, 2048, 256]⟩
abbrev S2048x256 : Shape := ⟨2, ![2048, 256]⟩
abbrev S1x256x256 : Shape := ⟨3, ![1, 256, 256]⟩
abbrev S1x256 : Shape := ⟨2, ![1, 256]⟩
abbrev S256x256 : Shape := ⟨2, ![256, 256]⟩
abbrev S256 : Shape := ⟨1, ![256]⟩

abbrev nBuf : Space → Nat
  | .hbm => 8
  | .vmem => 14
  | .smem => 0
  | _ => 0

abbrev bufTy : (tb : Table) → Fin (tcTables nBuf tb) → BufTy
  | .hbm, ⟨0, _⟩ => ⟨S6x4096x1024, .bf16⟩
  | .hbm, ⟨1, _⟩ => ⟨S2x4096x1024, .bf16⟩
  | .hbm, ⟨2, _⟩ => ⟨S4096x6144, .bf16⟩
  | .hbm, ⟨3, _⟩ => ⟨S4x256x256, .bf16⟩
  | .hbm, ⟨4, _⟩ => ⟨S1x1024, .f32⟩
  | .hbm, ⟨5, _⟩ => ⟨S6x4096x1024, .bf16⟩
  | .hbm, ⟨6, _⟩ => ⟨S4x256x256, .f32⟩
  | .hbm, ⟨7, _⟩ => ⟨S1x1024, .f32⟩
  | .local _ .vmem, ⟨0, _⟩ => ⟨S1x2048x256, .bf16⟩
  | .local _ .vmem, ⟨1, _⟩ => ⟨S1x2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256, .f32⟩
  | .local _ .vmem, ⟨7, _⟩ => ⟨S1x256, .f32⟩
  | .local _ .vmem, ⟨8, _⟩ => ⟨S1x2048x256, .bf16⟩
  | .local _ .vmem, ⟨9, _⟩ => ⟨S1x2048x256, .bf16⟩
  | .local _ .vmem, ⟨10, _⟩ => ⟨S1x256x256, .f32⟩
  | .local _ .vmem, ⟨11, _⟩ => ⟨S1x256x256, .f32⟩
  | .local _ .vmem, ⟨12, _⟩ => ⟨S1x256, .f32⟩
  | .local _ .vmem, ⟨13, _⟩ => ⟨S1x256, .f32⟩
  | _, _ => ⟨S6x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg0 : BitVec 32 := BitVec.ofNat 32 (i 0).val
  let c0_i32_1 : BitVec 32 := 0#32
  let v4 : BitVec 1 := Scalar.cmpi .eq arg0 c0_i32_1
  let v5 : BitVec 32 := Scalar.extui v4
  let c0_i32_2 : BitVec 32 := 0#32
  let v6 : BitVec 1 := Scalar.cmpi .ne v5 c0_i32_2
  v6

def k0_cond3 (i : grid0.Coords) : BitVec 1 :=
  let arg0 : BitVec 32 := BitVec.ofNat 32 (i 0).val
  let c1_i32 : BitVec 32 := 1#32
  let v7 : BitVec 1 := Scalar.cmpi .eq arg0 c1_i32
  let v8 : BitVec 32 := Scalar.extui v7
  let c0_i32_3 : BitVec 32 := 0#32
  let v9 : BitVec 1 := Scalar.cmpi .ne v8 c0_i32_3
  v9

def k0_cond4 (i : grid0.Coords) : BitVec 1 :=
  let arg0 : BitVec 32 := BitVec.ofNat 32 (i 0).val
  let c2_i32 : BitVec 32 := 2#32
  let v10 : BitVec 1 := Scalar.cmpi .eq arg0 c2_i32
  let v11 : BitVec 32 := Scalar.extui v10
  let c0_i32_4 : BitVec 32 := 0#32
  let v12 : BitVec 1 := Scalar.cmpi .ne v11 c0_i32_4
  v12

def k0_cond5 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_5 : BitVec 32 := 0#32
  let v15 : BitVec 1 := Scalar.cmpi .ne v14 c0_i32_5
  v15

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== PoolRefIdeal.lean ====
abbrev S6x4096x1024 : Shape := ⟨3, ![6, 4096, 1024]⟩
abbrev S2x4096x1024 : Shape := ⟨3, ![2, 4096, 1024]⟩
abbrev S4096x6144 : Shape := ⟨2, ![4096, 6144]⟩
abbrev S4x256x256 : Shape := ⟨3, ![4, 256, 256]⟩
abbrev S1x1024 : Shape := ⟨2, ![1, 1024]⟩
abbrev S4096x1024 : Shape := ⟨2, ![4096, 1024]⟩
abbrev S2x2048x1024 : Shape := ⟨3, ![2, 2048, 1024]⟩
abbrev S1x4096x1024 : Shape := ⟨3, ![1, 4096, 1024]⟩
abbrev S2048 : Shape := ⟨1, ![2048]⟩
abbrev S_ : Shape := ⟨0, ![]⟩
abbrev S2x2048x256 : Shape := ⟨3, ![2, 2048, 256]⟩
abbrev S2x1x256 : Shape := ⟨3, ![2, 1, 256]⟩
abbrev S2x2049x256 : Shape := ⟨3, ![2, 2049, 256]⟩
abbrev S2x2047x256 : Shape := ⟨3, ![2, 2047, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4x256x2x2048 : Shape := ⟨4, ![4, 256, 2, 2048]⟩
abbrev S1x1x1024 : Shape := ⟨3, ![1, 1, 1024]⟩
abbrev S1024 : Shape := ⟨1, ![1024]⟩
abbrev S4x2x2048x256 : Shape := ⟨4, ![4, 2, 2048, 256]⟩
abbrev S3x4096x1024 : Shape := ⟨3, ![3, 4096, 1024]⟩

abbrev nBuf : Space → Nat
  | .hbm => 232
  | .vmem => 0
  | .smem => 0
  | _ => 0

abbrev hbmTy0_0 (i : Nat) : BufTy := match i % 128 with
  | 0 => ⟨S6x4096x1024, .bf16⟩
  | 1 => ⟨S2x4096x1024, .bf16⟩
  | 2 => ⟨S4096x6144, .bf16⟩
  | 3 => ⟨S4x256x256, .bf16⟩
  | 4 => ⟨S1x1024, .f32⟩
  | 5 => ⟨S4096x1024, .bf16⟩
  | 6 => ⟨S4096x1024, .f32⟩
  | 7 => ⟨S2x2048x1024, .f32⟩
  | 8 => ⟨S1x4096x1024, .bf16⟩
  | 9 => ⟨S4096x1024, .bf16⟩
  | 10 => ⟨S4096x1024, .f32⟩
  | 11 => ⟨S2x2048x1024, .f32⟩
  | 12 => ⟨S4x256x256, .f32⟩
  | 13 => ⟨S2048, .i32⟩
  | 14 => ⟨S_, .i32⟩
  | 15 => ⟨S2048, .i32⟩
  | 16 => ⟨S2048, .i32⟩
  | 17 => ⟨S2048, .f32⟩
  | 18 => ⟨S2x2048x256, .f32⟩
  | 19 => ⟨S_, .f32⟩
  | 20 => ⟨S2x1x256, .f32⟩
  | 21 => ⟨S_, .f32⟩
  | 22 => ⟨S_, .f32⟩
  | 23 => ⟨S2x2048x256, .f32⟩
  | 24 => ⟨S2x2049x256, .f32⟩
  | 25 => ⟨S_, .f32⟩
  | 26 => ⟨S2x1x256, .f32⟩
  | 27 => ⟨S2x2048x256, .f32⟩
  | 28 => ⟨S_, .f32⟩
  | 29 => ⟨S2x1x256, .f32⟩
  | 30 => ⟨S2x2047x256, .f32⟩
  | 31 => ⟨S2x2048x256, .f32⟩
  | 32 => ⟨S_, .f32⟩
  | 33 => ⟨S2x1x256, .f32⟩
  | 34 => ⟨S_, .f32⟩
  | 35 => ⟨S2048, .f32⟩
  | 36 => ⟨S2048, .f32⟩
  | 37 => ⟨S1x2048x1, .f32⟩
  | 38 => ⟨S2x2048x256, .f32⟩
  | 39 => ⟨S2x2048x256, .f32⟩
  | 40 => ⟨S2x2048x256, .f32⟩
  | 41 => ⟨S2x2048x256, .f32⟩
  | 42 => ⟨S2x2048x256, .f32⟩
  | 43 => ⟨S_, .f32⟩
  | 44 => ⟨S2x1x256, .f32⟩
  | 45 => ⟨S_, .f32⟩
  | 46 => ⟨S_, .f32⟩
  | 47 => ⟨S2x2048x256, .f32⟩
  | 48 => ⟨S2x2049x256, .f32⟩
  | 49 => ⟨S_, .f32⟩
  | 50 => ⟨S2x1x256, .f32⟩
  | 51 => ⟨S2x2048x256, .f32⟩
  | 52 => ⟨S_, .f32⟩
  | 53 => ⟨S2x3x256, .f32⟩
  | 54 => ⟨S2x2045x256, .f32⟩
  | 55 => ⟨S2x2048x256, .f32⟩
  | 56 => ⟨S_, .f32⟩
  | 57 => ⟨S2x3x256, .f32⟩
  | 58 => ⟨S_, .f32⟩
  | 59 => ⟨S2048, .f32⟩
  | 60 => ⟨S2048, .f32⟩
  | 61 => ⟨S1x2048x1, .f32⟩
  | 62 => ⟨S2x2048x256, .f32⟩
  | 63 => ⟨S2x2048x256, .f32⟩
  | 64 => ⟨S2x2048x256, .f32⟩
  | 65 => ⟨S2x2048x256, .f32⟩
  | 66 => ⟨S2x2048x256, .f32⟩
  | 67 => ⟨S_, .f32⟩
  | 68 => ⟨S2x1x256, .f32⟩
  | 69 => ⟨S_, .f32⟩
  | 70 => ⟨S_, .f32⟩
  | 71 => ⟨S2x2048x256, .f32⟩
  | 72 => ⟨S2x2049x256, .f32⟩
  | 73 => ⟨S_, .f32⟩
  | 74 => ⟨S2x1x256, .f32⟩
  | 75 => ⟨S2x2048x256, .f32⟩
  | 76 => ⟨S_, .f32⟩
  | 77 => ⟨S2x7x256, .f32⟩
  | 78 => ⟨S2x2041x256, .f32⟩
  | 79 => ⟨S2x2048x256, .f32⟩
  | 80 => ⟨S_, .f32⟩
  | 81 => ⟨S2x7x256, .f32⟩
  | 82 => ⟨S_, .f32⟩
  | 83 => ⟨S2048, .f32⟩
  | 84 => ⟨S2048, .f32⟩
  | 85 => ⟨S1x2048x1, .f32⟩
  | 86 => ⟨S2x2048x256, .f32⟩
  | 87 => ⟨S2x2048x256, .f32⟩
  | 88 => ⟨S2x2048x256, .f32⟩
  | 89 => ⟨S2x2048x256, .f32⟩
  | 90 => ⟨S2x2048x256, .f32⟩
  | 91 => ⟨S_, .f32⟩
  | 92 => ⟨S2x1x256, .f32⟩
  | 93 => ⟨S_, .f32⟩
  | 94 => ⟨S_, .f32⟩
  | 95 => ⟨S2x2048x256, .f32⟩
  | 96 => ⟨S2x2049x256, .f32⟩
  | 97 => ⟨S_, .f32⟩
  | 98 => ⟨S2x1x256, .f32⟩
  | 99 => ⟨S2x2048x256, .f32⟩
  | 100 => ⟨S_, .f32⟩
  | 101 => ⟨S2x15x256, .f32⟩
  | 102 => ⟨S2x2033x256, .f32⟩
  | 103 => ⟨S2x2048x256, .f32⟩
  | 104 => ⟨S_, .f32⟩
  | 105 => ⟨S2x15x256, .f32⟩
  | 106 => ⟨S_, .f32⟩
  | 107 => ⟨S2048, .f32⟩
  | 108 => ⟨S2048, .f32⟩
  | 109 => ⟨S1x2048x1, .f32⟩
  | 110 => ⟨S2x2048x256, .f32⟩
  | 111 => ⟨S2x2048x256, .f32⟩
  | 112 => ⟨S2x2048x256, .f32⟩
  | 113 => ⟨S2x2048x256, .f32⟩
  | 114 => ⟨S2x2048x1x256, .f32⟩
  | 115 => ⟨S2x2048x1x256, .f32⟩
  | 116 => ⟨S2x2048x1x256, .f32⟩
  | 117 => ⟨S2x2048x1x256, .f32⟩
  | 118 => ⟨S2x2048x4x256, .f32⟩
  | 119 => ⟨S4x256x2x2048, .f32⟩
  | 120 => ⟨S2x2048x4x256, .f32⟩
  | 121 => ⟨S2x2048x1024, .f32⟩
  | 122 => ⟨S1x1x1024, .f32⟩
  | 123 => ⟨S2x2048x1024, .f32⟩
  | 124 => ⟨S2x2048x1024, .f32⟩
  | 125 => ⟨S2x2048x1024, .f32⟩
  | 126 => ⟨S_, .f32⟩
  | 127 => ⟨S1024, .f32⟩
  | _ => ⟨S6x4096x1024, .bf16⟩

abbrev hbmTy0_1 (i : Nat) : BufTy := match i % 128 with
  | 0 => ⟨S1x1x1024, .f32⟩
  | 1 => ⟨S2x2048x1024, .f32⟩
  | 2 => ⟨S2x2048x1024, .f32⟩
  | 3 => ⟨S_, .f32⟩
  | 4 => ⟨S1024, .f32⟩
  | 5 => ⟨S1x1024, .f32⟩
  | 6 => ⟨S2x2048x4x256, .f32⟩
  | 7 => ⟨S4x256x2x2048, .f32⟩
  | 8 => ⟨S4x2x2048x256, .f32⟩
  | 9 => ⟨S2x2048x4x256, .f32⟩
  | 10 => ⟨S4x256x256, .f32⟩
  | 11 => ⟨S4x256x256, .f32⟩
  | 12 => ⟨S2x2048x1x256, .f32⟩
  | 13 => ⟨S2x2048x256, .f32⟩
  | 14 => ⟨S2x2048x1x256, .f32⟩
  | 15 => ⟨S2x2048x256, .f32⟩
  | 16 => ⟨S2x2048x1x256, .f32⟩
  | 17 => ⟨S2x2048x256, .f32⟩
  | 18 => ⟨S2x2048x1x256, .f32⟩
  | 19 => ⟨S2x2048x256, .f32⟩
  | 20 => ⟨S2x2048x256, .f32⟩
  | 21 => ⟨S2x2048x256, .f32⟩
  | 22 => ⟨S2x2048x256, .f32⟩
  | 23 => ⟨S2x2048x256, .f32⟩
  | 24 => ⟨S2x15x256, .f32⟩
  | 25 => ⟨S2x2033x256, .f32⟩
  | 26 => ⟨S_, .f32⟩
  | 27 => ⟨S2x2049x256, .f32⟩
  | 28 => ⟨S_, .f32⟩
  | 29 => ⟨S2x2049x256, .f32⟩
  | 30 => ⟨S2x2049x256, .f32⟩
  | 31 => ⟨S2x1x256, .f32⟩
  | 32 => ⟨S2x2048x256, .f32⟩
  | 33 => ⟨S_, .f32⟩
  | 34 => ⟨S_, .f32⟩
  | 35 => ⟨S2x2048x256, .f32⟩
  | 36 => ⟨S2x2048x256, .f32⟩
  | 37 => ⟨S_, .f32⟩
  | 38 => ⟨S2x2048x1024, .f32⟩
  | 39 => ⟨S2x2048x256, .f32⟩
  | 40 => ⟨S2x2048x256, .f32⟩
  | 41 => ⟨S2x2048x256, .f32⟩
  | 42 => ⟨S2x2048x256, .f32⟩
  | 43 => ⟨S2x7x256, .f32⟩
  | 44 => ⟨S2x2041x256, .f32⟩
  | 45 => ⟨S_, .f32⟩
  | 46 => ⟨S2x2049x256, .f32⟩
  | 47 => ⟨S_, .f32⟩
  | 48 => ⟨S2x2049x256, .f32⟩
  | 49 => ⟨S2x2049x256, .f32⟩
  | 50 => ⟨S2x1x256, .f32⟩
  | 51 => ⟨S2x2048x256, .f32⟩
  | 52 => ⟨S_, .f32⟩
  | 53 => ⟨S_, .f32⟩
  | 54 => ⟨S2x2048x256, .f32⟩
  | 55 => ⟨S2x2048x256, .f32⟩
  | 56 => ⟨S_, .f32⟩
  | 57 => ⟨S2x2048x1024, .f32⟩
  | 58 => ⟨S2x2048x1024, .f32⟩
  | 59 => ⟨S2x2048x256, .f32⟩
  | 60 => ⟨S2x2048x256, .f32⟩
  | 61 => ⟨S2x2048x256, .f32⟩
  | 62 => ⟨S2x2048x256, .f32⟩
  | 63 => ⟨S2x3x256, .f32⟩
  | 64 => ⟨S2x2045x256, .f32⟩
  | 65 => ⟨S_, .f32⟩
  | 66 => ⟨S2x2049x256, .f32⟩
  | 67 => ⟨S_, .f32⟩
  | 68 => ⟨S2x2049x256, .f32⟩
  | 69 => ⟨S2x2049x256, .f32⟩
  | 70 => ⟨S2x1x256, .f32⟩
  | 71 => ⟨S2x2048x256, .f32⟩
  | 72 => ⟨S_, .f32⟩
  | 73 => ⟨S_, .f32⟩
  | 74 => ⟨S2x2048x256, .f32⟩
  | 75 => ⟨S2x2048x256, .f32⟩
  | 76 => ⟨S_, .f32⟩
  | 77 => ⟨S2x2048x1024, .f32⟩
  | 78 => ⟨S2x2048x1024, .f32⟩
  | 79 => ⟨S2x2048x256, .f32⟩
  | 80 => ⟨S2x2048x256, .f32⟩
  | 81 => ⟨S2x2048x256, .f32⟩
  | 82 => ⟨S2x2048x256, .f32⟩
  | 83 => ⟨S2x1x256, .f32⟩
  | 84 => ⟨S2x2047x256, .f32⟩
  | 85 => ⟨S_, .f32⟩
  | 86 => ⟨S2x2049x256, .f32⟩
  | 87 => ⟨S_, .f32⟩
  | 88 => ⟨S2x2049x256, .f32⟩
  | 89 => ⟨S2x2049x256, .f32⟩
  | 90 => ⟨S2x1x256, .f32⟩
  | 91 => ⟨S2x2048x256, .f32⟩
  | 92 => ⟨S_, .f32⟩
  | 93 => ⟨S_, .f32⟩
  | 94 => ⟨S2x2048x256, .f32⟩
  | 95 => ⟨S2x2048x256, .f32⟩
  | 96 => ⟨S_, .f32⟩
  | 97 => ⟨S2x2048x1024, .f32⟩
  | 98 => ⟨S2x2048x1024, .f32⟩
  | 99 => ⟨S1x4096x1024, .f32⟩
  | 100 => ⟨S1x4096x1024, .bf16⟩
  | 101 => ⟨S3x4096x1024, .bf16⟩
  | 102 => ⟨S2x4096x1024, .bf16⟩
  | 103 => ⟨S6x4096x1024, .bf16⟩
  | _ => ⟨S6x4096x1024, .bf16⟩

abbrev hbmTy (i : Nat) : BufTy := match i / 128 with
  | 0 => hbmTy0_0 i
  | 1 => hbmTy0_1 i
  | _ => ⟨S6x4096x1024, .bf16⟩

abbrev bufTy : (tb : Table) → Fin (tcTables nBuf tb) → BufTy
  | .hbm, ⟨i, _⟩ => hbmTy i
  | _, _ => ⟨S6x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_call0_call0_cst : Ref sig .tc := ⟨.hbm, 21, rfl⟩
abbrev main_call0_call0_v0 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_call1_call0_cst : Ref sig .tc := ⟨.hbm, 45, rfl⟩
abbrev main_call1_call0_v0 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_call2_call0_cst : Ref sig .tc := ⟨.hbm, 69, rfl⟩
abbrev main_call2_call0_v0 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_cst_11 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_call3_call0_cst : Ref sig .tc := ⟨.hbm, 93, rfl⟩
abbrev main_call3_call0_v0 : Ref sig .tc := ⟨.hbm, 94, rfl⟩
abbrev main_v65 : Ref sig .tc := ⟨.hbm, 95, rfl⟩
abbrev main_v66 : Ref sig .tc := ⟨.hbm, 96, rfl⟩
abbrev main_cst_15 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_17 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_20 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_cst_21 : Ref sig .tc := ⟨.hbm, 154, rfl⟩
abbrev main_v118 : Ref sig .tc := ⟨.hbm, 155, rfl⟩
abbrev main_cst_22 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_call4_call0_cst : Ref sig .tc := ⟨.hbm, 161, rfl⟩
abbrev main_call4_call0_v0 : Ref sig .tc := ⟨.hbm, 162, rfl⟩
abbrev main_v123 : Ref sig .tc := ⟨.hbm, 163, rfl⟩
abbrev main_v124 : Ref sig .tc := ⟨.hbm, 164, rfl⟩
abbrev main_cst_23 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_24 : Ref sig .tc := ⟨.hbm, 173, rfl⟩
abbrev main_v132 : Ref sig .tc := ⟨.hbm, 174, rfl⟩
abbrev main_cst_25 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_call5_call0_cst : Ref sig .tc := ⟨.hbm, 180, rfl⟩
abbrev main_call5_call0_v0 : Ref sig .tc := ⟨.hbm, 181, rfl⟩
abbrev main_v137 : Ref sig .tc := ⟨.hbm, 182, rfl⟩
abbrev main_v138 : Ref sig .tc := ⟨.hbm, 183, rfl⟩
abbrev main_cst_26 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_cst_27 : Ref sig .tc := ⟨.hbm, 193, rfl⟩
abbrev main_v147 : Ref sig .tc := ⟨.hbm, 194, rfl⟩
abbrev main_cst_28 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_call6_call0_cst : Ref sig .tc := ⟨.hbm, 200, rfl⟩
abbrev main_call6_call0_v0 : Ref sig .tc := ⟨.hbm, 201, rfl⟩
abbrev main_v152 : Ref sig .tc := ⟨.hbm, 202, rfl⟩
abbrev main_v153 : Ref sig .tc := ⟨.hbm, 203, rfl⟩
abbrev main_cst_29 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_30 : Ref sig .tc := ⟨.hbm, 213, rfl⟩
abbrev main_v162 : Ref sig .tc := ⟨.hbm, 214, rfl⟩
abbrev main_cst_31 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_call7_call0_cst : Ref sig .tc := ⟨.hbm, 220, rfl⟩
abbrev main_call7_call0_v0 : Ref sig .tc := ⟨.hbm, 221, rfl⟩
abbrev main_v167 : Ref sig .tc := ⟨.hbm, 222, rfl⟩
abbrev main_v168 : Ref sig .tc := ⟨.hbm, 223, rfl⟩
abbrev main_cst_32 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩

abbrev nD : Nat := 1
abbrev τ : Topo := Topo.v7x

variable {F : FTy → Type} [FloatOps F]
-- ==== Mid.lean ====
abbrev S4096x2816 : Shape := ⟨2, ![4096, 2816]⟩
abbrev S2x4096x2816 : Shape := ⟨3, ![2, 4096, 2816]⟩
abbrev S3x5632 : Shape := ⟨2, ![3, 5632]⟩
abbrev S1x5632 : Shape := ⟨2, ![1, 5632]⟩
abbrev S3x2x2816 : Shape := ⟨3, ![3, 2, 2816]⟩
abbrev S2x3x2816 : Shape := ⟨3, ![2, 3, 2816]⟩
abbrev S2x1x2816 : Shape := ⟨3, ![2, 1, 2816]⟩
abbrev S2x2048x256 : Shape := ⟨3, ![2, 2048, 256]⟩
abbrev S2x3x256 : Shape := ⟨3, ![2, 3, 256]⟩
abbrev S2x1x256 : Shape := ⟨3, ![2, 1, 256]⟩
abbrev S2048x256 : Shape := ⟨2, ![2048, 256]⟩
abbrev S1x2048x256 : Shape := ⟨3, ![1, 2048, 256]⟩
abbrev S1x1x256 : Shape := ⟨3, ![1, 1, 256]⟩
abbrev S1x256 : Shape := ⟨2, ![1, 256]⟩
abbrev S2048x128 : Shape := ⟨2, ![2048, 128]⟩
abbrev S2x2048x128 : Shape := ⟨3, ![2, 2048, 128]⟩
abbrev S2x3x128 : Shape := ⟨3, ![2, 3, 128]⟩
abbrev S2x1x128 : Shape := ⟨3, ![2, 1, 128]⟩
abbrev S8x128 : Shape := ⟨2, ![8, 128]⟩
abbrev S1x64x128 : Shape := ⟨3, ![1, 64, 128]⟩
abbrev S64x128 : Shape := ⟨2, ![64, 128]⟩
abbrev S72x128 : Shape := ⟨2, ![72, 128]⟩
abbrev S1x1x128 : Shape := ⟨3, ![1, 1, 128]⟩
abbrev S1x128 : Shape := ⟨2, ![1, 128]⟩
abbrev S8x8x128 : Shape := ⟨3, ![8, 8, 128]⟩
abbrev S128 : Shape := ⟨1, ![128]⟩

abbrev nBuf : Space → Nat
  | .hbm => 12
  | .vmem => 24
  | .smem => 0
  | _ => 0

abbrev bufTy : (tb : Table) → Fin (tcTables nBuf tb) → BufTy
  | .hbm, ⟨0, _⟩ => ⟨S4096x2816, .bf16⟩
  | .hbm, ⟨1, _⟩ => ⟨S2x4096x2816, .bf16⟩
  | .hbm, ⟨2, _⟩ => ⟨S3x5632, .f32⟩
  | .hbm, ⟨3, _⟩ => ⟨S1x5632, .f32⟩
  | .hbm, ⟨4, _⟩ => ⟨S3x2x2816, .f32⟩
  | .hbm, ⟨5, _⟩ => ⟨S2x3x2816, .f32⟩
  | .hbm, ⟨6, _⟩ => ⟨S2x1x2816, .f32⟩
  | .hbm, ⟨7, _⟩ => ⟨S4096x2816, .bf16⟩
  | .hbm, ⟨8, _⟩ => ⟨S2x4096x2816, .bf16⟩
  | .hbm, ⟨9, _⟩ => ⟨S2x4096x2816, .bf16⟩
  | .hbm, ⟨10, _⟩ => ⟨S2x3x2816, .f32⟩
  | .hbm, ⟨11, _⟩ => ⟨S2x1x2816, .f32⟩
  | .local _ .vmem, ⟨0, _⟩ => ⟨S2x2048x256, .bf16⟩
  | .local _ .vmem, ⟨1, _⟩ => ⟨S2x2048x256, .bf16⟩
  | .local _ .vmem, ⟨2, _⟩ => ⟨S2x3x256, .f32⟩
  | .local _ .vmem, ⟨3, _⟩ => ⟨S2x3x256, .f32⟩
  | .local _ .vmem, ⟨4, _⟩ => ⟨S2x1x256, .f32⟩
  | .local _ .vmem, ⟨5, _⟩ => ⟨S2x1x256, .f32⟩
  | .local _ .vmem, ⟨6, _⟩ => ⟨S2048x256, .bf16⟩
  | .local _ .vmem, ⟨7, _⟩ => ⟨S2048x256, .bf16⟩
  | .local _ .vmem, ⟨8, _⟩ => ⟨S2x2048x256, .bf16⟩
  | .local _ .vmem, ⟨9, _⟩ => ⟨S2x2048x256, .bf16⟩
  | .local _ .vmem, ⟨10, _⟩ => ⟨S2048x128, .bf16⟩
  | .local _ .vmem, ⟨11, _⟩ => ⟨S2048x128, .bf16⟩
  | .local _ .vmem, ⟨12, _⟩ => ⟨S2x2048x128, .bf16⟩
  | .local _ .vmem, ⟨13, _⟩ => ⟨S2x2048x128, .bf16⟩
  | .local _ .vmem, ⟨14, _⟩ => ⟨S2x2048x128, .bf16⟩
  | .local _ .vmem, ⟨15, _⟩ => ⟨S2x2048x128, .bf16⟩
  | .local _ .vmem, ⟨16, _⟩ => ⟨S2x3x128, .f32⟩
  | .local _ .vmem, ⟨17, _⟩ => ⟨S2x3x128, .f32⟩
  | .local _ .vmem, ⟨18, _⟩ => ⟨S2x2048x128, .bf16⟩
  | .local _ .vmem, ⟨19, _⟩ => ⟨S2x2048x128, .bf16⟩
  | .local _ .vmem, ⟨20, _⟩ => ⟨S2x3x128, .f32⟩
  | .local _ .vmem, ⟨21, _⟩ => ⟨S2x3x128, .f32⟩
  | .local _ .vmem, ⟨22, _⟩ => ⟨S2x1x128, .f32⟩
  | .local _ .vmem, ⟨23, _⟩ => ⟨S2x1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![11, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![22, 2], ![false, false]⟩

@[reducible] def k1_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k1_mult1 (k1_t1 : Fin k1_t1_loop.trips) : BitVec 32 :=
  let c31_i32 : BitVec 32 := 31#32
  let c0_i32_1 : BitVec 32 := 0#32
  let c1_i32 : BitVec 32 := 1#32
  let arg9 : BitVec 32 := Scf.iv c0_i32_1 c1_i32 k1_t1
  let v70 : BitVec 32 := Scalar.subi c31_i32 arg9
  let c64_i32 : BitVec 32 := 64#32
  let v71 : BitVec 32 := Scalar.muli v70 c64_i32
  v71
def k1_off1 (k1_t1 : Fin k1_t1_loop.trips) : Fin 3 → Nat :=
  let c0_56 : Index := 0#32
  let c31_i32 : BitVec 32 := 31#32
  let c0_i32_1 : BitVec 32 := 0#32
  let c1_i32 : BitVec 32 := 1#32
  let arg9 : BitVec 32 := Scf.iv c0_i32_1 c1_i32 k1_t1
  let v70 : BitVec 32 := Scalar.subi c31_i32 arg9
  let c64_i32 : BitVec 32 := 64#32
  let v71 : BitVec 32 := Scalar.muli v70 c64_i32
  let v72 : BitVec 32 := v71
  let v73 : Index := Scalar.indexCast v72
  let c0_57 : Index := 0#32
  ![0, v73.toNat, 0]
def k1_off2 (k1_t1 : Fin k1_t1_loop.trips) : Fin 3 → Nat :=
  let c1_58 : Index := 1#32
  let c31_i32 : BitVec 32 := 31#32
  let c0_i32_1 : BitVec 32 := 0#32
  let c1_i32 : BitVec 32 := 1#32
  let arg9 : BitVec 32 := Scf.iv c0_i32_1 c1_i32 k1_t1
  let v70 : BitVec 32 := Scalar.subi c31_i32 arg9
  let c64_i32 : BitVec 32 := 64#32
  let v71 : BitVec 32 := Scalar.muli v70 c64_i32
  let v72 : BitVec 32 := v71
  let v77 : Index := Scalar.indexCast v72
  let c0_59 : Index := 0#32
  ![1, v77.toNat, 0]
def k1_off3 (k1_t1 : Fin k1_t1_loop.trips) : Fin 2 → Nat :=
  let c31_i32 : BitVec 32 := 31#32
  let c0_i32_1 : BitVec 32 := 0#32
  let c1_i32 : BitVec 32 := 1#32
  let arg9 : BitVec 32 := Scf.iv c0_i32_1 c1_i32 k1_t1
  let v70 : BitVec 32 := Scalar.subi c31_i32 arg9
  let c64_i32 : BitVec 32 := 64#32
  let v71 : BitVec 32 := Scalar.muli v70 c64_i32
  let v72 : BitVec 32 := v71
  let v88 : Index := Scalar.indexCast v72
  let c0_63 : Index := 0#32
  ![v88.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x3x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]
-- ==== MidRefIdeal.lean ====
abbrev S4096x2816 : Shape := ⟨2, ![4096, 2816]⟩
abbrev S2x4096x2816 : Shape := ⟨3, ![2, 4096, 2816]⟩
abbrev S3x5632 : Shape := ⟨2, ![3, 5632]⟩
abbrev S1x5632 : Shape := ⟨2, ![1, 5632]⟩
abbrev S4096x2x2816 : Shape := ⟨3, ![4096, 2, 2816]⟩
abbrev S2x2048x5632 : Shape := ⟨3, ![2, 2048, 5632]⟩
abbrev S2x2048x2816 : Shape := ⟨3, ![2, 2048, 2816]⟩
abbrev S_ : Shape := ⟨0, ![]⟩
abbrev S2x1x5632 : Shape := ⟨3, ![2, 1, 5632]⟩
abbrev S2x2047x5632 : Shape := ⟨3, ![2, 2047, 5632]⟩
abbrev S2x2x5632 : Shape := ⟨3, ![2, 2, 5632]⟩
abbrev S2x2046x5632 : Shape := ⟨3, ![2, 2046, 5632]⟩
abbrev S5632 : Shape := ⟨1, ![5632]⟩
abbrev S1x1x5632 : Shape := ⟨3, ![1, 1, 5632]⟩
abbrev S3x2x2816 : Shape := ⟨3, ![3, 2, 2816]⟩
abbrev S2x3x2816 : Shape := ⟨3, ![2, 3, 2816]⟩
abbrev S2x1x2816 : Shape := ⟨3, ![2, 1, 2816]⟩

abbrev nBuf : Space → Nat
  | .hbm => 123
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2x4096x2816, .bf16⟩
  | .hbm, ⟨2, _⟩ => ⟨S3x5632, .f32⟩
  | .hbm, ⟨3, _⟩ => ⟨S1x5632, .f32⟩
  | .hbm, ⟨4, _⟩ => ⟨S2x4096x2816, .f32⟩
  | .hbm, ⟨5, _⟩ => ⟨S4096x2x2816, .f32⟩
  | .hbm, ⟨6, _⟩ => ⟨S2x2048x5632, .f32⟩
  | .hbm, ⟨7, _⟩ => ⟨S4096x2816, .f32⟩
  | .hbm, ⟨8, _⟩ => ⟨S2x2048x2816, .f32⟩
  | .hbm, ⟨9, _⟩ => ⟨S_, .f32⟩
  | .hbm, ⟨10, _⟩ => ⟨S2x1x5632, .f32⟩
  | .hbm, ⟨11, _⟩ => ⟨S2x2047x5632, .f32⟩
  | .hbm, ⟨12, _⟩ => ⟨S2x2048x5632, .f32⟩
  | .hbm, ⟨13, _⟩ => ⟨S_, .f32⟩
  | .hbm, ⟨14, _⟩ => ⟨S2x1x5632, .f32⟩
  | .hbm, ⟨15, _⟩ => ⟨S_, .f32⟩
  | .hbm, ⟨16, _⟩ => ⟨S2x2x5632, .f32⟩
  | .hbm, ⟨17, _⟩ => ⟨S2x2046x5632, .f32⟩
  | .hbm, ⟨18, _⟩ => ⟨S2x2048x5632, .f32⟩
  | .hbm, ⟨19, _⟩ => ⟨S_, .f32⟩
  | .hbm, ⟨20, _⟩ => ⟨S2x2x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S2x2048x5632, .f32⟩
  | .hbm, ⟨25, _⟩ => ⟨S2x2048x5632, .f32⟩
  | .hbm, ⟨26, _⟩ => ⟨S1x5632, .f32⟩
  | .hbm, ⟨27, _⟩ => ⟨S5632, .f32⟩
  | .hbm, ⟨28, _⟩ => ⟨S1x1x5632, .f32⟩
  | .hbm, ⟨29, _⟩ => ⟨S2x2048x5632, .f32⟩
  | .hbm, ⟨30, _⟩ => ⟨S2x2048x5632, .f32⟩
  | .hbm, ⟨31, _⟩ => ⟨S2x2048x5632, .f32⟩
  | .hbm, ⟨32, _⟩ => ⟨S1x5632, .f32⟩
  | .hbm, ⟨33, _⟩ => ⟨S5632, .f32⟩
  | .hbm, ⟨34, _⟩ => ⟨S1x1x5632, .f32⟩
  | .hbm, ⟨35, _⟩ => ⟨S2x2048x5632, .f32⟩
  | .hbm, ⟨36, _⟩ => ⟨S2x2048x5632, .f32⟩
  | .hbm, ⟨37, _⟩ => ⟨S2x2048x5632, .f32⟩
  | .hbm, ⟨38, _⟩ => ⟨S1x1x5632, .f32⟩
  | .hbm, ⟨39, _⟩ => ⟨S2x2048x5632, .f32⟩
  | .hbm, ⟨40, _⟩ => ⟨S2x2048x5632, .f32⟩
  | .hbm, ⟨41, _⟩ => ⟨S2x2048x2816, .f32⟩
  | .hbm, ⟨42, _⟩ => ⟨S2x2048x2816, .f32⟩
  | .hbm, ⟨43, _⟩ => ⟨S2x2048x2816, .f32⟩
  | .hbm, ⟨44, _⟩ => ⟨S2x2048x2816, .f32⟩
  | .hbm, ⟨45, _⟩ => ⟨S_, .f32⟩
  | .hbm, ⟨46, _⟩ => ⟨S2x2048x2816, .f32⟩
  | .hbm, ⟨47, _⟩ => ⟨S2x2048x2816, .f32⟩
  | .hbm, ⟨48, _⟩ => ⟨S_, .f32⟩
  | .hbm, ⟨49, _⟩ => ⟨S2x2048x2816, .f32⟩
  | .hbm, ⟨50, _⟩ => ⟨S2x2048x2816, .f32⟩
  | .hbm, ⟨51, _⟩ => ⟨S_, .f32⟩
  | .hbm, ⟨52, _⟩ => ⟨S2x2048x2816, .f32⟩
  | .hbm, ⟨53, _⟩ => ⟨S2x2048x2816, .f32⟩
  | .hbm, ⟨54, _⟩ => ⟨S2x2048x2816, .f32⟩
  | .hbm, ⟨55, _⟩ => ⟨S2x2048x2816, .f32⟩
  | .hbm, ⟨56, _⟩ => ⟨S2x2048x2816, .f32⟩
  | .hbm, ⟨57, _⟩ => ⟨S2x2048x2816, .f32⟩
  | .hbm, ⟨58, _⟩ => ⟨S2x2048x2816, .f32⟩
  | .hbm, ⟨59, _⟩ => ⟨S2x2048x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S2x2048x5632, .f32⟩
  | .hbm, ⟨64, _⟩ => ⟨S_, .f32⟩
  | .hbm, ⟨65, _⟩ => ⟨S5632, .f32⟩
  | .hbm, ⟨66, _⟩ => ⟨S1x1x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S2x2048x5632, .f32⟩
  | .hbm, ⟨71, _⟩ => ⟨S2x2048x5632, .f32⟩
  | .hbm, ⟨72, _⟩ => ⟨S2x2048x5632, .f32⟩
  | .hbm, ⟨73, _⟩ => ⟨S_, .f32⟩
  | .hbm, ⟨74, _⟩ => ⟨S5632, .f32⟩
  | .hbm, ⟨75, _⟩ => ⟨S1x1x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S3x5632, .f32⟩
  | .hbm, ⟨81, _⟩ => ⟨S2x2048x5632, .f32⟩
  | .hbm, ⟨82, _⟩ => ⟨S2x2048x5632, .f32⟩
  | .hbm, ⟨83, _⟩ => ⟨S2x2048x5632, .f32⟩
  | .hbm, ⟨84, _⟩ => ⟨S_, .f32⟩
  | .hbm, ⟨85, _⟩ => ⟨S5632, .f32⟩
  | .hbm, ⟨86, _⟩ => ⟨S1x1x5632, .f32⟩
  | .hbm, ⟨87, _⟩ => ⟨S_, .f32⟩
  | .hbm, ⟨88, _⟩ => ⟨S5632, .f32⟩
  | .hbm, ⟨89, _⟩ => ⟨S1x5632, .f32⟩
  | .hbm, ⟨90, _⟩ => ⟨S_, .f32⟩
  | .hbm, ⟨91, _⟩ => ⟨S3x5632, .f32⟩
  | .hbm, ⟨92, _⟩ => ⟨S3x5632, .f32⟩
  | .hbm, ⟨93, _⟩ => ⟨S2x2048x5632, .f32⟩
  | .hbm, ⟨94, _⟩ => ⟨S2x2048x5632, .f32⟩
  | .hbm, ⟨95, _⟩ => ⟨S2x2048x5632, .f32⟩
  | .hbm, ⟨96, _⟩ => ⟨S_, .f32⟩
  | .hbm, ⟨97, _⟩ => ⟨S5632, .f32⟩
  | .hbm, ⟨98, _⟩ => ⟨S1x1x5632, .f32⟩
  | .hbm, ⟨99, _⟩ => ⟨S_, .f32⟩
  | .hbm, ⟨100, _⟩ => ⟨S5632, .f32⟩
  | .hbm, ⟨101, _⟩ => ⟨S1x5632, .f32⟩
  | .hbm, ⟨102, _⟩ => ⟨S_, .f32⟩
  | .hbm, ⟨103, _⟩ => ⟨S3x5632, .f32⟩
  | .hbm, ⟨104, _⟩ => ⟨S3x5632, .f32⟩
  | .hbm, ⟨105, _⟩ => ⟨S2x2x5632, .f32⟩
  | .hbm, ⟨106, _⟩ => ⟨S2x2046x5632, .f32⟩
  | .hbm, ⟨107, _⟩ => ⟨S_, .f32⟩
  | .hbm, ⟨108, _⟩ => ⟨S2x2048x5632, .f32⟩
  | .hbm, ⟨109, _⟩ => ⟨S2x2048x5632, .f32⟩
  | .hbm, ⟨110, _⟩ => ⟨S2x1x5632, .f32⟩
  | .hbm, ⟨111, _⟩ => ⟨S2x2047x5632, .f32⟩
  | .hbm, ⟨112, _⟩ => ⟨S_, .f32⟩
  | .hbm, ⟨113, _⟩ => ⟨S2x2048x5632, .f32⟩
  | .hbm, ⟨114, _⟩ => ⟨S2x2048x5632, .f32⟩
  | .hbm, ⟨115, _⟩ => ⟨S4096x2816, .f32⟩
  | .hbm, ⟨116, _⟩ => ⟨S4096x2816, .bf16⟩
  | .hbm, ⟨117, _⟩ => ⟨S4096x2x2816, .f32⟩
  | .hbm, ⟨118, _⟩ => ⟨S2x4096x2816, .f32⟩
  | .hbm, ⟨119, _⟩ => ⟨S2x4096x2816, .bf16⟩
  | .hbm, ⟨120, _⟩ => ⟨S3x2x2816, .f32⟩
  | .hbm, ⟨121, _⟩ => ⟨S2x3x2816, .f32⟩
  | .hbm, ⟨122, _⟩ => ⟨S2x1x2816, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v35_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v35_1 : Ref sig .tc := ⟨.hbm, 54, rfl⟩
abbrev main_v35_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_v42 : Ref sig .tc := ⟨.hbm, 66, rfl⟩
abbrev main_cst_4 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_11 : Ref sig .tc := ⟨.hbm, 96, rfl⟩
abbrev main_v65 : Ref sig .tc := ⟨.hbm, 97, rfl⟩
abbrev main_v66 : Ref sig .tc := ⟨.hbm, 98, rfl⟩
abbrev main_cst_12 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_14 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_15 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== Out.lean ====
abbrev S2x4096x1024 : Shape := ⟨3, ![2, 4096, 1024]⟩
abbrev S4096x6144 : Shape := ⟨2, ![4096, 6144]⟩
abbrev S4096x1024 : Shape := ⟨2, ![4096, 1024]⟩
abbrev S3x1024x1024 : Shape := ⟨3, ![3, 1024, 1024]⟩
abbrev S1x1024 : Shape := ⟨2, ![1, 1024]⟩
abbrev S1x4096x1024 : Shape := ⟨3, ![1, 4096, 1024]⟩
abbrev S3x4096x1024 : Shape := ⟨3, ![3, 4096, 1024]⟩
abbrev S2x256x1024 : Shape := ⟨3, ![2, 256, 1024]⟩
abbrev S256x1024 : Shape := ⟨2, ![256, 1024]⟩
abbrev S1x256x1024 : Shape := ⟨3, ![1, 256, 1024]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 18
  | .smem => 0
  | _ => 0

abbrev bufTy : (tb : Table) → Fin (tcTables nBuf tb) → BufTy
  | .hbm, ⟨0, _⟩ => ⟨S2x4096x1024, .bf16⟩
  | .hbm, ⟨1, _⟩ => ⟨S4096x6144, .bf16⟩
  | .hbm, ⟨2, _⟩ => ⟨S4096x1024, .f32⟩
  | .hbm, ⟨3, _⟩ => ⟨S3x1024x1024, .bf16⟩
  | .hbm, ⟨4, _⟩ => ⟨S1x1024, .f32⟩
  | .hbm, ⟨5, _⟩ => ⟨S1x4096x1024, .bf16⟩
  | .hbm, ⟨6, _⟩ => ⟨S3x4096x1024, .bf16⟩
  | .hbm, ⟨7, _⟩ => ⟨S3x4096x1024, .bf16⟩
  | .hbm, ⟨8, _⟩ => ⟨S2x4096x1024, .bf16⟩
  | .hbm, ⟨9, _⟩ => ⟨S4096x1024, .f32⟩
  | .hbm, ⟨10, _⟩ => ⟨S4096x1024, .bf16⟩
  | .local _ .vmem, ⟨0, _⟩ => ⟨S2x256x1024, .bf16⟩
  | .local _ .vmem, ⟨1, _⟩ => ⟨S2x256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S3x1024x1024, .bf16⟩
  | .local _ .vmem, ⟨9, _⟩ => ⟨S1x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S2x256x1024, .bf16⟩
  | .local _ .vmem, ⟨13, _⟩ => ⟨S2x256x1024, .bf16⟩
  | .local _ .vmem, ⟨14, _⟩ => ⟨S256x1024, .f32⟩
  | .local _ .vmem, ⟨15, _⟩ => ⟨S256x1024, .f32⟩
  | .local _ .vmem, ⟨16, _⟩ => ⟨S256x1024, .bf16⟩
  | .local _ .vmem, ⟨17, _⟩ => ⟨S256x1024, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutRefIdeal.lean ====
abbrev S2x4096x1024 : Shape := ⟨3, ![2, 4096, 1024]⟩
abbrev S4096x6144 : Shape := ⟨2, ![4096, 6144]⟩
abbrev S4096x1024 : Shape := ⟨2, ![4096, 1024]⟩
abbrev S3x1024x1024 : Shape := ⟨3, ![3, 1024, 1024]⟩
abbrev S1x1024 : Shape := ⟨2, ![1, 1024]⟩
abbrev S1x4096x1024 : Shape := ⟨3, ![1, 4096, 1024]⟩
abbrev S1x1024x1024 : Shape := ⟨3, ![1, 1024, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S3x4096x1024 : Shape := ⟨3, ![3, 4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S4096x6144, .bf16⟩
  | .hbm, ⟨2, _⟩ => ⟨S4096x1024, .f32⟩
  | .hbm, ⟨3, _⟩ => ⟨S3x1024x1024, .bf16⟩
  | .hbm, ⟨4, _⟩ => ⟨S1x1024, .f32⟩
  | .hbm, ⟨5, _⟩ => ⟨S3x1024x1024, .f32⟩
  | .hbm, ⟨6, _⟩ => ⟨S1x4096x1024, .bf16⟩
  | .hbm, ⟨7, _⟩ => ⟨S4096x1024, .bf16⟩
  | .hbm, ⟨8, _⟩ => ⟨S4096x1024, .f32⟩
  | .hbm, ⟨9, _⟩ => ⟨S1x4096x1024, .bf16⟩
  | .hbm, ⟨10, _⟩ => ⟨S4096x1024, .bf16⟩
  | .hbm, ⟨11, _⟩ => ⟨S4096x1024, .f32⟩
  | .hbm, ⟨12, _⟩ => ⟨S1x1024x1024, .f32⟩
  | .hbm, ⟨13, _⟩ => ⟨S1024x1024, .f32⟩
  | .hbm, ⟨14, _⟩ => ⟨S1x1024x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S1x1024x1024, .f32⟩
  | .hbm, ⟨42, _⟩ => ⟨S1024x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | .hbm, ⟨61, _⟩ => ⟨S1x4096x1024, .bf16⟩
  | .hbm, ⟨62, _⟩ => ⟨S3x4096x1024, .bf16⟩
  | .hbm, ⟨63, _⟩ => ⟨S1x4096x1024, .f32⟩
  | .hbm, ⟨64, _⟩ => ⟨S1x4096x1024, .f32⟩
  | .hbm, ⟨65, _⟩ => ⟨S2x4096x1024, .f32⟩
  | .hbm, ⟨66, _⟩ => ⟨S2x4096x1024, .bf16⟩
  | .hbm, ⟨67, _⟩ => ⟨S4096x1024, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩

abbrev nD : Nat := 1
abbrev τ : Topo := Topo.v7x

variable {F : FTy → Type} [FloatOps F]
-- ==== Mix.lean ====
abbrev S4096x6144 : Shape := ⟨2, ![4096, 6144]⟩
abbrev S4x256x256 : Shape := ⟨3, ![4, 256, 256]⟩
abbrev S1x1024 : Shape := ⟨2, ![1, 1024]⟩
abbrev S3x1024 : Shape := ⟨2, ![3, 1024]⟩
abbrev S3x4096x1024 : Shape := ⟨3, ![3, 4096, 1024]⟩
abbrev S2048x256 : Shape := ⟨2, ![2048, 256]⟩
abbrev S1x256x256 : Shape := ⟨3, ![1, 256, 256]⟩
abbrev S1x256 : Shape := ⟨2, ![1, 256]⟩
abbrev S3x256 : Shape := ⟨2, ![3, 256]⟩
abbrev S2x2048x256 : Shape := ⟨3, ![2, 2048, 256]⟩
abbrev S256x256 : Shape := ⟨2, ![256, 256]⟩
abbrev S1x2048x256 : Shape := ⟨3, ![1, 2048, 256]⟩

abbrev nBuf : Space → Nat
  | .hbm => 5
  | .vmem => 16
  | .smem => 0
  | _ => 0

abbrev bufTy : (tb : Table) → Fin (tcTables nBuf tb) → BufTy
  | .hbm, ⟨0, _⟩ => ⟨S4096x6144, .bf16⟩
  | .hbm, ⟨1, _⟩ => ⟨S4x256x256, .bf16⟩
  | .hbm, ⟨2, _⟩ => ⟨S1x1024, .f32⟩
  | .hbm, ⟨3, _⟩ => ⟨S3x1024, .f32⟩
  | .hbm, ⟨4, _⟩ => ⟨S3x4096x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256, .f32⟩
  | .local _ .vmem, ⟨11, _⟩ => ⟨S1x256, .f32⟩
  | .local _ .vmem, ⟨12, _⟩ => ⟨S3x256, .f32⟩
  | .local _ .vmem, ⟨13, _⟩ => ⟨S3x256, .f32⟩
  | .local _ .vmem, ⟨14, _⟩ => ⟨S2x2048x256, .bf16⟩
  | .local _ .vmem, ⟨15, _⟩ => ⟨S2x2048x256, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixRefIdeal.lean ====
abbrev S4096x6144 : Shape := ⟨2, ![4096, 6144]⟩
abbrev S4x256x256 : Shape := ⟨3, ![4, 256, 256]⟩
abbrev S1x1024 : Shape := ⟨2, ![1, 1024]⟩
abbrev S3x1024 : Shape := ⟨2, ![3, 1024]⟩
abbrev S4096x1024 : Shape := ⟨2, ![4096, 1024]⟩
abbrev S2x2048x1024 : Shape := ⟨3, ![2, 2048, 1024]⟩
abbrev S2048 : Shape := ⟨1, ![2048]⟩
abbrev S_ : Shape := ⟨0, ![]⟩
abbrev S2x2048x256 : Shape := ⟨3, ![2, 2048, 256]⟩
abbrev S2x1x256 : Shape := ⟨3, ![2, 1, 256]⟩
abbrev S2x2049x256 : Shape := ⟨3, ![2, 2049, 256]⟩
abbrev S2x2047x256 : Shape := ⟨3, ![2, 2047, 256]⟩
abbrev S1x2048x1 : Shape := ⟨3, ![1, 2048, 1]⟩
abbrev S2x3x256 : Shape := ⟨3, ![2, 3, 256]⟩
abbrev S2x2045x256 : Shape := ⟨3, ![2, 2045, 256]⟩
abbrev S2x7x256 : Shape := ⟨3, ![2, 7, 256]⟩
abbrev S2x2041x256 : Shape := ⟨3, ![2, 2041, 256]⟩
abbrev S2x15x256 : Shape := ⟨3, ![2, 15, 256]⟩
abbrev S2x2033x256 : Shape := ⟨3, ![2, 2033, 256]⟩
abbrev S2x2048x1x256 : Shape := ⟨4, ![2, 2048, 1, 256]⟩
abbrev S2x2048x4x256 : Shape := ⟨4, ![2, 2048, 4, 256]⟩
abbrev S4x256x2x2048 : Shape := ⟨4, ![4, 256, 2, 2048]⟩
abbrev S1x1x1024 : Shape := ⟨3, ![1, 1, 1024]⟩
abbrev S2x1x1024 : Shape := ⟨3, ![2, 1, 1024]⟩
abbrev S2x2047x1024 : Shape := ⟨3, ![2, 2047, 1024]⟩
abbrev S2x2x1024 : Shape := ⟨3, ![2, 2, 1024]⟩
abbrev S2x2046x1024 : Shape := ⟨3, ![2, 2046, 1024]⟩
abbrev S1024 : Shape := ⟨1, ![1024]⟩
abbrev S1x4096x1024 : Shape := ⟨3, ![1, 4096, 1024]⟩
abbrev S3x4096x1024 : Shape := ⟨3, ![3, 4096, 1024]⟩

abbrev nBuf : Space → Nat
  | .hbm => 150
  | .vmem => 0
  | .smem => 0
  | _ => 0

abbrev hbmTy0_0 (i : Nat) : BufTy := match i % 128 with
  | 0 => ⟨S4096x6144, .bf16⟩
  | 1 => ⟨S4x256x256, .bf16⟩
  | 2 => ⟨S1x1024, .f32⟩
  | 3 => ⟨S3x1024, .f32⟩
  | 4 => ⟨S4096x1024, .bf16⟩
  | 5 => ⟨S4096x1024, .f32⟩
  | 6 => ⟨S2x2048x1024, .f32⟩
  | 7 => ⟨S4096x1024, .bf16⟩
  | 8 => ⟨S4096x1024, .f32⟩
  | 9 => ⟨S2x2048x1024, .f32⟩
  | 10 => ⟨S4096x1024, .bf16⟩
  | 11 => ⟨S4096x1024, .f32⟩
  | 12 => ⟨S2x2048x1024, .f32⟩
  | 13 => ⟨S4096x1024, .bf16⟩
  | 14 => ⟨S4096x1024, .f32⟩
  | 15 => ⟨S2x2048x1024, .f32⟩
  | 16 => ⟨S4x256x256, .f32⟩
  | 17 => ⟨S2048, .i32⟩
  | 18 => ⟨S_, .i32⟩
  | 19 => ⟨S2048, .i32⟩
  | 20 => ⟨S2048, .i32⟩
  | 21 => ⟨S2048, .f32⟩
  | 22 => ⟨S2x2048x256, .f32⟩
  | 23 => ⟨S_, .f32⟩
  | 24 => ⟨S2x1x256, .f32⟩
  | 25 => ⟨S_, .f32⟩
  | 26 => ⟨S_, .f32⟩
  | 27 => ⟨S2x2048x256, .f32⟩
  | 28 => ⟨S2x2049x256, .f32⟩
  | 29 => ⟨S2x2048x256, .f32⟩
  | 30 => ⟨S_, .f32⟩
  | 31 => ⟨S2x1x256, .f32⟩
  | 32 => ⟨S2x2047x256, .f32⟩
  | 33 => ⟨S2x2048x256, .f32⟩
  | 34 => ⟨S_, .f32⟩
  | 35 => ⟨S2048, .f32⟩
  | 36 => ⟨S2048, .f32⟩
  | 37 => ⟨S1x2048x1, .f32⟩
  | 38 => ⟨S2x2048x256, .f32⟩
  | 39 => ⟨S2x2048x256, .f32⟩
  | 40 => ⟨S2x2048x256, .f32⟩
  | 41 => ⟨S2x2048x256, .f32⟩
  | 42 => ⟨S2x2048x256, .f32⟩
  | 43 => ⟨S_, .f32⟩
  | 44 => ⟨S2x1x256, .f32⟩
  | 45 => ⟨S_, .f32⟩
  | 46 => ⟨S_, .f32⟩
  | 47 => ⟨S2x2048x256, .f32⟩
  | 48 => ⟨S2x2049x256, .f32⟩
  | 49 => ⟨S2x2048x256, .f32⟩
  | 50 => ⟨S_, .f32⟩
  | 51 => ⟨S2x3x256, .f32⟩
  | 52 => ⟨S2x2045x256, .f32⟩
  | 53 => ⟨S2x2048x256, .f32⟩
  | 54 => ⟨S_, .f32⟩
  | 55 => ⟨S2048, .f32⟩
  | 56 => ⟨S2048, .f32⟩
  | 57 => ⟨S1x2048x1, .f32⟩
  | 58 => ⟨S2x2048x256, .f32⟩
  | 59 => ⟨S2x2048x256, .f32⟩
  | 60 => ⟨S2x2048x256, .f32⟩
  | 61 => ⟨S2x2048x256, .f32⟩
  | 62 => ⟨S2x2048x256, .f32⟩
  | 63 => ⟨S_, .f32⟩
  | 64 => ⟨S2x1x256, .f32⟩
  | 65 => ⟨S_, .f32⟩
  | 66 => ⟨S_, .f32⟩
  | 67 => ⟨S2x2048x256, .f32⟩
  | 68 => ⟨S2x2049x256, .f32⟩
  | 69 => ⟨S2x2048x256, .f32⟩
  | 70 => ⟨S_, .f32⟩
  | 71 => ⟨S2x7x256, .f32⟩
  | 72 => ⟨S2x2041x256, .f32⟩
  | 73 => ⟨S2x2048x256, .f32⟩
  | 74 => ⟨S_, .f32⟩
  | 75 => ⟨S2048, .f32⟩
  | 76 => ⟨S2048, .f32⟩
  | 77 => ⟨S1x2048x1, .f32⟩
  | 78 => ⟨S2x2048x256, .f32⟩
  | 79 => ⟨S2x2048x256, .f32⟩
  | 80 => ⟨S2x2048x256, .f32⟩
  | 81 => ⟨S2x2048x256, .f32⟩
  | 82 => ⟨S2x2048x256, .f32⟩
  | 83 => ⟨S_, .f32⟩
  | 84 => ⟨S2x1x256, .f32⟩
  | 85 => ⟨S_, .f32⟩
  | 86 => ⟨S_, .f32⟩
  | 87 => ⟨S2x2048x256, .f32⟩
  | 88 => ⟨S2x2049x256, .f32⟩
  | 89 => ⟨S2x2048x256, .f32⟩
  | 90 => ⟨S_, .f32⟩
  | 91 => ⟨S2x15x256, .f32⟩
  | 92 => ⟨S2x2033x256, .f32⟩
  | 93 => ⟨S2x2048x256, .f32⟩
  | 94 => ⟨S_, .f32⟩
  | 95 => ⟨S2048, .f32⟩
  | 96 => ⟨S2048, .f32⟩
  | 97 => ⟨S1x2048x1, .f32⟩
  | 98 => ⟨S2x2048x256, .f32⟩
  | 99 => ⟨S2x2048x256, .f32⟩
  | 100 => ⟨S2x2048x256, .f32⟩
  | 101 => ⟨S2x2048x256, .f32⟩
  | 102 => ⟨S2x2048x1x256, .f32⟩
  | 103 => ⟨S2x2048x1x256, .f32⟩
  | 104 => ⟨S2x2048x1x256, .f32⟩
  | 105 => ⟨S2x2048x1x256, .f32⟩
  | 106 => ⟨S2x2048x4x256, .f32⟩
  | 107 => ⟨S4x256x2x2048, .f32⟩
  | 108 => ⟨S2x2048x4x256, .f32⟩
  | 109 => ⟨S2x2048x1024, .f32⟩
  | 110 => ⟨S1x1x1024, .f32⟩
  | 111 => ⟨S2x2048x1024, .f32⟩
  | 112 => ⟨S2x2048x1024, .f32⟩
  | 113 => ⟨S4096x1024, .f32⟩
  | 114 => ⟨S4096x1024, .bf16⟩
  | 115 => ⟨S2x2048x1024, .f32⟩
  | 116 => ⟨S_, .f32⟩
  | 117 => ⟨S2x1x1024, .f32⟩
  | 118 => ⟨S2x2047x1024, .f32⟩
  | 119 => ⟨S2x2048x1024, .f32⟩
  | 120 => ⟨S_, .f32⟩
  | 121 => ⟨S2x2x1024, .f32⟩
  | 122 => ⟨S2x2046x1024, .f32⟩
  | 123 => ⟨S2x2048x1024, .f32⟩
  | 124 => ⟨S1x1024, .f32⟩
  | 125 => ⟨S1024, .f32⟩
  | 126 => ⟨S1x1x1024, .f32⟩
  | 127 => ⟨S2x2048x1024, .f32⟩
  | _ => ⟨S4096x6144, .bf16⟩

abbrev hbmTy0_1 (i : Nat) : BufTy := match i % 128 with
  | 0 => ⟨S2x2048x1024, .f32⟩
  | 1 => ⟨S1x1024, .f32⟩
  | 2 => ⟨S1024, .f32⟩
  | 3 => ⟨S1x1x1024, .f32⟩
  | 4 => ⟨S2x2048x1024, .f32⟩
  | 5 => ⟨S2x2048x1024, .f32⟩
  | 6 => ⟨S2x2048x1024, .f32⟩
  | 7 => ⟨S1x1024, .f32⟩
  | 8 => ⟨S1024, .f32⟩
  | 9 => ⟨S1x1x1024, .f32⟩
  | 10 => ⟨S2x2048x1024, .f32⟩
  | 11 => ⟨S2x2048x1024, .f32⟩
  | 12 => ⟨S2x2048x1024, .f32⟩
  | 13 => ⟨S2x2048x1024, .f32⟩
  | 14 => ⟨S4096x1024, .f32⟩
  | 15 => ⟨S4096x1024, .bf16⟩
  | 16 => ⟨S_, .bf16⟩
  | 17 => ⟨S4096x1024, .bf16⟩
  | 18 => ⟨S1x4096x1024, .bf16⟩
  | 19 => ⟨S1x4096x1024, .bf16⟩
  | 20 => ⟨S1x4096x1024, .bf16⟩
  | 21 => ⟨S3x4096x1024, .bf16⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_v18 : Ref sig .tc := ⟨.hbm, 24, rfl⟩
abbrev main_call0_call0_cst : Ref sig .tc := ⟨.hbm, 25, rfl⟩
abbrev main_call0_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_call1_call0_cst : Ref sig .tc := ⟨.hbm, 45, rfl⟩
abbrev main_call1_call0_v0 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_5 : Ref sig .tc := ⟨.hbm, 63, rfl⟩
abbrev main_v48 : Ref sig .tc := ⟨.hbm, 64, rfl⟩
abbrev main_call2_call0_cst : Ref sig .tc := ⟨.hbm, 65, rfl⟩
abbrev main_call2_call0_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_call3_call0_cst : Ref sig .tc := ⟨.hbm, 85, rfl⟩
abbrev main_call3_call0_v0 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_12 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_cst_13 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩

abbrev nD : Nat := 1
abbrev τ : Topo := Topo.v7x

variable {F : FTy → Type} [FloatOps F]
-- ==== Up.lean ====
abbrev S4096x1024 : Shape := ⟨2, ![4096, 1024]⟩
abbrev S4x1024x1408 : Shape := ⟨3, ![4, 1024, 1408]⟩
abbrev S2x4096x2816 : Shape := ⟨3, ![2, 4096, 2816]⟩
abbrev S2048x1024 : Shape := ⟨2, ![2048, 1024]⟩
abbrev S1x1024x1408 : Shape := ⟨3, ![1, 1024, 1408]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S2x4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S4096x1024 : Shape := ⟨2, ![4096, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S4096x5632 : Shape := ⟨2, ![4096, 5632]⟩
abbrev S4096x2x2816 : Shape := ⟨3, ![4096, 2, 2816]⟩
abbrev S2x4096x2816 : Shape := ⟨3, ![2, 4096, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1408, .bf16⟩
  | .hbm, ⟨2, _⟩ => ⟨S4x1024x1408, .f32⟩
  | .hbm, ⟨3, _⟩ => ⟨S1024x4x1408, .f32⟩
  | .hbm, ⟨4, _⟩ => ⟨S1024x5632, .f32⟩
  | .hbm, ⟨5, _⟩ => ⟨S4096x1024, .f32⟩
  | .hbm, ⟨6, _⟩ => ⟨S4096x5632, .f32⟩
  | .hbm, ⟨7, _⟩ => ⟨S4096x2x2816, .f32⟩
  | .hbm, ⟨8, _⟩ => ⟨S2x4096x2816, .f32⟩
  | .hbm, ⟨9, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Da.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DaRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wu.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S1x4096x1408 : Shape := ⟨3, ![1, 4096, 1408]⟩
abbrev S1x1024x1408 : Shape := ⟨3, ![1, 1024, 1408]⟩
abbrev S4096x1408 : Shape := ⟨2, ![4096, 1408]⟩
abbrev S1024x1408 : Shape := ⟨2, ![1024, 1408]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S4096x1024, .bf16⟩
  | .local _ .vmem, ⟨1, _⟩ => ⟨S1x4096x1408, .bf16⟩
  | .local _ .vmem, ⟨2, _⟩ => ⟨S1x4096x1408, .bf16⟩
  | .local _ .vmem, ⟨3, _⟩ => ⟨S1x1024x1408, .bf16⟩
  | .local _ .vmem, ⟨4, _⟩ => ⟨S1x1024x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg1 c2_i32_10
  let c0_i32_11 : BitVec 32 := 0#32
  let v28 : BitVec 1 := Scalar.cmpi .sgt arg1 c0_i32_11
  let v29 : BitVec 32 := Scalar.extui v28
  let c0_i32_12 : BitVec 32 := 0#32
  let v30 : BitVec 1 := Scalar.cmpi .slt arg1 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg1 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg1 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, arg2.toNat, v53.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WuRefIdeal.lean ====
abbrev S4096x1024 : Shape := ⟨2, ![4096, 1024]⟩
abbrev S2x4096x2816 : Shape := ⟨3, ![2, 4096, 2816]⟩
abbrev S4096x2x2816 : Shape := ⟨3, ![4096, 2, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S2x4096x2816, .f32⟩
  | .hbm, ⟨4, _⟩ => ⟨S4096x2x2816, .f32⟩
  | .hbm, ⟨5, _⟩ => ⟨S4096x5632, .f32⟩
  | .hbm, ⟨6, _⟩ => ⟨S_, .f32⟩
  | .hbm, ⟨7, _⟩ => ⟨S1024x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x4x1408, .f32⟩
  | .hbm, ⟨12, _⟩ => ⟨S4x1024x1408, .f32⟩
  | .hbm, ⟨13, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Wi.lean ====
abbrev S4096x1024 : Shape := ⟨2, ![4096, 1024]⟩
abbrev S6x4096x1024 : Shape := ⟨3, ![6, 4096, 1024]⟩
abbrev S4x1024x1536 : Shape := ⟨3, ![4, 1024, 1536]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S4x1024x1536, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .bf16⟩
  | .local _ .vmem, ⟨4, _⟩ => ⟨S1x1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 1 := Scalar.cmpi .slt v16 c4_i32
  let c3_i32 : BitVec 32 := 3#32
  let v18 : BitVec 32 := Scalar.addi v16 c3_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v18 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.select v17 v28 v16
  let c2_i32_10 : BitVec 32 := 2#32
  let c0_i32_11 : BitVec 32 := 0#32
  let v30 : BitVec 1 := Scalar.cmpi .eq c2_i32_10 c0_i32_11
  let c1_i32_12 : BitVec 32 := 1#32
  let v31 : BitVec 32 := Scalar.select v30 c1_i32_12 c2_i32_10
  let v32 : BitVec 32 := Scalar.remsi arg0 v31
  let c0_i32_13 : BitVec 32 := 0#32
  let v33 : BitVec 1 := Scalar.cmpi .ne v32 c0_i32_13
  let c0_i32_14 : BitVec 32 := 0#32
  let v34 : BitVec 1 := Scalar.cmpi .slt v32 c0_i32_14
  let c0_i32_15 : BitVec 32 := 0#32
  let v35 : BitVec 1 := Scalar.cmpi .slt v31 c0_i32_15
  let v36 : BitVec 1 := Scalar.xori v34 v35
  let v37 : BitVec 1 := Scalar.andi v36 v33
  let v38 : BitVec 32 := Scalar.addi v32 v31
  let v39 : BitVec 32 := Scalar.select v37 v38 v32
  let c0_i32_16 : BitVec 32 := 0#32
  ![v29.toNat, arg1.toNat, v39.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WiRefIdeal.lean ====
abbrev S4096x1024 : Shape := ⟨2, ![4096, 1024]⟩
abbrev S6x4096x1024 : Shape := ⟨3, ![6, 4096, 1024]⟩
abbrev S1x4096x1024 : Shape := ⟨3, ![1, 4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S6x4096x1024, .bf16⟩
  | .hbm, ⟨2, _⟩ => ⟨S4096x1024, .f32⟩
  | .hbm, ⟨3, _⟩ => ⟨S6x4096x1024, .f32⟩
  | .hbm, ⟨4, _⟩ => ⟨S1x4096x1024, .f32⟩
  | .hbm, ⟨5, _⟩ => ⟨S4096x1024, .f32⟩
  | .hbm, ⟨6, _⟩ => ⟨S1x4096x1024, .f32⟩
  | .hbm, ⟨7, _⟩ => ⟨S4096x1024, .f32⟩
  | .hbm, ⟨8, _⟩ => ⟨S1x4096x1024, .f32⟩
  | .hbm, ⟨9, _⟩ => ⟨S4096x1024, .f32⟩
  | .hbm, ⟨10, _⟩ => ⟨S1x4096x1024, .f32⟩
  | .hbm, ⟨11, _⟩ => ⟨S4096x1024, .f32⟩
  | .hbm, ⟨12, _⟩ => ⟨S1x4096x1024, .f32⟩
  | .hbm, ⟨13, _⟩ => ⟨S4096x1024, .f32⟩
  | .hbm, ⟨14, _⟩ => ⟨S1x4096x1024, .f32⟩
  | .hbm, ⟨15, _⟩ => ⟨S4096x1024, .f32⟩
  | .hbm, ⟨16, _⟩ => ⟨S4096x6144, .f32⟩
  | .hbm, ⟨17, _⟩ => ⟨S_, .f32⟩
  | .hbm, ⟨18, _⟩ => ⟨S1024x6144, .f32⟩
  | .hbm, ⟨19, _⟩ => ⟨S4096x6144, .f32⟩
  | .hbm, ⟨20, _⟩ => ⟨S6144x1024, .f32⟩
  | .hbm, ⟨21, _⟩ => ⟨S1024x6144, .f32⟩
  | .hbm, ⟨22, _⟩ => ⟨S1024x4x1536, .f32⟩
  | .hbm, ⟨23, _⟩ => ⟨S4x1024x1536, .f32⟩
  | .hbm, ⟨24, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Adam.lean ====
abbrev S1024x1536 : Shape := ⟨2, ![1024, 1536]⟩
abbrev S128x1536 : Shape := ⟨2, ![128, 1536]⟩

abbrev nBuf : Space → Nat
  | .hbm => 8
  | .vmem => 16
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S1024x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S1024x1536 : Shape := ⟨2, ![1024, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S1024x1536, .f32⟩
  | .hbm, ⟨2, _⟩ => ⟨S1024x1536, .f32⟩
  | .hbm, ⟨3, _⟩ => ⟨S1024x1536, .f32⟩
  | .hbm, ⟨4, _⟩ => ⟨S_, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S_, .f32⟩
  | .hbm, ⟨23, _⟩ => ⟨S1024x1536, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Slots.lean ====
abbrev S8x240x128 : Shape := ⟨3, ![8, 240, 128]⟩
abbrev S240x128 : Shape := ⟨2, ![240, 128]⟩
abbrev S1x240x128 : Shape := ⟨3, ![1, 240, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x240x128, .f32⟩
  | .hbm, ⟨1, _⟩ => ⟨S240x128, .f32⟩
  | .local _ .vmem, ⟨0, _⟩ => ⟨S8x240x128, .f32⟩
  | .local _ .vmem, ⟨1, _⟩ => ⟨S240x128, .f32⟩
  | _, _ => ⟨S8x240x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x240x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S240x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SlotsRefIdeal.lean ====
abbrev S8x240x128 : Shape := ⟨3, ![8, 240, 128]⟩
abbrev S_ : Shape := ⟨0, ![]⟩
abbrev S240x128 : Shape := ⟨2, ![240, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x240x128, .f32⟩
  | .hbm, ⟨1, _⟩ => ⟨S_, .f32⟩
  | .hbm, ⟨2, _⟩ => ⟨S240x128, .f32⟩
  | _, _ => ⟨S8x240x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shift.lean ====
/-
  Shifts of a finite sequence of extended reals by `k` positions, filling with zeros: `dn k f` is the sequence `k` steps
  later, `up k f` the sequence `k` steps earlier. A kernel writes them as a rotation whose wrapped part a select zeroes;
  a host program writes them as a concatenation with zeros (or as a slice padded with zeros). The lemmas read both forms.
-/
module

public import Idealize.ShloMosaic.Lib.Pointwise
public import Idealize.ShloMosaic.Lib.ValueIdx
public import Idealize.ShloMosaic.Lib.Pipeline.ValueKit

@[expose] public section

noncomputable section

namespace Cert.Shift

open Idealize.ShloMosaic

/-- The sequence `k` steps later: position `s` holds what was at `s - k`, the first `k` positions zero. -/
def dn {n : ℕ} (k : ℕ) (f : Fin n → EReal) (s : Fin n) : EReal :=
  if k ≤ s.val then f ⟨s.val - k, Nat.lt_of_le_of_lt (Nat.sub_le _ _) s.isLt⟩ else 0

/-- The sequence `k` steps earlier: position `s` holds what was at `s + k`, the last `k` positions zero. -/
def up {n : ℕ} (k : ℕ) (f : Fin n → EReal) (s : Fin n) : EReal :=
  if h : s.val + k < n then f ⟨s.val + k, h⟩ else 0

theorem up_mul {n : ℕ} (k : ℕ) (w : EReal) (f : Fin n → EReal) (s : Fin n) :
    up k (fun s => w * f s) s = w * up k f s := by
  unfold up
  split <;> simp

/-- A signed comparison of small numbers written as 32-bit words. -/
theorem cmpi_sge_ofNat {a b : ℕ} (ha : a < 2 ^ 31) (hb : b < 2 ^ 31) :
    IntOp.cmpi .sge (BitVec.ofNat 32 a) (BitVec.ofNat 32 b) = BitVec.ofBool (decide (b ≤ a)) := by
  simp only [IntOp.cmpi]
  congr 1
  have e : ∀ x : ℕ, x < 2 ^ 31 → (BitVec.ofNat 32 x).toInt = x := fun x hx => by
    rw [BitVec.toInt_eq_toNat_of_lt] <;> simp [BitVec.toNat_ofNat] <;> omega
  rw [BitVec.sle, e a ha, e b hb]
  exact decide_eq_decide.mpr (by omega)

theorem cmpi_slt_ofNat {a b : ℕ} (ha : a < 2 ^ 31) (hb : b < 2 ^ 31) :
    IntOp.cmpi .slt (BitVec.ofNat 32 a) (BitVec.ofNat 32 b) = BitVec.ofBool (decide (a < b)) := by
  simp only [IntOp.cmpi]
  congr 1
  have e : ∀ x : ℕ, x < 2 ^ 31 → (BitVec.ofNat 32 x).toInt = x := fun x hx => by
    rw [BitVec.toInt_eq_toNat_of_lt] <;> simp [BitVec.toNat_ofNat] <;> omega
  rw [BitVec.slt, e a ha, e b hb]
  exact decide_eq_decide.mpr (by omega)

/-- The kernel's shift to later positions: a rotation by `k`, zeroed on the first `k` rows. -/
theorem select_dn {n : ℕ} (k : ℕ) (hk : k < n) (hn : n < 2 ^ 31) (f : Fin n → EReal) (s : Fin n)
    (h : (s.val + n - k) % n < n) :
    Scalar.select (IntOp.cmpi .sge (BitVec.ofNat 32 s.val) (BitVec.ofNat 32 k)) (f ⟨(s.val + n - k) % n, h⟩) 0 = dn k f s := by
  rw [cmpi_sge_ofNat (by omega) (by omega)]
  unfold dn
  by_cases hs : k ≤ s.val
  · rw [if_pos hs, decide_eq_true hs]
    have e : (s.val + n - k) % n = s.val - k := by
      rw [show s.val + n - k = (s.val - k) + n by omega, Nat.add_mod_right, Nat.mod_eq_of_lt (by omega)]
    show f _ = f _
    exact congrArg f (Fin.ext e)
  · rw [if_neg hs, decide_eq_false hs]; rfl

/-- The kernel's shift to earlier positions: a rotation by `n - k`, zeroed on the last `k` rows. -/
theorem select_up {n : ℕ} (k : ℕ) (hk : 0 < k) (hkn : k < n) (hn : n < 2 ^ 31) (f : Fin n → EReal) (s : Fin n)
    (h : (s.val + n - (n - k)) % n < n) :
    Scalar.select (IntOp.cmpi .slt (BitVec.ofNat 32 s.val) (BitVec.ofNat 32 (n - k))) (f ⟨(s.val + n - (n - k)) % n, h⟩) 0
      = up k f s := by
  rw [cmpi_slt_ofNat (by omega) (by omega)]
  unfold up
  by_cases hs : s.val + k < n
  · rw [dif_pos hs, decide_eq_true (by omega)]
    have e : (s.val + n - (n - k)) % n = s.val + k := by
      rw [show s.val + n - (n - k) = s.val + k by omega, Nat.mod_eq_of_lt hs]
    show f _ = f _
    exact congrArg f (Fin.ext e)
  · rw [dif_neg hs, decide_eq_false (by omega)]; rfl

/-- An index of a unit-stride rectangle, placed in the whole array. -/
theorem emb_unit_eq {S : Shape} (off size : Fin S.rank → ℕ) (inb : ∀ a, off a + size a ≤ S.size a)
    (x : (Rect.unit off size inb).shape.Idx) (i : S.Idx) (hi : ∀ a, (i a : ℕ) = off a + x a) :
    (Rect.unit off size inb).emb x = i :=
  funext fun a => Fin.ext ((Rect.idx_unit_val off size inb x a).trans (hi a).symm)

/-- A stored row, read back: at its own row the stored value, at another row what the earlier stores left. -/
theorem canon_row {m n : ℕ} (o : ℕ) (inb : ∀ a, (![o, 0] : Fin 2 → ℕ) a + (![1, n] : Fin 2 → ℕ) a ≤ (⟨2, ![m, n]⟩ : Shape).size a)
    (w : (⟨2, ![1, n]⟩ : Shape).Idx → EReal) (L : List (View.Piece (Elt Ideal) ⟨2, ![m, n]⟩ .f32)) (k : Fin m) (l : Fin n) :
    View.canon ((⟨Rect.unit ![o, 0] ![1, n] inb, w⟩ : View.Piece (Elt Ideal) ⟨2, ![m, n]⟩ .f32) :: L) (ix2 k l)
      = if k.val = o then w (ix2 0 l) else View.canon L (ix2 k l) := by
  by_cases h : k.val = o
  · rw [if_pos h]
    have e := emb_unit_eq (S := ⟨2, ![m, n]⟩) ![o, 0] ![1, n] inb (ix2 (0 : Fin 1) l) (ix2 k l) (fun b => by
      match b with
      | ⟨0, _⟩ => exact h
      | ⟨1, _⟩ => exact (Nat.zero_add _).symm)
    rw [← e]
    exact View.canon_cons_emb _ _ _ _
  · rw [if_neg h]
    refine View.canon_cons_of_not_mem _ _ fun hm => h ?_
    have hm := (Rect.mem_set_unit (s := ⟨2, ![m, n]⟩) (inb := inb)).mp hm 0
    have h1 : o ≤ k.val := hm.1
    have h2 : k.val < o + 1 := hm.2
    omega

/-- A row read after some stores is that row of what they left. -/
theorem readCov_row {m n : ℕ} {sig : RefSig} {κ : Kind} {sp : Space} (v : View sig κ sp ⟨2, ![m, n]⟩ .f32) (o : ℕ) (ho : o < m)
    (inb : ∀ a, (![o, 0] : Fin 2 → ℕ) a + (![1, n] : Fin 2 → ℕ) a ≤ (⟨2, ![m, n]⟩ : Shape).size a)
    (L : List (View.Piece (Elt Ideal) ⟨2, ![m, n]⟩ .f32)) (l : Fin n) :
    v.readCov L (Rect.unit (s := ⟨2, ![m, n]⟩) ![o, 0] ![1, n] inb).toLoadRect (ix2 (0 : Fin 1) l) = View.canon L (ix2 ⟨o, ho⟩ l) := by
  rw [View.readCov_eq_canon']
  exact congrArg (View.canon L) (emb_unit_eq (S := ⟨2, ![m, n]⟩) ![o, 0] ![1, n] inb (ix2 (0 : Fin 1) l) (ix2 ⟨o, ho⟩ l) fun b => by
    match b with
    | ⟨0, _⟩ => rfl
    | ⟨1, _⟩ => exact (Nat.zero_add _).symm)

end Cert.Shift

end
-- ==== Proof.ConvSpec.lean ====
/-
  The gradient of the gated short convolution as functions of whole arrays: with `u = C * v` and `e = dy * B` per
  sequence and channel, the gradient of `B` is `dy * conv u`, that of `C` is `convᵀ e * v`, that of `v` is
  `convᵀ e * C`, and that of tap `k` sums `e * (u shifted by the tap)` over the two sequences.
-/
module

public import proofs.«01_k».proof.Proof.Shift

@[expose] public section

noncomputable section

namespace Cert.Conv3

open Idealize.ShloMosaic

/-- The three-tap causal convolution of one channel's sequence. -/
def fwd {n : ℕ} (w0 w1 w2 : EReal) (f : Fin n → EReal) (s : Fin n) : EReal :=
  w2 * f s + w1 * Shift.dn 1 f s + w0 * Shift.dn 2 f s

/-- Its transpose. -/
def bwd {n : ℕ} (w0 w1 w2 : EReal) (f : Fin n → EReal) (s : Fin n) : EReal :=
  w2 * f s + w1 * Shift.up 1 f s + w0 * Shift.up 2 f s

/-- One tap's share of the weight gradient over one sequence. -/
def tap {n : ℕ} (k : Fin 3) (e f : Fin n → EReal) : EReal :=
  ∑ s : Fin n, e s * (match k with | 0 => Shift.dn 2 f s | 1 => Shift.dn 1 f s | 2 => f s)

/-- Row of token `s` of sequence `b`. -/
def tok (b : Fin 2) (s : Fin 2048) : Fin 4096 := ⟨b.val * 2048 + s.val, by omega⟩

/-- Column `l` of plane `k` of the projected activations. -/
def col (k : Fin 6) (l : Fin 1024) : Fin 6144 := ⟨k.val * 1024 + l.val, by omega⟩

variable (D : (⟨3, ![2, 4096, 1024]⟩ : Shape).Idx → EReal) (Z : (⟨2, ![4096, 6144]⟩ : Shape).Idx → EReal)
  (W : (⟨2, ![3, 1024]⟩ : Shape).Idx → EReal)

def u (b : Fin 2) (l : Fin 1024) (s : Fin 2048) : EReal := Z (ix2 (tok b s) (col 2 l)) * Z (ix2 (tok b s) (col 3 l))
def e (b : Fin 2) (l : Fin 1024) (s : Fin 2048) : EReal := D (ix3 1 (tok b s) l) * Z (ix2 (tok b s) (col 1 l))

/-- The gradients of `B`, `C` and `v` at a token and a channel. -/
def plane (k : Fin 3) (b : Fin 2) (s : Fin 2048) (l : Fin 1024) : EReal :=
  match k with
  | 0 => D (ix3 1 (tok b s) l) * fwd (W (ix2 0 l)) (W (ix2 1 l)) (W (ix2 2 l)) (u Z b l) s
  | 1 => bwd (W (ix2 0 l)) (W (ix2 1 l)) (W (ix2 2 l)) (e D Z b l) s * Z (ix2 (tok b s) (col 3 l))
  | 2 => bwd (W (ix2 0 l)) (W (ix2 1 l)) (W (ix2 2 l)) (e D Z b l) s * Z (ix2 (tok b s) (col 2 l))

/-- The gradient of the taps. -/
def gradW (y : (⟨2, ![3, 1024]⟩ : Shape).Idx) : EReal :=
  tap (y 0) (e D Z 0 (y 1)) (u Z 0 (y 1)) + tap (y 0) (e D Z 1 (y 1)) (u Z 1 (y 1))

/-- The six planes after the call: the first three are the gradients, the others are kept. -/
def planes (dz : (⟨3, ![6, 4096, 1024]⟩ : Shape).Idx → EReal) (y : (⟨3, ![6, 4096, 1024]⟩ : Shape).Idx) : EReal :=
  if h : (y 0).val < 3 then
    plane D Z W ⟨(y 0).val, h⟩ ⟨(y 1).val / 2048, by have : (y 1).val < 4096 := (y 1).isLt; omega⟩
      ⟨(y 1).val % 2048, Nat.mod_lt _ (by decide)⟩ (y 2)
  else dz y

end Cert.Conv3

end
-- ==== Proof.ConvBlock.lean ====
/-
  What one grid point of the short convolution's gradient computes: the three planes of its block and the three rows of its
  weight gradient, element by element, from the point's blocks of `dpq`, `z` and the weights.
-/
module

public import proofs.«01_k».proof.Proof.Gen.ConvIdeal.Value
public import proofs.«01_k».proof.Proof.ConvSpec
public import Idealize.ShloMosaic.Lib.Pointwise
public import Idealize.ShloMosaic.Lib.KernelVsHost

@[expose] public section

noncomputable section

namespace Cert.ConvIdeal.Value

open Cert.ConvIdeal Cert.ConvIdeal.Gen Idealize.ShloMosaic Idealize.ShloMosaic.TcCoe Idealize.SL.Sem
open Cert.Shift

variable (x0 : Vec Ideal S1x2048x256 .bf16) (x1 x2 x3 : Vec Ideal S2048x256 .bf16) (x4 : Vec Ideal S3x256 .f32)

/-- The convolved sequence `C * v` of a channel of the block. -/
def uB (l : Fin 256) (s : Fin 2048) : EReal := x2 (ix2 s l) * x3 (ix2 s l)

/-- The convolution's cotangent: the incoming one times the gate `B`. -/
def eB (l : Fin 256) (s : Fin 2048) : EReal := x0 (ix3 0 s l) * x1 (ix2 s l)

/-- The block's three planes: the gradients of `B`, `C` and `v`. -/
def plane (k : Fin 3) (s : Fin 2048) (l : Fin 256) : EReal :=
  match k with
  | 0 => x0 (ix3 0 s l) * Conv3.fwd (x4 (ix2 0 l)) (x4 (ix2 1 l)) (x4 (ix2 2 l)) (uB x2 x3 l) s
  | 1 => Conv3.bwd (x4 (ix2 0 l)) (x4 (ix2 1 l)) (x4 (ix2 2 l)) (eB x0 x1 l) s * x3 (ix2 s l)
  | 2 => Conv3.bwd (x4 (ix2 0 l)) (x4 (ix2 1 l)) (x4 (ix2 2 l)) (eB x0 x1 l) s * x2 (ix2 s l)

theorem sel_dn1 (f : Fin 2048 → EReal) (s : Fin 2048) (h) :
    Scalar.select (IntOp.cmpi .sge (BitVec.ofNat 32 s.val) 1#32) (f ⟨(s.val + 2048 - 1) % 2048, h⟩) 0 = dn 1 f s :=
  select_dn 1 (by decide) (by decide) f s h
theorem sel_dn2 (f : Fin 2048 → EReal) (s : Fin 2048) (h) :
    Scalar.select (IntOp.cmpi .sge (BitVec.ofNat 32 s.val) 2#32) (f ⟨(s.val + 2048 - 2) % 2048, h⟩) 0 = dn 2 f s :=
  select_dn 2 (by decide) (by decide) f s h
/-- A vector rotated along its rows, read at an entry. -/
theorem rot_apply (k : BitVec 32) (v : FVec Ideal S2048x256 .f32) (s : Fin 2048) (l : Fin 256) :
    dynamicRotate 0 k none v rotates_S2048x256_d0 (ix2 s l)
      = v (ix2 ⟨(s.val + 2048 - k.toNat % 2048) % 2048, Nat.mod_lt _ (by decide)⟩ l) := by
  refine dynamicRotate_apply 0 k v _ _ _ fun b => ?_
  match b with
  | ⟨0, _⟩ => rfl
  | ⟨1, _⟩ => rfl

/-- The rows moved up by `2048 - k`, with zeros below: a rotation whose last rows are replaced. -/
def upV (k : BitVec 32) (v : FVec Ideal S2048x256 .f32) : FVec Ideal S2048x256 .f32 :=
  select (cmpi .slt (iota Kind.tc S2048x256 32 [0] iota_S2048x256_d0_w32) (broadcast S2048x256 k))
    (dynamicRotate 0 k none v rotates_S2048x256_d0) (broadcast S2048x256 (Scalar.ofBits (F := Ideal) .f32 0x00000000#32))

theorem upV_apply (k : BitVec 32) (v : FVec Ideal S2048x256 .f32) (s : Fin 2048) (l : Fin 256) :
    upV k v (ix2 s l)
      = Scalar.select (IntOp.cmpi .slt (BitVec.ofNat 32 s.val) k)
          (v (ix2 ⟨(s.val + 2048 - k.toNat % 2048) % 2048, Nat.mod_lt _ (by decide)⟩ l)) 0 := by
  rw [← rot_apply k v s l]
  unfold upV
  generalize dynamicRotate 0 k none v rotates_S2048x256_d0 = q
  pointwise

theorem up1_apply (v : FVec Ideal S2048x256 .f32) (s : Fin 2048) (l : Fin 256) :
    upV 2047#32 v (ix2 s l) = up 1 (fun s => v (ix2 s l)) s :=
  (upV_apply _ v s l).trans (select_up 1 (by decide) (by decide) (by decide) (fun s => v (ix2 s l)) s _)
theorem up2_apply (v : FVec Ideal S2048x256 .f32) (s : Fin 2048) (l : Fin 256) :
    upV 2046#32 v (ix2 s l) = up 2 (fun s => v (ix2 s l)) s :=
  (upV_apply _ v s l).trans (select_up 2 (by decide) (by decide) (by decide) (fun s => v (ix2 s l)) s _)

/-- The sequence one step later, as the body computes it. -/
theorem pay9_apply (s : Fin 2048) (l : Fin 256) : k0_pay9 x2 x3 (ix2 s l) = dn 1 (uB x2 x3 l) s := by
  unfold_payloads
  pointwise
  exact sel_dn1 (uB x2 x3 l) s _

theorem pay10_apply (s : Fin 2048) (l : Fin 256) : k0_pay10 x2 x3 (ix2 s l) = dn 2 (uB x2 x3 l) s := by
  unfold_payloads
  pointwise
  exact sel_dn2 (uB x2 x3 l) s _

theorem pay15_apply (s : Fin 2048) (l : Fin 256) : k0_pay15 (k0_pay5 x1) (k0_pay12 x0) (ix2 s l) = eB x0 x1 l s := by
  unfold_payloads
  pointwise
  rfl

theorem pay1_apply (w0 w1 w2 : Vec Ideal S1x256 .f32) (s : Fin 2048) (l : Fin 256) :
    k0_pay1 (iota Kind.tc S2048x256 32 [0] iota_S2048x256_d0_w32) w0 w1 (k0_pay15 (k0_pay5 x1) (k0_pay12 x0))
      (k0_pay19 (k0_pay5 x1) w2 (k0_pay12 x0)) (k0_pay20 (iota Kind.tc S2048x256 32 [0] iota_S2048x256_d0_w32) (k0_pay5 x1) (k0_pay12 x0))
      (ix2 s l) = Conv3.bwd (w0 (ix2 0 l)) (w1 (ix2 0 l)) (w2 (ix2 0 l)) (eB x0 x1 l) s := by
  show addf (addf (k0_pay19 (k0_pay5 x1) w2 (k0_pay12 x0))
      (mulf (broadcastTo S2048x256 w1 broadcasts_S1x256_S2048x256) (upV 2047#32 (k0_pay15 (k0_pay5 x1) (k0_pay12 x0)))))
    (mulf (broadcastTo S2048x256 w0 broadcasts_S1x256_S2048x256) (upV 2046#32 (k0_pay15 (k0_pay5 x1) (k0_pay12 x0)))) (ix2 s l) = _
  unfold k0_pay19
  pointwise [pay15_apply, up1_apply, up2_apply]
  rfl

theorem pay11_apply (w0 w1 w2 : Vec Ideal S1x256 .f32) (s : Fin 2048) (l : Fin 256) :
    k0_pay11 x2 x3 w0 w1 w2 (ix2 s l) = Conv3.fwd (w0 (ix2 0 l)) (w1 (ix2 0 l)) (w2 (ix2 0 l)) (uB x2 x3 l) s := by
  unfold k0_pay11
  pointwise [pay9_apply, pay10_apply]
  rfl

variable (c : Dev nD) (i : grid0.Coords) (arg3 : Memref sig .tc .vmem S1x2048x256 .bf16) (harg3 : arg3.IsWhole)
  (arg4 : Memref sig .tc .vmem S2048x256 .bf16) (harg4 : arg4.IsWhole) (arg5 : Memref sig .tc .vmem S2048x256 .bf16)
  (harg5 : arg5.IsWhole) (arg6 : Memref sig .tc .vmem S2048x256 .bf16) (harg6 : arg6.IsWhole)
  (arg7 : Memref sig .tc .vmem S3x256 .f32) (harg7 : arg7.IsWhole) (arg8 : Memref sig .tc .vmem S3x2048x256 .bf16)
  (harg8 : arg8.IsWhole) (arg9 : Memref sig .tc .vmem S3x256 .f32) (harg9 : arg9.IsWhole)

theorem hz2 : (![0, 0] : Fin 2 → Nat) = fun _ => 0 := funext fun a => by fin_cases a <;> rfl
theorem hz3 : (![0, 0, 0] : Fin 3 → Nat) = fun _ => 0 := funext fun a => by fin_cases a <;> rfl

/-- The three stores of the planes leave `plane`. -/
theorem planes_canon (y : S3x2048x256.Idx) (L : List (View.Piece (Elt Ideal) S3x2048x256 .bf16))
    (hL : L = [⟨Rect.unit ![2, 0, 0] ![1, 2048, 256] inb_S3x2048x256_S1x2048x256_2_0_0,
          k0_pay3 (iota Kind.tc S2048x256 32 [0] iota_S2048x256_d0_w32) (k0_pay6 x2)
            (View.ld x4 (Rect.unit ![0, 0] ![1, 256] inb_S3x256_S1x256_0_0))
            (View.ld x4 (Rect.unit ![1, 0] ![1, 256] inb_S3x256_S1x256_1_0))
            (k0_pay15 (k0_pay5 x1) (k0_pay12 x0))
            (k0_pay19 (k0_pay5 x1) (View.ld x4 (Rect.unit ![2, 0] ![1, 256] inb_S3x256_S1x256_2_0)) (k0_pay12 x0))
            (k0_pay20 (iota Kind.tc S2048x256 32 [0] iota_S2048x256_d0_w32) (k0_pay5 x1) (k0_pay12 x0))⟩,
        ⟨Rect.unit ![1, 0, 0] ![1, 2048, 256] inb_S3x2048x256_S1x2048x256_1_0_0,
          k0_pay2 (iota Kind.tc S2048x256 32 [0] iota_S2048x256_d0_w32) (k0_pay7 x3)
            (View.ld x4 (Rect.unit ![0, 0] ![1, 256] inb_S3x256_S1x256_0_0))
            (View.ld x4 (Rect.unit ![1, 0] ![1, 256] inb_S3x256_S1x256_1_0))
            (k0_pay15 (k0_pay5 x1) (k0_pay12 x0))
            (k0_pay19 (k0_pay5 x1) (View.ld x4 (Rect.unit ![2, 0] ![1, 256] inb_S3x256_S1x256_2_0)) (k0_pay12 x0))
            (k0_pay20 (iota Kind.tc S2048x256 32 [0] iota_S2048x256_d0_w32) (k0_pay5 x1) (k0_pay12 x0))⟩,
        ⟨Rect.unit ![0, 0, 0] ![1, 2048, 256] inb_S3x2048x256_S1x2048x256_0_0_0,
          k0_pay14
            (k0_pay11 x2 x3 (View.ld x4 (Rect.unit ![0, 0] ![1, 256] inb_S3x256_S1x256_0_0))
              (View.ld x4 (Rect.unit ![1, 0] ![1, 256] inb_S3x256_S1x256_1_0))
              (View.ld x4 (Rect.unit ![2, 0] ![1, 256] inb_S3x256_S1x256_2_0)))
            (k0_pay12 x0)⟩])
    (hy : ∃ p ∈ L, y ∈ p.1.set) :
    View.canon L y = plane x0 x1 x2 x3 x4 (y 0) (y 1) (y 2) := by
  refine View.canon_apply_of_pieces (fun y => plane x0 x1 x2 x3 x4 (y 0) (y 1) (y 2)) L ?_ y hy
  subst hL
  intro p hp x
  simp only [List.mem_cons, List.not_mem_nil, or_false] at hp
  rcases hp with rfl | rfl | rfl
  · obtain ⟨a, s, l, rfl⟩ : ∃ (a : Fin 1) (s : Fin 2048) (l : Fin 256), x = ix3 a s l := ⟨_, _, _, eq_ix3 x⟩
    obtain rfl : a = 0 := Subsingleton.elim _ _
    dsimp only
    rw [emb_unit_eq _ _ _ _ (ix3 (n0 := 3) 2 s l) (fun b => by match b with
      | ⟨0, _⟩ => rfl
      | ⟨1, _⟩ => exact (Nat.zero_add _).symm
      | ⟨2, _⟩ => exact (Nat.zero_add _).symm)]
    unfold k0_pay3 k0_pay6
    pointwise
    rw [pay1_apply]
    pointwise
    rfl
  · obtain ⟨a, s, l, rfl⟩ : ∃ (a : Fin 1) (s : Fin 2048) (l : Fin 256), x = ix3 a s l := ⟨_, _, _, eq_ix3 x⟩
    obtain rfl : a = 0 := Subsingleton.elim _ _
    dsimp only
    rw [emb_unit_eq _ _ _ _ (ix3 (n0 := 3) 1 s l) (fun b => by match b with
      | ⟨0, _⟩ => rfl
      | ⟨1, _⟩ => exact (Nat.zero_add _).symm
      | ⟨2, _⟩ => exact (Nat.zero_add _).symm)]
    unfold k0_pay2 k0_pay7
    pointwise
    rw [pay1_apply]
    pointwise
    rfl
  · obtain ⟨a, s, l, rfl⟩ : ∃ (a : Fin 1) (s : Fin 2048) (l : Fin 256), x = ix3 a s l := ⟨_, _, _, eq_ix3 x⟩
    obtain rfl : a = 0 := Subsingleton.elim _ _
    dsimp only
    rw [emb_unit_eq _ _ _ _ (ix3 (n0 := 3) 0 s l) (fun b => by match b with
      | ⟨0, _⟩ => rfl
      | ⟨1, _⟩ => exact (Nat.zero_add _).symm
      | ⟨2, _⟩ => exact (Nat.zero_add _).symm)]
    unfold k0_pay14 k0_pay13 k0_pay12
    pointwise [pay11_apply]
    rfl

theorem out_A5 (hc0 : cond0_0 i) :
    out0_A_5 c i arg3 harg3 arg4 harg4 arg5 harg5 arg6 harg6 arg7 harg7 arg8 harg8 arg9 harg9 hc0 x0 x1 x2 x3 x4
      = fun y => plane x0 x1 x2 x3 x4 (y 0) (y 1) (y 2) := by
  funext y
  unfold out0_A_5
  rw [View.read_writes_eq_canon _ _ _ (cover0_A_5 c i arg3 harg3 arg4 harg4 arg5 harg5 arg6 harg6 arg7 harg7 arg8 harg8 arg9 harg9 hc0 x0 x1 x2 x3 x4)]
  refine planes_canon x0 x1 x2 x3 x4 y _ ?_ (cover0_A_5 c i arg3 harg3 arg4 harg4 arg5 harg5 arg6 harg6 arg7 harg7 arg8 harg8 arg9 harg9 hc0 x0 x1 x2 x3 x4 y)
  unfold kernelRun0_A
  dsimp only
  sl_unfold_words
  simp only [View.readAt_eq_ld, harg3.read_unread, harg4.read_unread, harg5.read_unread, harg6.read_unread, harg7.read_unread,
    View.ld_unit_zero (S := S2048x256) hz2, View.ld_unit_zero (S := S1x2048x256) hz3]

/-- One grid point's contribution to the weight gradient. -/
def taps (y : S3x256.Idx) : EReal := Conv3.tap (y 0) (eB x0 x1 (y 1)) (uB x2 x3 (y 1))

theorem pay16_apply (v : Vec Ideal S1x256 .f32) (l : Fin 256) :
    k0_pay16 (k0_pay5 x1) (k0_pay10 x2 x3) (k0_pay12 x0) v (ix2 0 l) = v (ix2 0 l) + taps x0 x1 x2 x3 (ix2 0 l) := by
  unfold k0_pay16
  pointwise [pay15_apply, pay10_apply]
  rfl
theorem pay17_apply (v : Vec Ideal S1x256 .f32) (l : Fin 256) :
    k0_pay17 (k0_pay5 x1) (k0_pay9 x2 x3) (k0_pay12 x0) v (ix2 0 l) = v (ix2 0 l) + taps x0 x1 x2 x3 (ix2 1 l) := by
  unfold k0_pay17
  pointwise [pay15_apply, pay9_apply]
  rfl
theorem pay18_apply (v : Vec Ideal S1x256 .f32) (l : Fin 256) :
    k0_pay18 (k0_pay5 x1) (k0_pay8 x2 x3) (k0_pay12 x0) v (ix2 0 l) = v (ix2 0 l) + taps x0 x1 x2 x3 (ix2 2 l) := by
  unfold k0_pay18 k0_pay8 k0_pay7 k0_pay6
  pointwise [pay15_apply]
  rfl

theorem out_B6 (hc0 : ¬ cond0_0 i) (y : S3x256.Idx) (xo : Vec Ideal S3x256 .f32) :
    out0_B_6 c i arg3 harg3 arg4 harg4 arg5 harg5 arg6 harg6 arg7 harg7 arg8 harg8 arg9 harg9 hc0 x0 x1 x2 x3 x4 xo y
      = xo y + taps x0 x1 x2 x3 y := by
  unfold out0_B_6
  rw [View.read_writes_eq_canon _ _ _ (cover0_B_6 c i arg3 harg3 arg4 harg4 arg5 harg5 arg6 harg6 arg7 harg7 arg8 harg8 arg9 harg9 hc0 x0 x1 x2 x3 x4 xo)]
  unfold kernelRun0_B
  dsimp only
  sl_unfold_words
  simp only [View.readAt_eq_ld, harg3.read_unread, harg4.read_unread, harg5.read_unread, harg6.read_unread, harg7.read_unread,
    harg9.read_unread, View.ld_unit_zero (S := S2048x256) hz2, View.ld_unit_zero (S := S1x2048x256) hz3]
  obtain ⟨k, l, rfl⟩ : ∃ (k : Fin 3) (l : Fin 256), y = ix2 k l := ⟨_, _, eq_ix2 y⟩
  rw [canon_row, canon_row, canon_row]
  fin_cases k
  · rw [if_neg (by decide), if_neg (by decide), if_pos rfl]
    refine (pay16_apply x0 x1 x2 x3 _ l).trans ?_
    pointwise
  · rw [if_neg (by decide), if_pos rfl]
    refine (pay17_apply x0 x1 x2 x3 _ l).trans ?_
    pointwise
  · rw [if_pos rfl]
    refine (pay18_apply x0 x1 x2 x3 _ l).trans ?_
    pointwise

theorem out_A6 (hc0 : cond0_0 i) (y : S3x256.Idx) :
    out0_A_6 c i arg3 harg3 arg4 harg4 arg5 harg5 arg6 harg6 arg7 harg7 arg8 harg8 arg9 harg9 hc0 x0 x1 x2 x3 x4 y
      = taps x0 x1 x2 x3 y := by
  unfold out0_A_6
  rw [View.read_writes_eq_canon _ _ _ (cover0_A_6 c i arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg3.read_unread, harg4.read_unread, harg5.read_unread, harg6.read_unread, harg7.read_unread,
    View.ld_unit_zero (S := S2048x256) hz2, View.ld_unit_zero (S := S1x2048x256) hz3]
  obtain ⟨k, l, rfl⟩ : ∃ (k : Fin 3) (l : Fin 256), y = ix2 k l := ⟨_, _, eq_ix2 y⟩
  have hz : ∀ (w : S3x256.Idx), (k0_pay4 (F := Ideal)) w = 0 := fun w => by unfold k0_pay4; pointwise
  rw [canon_row, canon_row, canon_row]
  fin_cases k
  · rw [if_neg (by decide), if_neg (by decide), if_pos rfl]
    refine (pay16_apply x0 x1 x2 x3 _ l).trans ?_
    rw [readCov_row _ 0 (by decide), View.canon_cons_unit_zero (S := S3x256) hz2, hz, zero_add]
    rfl
  · rw [if_neg (by decide), if_pos rfl]
    refine (pay17_apply x0 x1 x2 x3 _ l).trans ?_
    rw [readCov_row _ 1 (by decide), canon_row, if_neg (by decide), View.canon_cons_unit_zero (S := S3x256) hz2, hz, zero_add]
    rfl
  · rw [if_pos rfl]
    refine (pay18_apply x0 x1 x2 x3 _ l).trans ?_
    rw [readCov_row _ 2 (by decide), canon_row, if_neg (by decide), canon_row, if_neg (by decide),
      View.canon_cons_unit_zero (S := S3x256) hz2, hz, zero_add]
    rfl

theorem out_B5 (hc0 : ¬ cond0_0 i) (xo : Vec Ideal S3x256 .f32) :
    out0_B_5 c i arg3 harg3 arg4 harg4 arg5 harg5 arg6 harg6 arg7 harg7 arg8 harg8 arg9 harg9 hc0 x0 x1 x2 x3 x4 xo
      = fun y => plane x0 x1 x2 x3 x4 (y 0) (y 1) (y 2) := by
  funext y
  unfold out0_B_5
  rw [View.read_writes_eq_canon _ _ _ (cover0_B_5 c i arg3 harg3 arg4 harg4 arg5 harg5 arg6 harg6 arg7 harg7 arg8 harg8 arg9 harg9 hc0 x0 x1 x2 x3 x4 xo)]
  refine planes_canon x0 x1 x2 x3 x4 y _ ?_ (cover0_B_5 c i arg3 harg3 arg4 harg4 arg5 harg5 arg6 harg6 arg7 harg7 arg8 harg8 arg9 harg9 hc0 x0 x1 x2 x3 x4 xo y)
  unfold kernelRun0_B
  dsimp only
  sl_unfold_words
  simp only [View.readAt_eq_ld, harg3.read_unread, harg4.read_unread, harg5.read_unread, harg6.read_unread, harg7.read_unread,
    View.ld_unit_zero (S := S2048x256) hz2, View.ld_unit_zero (S := S1x2048x256) hz3]

end Cert.ConvIdeal.Value
-- ==== Proof.ConvArray.lean ====
/-
  The short convolution's gradient over the whole arrays: which entries of the arguments each grid point reads, and what
  the two results hold after the run.
-/
module

public import proofs.«01_k».proof.Proof.ConvBlock

@[expose] public section

noncomputable section

namespace Cert.ConvIdeal.Value

open Cert.ConvIdeal Cert.ConvIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as arrays of extended reals. -/
abbrev aD : (⟨3, ![2, 4096, 1024]⟩ : Shape).Idx → EReal := m ((c : Thread nD τ).loc main_arg1)
abbrev aZ : (⟨2, ![4096, 6144]⟩ : Shape).Idx → EReal := m ((c : Thread nD τ).loc main_arg2)
abbrev aW : (⟨2, ![3, 1024]⟩ : Shape).Idx → EReal := m ((c : Thread nD τ).loc main_arg3)

/-- Sequence and column block of a grid point. -/
def seqOf (t : Fin cfg0.N) : Fin 2 := ⟨t.val % 2, Nat.mod_lt _ (by decide)⟩
def chan (t : Fin cfg0.N) (l : Fin 256) : Fin 1024 :=
  ⟨t.val / 2 * 256 + l.val, by have h : t.val < 8 := t.isLt.trans_eq N_0; omega⟩

theorem index0 : ∀ t : Fin cfg0.N, win0_0.index t 0 = 1 ∧ win0_0.index t 1 = t.val % 2 ∧ win0_0.index t 2 = t.val / 2 :=
  (by decide +kernel : ∀ t : Fin grid0.N, win0_0.index t 0 = 1 ∧ win0_0.index t 1 = t.val % 2 ∧ win0_0.index t 2 = t.val / 2)
theorem index1 : ∀ t : Fin cfg0.N, win0_1.index t 0 = t.val % 2 ∧ win0_1.index t 1 = 4 + t.val / 2 :=
  (by decide +kernel : ∀ t : Fin grid0.N, win0_1.index t 0 = t.val % 2 ∧ win0_1.index t 1 = 4 + t.val / 2)
theorem index2 : ∀ t : Fin cfg0.N, win0_2.index t 0 = t.val % 2 ∧ win0_2.index t 1 = 8 + t.val / 2 :=
  (by decide +kernel : ∀ t : Fin grid0.N, win0_2.index t 0 = t.val % 2 ∧ win0_2.index t 1 = 8 + t.val / 2)
theorem index3 : ∀ t : Fin cfg0.N, win0_3.index t 0 = t.val % 2 ∧ win0_3.index t 1 = 12 + t.val / 2 :=
  (by decide +kernel : ∀ t : Fin grid0.N, win0_3.index t 0 = t.val % 2 ∧ win0_3.index t 1 = 12 + t.val / 2)
theorem index4 : ∀ t : Fin cfg0.N, win0_4.index t 0 = 0 ∧ win0_4.index t 1 = t.val / 2 :=
  (by decide +kernel : ∀ t : Fin grid0.N, win0_4.index t 0 = 0 ∧ win0_4.index t 1 = t.val / 2)
theorem index5 : ∀ t : Fin cfg0.N, win0_5.index t 0 = 0 ∧ win0_5.index t 1 = t.val % 2 ∧ win0_5.index t 2 = t.val / 2 :=
  (by decide +kernel : ∀ t : Fin grid0.N, win0_5.index t 0 = 0 ∧ win0_5.index t 1 = t.val % 2 ∧ win0_5.index t 2 = t.val / 2)
theorem index6 : ∀ t : Fin cfg0.N, win0_6.index t 0 = 0 ∧ win0_6.index t 1 = t.val / 2 :=
  (by decide +kernel : ∀ t : Fin grid0.N, win0_6.index t 0 = 0 ∧ win0_6.index t 1 = t.val / 2)

theorem iblk0 (t : Fin cfg0.N) (s : Fin 2048) (l : Fin 256) :
    (iblk m c 0 t : Vec Ideal S1x2048x256 .bf16) (ix3 0 s l) = aD m c (ix3 1 (Conv3.tok (seqOf t) s) (chan t l)) := by
  unfold iblk
  rw [View.read_apply]
  show V m c main_arg1 _ = m _ _
  rw [V_main_arg1]
  congr 1
  funext a
  apply Fin.ext
  match a with
  | ⟨0, _⟩ => show win0_0.index t 0 * 1 + 1 * 0 = 1; rw [(index0 t).1]
  | ⟨1, _⟩ => show win0_0.index t 1 * 2048 + 1 * s.val = t.val % 2 * 2048 + s.val; rw [(index0 t).2.1]; omega
  | ⟨2, _⟩ => show win0_0.index t 2 * 256 + 1 * l.val = t.val / 2 * 256 + l.val; rw [(index0 t).2.2]; omega

theorem iblk1 (t : Fin cfg0.N) (s : Fin 2048) (l : Fin 256) :
    (iblk m c 1 t : Vec Ideal S2048x256 .bf16) (ix2 s l) = aZ m c (ix2 (Conv3.tok (seqOf t) s) (Conv3.col 1 (chan t l))) := by
  unfold iblk
  rw [View.read_apply]
  show V m c main_arg2 _ = m _ _
  rw [V_main_arg2]
  congr 1
  funext a
  apply Fin.ext
  match a with
  | ⟨0, _⟩ => show win0_1.index t 0 * 2048 + 1 * s.val = t.val % 2 * 2048 + s.val; rw [(index1 t).1]; omega
  | ⟨1, _⟩ => show win0_1.index t 1 * 256 + 1 * l.val = 1 * 1024 + (t.val / 2 * 256 + l.val); rw [(index1 t).2]; omega

theorem iblk2 (t : Fin cfg0.N) (s : Fin 2048) (l : Fin 256) :
    (iblk m c 2 t : Vec Ideal S2048x256 .bf16) (ix2 s l) = aZ m c (ix2 (Conv3.tok (seqOf t) s) (Conv3.col 2 (chan t l))) := by
  unfold iblk
  rw [View.read_apply]
  show V m c main_arg2 _ = m _ _
  rw [V_main_arg2]
  congr 1
  funext a
  apply Fin.ext
  match a with
  | ⟨0, _⟩ => show win0_2.index t 0 * 2048 + 1 * s.val = t.val % 2 * 2048 + s.val; rw [(index2 t).1]; omega
  | ⟨1, _⟩ => show win0_2.index t 1 * 256 + 1 * l.val = 2 * 1024 + (t.val / 2 * 256 + l.val); rw [(index2 t).2]; omega

theorem iblk3 (t : Fin cfg0.N) (s : Fin 2048) (l : Fin 256) :
    (iblk m c 3 t : Vec Ideal S2048x256 .bf16) (ix2 s l) = aZ m c (ix2 (Conv3.tok (seqOf t) s) (Conv3.col 3 (chan t l))) := by
  unfold iblk
  rw [View.read_apply]
  show V m c main_arg2 _ = m _ _
  rw [V_main_arg2]
  congr 1
  funext a
  apply Fin.ext
  match a with
  | ⟨0, _⟩ => show win0_3.index t 0 * 2048 + 1 * s.val = t.val % 2 * 2048 + s.val; rw [(index3 t).1]; omega
  | ⟨1, _⟩ => show win0_3.index t 1 * 256 + 1 * l.val = 3 * 1024 + (t.val / 2 * 256 + l.val); rw [(index3 t).2]; omega

theorem iblk4 (t : Fin cfg0.N) (k : Fin 3) (l : Fin 256) :
    (iblk m c 4 t : Vec Ideal S3x256 .f32) (ix2 k l) = aW m c (ix2 k (chan t l)) := by
  unfold iblk
  rw [View.read_apply]
  show V m c main_arg3 _ = m _ _
  rw [V_main_arg3]
  congr 1
  funext a
  apply Fin.ext
  match a with
  | ⟨0, _⟩ => show win0_4.index t 0 * 3 + 1 * k.val = k.val; rw [(index4 t).1]; omega
  | ⟨1, _⟩ => show win0_4.index t 1 * 256 + 1 * l.val = t.val / 2 * 256 + l.val; rw [(index4 t).2]; omega

/-- A point's sequences and planes are those of the whole arrays. -/
theorem uB_iblk (t : Fin cfg0.N) (l : Fin 256) :
    uB (iblk m c 2 t) (iblk m c 3 t) l = Conv3.u (aZ m c) (seqOf t) (chan t l) :=
  funext fun s => congrArg₂ (· * ·) (iblk2 m c t s l) (iblk3 m c t s l)
theorem eB_iblk (t : Fin cfg0.N) (l : Fin 256) :
    eB (iblk m c 0 t) (iblk m c 1 t) l = Conv3.e (aD m c) (aZ m c) (seqOf t) (chan t l) :=
  funext fun s => congrArg₂ (· * ·) (iblk0 m c t s l) (iblk1 m c t s l)

theorem plane_iblk (t : Fin cfg0.N) (k : Fin 3) (s : Fin 2048) (l : Fin 256) :
    plane (iblk m c 0 t) (iblk m c 1 t) (iblk m c 2 t) (iblk m c 3 t) (iblk m c 4 t) k s l
      = Conv3.plane (aD m c) (aZ m c) (aW m c) k (seqOf t) s (chan t l) := by
  unfold plane Conv3.plane
  rw [uB_iblk, eB_iblk, iblk4, iblk4, iblk4, iblk0, iblk2, iblk3]
  match k with
  | 0 => rfl
  | 1 => rfl
  | 2 => rfl

theorem taps_iblk (t : Fin cfg0.N) (k : Fin 3) (l : Fin 256) :
    taps (iblk m c 0 t) (iblk m c 1 t) (iblk m c 2 t) (iblk m c 3 t) (ix2 k l)
      = Conv3.tap k (Conv3.e (aD m c) (aZ m c) (seqOf t) (chan t l)) (Conv3.u (aZ m c) (seqOf t) (chan t l)) := by
  unfold taps
  exact congrArg₂ (Conv3.tap k) (eB_iblk m c t l) (uB_iblk m c t l)

/-- What a point writes back of the planes. -/
theorem flushed5_apply (t : Fin cfg0.N) (y : S3x2048x256.Idx) :
    (outsAt0 m c t.val t.isLt).1 y = Conv3.plane (aD m c) (aZ m c) (aW m c) (y 0) (seqOf t) (y 1) (chan t (y 2)) := by
  obtain ⟨k, s, l, rfl⟩ : ∃ (k : Fin 3) (s : Fin 2048) (l : Fin 256), y = ix3 k s l := ⟨_, _, _, eq_ix3 y⟩
  refine Eq.trans ?_ (plane_iblk m c t k s l)
  by_cases h0 : t.val % 2 = 0
  · refine (congrFun (congrArg Prod.fst (outsAt0_A m c t h0)) _).trans ?_
    dsimp only
    rw [out_A5]
    rfl
  · refine (congrFun (congrArg Prod.fst (outsAt0_B m c t h0)) _).trans ?_
    dsimp only
    rw [out_B5]
    rfl

/-- After the second sequence's point the taps' gradient holds both sequences' sums. -/
theorem outs6_apply (t : Fin cfg0.N) (h1 : t.val % 2 = 1) (y : S3x256.Idx) :
    (outsAt0 m c t.val t.isLt).2 y = Conv3.gradW (aD m c) (aZ m c) (ix2 (y 0) (chan t (y 1))) := by
  obtain ⟨k, l, rfl⟩ : ∃ (k : Fin 3) (l : Fin 256), y = ix2 k l := ⟨_, _, eq_ix2 y⟩
  have hp : t.val - 1 < cfg0.N := (Nat.sub_le _ _).trans_lt t.isLt
  refine (congrFun (congrArg Prod.snd (outsAt0_B m c t (by omega))) _).trans ?_
  dsimp only
  rw [out_B6]
  have ha := congrFun (congrArg Prod.snd (outsAt0_A m c ⟨t.val - 1, hp⟩ (by show (t.val - 1) % 2 = 0; omega))) (ix2 k l)
  dsimp only at ha
  rw [out_A6] at ha
  rw [ha, taps_iblk, taps_iblk]
  have e0 : seqOf ⟨t.val - 1, hp⟩ = 0 := Fin.ext (by show (t.val - 1) % 2 = 0; omega)
  have e1 : seqOf t = 1 := Fin.ext h1
  have e2 : chan ⟨t.val - 1, hp⟩ l = chan t l := Fin.ext (by show (t.val - 1) / 2 * 256 + l.val = t.val / 2 * 256 + l.val; omega)
  rw [e0, e1, e2]
  rfl

/-- The planes after the run. -/
theorem final5 (y : (⟨3, ![6, 4096, 1024]⟩ : Shape).Idx) :
    ((dats m 0 c).arrAt 5 cfg0.N : (⟨3, ![6, 4096, 1024]⟩ : Shape).Idx → EReal) y
      = Conv3.planes (aD m c) (aZ m c) (aW m c) (m ((c : Thread nD τ).loc main_arg0)) y := by
  obtain ⟨k, r, l, rfl⟩ : ∃ (k : Fin 6) (r : Fin 4096) (l : Fin 1024), y = ix3 k r l := ⟨_, _, _, eq_ix3 y⟩
  unfold Conv3.planes
  by_cases h : k.val < 3
  · rw [dif_pos (show ((ix3 k r l : (⟨3, ![6, 4096, 1024]⟩ : Shape).Idx) 0).val < 3 from h)]
    let t : Fin cfg0.N := ⟨l.val / 256 * 2 + r.val / 2048, by rw [show cfg0.N = 8 from N_0]; omega⟩
    have ht : t.val = l.val / 256 * 2 + r.val / 2048 := rfl
    have e := (dats m 0 c).arrAt_emb_eq_flushed 5 disjoint5 t (flush0_5 t)
      (ix3 (⟨k.val, h⟩ : Fin 3) (⟨r.val % 2048, Nat.mod_lt _ (by decide)⟩ : Fin 2048) (⟨l.val % 256, Nat.mod_lt _ (by decide)⟩ : Fin 256))
    have ei : ((cfg0.win 5).blk t).view.emb
        (ix3 (⟨k.val, h⟩ : Fin 3) (⟨r.val % 2048, Nat.mod_lt _ (by decide)⟩ : Fin 2048) (⟨l.val % 256, Nat.mod_lt _ (by decide)⟩ : Fin 256))
        = ix3 k r l := by
      funext a
      apply Fin.ext
      match a with
      | ⟨0, _⟩ => show win0_5.index t 0 * 3 + 1 * k.val = k.val; rw [(index5 t).1]; omega
      | ⟨1, _⟩ => show win0_5.index t 1 * 2048 + 1 * (r.val % 2048) = r.val; rw [(index5 t).2.1]; omega
      | ⟨2, _⟩ => show win0_5.index t 2 * 256 + 1 * (l.val % 256) = l.val; rw [(index5 t).2.2]; omega
    rw [ei] at e
    refine e.trans ?_
    rw [cast_eq, flushed5]
    refine (flushed5_apply m c t _).trans ?_
    have e1 : seqOf t = ⟨r.val / 2048, by omega⟩ := Fin.ext (by show t.val % 2 = r.val / 2048; omega)
    have e2 : chan t ⟨l.val % 256, Nat.mod_lt _ (by decide)⟩ = l := Fin.ext (by show t.val / 2 * 256 + l.val % 256 = l.val; omega)
    show Conv3.plane _ _ _ _ (seqOf t) _ (chan t ⟨l.val % 256, _⟩) = _
    rw [e1, e2]
    rfl
  · rw [dif_neg (show ¬ ((ix3 k r l : (⟨3, ![6, 4096, 1024]⟩ : Shape).Idx) 0).val < 3 from h)]
    refine (entry5 m c _ fun t _ hi => h ?_).trans rfl
    have hi : ix3 k r l ∈ ((View.whole main_v0_0).slice (win0_5.rect t)).set := hi
    rw [View.set_slice_whole, Rect.mem_set_unit] at hi
    have h2 : k.val < win0_5.index t 0 * 3 + 3 := (hi 0).2
    rw [(index5 t).1] at h2
    omega

/-- The taps' gradient after the run. -/
theorem final6 (y : (⟨2, ![3, 1024]⟩ : Shape).Idx) :
    ((dats m 0 c).arrAt 6 cfg0.N : (⟨2, ![3, 1024]⟩ : Shape).Idx → EReal) y = Conv3.gradW (aD m c) (aZ m c) y := by
  refine congrFun ((dats m 0 c).arrAt_eq_of_cover 6 (Conv3.gradW (aD m c) (aZ m c)) (fun t hf => ?_) fun i => ?_) y
  · have h1 := (flush0_6 t).mp hf
    rw [flushed6]
    funext x
    refine (outs6_apply m c t h1 x).trans ?_
    rw [View.read_apply]
    obtain ⟨k, l, rfl⟩ : ∃ (k : Fin 3) (l : Fin 256), x = ix2 k l := ⟨_, _, eq_ix2 x⟩
    refine congrArg (Conv3.gradW (aD m c) (aZ m c)) ?_
    funext a
    apply Fin.ext
    match a with
    | ⟨0, _⟩ => show k.val = win0_6.index t 0 * 3 + 1 * k.val; rw [(index6 t).1]; omega
    | ⟨1, _⟩ => show t.val / 2 * 256 + l.val = win0_6.index t 1 * 256 + 1 * l.val; rw [(index6 t).2]; omega
  · obtain ⟨k, l, rfl⟩ : ∃ (k : Fin 3) (l : Fin 1024), i = ix2 k l := ⟨_, _, eq_ix2 i⟩
    let t : Fin cfg0.N := ⟨l.val / 256 * 2 + 1, by rw [show cfg0.N = 8 from N_0]; omega⟩
    have ht : t.val = l.val / 256 * 2 + 1 := rfl
    refine ⟨t, (flush0_6 t).mpr (by omega), ?_⟩
    show ix2 k l ∈ ((View.whole main_v0_1).slice (win0_6.rect t)).set
    rw [View.set_slice_whole, Rect.mem_set_unit]
    intro a
    match a with
    | ⟨0, _⟩ => show win0_6.index t 0 * 3 ≤ k.val ∧ k.val < win0_6.index t 0 * 3 + 3; rw [(index6 t).1]; omega
    | ⟨1, _⟩ => show win0_6.index t 1 * 256 ≤ l.val ∧ l.val < win0_6.index t 1 * 256 + 256; rw [(index6 t).2]; omega

end Cert.ConvIdeal.Value

end
-- ==== Proof.HostSum.lean ====
/-
  A host sum over the two leading axes of a rank-three array, read at an index, ideally.
-/
module

public import Idealize.ShloMosaic.Lib.Pointwise
public import Idealize.ShloMosaic.Lib.ValueIdx

@[expose] public section

noncomputable section

namespace Cert.HostSum

open Idealize.ShloMosaic

/-- Summing out axes 0 and 1 leaves the double sum over them. -/
theorem hostReduceAdd_two {n0 n1 n2 : ℕ} (h : (⟨3, ![n0, n1, n2]⟩ : Shape).ReducesTo [0, 1] ⟨1, ![n2]⟩)
    (v : (⟨3, ![n0, n1, n2]⟩ : Shape).Idx → EReal) (init : EReal) (l : Fin n2) :
    Ideal.hostReduceAdd h v init (ix1 l) = init + ∑ b : Fin n0, ∑ s : Fin n1, v (ix3 b s l) := by
  have hv : ∀ i, (h.drop i 0 : Nat) = i 2 := fun i => Shape.ReducesTo.drop_apply_val h i 0
  unfold Ideal.hostReduceAdd
  congr 1
  rw [← Finset.sum_product']
  refine (Finset.sum_bij (fun p _ => ix3 p.1 p.2 l) ?_ ?_ ?_ ?_).symm
  · intro p _
    refine Finset.mem_filter.mpr ⟨Finset.mem_univ _, ?_⟩
    funext a
    match a with
    | ⟨0, _⟩ => exact Fin.ext (hv _)
  · intro p _ q _ e
    exact Prod.ext (congrFun e 0) (congrFun e 1)
  · intro i hi
    refine ⟨(i 0, i 1), by simp, ?_⟩
    have e := congrFun (Finset.mem_filter.mp hi).2 0
    have e2 : (i 2 : Fin n2) = l := Fin.ext ((hv i).symm.trans (congrArg Fin.val e))
    funext a
    match a with
    | ⟨0, _⟩ => rfl
    | ⟨1, _⟩ => rfl
    | ⟨2, _⟩ => exact e2.symm
  · intro p _; rfl

end Cert.HostSum

end
-- ==== Proof.ConvRef.lean ====
/-
  What the reference of the short convolution's gradient computes, read at an index from its arguments: the reverse-mode
  derivative of `B · conv3(C · v)` is `Conv3.planes` and `Conv3.gradW`.
-/
module

public import proofs.«01_k».proof.Proof.ConvSpec
public import proofs.«01_k».proof.Proof.HostSum
public import proofs.«01_k».proof.Proof.Gen.ConvRefIdeal.Read
public import Idealize.ShloMosaic.Lib.Pointwise

@[expose] public section

noncomputable section

namespace Cert.ConvRefIdeal.Value

open Cert.ConvRefIdeal Cert.ConvRefIdeal.Gen Cert.ConvRefIdeal.Read Idealize.ShloMosaic Idealize.ShloMosaic.TcCoe Idealize.SL.Sem

variable (D : (⟨3, ![2, 4096, 1024]⟩ : Shape).Idx → EReal) (Z : (⟨2, ![4096, 6144]⟩ : Shape).Idx → EReal)
  (W : (⟨2, ![3, 1024]⟩ : Shape).Idx → EReal)

/-! ### The gates, the cotangent and the taps at a token and a channel -/

theorem v2 (b : Fin 2) (s : Fin 2048) (l : Fin 1024) :
    val_main_v2 (F := Ideal) Z (ix3 b s l) = Z (ix2 (Conv3.tok b s) (Conv3.col 1 l)) := by
  unfold val_main_v2 val_main_v1 val_main_v0
  pointwise
  rfl

theorem v5 (b : Fin 2) (s : Fin 2048) (l : Fin 1024) :
    val_main_v5 (F := Ideal) Z (ix3 b s l) = Z (ix2 (Conv3.tok b s) (Conv3.col 2 l)) := by
  unfold val_main_v5 val_main_v4 val_main_v3
  pointwise
  rfl

theorem v8 (b : Fin 2) (s : Fin 2048) (l : Fin 1024) :
    val_main_v8 (F := Ideal) Z (ix3 b s l) = Z (ix2 (Conv3.tok b s) (Conv3.col 3 l)) := by
  unfold val_main_v8 val_main_v7 val_main_v6
  pointwise
  rfl

theorem v12 (b : Fin 2) (s : Fin 2048) (l : Fin 1024) :
    val_main_v12 (F := Ideal) D (ix3 b s l) = D (ix3 1 (Conv3.tok b s) l) := by
  unfold val_main_v12 val_main_v11 val_main_v10 val_main_v9
  pointwise
  rfl

theorem v24 (l : Fin 1024) : val_main_v24 (F := Ideal) W (ix3 0 0 l) = W (ix2 0 l) := by
  unfold val_main_v24 val_main_v23 val_main_v22
  pointwise

theorem v29 (l : Fin 1024) : val_main_v29 (F := Ideal) W (ix3 0 0 l) = W (ix2 1 l) := by
  unfold val_main_v29 val_main_v28 val_main_v27
  pointwise

theorem v35 (l : Fin 1024) : val_main_v35 (F := Ideal) W (ix3 0 0 l) = W (ix2 2 l) := by
  unfold val_main_v35 val_main_v34 val_main_v33
  pointwise

/-! ### The convolution and its transpose -/

theorem v13 (b : Fin 2) (s : Fin 2048) (l : Fin 1024) :
    val_main_v13 (F := Ideal) Z (ix3 b s l) = Conv3.u Z b l s := by
  unfold val_main_v13
  pointwise [v5, v8]
  rfl

theorem v40 (b : Fin 2) (s : Fin 2048) (l : Fin 1024) :
    val_main_v40 (F := Ideal) D Z (ix3 b s l) = Conv3.e D Z b l s := by
  unfold val_main_v40
  pointwise [v2, v12]
  exact mul_comm _ _

theorem v16 (b : Fin 2) (s : Fin 2048) (l : Fin 1024) :
    val_main_v16 (F := Ideal) Z (ix3 b s l) = Shift.dn 1 (Conv3.u Z b l) s := by
  unfold val_main_v16 val_main_v15 val_main_v14 val_main_cst
  pointwise [v13]
  unfold Shift.dn
  by_cases h : 1 ≤ s.val
  · rw [dif_neg (by omega), if_pos h]
  · rw [dif_pos (by omega), if_neg h]

theorem v20 (b : Fin 2) (s : Fin 2048) (l : Fin 1024) :
    val_main_v20 (F := Ideal) Z (ix3 b s l) = Shift.dn 2 (Conv3.u Z b l) s := by
  unfold val_main_v20 val_main_v19 val_main_v18 val_main_cst_1
  pointwise [v13]
  unfold Shift.dn
  by_cases h : 2 ≤ s.val
  · rw [dif_neg (by omega), if_pos h]
  · rw [dif_pos (by omega), if_neg h]

theorem v38 (b : Fin 2) (s : Fin 2048) (l : Fin 1024) :
    val_main_v38 (F := Ideal) Z W (ix3 b s l)
      = Conv3.fwd (W (ix2 0 l)) (W (ix2 1 l)) (W (ix2 2 l)) (Conv3.u Z b l) s := by
  unfold val_main_v38 val_main_v37 val_main_v36 val_main_v32 val_main_v31 val_main_v30 val_main_v26 val_main_v25
  pointwise [v13, v16, v20, v24, v29, v35]
  unfold Conv3.fwd
  rw [add_comm, add_comm (_ * Shift.dn 2 _ _), ← add_assoc]

theorem v51 (b : Fin 2) (s : Fin 2048) (l : Fin 1024) :
    val_main_v51 (F := Ideal) D Z W (ix3 b s l) = W (ix2 1 l) * Conv3.e D Z b l s := by
  unfold val_main_v51 val_main_v50
  pointwise [v29, v40]

theorem v60 (b : Fin 2) (s : Fin 2048) (l : Fin 1024) :
    val_main_v60 (F := Ideal) D Z W (ix3 b s l) = W (ix2 0 l) * Conv3.e D Z b l s := by
  unfold val_main_v60 val_main_v59
  pointwise [v24, v40]

theorem v70 (b : Fin 2) (s : Fin 2048) (l : Fin 1024) :
    val_main_v70 (F := Ideal) D Z W (ix3 b s l) = W (ix2 0 l) * Shift.up 2 (Conv3.e D Z b l) s := by
  rw [← Shift.up_mul]
  unfold val_main_v70 val_main_v69 val_main_cst_12
  pointwise [v60]
  unfold Shift.up
  by_cases h : s.val + 2 < 2048
  · rw [dif_pos (by omega), dif_pos h]
    simp only [Nat.add_comm 2]
  · rw [dif_neg (by omega), dif_neg h]

theorem v74 (b : Fin 2) (s : Fin 2048) (l : Fin 1024) :
    val_main_v74 (F := Ideal) D Z W (ix3 b s l) = W (ix2 1 l) * Shift.up 1 (Conv3.e D Z b l) s := by
  rw [← Shift.up_mul]
  unfold val_main_v74 val_main_v73 val_main_cst_13
  pointwise [v51]
  unfold Shift.up
  by_cases h : s.val + 1 < 2048
  · rw [dif_pos (by omega), dif_pos h]
    simp only [Nat.add_comm 1]
  · rw [dif_neg (by omega), dif_neg h]

theorem v75 (b : Fin 2) (s : Fin 2048) (l : Fin 1024) :
    val_main_v75 (F := Ideal) D Z W (ix3 b s l)
      = Conv3.bwd (W (ix2 0 l)) (W (ix2 1 l)) (W (ix2 2 l)) (Conv3.e D Z b l) s := by
  unfold val_main_v75 val_main_v71 val_main_v43 val_main_v42
  pointwise [v35, v40, v70, v74]
  unfold Conv3.bwd
  rw [add_right_comm]

/-! ### The three planes -/

theorem v81 (k : Fin 3) (b : Fin 2) (s : Fin 2048) (l : Fin 1024) :
    val_main_v81 (F := Ideal) D Z W (ix4 k b s l) = Conv3.plane D Z W k b s l := by
  unfold val_main_v81 val_main_v80 val_main_v79 val_main_v78 val_main_v77 val_main_v76 val_main_v41
  pointwise [v5, v8, v12, v38, v75]
  match k with
  | 0 => rfl
  | 1 => rfl
  | 2 => exact mul_comm _ _

theorem v82 (k : Fin 3) (r : Fin 4096) (l : Fin 1024) :
    val_main_v82 (F := Ideal) D Z W (ix3 k r l)
      = Conv3.plane D Z W k ⟨r.val / 2048, by omega⟩ ⟨r.val % 2048, Nat.mod_lt _ (by decide)⟩ l := by
  unfold val_main_v82
  pointwise
  exact v81 D Z W _ _ _ _

theorem planes_lo (dz : (⟨3, ![6, 4096, 1024]⟩ : Shape).Idx → EReal) (k : Fin 6) (r : Fin 4096) (l : Fin 1024) (h : k.val < 3) :
    Conv3.planes D Z W dz (ix3 k r l)
      = Conv3.plane D Z W ⟨k.val, h⟩ ⟨r.val / 2048, by omega⟩ ⟨r.val % 2048, Nat.mod_lt _ (by decide)⟩ l := dif_pos h

theorem planes_hi (dz : (⟨3, ![6, 4096, 1024]⟩ : Shape).Idx → EReal) (k : Fin 6) (r : Fin 4096) (l : Fin 1024) (h : ¬k.val < 3) :
    Conv3.planes D Z W dz (ix3 k r l) = dz (ix3 k r l) := dif_neg h

theorem planes_eq (dz : (⟨3, ![6, 4096, 1024]⟩ : Shape).Idx → EReal) (y : (⟨3, ![6, 4096, 1024]⟩ : Shape).Idx) :
    val_main_v85 (F := Ideal) dz D Z W y = Conv3.planes D Z W dz y := by
  obtain ⟨k, r, l, rfl⟩ : ∃ k r l, y = ix3 k r l := ⟨_, _, _, eq_ix3 y⟩
  unfold val_main_v85
  pointwise
  by_cases h : k.val < 3
  · rw [dif_pos h, planes_lo (h := h)]
    rw [val_main_v83_apply, v82]
    rfl
  · rw [dif_neg h, val_main_v84_apply, planes_hi (h := h)]
    refine congrArg dz ?_
    funext a
    apply Fin.ext
    match a with
    | ⟨0, _⟩ => show 3 + (k.val - 3) = k.val; omega
    | ⟨1, _⟩ => rfl
    | ⟨2, _⟩ => rfl

/-! ### The taps' gradient -/

theorem v45 (l : Fin 1024) :
    val_main_v45 (F := Ideal) D Z (ix1 l) = ∑ b : Fin 2, Conv3.tap 2 (Conv3.e D Z b l) (Conv3.u Z b l) := by
  unfold val_main_v45 val_main_v44 val_main_cst_3
  pointwise [HostSum.hostReduceAdd_two, v13, v40]
  rfl

theorem v53 (l : Fin 1024) :
    val_main_v53 (F := Ideal) D Z (ix1 l) = ∑ b : Fin 2, Conv3.tap 1 (Conv3.e D Z b l) (Conv3.u Z b l) := by
  unfold val_main_v53 val_main_v52 val_main_cst_6
  pointwise [HostSum.hostReduceAdd_two, v16, v40]
  rfl

theorem v62 (l : Fin 1024) :
    val_main_v62 (F := Ideal) D Z (ix1 l) = ∑ b : Fin 2, Conv3.tap 0 (Conv3.e D Z b l) (Conv3.u Z b l) := by
  unfold val_main_v62 val_main_v61 val_main_cst_9
  pointwise [HostSum.hostReduceAdd_two, v20, v40]
  rfl

theorem gradW_eq (y : (⟨2, ![3, 1024]⟩ : Shape).Idx) : val_main_v67 (F := Ideal) D Z y = Conv3.gradW D Z y := by
  obtain ⟨k, l, rfl⟩ : ∃ k l, y = ix2 k l := ⟨_, _, eq_ix2 y⟩
  unfold val_main_v67 val_main_v58 val_main_v49 val_main_v57 val_main_v66 val_main_v48 val_main_v56 val_main_v65
    val_main_v47 val_main_v55 val_main_v64 val_main_v46 val_main_v54 val_main_v63
    val_main_cst_4 val_main_cst_5 val_main_cst_7 val_main_cst_8 val_main_cst_10 val_main_cst_11
  pointwise [HostSum.hostReduceAdd_two, v45, v53, v62]
  simp only [Finset.univ_unique, Finset.sum_singleton, Fin.sum_univ_two]
  match k with
  | 0 => simp [Conv3.gradW]
  | 1 => simp [Conv3.gradW]
  | 2 => simp [Conv3.gradW]

end Cert.ConvRefIdeal.Value

end
-- ==== Proof.Conv.lean ====
/-
  The equation for the gradient of the short gated convolution: the kernel's two arrays and the reference's are the same
  functions of the arguments.
-/
module

public import proofs.«01_k».proof.Defs
public import proofs.«01_k».proof.Proof.ConvArray
public import proofs.«01_k».proof.Proof.ConvRef

@[expose] public section

noncomputable section

namespace Cert.ConvClaim

open Idealize.ShloMosaic Idealize.ShloMosaic.TcCoe Idealize.SL.Sem

/-- The reference runs, keeps its arguments, and has no semaphores. -/
theorem frame_reference : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

theorem algebraic : Cert.algebraic_ConvIdeal_ConvRefIdeal := by
  intro m g m' g' _ hin
  refine ⟨_, _, Cert.ConvIdeal.Value.run_blocks m g, ?_⟩
  refine (θ_run _ _ _).mono (fun r h c => ?_) (Cert.ConvRefIdeal.Value.run m' g')
  obtain ⟨e0, e1, ha⟩ := h c
  obtain ⟨a0, a1, a2, a3⟩ := hin c
  refine ⟨e0.trans ?_, e1.trans ?_, ha⟩
  · rw [Cert.ConvRefIdeal.Read.val_main_v85_eq]
    funext y
    refine (Cert.ConvRefIdeal.Value.planes_eq _ _ _ _ y).trans ?_
    rw [a0, a1, a2, a3]
    exact (Cert.ConvIdeal.Value.final5 m c y).symm
  · rw [Cert.ConvRefIdeal.Read.val_main_v67_eq]
    funext y
    refine (Cert.ConvRefIdeal.Value.gradW_eq _ _ y).trans ?_
    rw [a1, a2]
    exact (Cert.ConvIdeal.Value.final6 m c y).symm

end Cert.ConvClaim

end
-- ==== Proof.Preds.lean ====
/-
  The predicates the claims name: their stated shape facts, what "every entry is below infinity" says of an array, and which
  entries the masks pick.
-/
module

public import proofs.«01_k».proof.On_gate_written
public import proofs.«01_k».proof.On_dx1_written
public import proofs.«01_k».proof.Pre_dx1_finite
public import proofs.«01_k».proof.Pre_dx_finite
public import proofs.«01_k».proof.Pre_loss_finite
public import proofs.«01_k».proof.Pre_pool_finite
public import proofs.«01_k».proof.Pre_mid_finite
public import proofs.«01_k».proof.On_mix_written
public import proofs.«01_k».proof.Pre_mix_finite
public import Idealize.ShloMosaic.Lib.ReduceAll
public import Idealize.ShloMosaic.Lib.Pointwise

@[expose] public section

noncomputable section

namespace Cert.Preds

open Idealize.ShloMosaic

theorem facts_gate_written : Cert.On_gate_written.Facts := by constructor <;> decide
theorem facts_dx1_written : Cert.On_dx1_written.Facts := by constructor <;> decide
theorem facts_dx1_finite : Cert.Pre_dx1_finite.Facts := by constructor <;> decide
theorem facts_dx_finite : Cert.Pre_dx_finite.Facts := by constructor <;> decide
theorem facts_loss_finite : Cert.Pre_loss_finite.Facts := by constructor <;> decide
theorem facts_pool_finite : Cert.Pre_pool_finite.Facts := by constructor <;> decide
theorem facts_mid_finite : Cert.Pre_mid_finite.Facts := by constructor <;> decide
theorem facts_mix_written : Cert.On_mix_written.Facts := by constructor <;> decide
theorem facts_mix_finite : Cert.Pre_mix_finite.Facts := by constructor <;> decide

/-- An array all of whose entries are real numbers. -/
def Fin1 {ι : Type} (x : ι → EReal) : Prop := ∀ i, ∃ r : ℝ, x i = (r : EReal)

theorem real_of_abs_lt {x : EReal} (h : Ideal.cmp .olt (max x (-x)) ⊤ = 1#1) : ∃ r : ℝ, x = (r : EReal) := by
  have h1 : max x (-x) < ⊤ := by
    by_contra h2
    simp [Ideal.cmp, h2] at h
  induction x with
  | bot => simp at h1
  | top => simp at h1
  | coe r => exact ⟨r, rfl⟩

theorem inf_f32 : Ideal.ofBits .f32 0x7F800000#32 = ⊤ := by simp [Ideal.ofBits, Ideal.ieee]
theorem inf_bf16 : Ideal.ofBits .bf16 0x7F80#16 = ⊤ := by simp [Ideal.ofBits, Ideal.ieee]

theorem subsingleton0 : Subsingleton (⟨0, ![]⟩ : Shape).Idx := ⟨fun _ _ => funext fun a => a.elim0⟩

/-- "All entries below infinity in absolute value", as it is printed, says every entry is a real number. -/
theorem real_of_all {s : Shape} {φ : FTy} {b : BitVec φ.bits} (hinf : Ideal.ofBits φ b = ⊤) (x : FVec Ideal s φ)
    {d : Fin 0 → Fin s.rank} (hb : (⟨0, ![]⟩ : Shape).BroadcastsInDim s d) {axes : List (Fin s.rank)}
    (h : s.ReducesTo axes ⟨0, ![]⟩) (hu : 0 < (⟨0, ![]⟩ : Shape).numel) (init : IVec ⟨0, ![]⟩ 1) (j : (⟨0, ![]⟩ : Shape).Idx)
    (e : Host.reduce IntOp.andi (cmpf .olt (Host.absf x) (broadcastInDim s d hb (constant ⟨0, ![]⟩ φ b))) init h hu j = 1#1) :
    Fin1 x := fun i => by
  have := subsingleton0
  have h1 := Host.reduce_andi_all _ _ _ _ j e i
  refine real_of_abs_lt ?_
  rw [← hinf]
  exact h1

attribute [local instance] facts_gate_written facts_dx1_written facts_dx1_finite facts_dx_finite facts_loss_finite facts_pool_finite
  facts_mid_finite facts_mix_written facts_mix_finite

theorem and_one {a b : BitVec 1} (h : IntOp.andi a b = 1#1) : a = 1#1 ∧ b = 1#1 := IntOp.andi_eq_one.1 h

theorem dx1_finite {a0 a1 a2 a3 a4} (h : Cert.Pre_dx1_finite.fn (F := Ideal) a0 a1 a2 a3 a4 = fun _ => 1#1) :
    Fin1 a0 ∧ Fin1 a1 ∧ Fin1 a2 ∧ Fin1 a4 := by
  have h := congrFun h fun a => a.elim0
  obtain ⟨h, h4⟩ := and_one h
  obtain ⟨h, h2⟩ := and_one h
  obtain ⟨h0, h1⟩ := and_one h
  exact ⟨real_of_all inf_bf16 _ _ _ _ _ _ h0,
    real_of_all inf_bf16 _ _ _ _ _ _ h1,
    real_of_all inf_f32 _ _ _ _ _ _ h2,
    real_of_all inf_f32 _ _ _ _ _ _ h4⟩

theorem dx_finite {a0 a1 a2 a3 a4} (h : Cert.Pre_dx_finite.fn (F := Ideal) a0 a1 a2 a3 a4 = fun _ => 1#1) :
    Fin1 a0 ∧ Fin1 a1 ∧ Fin1 a2 ∧ Fin1 a4 := by
  have h := congrFun h fun a => a.elim0
  obtain ⟨h, h4⟩ := and_one h
  obtain ⟨h, h2⟩ := and_one h
  obtain ⟨h0, h1⟩ := and_one h
  exact ⟨real_of_all inf_bf16 _ _ _ _ _ _ h0,
    real_of_all inf_bf16 _ _ _ _ _ _ h1,
    real_of_all inf_f32 _ _ _ _ _ _ h2,
    real_of_all inf_f32 _ _ _ _ _ _ h4⟩

theorem loss_finite {a0 a1 a2 a3 a4} (h : Cert.Pre_loss_finite.fn (F := Ideal) a0 a1 a2 a3 a4 = fun _ => 1#1) :
    Fin1 a0 ∧ Fin1 a1 ∧ Fin1 a2 ∧ Fin1 a3 ∧ Fin1 a4 := by
  have h := congrFun h fun a => a.elim0
  obtain ⟨h, h4⟩ := and_one h
  obtain ⟨h, h3⟩ := and_one h
  obtain ⟨h, h2⟩ := and_one h
  obtain ⟨h0, h1⟩ := and_one h
  exact ⟨real_of_all inf_bf16 _ _ _ _ _ _ h0,
    real_of_all inf_bf16 _ _ _ _ _ _ h1,
    real_of_all inf_f32 _ _ _ _ _ _ h2,
    real_of_all inf_f32 _ _ _ _ _ _ h3,
    real_of_all inf_f32 _ _ _ _ _ _ h4⟩

theorem pool_finite {a0 a1 a2 a3 a4} (h : Cert.Pre_pool_finite.fn (F := Ideal) a0 a1 a2 a3 a4 = fun _ => 1#1) :
    Fin1 a1 ∧ Fin1 a2 ∧ Fin1 a3 ∧ Fin1 a4 := by
  have h := congrFun h fun a => a.elim0
  obtain ⟨h, h4⟩ := and_one h
  obtain ⟨h, h3⟩ := and_one h
  obtain ⟨h1, h2⟩ := and_one h
  exact ⟨real_of_all inf_bf16 _ _ _ _ _ _ h1,
    real_of_all inf_bf16 _ _ _ _ _ _ h2,
    real_of_all inf_bf16 _ _ _ _ _ _ h3,
    real_of_all inf_f32 _ _ _ _ _ _ h4⟩

theorem mid_finite {a0 a1 a2 a3} (h : Cert.Pre_mid_finite.fn (F := Ideal) a0 a1 a2 a3 = fun _ => 1#1) :
    Fin1 a0 ∧ Fin1 a1 ∧ Fin1 a2 ∧ Fin1 a3 := by
  have h := congrFun h fun a => a.elim0
  obtain ⟨h, h3⟩ := and_one h
  obtain ⟨h, h2⟩ := and_one h
  obtain ⟨h0, h1⟩ := and_one h
  exact ⟨real_of_all inf_bf16 _ _ _ _ _ _ h0,
    real_of_all inf_bf16 _ _ _ _ _ _ h1,
    real_of_all inf_f32 _ _ _ _ _ _ h2,
    real_of_all inf_f32 _ _ _ _ _ _ h3⟩

/-- The first of the six planes the mixers read: the channels the pooling takes. -/
theorem mix_finite {a0 a1 a2 a3} (h : Cert.Pre_mix_finite.fn (F := Ideal) a0 a1 a2 a3 = fun _ => 1#1) (r : Fin 4096) (k : Fin 1024) :
    ∃ x : ℝ, a0 (ix2 r ⟨k.val, by omega⟩) = (x : EReal) := by
  have h := real_of_all inf_bf16 _ _ _ _ _ _ (congrFun h fun a => a.elim0) (ix2 r k)
  obtain ⟨x, hx⟩ := h
  refine ⟨x, Eq.trans ?_ hx⟩
  pointwise

/-- The planes of the mixers' result the claim covers. -/
theorem mix_plane {a0 a1 a2 a3} (i : (⟨3, ![3, 4096, 1024]⟩ : Shape).Idx)
    (h : Cert.On_mix_written.fn (F := Ideal) a0 a1 a2 a3 i = 1#1) : (i 0).val < 2 := by
  have h1 : (BitVec.ofNat 32 (i 0).val).toInt < (2 : ℤ) := IntOp.cmpi_slt.1 h
  have h2 : (i 0).val < 3 := (i 0).isLt
  generalize (i 0).val = n at h1 h2
  interval_cases n <;> revert h1 <;> decide

/-- The planes of the gates' second result the claim covers. -/
theorem gate_plane {a0 a1 a2 a3} (i : (⟨3, ![6, 4096, 1024]⟩ : Shape).Idx)
    (h : (Cert.On_gate_written.fn (F := Ideal) a0 a1 a2 a3).2.1 i = 1#1) : 4 ≤ (i 0).val := by
  have h1 : (4 : ℤ) ≤ (BitVec.ofNat 32 (i 0).val).toInt := IntOp.cmpi_sge.1 h
  have h2 : (i 0).val < 6 := (i 0).isLt
  generalize (i 0).val = n at h1 h2
  interval_cases n <;> revert h1 <;> decide

/-- The plane of the first norm's second result the claim covers. -/
theorem dx1_plane {a0 a1 a2 a3 a4} (i : (⟨3, ![3, 4096, 1024]⟩ : Shape).Idx)
    (h : (Cert.On_dx1_written.fn (F := Ideal) a0 a1 a2 a3 a4).2.1 i = 1#1) : (i 0).val = 2 := by
  have h1 : BitVec.ofNat 32 (i 0).val = 2#32 := IntOp.cmpi_eq.1 h
  have h2 : (i 0).val < 3 := (i 0).isLt
  generalize (i 0).val = n at h1 h2
  interval_cases n <;> revert h1 <;> decide

end Cert.Preds

end
-- ==== Proof.GateSpec.lean ====
/-
  The gradient of the two sigmoid gates that merge the pooled and the convolved branch, as sums over the arguments: `X` the
  cotangent of the merged output, `Z` the input projection (its last two column blocks are the gates), `P` the two branches
  before their projections, `W` the three square weights.
-/
module

public import Idealize.ShloMosaic.Lib.Pointwise
public import Idealize.ShloMosaic.Lib.ValueIdx

@[expose] public section

noncomputable section

namespace Cert.GateSpec

open Idealize.ShloMosaic

/-- The column of `Z` that holds gate `p` of channel `k`. -/
def gcol (p : Fin 2) (k : Fin 1024) : Fin 6144 := ⟨4096 + p.val * 1024 + k.val, by omega⟩

/-- The weight that projects branch `p`. -/
def proj (p : Fin 2) : Fin 3 := ⟨p.val, by omega⟩

variable (X : (⟨2, ![4096, 1024]⟩ : Shape).Idx → EReal) (Z : (⟨2, ![4096, 6144]⟩ : Shape).Idx → EReal)
  (P : (⟨3, ![2, 4096, 1024]⟩ : Shape).Idx → EReal) (W : (⟨3, ![3, 1024, 1024]⟩ : Shape).Idx → EReal)

/-- The sigmoid. -/
def sig (x : EReal) : EReal := Ideal.div 1 (1 + Ideal.exp (-x))

/-- The cotangent of the merged branches. -/
def dm (r : Fin 4096) (k : Fin 1024) : EReal := ∑ j : Fin 1024, X (ix2 r j) * W (ix3 2 k j)

/-- Gate `p`. -/
def gate (p : Fin 2) (r : Fin 4096) (k : Fin 1024) : EReal := sig (Z (ix2 r (gcol p k)))

/-- Branch `p` after its projection. -/
def branch (p : Fin 2) (r : Fin 4096) (k : Fin 1024) : EReal := ∑ j : Fin 1024, P (ix3 p r j) * W (ix3 (proj p) j k)

/-- The cotangent of branch `p`. -/
def dy (p : Fin 2) (r : Fin 4096) (k : Fin 1024) : EReal := dm X W r k * gate Z p r k

/-- The cotangent of gate `p`'s argument. -/
def dg (p : Fin 2) (r : Fin 4096) (k : Fin 1024) : EReal :=
  dm X W r k * branch P W p r k * gate Z p r k * (1 - gate Z p r k)

/-- The cotangent of branch `p` before its projection. -/
def dpq (p : Fin 2) (r : Fin 4096) (k : Fin 1024) : EReal := ∑ j : Fin 1024, dy X Z W p r j * W (ix3 (proj p) k j)

end Cert.GateSpec

end
-- ==== Proof.Planes.lean ====
/-
  A stored plane of a rank-three buffer, read back: at its own plane the stored value, at another plane what the earlier
  stores left.
-/
module

public import proofs.«01_k».proof.Proof.Shift

@[expose] public section

noncomputable section

namespace Cert.Planes

open Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

/-- An array's entry at an index given by its two coordinates. -/
theorem at2 {n m : ℕ} {f : (⟨2, ![n, m]⟩ : Shape).Idx → EReal} {i : (⟨2, ![n, m]⟩ : Shape).Idx} {r : Fin n} {j : Fin m}
    {a : EReal} (h : f (ix2 r j) = a) (h0 : (i 0).val = r.val := by rfl) (h1 : (i 1).val = j.val := by rfl) : f i = a := by
  rw [← h]
  refine congrArg f (funext fun b => Fin.ext ?_)
  match b with
  | ⟨0, _⟩ => exact h0
  | ⟨1, _⟩ => exact h1

/-- The same at three coordinates. -/
theorem at3 {n m q : ℕ} {f : (⟨3, ![n, m, q]⟩ : Shape).Idx → EReal} {i : (⟨3, ![n, m, q]⟩ : Shape).Idx} {o : Fin n} {r : Fin m}
    {j : Fin q} {a : EReal} (h : f (ix3 o r j) = a) (h0 : (i 0).val = o.val := by rfl) (h1 : (i 1).val = r.val := by rfl)
    (h2 : (i 2).val = j.val := by rfl) : f i = a := by
  rw [← h]
  refine congrArg f (funext fun b => Fin.ext ?_)
  match b with
  | ⟨0, _⟩ => exact h0
  | ⟨1, _⟩ => exact h1
  | ⟨2, _⟩ => exact h2

/-- A plane of a rank-three buffer that a store wrote. -/
theorem canon_plane {n m p : ℕ} {ε : EltTy} (o : ℕ)
    (inb : ∀ a, (![o, 0, 0] : Fin 3 → ℕ) a + (![1, m, p] : Fin 3 → ℕ) a ≤ (⟨3, ![n, m, p]⟩ : Shape).size a)
    (w : (⟨3, ![1, m, p]⟩ : Shape).Idx → Elt Ideal ε) (L : List (View.Piece (Elt Ideal) ⟨3, ![n, m, p]⟩ ε))
    (k : Fin n) (s : Fin m) (l : Fin p) :
    View.canon ((⟨Rect.unit ![o, 0, 0] ![1, m, p] inb, w⟩ : View.Piece (Elt Ideal) ⟨3, ![n, m, p]⟩ ε) :: L) (ix3 k s l)
      = if k.val = o then w (ix3 0 s l) else View.canon L (ix3 k s l) := by
  by_cases h : k.val = o
  · rw [if_pos h]
    have e := Shift.emb_unit_eq (S := ⟨3, ![n, m, p]⟩) ![o, 0, 0] ![1, m, p] inb (ix3 (0 : Fin 1) s l) (ix3 k s l) (fun b => by
      match b with
      | ⟨0, _⟩ => exact h
      | ⟨1, _⟩ => exact (Nat.zero_add _).symm
      | ⟨2, _⟩ => exact (Nat.zero_add _).symm)
    rw [← e]
    exact View.canon_cons_emb _ _ _ _
  · rw [if_neg h]
    refine View.canon_cons_of_not_mem _ _ fun hm => h ?_
    have hm := (Rect.mem_set_unit (s := ⟨3, ![n, m, p]⟩) (inb := inb)).mp hm 0
    have h1 : o ≤ k.val := hm.1
    have h2 : k.val < o + 1 := hm.2
    omega

/-- A plane of a rank-three buffer, loaded. -/
theorem ld_plane {n m p : ℕ} {ε : EltTy} (x : (⟨3, ![n, m, p]⟩ : Shape).Idx → Elt Ideal ε) (o : ℕ) (ho : o < n)
    (inb : ∀ a, (![o, 0, 0] : Fin 3 → ℕ) a + (![1, m, p] : Fin 3 → ℕ) a ≤ (⟨3, ![n, m, p]⟩ : Shape).size a)
    (s : Fin m) (l : Fin p) :
    View.ld x (Rect.unit (s := ⟨3, ![n, m, p]⟩) ![o, 0, 0] ![1, m, p] inb) (ix3 0 s l) = x (ix3 ⟨o, ho⟩ s l) :=
  congrArg x (Shift.emb_unit_eq (S := ⟨3, ![n, m, p]⟩) ![o, 0, 0] ![1, m, p] inb (ix3 (0 : Fin 1) s l) (ix3 ⟨o, ho⟩ s l) (fun b => by
    match b with
    | ⟨0, _⟩ => rfl
    | ⟨1, _⟩ => exact (Nat.zero_add _).symm
    | ⟨2, _⟩ => exact (Nat.zero_add _).symm))

/-- A part of the columns of one plane, loaded. -/
theorem ld_cols {n m p q : ℕ} {ε : EltTy} (x : (⟨3, ![n, m, p]⟩ : Shape).Idx → Elt Ideal ε) (o b : ℕ) (ho : o < n) (hb : b + q ≤ p)
    (inb : ∀ a, (![o, 0, b] : Fin 3 → ℕ) a + (![1, m, q] : Fin 3 → ℕ) a ≤ (⟨3, ![n, m, p]⟩ : Shape).size a)
    (s : Fin m) (l : Fin q) :
    View.ld x (Rect.unit (s := ⟨3, ![n, m, p]⟩) ![o, 0, b] ![1, m, q] inb) (ix3 0 s l) = x (ix3 ⟨o, ho⟩ s ⟨b + l.val, by omega⟩) :=
  congrArg x (Shift.emb_unit_eq (S := ⟨3, ![n, m, p]⟩) ![o, 0, b] ![1, m, q] inb (ix3 (0 : Fin 1) s l) (ix3 ⟨o, ho⟩ s ⟨b + l.val, by omega⟩) (fun b => by
    match b with
    | ⟨0, _⟩ => rfl
    | ⟨1, _⟩ => exact (Nat.zero_add _).symm
    | ⟨2, _⟩ => rfl))

end Cert.Planes

end
-- ==== Proof.TwoPlanes.lean ====
/-
  Two planes stored one after the other into a buffer of two planes, read back.
-/
module

public import proofs.«01_k».proof.Proof.Planes

@[expose] public section

noncomputable section

namespace Cert.Planes

open Idealize.ShloMosaic

theorem two_planes {m q : ℕ} (w0 w1 : (⟨3, ![1, m, q]⟩ : Shape).Idx → Elt Ideal .bf16) (inb0 inb1) (f : Fin 2 → Fin m → Fin q → EReal)
    (h0 : ∀ s k, w0 (ix3 0 s k) = f 0 s k) (h1 : ∀ s k, w1 (ix3 0 s k) = f 1 s k) (p : Fin 2) (s : Fin m) (k : Fin q) :
    View.canon [(⟨Rect.unit (s := ⟨3, ![2, m, q]⟩) ![1, 0, 0] ![1, m, q] inb1, w1⟩ : View.Piece (Elt Ideal) ⟨3, ![2, m, q]⟩ .bf16),
      ⟨Rect.unit (s := ⟨3, ![2, m, q]⟩) ![0, 0, 0] ![1, m, q] inb0, w0⟩] (ix3 p s k) = f p s k := by
  refine (canon_plane (n := 2) (m := m) (p := q) _ _ _ _ p s k).trans ?_
  match p with
  | 0 => exact (if_neg (by decide)).trans ((canon_plane (n := 2) (m := m) (p := q) _ _ _ _ 0 s k).trans ((if_pos rfl).trans (h0 s k)))
  | 1 => exact (if_pos rfl).trans (h1 s k)

end Cert.Planes

end
-- ==== Proof.GateBlock.lean ====
/-
  What one grid point of the gates' gradient computes, element by element, from the point's blocks: `x0` the cotangent of
  the merged output, `x1` and `x2` the two gates' arguments, `x3` the two projected branches, `x4` the three weights.
-/
module

public import proofs.«01_k».proof.Proof.Gen.GateIdeal.Value
public import proofs.«01_k».proof.Proof.GateSpec
public import proofs.«01_k».proof.Proof.TwoPlanes
public import Idealize.ShloMosaic.Lib.KernelVsHost

@[expose] public section

noncomputable section

namespace Cert.GateIdeal.Value

open Cert.GateIdeal Cert.GateIdeal.Gen Idealize.ShloMosaic Idealize.ShloMosaic.TcCoe Idealize.SL.Sem
open Cert.Planes

variable (x0 x1 x2 : Vec Ideal S512x1024 .bf16) (x3 : Vec Ideal S2x512x1024 .bf16) (x4 : Vec Ideal S3x1024x1024 .bf16)

/-- The cotangent of the merged branches. -/
def dmB (s : Fin 512) (k : Fin 1024) : EReal := ∑ j : Fin 1024, x0 (ix2 s j) * x4 (ix3 2 k j)

/-- The two gates. -/
def gateB (p : Fin 2) (s : Fin 512) (k : Fin 1024) : EReal :=
  match p with
  | 0 => GateSpec.sig (x1 (ix2 s k))
  | 1 => GateSpec.sig (x2 (ix2 s k))

/-- The cotangents of the branches, of the gates' arguments, and of the branches before their projections. -/
def dyB (p : Fin 2) (s : Fin 512) (k : Fin 1024) : EReal := dmB x0 x4 s k * gateB x1 x2 p s k
def dgB (p : Fin 2) (s : Fin 512) (k : Fin 1024) : EReal :=
  dmB x0 x4 s k * x3 (ix3 p s k) * gateB x1 x2 p s k * (1 - gateB x1 x2 p s k)
def dpqB (p : Fin 2) (s : Fin 512) (k : Fin 1024) : EReal :=
  ∑ j : Fin 1024, dyB x0 x1 x2 x4 p s j * x4 (ix3 (GateSpec.proj p) k j)

/-- The weight and the projected branch of an index, as the kernel loads them. -/
abbrev wB (o : ℕ) (inb : ∀ a, (![o, 0, 0] : Fin 3 → ℕ) a + (![1, 1024, 1024] : Fin 3 → ℕ) a ≤ S3x1024x1024.size a) :
    Vec Ideal S1x1024x1024 .bf16 := View.ld x4 (Rect.unit (s := S3x1024x1024) ![o, 0, 0] ![1, 1024, 1024] inb)
abbrev yB (o : ℕ) (inb : ∀ a, (![o, 0, 0] : Fin 3 → ℕ) a + (![1, 512, 1024] : Fin 3 → ℕ) a ≤ S2x512x1024.size a) :
    Vec Ideal S1x512x1024 .bf16 := View.ld x3 (Rect.unit (s := S2x512x1024) ![o, 0, 0] ![1, 512, 1024] inb)

theorem wB_apply (o : ℕ) (ho : o < 3) (inb) (j k : Fin 1024) : wB x4 o inb (ix3 0 j k) = x4 (ix3 ⟨o, ho⟩ j k) :=
  ld_plane (n := 3) (m := 1024) (p := 1024) x4 o ho inb j k
theorem yB_apply (o : ℕ) (ho : o < 2) (inb) (s : Fin 512) (k : Fin 1024) : yB x3 o inb (ix3 0 s k) = x3 (ix3 ⟨o, ho⟩ s k) :=
  ld_plane (n := 2) (m := 512) (p := 1024) x3 o ho inb s k

/-! ### The kernel's values at an entry -/

theorem pay2_apply (inb) (s : Fin 512) (k : Fin 1024) : k0_pay2 x0 (wB x4 2 inb) (ix2 s k) = dmB x0 x4 s k := by
  unfold k0_pay2
  pointwise [wB_apply x4 2 (by decide)]
  rfl
theorem pay3_apply (s : Fin 512) (k : Fin 1024) : k0_pay3 x1 (ix2 s k) = gateB x1 x2 0 s k := by
  unfold k0_pay3
  pointwise
  rw [zero_sub]
  rfl
theorem pay4_apply (s : Fin 512) (k : Fin 1024) : k0_pay4 x2 (ix2 s k) = gateB x1 x2 1 s k := by
  unfold k0_pay4
  pointwise
  rw [zero_sub]
  rfl
theorem pay5_apply (inb) (s : Fin 512) (k : Fin 1024) :
    k0_pay5 x0 (wB x4 2 inb) x1 (ix2 s k) = dyB x0 x1 x2 x4 0 s k := by
  unfold k0_pay5
  pointwise [pay2_apply, pay3_apply x1 x2]
  rfl
theorem pay6_apply (inb) (s : Fin 512) (k : Fin 1024) :
    k0_pay6 x0 (wB x4 2 inb) x2 (ix2 s k) = dyB x0 x1 x2 x4 1 s k := by
  unfold k0_pay6
  pointwise [pay2_apply, pay4_apply x1 x2]
  rfl
theorem pay7_apply (inb inb') (s : Fin 512) (k : Fin 1024) :
    k0_pay7 x0 (wB x4 2 inb) x1 (yB x3 0 inb') (ix2 s k) = dgB x0 x1 x2 x3 x4 0 s k := by
  unfold k0_pay7
  pointwise [pay2_apply, pay3_apply x1 x2, yB_apply x3 0 (by decide)]
  rfl
theorem pay9_apply (inb inb') (s : Fin 512) (k : Fin 1024) :
    k0_pay9 (k0_pay2 x0 (wB x4 2 inb)) (k0_pay4 x2) (yB x3 1 inb') (ix3 0 s k) = dgB x0 x1 x2 x3 x4 1 s k := by
  unfold k0_pay9
  pointwise [pay2_apply, pay4_apply x1 x2, yB_apply x3 1 (by decide)]
  rfl
theorem pay12_apply (inb inb') (s : Fin 512) (k : Fin 1024) :
    k0_pay12 (k0_pay5 x0 (wB x4 2 inb) x1) (wB x4 0 inb') (ix3 0 s k) = dpqB x0 x1 x2 x4 0 s k := by
  unfold k0_pay12
  pointwise [pay5_apply x0 x1 x2 x4, wB_apply x4 0 (by decide)]
  rfl
theorem pay13_apply (inb inb') (s : Fin 512) (k : Fin 1024) :
    k0_pay13 (k0_pay6 x0 (wB x4 2 inb) x2) (wB x4 1 inb') (ix2 s k) = dpqB x0 x1 x2 x4 1 s k := by
  unfold k0_pay13
  pointwise [pay6_apply x0 x1 x2 x4, wB_apply x4 1 (by decide)]
  rfl

/-! ### The three blocks -/

variable (c : Dev nD) (i : grid0.Coords)
  (arg2 : Memref sig .tc .vmem S512x1024 .bf16) (harg2 : arg2.IsWhole) (arg3 : Memref sig .tc .vmem S512x1024 .bf16) (harg3 : arg3.IsWhole)
  (arg4 : Memref sig .tc .vmem S512x1024 .bf16) (harg4 : arg4.IsWhole) (arg5 : Memref sig .tc .vmem S2x512x1024 .bf16) (harg5 : arg5.IsWhole)
  (arg6 : Memref sig .tc .vmem S3x1024x1024 .bf16) (harg6 : arg6.IsWhole) (arg7 : Memref sig .tc .vmem S2x512x1024 .bf16) (harg7 : arg7.IsWhole)
  (arg8 : Memref sig .tc .vmem S2x512x1024 .bf16) (harg8 : arg8.IsWhole) (arg9 : Memref sig .tc .vmem S2x512x1024 .bf16) (harg9 : arg9.IsWhole)
  (p : Fin 2) (s : Fin 512) (k : Fin 1024)

theorem out5 :
    out0_A_5 c i arg2 harg2 arg3 harg3 arg4 harg4 arg5 harg5 arg6 harg6 arg7 harg7 arg8 harg8 arg9 harg9 x0 x1 x2 x3 x4 (ix3 p s k)
      = dyB x0 x1 x2 x4 p s k := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg2.read_unread, harg3.read_unread, harg4.read_unread, harg5.read_unread, harg6.read_unread,
    View.ld_unit_zero (S := S512x1024) hz2]
  refine two_planes _ _ _ _ (dyB x0 x1 x2 x4) (fun s k => ?_) (fun s k => ?_) p s k
  · unfold k0_pay10
    pointwise [pay5_apply x0 x1 x2 x4]
  · unfold k0_pay11
    pointwise [pay6_apply x0 x1 x2 x4]

theorem out6 :
    out0_A_6 c i arg2 harg2 arg3 harg3 arg4 harg4 arg5 harg5 arg6 harg6 arg7 harg7 arg8 harg8 arg9 harg9 x0 x1 x2 x3 x4 (ix3 p s k)
      = dgB x0 x1 x2 x3 x4 p s k := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg2.read_unread, harg3.read_unread, harg4.read_unread, harg5.read_unread, harg6.read_unread,
    View.ld_unit_zero (S := S512x1024) hz2]
  refine two_planes _ _ _ _ (dgB x0 x1 x2 x3 x4) (fun s k => ?_) (fun s k => ?_) p s k
  · unfold k0_pay8
    pointwise [pay7_apply x0 x1 x2 x3 x4]
  · exact pay9_apply x0 x1 x2 x3 x4 _ _ s k

theorem out7 :
    out0_A_7 c i arg2 harg2 arg3 harg3 arg4 harg4 arg5 harg5 arg6 harg6 arg7 harg7 arg8 harg8 arg9 harg9 x0 x1 x2 x3 x4 (ix3 p s k)
      = dpqB x0 x1 x2 x4 p s k := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4)]
  unfold kernelRun0_A
  dsimp only
  sl_unfold_words
  simp only [View.readAt_eq_ld, harg2.read_unread, harg3.read_unread, harg4.read_unread, harg5.read_unread, harg6.read_unread,
    View.ld_unit_zero (S := S512x1024) hz2]
  refine two_planes _ _ _ _ (dpqB x0 x1 x2 x4) (fun s k => ?_) (fun s k => ?_) p s k
  · exact pay12_apply x0 x1 x2 x4 _ _ s k
  · unfold k0_pay1
    pointwise [pay13_apply x0 x1 x2 x4]

end Cert.GateIdeal.Value

end
-- ==== Proof.GateArray.lean ====
/-
  The gates' gradient over the whole arrays: which entries of the arguments each grid point reads, and what the three
  results hold after the run.
-/
module

public import proofs.«01_k».proof.Proof.GateBlock

@[expose] public section

noncomputable section

namespace Cert.GateIdeal.Value

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as arrays of extended reals. -/
abbrev aX : (⟨2, ![4096, 1024]⟩ : Shape).Idx → EReal := m ((c : Thread nD τ).loc main_arg0)
abbrev aZ : (⟨2, ![4096, 6144]⟩ : Shape).Idx → EReal := m ((c : Thread nD τ).loc main_arg1)
abbrev aP : (⟨3, ![2, 4096, 1024]⟩ : Shape).Idx → EReal := m ((c : Thread nD τ).loc main_arg2)
abbrev aW : (⟨3, ![3, 1024, 1024]⟩ : Shape).Idx → EReal := m ((c : Thread nD τ).loc main_arg3)

/-- The token of a row of a grid point's blocks. -/
def row (t : Fin cfg0.N) (s : Fin 512) : Fin 4096 :=
  ⟨t.val * 512 + s.val, by have h : t.val < 8 := t.isLt.trans_eq N_0; omega⟩

/-! ### The arrays the host prepares -/

theorem entry17 (p : Fin 2) (r : Fin 4096) (k : Fin 1024) :
    (V m c main_v17 : (⟨3, ![2, 4096, 1024]⟩ : Shape).Idx → EReal) (ix3 p r k) = GateSpec.branch (aP m c) (aW m c) p r k := by
  entry_read
  pointwise
  match p with
  | 0 => rfl
  | 1 => rfl

theorem entry20 (p : Fin 3) (r : Fin 4096) (k : Fin 1024) :
    (V m c main_v20_0 : (⟨3, ![3, 4096, 1024]⟩ : Shape).Idx → EReal) (ix3 p r k) = aX m c (ix2 r k) := by
  entry_read
  pointwise

/-! ### The blocks a grid point reads -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 4 :=
  (by decide +kernel : ∀ t : Fin grid0.N, win0_1.index t 0 = t.val ∧ win0_1.index t 1 = 4)
theorem index2 : ∀ t : Fin cfg0.N, win0_2.index t 0 = t.val ∧ win0_2.index t 1 = 5 :=
  (by decide +kernel : ∀ t : Fin grid0.N, win0_2.index t 0 = t.val ∧ win0_2.index t 1 = 5)
theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)
theorem index6 : ∀ t : Fin cfg0.N, win0_6.index t 0 = 2 ∧ win0_6.index t 1 = t.val ∧ win0_6.index t 2 = 0 :=
  (by decide +kernel : ∀ t : Fin grid0.N, win0_6.index t 0 = 2 ∧ win0_6.index t 1 = t.val ∧ win0_6.index t 2 = 0)
theorem index7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)

theorem iblk0 (t : Fin cfg0.N) (s : Fin 512) (k : Fin 1024) :
    (iblk m c 0 t : Vec Ideal S512x1024 .bf16) (ix2 s k) = aX m c (ix2 (row t s) k) := by
  unfold iblk
  rw [View.read_apply]
  show V m c main_arg0 _ = m _ _
  rw [V_main_arg0]
  congr 1
  funext a
  apply Fin.ext
  match a with
  | ⟨0, _⟩ => show win0_0.index t 0 * 512 + 1 * s.val = t.val * 512 + s.val; rw [(index0 t).1]; omega
  | ⟨1, _⟩ => show win0_0.index t 1 * 1024 + 1 * k.val = k.val; rw [(index0 t).2]; omega

theorem iblk1 (t : Fin cfg0.N) (s : Fin 512) (k : Fin 1024) :
    (iblk m c 1 t : Vec Ideal S512x1024 .bf16) (ix2 s k) = aZ m c (ix2 (row t s) (GateSpec.gcol 0 k)) := by
  unfold iblk
  rw [View.read_apply]
  show V m c main_arg1 _ = m _ _
  rw [V_main_arg1]
  congr 1
  funext a
  apply Fin.ext
  match a with
  | ⟨0, _⟩ => show win0_1.index t 0 * 512 + 1 * s.val = t.val * 512 + s.val; rw [(index1 t).1]; omega
  | ⟨1, _⟩ => show win0_1.index t 1 * 1024 + 1 * k.val = 4096 + 0 * 1024 + k.val; rw [(index1 t).2]; omega

theorem iblk2 (t : Fin cfg0.N) (s : Fin 512) (k : Fin 1024) :
    (iblk m c 2 t : Vec Ideal S512x1024 .bf16) (ix2 s k) = aZ m c (ix2 (row t s) (GateSpec.gcol 1 k)) := by
  unfold iblk
  rw [View.read_apply]
  show V m c main_arg1 _ = m _ _
  rw [V_main_arg1]
  congr 1
  funext a
  apply Fin.ext
  match a with
  | ⟨0, _⟩ => show win0_2.index t 0 * 512 + 1 * s.val = t.val * 512 + s.val; rw [(index2 t).1]; omega
  | ⟨1, _⟩ => show win0_2.index t 1 * 1024 + 1 * k.val = 4096 + 1 * 1024 + k.val; rw [(index2 t).2]; omega

theorem iblk3 (t : Fin cfg0.N) (p : Fin 2) (s : Fin 512) (k : Fin 1024) :
    (iblk m c 3 t : Vec Ideal S2x512x1024 .bf16) (ix3 p s k) = GateSpec.branch (aP m c) (aW m c) p (row t s) k := by
  rw [← entry17]
  unfold iblk
  rw [View.read_apply]
  show V m c main_v17 _ = V m c main_v17 _
  congr 1
  funext a
  apply Fin.ext
  match a with
  | ⟨0, _⟩ => show win0_3.index t 0 * 2 + 1 * p.val = p.val; rw [(index3 t).1]; omega
  | ⟨1, _⟩ => show win0_3.index t 1 * 512 + 1 * s.val = t.val * 512 + s.val; rw [(index3 t).2.1]; omega
  | ⟨2, _⟩ => show win0_3.index t 2 * 1024 + 1 * k.val = k.val; rw [(index3 t).2.2]; omega

theorem iblk4 (t : Fin cfg0.N) (o : Fin 3) (j k : Fin 1024) :
    (iblk m c 4 t : Vec Ideal S3x1024x1024 .bf16) (ix3 o j k) = aW m c (ix3 o j k) := by
  unfold iblk
  rw [View.read_apply]
  show V m c main_arg3 _ = m _ _
  rw [V_main_arg3]
  congr 1
  funext a
  apply Fin.ext
  match a with
  | ⟨0, _⟩ => show win0_4.index t 0 * 3 + 1 * o.val = o.val; rw [(index4 t).1]; omega
  | ⟨1, _⟩ => show win0_4.index t 1 * 1024 + 1 * j.val = j.val; rw [(index4 t).2.1]; omega
  | ⟨2, _⟩ => show win0_4.index t 2 * 1024 + 1 * k.val = k.val; rw [(index4 t).2.2]; omega

/-! ### A point's blocks are those of the whole arrays -/

theorem dm_iblk (t : Fin cfg0.N) (s : Fin 512) (k : Fin 1024) :
    dmB (iblk m c 0 t) (iblk m c 4 t) s k = GateSpec.dm (aX m c) (aW m c) (row t s) k :=
  Finset.sum_congr rfl fun j _ => congrArg₂ (· * ·) (iblk0 m c t s j) (iblk4 m c t 2 k j)

theorem gate_iblk (t : Fin cfg0.N) (p : Fin 2) (s : Fin 512) (k : Fin 1024) :
    gateB (iblk m c 1 t) (iblk m c 2 t) p s k = GateSpec.gate (aZ m c) p (row t s) k := by
  match p with
  | 0 => exact congrArg GateSpec.sig (iblk1 m c t s k)
  | 1 => exact congrArg GateSpec.sig (iblk2 m c t s k)

theorem dy_iblk (t : Fin cfg0.N) (p : Fin 2) (s : Fin 512) (k : Fin 1024) :
    dyB (iblk m c 0 t) (iblk m c 1 t) (iblk m c 2 t) (iblk m c 4 t) p s k
      = GateSpec.dy (aX m c) (aZ m c) (aW m c) p (row t s) k :=
  congrArg₂ (· * ·) (dm_iblk m c t s k) (gate_iblk m c t p s k)

theorem dg_iblk (t : Fin cfg0.N) (p : Fin 2) (s : Fin 512) (k : Fin 1024) :
    dgB (iblk m c 0 t) (iblk m c 1 t) (iblk m c 2 t) (iblk m c 3 t) (iblk m c 4 t) p s k
      = GateSpec.dg (aX m c) (aZ m c) (aP m c) (aW m c) p (row t s) k := by
  unfold dgB GateSpec.dg
  rw [dm_iblk, gate_iblk, iblk3]

theorem dpq_iblk (t : Fin cfg0.N) (p : Fin 2) (s : Fin 512) (k : Fin 1024) :
    dpqB (iblk m c 0 t) (iblk m c 1 t) (iblk m c 2 t) (iblk m c 4 t) p s k
      = GateSpec.dpq (aX m c) (aZ m c) (aW m c) p (row t s) k :=
  Finset.sum_congr rfl fun j _ => congrArg₂ (· * ·) (dy_iblk m c t p s j) (iblk4 m c t _ k j)

/-! ### The results after the run -/

/-- The grid point of a token, and the token's row there. -/
def pt (r : Fin 4096) : Fin cfg0.N := ⟨r.val / 512, by rw [show cfg0.N = 8 from N_0]; omega⟩
def rw512 (r : Fin 4096) : Fin 512 := ⟨r.val % 512, Nat.mod_lt _ (by decide)⟩

theorem row_pt (r : Fin 4096) : row (pt r) (rw512 r) = r := Fin.ext (by show r.val / 512 * 512 + r.val % 512 = r.val; omega)

/-- The first result's three planes do not divide into blocks of two: the part of a point's block inside the array is all of it. -/
theorem xsize5 : ∀ t : Fin cfg0.N, (cfg0.win 5).xsize (cfg0.grid.coords t) = ![2, 512, 1024] :=
  (by decide +kernel : ∀ t : Fin grid0.N, win0_5.xsize (grid0.coords t) = ![2, 512, 1024])

def y5 (t : Fin cfg0.N) (p : Fin 2) (s : Fin 512) (k : Fin 1024) : ((cfg0.win 5).xblock (cfg0.grid.coords t)).Idx := fun a =>
  match a with
  | ⟨0, _⟩ => ⟨p.val, p.isLt.trans_eq (congrFun (xsize5 t) 0).symm⟩
  | ⟨1, _⟩ => ⟨s.val, s.isLt.trans_eq (congrFun (xsize5 t) 1).symm⟩
  | ⟨2, _⟩ => ⟨k.val, k.isLt.trans_eq (congrFun (xsize5 t) 2).symm⟩

theorem xinj5 (t : Fin cfg0.N) (p : Fin 2) (s : Fin 512) (k : Fin 1024) :
    ((cfg0.win 5).xinj (cfg0.grid.coords t) (y5 t p s k) : S2x512x1024.Idx) = ix3 p s k := by
  funext a
  match a with
  | ⟨0, _⟩ => rfl
  | ⟨1, _⟩ => rfl
  | ⟨2, _⟩ => rfl

theorem final5 (p : Fin 2) (r : Fin 4096) (k : Fin 1024) :
    ((dats m 0 c).arrAt 5 cfg0.N : (⟨3, ![3, 4096, 1024]⟩ : Shape).Idx → EReal) (ix3 ⟨p.val, by omega⟩ r k)
      = GateSpec.dy (aX m c) (aZ m c) (aW m c) p r k := by
  have e := (dats m 0 c).arrAt_emb_eq_flushed 5 disjoint5 (pt r) (flush0_5 (pt r)) (y5 (pt r) p (rw512 r) k)
  have ei : ((cfg0.win 5).blk (pt r)).view.emb (y5 (pt r) p (rw512 r) k) = ix3 ⟨p.val, by omega⟩ r k := by
    funext a
    apply Fin.ext
    match a with
    | ⟨0, _⟩ => show win0_5.index (pt r) 0 * 2 + 1 * p.val = p.val; rw [(index5 _).1]; omega
    | ⟨1, _⟩ => show win0_5.index (pt r) 1 * 512 + 1 * (r.val % 512) = r.val; rw [(index5 _).2.1]; show r.val / 512 * 512 + _ = _; omega
    | ⟨2, _⟩ => show win0_5.index (pt r) 2 * 1024 + 1 * k.val = k.val; rw [(index5 _).2.2]; omega
  rw [ei] at e
  refine e.trans ?_
  rw [cast_eq, flushed5_A]
  refine (congrArg _ (xinj5 (pt r) p (rw512 r) k)).trans ?_
  refine (out5 _ _ _ _ _ c _ _ _ _ _ _ _ _ _ _ _ _ _ _ _ _ _ _ _ _).trans ?_
  refine (dy_iblk m c (pt r) p (rw512 r) k).trans ?_
  rw [row_pt]

theorem final5_kept (r : Fin 4096) (k : Fin 1024) :
    ((dats m 0 c).arrAt 5 cfg0.N : (⟨3, ![3, 4096, 1024]⟩ : Shape).Idx → EReal) (ix3 2 r k) = aX m c (ix2 r k) := by
  refine (entry5 m c _ fun t _ hi => ?_).trans (entry20 m c 2 r k)
  have hi : ix3 (2 : Fin 3) r k ∈ ((View.whole main_v20_0).slice (win0_5.rect t)).set := hi
  rw [View.set_slice_whole, Rect.mem_set_unit] at hi
  have h2 : 2 < win0_5.index t 0 * 2 + win0_5.xsize (grid0.coords t) 0 := (hi 0).2
  rw [(index5 t).1, show win0_5.xsize (grid0.coords t) 0 = 2 from congrFun (xsize5 t) 0] at h2
  omega

theorem final6 (p : Fin 2) (r : Fin 4096) (k : Fin 1024) :
    ((dats m 0 c).arrAt 6 cfg0.N : (⟨3, ![6, 4096, 1024]⟩ : Shape).Idx → EReal) (ix3 ⟨4 + p.val, by omega⟩ r k)
      = GateSpec.dg (aX m c) (aZ m c) (aP m c) (aW m c) p r k := by
  have e := (dats m 0 c).arrAt_emb_eq_flushed 6 disjoint6 (pt r) (flush0_6 (pt r)) (ix3 p (rw512 r) k)
  have ei : ((cfg0.win 6).blk (pt r)).view.emb (ix3 p (rw512 r) k) = ix3 ⟨4 + p.val, by omega⟩ r k := by
    funext a
    apply Fin.ext
    match a with
    | ⟨0, _⟩ => show win0_6.index (pt r) 0 * 2 + 1 * p.val = 4 + p.val; rw [(index6 _).1]; omega
    | ⟨1, _⟩ => show win0_6.index (pt r) 1 * 512 + 1 * (r.val % 512) = r.val; rw [(index6 _).2.1]; show r.val / 512 * 512 + _ = _; omega
    | ⟨2, _⟩ => show win0_6.index (pt r) 2 * 1024 + 1 * k.val = k.val; rw [(index6 _).2.2]; omega
  rw [ei] at e
  refine e.trans ?_
  rw [cast_eq, flushed6_A]
  refine (out6 _ _ _ _ _ c _ _ _ _ _ _ _ _ _ _ _ _ _ _ _ _ _ _ _ _).trans ?_
  refine (dg_iblk m c (pt r) p (rw512 r) k).trans ?_
  rw [row_pt]

theorem final7 (p : Fin 2) (r : Fin 4096) (k : Fin 1024) :
    ((dats m 0 c).arrAt 7 cfg0.N : (⟨3, ![2, 4096, 1024]⟩ : Shape).Idx → EReal) (ix3 p r k)
      = GateSpec.dpq (aX m c) (aZ m c) (aW m c) p r k := by
  have e := (dats m 0 c).arrAt_emb_eq_flushed 7 disjoint7 (pt r) (flush0_7 (pt r)) (ix3 p (rw512 r) k)
  have ei : ((cfg0.win 7).blk (pt r)).view.emb (ix3 p (rw512 r) k) = ix3 p r k := by
    funext a
    apply Fin.ext
    match a with
    | ⟨0, _⟩ => show win0_7.index (pt r) 0 * 2 + 1 * p.val = p.val; rw [(index7 _).1]; omega
    | ⟨1, _⟩ => show win0_7.index (pt r) 1 * 512 + 1 * (r.val % 512) = r.val; rw [(index7 _).2.1]; show r.val / 512 * 512 + _ = _; omega
    | ⟨2, _⟩ => show win0_7.index (pt r) 2 * 1024 + 1 * k.val = k.val; rw [(index7 _).2.2]; omega
  rw [ei] at e
  refine e.trans ?_
  rw [cast_eq, flushed7_A]
  refine (out7 _ _ _ _ _ c _ _ _ _ _ _ _ _ _ _ _ _ _ _ _ _ _ _ _ _).trans ?_
  refine (dpq_iblk m c (pt r) p (rw512 r) k).trans ?_
  rw [row_pt]

end Cert.GateIdeal.Value

end
-- ==== Proof.GateRef.lean ====
/-
  What the reference of the gates' gradient computes, read at an index from its arguments.
-/
module

public import proofs.«01_k».proof.Proof.GateSpec
public import proofs.«01_k».proof.Proof.Planes
public import proofs.«01_k».proof.Proof.Gen.GateRefIdeal.Read
public import Idealize.ShloMosaic.Lib.Pointwise

@[expose] public section

noncomputable section

namespace Cert.GateRefIdeal.Value

open Cert.Planes Cert.GateRefIdeal Cert.GateRefIdeal.Gen Cert.GateRefIdeal.Read Idealize.ShloMosaic Idealize.ShloMosaic.TcCoe Idealize.SL.Sem

variable (X : (⟨2, ![4096, 1024]⟩ : Shape).Idx → EReal) (Z : (⟨2, ![4096, 6144]⟩ : Shape).Idx → EReal)
  (P : (⟨3, ![2, 4096, 1024]⟩ : Shape).Idx → EReal) (W : (⟨3, ![3, 1024, 1024]⟩ : Shape).Idx → EReal)

/-! ### The weights and the branches -/

theorem v8 (j k : Fin 1024) : val_main_v8 (F := Ideal) W (ix2 j k) = W (ix3 0 j k) := by
  unfold val_main_v8 val_main_v7 val_main_v0
  pointwise

theorem v10 (j k : Fin 1024) : val_main_v10 (F := Ideal) W (ix2 j k) = W (ix3 1 j k) := by
  unfold val_main_v10 val_main_v9 val_main_v0
  pointwise

theorem v18 (j k : Fin 1024) : val_main_v18 (F := Ideal) W (ix2 j k) = W (ix3 2 j k) := by
  unfold val_main_v18 val_main_v17 val_main_v0
  pointwise

theorem v3 (r : Fin 4096) (j : Fin 1024) : val_main_v3 (F := Ideal) P (ix2 r j) = P (ix3 0 r j) := by
  unfold val_main_v3 val_main_v2 val_main_v1
  pointwise

theorem v6 (r : Fin 4096) (j : Fin 1024) : val_main_v6 (F := Ideal) P (ix2 r j) = P (ix3 1 r j) := by
  unfold val_main_v6 val_main_v5 val_main_v4
  pointwise

theorem v11 (r : Fin 4096) (k : Fin 1024) : val_main_v11 (F := Ideal) P W (ix2 r k) = GateSpec.branch P W 0 r k := by
  rw [val_main_v11_apply]
  exact Finset.sum_congr rfl fun j _ => congrArg₂ (· * ·) (at2 (v3 P r j)) (at2 (v8 W j k))

theorem v12 (r : Fin 4096) (k : Fin 1024) : val_main_v12 (F := Ideal) P W (ix2 r k) = GateSpec.branch P W 1 r k := by
  rw [val_main_v12_apply]
  exact Finset.sum_congr rfl fun j _ => congrArg₂ (· * ·) (at2 (v6 P r j)) (at2 (v10 W j k))

/-! ### The gates -/

theorem v24 (r : Fin 4096) (k : Fin 1024) : val_main_v24 (F := Ideal) Z (ix2 r k) = GateSpec.gate Z 0 r k := by
  unfold val_main_v24 val_main_v23 val_main_v22 val_main_v21 val_main_v20 val_main_v19 val_main_v14 val_main_v13
    val_main_cst val_main_cst_0
  pointwise
  rfl

theorem v34 (r : Fin 4096) (k : Fin 1024) : val_main_v34 (F := Ideal) Z (ix2 r k) = GateSpec.gate Z 1 r k := by
  unfold val_main_v34 val_main_v33 val_main_v32 val_main_v31 val_main_v30 val_main_v29 val_main_v16 val_main_v15
    val_main_cst_2 val_main_cst_3
  pointwise
  rfl

/-! ### The cotangents -/

theorem v42 (r : Fin 4096) (k : Fin 1024) : val_main_v42 (F := Ideal) X W (ix2 r k) = GateSpec.dm X W r k := by
  rw [val_main_v42_apply]
  exact Finset.sum_congr rfl fun j _ => congrArg₂ (· * ·) (at2 (f := val_main_v41 (F := Ideal) X) (r := r) (j := j) rfl) (at2 (v18 W k j))

theorem v46 (r : Fin 4096) (k : Fin 1024) : val_main_v46 (F := Ideal) X Z W (ix2 r k) = GateSpec.dy X Z W 0 r k := by
  unfold val_main_v46
  pointwise [v24, v42]
  exact mul_comm _ _

theorem v43 (r : Fin 4096) (k : Fin 1024) : val_main_v43 (F := Ideal) X Z W (ix2 r k) = GateSpec.dy X Z W 1 r k := by
  unfold val_main_v43
  pointwise [v34, v42]
  exact mul_comm _ _

theorem v48 (r : Fin 4096) (k : Fin 1024) : val_main_v48 (F := Ideal) X Z P W (ix2 r k) = GateSpec.dg X Z P W 0 r k := by
  unfold val_main_v48 val_main_v47 val_main_v27 val_main_v26 val_main_v25 val_main_cst_1
  pointwise [v11, v24, v42]
  exact (mul_assoc _ _ _).symm

theorem v45 (r : Fin 4096) (k : Fin 1024) : val_main_v45 (F := Ideal) X Z P W (ix2 r k) = GateSpec.dg X Z P W 1 r k := by
  unfold val_main_v45 val_main_v44 val_main_v37 val_main_v36 val_main_v35 val_main_cst_4
  pointwise [v12, v34, v42]
  exact (mul_assoc _ _ _).symm

theorem v50 (r : Fin 4096) (k : Fin 1024) : val_main_v50 (F := Ideal) X Z W (ix2 r k) = GateSpec.dpq X Z W 0 r k := by
  rw [val_main_v50_apply]
  exact Finset.sum_congr rfl fun j _ => congrArg₂ (· * ·) (at2 (v46 X Z W r j)) (at2 (v8 W k j))

theorem v49 (r : Fin 4096) (k : Fin 1024) : val_main_v49 (F := Ideal) X Z W (ix2 r k) = GateSpec.dpq X Z W 1 r k := by
  rw [val_main_v49_apply]
  exact Finset.sum_congr rfl fun j _ => congrArg₂ (· * ·) (at2 (v43 X Z W r j)) (at2 (v10 W k j))

/-! ### The results -/

theorem v60_lo (p : Fin 2) (r : Fin 4096) (k : Fin 1024) :
    val_main_v60 (F := Ideal) X Z W (ix3 ⟨p.val, by omega⟩ r k) = GateSpec.dy X Z W p r k := by
  unfold val_main_v60 val_main_v59 val_main_v54 val_main_v53 val_main_v52 val_main_v51
  pointwise [v43, v46]
  match p with
  | 0 => simp
  | 1 => simp

theorem v60_hi (r : Fin 4096) (k : Fin 1024) : val_main_v60 (F := Ideal) X Z W (ix3 2 r k) = X (ix2 r k) := by
  unfold val_main_v60 val_main_v59
  pointwise

theorem v62_hi (p : Fin 2) (r : Fin 4096) (k : Fin 1024) :
    val_main_v62 (F := Ideal) X Z P W (ix3 ⟨4 + p.val, by omega⟩ r k) = GateSpec.dg X Z P W p r k := by
  unfold val_main_v62 val_main_v58 val_main_v57 val_main_v56 val_main_v55
  pointwise [v45, v48]
  match p with
  | 0 => simp
  | 1 => simp

theorem v66 (p : Fin 2) (r : Fin 4096) (k : Fin 1024) :
    val_main_v66 (F := Ideal) X Z W (ix3 p r k) = GateSpec.dpq X Z W p r k := by
  unfold val_main_v66 val_main_v65 val_main_v64 val_main_v63
  pointwise [v49, v50]
  match p with
  | 0 => simp
  | 1 => simp

end Cert.GateRefIdeal.Value

end
-- ==== Proof.Gate.lean ====
/-
  The equation for the gates' gradient: at every entry the claim covers, the kernel's three arrays and the reference's are
  the same functions of the arguments.
-/
module

public import proofs.«01_k».proof.Defs
public import proofs.«01_k».proof.Proof.Preds
public import proofs.«01_k».proof.Proof.GateArray
public import proofs.«01_k».proof.Proof.GateRef
public import proofs.«01_k».proof.Proof.Gen.GateRefIdeal.Run

@[expose] public section

noncomputable section

namespace Cert.GateClaim

open Idealize.ShloMosaic Idealize.ShloMosaic.TcCoe Idealize.SL.Sem
open Cert.GateIdeal Cert.GateIdeal.Gen Cert.GateIdeal.Value

/-- The reference runs, keeps its arguments, and has no semaphores. -/
theorem frame_reference : Cert.quiescent_GateRefIdeal := fun m ρ _ =>
  (θ_run Cert.GateRefIdeal.defs _ _).mono (fun r h => ⟨fun c => (h c).2.2.2, sem_eq_zero_of_no_sems (by decide) r.2⟩)
    (Cert.GateRefIdeal.Value.run (F := Ideal) m ρ)

variable (m : (ℓ : Loc nD τ sig) → Buf (Elt Ideal) ℓ) (c : Dev nD)

/-- The first result: the two branches' cotangents, and the plane the launch keeps. -/
theorem result0 (i : (⟨3, ![3, 4096, 1024]⟩ : Shape).Idx) :
    Cert.GateRefIdeal.Read.val_main_v60 (F := Ideal) (aX m c) (aZ m c) (aW m c) i = (dats m 0 c).arrAt 5 cfg0.N i := by
  obtain ⟨p, r, k, rfl⟩ : ∃ (p : Fin 3) (r : Fin 4096) (k : Fin 1024), i = ix3 p r k := ⟨i 0, i 1, i 2, eq_ix3 i⟩
  match p with
  | 0 => exact (Cert.GateRefIdeal.Value.v60_lo _ _ _ 0 r k).trans (final5 m c 0 r k).symm
  | 1 => exact (Cert.GateRefIdeal.Value.v60_lo _ _ _ 1 r k).trans (final5 m c 1 r k).symm
  | 2 => exact (Cert.GateRefIdeal.Value.v60_hi _ _ _ r k).trans (final5_kept m c r k).symm

/-- The second result, at the planes the launch writes: the cotangents of the two gates' arguments. -/
theorem result1 (i : (⟨3, ![6, 4096, 1024]⟩ : Shape).Idx) (hi : 4 ≤ (i 0).val) :
    Cert.GateRefIdeal.Read.val_main_v62 (F := Ideal) (aX m c) (aZ m c) (aP m c) (aW m c) i = (dats m 0 c).arrAt 6 cfg0.N i := by
  obtain ⟨p, r, k, rfl⟩ : ∃ (p : Fin 6) (r : Fin 4096) (k : Fin 1024), i = ix3 p r k := ⟨i 0, i 1, i 2, eq_ix3 i⟩
  have hp : 4 ≤ p.val := hi
  obtain ⟨q, hq⟩ : ∃ q : Fin 2, p.val = 4 + q.val := ⟨⟨p.val - 4, by omega⟩, (by omega : p.val = 4 + (p.val - 4))⟩
  rw [show p = ⟨4 + q.val, by omega⟩ from Fin.ext hq]
  exact (Cert.GateRefIdeal.Value.v62_hi _ _ _ _ q r k).trans (final6 m c q r k).symm

/-- The third result: the cotangents of the branches before their projections. -/
theorem result2 (i : (⟨3, ![2, 4096, 1024]⟩ : Shape).Idx) :
    Cert.GateRefIdeal.Read.val_main_v66 (F := Ideal) (aX m c) (aZ m c) (aW m c) i = (dats m 0 c).arrAt 7 cfg0.N i := by
  obtain ⟨p, r, k, rfl⟩ : ∃ (p : Fin 2) (r : Fin 4096) (k : Fin 1024), i = ix3 p r k := ⟨i 0, i 1, i 2, eq_ix3 i⟩
  exact (Cert.GateRefIdeal.Value.v66 _ _ _ p r k).trans (final7 m c p r k).symm

attribute [local instance] Preds.facts_gate_written

theorem algebraic : Cert.algebraic_GateIdeal_GateRefIdeal_on_gate_written := by
  intro m g m' g' _ hin
  refine ⟨fun c => (dats m 0 c).arrAt 5 cfg0.N, fun c => (dats m 0 c).arrAt 6 cfg0.N, fun c => (dats m 0 c).arrAt 7 cfg0.N,
    (θ_run _ _ _).mono (fun r h c => ?_) (run_blocks m g), (θ_run _ _ _).mono (fun r h c => ?_) (Cert.GateRefIdeal.Value.run m' g')⟩
  · obtain ⟨e0, e1, e2, ha⟩ := h c
    exact ⟨fun i _ => congrFun e0 i, fun i _ => congrFun e1 i, fun i _ => congrFun e2 i, ha⟩
  · obtain ⟨e0, e1, e2, ha⟩ := h c
    obtain ⟨a0, a1, a2, a3⟩ := hin c
    rw [Cert.GateRefIdeal.Read.val_main_v60_eq, a0, a1, a3] at e0
    rw [Cert.GateRefIdeal.Read.val_main_v62_eq, a0, a1, a2, a3] at e1
    rw [Cert.GateRefIdeal.Read.val_main_v66_eq, a0, a1, a3] at e2
    exact ⟨fun i _ => (congrFun e0 i).trans (result0 m c i),
      fun i hi => (congrFun e1 i).trans (result1 m c i (Preds.gate_plane i hi)),
      fun i _ => (congrFun e2 i).trans (result2 m c i), ha⟩

end Cert.GateClaim

end
-- ==== Proof.Rms.lean ====
/-
  The gradient through a root-mean-square normalisation of one row: the form a kernel computes and the form the reference
  computes are equal where the row and the cotangent are real numbers.
-/
module

public import proofs.«01_k».proof.Proof.Preds

@[expose] public section

noncomputable section

namespace Cert.Rms

open Idealize.ShloMosaic Cert.Preds

/-! ### The three constants -/

theorem k1024 : Ideal.ofBits .f32 1149239296#32 = ((1024 : ℝ) : EReal) := by
  simp [Ideal.ofBits, Ideal.ieee, -EReal.coe_mul]; norm_num
theorem keps : Ideal.ofBits .f32 897988541#32 = ((8796093 / 8796093022208 : ℝ) : EReal) := by
  simp [Ideal.ofBits, Ideal.ieee, -EReal.coe_mul]; norm_num
theorem khalf : Ideal.ofBits .f32 3204448256#32 = ((-1 / 2 : ℝ) : EReal) := by
  simp [Ideal.ofBits, Ideal.ieee, -EReal.coe_mul]; norm_num

/-! ### Real numbers among the extended ones -/

/-- An extended real that is a real number. -/
def IsReal (x : EReal) : Prop := ∃ r : ℝ, x = (r : EReal)

theorem IsReal.mul {x y : EReal} : IsReal x → IsReal y → IsReal (x * y) := fun ⟨a, ha⟩ ⟨b, hb⟩ =>
  ⟨a * b, by rw [ha, hb, EReal.coe_mul]⟩
theorem IsReal.add {x y : EReal} : IsReal x → IsReal y → IsReal (x + y) := fun ⟨a, ha⟩ ⟨b, hb⟩ =>
  ⟨a + b, by rw [ha, hb, EReal.coe_add]⟩
theorem IsReal.sub {x y : EReal} : IsReal x → IsReal y → IsReal (x - y) := fun ⟨a, ha⟩ ⟨b, hb⟩ =>
  ⟨a - b, by rw [ha, hb, EReal.coe_sub]⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← coe_sum]; exact Finset.sum_congr rfl fun i _ => hg i⟩

/-! ### One row -/

variable (x gd : Fin 1024 → EReal)

/-- The mean square of the row, with its guard, and the factor that scales the row to mean square one. -/
def ms : EReal := Ideal.div (∑ j, x j * x j) (Ideal.ofBits .f32 1149239296#32) + Ideal.ofBits .f32 897988541#32
def inv : EReal := Ideal.rsqrt (ms x)

/-- The gradient, as a kernel computes it from the cotangent `gd` of the row's normalised values. -/
def grad (l : Fin 1024) : EReal :=
  inv x * (gd l - x l * inv x * Ideal.div (∑ j, gd j * (x j * inv x)) (Ideal.ofBits .f32 1149239296#32))

/-- What the square inside the norm adds to the gradient at each entry, twice, before it meets the entry. -/
def half : EReal :=
  Ideal.div ((∑ j, x j * gd j) * (Ideal.ofBits .f32 3204448256#32 * Ideal.div (inv x) (ms x))) (Ideal.ofBits .f32 1149239296#32)

theorem ms_pos (hx : Fin1 x) : ∃ r : ℝ, 0 < r ∧ ms x = (r : EReal) := by
  choose xr hx using hx
  refine ⟨(∑ j, xr j * xr j) * (1 / 1024) + 8796093 / 8796093022208, ?_, ?_⟩
  · have h : 0 ≤ ∑ j, xr j * xr j := Finset.sum_nonneg fun j _ => mul_self_nonneg _
    positivity
  · simp only [ms, hx, k1024, keps, Ideal.div_coe (by norm_num : (1024 : ℝ) ≠ 0), ← EReal.coe_mul, coe_sum, ← EReal.coe_add]

theorem inv_real (hx : Fin1 x) : IsReal (inv x) := by
  obtain ⟨r, hr, h⟩ := ms_pos x hx
  refine ⟨(Real.sqrt r)⁻¹, ?_⟩
  rw [inv, h, Ideal.rsqrt_coe, if_neg hr.not_gt, if_neg hr.ne']

/-- The two forms of the gradient agree. -/
theorem grad_eq (hx : Fin1 x) (hg : Fin1 gd) (l : Fin 1024) :
    grad x gd l = gd l * inv x + x l * half x gd + half x gd * x l := by
  obtain ⟨r, hr, hm⟩ := ms_pos x hx
  have hi : inv x = (((Real.sqrt r)⁻¹ : ℝ) : EReal) := by
    rw [inv, hm, Ideal.rsqrt_coe, if_neg hr.not_gt, if_neg hr.ne']
  choose xr hx using hx
  choose gr hg using hg
  have hs : (∑ j, gr j * (xr j * (Real.sqrt r)⁻¹)) = (∑ j, xr j * gr j) * (Real.sqrt r)⁻¹ := by
    rw [Finset.sum_mul]
    exact Finset.sum_congr rfl fun j _ => by ring
  simp only [grad, half, hi, hm, hx, hg, k1024, khalf, Ideal.div_coe (by norm_num : (1024 : ℝ) ≠ 0), Ideal.div_coe hr.ne',
    ← EReal.coe_mul, coe_sum, ← EReal.coe_add, ← EReal.coe_sub, hs]
  refine congrArg _ ?_
  have hq : (1 / r : ℝ) = (Real.sqrt r)⁻¹ * (Real.sqrt r)⁻¹ := by
    rw [← mul_inv, Real.mul_self_sqrt hr.le, one_div]
  rw [hq]
  ring

/-- The same with a cotangent that reaches the row past the norm. -/
theorem add_grad_eq (a : EReal) (hx : Fin1 x) (hg : Fin1 gd) (l : Fin 1024) :
    a + grad x gd l = a + gd l * inv x + x l * half x gd + half x gd * x l := by
  rw [grad_eq x gd hx hg, ← add_assoc, ← add_assoc]

/-! ### The rows of an array -/

def row {n : ℕ} (X : (⟨2, ![n, 1024]⟩ : Shape).Idx → EReal) (r : Fin n) : Fin 1024 → EReal := fun l => X (ix2 r l)

/-- The normalised entries. -/
def xhat {n : ℕ} (X : (⟨2, ![n, 1024]⟩ : Shape).Idx → EReal) (r : Fin n) (l : Fin 1024) : EReal := X (ix2 r l) * inv (row X r)

end Cert.Rms

end
-- ==== Proof.Dx1Spec.lean ====
/-
  The gradient of the feed-forward's norm, entry by entry, for any number of rows: `DU` the cotangent of the projected rows
  in two halves, `W` the projection in four column blocks, `X` the norm's rows, `D` the cotangent that passes by, `G` the gain.
-/
module

public import proofs.«01_k».proof.Proof.Rms

@[expose] public section

noncomputable section

namespace Cert.Dx1Spec

open Idealize.ShloMosaic

variable {n : ℕ} (DU : (⟨3, ![2, n, 2816]⟩ : Shape).Idx → EReal) (W : (⟨3, ![4, 1024, 1408]⟩ : Shape).Idx → EReal)
  (X D : (⟨2, ![n, 1024]⟩ : Shape).Idx → EReal) (G : (⟨2, ![1, 1024]⟩ : Shape).Idx → EReal)

/-- The entry of the cotangent that meets column `j` of column block `k`. -/
def half (k : Fin 4) : Fin 2 := ⟨k.val / 2, by omega⟩
def col (k : Fin 4) (j : Fin 1408) : Fin 2816 := ⟨k.val % 2 * 1408 + j.val, by omega⟩

/-- The cotangent of the normalised rows, column block by column block. -/
def part (k : Fin 4) (r : Fin n) (l : Fin 1024) : EReal := ∑ j : Fin 1408, DU (ix3 (half k) r (col k j)) * W (ix3 k l j)
def dh (r : Fin n) (l : Fin 1024) : EReal := part DU W 0 r l + part DU W 1 r l + part DU W 2 r l + part DU W 3 r l

/-- One row's share of the gain's gradient, and the rows' gradient. -/
def gain (r : Fin n) (l : Fin 1024) : EReal := dh DU W r l * Rms.xhat X r l
def dx (r : Fin n) (l : Fin 1024) : EReal := D (ix2 r l) + Rms.grad (Rms.row X r) (fun j => dh DU W r j * G (ix2 0 j)) l

theorem dh_real (hU : Preds.Fin1 DU) (hW : Preds.Fin1 W) (r : Fin n) (l : Fin 1024) : Rms.IsReal (dh DU W r l) :=
  have h : ∀ k, Rms.IsReal (part DU W k r l) := fun _ => Rms.IsReal.sum _ fun _ => Rms.IsReal.mul (hU _) (hW _)
  (((h 0).add (h 1)).add (h 2)).add (h 3)

end Cert.Dx1Spec

end
-- ==== Proof.Dx1Block.lean ====
/-
  What one grid point of the feed-forward norm's gradient computes, element by element, from the point's blocks.
-/
module

public import proofs.«01_k».proof.Proof.Gen.Dx1Ideal.Value
public import proofs.«01_k».proof.Proof.Dx1Spec
public import proofs.«01_k».proof.Proof.Planes
public import Idealize.ShloMosaic.Lib.KernelVsHost

@[expose] public section

noncomputable section

namespace Cert.Dx1Ideal.Value

open Cert.Dx1Ideal Cert.Dx1Ideal.Gen Idealize.ShloMosaic Idealize.ShloMosaic.TcCoe Idealize.SL.Sem
open Cert.Planes

variable (x0 : Vec Ideal S2x256x2816 .bf16) (x1 : Vec Ideal S4x1024x1408 .bf16) (x2 x3 : Vec Ideal S256x1024 .f32)
  (x4 : Vec Ideal S1x1024 .f32)

/-- The parts of the cotangent and of the projection that a product takes. -/
abbrev duB (o b : ℕ) (inb : ∀ a, (![o, 0, b] : Fin 3 → ℕ) a + (![1, 256, 1408] : Fin 3 → ℕ) a ≤ S2x256x2816.size a) :
    Vec Ideal S1x256x1408 .bf16 := View.ld x0 (Rect.unit (s := S2x256x2816) ![o, 0, b] ![1, 256, 1408] inb)
abbrev wB (o : ℕ) (inb : ∀ a, (![o, 0, 0] : Fin 3 → ℕ) a + (![1, 1024, 1408] : Fin 3 → ℕ) a ≤ S4x1024x1408.size a) :
    Vec Ideal S1x1024x1408 .bf16 := View.ld x1 (Rect.unit (s := S4x1024x1408) ![o, 0, 0] ![1, 1024, 1408] inb)

theorem duB_apply (o b : ℕ) (ho : o < 2) (hb : b + 1408 ≤ 2816) (inb) (s : Fin 256) (j : Fin 1408) :
    duB x0 o b inb (ix3 0 s j) = x0 (ix3 ⟨o, ho⟩ s ⟨b + j.val, by omega⟩) :=
  ld_cols (n := 2) (m := 256) (p := 2816) (q := 1408) x0 o b ho hb inb s j
theorem wB_apply (o : ℕ) (ho : o < 4) (inb) (l : Fin 1024) (j : Fin 1408) : wB x1 o inb (ix3 0 l j) = x1 (ix3 ⟨o, ho⟩ l j) :=
  ld_plane (n := 4) (m := 1024) (p := 1408) x1 o ho inb l j

/-! ### The kernel's values at an entry -/

abbrev dhB : FVec Ideal S256x1024 .f32 :=
  k0_pay2 (duB x0 0 0 (by decide)) (wB x1 0 (by decide)) (duB x0 0 1408 (by decide)) (wB x1 1 (by decide))
    (duB x0 1 0 (by decide)) (wB x1 2 (by decide)) (duB x0 1 1408 (by decide)) (wB x1 3 (by decide))

theorem pay2_apply (s : Fin 256) (l : Fin 1024) :
    dhB x0 x1 (ix2 s l) = Dx1Spec.dh x0 x1 s l := by
  unfold dhB k0_pay2
  pointwise [duB_apply x0 0 0 (by decide) (by decide), duB_apply x0 0 1408 (by decide) (by decide),
    duB_apply x0 1 0 (by decide) (by decide), duB_apply x0 1 1408 (by decide) (by decide),
    wB_apply x1 0 (by decide), wB_apply x1 1 (by decide), wB_apply x1 2 (by decide), wB_apply x1 3 (by decide)]
  rfl

theorem pay3_apply (s : Fin 256) : k0_pay3 x2 (ix2 s 0) = Rms.inv (Rms.row x2 s) := by
  unfold k0_pay3
  pointwise
  rfl

theorem pay4_apply (s : Fin 256) (l : Fin 1024) : k0_pay4 x2 (ix2 s l) = Rms.xhat x2 s l := by
  unfold k0_pay4
  pointwise [pay3_apply]
  rfl

theorem pay5_apply (xo : Vec Ideal S1x1024 .f32) (l : Fin 1024) :
    k0_pay5 (dhB x0 x1) x2 xo (ix2 0 l) = xo (ix2 0 l) + ∑ s : Fin 256, Dx1Spec.gain x0 x1 x2 s l := by
  unfold k0_pay5
  pointwise [pay4_apply, pay2_apply]
  rfl

theorem pay6_apply (s : Fin 256) (l : Fin 1024) :
    k0_pay6 (dhB x0 x1) x2 x3 x4 (ix2 s l) = Dx1Spec.dx x0 x1 x2 x3 x4 s l := by
  unfold k0_pay6
  pointwise [pay4_apply, pay2_apply, pay3_apply]
  rfl

theorem pay7_apply (s : Fin 256) (l : Fin 1024) :
    k0_pay7 (dhB x0 x1) x2 x3 x4 (ix3 0 s l) = Dx1Spec.dx x0 x1 x2 x3 x4 s l := by
  unfold k0_pay7
  pointwise [pay6_apply]

/-! ### The three blocks -/

variable (c : Dev nD) (i : grid0.Coords)
  (arg1 : Memref sig .tc .vmem S2x256x2816 .bf16) (harg1 : arg1.IsWhole) (arg2 : Memref sig .tc .vmem S4x1024x1408 .bf16) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x256x1024 .bf16) (harg7 : arg7.IsWhole) (arg8 : Memref sig .tc .vmem S1x1024 .f32) (harg8 : arg8.IsWhole)
  (s : Fin 256) (l : Fin 1024)

theorem out_A5 (hc0 : cond0_0 i) :
    out0_A_5 c i arg1 harg1 arg2 harg2 arg3 harg3 arg4 harg4 arg5 harg5 arg6 harg6 arg7 harg7 arg8 harg8 hc0 x0 x1 x2 x3 x4 (ix2 s l)
      = Dx1Spec.dx x0 x1 x2 x3 x4 s l := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S256x1024) hz2]
  exact pay6_apply x0 x1 x2 x3 x4 s l

theorem out_A6 (hc0 : cond0_0 i) :
    out0_A_6 c i arg1 harg1 arg2 harg2 arg3 harg3 arg4 harg4 arg5 harg5 arg6 harg6 arg7 harg7 arg8 harg8 hc0 x0 x1 x2 x3 x4 (ix3 0 s l)
      = Dx1Spec.dx x0 x1 x2 x3 x4 s l := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S1x256x1024) hz3]
  exact pay7_apply x0 x1 x2 x3 x4 s l

theorem out_A7 (hc0 : cond0_0 i) :
    out0_A_7 c i arg1 harg1 arg2 harg2 arg3 harg3 arg4 harg4 arg5 harg5 arg6 harg6 arg7 harg7 arg8 harg8 hc0 x0 x1 x2 x3 x4 (ix2 0 l)
      = ∑ s : Fin 256, Dx1Spec.gain x0 x1 x2 s l := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S1x1024) hz2]
  refine (pay5_apply x0 x1 x2 _ l).trans ?_
  rw [Shift.readCov_row _ 0 (by decide), View.canon_cons_unit_zero (S := S1x1024) hz2]
  unfold k0_pay1
  pointwise

theorem out_B5 (hc0 : ¬ cond0_0 i) (xo : Vec Ideal S1x1024 .f32) :
    out0_B_5 c i arg1 harg1 arg2 harg2 arg3 harg3 arg4 harg4 arg5 harg5 arg6 harg6 arg7 harg7 arg8 harg8 hc0 x0 x1 x2 x3 x4 xo (ix2 s l)
      = Dx1Spec.dx x0 x1 x2 x3 x4 s l := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo)]
  unfold kernelRun0_B
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S256x1024) hz2]
  exact pay6_apply x0 x1 x2 x3 x4 s l

theorem out_B6 (hc0 : ¬ cond0_0 i) (xo : Vec Ideal S1x1024 .f32) :
    out0_B_6 c i arg1 harg1 arg2 harg2 arg3 harg3 arg4 harg4 arg5 harg5 arg6 harg6 arg7 harg7 arg8 harg8 hc0 x0 x1 x2 x3 x4 xo (ix3 0 s l)
      = Dx1Spec.dx x0 x1 x2 x3 x4 s l := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo)]
  unfold kernelRun0_B
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S1x256x1024) hz3]
  exact pay7_apply x0 x1 x2 x3 x4 s l

theorem out_B7 (hc0 : ¬ cond0_0 i) (xo : Vec Ideal S1x1024 .f32) :
    out0_B_7 c i arg1 harg1 arg2 harg2 arg3 harg3 arg4 harg4 arg5 harg5 arg6 harg6 arg7 harg7 arg8 harg8 hc0 x0 x1 x2 x3 x4 xo (ix2 0 l)
      = xo (ix2 0 l) + ∑ s : Fin 256, Dx1Spec.gain x0 x1 x2 s l := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo)]
  unfold kernelRun0_B
  dsimp only
  sl_unfold_words
  simp only [View.readAt_eq_ld, harg1.read_unread, harg2.read_unread, harg3.read_unread, harg4.read_unread, harg5.read_unread,
    harg8.read_unread, View.ld_unit_zero (S := S256x1024) hz2, View.ld_unit_zero (S := S1x1024) hz2]
  rw [View.canon_cons_unit_zero (S := S1x1024) hz2]
  exact pay5_apply x0 x1 x2 xo l

end Cert.Dx1Ideal.Value

end
-- ==== Proof.Accum.lean ====
/-
  A sum over rows taken block by block: the part of it up to a row, and one block more.
-/
module

public import Idealize.ShloMosaic.Lib.KernelVsHost

@[expose] public section

noncomputable section

namespace Cert.Accum

variable {N : ℕ} (f : Fin N → EReal)

def ext (r : ℕ) : EReal := if h : r < N then f ⟨r, h⟩ else 0

/-- The sum over the first `n` rows. -/
def upto (n : ℕ) : EReal := ∑ r ∈ Finset.range n, ext f r

theorem upto_zero : upto f 0 = 0 := Finset.sum_range_zero _

theorem ext_of_lt {r : ℕ} (h : r < N) : ext f r = f ⟨r, h⟩ := dif_pos h

theorem upto_add (n T : ℕ) (h : n + T ≤ N) : upto f (n + T) = upto f n + ∑ s : Fin T, f ⟨n + s.val, by omega⟩ := by
  unfold upto
  rw [Finset.sum_range_add, Finset.sum_range (fun x => ext f (n + x))]
  exact congrArg _ (Finset.sum_congr rfl fun s _ => ext_of_lt f _)

theorem upto_all : upto f N = ∑ r, f r := by
  unfold upto
  rw [Finset.sum_range]
  exact Finset.sum_congr rfl fun s _ => ext_of_lt f _

end Cert.Accum

end
-- ==== Proof.Dx1Array.lean ====
/-
  The feed-forward norm's gradient over the whole arrays: which entries of the arguments each grid point reads, and what the
  three results hold after the run.
-/
module

public import proofs.«01_k».proof.Proof.Dx1Block
public import proofs.«01_k».proof.Proof.Accum

@[expose] public section

noncomputable section

namespace Cert.Dx1Ideal.Value

open Cert.Dx1Ideal Cert.Dx1Ideal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as arrays of extended reals. -/
abbrev aU : (⟨3, ![2, 4096, 2816]⟩ : Shape).Idx → EReal := m ((c : Thread nD τ).loc main_arg0)
abbrev aW : (⟨3, ![4, 1024, 1408]⟩ : Shape).Idx → EReal := m ((c : Thread nD τ).loc main_arg1)
abbrev aX : (⟨2, ![4096, 1024]⟩ : Shape).Idx → EReal := m ((c : Thread nD τ).loc main_arg2)
abbrev aD : (⟨2, ![4096, 1024]⟩ : Shape).Idx → EReal := m ((c : Thread nD τ).loc main_arg3)
abbrev aG : (⟨2, ![1, 1024]⟩ : Shape).Idx → EReal := m ((c : Thread nD τ).loc main_arg4)

/-- The token of a row of a grid point's blocks. -/
def row (t : Fin cfg0.N) (s : Fin 256) : Fin 4096 :=
  ⟨t.val * 256 + s.val, by have h : t.val < 16 := t.isLt.trans_eq N_0; omega⟩

/-! ### The blocks a grid point reads -/

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 2 ∧ win0_6.index t 1 = t.val ∧ win0_6.index t 2 = 0 :=
  (by decide +kernel : ∀ t : Fin grid0.N, win0_6.index t 0 = 2 ∧ win0_6.index t 1 = t.val ∧ win0_6.index t 2 = 0)
theorem index7 : ∀ t : Fin cfg0.N, win0_7.index t 0 = 0 ∧ win0_7.index t 1 = 0 :=
  (by decide +kernel : ∀ t : Fin grid0.N, win0_7.index t 0 = 0 ∧ win0_7.index t 1 = 0)

theorem iblk0 (t : Fin cfg0.N) (o : Fin 2) (s : Fin 256) (j : Fin 2816) :
    (iblk m c 0 t : Vec Ideal S2x256x2816 .bf16) (ix3 o s j) = aU m c (ix3 o (row t s) j) := by
  unfold iblk
  rw [View.read_apply]
  show V m c main_arg0 _ = m _ _
  rw [V_main_arg0]
  congr 1
  funext a
  apply Fin.ext
  match a with
  | ⟨0, _⟩ => show win0_0.index t 0 * 2 + 1 * o.val = o.val; rw [(index0 t).1]; omega
  | ⟨1, _⟩ => show win0_0.index t 1 * 256 + 1 * s.val = t.val * 256 + s.val; rw [(index0 t).2.1]; omega
  | ⟨2, _⟩ => show win0_0.index t 2 * 2816 + 1 * j.val = j.val; rw [(index0 t).2.2]; omega

theorem iblk1 (t : Fin cfg0.N) (o : Fin 4) (l : Fin 1024) (j : Fin 1408) :
    (iblk m c 1 t : Vec Ideal S4x1024x1408 .bf16) (ix3 o l j) = aW m c (ix3 o l j) := by
  unfold iblk
  rw [View.read_apply]
  show V m c main_arg1 _ = m _ _
  rw [V_main_arg1]
  congr 1
  funext a
  apply Fin.ext
  match a with
  | ⟨0, _⟩ => show win0_1.index t 0 * 4 + 1 * o.val = o.val; rw [(index1 t).1]; omega
  | ⟨1, _⟩ => show win0_1.index t 1 * 1024 + 1 * l.val = l.val; rw [(index1 t).2.1]; omega
  | ⟨2, _⟩ => show win0_1.index t 2 * 1408 + 1 * j.val = j.val; rw [(index1 t).2.2]; omega

theorem iblk2 (t : Fin cfg0.N) (s : Fin 256) (l : Fin 1024) :
    (iblk m c 2 t : Vec Ideal S256x1024 .f32) (ix2 s l) = aX m c (ix2 (row t s) l) := by
  unfold iblk
  rw [View.read_apply]
  show V m c main_arg2 _ = m _ _
  rw [V_main_arg2]
  congr 1
  funext a
  apply Fin.ext
  match a with
  | ⟨0, _⟩ => show win0_2.index t 0 * 256 + 1 * s.val = t.val * 256 + s.val; rw [(index2 t).1]; omega
  | ⟨1, _⟩ => show win0_2.index t 1 * 1024 + 1 * l.val = l.val; rw [(index2 t).2]; omega

theorem iblk3 (t : Fin cfg0.N) (s : Fin 256) (l : Fin 1024) :
    (iblk m c 3 t : Vec Ideal S256x1024 .f32) (ix2 s l) = aD m c (ix2 (row t s) l) := by
  unfold iblk
  rw [View.read_apply]
  show V m c main_arg3 _ = m _ _
  rw [V_main_arg3]
  congr 1
  funext a
  apply Fin.ext
  match a with
  | ⟨0, _⟩ => show win0_3.index t 0 * 256 + 1 * s.val = t.val * 256 + s.val; rw [(index3 t).1]; omega
  | ⟨1, _⟩ => show win0_3.index t 1 * 1024 + 1 * l.val = l.val; rw [(index3 t).2]; omega

theorem iblk4 (t : Fin cfg0.N) (l : Fin 1024) :
    (iblk m c 4 t : Vec Ideal S1x1024 .f32) (ix2 0 l) = aG m c (ix2 0 l) := by
  unfold iblk
  rw [View.read_apply]
  show V m c main_arg4 _ = m _ _
  rw [V_main_arg4]
  congr 1
  funext a
  apply Fin.ext
  match a with
  | ⟨0, _⟩ => show win0_4.index t 0 * 1 + 1 * 0 = 0; rw [(index4 t).1]
  | ⟨1, _⟩ => show win0_4.index t 1 * 1024 + 1 * l.val = l.val; rw [(index4 t).2]; omega

/-! ### A point's rows are those of the whole arrays -/

theorem dh_iblk (t : Fin cfg0.N) (s : Fin 256) (l : Fin 1024) :
    Dx1Spec.dh (n := 256) (iblk m c 0 t) (iblk m c 1 t) s l = Dx1Spec.dh (aU m c) (aW m c) (row t s) l := by
  unfold Dx1Spec.dh Dx1Spec.part
  simp only [iblk0, iblk1]

theorem row_iblk (t : Fin cfg0.N) (s : Fin 256) : Rms.row (n := 256) (iblk m c 2 t) s = Rms.row (aX m c) (row t s) :=
  funext fun l => iblk2 m c t s l

theorem gain_iblk (t : Fin cfg0.N) (s : Fin 256) (l : Fin 1024) :
    Dx1Spec.gain (n := 256) (iblk m c 0 t) (iblk m c 1 t) (iblk m c 2 t) s l
      = Dx1Spec.gain (aU m c) (aW m c) (aX m c) (row t s) l := by
  unfold Dx1Spec.gain Rms.xhat
  rw [dh_iblk, row_iblk, iblk2]

theorem dx_iblk (t : Fin cfg0.N) (s : Fin 256) (l : Fin 1024) :
    Dx1Spec.dx (n := 256) (iblk m c 0 t) (iblk m c 1 t) (iblk m c 2 t) (iblk m c 3 t) (iblk m c 4 t) s l
      = Dx1Spec.dx (aU m c) (aW m c) (aX m c) (aD m c) (aG m c) (row t s) l := by
  unfold Dx1Spec.dx
  rw [row_iblk, iblk3]
  simp only [dh_iblk, iblk4]

/-! ### What the points leave -/

theorem outs5 (t : Fin cfg0.N) (s : Fin 256) (l : Fin 1024) :
    (outsAt0 m c t.val t.isLt).1 (ix2 s l) = Dx1Spec.dx (aU m c) (aW m c) (aX m c) (aD m c) (aG m c) (row t s) l := by
  refine Eq.trans ?_ (dx_iblk m c t s l)
  by_cases h0 : t.val % 16 = 0
  · refine (congrFun (congrArg Prod.fst (outsAt0_A m c t h0)) _).trans ?_
    dsimp only
    rw [out_A5]
  · refine (congrFun (congrArg Prod.fst (outsAt0_B m c t h0)) _).trans ?_
    dsimp only
    rw [out_B5]

theorem outs6 (t : Fin cfg0.N) (s : Fin 256) (l : Fin 1024) :
    (outsAt0 m c t.val t.isLt).2.1 (ix3 0 s l) = Dx1Spec.dx (aU m c) (aW m c) (aX m c) (aD m c) (aG m c) (row t s) l := by
  refine Eq.trans ?_ (dx_iblk m c t s l)
  by_cases h0 : t.val % 16 = 0
  · refine (congrFun (congrArg (fun p => p.2.1) (outsAt0_A m c t h0)) _).trans ?_
    dsimp only
    rw [out_A6]
  · refine (congrFun (congrArg (fun p => p.2.1) (outsAt0_B m c t h0)) _).trans ?_
    dsimp only
    rw [out_B6]

/-- After a point the gain's gradient holds the sum over the rows so far. -/
theorem outs7 (l : Fin 1024) : ∀ (n : ℕ) (h : n < cfg0.N),
    (outsAt0 m c n h).2.2 (ix2 0 l) = Accum.upto (fun r => Dx1Spec.gain (aU m c) (aW m c) (aX m c) r l) ((n + 1) * 256) := by
  intro n
  induction n with
  | zero =>
    intro h
    refine (congrFun (congrArg (fun p => p.2.2) (outsAt0_A m c ⟨0, h⟩ rfl)) _).trans ?_
    dsimp only
    rw [out_A7]
    simp only [gain_iblk]
    refine Eq.trans ?_ (Accum.upto_add (N := 4096) _ 0 256 (by decide)).symm
    rw [Accum.upto_zero, zero_add]
    rfl
  | succ n ih =>
    intro h
    have hn : n + 1 < 16 := h.trans_eq N_0
    refine (congrFun (congrArg (fun p => p.2.2) (outsAt0_B m c ⟨n + 1, h⟩ (by show ¬ (n + 1) % 16 = 0; omega))) _).trans ?_
    dsimp only
    rw [out_B7]
    simp only [gain_iblk]
    refine Eq.trans ?_ ((Accum.upto_add (N := 4096) _ ((n + 1) * 256) 256 (by omega)).symm.trans (congrArg _ (by omega)))
    exact congrArg₂ (· + ·) (ih (Nat.lt_of_succ_lt h)) rfl

/-! ### The results after the run -/

/-- The grid point of a token, and the token's row there. -/
def pt (r : Fin 4096) : Fin cfg0.N := ⟨r.val / 256, by rw [show cfg0.N = 16 from N_0]; omega⟩
def rw256 (r : Fin 4096) : Fin 256 := ⟨r.val % 256, Nat.mod_lt _ (by decide)⟩

theorem row_pt (r : Fin 4096) : row (pt r) (rw256 r) = r := Fin.ext (by show r.val / 256 * 256 + r.val % 256 = r.val; omega)

theorem final5 (r : Fin 4096) (l : Fin 1024) :
    ((dats m 0 c).arrAt 5 cfg0.N : (⟨2, ![4096, 1024]⟩ : Shape).Idx → EReal) (ix2 r l)
      = Dx1Spec.dx (aU m c) (aW m c) (aX m c) (aD m c) (aG m c) r l := by
  have e := (dats m 0 c).arrAt_emb_eq_flushed 5 disjoint5 (pt r) (flush0_5 (pt r)) (ix2 (rw256 r) l)
  have ei : ((cfg0.win 5).blk (pt r)).view.emb (ix2 (rw256 r) l) = ix2 r l := by
    funext a
    apply Fin.ext
    match a with
    | ⟨0, _⟩ => show win0_5.index (pt r) 0 * 256 + 1 * (r.val % 256) = r.val; rw [(index5 _).1]; show r.val / 256 * 256 + _ = _; omega
    | ⟨1, _⟩ => show win0_5.index (pt r) 1 * 1024 + 1 * l.val = l.val; rw [(index5 _).2]; omega
  rw [ei] at e
  refine e.trans ?_
  rw [cast_eq, flushed5]
  refine (outs5 m c (pt r) (rw256 r) l).trans ?_
  rw [row_pt]

theorem final6 (r : Fin 4096) (l : Fin 1024) :
    ((dats m 0 c).arrAt 6 cfg0.N : (⟨3, ![3, 4096, 1024]⟩ : Shape).Idx → EReal) (ix3 2 r l)
      = Dx1Spec.dx (aU m c) (aW m c) (aX m c) (aD m c) (aG m c) r l := by
  have e := (dats m 0 c).arrAt_emb_eq_flushed 6 disjoint6 (pt r) (flush0_6 (pt r)) (ix3 0 (rw256 r) l)
  have ei : ((cfg0.win 6).blk (pt r)).view.emb (ix3 0 (rw256 r) l) = ix3 2 r l := by
    funext a
    apply Fin.ext
    match a with
    | ⟨0, _⟩ => show win0_6.index (pt r) 0 * 1 + 1 * 0 = 2; rw [(index6 _).1]
    | ⟨1, _⟩ => show win0_6.index (pt r) 1 * 256 + 1 * (r.val % 256) = r.val; rw [(index6 _).2.1]; show r.val / 256 * 256 + _ = _; omega
    | ⟨2, _⟩ => show win0_6.index (pt r) 2 * 1024 + 1 * l.val = l.val; rw [(index6 _).2.2]; omega
  rw [ei] at e
  refine e.trans ?_
  rw [cast_eq, flushed6]
  refine (outs6 m c (pt r) (rw256 r) l).trans ?_
  rw [row_pt]

theorem final7 (l : Fin 1024) :
    ((dats m 0 c).arrAt 7 cfg0.N : (⟨2, ![1, 1024]⟩ : Shape).Idx → EReal) (ix2 0 l)
      = ∑ r : Fin 4096, Dx1Spec.gain (aU m c) (aW m c) (aX m c) r l := by
  let t : Fin cfg0.N := ⟨15, by rw [show cfg0.N = 16 from N_0]; omega⟩
  have hd : ∀ t t' : Fin cfg0.N, (cfg0.win 7).flush t = true → (cfg0.win 7).flush t' = true → t ≠ t' →
      Disjoint ((cfg0.win 7).blk t).view.set ((cfg0.win 7).blk t').view.set := fun t t' h h' hne =>
    absurd (Fin.ext (by
      have e := (flush0_7 t).mp h
      have e' := (flush0_7 t').mp h'
      have l := t.isLt.trans_eq N_0
      have l' := t'.isLt.trans_eq N_0
      omega)) hne
  have e := (dats m 0 c).arrAt_emb_eq_flushed 7 hd t ((flush0_7 t).mpr rfl) (ix2 0 l)
  have ei : ((cfg0.win 7).blk t).view.emb (ix2 0 l) = ix2 0 l := by
    funext a
    apply Fin.ext
    match a with
    | ⟨0, _⟩ => show win0_7.index t 0 * 1 + 1 * 0 = 0; rw [(index7 _).1]
    | ⟨1, _⟩ => show win0_7.index t 1 * 1024 + 1 * l.val = l.val; rw [(index7 _).2]; omega
  rw [ei] at e
  refine e.trans ?_
  rw [cast_eq, flushed7]
  exact (outs7 m c l 15 t.isLt).trans (Accum.upto_all _)

end Cert.Dx1Ideal.Value

end
-- ==== Proof.Dx1Ref.lean ====
/-
  What the reference of the feed-forward norm's gradient computes, read at an index from its arguments.
-/
module

public import proofs.«01_k».proof.Proof.Dx1Spec
public import proofs.«01_k».proof.Proof.Planes
public import proofs.«01_k».proof.Proof.Gen.Dx1RefIdeal.Read
public import Idealize.ShloMosaic.Lib.Pointwise

@[expose] public section

noncomputable section

namespace Cert.Dx1RefIdeal.Value

open Cert.Planes Cert.Dx1RefIdeal Cert.Dx1RefIdeal.Gen Cert.Dx1RefIdeal.Read Idealize.ShloMosaic Idealize.ShloMosaic.TcCoe Idealize.SL.Sem

variable (U : (⟨3, ![2, 4096, 2816]⟩ : Shape).Idx → EReal) (W : (⟨3, ![4, 1024, 1408]⟩ : Shape).Idx → EReal)
  (X D : (⟨2, ![4096, 1024]⟩ : Shape).Idx → EReal) (G : (⟨2, ![1, 1024]⟩ : Shape).Idx → EReal)

/-! ### The cotangent of the normalised rows -/

theorem v2 (l : Fin 1024) (k : Fin 4) (j : Fin 1408) :
    val_main_v2 (F := Ideal) W (ix2 l ⟨j.val + 1408 * k.val, by omega⟩) = W (ix3 k l j) := by
  rw [val_main_v2_apply, val_main_v1_apply, val_main_v0_apply]
  refine congrArg W (funext fun a => Fin.ext ?_)
  match a with
  | ⟨0, _⟩ => show (l.val * 5632 + (j.val + 1408 * k.val)) / 1408 % 4 = k.val; omega
  | ⟨1, _⟩ => show (l.val * 5632 + (j.val + 1408 * k.val)) / 5632 = l.val; omega
  | ⟨2, _⟩ => show (l.val * 5632 + (j.val + 1408 * k.val)) % 1408 = j.val; omega

theorem v5 (r : Fin 4096) (k : Fin 4) (j : Fin 1408) :
    val_main_v5 (F := Ideal) U (ix2 r ⟨j.val + 1408 * k.val, by omega⟩) = U (ix3 (Dx1Spec.half k) r (Dx1Spec.col k j)) := by
  rw [val_main_v5_apply, val_main_v4_apply, val_main_v3_apply]
  refine congrArg U (funext fun a => Fin.ext ?_)
  match a with
  | ⟨0, _⟩ => show (r.val * 5632 + (j.val + 1408 * k.val)) / 2816 % 2 = k.val / 2; omega
  | ⟨1, _⟩ => show (r.val * 5632 + (j.val + 1408 * k.val)) / 5632 = r.val; omega
  | ⟨2, _⟩ => show (r.val * 5632 + (j.val + 1408 * k.val)) % 2816 = k.val % 2 * 1408 + j.val; omega

/-- The product over all the columns is the sum over the column blocks. -/
theorem v22 (r : Fin 4096) (l : Fin 1024) : val_main_v22 (F := Ideal) U W (ix2 r l) = Dx1Spec.dh U W r l := by
  rw [val_main_v22_apply, ← (finProdFinEquiv (m := 4) (n := 1408)).sum_comp, Fintype.sum_prod_type, Fin.sum_univ_four]
  have hp : ∀ k : Fin 4, (∑ j : Fin 1408, val_main_v5 (F := Ideal) U (lidx_main_v22 (ix2 r l) (finProdFinEquiv (k, j)))
      * val_main_v2 (F := Ideal) W (ridx_main_v22 (ix2 r l) (finProdFinEquiv (k, j)))) = Dx1Spec.part U W k r l := fun k =>
    Finset.sum_congr rfl fun j _ => congrArg₂ (· * ·) (at2 (v5 U r k j)) (at2 (v2 W l k j))
  rw [hp, hp, hp, hp]
  rfl

/-! ### The norm -/

theorem v12 (r : Fin 4096) : val_main_v12 (F := Ideal) X (ix2 r 0) = Rms.ms (Rms.row X r) := by
  unfold val_main_v12 val_main_v11 val_main_v10 val_main_v9 val_main_v8 val_main_v7 val_main_v6 val_main_cst val_main_cst_0 val_main_cst_1
  pointwise
  rfl

theorem v13 (r : Fin 4096) : val_main_v13 (F := Ideal) X (ix2 r 0) = Rms.inv (Rms.row X r) := by
  unfold val_main_v13
  pointwise [v12]
  rfl

theorem v18 (r : Fin 4096) (l : Fin 1024) : val_main_v18 (F := Ideal) X (ix2 r l) = Rms.xhat X r l := by
  unfold val_main_v18 val_main_v17
  pointwise [v13]
  rfl

/-! ### The results -/

theorem v25 (l : Fin 1024) : val_main_v25 (F := Ideal) U W X (ix2 0 l) = ∑ r : Fin 4096, Dx1Spec.gain U W X r l := by
  unfold val_main_v25 val_main_v24 val_main_v23 val_main_cst_3
  pointwise [v18, v22]
  exact Finset.sum_congr rfl fun r _ => mul_comm _ _

theorem v27 (r : Fin 4096) (l : Fin 1024) : val_main_v27 (F := Ideal) U W G (ix2 r l) = Dx1Spec.dh U W r l * G (ix2 0 l) := by
  unfold val_main_v27 val_main_v26
  pointwise [v22]

theorem v36 (r : Fin 4096) :
    val_main_v36 (F := Ideal) U W X G (ix2 r 0) = Rms.half (Rms.row X r) (fun j => Dx1Spec.dh U W r j * G (ix2 0 j)) := by
  unfold val_main_v36 val_main_v35 val_main_v34 val_main_v30 val_main_v29 val_main_v28 val_main_v16
    val_main_v15 val_main_v14 val_main_cst_2 val_main_cst_4 val_main_cst_5
  pointwise [v12, v13, v27]
  rfl

theorem v38 (r : Fin 4096) (l : Fin 1024) :
    val_main_v38 (F := Ideal) U W X G (ix2 r l) = Rms.half (Rms.row X r) (fun j => Dx1Spec.dh U W r j * G (ix2 0 j)) := by
  unfold val_main_v38 val_main_v37 val_main_cst_6
  pointwise
  rw [Fin.sum_univ_one]
  exact v36 U W X G r

theorem v42 (hU : Preds.Fin1 U) (hW : Preds.Fin1 W) (hX : Preds.Fin1 X) (hG : Preds.Fin1 G) (r : Fin 4096) (l : Fin 1024) :
    val_main_v42 (F := Ideal) U W X D G (ix2 r l) = Dx1Spec.dx U W X D G r l := by
  unfold val_main_v42 val_main_v41 val_main_v40 val_main_v39 val_main_v33 val_main_v32 val_main_v31
  pointwise [v13, v27, v38]
  exact (Rms.add_grad_eq (Rms.row X r) (fun j => Dx1Spec.dh U W r j * G (ix2 0 j)) _ (fun j => hX _)
    (fun j => (Dx1Spec.dh_real U W hU hW r j).mul (hG _)) l).symm

theorem v45 (hU : Preds.Fin1 U) (hW : Preds.Fin1 W) (hX : Preds.Fin1 X) (hG : Preds.Fin1 G) (p : Fin 3) (r : Fin 4096) (l : Fin 1024) :
    val_main_v45 (F := Ideal) U W X D G (ix3 p r l) = Dx1Spec.dx U W X D G r l := by
  unfold val_main_v45 val_main_v44 val_main_v43
  pointwise [v42 U W X D G hU hW hX hG]

end Cert.Dx1RefIdeal.Value

end
-- ==== Proof.Dx1.lean ====
/-
  The equation for the feed-forward norm's gradient: at every entry the claim covers, the kernel's three arrays and the
  reference's are the same functions of the arguments.
-/
module

public import proofs.«01_k».proof.Defs
public import proofs.«01_k».proof.Proof.Preds
public import proofs.«01_k».proof.Proof.Dx1Array
public import proofs.«01_k».proof.Proof.Dx1Ref
public import proofs.«01_k».proof.Proof.Gen.Dx1RefIdeal.Run

@[expose] public section

noncomputable section

namespace Cert.Dx1Claim

open Idealize.ShloMosaic Idealize.ShloMosaic.TcCoe Idealize.SL.Sem
open Cert.Dx1Ideal Cert.Dx1Ideal.Gen Cert.Dx1Ideal.Value

/-- The reference runs, keeps its arguments, and has no semaphores. -/
theorem frame_reference : Cert.quiescent_Dx1RefIdeal := fun m ρ _ =>
  (θ_run Cert.Dx1RefIdeal.defs _ _).mono (fun r h => ⟨fun c => (h c).2.2.2, sem_eq_zero_of_no_sems (by decide) r.2⟩)
    (Cert.Dx1RefIdeal.Value.run (F := Ideal) m ρ)

variable (m : (ℓ : Loc nD τ sig) → Buf (Elt Ideal) ℓ) (c : Dev nD)

theorem result0 (hU : Preds.Fin1 (aU m c)) (hW : Preds.Fin1 (aW m c)) (hX : Preds.Fin1 (aX m c)) (hG : Preds.Fin1 (aG m c))
    (i : (⟨2, ![4096, 1024]⟩ : Shape).Idx) :
    Cert.Dx1RefIdeal.Read.val_main_v42 (F := Ideal) (aU m c) (aW m c) (aX m c) (aD m c) (aG m c) i = (dats m 0 c).arrAt 5 cfg0.N i := by
  obtain ⟨r, l, rfl⟩ : ∃ (r : Fin 4096) (l : Fin 1024), i = ix2 r l := ⟨i 0, i 1, eq_ix2 i⟩
  exact (Cert.Dx1RefIdeal.Value.v42 _ _ _ _ _ hU hW hX hG r l).trans (final5 m c r l).symm

/-- The second result, at the plane the launch writes. -/
theorem result1 (hU : Preds.Fin1 (aU m c)) (hW : Preds.Fin1 (aW m c)) (hX : Preds.Fin1 (aX m c)) (hG : Preds.Fin1 (aG m c))
    (i : (⟨3, ![3, 4096, 1024]⟩ : Shape).Idx) (hi : (i 0).val = 2) :
    Cert.Dx1RefIdeal.Read.val_main_v45 (F := Ideal) (aU m c) (aW m c) (aX m c) (aD m c) (aG m c) i = (dats m 0 c).arrAt 6 cfg0.N i := by
  obtain ⟨p, r, l, rfl⟩ : ∃ (p : Fin 3) (r : Fin 4096) (l : Fin 1024), i = ix3 p r l := ⟨i 0, i 1, i 2, eq_ix3 i⟩
  rw [show p = 2 from Fin.ext hi]
  exact (Cert.Dx1RefIdeal.Value.v45 _ _ _ _ _ hU hW hX hG 2 r l).trans (final6 m c r l).symm

/-- The gain's gradient. -/
theorem result2 (i : (⟨2, ![1, 1024]⟩ : Shape).Idx) :
    Cert.Dx1RefIdeal.Read.val_main_v25 (F := Ideal) (aU m c) (aW m c) (aX m c) i = (dats m 0 c).arrAt 7 cfg0.N i := by
  obtain ⟨r, l, rfl⟩ : ∃ (r : Fin 1) (l : Fin 1024), i = ix2 r l := ⟨i 0, i 1, eq_ix2 i⟩
  rw [Subsingleton.elim r 0]
  exact (Cert.Dx1RefIdeal.Value.v25 _ _ _ l).trans (final7 m c l).symm

attribute [local instance] Preds.facts_dx1_written Preds.facts_dx1_finite

theorem algebraic : Cert.algebraic_Dx1Ideal_Dx1RefIdeal_on_dx1_written_pre_dx1_finite := by
  intro m g m' g' hpre hin
  refine ⟨fun c => (dats m 0 c).arrAt 5 cfg0.N, fun c => (dats m 0 c).arrAt 6 cfg0.N, fun c => (dats m 0 c).arrAt 7 cfg0.N,
    (θ_run _ _ _).mono (fun r h c => ?_) (run_blocks m g), (θ_run _ _ _).mono (fun r h c => ?_) (Cert.Dx1RefIdeal.Value.run m' g')⟩
  · obtain ⟨e0, e1, e2, ha⟩ := h c
    exact ⟨fun i _ => congrFun e0 i, fun i _ => congrFun e1 i, fun i _ => congrFun e2 i, ha⟩
  · obtain ⟨e0, e1, e2, ha⟩ := h c
    obtain ⟨a0, a1, a2, a3, a4⟩ := hin c
    obtain ⟨hU, hW, hX, hG⟩ := Preds.dx1_finite (hpre c)
    rw [Cert.Dx1RefIdeal.Read.val_main_v42_eq, a0, a1, a2, a3, a4] at e0
    rw [Cert.Dx1RefIdeal.Read.val_main_v45_eq, a0, a1, a2, a3, a4] at e1
    rw [Cert.Dx1RefIdeal.Read.val_main_v25_eq, a0, a1, a2] at e2
    exact ⟨fun i _ => (congrFun e0 i).trans (result0 m c hU hW hX hG i),
      fun i hi => (congrFun e1 i).trans (result1 m c hU hW hX hG i (Preds.dx1_plane i hi)),
      fun i _ => (congrFun e2 i).trans (result2 m c i), ha⟩

end Cert.Dx1Claim

end
-- ==== Proof.DxSpec.lean ====
/-
  The gradient of the mixer's norm, entry by entry, for any number of rows: `DZ` the cotangent of the projected rows in six
  planes, `W` the projection in four column blocks, `X` the norm's rows, `D` the cotangent that passes by, `G` the gain.
-/
module

public import proofs.«01_k».proof.Proof.Rms

@[expose] public section

noncomputable section

namespace Cert.DxSpec

open Idealize.ShloMosaic

variable {n : ℕ} (DZ : (⟨3, ![6, n, 1024]⟩ : Shape).Idx → EReal) (W : (⟨3, ![4, 1024, 1536]⟩ : Shape).Idx → EReal)
  (X D : (⟨2, ![n, 1024]⟩ : Shape).Idx → EReal) (G : (⟨2, ![1, 1024]⟩ : Shape).Idx → EReal)

/-- The projection's 6144 columns in twelve parts of 512: the plane and column of the cotangent, and the block and column of
    the projection, that column `j` of part `k` meets.  The first four planes stand in the order 3, 0, 1, 2. -/
def plane (k : Fin 12) : Fin 6 := ![3, 3, 0, 0, 1, 1, 2, 2, 4, 4, 5, 5] k
def col (k : Fin 12) (j : Fin 512) : Fin 1024 := ⟨k.val % 2 * 512 + j.val, by omega⟩
def shard (k : Fin 12) : Fin 4 := ⟨k.val / 3, by omega⟩
def wcol (k : Fin 12) (j : Fin 512) : Fin 1536 := ⟨k.val % 3 * 512 + j.val, by omega⟩

/-- The cotangent of the normalised rows, part by part. -/
def part (k : Fin 12) (r : Fin n) (l : Fin 1024) : EReal :=
  ∑ j : Fin 512, DZ (ix3 (plane k) r (col k j)) * W (ix3 (shard k) l (wcol k j))
def dh (r : Fin n) (l : Fin 1024) : EReal := ∑ k : Fin 12, part DZ W k r l

/-- A sum of twelve numbers, written out. -/
theorem sum_twelve (f : Fin 12 → EReal) :
    ∑ k, f k = f 0 + f 1 + f 2 + f 3 + f 4 + f 5 + f 6 + f 7 + f 8 + f 9 + f 10 + f 11 := by
  rw [Fin.sum_univ_castSucc, Fin.sum_univ_castSucc, Fin.sum_univ_castSucc, Fin.sum_univ_castSucc, Fin.sum_univ_eight]
  rfl

/-- One row's share of the gain's gradient, and the rows' gradient. -/
def gain (r : Fin n) (l : Fin 1024) : EReal := dh DZ W r l * Rms.xhat X r l
def dx (r : Fin n) (l : Fin 1024) : EReal := D (ix2 r l) + Rms.grad (Rms.row X r) (fun j => dh DZ W r j * G (ix2 0 j)) l

theorem dh_real (hZ : Preds.Fin1 DZ) (hW : Preds.Fin1 W) (r : Fin n) (l : Fin 1024) : Rms.IsReal (dh DZ W r l) :=
  Rms.IsReal.sum _ fun _ => Rms.IsReal.sum _ fun _ => Rms.IsReal.mul (hZ _) (hW _)

end Cert.DxSpec

end
-- ==== Proof.DxBlock.lean ====
/-
  What one grid point of the mixer norm's gradient computes, element by element, from the point's blocks.
-/
module

public import proofs.«01_k».proof.Proof.Gen.DxIdeal.Value
public import proofs.«01_k».proof.Proof.DxSpec
public import proofs.«01_k».proof.Proof.Planes
public import Idealize.ShloMosaic.Lib.KernelVsHost

@[expose] public section

noncomputable section

namespace Cert.DxIdeal.Point

open Cert.DxIdeal Cert.DxIdeal.Gen Idealize.ShloMosaic Idealize.ShloMosaic.TcCoe Idealize.SL.Sem
open Cert.Planes

variable (x0 : Vec Ideal S6x256x1024 .bf16) (x1 : Vec Ideal S4x1024x1536 .bf16) (x2 x3 : Vec Ideal S256x1024 .f32)
  (x4 : Vec Ideal S1x1024 .f32)

/-- The parts of the cotangent and of the projection that a product takes. -/
abbrev zB (o b : ℕ) (inb : ∀ a, (![o, 0, b] : Fin 3 → ℕ) a + (![1, 256, 512] : Fin 3 → ℕ) a ≤ S6x256x1024.size a) :
    Vec Ideal S1x256x512 .bf16 := View.ld x0 (Rect.unit (s := S6x256x1024) ![o, 0, b] ![1, 256, 512] inb)
abbrev wB (o b : ℕ) (inb : ∀ a, (![o, 0, b] : Fin 3 → ℕ) a + (![1, 1024, 512] : Fin 3 → ℕ) a ≤ S4x1024x1536.size a) :
    Vec Ideal S1x1024x512 .bf16 := View.ld x1 (Rect.unit (s := S4x1024x1536) ![o, 0, b] ![1, 1024, 512] inb)

theorem zB_apply (o b : ℕ) (ho : o < 6) (hb : b + 512 ≤ 1024) (inb) (s : Fin 256) (j : Fin 512) :
    zB x0 o b inb (ix3 0 s j) = x0 (ix3 ⟨o, ho⟩ s ⟨b + j.val, by omega⟩) :=
  ld_cols (n := 6) (m := 256) (p := 1024) (q := 512) x0 o b ho hb inb s j
theorem wB_apply (o b : ℕ) (ho : o < 4) (hb : b + 512 ≤ 1536) (inb) (l : Fin 1024) (j : Fin 512) :
    wB x1 o b inb (ix3 0 l j) = x1 (ix3 ⟨o, ho⟩ l ⟨b + j.val, by omega⟩) :=
  ld_cols (n := 4) (m := 1024) (p := 1536) (q := 512) x1 o b ho hb inb l j

/-! ### The kernel's values at an entry -/

abbrev fourB : FVec Ideal S256x1024 .f32 :=
  k0_pay4 (zB x0 3 0 (by decide)) (wB x1 0 0 (by decide)) (zB x0 3 512 (by decide)) (wB x1 0 512 (by decide)) (zB x0 0 0 (by decide)) (wB x1 0 1024 (by decide)) (zB x0 0 512 (by decide)) (wB x1 1 0 (by decide))
abbrev eightB : FVec Ideal S256x1024 .f32 :=
  k0_pay5 (fourB x0 x1) (zB x0 1 0 (by decide)) (wB x1 1 512 (by decide)) (zB x0 1 512 (by decide)) (wB x1 1 1024 (by decide)) (zB x0 2 0 (by decide)) (wB x1 2 0 (by decide)) (zB x0 2 512 (by decide)) (wB x1 2 512 (by decide))
abbrev dhB : FVec Ideal S256x1024 .f32 :=
  k0_pay8 (eightB x0 x1) (k0_pay6 (zB x0 4 0 (by decide))) (k0_pay7 (wB x1 2 1024 (by decide)))
    (zB x0 4 512 (by decide)) (wB x1 3 0 (by decide)) (zB x0 5 0 (by decide)) (wB x1 3 512 (by decide)) (zB x0 5 512 (by decide)) (wB x1 3 1024 (by decide))

theorem four_apply (s : Fin 256) (l : Fin 1024) :
    fourB x0 x1 (ix2 s l) = DxSpec.part x0 x1 0 s l + DxSpec.part x0 x1 1 s l + DxSpec.part x0 x1 2 s l + DxSpec.part x0 x1 3 s l := by
  unfold fourB k0_pay4
  pointwise [zB_apply x0 3 0 (by decide) (by decide), wB_apply x1 0 0 (by decide) (by decide),
    zB_apply x0 3 512 (by decide) (by decide), wB_apply x1 0 512 (by decide) (by decide),
    zB_apply x0 0 0 (by decide) (by decide), wB_apply x1 0 1024 (by decide) (by decide),
    zB_apply x0 0 512 (by decide) (by decide), wB_apply x1 1 0 (by decide) (by decide)]
  rfl

theorem eight_apply (s : Fin 256) (l : Fin 1024) :
    eightB x0 x1 (ix2 s l) = DxSpec.part x0 x1 0 s l + DxSpec.part x0 x1 1 s l + DxSpec.part x0 x1 2 s l + DxSpec.part x0 x1 3 s l
      + DxSpec.part x0 x1 4 s l + DxSpec.part x0 x1 5 s l + DxSpec.part x0 x1 6 s l + DxSpec.part x0 x1 7 s l := by
  unfold eightB k0_pay5
  pointwise [four_apply, zB_apply x0 1 0 (by decide) (by decide), wB_apply x1 1 512 (by decide) (by decide),
    zB_apply x0 1 512 (by decide) (by decide), wB_apply x1 1 1024 (by decide) (by decide),
    zB_apply x0 2 0 (by decide) (by decide), wB_apply x1 2 0 (by decide) (by decide),
    zB_apply x0 2 512 (by decide) (by decide), wB_apply x1 2 512 (by decide) (by decide)]
  rfl

theorem dh_apply (s : Fin 256) (l : Fin 1024) : dhB x0 x1 (ix2 s l) = DxSpec.dh x0 x1 s l := by
  unfold DxSpec.dh
  rw [DxSpec.sum_twelve]
  unfold dhB k0_pay8 k0_pay6 k0_pay7
  pointwise [eight_apply, zB_apply x0 4 0 (by decide) (by decide), wB_apply x1 2 1024 (by decide) (by decide),
    zB_apply x0 4 512 (by decide) (by decide), wB_apply x1 3 0 (by decide) (by decide),
    zB_apply x0 5 0 (by decide) (by decide), wB_apply x1 3 512 (by decide) (by decide),
    zB_apply x0 5 512 (by decide) (by decide), wB_apply x1 3 1024 (by decide) (by decide)]
  rfl

theorem pay10_apply (s : Fin 256) : k0_pay10 x2 (ix2 s 0) = Rms.inv (Rms.row x2 s) := by
  unfold k0_pay10 k0_pay9
  pointwise
  rfl

theorem pay11_apply (s : Fin 256) (l : Fin 1024) : k0_pay11 x2 (ix2 s l) = Rms.xhat x2 s l := by
  unfold k0_pay11 k0_pay9
  pointwise [pay10_apply]
  rfl

theorem pay1_apply (xo : Vec Ideal S1x1024 .f32) (l : Fin 1024) :
    k0_pay1 (dhB x0 x1) (k0_pay11 x2) xo (ix2 0 l) = xo (ix2 0 l) + ∑ s : Fin 256, DxSpec.gain x0 x1 x2 s l := by
  unfold k0_pay1
  pointwise [pay11_apply, dh_apply]
  rfl

theorem pay2_apply (s : Fin 256) (l : Fin 1024) :
    k0_pay2 (dhB x0 x1) (k0_pay10 x2) (k0_pay11 x2) x3 x4 (ix2 s l) = DxSpec.dx x0 x1 x2 x3 x4 s l := by
  unfold k0_pay2
  pointwise [pay10_apply, pay11_apply, dh_apply]
  rfl

/-! ### The two blocks -/

variable (c : Dev nD) (i : grid0.Coords)
  (arg1 : Memref sig .tc .vmem S6x256x1024 .bf16) (harg1 : arg1.IsWhole) (arg2 : Memref sig .tc .vmem S4x1024x1536 .bf16) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S1x1024 .f32) (harg7 : arg7.IsWhole)
  (s : Fin 256) (l : Fin 1024)

theorem out_A5 (hc0 : cond0_0 i) :
    out0_A_5 c i arg1 harg1 arg2 harg2 arg3 harg3 arg4 harg4 arg5 harg5 arg6 harg6 arg7 harg7 hc0 x0 x1 x2 x3 x4 (ix2 s l)
      = DxSpec.dx x0 x1 x2 x3 x4 s l := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S256x1024) hz2]
  exact pay2_apply x0 x1 x2 x3 x4 s l

theorem out_A6 (hc0 : cond0_0 i) :
    out0_A_6 c i arg1 harg1 arg2 harg2 arg3 harg3 arg4 harg4 arg5 harg5 arg6 harg6 arg7 harg7 hc0 x0 x1 x2 x3 x4 (ix2 0 l)
      = ∑ s : Fin 256, DxSpec.gain x0 x1 x2 s l := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S1x1024) hz2]
  refine (pay1_apply x0 x1 x2 _ l).trans ?_
  rw [Shift.readCov_row _ 0 (by decide), View.canon_cons_unit_zero (S := S1x1024) hz2]
  unfold k0_pay3
  pointwise

theorem out_B5 (hc0 : ¬ cond0_0 i) (xo : Vec Ideal S1x1024 .f32) :
    out0_B_5 c i arg1 harg1 arg2 harg2 arg3 harg3 arg4 harg4 arg5 harg5 arg6 harg6 arg7 harg7 hc0 x0 x1 x2 x3 x4 xo (ix2 s l)
      = DxSpec.dx x0 x1 x2 x3 x4 s l := by
  unfold out0_B_5
  rw [View.read_writes_eq_canon _ _ _ (cover0_B_5 c i arg1 harg1 arg2 harg2 arg3 harg3 arg4 harg4 arg5 harg5 arg6 harg6 arg7 harg7 hc0 x0 x1 x2 x3 x4 xo)]
  unfold kernelRun0_B
  dsimp only
  sl_unfold_words
  simp only [View.readAt_eq_ld, harg1.read_unread, harg2.read_unread, harg3.read_unread, harg4.read_unread, harg5.read_unread,
    View.ld_unit_zero (S := S256x1024) hz2, View.ld_unit_zero (S := S1x1024) hz2]
  rw [View.canon_cons_unit_zero (S := S256x1024) hz2]
  exact pay2_apply x0 x1 x2 x3 x4 s l

theorem out_B6 (hc0 : ¬ cond0_0 i) (xo : Vec Ideal S1x1024 .f32) :
    out0_B_6 c i arg1 harg1 arg2 harg2 arg3 harg3 arg4 harg4 arg5 harg5 arg6 harg6 arg7 harg7 hc0 x0 x1 x2 x3 x4 xo (ix2 0 l)
      = xo (ix2 0 l) + ∑ s : Fin 256, DxSpec.gain x0 x1 x2 s l := by
  unfold out0_B_6
  rw [View.read_writes_eq_canon _ _ _ (cover0_B_6 c i arg1 harg1 arg2 harg2 arg3 harg3 arg4 harg4 arg5 harg5 arg6 harg6 arg7 harg7 hc0 x0 x1 x2 x3 x4 xo)]
  unfold kernelRun0_B
  dsimp only
  sl_unfold_words
  simp only [View.readAt_eq_ld, harg1.read_unread, harg2.read_unread, harg3.read_unread, harg4.read_unread, harg5.read_unread, harg7.read_unread,
    View.ld_unit_zero (S := S256x1024) hz2, View.ld_unit_zero (S := S1x1024) hz2]
  rw [View.canon_cons_unit_zero (S := S1x1024) hz2]
  exact pay1_apply x0 x1 x2 xo l

end Cert.DxIdeal.Point

end
-- ==== Proof.LossSpec.lean ====
/-
  The loss and the gradient of the final norm, entry by entry, for any number of rows: `A` the activations, `W` the
  down-projection, `X` the residual rows, `T` the targets, `G` the gain.
-/
module

public import proofs.«01_k».proof.Proof.Rms

@[expose] public section

noncomputable section

namespace Cert.LossSpec

open Idealize.ShloMosaic

variable {n : ℕ} (A : (⟨2, ![n, 2816]⟩ : Shape).Idx → EReal) (W : (⟨2, ![2816, 1024]⟩ : Shape).Idx → EReal)
  (X T : (⟨2, ![n, 1024]⟩ : Shape).Idx → EReal) (G : (⟨2, ![1, 1024]⟩ : Shape).Idx → EReal)

/-- The norm's rows. -/
def x2 : (⟨2, ![n, 1024]⟩ : Shape).Idx → EReal := fun i => X i + ∑ j : Fin 2816, A (ix2 (i 0) j) * W (ix2 j (i 1))

/-- The error, its cotangent (one thousand-and-twenty-fourth of it), and its square. -/
def err (r : Fin n) (l : Fin 1024) : EReal := Rms.xhat (x2 A W X) r l * G (ix2 0 l) - T (ix2 r l)
def dy (r : Fin n) (l : Fin 1024) : EReal := err A W X T G r l * Ideal.ofBits .f32 981467136#32
def sq (r : Fin n) (l : Fin 1024) : EReal := err A W X T G r l * err A W X T G r l

/-- One row's share of the gain's gradient, and the rows' gradient. -/
def gain (r : Fin n) (l : Fin 1024) : EReal := dy A W X T G r l * Rms.xhat (x2 A W X) r l
def dx (r : Fin n) (l : Fin 1024) : EReal := Rms.grad (Rms.row (x2 A W X) r) (fun j => dy A W X T G r j * G (ix2 0 j)) l

/-! ### Tokens and sequences -/

/-- Row of token `s` of sequence `b`. -/
def tok (b : Fin 2) (s : Fin 2048) : Fin 4096 := ⟨b.val * 2048 + s.val, by omega⟩

/-- A batch of sequences as rows, and a vector as a row. -/
def rows (x : (⟨3, ![2, 2048, 1024]⟩ : Shape).Idx → EReal) : (⟨2, ![4096, 1024]⟩ : Shape).Idx → EReal := fun i =>
  x (ix3 ⟨(i 0).val / 2048, by have h : (i 0).val < 4096 := (i 0).isLt; omega⟩ ⟨(i 0).val % 2048, Nat.mod_lt _ (by decide)⟩ (i 1))
def gainRow (g : (⟨1, ![1024]⟩ : Shape).Idx → EReal) : (⟨2, ![1, 1024]⟩ : Shape).Idx → EReal := fun i => g (ix1 (i 1))

theorem rows_tok (x : (⟨3, ![2, 2048, 1024]⟩ : Shape).Idx → EReal) (b : Fin 2) (s : Fin 2048) (l : Fin 1024) :
    rows x (ix2 (tok b s) l) = x (ix3 b s l) := by
  refine congrArg x (funext fun a => Fin.ext ?_)
  match a with
  | ⟨0, _⟩ => show (b.val * 2048 + s.val) / 2048 = b.val; omega
  | ⟨1, _⟩ => show (b.val * 2048 + s.val) % 2048 = s.val; omega
  | ⟨2, _⟩ => rfl

theorem rows_reshape (x : (⟨3, ![2, 2048, 1024]⟩ : Shape).Idx → EReal) (h : (⟨3, ![2, 2048, 1024]⟩ : Shape).ShapeCasts ⟨2, ![4096, 1024]⟩)
    (r : Fin 4096) (l : Fin 1024) : shapeCast ⟨2, ![4096, 1024]⟩ x h (ix2 r l) = rows x (ix2 r l) :=
  shapeCast_apply x h (ix2 r l) _ (by
    rw [Shape.rowMajor_val_three, Shape.rowMajor_val_two]
    show (r.val / 2048 * 2048 + r.val % 2048) * 1024 + l.val = r.val * 1024 + l.val
    omega)

end Cert.LossSpec

end
-- ==== Proof.DxArray.lean ====
/-
  The mixer norm's gradient over the whole arrays: which entries of the arguments each grid point reads, and what the
  two results hold after the run.
-/
module

public import proofs.«01_k».proof.Proof.DxBlock
public import proofs.«01_k».proof.Proof.Accum
public import proofs.«01_k».proof.Proof.LossSpec

@[expose] public section

noncomputable section

namespace Cert.DxIdeal.Point

open Cert.DxIdeal Cert.DxIdeal.Gen Cert.DxIdeal.Value Idealize.ShloMosaic Idealize.ShloMosaic.TcCoe Idealize.SL.Sem
open Idealize.ShloMosaic.Pipeline (Dat)

variable (m : (ℓ : Loc nD τ sig) → Buf (Elt Ideal) ℓ) (c : Dev nD)

/-- The arguments as arrays of extended reals. -/
abbrev aZ : (⟨3, ![6, 4096, 1024]⟩ : Shape).Idx → EReal := m ((c : Thread nD τ).loc main_arg0)
abbrev aW : (⟨3, ![4, 1024, 1536]⟩ : Shape).Idx → EReal := m ((c : Thread nD τ).loc main_arg1)
abbrev aX : (⟨3, ![2, 2048, 1024]⟩ : Shape).Idx → EReal := m ((c : Thread nD τ).loc main_arg2)
abbrev aD : (⟨2, ![4096, 1024]⟩ : Shape).Idx → EReal := m ((c : Thread nD τ).loc main_arg3)
abbrev aG : (⟨2, ![1, 1024]⟩ : Shape).Idx → EReal := m ((c : Thread nD τ).loc main_arg4)

/-- The norm's rows. -/
abbrev rX := LossSpec.rows (aX m c)

/-- The token of a row of a grid point's blocks. -/
def row (t : Fin cfg0.N) (s : Fin 256) : Fin 4096 :=
  ⟨t.val * 256 + s.val, by have h : t.val < 16 := t.isLt.trans_eq N_0; omega⟩

/-! ### The blocks a grid point reads -/

theorem entry0 (r : Fin 4096) (l : Fin 1024) :
    (V m c main_v0 : (⟨2, ![4096, 1024]⟩ : Shape).Idx → EReal) (ix2 r l) = rX m c (ix2 r l) := by
  entry_read
  exact LossSpec.rows_reshape _ _ r l

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

theorem iblk0 (t : Fin cfg0.N) (o : Fin 6) (s : Fin 256) (j : Fin 1024) :
    (iblk m c 0 t : Vec Ideal S6x256x1024 .bf16) (ix3 o s j) = aZ m c (ix3 o (row t s) j) := by
  unfold iblk
  rw [View.read_apply]
  show V m c main_arg0 _ = m _ _
  rw [V_main_arg0]
  congr 1
  funext a
  apply Fin.ext
  match a with
  | ⟨0, _⟩ => show win0_0.index t 0 * 6 + 1 * o.val = o.val; rw [(index0 t).1]; omega
  | ⟨1, _⟩ => show win0_0.index t 1 * 256 + 1 * s.val = t.val * 256 + s.val; rw [(index0 t).2.1]; omega
  | ⟨2, _⟩ => show win0_0.index t 2 * 1024 + 1 * j.val = j.val; rw [(index0 t).2.2]; omega

theorem iblk1 (t : Fin cfg0.N) (o : Fin 4) (l : Fin 1024) (j : Fin 1536) :
    (iblk m c 1 t : Vec Ideal S4x1024x1536 .bf16) (ix3 o l j) = aW m c (ix3 o l j) := by
  unfold iblk
  rw [View.read_apply]
  show V m c main_arg1 _ = m _ _
  rw [V_main_arg1]
  congr 1
  funext a
  apply Fin.ext
  match a with
  | ⟨0, _⟩ => show win0_1.index t 0 * 4 + 1 * o.val = o.val; rw [(index1 t).1]; omega
  | ⟨1, _⟩ => show win0_1.index t 1 * 1024 + 1 * l.val = l.val; rw [(index1 t).2.1]; omega
  | ⟨2, _⟩ => show win0_1.index t 2 * 1536 + 1 * j.val = j.val; rw [(index1 t).2.2]; omega

theorem iblk2 (t : Fin cfg0.N) (s : Fin 256) (l : Fin 1024) :
    (iblk m c 2 t : Vec Ideal S256x1024 .f32) (ix2 s l) = rX m c (ix2 (row t s) l) := by
  unfold iblk
  rw [View.read_apply]
  refine Eq.trans (congrArg (V m c main_v0) ?_) (entry0 m c (row t s) l)
  funext a
  apply Fin.ext
  match a with
  | ⟨0, _⟩ => show win0_2.index t 0 * 256 + 1 * s.val = t.val * 256 + s.val; rw [(index2 t).1]; omega
  | ⟨1, _⟩ => show win0_2.index t 1 * 1024 + 1 * l.val = l.val; rw [(index2 t).2]; omega

theorem iblk3 (t : Fin cfg0.N) (s : Fin 256) (l : Fin 1024) :
    (iblk m c 3 t : Vec Ideal S256x1024 .f32) (ix2 s l) = aD m c (ix2 (row t s) l) := by
  unfold iblk
  rw [View.read_apply]
  show V m c main_arg3 _ = m _ _
  rw [V_main_arg3]
  congr 1
  funext a
  apply Fin.ext
  match a with
  | ⟨0, _⟩ => show win0_3.index t 0 * 256 + 1 * s.val = t.val * 256 + s.val; rw [(index3 t).1]; omega
  | ⟨1, _⟩ => show win0_3.index t 1 * 1024 + 1 * l.val = l.val; rw [(index3 t).2]; omega

theorem iblk4 (t : Fin cfg0.N) (l : Fin 1024) :
    (iblk m c 4 t : Vec Ideal S1x1024 .f32) (ix2 0 l) = aG m c (ix2 0 l) := by
  unfold iblk
  rw [View.read_apply]
  show V m c main_arg4 _ = m _ _
  rw [V_main_arg4]
  congr 1
  funext a
  apply Fin.ext
  match a with
  | ⟨0, _⟩ => show win0_4.index t 0 * 1 + 1 * 0 = 0; rw [(index4 t).1]
  | ⟨1, _⟩ => show win0_4.index t 1 * 1024 + 1 * l.val = l.val; rw [(index4 t).2]; omega

/-! ### A point's rows are those of the whole arrays -/

theorem dh_iblk (t : Fin cfg0.N) (s : Fin 256) (l : Fin 1024) :
    DxSpec.dh (n := 256) (iblk m c 0 t) (iblk m c 1 t) s l = DxSpec.dh (aZ m c) (aW m c) (row t s) l := by
  unfold DxSpec.dh DxSpec.part
  simp only [iblk0, iblk1]

theorem row_iblk (t : Fin cfg0.N) (s : Fin 256) : Rms.row (n := 256) (iblk m c 2 t) s = Rms.row (rX m c) (row t s) :=
  funext fun l => iblk2 m c t s l

theorem gain_iblk (t : Fin cfg0.N) (s : Fin 256) (l : Fin 1024) :
    DxSpec.gain (n := 256) (iblk m c 0 t) (iblk m c 1 t) (iblk m c 2 t) s l
      = DxSpec.gain (aZ m c) (aW m c) (rX m c) (row t s) l := by
  unfold DxSpec.gain Rms.xhat
  rw [dh_iblk, row_iblk, iblk2]

theorem dx_iblk (t : Fin cfg0.N) (s : Fin 256) (l : Fin 1024) :
    DxSpec.dx (n := 256) (iblk m c 0 t) (iblk m c 1 t) (iblk m c 2 t) (iblk m c 3 t) (iblk m c 4 t) s l
      = DxSpec.dx (aZ m c) (aW m c) (rX m c) (aD m c) (aG m c) (row t s) l := by
  unfold DxSpec.dx
  rw [row_iblk, iblk3]
  simp only [dh_iblk, iblk4]

/-! ### What the points leave -/

theorem outs5 (t : Fin cfg0.N) (s : Fin 256) (l : Fin 1024) :
    (outsAt0 m c t.val t.isLt).1 (ix2 s l) = DxSpec.dx (aZ m c) (aW m c) (rX m c) (aD m c) (aG m c) (row t s) l := by
  refine Eq.trans ?_ (dx_iblk m c t s l)
  by_cases h0 : t.val % 16 = 0
  · refine (congrFun (congrArg Prod.fst (outsAt0_A m c t h0)) _).trans ?_
    dsimp only
    rw [out_A5]
  · refine (congrFun (congrArg Prod.fst (outsAt0_B m c t h0)) _).trans ?_
    dsimp only
    rw [out_B5]

/-- After a point the gain's gradient holds the sum over the rows so far. -/
theorem outs6 (l : Fin 1024) : ∀ (n : ℕ) (h : n < cfg0.N),
    (outsAt0 m c n h).2 (ix2 0 l) = Accum.upto (fun r => DxSpec.gain (aZ m c) (aW m c) (rX m c) r l) ((n + 1) * 256) := by
  intro n
  induction n with
  | zero =>
    intro h
    refine (congrFun (congrArg (fun p => p.2) (outsAt0_A m c ⟨0, h⟩ rfl)) _).trans ?_
    dsimp only
    rw [out_A6]
    simp only [gain_iblk]
    refine Eq.trans ?_ (Accum.upto_add (N := 4096) _ 0 256 (by decide)).symm
    rw [Accum.upto_zero, zero_add]
    rfl
  | succ n ih =>
    intro h
    have hn : n + 1 < 16 := h.trans_eq N_0
    refine (congrFun (congrArg (fun p => p.2) (outsAt0_B m c ⟨n + 1, h⟩ (by show ¬ (n + 1) % 16 = 0; omega))) _).trans ?_
    dsimp only
    rw [out_B6]
    simp only [gain_iblk]
    refine Eq.trans ?_ ((Accum.upto_add (N := 4096) _ ((n + 1) * 256) 256 (by omega)).symm.trans (congrArg _ (by omega)))
    exact congrArg₂ (· + ·) (ih (Nat.lt_of_succ_lt h)) rfl

/-! ### The results after the run -/

/-- The grid point of a token, and the token's row there. -/
def pt (r : Fin 4096) : Fin cfg0.N := ⟨r.val / 256, by rw [show cfg0.N = 16 from N_0]; omega⟩
def rw256 (r : Fin 4096) : Fin 256 := ⟨r.val % 256, Nat.mod_lt _ (by decide)⟩

theorem row_pt (r : Fin 4096) : row (pt r) (rw256 r) = r := Fin.ext (by show r.val / 256 * 256 + r.val % 256 = r.val; omega)

theorem last5 (r : Fin 4096) (l : Fin 1024) :
    ((dats m 0 c).arrAt 5 cfg0.N : (⟨2, ![4096, 1024]⟩ : Shape).Idx → EReal) (ix2 r l)
      = DxSpec.dx (aZ m c) (aW m c) (rX m c) (aD m c) (aG m c) r l := by
  have e := (dats m 0 c).arrAt_emb_eq_flushed 5 disjoint5 (pt r) (flush0_5 (pt r)) (ix2 (rw256 r) l)
  have ei : ((cfg0.win 5).blk (pt r)).view.emb (ix2 (rw256 r) l) = ix2 r l := by
    funext a
    apply Fin.ext
    match a with
    | ⟨0, _⟩ => show win0_5.index (pt r) 0 * 256 + 1 * (r.val % 256) = r.val; rw [(index5 _).1]; show r.val / 256 * 256 + _ = _; omega
    | ⟨1, _⟩ => show win0_5.index (pt r) 1 * 1024 + 1 * l.val = l.val; rw [(index5 _).2]; omega
  rw [ei] at e
  refine e.trans ?_
  rw [cast_eq, flushed5]
  refine (outs5 m c (pt r) (rw256 r) l).trans ?_
  rw [row_pt]

theorem last6 (l : Fin 1024) :
    ((dats m 0 c).arrAt 6 cfg0.N : (⟨2, ![1, 1024]⟩ : Shape).Idx → EReal) (ix2 0 l)
      = ∑ r : Fin 4096, DxSpec.gain (aZ m c) (aW m c) (rX m c) r l := by
  let t : Fin cfg0.N := ⟨15, by rw [show cfg0.N = 16 from N_0]; omega⟩
  have hd : ∀ t t' : Fin cfg0.N, (cfg0.win 6).flush t = true → (cfg0.win 6).flush t' = true → t ≠ t' →
      Disjoint ((cfg0.win 6).blk t).view.set ((cfg0.win 6).blk t').view.set := fun t t' h h' hne =>
    absurd (Fin.ext (by
      have e := (flush0_6 t).mp h
      have e' := (flush0_6 t').mp h'
      have l := t.isLt.trans_eq N_0
      have l' := t'.isLt.trans_eq N_0
      omega)) hne
  have e := (dats m 0 c).arrAt_emb_eq_flushed 6 hd t ((flush0_6 t).mpr rfl) (ix2 0 l)
  have ei : ((cfg0.win 6).blk t).view.emb (ix2 0 l) = ix2 0 l := by
    funext a
    apply Fin.ext
    match a with
    | ⟨0, _⟩ => show win0_6.index t 0 * 1 + 1 * 0 = 0; rw [(index6 _).1]
    | ⟨1, _⟩ => show win0_6.index t 1 * 1024 + 1 * l.val = l.val; rw [(index6 _).2]; omega
  rw [ei] at e
  refine e.trans ?_
  rw [cast_eq, flushed6]
  exact (outs6 m c l 15 t.isLt).trans (Accum.upto_all _)

end Cert.DxIdeal.Point

end
-- ==== Proof.LossReal.lean ====
/-
  The mean-square error of real rows: its cotangent, its sum, and that its parts are real numbers.
-/
module

public import proofs.«01_k».proof.Proof.LossSpec
public import Idealize.ShloMosaic.Lib.Pointwise

@[expose] public section

noncomputable section

namespace Cert.LossSpec

open Idealize.ShloMosaic Cert.Rms

/-! ### Constants -/

theorem konehalf : Ideal.ofBits .f32 1056964608#32 = ((1 / 2 : ℝ) : EReal) := by
  simp [Ideal.ofBits, Ideal.ieee, -EReal.coe_mul]; norm_num
theorem ktwo : Ideal.ofBits .f32 1073741824#32 = ((2 : ℝ) : EReal) := by
  simp [Ideal.ofBits, Ideal.ieee, -EReal.coe_mul]; norm_num
theorem kthousandth : Ideal.ofBits .f32 981467136#32 = ((1 / 1024 : ℝ) : EReal) := by
  simp [Ideal.ofBits, Ideal.ieee, -EReal.coe_mul]; norm_num
theorem kmean : Ideal.ofBits .f32 973078528#32 = ((1 / 2048 : ℝ) : EReal) := by
  simp [Ideal.ofBits, Ideal.ieee, -EReal.coe_mul]; norm_num

/-- Half of one thousand-and-twenty-fourth of twice the error. -/
theorem cotangent (e : EReal) :
    Ideal.div (Ideal.ofBits .f32 1056964608#32) (Ideal.ofBits .f32 1149239296#32) * (Ideal.ofBits .f32 1073741824#32 * e)
      = e * Ideal.ofBits .f32 981467136#32 := by
  rw [konehalf, ktwo, kthousandth, k1024, Ideal.div_coe (by norm_num), ← mul_assoc, ← EReal.coe_mul, ← EReal.coe_mul, mul_comm]
  norm_num

/-! ### Sums over tokens -/

theorem sum_tok (f : Fin 4096 → EReal) : ∑ b : Fin 2, ∑ s : Fin 2048, f (tok b s) = ∑ r, f r := by
  rw [← (finProdFinEquiv (m := 2) (n := 2048)).sum_comp, Fintype.sum_prod_type]
  refine Finset.sum_congr rfl fun b _ => Finset.sum_congr rfl fun s _ => congrArg f (Fin.ext ?_)
  show b.val * 2048 + s.val = s.val + 2048 * b.val
  omega

/-- Half the sum of the rows' means, for real squares, is the sum over all the entries at once. -/
theorem mean (q : Fin 4096 → Fin 1024 → EReal) (hq : ∀ r l, IsReal (q r l)) :
    Ideal.ofBits .f32 1056964608#32 * ∑ r, Ideal.div (∑ l, q r l) (Ideal.ofBits .f32 1149239296#32)
      = (∑ l, ∑ r, q r l) * Ideal.ofBits .f32 973078528#32 := by
  choose p hp using hq
  simp only [hp, konehalf, kmean, k1024, Ideal.div_coe (by norm_num : (1024 : ℝ) ≠ 0), ← EReal.coe_mul, coe_sum]
  rw [Finset.sum_comm (f := fun l r => p r l), ← Finset.sum_mul]
  refine congrArg _ ?_
  ring

/-! ### Real parts -/

variable {n : ℕ} (A : (⟨2, ![n, 2816]⟩ : Shape).Idx → EReal) (W : (⟨2, ![2816, 1024]⟩ : Shape).Idx → EReal)
  (X T : (⟨2, ![n, 1024]⟩ : Shape).Idx → EReal) (G : (⟨2, ![1, 1024]⟩ : Shape).Idx → EReal)

theorem x2_real (hA : Preds.Fin1 A) (hW : Preds.Fin1 W) (hX : Preds.Fin1 X) : Preds.Fin1 (x2 A W X) := fun i =>
  IsReal.add (hX i) (IsReal.sum _ fun j => IsReal.mul (hA _) (hW _))

theorem err_real (hA : Preds.Fin1 A) (hW : Preds.Fin1 W) (hX : Preds.Fin1 X) (hT : Preds.Fin1 T) (hG : Preds.Fin1 G)
    (r : Fin n) (l : Fin 1024) : IsReal (err A W X T G r l) :=
  (IsReal.mul (IsReal.mul (x2_real A W X hA hW hX _) (inv_real _ fun j => x2_real A W X hA hW hX _)) (hG _)).sub (hT _)

theorem dy_real (hA : Preds.Fin1 A) (hW : Preds.Fin1 W) (hX : Preds.Fin1 X) (hT : Preds.Fin1 T) (hG : Preds.Fin1 G)
    (r : Fin n) (l : Fin 1024) : IsReal (dy A W X T G r l) :=
  (err_real A W X T G hA hW hX hT hG r l).mul ⟨_, kthousandth⟩

end Cert.LossSpec

end
-- ==== Proof.DxRef.lean ====
/-
  What the reference of the mixer norm's gradient computes, read at an index from its arguments.
-/
module

public import proofs.«01_k».proof.Proof.DxSpec
public import proofs.«01_k».proof.Proof.LossReal
public import proofs.«01_k».proof.Proof.HostSum
public import proofs.«01_k».proof.Proof.Planes
public import proofs.«01_k».proof.Proof.Gen.DxRefIdeal.Read
public import Idealize.ShloMosaic.Lib.Pointwise

@[expose] public section

noncomputable section

namespace Cert.DxRefIdeal.Value

open Cert.Planes Cert.DxRefIdeal Cert.DxRefIdeal.Gen Cert.DxRefIdeal.Read Idealize.ShloMosaic Idealize.ShloMosaic.TcCoe Idealize.SL.Sem
open Cert.LossSpec (tok rows rows_tok sum_tok)

variable (Z : (⟨3, ![6, 4096, 1024]⟩ : Shape).Idx → EReal) (W : (⟨3, ![4, 1024, 1536]⟩ : Shape).Idx → EReal)
  (X : (⟨3, ![2, 2048, 1024]⟩ : Shape).Idx → EReal) (D : (⟨2, ![4096, 1024]⟩ : Shape).Idx → EReal) (G : (⟨2, ![1, 1024]⟩ : Shape).Idx → EReal)

/-! ### The cotangent of the normalised rows -/

theorem v2 (l : Fin 1024) (k : Fin 12) (j : Fin 512) :
    val_main_v2 (F := Ideal) W (ix2 l ⟨j.val + 512 * k.val, by omega⟩) = W (ix3 (DxSpec.shard k) l (DxSpec.wcol k j)) := by
  rw [val_main_v2_apply, val_main_v1_apply, val_main_v0_apply]
  refine congrArg W (funext fun a => Fin.ext ?_)
  match a with
  | ⟨0, _⟩ => show (l.val * 6144 + (j.val + 512 * k.val)) / 1536 % 4 = k.val / 3; omega
  | ⟨1, _⟩ => show (l.val * 6144 + (j.val + 512 * k.val)) / 6144 = l.val; omega
  | ⟨2, _⟩ => show (l.val * 6144 + (j.val + 512 * k.val)) % 1536 = k.val % 3 * 512 + j.val; omega

theorem v4 (p : Fin 6) (b : Fin 2) (s : Fin 2048) (l : Fin 1024) :
    val_main_v4 (F := Ideal) Z (ix4 p b s l) = Z (ix3 p (tok b s) l) := by
  rw [val_main_v4_apply, val_main_v3_apply]
  refine congrArg Z (funext fun a => Fin.ext ?_)
  match a with
  | ⟨0, _⟩ => show (((p.val * 2 + b.val) * 2048 + s.val) * 1024 + l.val) / 4194304 = p.val; omega
  | ⟨1, _⟩ => show (((p.val * 2 + b.val) * 2048 + s.val) * 1024 + l.val) / 1024 % 4096 = b.val * 2048 + s.val; omega
  | ⟨2, _⟩ => show (((p.val * 2 + b.val) * 2048 + s.val) * 1024 + l.val) % 1024 = l.val; omega

/-- The six planes, in the order the projection's columns take them. -/
def order : Fin 6 → Fin 6 := ![3, 0, 1, 2, 4, 5]

theorem v6 (b : Fin 2) (s : Fin 2048) (l : Fin 1024) : val_main_v6 (F := Ideal) Z (ix3 b s l) = Z (ix3 3 (tok b s) l) := by
  rw [val_main_v6_apply, val_main_v5_apply]
  refine (congrArg (val_main_v4 (F := Ideal) Z) (funext fun a => Fin.ext ?_)).trans (v4 Z 3 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega
theorem v8 (b : Fin 2) (s : Fin 2048) (l : Fin 1024) : val_main_v8 (F := Ideal) Z (ix3 b s l) = Z (ix3 0 (tok b s) l) := by
  rw [val_main_v8_apply, val_main_v7_apply]
  refine (congrArg (val_main_v4 (F := Ideal) Z) (funext fun a => Fin.ext ?_)).trans (v4 Z 0 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega
theorem v10 (b : Fin 2) (s : Fin 2048) (l : Fin 1024) : val_main_v10 (F := Ideal) Z (ix3 b s l) = Z (ix3 1 (tok b s) l) := by
  rw [val_main_v10_apply, val_main_v9_apply]
  refine (congrArg (val_main_v4 (F := Ideal) Z) (funext fun a => Fin.ext ?_)).trans (v4 Z 1 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega
theorem v12 (b : Fin 2) (s : Fin 2048) (l : Fin 1024) : val_main_v12 (F := Ideal) Z (ix3 b s l) = Z (ix3 2 (tok b s) l) := by
  rw [val_main_v12_apply, val_main_v11_apply]
  refine (congrArg (val_main_v4 (F := Ideal) Z) (funext fun a => Fin.ext ?_)).trans (v4 Z 2 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega
theorem v14 (b : Fin 2) (s : Fin 2048) (l : Fin 1024) : val_main_v14 (F := Ideal) Z (ix3 b s l) = Z (ix3 4 (tok b s) l) := by
  rw [val_main_v14_apply, val_main_v13_apply]
  refine (congrArg (val_main_v4 (F := Ideal) Z) (funext fun a => Fin.ext ?_)).trans (v4 Z 4 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega
theorem v16 (b : Fin 2) (s : Fin 2048) (l : Fin 1024) : val_main_v16 (F := Ideal) Z (ix3 b s l) = Z (ix3 5 (tok b s) l) := by
  rw [val_main_v16_apply, val_main_v15_apply]
  refine (congrArg (val_main_v4 (F := Ideal) Z) (funext fun a => Fin.ext ?_)).trans (v4 Z 5 b s l)
  match a with
  | ⟨0, _⟩ => rfl
  | ⟨1, _⟩ => show ((b.val * 2048 + s.val) * 1024 + l.val) / 2097152 % 2 = b.val; omega
  | ⟨2, _⟩ => show ((b.val * 2048 + s.val) * 1024 + l.val) / 1024 % 2048 = s.val; omega
  | ⟨3, _⟩ => show ((b.val * 2048 + s.val) * 1024 + l.val) % 1024 = l.val; omega

/-- Piece `n` of blocks of 1024 columns side by side. -/
theorem beside (xs : List ((s : Shape) × (s.Idx → EReal))) (h : Shape.Concatenates (xs.map (·.1)) S2x2048x6144 2) (n : ℕ)
    (hn : n < xs.length) (x : S2x2048x1024.Idx → EReal) (hx : xs[n] = ⟨S2x2048x1024, x⟩)
    (hp : (((xs.take n).map (·.1)).map fun s => if h : s.rank = S2x2048x6144.rank then s.size ((2 : Fin S2x2048x6144.rank).cast h.symm) else 0).sum
      = n * 1024) (b : Fin 2) (s : Fin 2048) (l : Fin 1024) (j : Fin 6144) (hj : n * 1024 + l.val = j.val) :
    concatenate S2x2048x6144 2 xs h (ix3 b s j) = x (ix3 b s l) :=
  concatenate_apply_piece (2 : Fin S2x2048x6144.rank) xs h (ix3 b s j) n hn S2x2048x1024 x hx rfl (n * 1024) hp (ix3 b s l) (fun a ha => by
    match a with
    | ⟨0, _⟩ => rfl
    | ⟨1, _⟩ => rfl
    | ⟨2, _⟩ => exact absurd rfl ha) hj

set_option maxRecDepth 10000 in
/-- The planes side by side. -/
theorem planes (q : Fin 6) (b : Fin 2) (s : Fin 2048) (l : Fin 1024) (j : Fin 6144) (hj : q.val * 1024 + l.val = j.val) :
    val_main_v17 (F := Ideal) Z (ix3 b s j) = Z (ix3 (order q) (tok b s) l) := by
  have ho : ∀ p : Fin 6, q.val = p.val → Z (ix3 (order p) (tok b s) l) = Z (ix3 (order q) (tok b s) l) := fun p h => by rw [Fin.ext h]
  unfold val_main_v17
  rcases (by omega : q.val = 0 ∨ q.val = 1 ∨ q.val = 2 ∨ q.val = 3 ∨ q.val = 4 ∨ q.val = 5) with h | h | h | h | h | h <;> rw [h] at hj
  · exact (beside _ _ 0 (by simp) (val_main_v6 (F := Ideal) Z) rfl rfl b s l j hj).trans ((v6 Z b s l).trans (ho 0 h))
  · exact (beside _ _ 1 (by simp) (val_main_v8 (F := Ideal) Z) rfl rfl b s l j hj).trans ((v8 Z b s l).trans (ho 1 h))
  · exact (beside _ _ 2 (by simp) (val_main_v10 (F := Ideal) Z) rfl rfl b s l j hj).trans ((v10 Z b s l).trans (ho 2 h))
  · exact (beside _ _ 3 (by simp) (val_main_v12 (F := Ideal) Z) rfl rfl b s l j hj).trans ((v12 Z b s l).trans (ho 3 h))
  · exact (beside _ _ 4 (by simp) (val_main_v14 (F := Ideal) Z) rfl rfl b s l j hj).trans ((v14 Z b s l).trans (ho 4 h))
  · exact (beside _ _ 5 (by simp) (val_main_v16 (F := Ideal) Z) rfl rfl b s l j hj).trans ((v16 Z b s l).trans (ho 5 h))

theorem v17 (b : Fin 2) (s : Fin 2048) (k : Fin 12) (j : Fin 512) :
    val_main_v17 (F := Ideal) Z (ix3 b s ⟨j.val + 512 * k.val, by omega⟩) = Z (ix3 (DxSpec.plane k) (tok b s) (DxSpec.col k j)) := by
  have e := planes Z ⟨k.val / 2, by omega⟩ b s (DxSpec.col k j) ⟨j.val + 512 * k.val, by omega⟩
    (by show k.val / 2 * 1024 + (k.val % 2 * 512 + j.val) = j.val + 512 * k.val; omega)
  have ho : order ⟨k.val / 2, by omega⟩ = DxSpec.plane k := (by decide : ∀ k : Fin 12, order ⟨k.val / 2, by omega⟩ = DxSpec.plane k) k
  exact e.trans (congrArg (fun p => Z (ix3 p (tok b s) (DxSpec.col k j))) ho)

/-- The product over all the columns is the sum over the parts. -/
theorem v36 (b : Fin 2) (s : Fin 2048) (l : Fin 1024) : val_main_v36 (F := Ideal) Z W (ix3 b s l) = DxSpec.dh Z W (tok b s) l := by
  rw [val_main_v36_apply, ← (finProdFinEquiv (m := 12) (n := 512)).sum_comp, Fintype.sum_prod_type]
  exact Finset.sum_congr rfl fun k _ => Finset.sum_congr rfl fun j _ => congrArg₂ (· * ·) (at3 (v17 Z b s k j)) (at2 (v2 W l k j))

/-! ### The norm -/

theorem v24 (b : Fin 2) (s : Fin 2048) : val_main_v24 (F := Ideal) X (ix3 b s 0) = Rms.ms (Rms.row (rows X) (tok b s)) := by
  unfold Rms.row
  simp only [rows_tok]
  unfold val_main_v24 val_main_v23 val_main_v22 val_main_v21 val_main_v20 val_main_v19 val_main_v18 val_main_cst val_main_cst_0 val_main_cst_1
  pointwise
  rfl

theorem v25 (b : Fin 2) (s : Fin 2048) : val_main_v25 (F := Ideal) X (ix3 b s 0) = Rms.inv (Rms.row (rows X) (tok b s)) := by
  unfold val_main_v25
  pointwise [v24]
  rfl

theorem v30 (b : Fin 2) (s : Fin 2048) (l : Fin 1024) : val_main_v30 (F := Ideal) X (ix3 b s l) = Rms.xhat (rows X) (tok b s) l := by
  unfold val_main_v30 val_main_v29
  pointwise [v25]
  rw [Rms.xhat, rows_tok]

/-! ### The results -/

theorem v43 (l : Fin 1024) : val_main_v43 (F := Ideal) Z W X (ix2 0 l) = ∑ r : Fin 4096, DxSpec.gain Z W (rows X) r l := by
  have h38 : val_main_v38 (F := Ideal) Z W X (ix1 l) = ∑ r : Fin 4096, DxSpec.gain Z W (rows X) r l := by
    unfold val_main_v38 val_main_v37 val_main_cst_3
    pointwise [v30, v36, HostSum.hostReduceAdd_two]
    refine (sum_tok fun r => Rms.xhat (rows X) r l * DxSpec.dh Z W r l).trans ?_
    exact Finset.sum_congr rfl fun r _ => mul_comm _ _
  rw [← h38]
  unfold val_main_v43 val_main_v42 val_main_v39 val_main_cst_4
  pointwise [HostSum.hostReduceAdd_two]
  rw [Fin.sum_univ_one, Fin.sum_univ_one]

theorem v41 (b : Fin 2) (s : Fin 2048) (l : Fin 1024) :
    val_main_v41 (F := Ideal) Z W G (ix3 b s l) = DxSpec.dh Z W (tok b s) l * G (ix2 0 l) := by
  unfold val_main_v41 val_main_v40 val_main_v31
  pointwise [v36]

theorem v52 (b : Fin 2) (s : Fin 2048) : val_main_v52 (F := Ideal) Z W X G (ix3 b s 0)
      = Rms.half (Rms.row (rows X) (tok b s)) (fun j => DxSpec.dh Z W (tok b s) j * G (ix2 0 j)) := by
  unfold Rms.half
  rw [← v24, ← v25]
  unfold Rms.row
  simp only [rows_tok]
  unfold val_main_v52 val_main_v51 val_main_v50 val_main_v46 val_main_v45 val_main_v44 val_main_v28 val_main_v27 val_main_v26
    val_main_cst_2 val_main_cst_5 val_main_cst_6
  pointwise [v41]

theorem v54 (b : Fin 2) (s : Fin 2048) (l : Fin 1024) : val_main_v54 (F := Ideal) Z W X G (ix3 b s l)
      = Rms.half (Rms.row (rows X) (tok b s)) (fun j => DxSpec.dh Z W (tok b s) j * G (ix2 0 j)) := by
  unfold val_main_v54 val_main_v53 val_main_cst_7
  pointwise
  rw [Fin.sum_univ_one]
  exact v52 Z W X G b s

theorem v35 (b : Fin 2) (s : Fin 2048) (l : Fin 1024) : val_main_v35 (F := Ideal) D (ix3 b s l) = D (ix2 (tok b s) l) := by
  rw [val_main_v35_apply]
  refine congrArg D (funext fun a => Fin.ext ?_)
  match a with
  | ⟨0, _⟩ => show ((b.val * 2048 + s.val) * 1024 + l.val) / 1024 = b.val * 2048 + s.val; omega
  | ⟨1, _⟩ => show ((b.val * 2048 + s.val) * 1024 + l.val) % 1024 = l.val; omega

theorem v58 (hZ : Preds.Fin1 Z) (hW : Preds.Fin1 W) (hX : Preds.Fin1 X) (hG : Preds.Fin1 G)
    (b : Fin 2) (s : Fin 2048) (l : Fin 1024) :
    val_main_v58 (F := Ideal) Z W X D G (ix3 b s l) = DxSpec.dx Z W (rows X) D G (tok b s) l := by
  unfold val_main_v58 val_main_v57 val_main_v56 val_main_v55 val_main_v49 val_main_v48 val_main_v47
  pointwise [v25, v35, v41, v54]
  rw [← rows_tok X b s l]
  exact (Rms.add_grad_eq (Rms.row (rows X) (tok b s)) (fun j => DxSpec.dh Z W (tok b s) j * G (ix2 0 j)) _ (fun j => hX _)
    (fun j => (DxSpec.dh_real Z W hZ hW _ j).mul (hG _)) l).symm

theorem v59 (hZ : Preds.Fin1 Z) (hW : Preds.Fin1 W) (hX : Preds.Fin1 X) (hG : Preds.Fin1 G) (r : Fin 4096) (l : Fin 1024) :
    val_main_v59 (F := Ideal) Z W X D G (ix2 r l) = DxSpec.dx Z W (rows X) D G r l := by
  rw [val_main_v59_apply]
  refine (congrArg _ ?_).trans ((v58 Z W X D G hZ hW hX hG ⟨r.val / 2048, by omega⟩ ⟨r.val % 2048, Nat.mod_lt _ (by decide)⟩ l).trans
    (congrArg (fun q => DxSpec.dx Z W (rows X) D G q l) (Fin.ext (by show r.val / 2048 * 2048 + r.val % 2048 = r.val; omega))))
  funext a
  refine Fin.ext ?_
  match a with
  | ⟨0, _⟩ => show (r.val * 1024 + l.val) / 2097152 = r.val / 2048; omega
  | ⟨1, _⟩ => show (r.val * 1024 + l.val) / 1024 % 2048 = r.val % 2048; omega
  | ⟨2, _⟩ => show (r.val * 1024 + l.val) % 1024 = l.val; omega

end Cert.DxRefIdeal.Value

end
-- ==== Proof.Dx.lean ====
/-
  The equation for the mixer norm's gradient: at every entry of the two results the kernel's arrays and the reference's are the
  same functions of the arguments.
-/
module

public import proofs.«01_k».proof.Defs
public import proofs.«01_k».proof.Proof.Preds
public import proofs.«01_k».proof.Proof.DxArray
public import proofs.«01_k».proof.Proof.DxRef
public import proofs.«01_k».proof.Proof.Gen.DxRefIdeal.Run

@[expose] public section

noncomputable section

namespace Cert.DxClaim

open Idealize.ShloMosaic Idealize.ShloMosaic.TcCoe Idealize.SL.Sem
open Cert.DxIdeal Cert.DxIdeal.Gen Cert.DxIdeal.Point

/-- The reference runs, keeps its arguments, and has no semaphores. -/
theorem frame_reference : Cert.quiescent_DxRefIdeal := fun m ρ _ =>
  (θ_run Cert.DxRefIdeal.defs _ _).mono (fun r h => ⟨fun c => (h c).2.2, sem_eq_zero_of_no_sems (by decide) r.2⟩)
    (Cert.DxRefIdeal.Value.run (F := Ideal) m ρ)

variable (m : (ℓ : Loc nD τ sig) → Buf (Elt Ideal) ℓ) (c : Dev nD)

/-- The rows' gradient. -/
theorem result0 (hZ : Preds.Fin1 (aZ m c)) (hW : Preds.Fin1 (aW m c)) (hX : Preds.Fin1 (aX m c)) (hG : Preds.Fin1 (aG m c))
    (i : (⟨2, ![4096, 1024]⟩ : Shape).Idx) :
    Cert.DxRefIdeal.Read.val_main_v59 (F := Ideal) (aZ m c) (aW m c) (aX m c) (aD m c) (aG m c) i = (dats m 0 c).arrAt 5 cfg0.N i := by
  obtain ⟨r, l, rfl⟩ : ∃ (r : Fin 4096) (l : Fin 1024), i = ix2 r l := ⟨i 0, i 1, eq_ix2 i⟩
  exact (Cert.DxRefIdeal.Value.v59 _ _ _ _ _ hZ hW hX hG r l).trans (last5 m c r l).symm

/-- The gain's gradient. -/
theorem result1 (i : (⟨2, ![1, 1024]⟩ : Shape).Idx) :
    Cert.DxRefIdeal.Read.val_main_v43 (F := Ideal) (aZ m c) (aW m c) (aX m c) i = (dats m 0 c).arrAt 6 cfg0.N i := by
  obtain ⟨r, l, rfl⟩ : ∃ (r : Fin 1) (l : Fin 1024), i = ix2 r l := ⟨i 0, i 1, eq_ix2 i⟩
  rw [Subsingleton.elim r 0]
  exact (Cert.DxRefIdeal.Value.v43 _ _ _ l).trans (last6 m c l).symm

attribute [local instance] Preds.facts_dx_finite

theorem algebraic : Cert.algebraic_DxIdeal_DxRefIdeal_pre_dx_finite := by
  intro m g m' g' hpre hin
  refine ⟨fun c => (dats m 0 c).arrAt 5 cfg0.N, fun c => (dats m 0 c).arrAt 6 cfg0.N, Cert.DxIdeal.Value.run_blocks m g,
    (θ_run _ _ _).mono (fun r h c => ?_) (Cert.DxRefIdeal.Value.run m' g')⟩
  obtain ⟨e0, e1, ha⟩ := h c
  obtain ⟨a0, a1, a2, a3, a4⟩ := hin c
  obtain ⟨hZ, hW, hX, hG⟩ := Preds.dx_finite (hpre c)
  rw [Cert.DxRefIdeal.Read.val_main_v59_eq, a0, a1, a2, a3, a4] at e0
  rw [Cert.DxRefIdeal.Read.val_main_v43_eq, a0, a1, a2] at e1
  exact ⟨e0.trans (funext (result0 m c hZ hW hX hG)), e1.trans (funext (result1 m c)), ha⟩

end Cert.DxClaim

end
-- ==== Proof.LossBlock.lean ====
/-
  What one grid point of the loss computes, element by element, from the point's blocks.
-/
module

public import proofs.«01_k».proof.Proof.Gen.LossIdeal.Value
public import proofs.«01_k».proof.Proof.LossSpec
public import proofs.«01_k».proof.Proof.Planes
public import Idealize.ShloMosaic.Lib.KernelVsHost

@[expose] public section

noncomputable section

namespace Cert.LossIdeal.Point

open Cert.LossIdeal Cert.LossIdeal.Gen Idealize.ShloMosaic Idealize.ShloMosaic.TcCoe Idealize.SL.Sem
open Cert.Planes

variable (x0 : Vec Ideal S256x2816 .bf16) (x1 : Vec Ideal S2816x1024 .bf16) (x2 x3 : Vec Ideal S256x1024 .f32)
  (x4 : Vec Ideal S1x1024 .f32)

/-! ### The kernel's values at an entry -/

theorem pay7_apply (s : Fin 256) (l : Fin 1024) : k0_pay7 x2 x0 x1 (ix2 s l) = LossSpec.x2 x0 x1 x2 (ix2 s l) := by
  unfold k0_pay7
  pointwise
  rfl

theorem pay8_apply (s : Fin 256) : k0_pay8 x2 x0 x1 (ix2 s 0) = Rms.inv (Rms.row (LossSpec.x2 x0 x1 x2) s) := by
  unfold k0_pay8
  pointwise [pay7_apply]
  rfl

theorem pay9_apply (s : Fin 256) (l : Fin 1024) : k0_pay9 x2 x0 x1 (ix2 s l) = Rms.xhat (LossSpec.x2 x0 x1 x2) s l := by
  unfold k0_pay9
  pointwise [pay7_apply, pay8_apply]
  rfl

theorem pay11_apply (s : Fin 256) (l : Fin 1024) : k0_pay11 x2 x0 x1 x4 x3 (ix2 s l) = LossSpec.err x0 x1 x2 x3 x4 s l := by
  unfold k0_pay11 k0_pay10
  pointwise [pay9_apply]
  rfl

theorem pay12_apply (xs : Vec Ideal S1x1024 .f32) (l : Fin 1024) :
    k0_pay12 x2 x0 x1 x4 x3 xs (ix2 0 l) = xs (ix2 0 l) + ∑ s : Fin 256, LossSpec.sq x0 x1 x2 x3 x4 s l := by
  unfold k0_pay12
  pointwise [pay11_apply]
  rfl

theorem pay13_apply (s : Fin 256) (l : Fin 1024) : k0_pay13 x2 x0 x1 x4 x3 (ix2 s l) = LossSpec.dy x0 x1 x2 x3 x4 s l := by
  unfold k0_pay13
  pointwise [pay11_apply]
  rfl

theorem pay1_apply (xo : Vec Ideal S1x1024 .f32) (l : Fin 1024) :
    k0_pay1 (k0_pay9 x2 x0 x1) (k0_pay13 x2 x0 x1 x4 x3) xo (ix2 0 l) = xo (ix2 0 l) + ∑ s : Fin 256, LossSpec.gain x0 x1 x2 x3 x4 s l := by
  unfold k0_pay1
  pointwise [pay9_apply, pay13_apply]
  rfl

abbrev dxB : FVec Ideal S256x1024 .f32 := k0_pay2 (k0_pay8 x2 x0 x1) (k0_pay9 x2 x0 x1) (k0_pay10 x4) (k0_pay13 x2 x0 x1 x4 x3)

theorem pay2_apply (s : Fin 256) (l : Fin 1024) : dxB x0 x1 x2 x3 x4 (ix2 s l) = LossSpec.dx x0 x1 x2 x3 x4 s l := by
  unfold dxB k0_pay2 k0_pay10
  pointwise [pay8_apply, pay9_apply, pay13_apply]
  rfl

theorem pay4_apply (xs : Vec Ideal S1x1024 .f32) : k0_pay4 xs (ix2 0 0) = (∑ l : Fin 1024, xs (ix2 0 l)) * Ideal.ofBits .f32 973078528#32 := by
  unfold k0_pay4
  pointwise

/-! ### What the point leaves -/

variable (c : Dev nD) (i : grid0.Coords)
  (arg1 : Memref sig .tc .vmem S256x2816 .bf16) (harg1 : arg1.IsWhole) (arg2 : Memref sig .tc .vmem S2816x1024 .bf16) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S256x1024 .bf16) (harg7 : arg7.IsWhole) (arg8 : Memref sig .tc .vmem S1x1 .f32) (harg8 : arg8.IsWhole)
  (arg9 : Memref sig .tc .vmem S1x1024 .f32) (harg9 : arg9.IsWhole) (arg10 : Memref sig .tc .vmem S1x1024 .f32) (harg10 : arg10.IsWhole)
  (s : Fin 256) (l : Fin 1024)

theorem out_A5 (hc0 : cond0_0 i) (hc1 : ¬ cond0_1 i) :
    out0_A_5 c i arg1 harg1 arg2 harg2 arg3 harg3 arg4 harg4 arg5 harg5 arg6 harg6 arg7 harg7 arg8 harg8 arg9 harg9 arg10 harg10 hc0 hc1 x0 x1 x2 x3 x4 (ix2 s l)
      = LossSpec.dx x0 x1 x2 x3 x4 s l := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_A6 (hc0 : cond0_0 i) (hc1 : ¬ cond0_1 i) :
    out0_A_6 c i arg1 harg1 arg2 harg2 arg3 harg3 arg4 harg4 arg5 harg5 arg6 harg6 arg7 harg7 arg8 harg8 arg9 harg9 arg10 harg10 hc0 hc1 x0 x1 x2 x3 x4 (ix2 s l)
      = LossSpec.dx x0 x1 x2 x3 x4 s l := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_A8 (hc0 : cond0_0 i) (hc1 : ¬ cond0_1 i) :
    out0_A_8 c i arg1 harg1 arg2 harg2 arg3 harg3 arg4 harg4 arg5 harg5 arg6 harg6 arg7 harg7 arg8 harg8 arg9 harg9 arg10 harg10 hc0 hc1 x0 x1 x2 x3 x4 (ix2 0 l)
      = ∑ s : Fin 256, LossSpec.gain x0 x1 x2 x3 x4 s l := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  refine (pay1_apply x0 x1 x2 x3 x4 _ l).trans ?_
  rw [Shift.readCov_row _ 0 (by decide), View.canon_cons_unit_zero (S := S1x1024) hz2]
  unfold k0_pay6
  pointwise

theorem out_As (hc0 : cond0_0 i) (hc1 : ¬ cond0_1 i) :
    sout0_A_0 c i arg1 harg1 arg2 harg2 arg3 harg3 arg4 harg4 arg5 harg5 arg6 harg6 arg7 harg7 arg8 harg8 arg9 harg9 arg10 harg10 hc0 hc1 x0 x1 x2 x3 x4 (ix2 0 l)
      = ∑ s : Fin 256, LossSpec.sq x0 x1 x2 x3 x4 s l := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.readAt_eq_ld, harg1.read_unread, harg2.read_unread, harg3.read_unread, harg4.read_unread, harg5.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  refine (pay12_apply x0 x1 x2 x3 x4 _ l).trans ?_
  rw [Shift.readCov_row _ 0 (by decide), View.canon_cons_unit_zero (S := S1x1024) hz2]
  unfold k0_pay5
  pointwise

theorem out_B5 (hc0 : ¬ cond0_0 i) (hc1 : ¬ cond0_1 i) (xo xs : Vec Ideal S1x1024 .f32) :
    out0_B_5 c i arg1 harg1 arg2 harg2 arg3 harg3 arg4 harg4 arg5 harg5 arg6 harg6 arg7 harg7 arg8 harg8 arg9 harg9 arg10 harg10 hc0 hc1 x0 x1 x2 x3 x4 xo xs (ix2 s l)
      = LossSpec.dx x0 x1 x2 x3 x4 s l := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xo xs)]
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_B6 (hc0 : ¬ cond0_0 i) (hc1 : ¬ cond0_1 i) (xo xs : Vec Ideal S1x1024 .f32) :
    out0_B_6 c i arg1 harg1 arg2 harg2 arg3 harg3 arg4 harg4 arg5 harg5 arg6 harg6 arg7 harg7 arg8 harg8 arg9 harg9 arg10 harg10 hc0 hc1 x0 x1 x2 x3 x4 xo xs (ix2 s l)
      = LossSpec.dx x0 x1 x2 x3 x4 s l := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 hc1 x0 x1 x2 x3 x4 xo xs)]
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_B8 (hc0 : ¬ cond0_0 i) (hc1 : ¬ cond0_1 i) (xo xs : Vec Ideal S1x1024 .f32) :
    out0_B_8 c i arg1 harg1 arg2 harg2 arg3 harg3 arg4 harg4 arg5 harg5 arg6 harg6 arg7 harg7 arg8 harg8 arg9 harg9 arg10 harg10 hc0 hc1 x0 x1 x2 x3 x4 xo xs (ix2 0 l)
      = xo (ix2 0 l) + ∑ s : Fin 256, LossSpec.gain x0 x1 x2 x3 x4 s l := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 hc1 x0 x1 x2 x3 x4 xo xs)]
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  exact pay1_apply x0 x1 x2 x3 x4 xo l

theorem out_Bs (hc0 : ¬ cond0_0 i) (hc1 : ¬ cond0_1 i) (xo xs : Vec Ideal S1x1024 .f32) :
    sout0_B_0 c i arg1 harg1 arg2 harg2 arg3 harg3 arg4 harg4 arg5 harg5 arg6 harg6 arg7 harg7 arg8 harg8 arg9 harg9 arg10 harg10 hc0 hc1 x0 x1 x2 x3 x4 xo xs (ix2 0 l)
      = xs (ix2 0 l) + ∑ s : Fin 256, LossSpec.sq x0 x1 x2 x3 x4 s l := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xo xs)]
  unfold kernelRun0_B
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  exact pay12_apply x0 x1 x2 x3 x4 xs l

theorem out_C5 (hc0 : ¬ cond0_0 i) (hc1 : cond0_1 i) (xo xs : Vec Ideal S1x1024 .f32) :
    out0_C_5 c i arg1 harg1 arg2 harg2 arg3 harg3 arg4 harg4 arg5 harg5 arg6 harg6 arg7 harg7 arg8 harg8 arg9 harg9 arg10 harg10 hc0 hc1 x0 x1 x2 x3 x4 xo xs (ix2 s l)
      = LossSpec.dx x0 x1 x2 x3 x4 s l := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xo xs)]
  unfold kernelRun0_C
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_C6 (hc0 : ¬ cond0_0 i) (hc1 : cond0_1 i) (xo xs : Vec Ideal S1x1024 .f32) :
    out0_C_6 c i arg1 harg1 arg2 harg2 arg3 harg3 arg4 harg4 arg5 harg5 arg6 harg6 arg7 harg7 arg8 harg8 arg9 harg9 arg10 harg10 hc0 hc1 x0 x1 x2 x3 x4 xo xs (ix2 s l)
      = LossSpec.dx x0 x1 x2 x3 x4 s l := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xo xs)]
  unfold kernelRun0_C
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S256x1024) hz2]
  exact pay2_apply x0 x1 x2 x3 x4 s l

theorem out_C8 (hc0 : ¬ cond0_0 i) (hc1 : cond0_1 i) (xo xs : Vec Ideal S1x1024 .f32) :
    out0_C_8 c i arg1 harg1 arg2 harg2 arg3 harg3 arg4 harg4 arg5 harg5 arg6 harg6 arg7 harg7 arg8 harg8 arg9 harg9 arg10 harg10 hc0 hc1 x0 x1 x2 x3 x4 xo xs (ix2 0 l)
      = xo (ix2 0 l) + ∑ s : Fin 256, LossSpec.gain x0 x1 x2 x3 x4 s l := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 hc0 hc1 x0 x1 x2 x3 x4 xo xs)]
  unfold kernelRun0_C
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  exact pay1_apply x0 x1 x2 x3 x4 xo l

theorem out_Cs (hc0 : ¬ cond0_0 i) (hc1 : cond0_1 i) (xo xs : Vec Ideal S1x1024 .f32) :
    sout0_C_0 c i arg1 harg1 arg2 harg2 arg3 harg3 arg4 harg4 arg5 harg5 arg6 harg6 arg7 harg7 arg8 harg8 arg9 harg9 arg10 harg10 hc0 hc1 x0 x1 x2 x3 x4 xo xs (ix2 0 l)
      = xs (ix2 0 l) + ∑ s : Fin 256, LossSpec.sq x0 x1 x2 x3 x4 s l := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xo xs)]
  unfold kernelRun0_C
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1024) hz2]
  exact pay12_apply x0 x1 x2 x3 x4 xs l

theorem out_C7 (hc0 : ¬ cond0_0 i) (hc1 : cond0_1 i) (xo xs : Vec Ideal S1x1024 .f32) :
    out0_C_7 c i arg1 harg1 arg2 harg2 arg3 harg3 arg4 harg4 arg5 harg5 arg6 harg6 arg7 harg7 arg8 harg8 arg9 harg9 arg10 harg10 hc0 hc1 x0 x1 x2 x3 x4 xo xs (ix2 0 0)
      = (∑ l : Fin 1024, (xs (ix2 0 l) + ∑ s : Fin 256, LossSpec.sq x0 x1 x2 x3 x4 s l)) * Ideal.ofBits .f32 973078528#32 := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xo xs)]
  unfold kernelRun0_C
  dsimp only
  sl_unfold_words
  simp only [View.readAt_eq_ld, harg1.read_unread, harg2.read_unread, harg3.read_unread, harg4.read_unread, harg5.read_unread, harg9.read_unread, harg10.read_unread, View.ld_unit_zero (S := S256x1024) hz2,
    View.ld_unit_zero (S := S1x1024) hz2, View.ld_unit_zero (S := S256x2816) hz2, View.ld_unit_zero (S := S2816x1024) hz2]
  rw [View.canon_cons_unit_zero (S := S1x1) hz2]
  refine (pay4_apply _).trans ?_
  refine congrArg (· * _) (Finset.sum_congr rfl fun l _ => ?_)
  rw [Shift.readCov_row _ 0 (by decide), View.canon_cons_unit_zero (S := S1x1024) hz2]
  exact pay12_apply x0 x1 x2 x3 x4 xs l

end Cert.LossIdeal.Point

end
-- ==== Proof.LossArray.lean ====
/-
  The loss over the whole arrays: which entries of the arguments each grid point reads, and what the four results hold after
  the run.
-/
module

public import proofs.«01_k».proof.Proof.LossBlock
public import proofs.«01_k».proof.Proof.Accum

@[expose] public section

noncomputable section

namespace Cert.LossIdeal.Point

open Cert.LossIdeal Cert.LossIdeal.Gen Idealize.ShloMosaic Idealize.ShloMosaic.TcCoe Idealize.SL.Sem
open Cert.LossIdeal.Value (disjoint5 disjoint6 flushed5 flushed6 flushed7 flushed8)
open Idealize.ShloMosaic.Pipeline (Dat)

variable (m : (ℓ : Loc nD τ sig) → Buf (Elt Ideal) ℓ) (c : Dev nD)

/-- The arguments as arrays of extended reals. -/
abbrev aA : (⟨2, ![4096, 2816]⟩ : Shape).Idx → EReal := m ((c : Thread nD τ).loc main_arg0)
abbrev aW : (⟨2, ![2816, 1024]⟩ : Shape).Idx → EReal := m ((c : Thread nD τ).loc main_arg1)
abbrev aX : (⟨2, ![4096, 1024]⟩ : Shape).Idx → EReal := m ((c : Thread nD τ).loc main_arg2)
abbrev aT : (⟨3, ![2, 2048, 1024]⟩ : Shape).Idx → EReal := m ((c : Thread nD τ).loc main_arg3)
abbrev aG : (⟨1, ![1024]⟩ : Shape).Idx → EReal := m ((c : Thread nD τ).loc main_arg4)

/-- The targets as rows, and the gain as a row. -/
abbrev rT := LossSpec.rows (aT m c)
abbrev rG := LossSpec.gainRow (aG m c)

/-- The token of a row of a grid point's blocks. -/
def row (t : Fin cfg0.N) (s : Fin 256) : Fin 4096 :=
  ⟨t.val * 256 + s.val, by have h : t.val < 16 := t.isLt.trans_eq N_0; omega⟩

/-! ### The arrays the host prepares -/

theorem entry0 (r : Fin 4096) (l : Fin 1024) :
    (V m c main_v0 : (⟨2, ![4096, 1024]⟩ : Shape).Idx → EReal) (ix2 r l) = rT m c (ix2 r l) := by
  entry_read
  exact LossSpec.rows_reshape _ _ r l

theorem entry1 (l : Fin 1024) :
    (V m c main_v1 : (⟨2, ![1, 1024]⟩ : Shape).Idx → EReal) (ix2 0 l) = rG m c (ix2 0 l) := by
  entry_read
  pointwise
  rfl

/-! ### The blocks a grid point reads -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem iblk0 (t : Fin cfg0.N) (s : Fin 256) (j : Fin 2816) :
    (iblk m c 0 t : Vec Ideal S256x2816 .bf16) (ix2 s j) = aA m c (ix2 (row t s) j) := by
  unfold iblk
  rw [View.read_apply]
  show V m c main_arg0 _ = m _ _
  rw [V_main_arg0]
  congr 1
  funext a
  apply Fin.ext
  match a with
  | ⟨0, _⟩ => show win0_0.index t 0 * 256 + 1 * s.val = t.val * 256 + s.val; rw [(index0 t).1]; omega
  | ⟨1, _⟩ => show win0_0.index t 1 * 2816 + 1 * j.val = j.val; rw [(index0 t).2]; omega

theorem iblk1 (t : Fin cfg0.N) (s : Fin 2816) (j : Fin 1024) :
    (iblk m c 1 t : Vec Ideal S2816x1024 .bf16) (ix2 s j) = aW m c (ix2 s j) := by
  unfold iblk
  rw [View.read_apply]
  show V m c main_arg1 _ = m _ _
  rw [V_main_arg1]
  congr 1
  funext a
  apply Fin.ext
  match a with
  | ⟨0, _⟩ => show win0_1.index t 0 * 2816 + 1 * s.val = s.val; rw [(index1 t).1]; omega
  | ⟨1, _⟩ => show win0_1.index t 1 * 1024 + 1 * j.val = j.val; rw [(index1 t).2]; omega

theorem iblk2 (t : Fin cfg0.N) (s : Fin 256) (j : Fin 1024) :
    (iblk m c 2 t : Vec Ideal S256x1024 .f32) (ix2 s j) = aX m c (ix2 (row t s) j) := by
  unfold iblk
  rw [View.read_apply]
  show V m c main_arg2 _ = m _ _
  rw [V_main_arg2]
  congr 1
  funext a
  apply Fin.ext
  match a with
  | ⟨0, _⟩ => show win0_2.index t 0 * 256 + 1 * s.val = t.val * 256 + s.val; rw [(index2 t).1]; omega
  | ⟨1, _⟩ => show win0_2.index t 1 * 1024 + 1 * j.val = j.val; rw [(index2 t).2]; omega

theorem iblk3 (t : Fin cfg0.N) (s : Fin 256) (j : Fin 1024) :
    (iblk m c 3 t : Vec Ideal S256x1024 .f32) (ix2 s j) = rT m c (ix2 (row t s) j) := by
  rw [← entry0]
  unfold iblk
  rw [View.read_apply]
  show V m c main_v0 _ = V m c main_v0 _
  congr 1
  funext a
  apply Fin.ext
  match a with
  | ⟨0, _⟩ => show win0_3.index t 0 * 256 + 1 * s.val = t.val * 256 + s.val; rw [(index3 t).1]; omega
  | ⟨1, _⟩ => show win0_3.index t 1 * 1024 + 1 * j.val = j.val; rw [(index3 t).2]; omega

theorem iblk4 (t : Fin cfg0.N) (j : Fin 1024) :
    (iblk m c 4 t : Vec Ideal S1x1024 .f32) (ix2 0 j) = rG m c (ix2 0 j) := by
  rw [← entry1]
  unfold iblk
  rw [View.read_apply]
  show V m c main_v1 _ = V m c main_v1 _
  congr 1
  funext a
  apply Fin.ext
  match a with
  | ⟨0, _⟩ => show win0_4.index t 0 * 1 + 1 * 0 = 0; rw [(index4 t).1]
  | ⟨1, _⟩ => show win0_4.index t 1 * 1024 + 1 * j.val = j.val; rw [(index4 t).2]; omega

/-! ### A point's rows are those of the whole arrays -/

theorem x2_iblk (t : Fin cfg0.N) (s : Fin 256) (l : Fin 1024) :
    LossSpec.x2 (n := 256) (iblk m c 0 t) (iblk m c 1 t) (iblk m c 2 t) (ix2 s l)
      = LossSpec.x2 (aA m c) (aW m c) (aX m c) (ix2 (row t s) l) := by
  exact congrArg₂ (fun a b : EReal => a + b) (iblk2 m c t s l)
    (Finset.sum_congr rfl fun j _ => congrArg₂ (fun a b : EReal => a * b) (iblk0 m c t s j) (iblk1 m c t j l))

theorem row_iblk (t : Fin cfg0.N) (s : Fin 256) :
    Rms.row (LossSpec.x2 (n := 256) (iblk m c 0 t) (iblk m c 1 t) (iblk m c 2 t)) s
      = Rms.row (LossSpec.x2 (aA m c) (aW m c) (aX m c)) (row t s) := funext fun l => x2_iblk m c t s l

theorem xhat_iblk (t : Fin cfg0.N) (s : Fin 256) (l : Fin 1024) :
    Rms.xhat (LossSpec.x2 (n := 256) (iblk m c 0 t) (iblk m c 1 t) (iblk m c 2 t)) s l
      = Rms.xhat (LossSpec.x2 (aA m c) (aW m c) (aX m c)) (row t s) l := by
  unfold Rms.xhat
  rw [row_iblk, x2_iblk]

theorem err_iblk (t : Fin cfg0.N) (s : Fin 256) (l : Fin 1024) :
    LossSpec.err (n := 256) (iblk m c 0 t) (iblk m c 1 t) (iblk m c 2 t) (iblk m c 3 t) (iblk m c 4 t) s l
      = LossSpec.err (aA m c) (aW m c) (aX m c) (rT m c) (rG m c) (row t s) l := by
  unfold LossSpec.err
  rw [xhat_iblk, iblk3, iblk4]

theorem gain_iblk (t : Fin cfg0.N) (s : Fin 256) (l : Fin 1024) :
    LossSpec.gain (n := 256) (iblk m c 0 t) (iblk m c 1 t) (iblk m c 2 t) (iblk m c 3 t) (iblk m c 4 t) s l
      = LossSpec.gain (aA m c) (aW m c) (aX m c) (rT m c) (rG m c) (row t s) l := by
  unfold LossSpec.gain LossSpec.dy
  rw [err_iblk, xhat_iblk]

theorem sq_iblk (t : Fin cfg0.N) (s : Fin 256) (l : Fin 1024) :
    LossSpec.sq (n := 256) (iblk m c 0 t) (iblk m c 1 t) (iblk m c 2 t) (iblk m c 3 t) (iblk m c 4 t) s l
      = LossSpec.sq (aA m c) (aW m c) (aX m c) (rT m c) (rG m c) (row t s) l := by
  unfold LossSpec.sq
  rw [err_iblk]

theorem dx_iblk (t : Fin cfg0.N) (s : Fin 256) (l : Fin 1024) :
    LossSpec.dx (n := 256) (iblk m c 0 t) (iblk m c 1 t) (iblk m c 2 t) (iblk m c 3 t) (iblk m c 4 t) s l
      = LossSpec.dx (aA m c) (aW m c) (aX m c) (rT m c) (rG m c) (row t s) l := by
  unfold LossSpec.dx LossSpec.dy
  rw [row_iblk]
  simp only [err_iblk, iblk4]

/-! ### What the points leave -/

theorem outs5 (t : Fin cfg0.N) (s : Fin 256) (l : Fin 1024) :
    (outsAt0 m c t.val t.isLt).1 (ix2 s l) = LossSpec.dx (aA m c) (aW m c) (aX m c) (rT m c) (rG m c) (row t s) l := by
  refine Eq.trans ?_ (dx_iblk m c t s l)
  by_cases h0 : t.val % 16 = 0
  · refine (congrFun (congrArg (fun p => p.1) (outsAt0_A m c t h0 (by omega))) _).trans ?_
    dsimp only
    rw [out_A5]
  · by_cases h1 : t.val % 16 = 15
    · refine (congrFun (congrArg (fun p => p.1) (outsAt0_C m c t h0 h1)) _).trans ?_
      dsimp only
      rw [out_C5]
    · refine (congrFun (congrArg (fun p => p.1) (outsAt0_B m c t h0 h1)) _).trans ?_
      dsimp only
      rw [out_B5]

theorem outs6 (t : Fin cfg0.N) (s : Fin 256) (l : Fin 1024) :
    (outsAt0 m c t.val t.isLt).2.1 (ix2 s l) = LossSpec.dx (aA m c) (aW m c) (aX m c) (rT m c) (rG m c) (row t s) l := by
  refine Eq.trans ?_ (dx_iblk m c t s l)
  by_cases h0 : t.val % 16 = 0
  · refine (congrFun (congrArg (fun p => p.2.1) (outsAt0_A m c t h0 (by omega))) _).trans ?_
    dsimp only
    rw [out_A6]
  · by_cases h1 : t.val % 16 = 15
    · refine (congrFun (congrArg (fun p => p.2.1) (outsAt0_C m c t h0 h1)) _).trans ?_
      dsimp only
      rw [out_C6]
    · refine (congrFun (congrArg (fun p => p.2.1) (outsAt0_B m c t h0 h1)) _).trans ?_
      dsimp only
      rw [out_B6]

/-- After a point the gain's gradient holds the sum over the rows so far. -/
theorem outs8 (l : Fin 1024) : ∀ (n : ℕ) (h : n < cfg0.N), (outsAt0 m c n h).2.2.2.1 (ix2 0 l)
      = Accum.upto (fun r => LossSpec.gain (aA m c) (aW m c) (aX m c) (rT m c) (rG m c) r l) ((n + 1) * 256) := by
  intro n
  induction n with
  | zero =>
    intro h
    refine (congrFun (congrArg (fun p => p.2.2.2.1) (outsAt0_A m c ⟨0, h⟩ rfl (by show ¬ 0 % 16 = 15; decide))) _).trans ?_
    dsimp only
    rw [out_A8]
    simp only [gain_iblk]
    refine Eq.trans ?_ (Accum.upto_add (N := 4096) _ 0 256 (by decide)).symm
    rw [Accum.upto_zero, zero_add]
    rfl
  | succ n ih =>
    intro h
    have hn : n + 1 < 16 := h.trans_eq N_0
    have h0 : ¬ (⟨n + 1, h⟩ : Fin cfg0.N).val % 16 = 0 := by show ¬ (n + 1) % 16 = 0; omega
    refine Eq.trans ?_ ((Accum.upto_add (N := 4096) _ ((n + 1) * 256) 256 (by omega)).symm.trans (congrArg _ (by omega)))
    by_cases h1 : (⟨n + 1, h⟩ : Fin cfg0.N).val % 16 = 15
    · refine (congrFun (congrArg (fun p => p.2.2.2.1) (outsAt0_C m c ⟨n + 1, h⟩ h0 h1)) _).trans ?_
      dsimp only
      rw [out_C8]
      simp only [gain_iblk]
      exact congrArg₂ (· + ·) (ih (Nat.lt_of_succ_lt h)) rfl
    · refine (congrFun (congrArg (fun p => p.2.2.2.1) (outsAt0_B m c ⟨n + 1, h⟩ h0 h1)) _).trans ?_
      dsimp only
      rw [out_B8]
      simp only [gain_iblk]
      exact congrArg₂ (· + ·) (ih (Nat.lt_of_succ_lt h)) rfl

/-- After a point the scratch holds the sum over the rows so far. -/
theorem outss (l : Fin 1024) : ∀ (n : ℕ) (h : n < cfg0.N), (outsAt0 m c n h).2.2.2.2 (ix2 0 l)
      = Accum.upto (fun r => LossSpec.sq (aA m c) (aW m c) (aX m c) (rT m c) (rG m c) r l) ((n + 1) * 256) := by
  intro n
  induction n with
  | zero =>
    intro h
    refine (congrFun (congrArg (fun p => p.2.2.2.2) (outsAt0_A m c ⟨0, h⟩ rfl (by show ¬ 0 % 16 = 15; decide))) _).trans ?_
    dsimp only
    rw [out_As]
    simp only [sq_iblk]
    refine Eq.trans ?_ (Accum.upto_add (N := 4096) _ 0 256 (by decide)).symm
    rw [Accum.upto_zero, zero_add]
    rfl
  | succ n ih =>
    intro h
    have hn : n + 1 < 16 := h.trans_eq N_0
    have h0 : ¬ (⟨n + 1, h⟩ : Fin cfg0.N).val % 16 = 0 := by show ¬ (n + 1) % 16 = 0; omega
    refine Eq.trans ?_ ((Accum.upto_add (N := 4096) _ ((n + 1) * 256) 256 (by omega)).symm.trans (congrArg _ (by omega)))
    by_cases h1 : (⟨n + 1, h⟩ : Fin cfg0.N).val % 16 = 15
    · refine (congrFun (congrArg (fun p => p.2.2.2.2) (outsAt0_C m c ⟨n + 1, h⟩ h0 h1)) _).trans ?_
      dsimp only
      rw [out_Cs]
      simp only [sq_iblk]
      exact congrArg₂ (· + ·) (ih (Nat.lt_of_succ_lt h)) rfl
    · refine (congrFun (congrArg (fun p => p.2.2.2.2) (outsAt0_B m c ⟨n + 1, h⟩ h0 h1)) _).trans ?_
      dsimp only
      rw [out_Bs]
      simp only [sq_iblk]
      exact congrArg₂ (· + ·) (ih (Nat.lt_of_succ_lt h)) rfl

/-- The last point's loss. -/
theorem outs7 (n : ℕ) (h : n + 1 < cfg0.N) (h1 : (n + 1) % 16 = 15) : (outsAt0 m c (n + 1) h).2.2.1 (ix2 0 0)
      = (∑ l : Fin 1024, ∑ r : Fin 4096, LossSpec.sq (aA m c) (aW m c) (aX m c) (rT m c) (rG m c) r l) * Ideal.ofBits .f32 973078528#32 := by
  have hn : n + 1 < 16 := h.trans_eq N_0
  refine (congrFun (congrArg (fun p => p.2.2.1) (outsAt0_C m c ⟨n + 1, h⟩ (by show ¬ (n + 1) % 16 = 0; omega) h1)) _).trans ?_
  dsimp only
  rw [out_C7]
  refine congrArg (· * _) (Finset.sum_congr rfl fun l _ => ?_)
  simp only [sq_iblk]
  refine (congrArg₂ (· + ·) (outss m c l n (Nat.lt_of_succ_lt h)) rfl).trans ?_
  refine (Accum.upto_add (N := 4096) _ ((n + 1) * 256) 256 (by omega)).symm.trans ?_
  rw [show (n + 1) * 256 + 256 = 4096 by omega, Accum.upto_all]

/-! ### The results after the run -/

/-- The grid point of a token, and the token's row there. -/
def pt (r : Fin 4096) : Fin cfg0.N := ⟨r.val / 256, by rw [show cfg0.N = 16 from N_0]; omega⟩
def rw256 (r : Fin 4096) : Fin 256 := ⟨r.val % 256, Nat.mod_lt _ (by decide)⟩
def lastPt : Fin cfg0.N := ⟨15, by rw [show cfg0.N = 16 from N_0]; decide⟩

theorem row_pt (r : Fin 4096) : row (pt r) (rw256 r) = r := Fin.ext (by show r.val / 256 * 256 + r.val % 256 = r.val; omega)

theorem last5 (r : Fin 4096) (l : Fin 1024) :
    ((dats m 0 c).arrAt 5 cfg0.N : (⟨2, ![4096, 1024]⟩ : Shape).Idx → EReal) (ix2 r l)
      = LossSpec.dx (aA m c) (aW m c) (aX m c) (rT m c) (rG m c) r l := by
  have e := (dats m 0 c).arrAt_emb_eq_flushed 5 disjoint5 (pt r) (flush0_5 (pt r)) (ix2 (rw256 r) l)
  have ei : ((cfg0.win 5).blk (pt r)).view.emb (ix2 (rw256 r) l) = ix2 r l := by
    funext a
    apply Fin.ext
    match a with
    | ⟨0, _⟩ => show win0_5.index (pt r) 0 * 256 + 1 * (r.val % 256) = r.val; rw [(index5 _).1]; show r.val / 256 * 256 + _ = _; omega
    | ⟨1, _⟩ => show win0_5.index (pt r) 1 * 1024 + 1 * l.val = l.val; rw [(index5 _).2]; omega
  rw [ei] at e
  refine e.trans ?_
  rw [cast_eq, flushed5]
  refine (outs5 m c (pt r) (rw256 r) l).trans ?_
  rw [row_pt]

theorem last6 (r : Fin 4096) (l : Fin 1024) :
    ((dats m 0 c).arrAt 6 cfg0.N : (⟨2, ![4096, 1024]⟩ : Shape).Idx → EReal) (ix2 r l)
      = LossSpec.dx (aA m c) (aW m c) (aX m c) (rT m c) (rG m c) r l := by
  have e := (dats m 0 c).arrAt_emb_eq_flushed 6 disjoint6 (pt r) (flush0_6 (pt r)) (ix2 (rw256 r) l)
  have ei : ((cfg0.win 6).blk (pt r)).view.emb (ix2 (rw256 r) l) = ix2 r l := by
    funext a
    apply Fin.ext
    match a with
    | ⟨0, _⟩ => show win0_6.index (pt r) 0 * 256 + 1 * (r.val % 256) = r.val; rw [(index6 _).1]; show r.val / 256 * 256 + _ = _; omega
    | ⟨1, _⟩ => show win0_6.index (pt r) 1 * 1024 + 1 * l.val = l.val; rw [(index6 _).2]; omega
  rw [ei] at e
  refine e.trans ?_
  rw [cast_eq, flushed6]
  refine (outs6 m c (pt r) (rw256 r) l).trans ?_
  rw [row_pt]

theorem last7 :
    ((dats m 0 c).arrAt 7 cfg0.N : (⟨2, ![1, 1]⟩ : Shape).Idx → EReal) (ix2 0 0)
      = (∑ l : Fin 1024, ∑ r : Fin 4096, LossSpec.sq (aA m c) (aW m c) (aX m c) (rT m c) (rG m c) r l) * Ideal.ofBits .f32 973078528#32 := by
  have hd : ∀ t t' : Fin cfg0.N, (cfg0.win 7).flush t = true → (cfg0.win 7).flush t' = true → t ≠ t' →
      Disjoint ((cfg0.win 7).blk t).view.set ((cfg0.win 7).blk t').view.set := fun t t' h h' hne =>
    absurd (Fin.ext (by
      have e := (flush0_7 t).mp h
      have e' := (flush0_7 t').mp h'
      have l := t.isLt.trans_eq N_0
      have l' := t'.isLt.trans_eq N_0
      omega)) hne
  have e := (dats m 0 c).arrAt_emb_eq_flushed 7 hd lastPt ((flush0_7 lastPt).mpr rfl) (ix2 0 0)
  have ei : ((cfg0.win 7).blk lastPt).view.emb (ix2 0 0) = (ix2 0 0) := by
    funext a
    apply Fin.ext
    match a with
    | ⟨0, _⟩ => show win0_7.index lastPt 0 * 1 + 1 * 0 = 0; rw [(index7 _).1]
    | ⟨1, _⟩ => show win0_7.index lastPt 1 * 1 + 1 * 0 = 0; rw [(index7 _).2]
  rw [ei] at e
  refine e.trans ?_
  rw [cast_eq, flushed7]
  exact outs7 m c 14 lastPt.isLt rfl

theorem last8 (l : Fin 1024) :
    ((dats m 0 c).arrAt 8 cfg0.N : (⟨2, ![1, 1024]⟩ : Shape).Idx → EReal) (ix2 0 l)
      = ∑ r : Fin 4096, LossSpec.gain (aA m c) (aW m c) (aX m c) (rT m c) (rG m c) r l := by
  have hd : ∀ t t' : Fin cfg0.N, (cfg0.win 8).flush t = true → (cfg0.win 8).flush t' = true → t ≠ t' →
      Disjoint ((cfg0.win 8).blk t).view.set ((cfg0.win 8).blk t').view.set := fun t t' h h' hne =>
    absurd (Fin.ext (by
      have e := (flush0_8 t).mp h
      have e' := (flush0_8 t').mp h'
      have l := t.isLt.trans_eq N_0
      have l' := t'.isLt.trans_eq N_0
      omega)) hne
  have e := (dats m 0 c).arrAt_emb_eq_flushed 8 hd lastPt ((flush0_8 lastPt).mpr rfl) (ix2 0 l)
  have ei : ((cfg0.win 8).blk lastPt).view.emb (ix2 0 l) = (ix2 0 l) := by
    funext a
    apply Fin.ext
    match a with
    | ⟨0, _⟩ => show win0_8.index lastPt 0 * 1 + 1 * 0 = 0; rw [(index8 _).1]
    | ⟨1, _⟩ => show win0_8.index lastPt 1 * 1024 + 1 * l.val = l.val; rw [(index8 _).2]; omega
  rw [ei] at e
  refine e.trans ?_
  rw [cast_eq, flushed8]
  exact (outs8 m c l 15 lastPt.isLt).trans (Accum.upto_all _)

end Cert.LossIdeal.Point

end
-- ==== Proof.LossRef.lean ====
/-
  What the reference of the loss computes, read at an index from its arguments.
-/
module

public import proofs.«01_k».proof.Proof.LossReal
public import proofs.«01_k».proof.Proof.HostSum
public import proofs.«01_k».proof.Proof.Planes
public import proofs.«01_k».proof.Proof.Gen.LossRefIdeal.Read
public import Idealize.ShloMosaic.Lib.Pointwise

@[expose] public section

noncomputable section

namespace Cert.LossRefIdeal.Value

open Cert.Planes Cert.LossRefIdeal Cert.LossRefIdeal.Gen Cert.LossRefIdeal.Read Idealize.ShloMosaic Idealize.ShloMosaic.TcCoe
open Idealize.SL.Sem Cert.LossSpec

variable (A : (⟨2, ![4096, 2816]⟩ : Shape).Idx → EReal) (W : (⟨2, ![2816, 1024]⟩ : Shape).Idx → EReal)
  (X : (⟨2, ![4096, 1024]⟩ : Shape).Idx → EReal) (T : (⟨3, ![2, 2048, 1024]⟩ : Shape).Idx → EReal)
  (G : (⟨1, ![1024]⟩ : Shape).Idx → EReal)

/-! ### The norm's rows -/

theorem v0 (b : Fin 2) (s : Fin 2048) (l : Fin 1024) : val_main_v0 (F := Ideal) X (ix3 b s l) = X (ix2 (tok b s) l) := by
  rw [val_main_v0_apply]
  refine congrArg X (funext fun a => Fin.ext ?_)
  match a with
  | ⟨0, _⟩ => show ((b.val * 2048 + s.val) * 1024 + l.val) / 1024 = b.val * 2048 + s.val; omega
  | ⟨1, _⟩ => show ((b.val * 2048 + s.val) * 1024 + l.val) % 1024 = l.val; omega

theorem v2 (b : Fin 2) (s : Fin 2048) (j : Fin 2816) : val_main_v2 (F := Ideal) A (ix3 b s j) = A (ix2 (tok b s) j) := by
  rw [val_main_v2_apply, val_main_v1_apply]
  refine congrArg A (funext fun a => Fin.ext ?_)
  match a with
  | ⟨0, _⟩ => show ((b.val * 2048 + s.val) * 2816 + j.val) / 2816 = b.val * 2048 + s.val; omega
  | ⟨1, _⟩ => show ((b.val * 2048 + s.val) * 2816 + j.val) % 2816 = j.val; omega

theorem v4 (b : Fin 2) (s : Fin 2048) (l : Fin 1024) :
    val_main_v4 (F := Ideal) A W (ix3 b s l) = ∑ j : Fin 2816, A (ix2 (tok b s) j) * W (ix2 j l) := by
  rw [val_main_v4_apply]
  exact Finset.sum_congr rfl fun j _ => congrArg₂ (· * ·) (at3 (v2 A b s j)) (at2 (f := W) rfl)

theorem v5 (b : Fin 2) (s : Fin 2048) (l : Fin 1024) : val_main_v5 (F := Ideal) A W X (ix3 b s l) = x2 A W X (ix2 (tok b s) l) := by
  unfold val_main_v5
  pointwise [v0, v4]
  rfl

/-! ### The norm -/

theorem v12 (b : Fin 2) (s : Fin 2048) : val_main_v12 (F := Ideal) A W X (ix3 b s 0) = Rms.ms (Rms.row (x2 A W X) (tok b s)) := by
  unfold val_main_v12 val_main_v11 val_main_v10 val_main_v9 val_main_v8 val_main_v7 val_main_v6 val_main_cst val_main_cst_0 val_main_cst_1
  pointwise [v5]
  rfl

theorem v13 (b : Fin 2) (s : Fin 2048) : val_main_v13 (F := Ideal) A W X (ix3 b s 0) = Rms.inv (Rms.row (x2 A W X) (tok b s)) := by
  unfold val_main_v13
  pointwise [v12]
  rfl

theorem v18 (b : Fin 2) (s : Fin 2048) (l : Fin 1024) : val_main_v18 (F := Ideal) A W X (ix3 b s l) = Rms.xhat (x2 A W X) (tok b s) l := by
  unfold val_main_v18 val_main_v17
  pointwise [v5, v13]
  rfl

/-! ### The error and its cotangent -/

theorem v22 (b : Fin 2) (s : Fin 2048) (l : Fin 1024) :
    val_main_v22 (F := Ideal) A W X T G (ix3 b s l) = err A W X (rows T) (gainRow G) (tok b s) l := by
  unfold val_main_v22 val_main_v21 val_main_v20 val_main_v19
  pointwise [v18]
  rw [err, rows_tok]
  rfl

theorem v36 (b : Fin 2) (s : Fin 2048) (l : Fin 1024) :
    val_main_v36 (F := Ideal) A W X T G (ix3 b s l) = dy A W X (rows T) (gainRow G) (tok b s) l := by
  unfold val_main_v36 val_main_v35 val_main_v34 val_main_v33 val_main_v32 val_main_v31 val_main_v25 val_main_v24 val_main_cst_3
    val_main_cst_8 val_main_cst_9 val_main_cst_10
  pointwise [v22]
  exact cotangent _

/-! ### The results -/

theorem v59 (hA : Preds.Fin1 A) (hW : Preds.Fin1 W) (hX : Preds.Fin1 X) (hT : Preds.Fin1 T) (hG : Preds.Fin1 G) :
    val_main_v59 (F := Ideal) A W X T G (ix2 0 0)
      = (∑ l : Fin 1024, ∑ r : Fin 4096, sq A W X (rows T) (gainRow G) r l) * Ideal.ofBits .f32 973078528#32 := by
  have h28 : ∀ (b : Fin 2) (s : Fin 2048), val_main_v28 (F := Ideal) A W X T G (ix2 b s)
      = Ideal.div (∑ l : Fin 1024, sq A W X (rows T) (gainRow G) (tok b s) l) (Ideal.ofBits .f32 1149239296#32) := fun b s => by
    unfold val_main_v28 val_main_v27 val_main_v26 val_main_v23 val_main_cst_4 val_main_cst_5
    pointwise [v22]
    rfl
  have h59 : val_main_v59 (F := Ideal) A W X T G (ix2 0 0) = val_main_v30 (F := Ideal) A W X T G fun a => a.elim0 := by
    unfold val_main_v59
    exact congrArg (val_main_v30 (F := Ideal) A W X T G) (funext fun a => a.elim0)
  have h29 : ∑ i : S2x2048.Idx, val_main_v28 (F := Ideal) A W X T G i
      = ∑ r : Fin 4096, Ideal.div (∑ l : Fin 1024, sq A W X (rows T) (gainRow G) r l) (Ideal.ofBits .f32 1149239296#32) :=
    (ValueIdx.sum_idx2 (n0 := 2) (n1 := 2048) _).trans
      ((Finset.sum_congr rfl fun b _ => Finset.sum_congr rfl fun s _ => h28 b s).trans (sum_tok fun r =>
        Ideal.div (∑ l : Fin 1024, sq A W X (rows T) (gainRow G) r l) (Ideal.ofBits .f32 1149239296#32)))
  rw [h59, val_main_v30_apply, val_main_v29_apply, h29]
  unfold val_main_cst_6 val_main_cst_7
  pointwise
  exact mean _ fun r l => (err_real A W X (rows T) (gainRow G) hA hW hX (fun i => hT _) (fun i => hG _) r l).mul
    (err_real A W X (rows T) (gainRow G) hA hW hX (fun i => hT _) (fun i => hG _) r l)

theorem v60 (l : Fin 1024) :
    val_main_v60 (F := Ideal) A W X T G (ix2 0 l) = ∑ r : Fin 4096, gain A W X (rows T) (gainRow G) r l := by
  have h38 : val_main_v38 (F := Ideal) A W X T G (ix1 l) = ∑ r : Fin 4096, gain A W X (rows T) (gainRow G) r l := by
    unfold val_main_v38 val_main_v37 val_main_cst_11
    pointwise [v18, v36, HostSum.hostReduceAdd_two]
    refine (sum_tok fun r => Rms.xhat (x2 A W X) r l * dy A W X (rows T) (gainRow G) r l).trans ?_
    exact Finset.sum_congr rfl fun r _ => mul_comm _ _
  rw [← h38]
  unfold val_main_v60 val_main_v42 val_main_v39 val_main_cst_12
  pointwise [HostSum.hostReduceAdd_two]
  rw [Fin.sum_univ_one, Fin.sum_univ_one]

theorem v41 (b : Fin 2) (s : Fin 2048) (l : Fin 1024) :
    val_main_v41 (F := Ideal) A W X T G (ix3 b s l) = dy A W X (rows T) (gainRow G) (tok b s) l * gainRow G (ix2 0 l) := by
  unfold val_main_v41 val_main_v40 val_main_v19
  pointwise [v36]
  rfl

theorem v50 (b : Fin 2) (s : Fin 2048) : val_main_v50 (F := Ideal) A W X T G (ix3 b s 0)
      = Rms.half (Rms.row (x2 A W X) (tok b s)) (fun j => dy A W X (rows T) (gainRow G) (tok b s) j * gainRow G (ix2 0 j)) := by
  unfold val_main_v50 val_main_v49 val_main_v48 val_main_v45 val_main_v44 val_main_v43 val_main_v16 val_main_v15 val_main_v14
    val_main_cst_2 val_main_cst_13 val_main_cst_14
  pointwise [v5, v12, v13, v41]
  rfl

theorem v52 (b : Fin 2) (s : Fin 2048) (l : Fin 1024) : val_main_v52 (F := Ideal) A W X T G (ix3 b s l)
      = Rms.half (Rms.row (x2 A W X) (tok b s)) (fun j => dy A W X (rows T) (gainRow G) (tok b s) j * gainRow G (ix2 0 j)) := by
  unfold val_main_v52 val_main_v51 val_main_cst_15
  pointwise
  rw [Fin.sum_univ_one]
  exact v50 A W X T G b s

theorem v56 (hA : Preds.Fin1 A) (hW : Preds.Fin1 W) (hX : Preds.Fin1 X) (hT : Preds.Fin1 T) (hG : Preds.Fin1 G)
    (b : Fin 2) (s : Fin 2048) (l : Fin 1024) :
    val_main_v56 (F := Ideal) A W X T G (ix3 b s l) = dx A W X (rows T) (gainRow G) (tok b s) l := by
  unfold val_main_v56 val_main_v55 val_main_v54 val_main_v53 val_main_v47 val_main_v46
  pointwise [v5, v13, v41, v52]
  exact (Rms.grad_eq (Rms.row (x2 A W X) (tok b s)) (fun j => dy A W X (rows T) (gainRow G) (tok b s) j * gainRow G (ix2 0 j))
    (fun j => x2_real A W X hA hW hX _) (fun j => (dy_real A W X (rows T) (gainRow G) hA hW hX (fun i => hT _) (fun i => hG _) _ _).mul
      (hG _)) l).symm

theorem v57 (hA : Preds.Fin1 A) (hW : Preds.Fin1 W) (hX : Preds.Fin1 X) (hT : Preds.Fin1 T) (hG : Preds.Fin1 G)
    (r : Fin 4096) (l : Fin 1024) :
    val_main_v57 (F := Ideal) A W X T G (ix2 r l) = dx A W X (rows T) (gainRow G) r l := by
  rw [val_main_v57_apply]
  refine (congrArg _ ?_).trans ((v56 A W X T G hA hW hX hT hG ⟨r.val / 2048, by omega⟩ ⟨r.val % 2048, Nat.mod_lt _ (by decide)⟩ l).trans
    (congrArg (fun q => dx A W X (rows T) (gainRow G) q l) (Fin.ext (by show r.val / 2048 * 2048 + r.val % 2048 = r.val; omega))))
  funext a
  refine Fin.ext ?_
  match a with
  | ⟨0, _⟩ => show (r.val * 1024 + l.val) / 2097152 = r.val / 2048; omega
  | ⟨1, _⟩ => show (r.val * 1024 + l.val) / 1024 % 2048 = r.val % 2048; omega
  | ⟨2, _⟩ => show (r.val * 1024 + l.val) % 1024 = l.val; omega

theorem v58 (hA : Preds.Fin1 A) (hW : Preds.Fin1 W) (hX : Preds.Fin1 X) (hT : Preds.Fin1 T) (hG : Preds.Fin1 G)
    (r : Fin 4096) (l : Fin 1024) :
    val_main_v58 (F := Ideal) A W X T G (ix2 r l) = dx A W X (rows T) (gainRow G) r l := by
  rw [val_main_v58_apply]
  exact v57 A W X T G hA hW hX hT hG r l

end Cert.LossRefIdeal.Value

end
-- ==== Proof.Loss.lean ====
/-
  The equation for the loss and the final norm's gradient: at every entry of the four results the kernel's arrays and the
  reference's are the same functions of the arguments.
-/
module

public import proofs.«01_k».proof.Defs
public import proofs.«01_k».proof.Proof.Preds
public import proofs.«01_k».proof.Proof.LossArray
public import proofs.«01_k».proof.Proof.LossRef
public import proofs.«01_k».proof.Proof.Gen.LossRefIdeal.Run

@[expose] public section

noncomputable section

namespace Cert.LossClaim

open Idealize.ShloMosaic Idealize.ShloMosaic.TcCoe Idealize.SL.Sem
open Cert.LossIdeal Cert.LossIdeal.Gen Cert.LossIdeal.Point

/-- The reference runs, keeps its arguments, and has no semaphores. -/
theorem frame_reference : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run (F := Ideal) m ρ)

variable (m : (ℓ : Loc nD τ sig) → Buf (Elt Ideal) ℓ) (c : Dev nD)

section

variable (hA : Preds.Fin1 (aA m c)) (hW : Preds.Fin1 (aW m c)) (hX : Preds.Fin1 (aX m c)) (hT : Preds.Fin1 (aT m c))
  (hG : Preds.Fin1 (aG m c))
include hA hW hX hT hG

/-- The rows' gradient, in both precisions. -/
theorem result0 (i : (⟨2, ![4096, 1024]⟩ : Shape).Idx) :
    Cert.LossRefIdeal.Read.val_main_v57 (F := Ideal) (aA m c) (aW m c) (aX m c) (aT m c) (aG m c) i = (dats m 0 c).arrAt 5 cfg0.N i := by
  obtain ⟨r, l, rfl⟩ : ∃ (r : Fin 4096) (l : Fin 1024), i = ix2 r l := ⟨i 0, i 1, eq_ix2 i⟩
  exact (Cert.LossRefIdeal.Value.v57 _ _ _ _ _ hA hW hX hT hG r l).trans (last5 m c r l).symm

theorem result1 (i : (⟨2, ![4096, 1024]⟩ : Shape).Idx) :
    Cert.LossRefIdeal.Read.val_main_v58 (F := Ideal) (aA m c) (aW m c) (aX m c) (aT m c) (aG m c) i = (dats m 0 c).arrAt 6 cfg0.N i := by
  obtain ⟨r, l, rfl⟩ : ∃ (r : Fin 4096) (l : Fin 1024), i = ix2 r l := ⟨i 0, i 1, eq_ix2 i⟩
  exact (Cert.LossRefIdeal.Value.v58 _ _ _ _ _ hA hW hX hT hG r l).trans (last6 m c r l).symm

/-- The loss. -/
theorem result2 (i : (⟨2, ![1, 1]⟩ : Shape).Idx) :
    Cert.LossRefIdeal.Read.val_main_v59 (F := Ideal) (aA m c) (aW m c) (aX m c) (aT m c) (aG m c) i = (dats m 0 c).arrAt 7 cfg0.N i := by
  obtain ⟨r, l, rfl⟩ : ∃ (r : Fin 1) (l : Fin 1), i = ix2 r l := ⟨i 0, i 1, eq_ix2 i⟩
  rw [Subsingleton.elim r 0, Subsingleton.elim l 0]
  exact (Cert.LossRefIdeal.Value.v59 _ _ _ _ _ hA hW hX hT hG).trans (last7 m c).symm

end

/-- The gain's gradient. -/
theorem result3 (i : (⟨2, ![1, 1024]⟩ : Shape).Idx) :
    Cert.LossRefIdeal.Read.val_main_v60 (F := Ideal) (aA m c) (aW m c) (aX m c) (aT m c) (aG m c) i = (dats m 0 c).arrAt 8 cfg0.N i := by
  obtain ⟨r, l, rfl⟩ : ∃ (r : Fin 1) (l : Fin 1024), i = ix2 r l := ⟨i 0, i 1, eq_ix2 i⟩
  rw [Subsingleton.elim r 0]
  exact (Cert.LossRefIdeal.Value.v60 _ _ _ _ _ l).trans (last8 m c l).symm

attribute [local instance] Preds.facts_loss_finite

theorem algebraic : Cert.algebraic_LossIdeal_LossRefIdeal_pre_loss_finite := by
  intro m g m' g' hpre hin
  refine ⟨fun c => (dats m 0 c).arrAt 5 cfg0.N, fun c => (dats m 0 c).arrAt 6 cfg0.N, fun c => (dats m 0 c).arrAt 7 cfg0.N,
    fun c => (dats m 0 c).arrAt 8 cfg0.N, Cert.LossIdeal.Value.run_blocks m g,
    (θ_run _ _ _).mono (fun r h c => ?_) (Cert.LossRefIdeal.Value.run m' g')⟩
  obtain ⟨e0, e1, e2, e3, ha⟩ := h c
  obtain ⟨a0, a1, a2, a3, a4⟩ := hin c
  obtain ⟨hA, hW, hX, hT, hG⟩ := Preds.loss_finite (hpre c)
  rw [Cert.LossRefIdeal.Read.val_main_v57_eq, a0, a1, a2, a3, a4] at e0
  rw [Cert.LossRefIdeal.Read.val_main_v58_eq, a0, a1, a2, a3, a4] at e1
  rw [Cert.LossRefIdeal.Read.val_main_v59_eq, a0, a1, a2, a3, a4] at e2
  rw [Cert.LossRefIdeal.Read.val_main_v60_eq, a0, a1, a2, a3, a4] at e3
  exact ⟨e0.trans (funext (result0 m c hA hW hX hT hG)), e1.trans (funext (result1 m c hA hW hX hT hG)),
    e2.trans (funext (result2 m c hA hW hX hT hG)), e3.trans (funext (result3 m c)), ha⟩

end Cert.LossClaim

end
-- ==== Proof.MidSpec.lean ====
/-
  The gated feed-forward middle: per sequence and channel, the two planes of the expanded activations pass a three-tap causal
  convolution with a bias; the result is `g * sigmoid g * v` of the convolved gate `g` and value `v`. Its gradient: the
  cotangents of `g` and `v`, the transposed convolution of each, and the sums over tokens for the taps and the biases.
  Arguments: `A` the cotangent of the result, `U` the two planes, `W` the taps, `B` the biases of both planes side by side.
-/
module

public import proofs.«01_k».proof.Proof.ConvSpec
public import proofs.«01_k».proof.Proof.GateSpec

@[expose] public section

noncomputable section

namespace Cert.MidSpec

open Idealize.ShloMosaic
open Cert.Conv3 (tok)
open Cert.GateSpec (sig)

/-- Column of channel `l` of plane `p` in the taps and the biases. -/
def col (p : Fin 2) (l : Fin 2816) : Fin 5632 := ⟨p.val * 2816 + l.val, by omega⟩

/-- The gated activation. -/
def gated (g v : EReal) : EReal := g * sig g * v

/-- The cotangents of the gate (`p = 0`) and of the value (`p = 1`). -/
def cot (p : Fin 2) (a g v : EReal) : EReal :=
  match p with
  | 0 => a * v * sig g * (1 + g * (1 - sig g))
  | 1 => a * (g * sig g)

/-- One tap's share of the weight gradient over one sequence, with the cotangent moved instead of the sequence. -/
def tapUp {n : ℕ} (k : Fin 3) (e f : Fin n → EReal) : EReal :=
  ∑ s : Fin n, (match k with | 0 => Shift.up 2 e s | 1 => Shift.up 1 e s | 2 => e s) * f s

theorem sum_up {n : ℕ} (k : ℕ) (e f : Fin n → EReal) : ∑ s, Shift.up k e s * f s = ∑ s, e s * Shift.dn k f s := by
  have hl : ∀ s : Fin n, Shift.up k e s * f s = ∑ t : Fin n, if s.val + k = t.val then e t * f s else 0 := fun s => by
    unfold Shift.up
    split
    · next h =>
      rw [Finset.sum_eq_single_of_mem (⟨s.val + k, h⟩ : Fin n) (Finset.mem_univ _)]
      · rw [if_pos rfl]
      · intro t _ ht
        exact if_neg fun e => ht (Fin.ext e.symm)
    · next h =>
      rw [zero_mul]
      exact (Finset.sum_eq_zero fun t _ => if_neg fun ht => h (lt_of_eq_of_lt ht t.isLt)).symm
  have hr : ∀ t : Fin n, e t * Shift.dn k f t = ∑ s : Fin n, if s.val + k = t.val then e t * f s else 0 := fun t => by
    unfold Shift.dn
    split
    · next h =>
      rw [Finset.sum_eq_single_of_mem (⟨t.val - k, by omega⟩ : Fin n) (Finset.mem_univ _)]
      · rw [if_pos (by dsimp only; omega)]
      · intro s _ hs
        exact if_neg fun e => hs (Fin.ext (by dsimp only; omega))
    · next h =>
      rw [mul_zero]
      exact (Finset.sum_eq_zero fun s _ => if_neg fun e => h (by omega)).symm
  rw [Finset.sum_congr rfl fun s _ => hl s, Finset.sum_congr rfl fun t _ => hr t]
  exact Finset.sum_comm

theorem tapUp_eq {n : ℕ} (k : Fin 3) (e f : Fin n → EReal) : tapUp k e f = Conv3.tap k e f := by
  match k with
  | 0 => exact sum_up 2 e f
  | 1 => exact sum_up 1 e f
  | 2 => rfl

variable (A : (⟨2, ![4096, 2816]⟩ : Shape).Idx → EReal) (U : (⟨3, ![2, 4096, 2816]⟩ : Shape).Idx → EReal)
  (W : (⟨2, ![3, 5632]⟩ : Shape).Idx → EReal) (B : (⟨2, ![1, 5632]⟩ : Shape).Idx → EReal)

/-- Channel `l` of plane `p` of sequence `b`. -/
def seq (p b : Fin 2) (l : Fin 2816) (s : Fin 2048) : EReal := U (ix3 p (tok b s) l)

/-- It convolved, with the bias. -/
def conv (p b : Fin 2) (l : Fin 2816) (s : Fin 2048) : EReal :=
  Conv3.fwd (W (ix2 0 (col p l))) (W (ix2 1 (col p l))) (W (ix2 2 (col p l))) (seq U p b l) s + B (ix2 0 (col p l))

/-- The forward result. -/
def act (b : Fin 2) (s : Fin 2048) (l : Fin 2816) : EReal := gated (conv U W B 0 b l s) (conv U W B 1 b l s)

/-- The cotangent of the convolved plane `p`. -/
def du (p b : Fin 2) (l : Fin 2816) (s : Fin 2048) : EReal :=
  cot p (A (ix2 (tok b s) l)) (conv U W B 0 b l s) (conv U W B 1 b l s)

/-- The gradient of plane `p`. -/
def gradU (p b : Fin 2) (s : Fin 2048) (l : Fin 2816) : EReal :=
  Conv3.bwd (W (ix2 0 (col p l))) (W (ix2 1 (col p l))) (W (ix2 2 (col p l))) (du A U W B p b l) s

/-- The gradient of the taps of plane `p`. -/
def gradW (p : Fin 2) (k : Fin 3) (l : Fin 2816) : EReal :=
  Conv3.tap k (du A U W B p 0 l) (seq U p 0 l) + Conv3.tap k (du A U W B p 1 l) (seq U p 1 l)

/-- The gradient of the biases of plane `p`. -/
def gradB (p : Fin 2) (l : Fin 2816) : EReal := ∑ s, du A U W B p 0 l s + ∑ s, du A U W B p 1 l s

/-- The sequence and the position of a token. -/
def seqOf (r : Fin 4096) : Fin 2 := ⟨r.val / 2048, by omega⟩
def posOf (r : Fin 4096) : Fin 2048 := ⟨r.val % 2048, Nat.mod_lt _ (by decide)⟩

theorem tok_of (r : Fin 4096) : tok (seqOf r) (posOf r) = r := Fin.ext (by unfold tok seqOf posOf; dsimp only; omega)

theorem seqOf_tok (b : Fin 2) (s : Fin 2048) : seqOf (tok b s) = b := Fin.ext (by unfold tok seqOf; dsimp only; omega)
theorem posOf_tok (b : Fin 2) (s : Fin 2048) : posOf (tok b s) = s := Fin.ext (by unfold tok posOf; dsimp only; omega)

end Cert.MidSpec

end
-- ==== Proof.MidReal.lean ====
/-
  The gated middle at real arguments: its convolved planes are real numbers, and the gate's cotangent is the sum that the
  derivative of `g * sigmoid g` gives by the product rule.
-/
module

public import proofs.«01_k».proof.Proof.MidSpec
public import proofs.«01_k».proof.Proof.Rms

@[expose] public section

noncomputable section

namespace Cert.MidSpec

open Idealize.ShloMosaic Cert.Rms
open Cert.GateSpec (sig)
open Cert.Preds (Fin1)

theorem sig_real {x : EReal} (hx : IsReal x) : IsReal (sig x) := by
  obtain ⟨r, rfl⟩ := hx
  have hp : (1 + Real.exp (-r)) ≠ 0 := by positivity
  refine ⟨1 / (1 + Real.exp (-r)), ?_⟩
  unfold sig
  rw [← EReal.coe_neg, Ideal.exp_coe, ← EReal.coe_one, ← EReal.coe_add, Ideal.div_coe hp, ← EReal.coe_mul, one_mul]

/-- The product rule's two summands. -/
theorem cot_eq {a g v : EReal} (ha : IsReal a) (hg : IsReal g) (hv : IsReal v) :
    a * v * sig g + g * (a * v) * (sig g * (1 - sig g)) = cot 0 a g v := by
  obtain ⟨q, hq⟩ := sig_real hg
  obtain ⟨a, rfl⟩ := ha
  obtain ⟨g, rfl⟩ := hg
  obtain ⟨v, rfl⟩ := hv
  unfold cot
  rw [hq, ← EReal.coe_one]
  simp only [← EReal.coe_mul, ← EReal.coe_add, ← EReal.coe_sub]
  refine congrArg _ ?_
  ring

theorem dn_real {n : ℕ} (k : ℕ) {f : Fin n → EReal} (hf : ∀ s, IsReal (f s)) (s : Fin n) : IsReal (Shift.dn k f s) := by
  unfold Shift.dn
  split
  · exact hf _
  · exact ⟨0, EReal.coe_zero.symm⟩

variable {A : (⟨2, ![4096, 2816]⟩ : Shape).Idx → EReal} {U : (⟨3, ![2, 4096, 2816]⟩ : Shape).Idx → EReal}
  {W : (⟨2, ![3, 5632]⟩ : Shape).Idx → EReal} {B : (⟨2, ![1, 5632]⟩ : Shape).Idx → EReal}

theorem conv_real (hU : Fin1 U) (hW : Fin1 W) (hB : Fin1 B) (p b : Fin 2) (l : Fin 2816) (s : Fin 2048) :
    IsReal (conv U W B p b l s) := by
  have hs : ∀ s, IsReal (seq U p b l s) := fun s => hU _
  exact (((IsReal.mul (hW _) (hs s)).add (IsReal.mul (hW _) (dn_real 1 hs s))).add (IsReal.mul (hW _) (dn_real 2 hs s))).add (hB _)

end Cert.MidSpec

end
-- ==== Proof.PoolSpec.lean ====
/-
  Sums over a sliding window of a finite sequence, and the causal mean pooling's gradients written with them. A kernel
  reaches a window of `2 ^ j` positions by doubling, the reference by the difference of two cumulative sums; both are
  `winD` (a window that ends at the position) or `winU` (one that begins there).
-/
module

public import proofs.«01_k».proof.Proof.MidReal

@[expose] public section

noncomputable section

namespace Cert.Shift

open Idealize.ShloMosaic
open Cert.Rms (IsReal)

variable {n : ℕ}

theorem dn_dn (j k : ℕ) (f : Fin n → EReal) (s : Fin n) : dn j (dn k f) s = dn (j + k) f s := by
  unfold dn
  by_cases h : j + k ≤ s.val
  · rw [if_pos (show j ≤ s.val by omega), if_pos h]
    dsimp only
    rw [if_pos (show k ≤ s.val - j by omega)]
    exact congrArg f (Fin.ext (Nat.sub_sub _ _ _))
  · rw [if_neg h]
    split
    · exact if_neg (show ¬ k ≤ s.val - j by omega)
    · rfl

theorem up_up (j k : ℕ) (f : Fin n → EReal) (s : Fin n) : up j (up k f) s = up (j + k) f s := by
  unfold up
  by_cases h : s.val + (j + k) < n
  · rw [dif_pos (show s.val + j < n by omega), dif_pos h]
    dsimp only
    rw [dif_pos (show s.val + j + k < n by omega)]
    exact congrArg f (Fin.ext (Nat.add_assoc _ _ _))
  · rw [dif_neg h]
    split
    · exact dif_neg (show ¬ s.val + j + k < n by omega)
    · rfl

theorem dn_zero (f : Fin n → EReal) (s : Fin n) : dn 0 f s = f s := if_pos (Nat.zero_le _)
theorem up_zero (f : Fin n → EReal) (s : Fin n) : up 0 f s = f s := dif_pos s.isLt
theorem dn_ge {j : ℕ} (f : Fin n → EReal) (s : Fin n) (h : n ≤ j) : dn j f s = 0 := if_neg (by omega)
theorem up_ge {j : ℕ} (f : Fin n → EReal) (s : Fin n) (h : n ≤ j) : up j f s = 0 := dif_neg (by omega)

theorem dn_sum {ι : Type} (T : Finset ι) (k : ℕ) (f : ι → Fin n → EReal) (s : Fin n) :
    dn k (fun s => ∑ i ∈ T, f i s) s = ∑ i ∈ T, dn k (f i) s := by
  unfold dn
  split
  · rfl
  · exact Finset.sum_const_zero.symm

theorem up_sum {ι : Type} (T : Finset ι) (k : ℕ) (f : ι → Fin n → EReal) (s : Fin n) :
    up k (fun s => ∑ i ∈ T, f i s) s = ∑ i ∈ T, up k (f i) s := by
  unfold up
  split
  · rfl
  · exact Finset.sum_const_zero.symm

theorem up_add (k : ℕ) (f g : Fin n → EReal) (s : Fin n) : up k (fun s => f s + g s) s = up k f s + up k g s := by
  unfold up
  split
  · rfl
  · exact (add_zero _).symm

theorem up_neg (k : ℕ) (f : Fin n → EReal) (s : Fin n) : up k (fun s => -f s) s = -up k f s := by
  unfold up
  split
  · rfl
  · exact neg_zero.symm

theorem up_real (k : ℕ) {f : Fin n → EReal} (hf : ∀ s, IsReal (f s)) (s : Fin n) : IsReal (up k f s) := by
  unfold up
  split
  · exact hf _
  · exact ⟨0, EReal.coe_zero.symm⟩

/-! ### Windows -/

/-- The sum of the `w` positions that end at `s`. -/
def winD (w : ℕ) (f : Fin n → EReal) (s : Fin n) : EReal := ∑ j ∈ Finset.range w, dn j f s

/-- The sum of the `w` positions that begin at `s`. -/
def winU (w : ℕ) (f : Fin n → EReal) (s : Fin n) : EReal := ∑ j ∈ Finset.range w, up j f s

theorem winD_one (f : Fin n → EReal) (s : Fin n) : winD 1 f s = f s := (Finset.sum_range_one _).trans (dn_zero f s)
theorem winU_one (f : Fin n → EReal) (s : Fin n) : winU 1 f s = f s := (Finset.sum_range_one _).trans (up_zero f s)

theorem winD_add (a b : ℕ) (f : Fin n → EReal) (s : Fin n) : winD (a + b) f s = winD a f s + dn a (winD b f) s := by
  unfold winD
  rw [Finset.sum_range_add, dn_sum]
  exact congrArg _ (Finset.sum_congr rfl fun j _ => (dn_dn a j f s).symm)

theorem winU_add (a b : ℕ) (f : Fin n → EReal) (s : Fin n) : winU (a + b) f s = winU a f s + up a (winU b f) s := by
  unfold winU
  rw [Finset.sum_range_add, up_sum]
  exact congrArg _ (Finset.sum_congr rfl fun j _ => (up_up a j f s).symm)

/-- One doubling of a window. -/
theorem winD_double {w : ℕ} {f g : Fin n → EReal} (h : ∀ s, g s = winD w f s) (s : Fin n) : g s + dn w g s = winD (w + w) f s := by
  rw [winD_add, ← funext h]

theorem winU_double {w : ℕ} {f g : Fin n → EReal} (h : ∀ s, g s = winU w f s) (s : Fin n) : g s + up w g s = winU (w + w) f s := by
  rw [winU_add, ← funext h]

theorem winD_ge (w : ℕ) (f : Fin n → EReal) (s : Fin n) : winD (w + n) f s = winD n f s := by
  rw [Nat.add_comm, winD_add]
  refine (congrArg _ ?_).trans (add_zero _)
  exact dn_ge _ s le_rfl

theorem winU_ge (w : ℕ) (f : Fin n → EReal) (s : Fin n) : winU (w + n) f s = winU n f s := by
  rw [Nat.add_comm, winU_add]
  refine (congrArg _ ?_).trans (add_zero _)
  exact up_ge _ s le_rfl

theorem winD_real (w : ℕ) {f : Fin n → EReal} (hf : ∀ s, IsReal (f s)) (s : Fin n) : IsReal (winD w f s) :=
  IsReal.sum _ fun j => MidSpec.dn_real j hf s

theorem winU_real (w : ℕ) {f : Fin n → EReal} (hf : ∀ s, IsReal (f s)) (s : Fin n) : IsReal (winU w f s) :=
  IsReal.sum _ fun j => up_real j hf s

theorem add_sub_real {x y : EReal} : IsReal x → IsReal y → x + y - y = x := fun ⟨a, ha⟩ ⟨b, hb⟩ => by
  rw [ha, hb, ← EReal.coe_add, ← EReal.coe_sub, add_sub_cancel_right]

/-- A window is the difference of the cumulative sum and the cumulative sum `w` positions earlier. -/
theorem winD_sub (w : ℕ) {f : Fin n → EReal} (hf : ∀ s, IsReal (f s)) (s : Fin n) :
    winD n f s - dn w (winD n f) s = winD w f s := by
  conv_lhs => rw [← winD_ge w f s, winD_add]
  exact add_sub_real (winD_real w hf s) (MidSpec.dn_real w (winD_real n hf) s)

theorem neg_sum_real {ι : Type} (T : Finset ι) {f : ι → EReal} (hf : ∀ i, IsReal (f i)) : ∑ i ∈ T, -f i = -∑ i ∈ T, f i := by
  choose g hg using hf
  simp only [hg, ← EReal.coe_neg, Rms.coe_sum, Finset.sum_neg_distrib]

/-- A window is the reverse cumulative sum of the difference of the sequence and the sequence `w` positions later. -/
theorem winU_sub (w : ℕ) {f : Fin n → EReal} (hf : ∀ s, IsReal (f s)) (s : Fin n) :
    winU n (fun s => -up w f s + f s) s = winU w f s := by
  have h : winU n (fun s => -up w f s + f s) s = -up w (winU n f) s + winU n f s := by
    unfold winU
    rw [up_sum, ← neg_sum_real _ fun j => up_real w (up_real j hf) s, ← Finset.sum_add_distrib]
    refine Finset.sum_congr rfl fun j _ => ?_
    rw [up_add, up_neg, up_up, up_up, Nat.add_comm j w]
  rw [h]
  conv_lhs => rw [← winU_ge w f s, winU_add, add_comm, ← sub_eq_add_neg]
  exact add_sub_real (winU_real w hf s) (up_real w (winU_real n hf) s)

end Cert.Shift

namespace Cert.PoolSpec

open Idealize.ShloMosaic
open Cert.Conv3 (tok)
open Cert.Rms (IsReal)
open Cert.Preds (Fin1)

/-- The window of group `g`: two, four, eight or sixteen positions. -/
def win (g : Fin 4) : ℕ := 2 ^ (g.val + 1)

/-- How many positions of a window of `w` that ends at position `s` lie inside the sequence. -/
def cnt (w : ℕ) (s : Fin 2048) : EReal := ((min (s.val + 1) w : ℕ) : ℝ)

/-- Channel `l` of group `g` among the 1024 columns, and among the 6144 columns of `Z`. -/
def col (g : Fin 4) (l : Fin 256) : Fin 1024 := ⟨g.val * 256 + l.val, by omega⟩
def zcol (g : Fin 4) (l : Fin 256) : Fin 6144 := ⟨g.val * 256 + l.val, by omega⟩

variable (D : (⟨3, ![2, 4096, 1024]⟩ : Shape).Idx → EReal) (Z : (⟨2, ![4096, 6144]⟩ : Shape).Idx → EReal)
  (W : (⟨3, ![4, 256, 256]⟩ : Shape).Idx → EReal) (S : (⟨2, ![1, 1024]⟩ : Shape).Idx → EReal)

/-- The pooled channel: the mean over the window, less the value itself. -/
def mean (w : ℕ) (z : Fin 2048 → EReal) (s : Fin 2048) : EReal := Ideal.div (Shift.winD w z s) (cnt w s) - z s

/-- The gradient through the pooling: every later position whose window holds `s` gives its share. -/
def back (w : ℕ) (d : Fin 2048 → EReal) (s : Fin 2048) : EReal := Shift.winU w (fun t => Ideal.div (d t) (cnt w t)) s - d s

def pooled (g : Fin 4) (b : Fin 2) (l : Fin 256) (s : Fin 2048) : EReal := mean (win g) (fun t => Z (ix2 (tok b t) (zcol g l))) s

/-- The pooled group after its projection. -/
def lin (g : Fin 4) (b : Fin 2) (l : Fin 256) (s : Fin 2048) : EReal := ∑ k : Fin 256, pooled Z g b k s * W (ix3 g k l)

/-- The cotangent before the scale. -/
def scaled (g : Fin 4) (b : Fin 2) (l : Fin 256) (s : Fin 2048) : EReal := D (ix3 0 (tok b s) (col g l)) * S (ix2 0 (col g l))

/-- The cotangent of the pooled group. -/
def dpool (g : Fin 4) (b : Fin 2) (l : Fin 256) (s : Fin 2048) : EReal := ∑ k : Fin 256, scaled D S g b k s * W (ix3 g l k)

/-- The three results: the gradient with respect to the pooled columns of `Z`, the group projections and the scale. -/
def gradZ (g : Fin 4) (b : Fin 2) (l : Fin 256) (s : Fin 2048) : EReal := back (win g) (dpool D W S g b l) s
def partW (g : Fin 4) (k l : Fin 256) (b : Fin 2) : EReal := ∑ s : Fin 2048, pooled Z g b k s * scaled D S g b l s
def partS (g : Fin 4) (l : Fin 256) (b : Fin 2) : EReal := ∑ s : Fin 2048, D (ix3 0 (tok b s) (col g l)) * lin Z W g b l s
def gradW (g : Fin 4) (k l : Fin 256) : EReal := ∑ b : Fin 2, partW D Z S g k l b
def gradS (g : Fin 4) (l : Fin 256) : EReal := ∑ b : Fin 2, partS D Z W g l b

theorem cnt_real {w : ℕ} (hw : 0 < w) (s : Fin 2048) : ∃ r : ℝ, r ≠ 0 ∧ cnt w s = (r : EReal) :=
  ⟨_, by have : 0 < min (s.val + 1) w := by omega
         positivity, rfl⟩

theorem div_cnt_real {w : ℕ} (hw : 0 < w) (s : Fin 2048) {x : EReal} : IsReal x → IsReal (Ideal.div x (cnt w s)) := fun ⟨a, ha⟩ => by
  obtain ⟨r, h0, hr⟩ := cnt_real hw s
  exact ⟨a * (1 / r), by rw [ha, hr, Ideal.div_coe h0, ← EReal.coe_mul]⟩

variable {D Z W S}

theorem dpool_real (hD : Fin1 D) (hW : Fin1 W) (hS : Fin1 S) (g : Fin 4) (b : Fin 2) (l : Fin 256) (s : Fin 2048) :
    IsReal (dpool D W S g b l s) :=
  IsReal.sum _ fun _ => IsReal.mul (IsReal.mul (hD _) (hS _)) (hW _)

end Cert.PoolSpec

end
-- ==== Proof.PoolVec.lean ====
/-
  The pooling's gradient as a kernel writes it on one block of 2048 positions and 256 channels, for any window of `2 ^ j`
  positions, and what each of its vectors holds at an entry.
-/
module

public import proofs.«01_k».proof.Proof.Gen.PoolIdeal.Value
public import proofs.«01_k».proof.Proof.PoolSpec
public import proofs.«01_k».proof.Proof.Planes
public import Idealize.ShloMosaic.Lib.KernelVsHost

@[expose] public section

noncomputable section

namespace Cert.PoolIdeal.Value

open Cert.PoolIdeal Cert.PoolIdeal.Gen Idealize.ShloMosaic Idealize.ShloMosaic.TcCoe Idealize.SL.Sem
open Cert.Shift (dn up winD winU)

/-! ### Windows by doubling -/

def pos : IVec S2048x256 32 := iota .tc S2048x256 32 [0] iota_S2048x256_d0_w32
abbrev rot (k : BitVec 32) (v : FVec Ideal S2048x256 .f32) : FVec Ideal S2048x256 .f32 :=
  dynamicRotate 0 k none v rotates_S2048x256_d0
abbrev zeros : FVec Ideal S2048x256 .f32 := broadcast S2048x256 (Scalar.ofBits (F := Ideal) .f32 0x00000000#32)

/-- A block and the block `2 ^ j` positions earlier or later. -/
def later (j : ℕ) (v : FVec Ideal S2048x256 .f32) : FVec Ideal S2048x256 .f32 :=
  addf v (select (cmpi .sge pos (broadcast S2048x256 (BitVec.ofNat 32 (2 ^ j)))) (rot (BitVec.ofNat 32 (2 ^ j)) v) zeros)
def earlier (j : ℕ) (v : FVec Ideal S2048x256 .f32) : FVec Ideal S2048x256 .f32 :=
  addf v (select (cmpi .slt pos (broadcast S2048x256 (BitVec.ofNat 32 (2048 - 2 ^ j)))) (rot (BitVec.ofNat 32 (2048 - 2 ^ j)) v) zeros)

/-- The sums over the windows of `2 ^ j` positions that end, or begin, at each position. -/
def sumD : ℕ → FVec Ideal S2048x256 .f32 → FVec Ideal S2048x256 .f32
  | 0, v => v
  | j + 1, v => later j (sumD j v)
def sumU : ℕ → FVec Ideal S2048x256 .f32 → FVec Ideal S2048x256 .f32
  | 0, v => v
  | j + 1, v => earlier j (sumU j v)

/-- How many positions each window holds. -/
def counts (j : ℕ) : FVec Ideal S2048x256 .f32 :=
  sitofp .f32 (minsi (addi pos (broadcast S2048x256 1#32)) (broadcast S2048x256 (BitVec.ofNat 32 (2 ^ j))))

theorem rot_apply (k : BitVec 32) (v : FVec Ideal S2048x256 .f32) (s : Fin 2048) (l : Fin 256) :
    rot k v (ix2 s l) = v (ix2 ⟨(s.val + 2048 - k.toNat % 2048) % 2048, Nat.mod_lt _ (by decide)⟩ l) := by
  refine dynamicRotate_apply 0 k v _ _ _ fun b => ?_
  match b with
  | ⟨0, _⟩ => rfl
  | ⟨1, _⟩ => rfl

theorem toNat_small {k : ℕ} (h : k < 2048) : (BitVec.ofNat 32 k).toNat % 2048 = k := by
  rw [BitVec.toNat_ofNat, Nat.mod_eq_of_lt (show k < 2 ^ 32 by omega), Nat.mod_eq_of_lt h]

theorem later_apply (j : ℕ) (hj : 2 ^ j < 2048) (v : FVec Ideal S2048x256 .f32) (s : Fin 2048) (l : Fin 256) :
    later j v (ix2 s l) = v (ix2 s l) + dn (2 ^ j) (fun t => v (ix2 t l)) s := by
  rw [← Shift.select_dn (2 ^ j) hj (by decide) _ s (Nat.mod_lt _ (by decide))]
  have e := rot_apply (BitVec.ofNat 32 (2 ^ j)) v s l
  simp only [toNat_small hj] at e
  rw [← e]
  unfold later pos
  generalize rot (BitVec.ofNat 32 (2 ^ j)) v = q
  pointwise

theorem earlier_apply (j : ℕ) (hj : 2 ^ j < 2048) (v : FVec Ideal S2048x256 .f32) (s : Fin 2048) (l : Fin 256) :
    earlier j v (ix2 s l) = v (ix2 s l) + up (2 ^ j) (fun t => v (ix2 t l)) s := by
  have h0 : 0 < 2 ^ j := Nat.two_pow_pos j
  rw [← Shift.select_up (2 ^ j) h0 hj (by decide) _ s (Nat.mod_lt _ (by decide))]
  have e := rot_apply (BitVec.ofNat 32 (2048 - 2 ^ j)) v s l
  simp only [toNat_small (show 2048 - 2 ^ j < 2048 by omega)] at e
  rw [← e]
  unfold earlier pos
  generalize rot (BitVec.ofNat 32 (2048 - 2 ^ j)) v = q
  pointwise

theorem sumD_apply (v : FVec Ideal S2048x256 .f32) (l : Fin 256) : ∀ (j : ℕ), j ≤ 11 → ∀ s : Fin 2048,
    sumD j v (ix2 s l) = winD (2 ^ j) (fun t => v (ix2 t l)) s
  | 0, _, s => (Shift.winD_one (fun t => v (ix2 t l)) s).symm
  | j + 1, hj, s => by
    have h : 2 ^ j < 2048 := Nat.pow_lt_pow_right (a := 2) (n := 11) (by decide) (by omega)
    rw [pow_succ, Nat.mul_two, ← Shift.winD_double (fun t => sumD_apply v l j (by omega) t)]
    exact later_apply j h _ s l

theorem sumU_apply (v : FVec Ideal S2048x256 .f32) (l : Fin 256) : ∀ (j : ℕ), j ≤ 11 → ∀ s : Fin 2048,
    sumU j v (ix2 s l) = winU (2 ^ j) (fun t => v (ix2 t l)) s
  | 0, _, s => (Shift.winU_one (fun t => v (ix2 t l)) s).symm
  | j + 1, hj, s => by
    have h : 2 ^ j < 2048 := Nat.pow_lt_pow_right (a := 2) (n := 11) (by decide) (by omega)
    rw [pow_succ, Nat.mul_two, ← Shift.winU_double (fun t => sumU_apply v l j (by omega) t)]
    exact earlier_apply j h _ s l

theorem counts_apply (j : ℕ) (hj : j ≤ 11) (s : Fin 2048) (l : Fin 256) : counts j (ix2 s l) = PoolSpec.cnt (2 ^ j) s := by
  have hw : 2 ^ j ≤ 2048 := Nat.pow_le_pow_right (i := j) (j := 11) (by decide) hj
  have t : ∀ x : ℕ, x ≤ 2048 → (BitVec.ofNat 32 x).toInt = x := fun x hx => by
    rw [BitVec.toInt_eq_toNat_of_lt] <;> simp [BitVec.toNat_ofNat] <;> omega
  have e : IntOp.minsi (IntOp.addi (BitVec.ofNat 32 s.val) 1#32) (BitVec.ofNat 32 (2 ^ j)) = BitVec.ofNat 32 (min (s.val + 1) (2 ^ j)) := by
    have a : IntOp.addi (BitVec.ofNat 32 s.val) 1#32 = BitVec.ofNat 32 (s.val + 1) := (BitVec.ofNat_add ..).symm
    have hs := s.isLt
    rw [a]
    unfold IntOp.minsi
    rw [BitVec.slt, t _ (by omega), t _ hw]
    by_cases h : s.val + 1 < 2 ^ j
    · rw [if_pos (decide_eq_true (Int.ofNat_lt.mpr h)), Nat.min_eq_left h.le]
    · rw [if_neg (fun hd => h (Int.ofNat_lt.mp (of_decide_eq_true hd))), Nat.min_eq_right (Nat.le_of_not_lt h)]
  unfold counts pos
  pointwise [e]
  show (((BitVec.ofNat 32 (min (s.val + 1) (2 ^ j))).toInt : ℝ) : EReal) = _
  rw [t _ (by omega), Int.cast_natCast]
  rfl

/-! ### The block's vectors -/

variable (j : ℕ) (z : Vec Ideal S2048x256 .bf16) (d : Vec Ideal S1x2048x256 .bf16) (w : Vec Ideal S1x256x256 .bf16)
  (ps : Vec Ideal S1x256 .f32) (gw : Vec Ideal S1x256x256 .f32) (gs : Vec Ideal S1x256 .f32)

/-- The pooled channels. -/
def pooledV : FVec Ideal S2048x256 .bf16 :=
  truncf .bf16 (subf (divf (sumD j (extf .f32 z bitsLt_bf16_f32)) (counts j)) (extf .f32 z bitsLt_bf16_f32)) bitsLt_bf16_f32

/-- The cotangent, and the cotangent before the scale. -/
def cotV : FVec Ideal S2048x256 .f32 :=
  extf .f32 (shapeCast S2048x256 d shapeCasts_S1x2048x256_S2048x256 : FVec Ideal S2048x256 .bf16) bitsLt_bf16_f32
def scaledV : FVec Ideal S2048x256 .bf16 :=
  truncf .bf16 (mulf (cotV d) (broadcastTo S2048x256 ps broadcasts_S1x256_S2048x256)) bitsLt_bf16_f32

/-- The projection as a matrix, and the pooled channels after it. -/
def matV : FVec Ideal S256x256 .bf16 := shapeCast S256x256 w shapeCasts_S1x256x256_S256x256
def linV : FVec Ideal S2048x256 .f32 :=
  matmul dot_S2048x256_S256x256_S2048x256_1_0_0_1_n_n none (pooledV j z) (matV w) (constant S2048x256 .f32 0x00000000#32)

/-- The scale's gradient so far and this block's share of it. -/
def gradSV : FVec Ideal S1x256 .f32 :=
  addf (shapeCast S1x256 gs shapeCasts_S1x256_S1x256 : FVec Ideal S1x256 .f32)
    (shapeCast S1x256 (multiReduction .add [0] S256 (mulf (cotV d) (linV j z w)) 0x00000000#32 reduces_S2048x256_S256 (.inl rfl) rfl)
      shapeCasts_S256_S1x256)

/-- The projection's gradient so far and this block's share of it. -/
def gradWV : FVec Ideal S1x256x256 .f32 :=
  shapeCast S1x256x256 (addf (shapeCast S256x256 gw shapeCasts_S1x256x256_S256x256 : FVec Ideal S256x256 .f32)
    (matmul dot_S2048x256_S2048x256_S256x256_0_0_1_1_n_n none (pooledV j z) (scaledV d ps) (constant S256x256 .f32 0x00000000#32)))
    shapeCasts_S256x256_S1x256x256

/-- The cotangent of the pooled channels, and the gradient through the pooling. -/
def dpoolV : FVec Ideal S2048x256 .f32 :=
  matmul dot_S2048x256_S256x256_S2048x256_1_1_0_0_n_n none (scaledV d ps) (matV w) (constant S2048x256 .f32 0x00000000#32)
def gradZV : FVec Ideal S1x2048x256 .bf16 :=
  shapeCast S1x2048x256 (truncf .bf16 (subf (sumU j (divf (dpoolV d w ps) (counts j))) (dpoolV d w ps)) bitsLt_bf16_f32)
    shapeCasts_S2048x256_S1x2048x256

/-! ### Their entries -/

theorem pooledV_apply (hj : j ≤ 11) (s : Fin 2048) (l : Fin 256) :
    pooledV j z (ix2 s l) = PoolSpec.mean (2 ^ j) (fun t => z (ix2 t l)) s := by
  unfold pooledV
  pointwise [sumD_apply _ l j hj, counts_apply j hj s l]
  rfl

theorem cotV_apply (s : Fin 2048) (l : Fin 256) : cotV d (ix2 s l) = d (ix3 0 s l) := by
  unfold cotV
  pointwise

theorem scaledV_apply (s : Fin 2048) (l : Fin 256) : scaledV d ps (ix2 s l) = d (ix3 0 s l) * ps (ix2 0 l) := by
  unfold scaledV
  pointwise [cotV_apply]

theorem matV_apply (k l : Fin 256) : matV w (ix2 k l) = w (ix3 0 k l) := by
  unfold matV
  pointwise

theorem linV_apply (hj : j ≤ 11) (s : Fin 2048) (l : Fin 256) :
    linV j z w (ix2 s l) = ∑ k : Fin 256, PoolSpec.mean (2 ^ j) (fun t => z (ix2 t k)) s * w (ix3 0 k l) := by
  unfold linV
  pointwise [pooledV_apply j z hj, matV_apply]

theorem gradSV_apply (hj : j ≤ 11) (l : Fin 256) :
    gradSV j z d w gs (ix2 0 l) = gs (ix2 0 l) + ∑ s : Fin 2048, d (ix3 0 s l)
      * ∑ k : Fin 256, PoolSpec.mean (2 ^ j) (fun t => z (ix2 t k)) s * w (ix3 0 k l) := by
  unfold gradSV
  pointwise [cotV_apply, linV_apply j z w hj]

theorem gradWV_apply (hj : j ≤ 11) (k l : Fin 256) :
    gradWV j z d ps gw (ix3 0 k l) = gw (ix3 0 k l)
      + ∑ s : Fin 2048, PoolSpec.mean (2 ^ j) (fun t => z (ix2 t k)) s * (d (ix3 0 s l) * ps (ix2 0 l)) := by
  unfold gradWV
  pointwise [pooledV_apply j z hj, scaledV_apply]

theorem dpoolV_apply (s : Fin 2048) (l : Fin 256) :
    dpoolV d w ps (ix2 s l) = ∑ k : Fin 256, d (ix3 0 s k) * ps (ix2 0 k) * w (ix3 0 l k) := by
  unfold dpoolV
  pointwise [scaledV_apply, matV_apply]

theorem gradZV_apply (hj : j ≤ 11) (s : Fin 2048) (l : Fin 256) :
    gradZV j d w ps (ix3 0 s l)
      = PoolSpec.back (2 ^ j) (fun t => ∑ k : Fin 256, d (ix3 0 t k) * ps (ix2 0 k) * w (ix3 0 l k)) s := by
  unfold gradZV
  pointwise [sumU_apply _ l j hj, counts_apply j hj _ l, dpoolV_apply]
  rfl

end Cert.PoolIdeal.Value

end
-- ==== Proof.PoolBlock.lean ====
/-
  What one grid point of the pooling's gradient leaves: in each of the four groups the block's vectors for that group's
  window, added to what the group's first sequence left where the second is reached.
-/
module

public import proofs.«01_k».proof.Proof.PoolVec

@[expose] public section

noncomputable section

namespace Cert.PoolIdeal.Value

open Cert.PoolIdeal Cert.PoolIdeal.Gen Idealize.ShloMosaic Idealize.ShloMosaic.TcCoe Idealize.SL.Sem
open Cert.Planes

variable (z : Vec Ideal S2048x256 .bf16) (d : Vec Ideal S1x2048x256 .bf16) (w : Vec Ideal S1x256x256 .bf16)
  (ps : Vec Ideal S1x256 .f32) (gw : Vec Ideal S1x256x256 .f32) (gs : Vec Ideal S1x256 .f32)

/-- What the two accumulated results start from. -/
abbrev gw0 : FVec Ideal S1x256x256 .f32 := k0_pay1 (F := Ideal)
abbrev gs0 : FVec Ideal S1x256 .f32 := k0_pay2 (F := Ideal)

variable (c : Dev nD) (i : grid0.Coords)
  (arg3 : Memref sig .tc .vmem S1x2048x256 .bf16) (harg3 : arg3.IsWhole) (arg4 : Memref sig .tc .vmem S2048x256 .bf16) (harg4 : arg4.IsWhole)
  (arg5 : Memref sig .tc .vmem S1x256x256 .bf16) (harg5 : arg5.IsWhole) (arg6 : Memref sig .tc .vmem S1x256 .f32) (harg6 : arg6.IsWhole)
  (arg7 : Memref sig .tc .vmem S1x2048x256 .bf16) (harg7 : arg7.IsWhole) (arg8 : Memref sig .tc .vmem S1x256x256 .f32) (harg8 : arg8.IsWhole)
  (arg9 : Memref sig .tc .vmem S1x256 .f32) (harg9 : arg9.IsWhole)

theorem out_A (hc0 : cond0_0 i) (hc1 : cond0_1 i) (hc2 : ¬cond0_2 i) (hc3 : ¬cond0_3 i) (hc4 : ¬cond0_4 i) :
    out0_A_4 c i arg3 harg3 arg4 harg4 arg5 harg5 arg6 harg6 arg7 harg7 arg8 harg8 arg9 harg9 hc0 hc1 hc2 hc3 hc4 d z w ps = gradZV 1 d w ps
      ∧ out0_A_5 c i arg3 harg3 arg4 harg4 arg5 harg5 arg6 harg6 arg7 harg7 arg8 harg8 arg9 harg9 hc0 hc1 hc2 hc3 hc4 d z w ps = gradWV 1 z d ps gw0
      ∧ out0_A_6 c i arg3 harg3 arg4 harg4 arg5 harg5 arg6 harg6 arg7 harg7 arg8 harg8 arg9 harg9 hc0 hc1 hc2 hc3 hc4 d z w ps = gradSV 1 z d w gs0 := by
  unfold out0_A_4 out0_A_5 out0_A_6
  rw [View.read_writes_eq_canon _ _ _ (cover0_A_4 c i arg3 harg3 arg4 harg4 arg5 harg5 arg6 harg6 arg7 harg7 arg8 harg8 arg9 harg9 hc0 hc1 hc2 hc3 hc4 d z w ps),
    View.read_writes_eq_canon _ _ _ (cover0_A_5 c i arg3 harg3 arg4 harg4 arg5 harg5 arg6 harg6 arg7 harg7 arg8 harg8 arg9 harg9 hc0 hc1 hc2 hc3 hc4 d z w ps),
    View.read_writes_eq_canon _ _ _ (cover0_A_6 c i arg3 harg3 arg4 harg4 arg5 harg5 arg6 harg6 arg7 harg7 arg8 harg8 arg9 harg9 hc0 hc1 hc2 hc3 hc4 d z w ps)]
  unfold kernelRun0_A
  dsimp only
  sl_unfold_words
  simp only [View.readAt_eq_ld, harg3.read_unread, harg4.read_unread, harg5.read_unread, harg6.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2,
    View.readCov_unit_zero (S := S1x256x256) _ hz3, View.readCov_unit_zero (S := S1x256) _ hz2]
  exact ⟨rfl, rfl, rfl⟩

theorem out_B (hc0 : ¬cond0_0 i) (hc1 : cond0_1 i) (hc2 : ¬cond0_2 i) (hc3 : ¬cond0_3 i) (hc4 : ¬cond0_4 i) :
    out0_B_4 c i arg3 harg3 arg4 harg4 arg5 harg5 arg6 harg6 arg7 harg7 arg8 harg8 arg9 harg9 hc0 hc1 hc2 hc3 hc4 d z w ps gw gs = gradZV 1 d w ps
      ∧ out0_B_5 c i arg3 harg3 arg4 harg4 arg5 harg5 arg6 harg6 arg7 harg7 arg8 harg8 arg9 harg9 hc0 hc1 hc2 hc3 hc4 d z w ps gw gs = gradWV 1 z d ps gw
      ∧ out0_B_6 c i arg3 harg3 arg4 harg4 arg5 harg5 arg6 harg6 arg7 harg7 arg8 harg8 arg9 harg9 hc0 hc1 hc2 hc3 hc4 d z w ps gw gs = gradSV 1 z d w gs := by
  unfold out0_B_4 out0_B_5 out0_B_6
  rw [View.read_writes_eq_canon _ _ _ (cover0_B_4 c i arg3 harg3 arg4 harg4 arg5 harg5 arg6 harg6 arg7 harg7 arg8 harg8 arg9 harg9 hc0 hc1 hc2 hc3 hc4 d z w ps gw gs),
    View.read_writes_eq_canon _ _ _ (cover0_B_5 c i arg3 harg3 arg4 harg4 arg5 harg5 arg6 harg6 arg7 harg7 arg8 harg8 arg9 harg9 hc0 hc1 hc2 hc3 hc4 d z w ps gw gs),
    View.read_writes_eq_canon _ _ _ (cover0_B_6 c i arg3 harg3 arg4 harg4 arg5 harg5 arg6 harg6 arg7 harg7 arg8 harg8 arg9 harg9 hc0 hc1 hc2 hc3 hc4 d z w ps gw gs)]
  unfold kernelRun0_B
  dsimp only
  sl_unfold_words
  simp only [View.readAt_eq_ld, harg3.read_unread, harg4.read_unread, harg5.read_unread, harg6.read_unread, harg8.read_unread, harg9.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2]
  exact ⟨rfl, rfl, rfl⟩

theorem out_C (hc0 : cond0_0 i) (hc1 : ¬cond0_1 i) (hc2 : cond0_2 i) (hc3 : ¬cond0_3 i) (hc4 : ¬cond0_4 i) :
    out0_C_4 c i arg3 harg3 arg4 harg4 arg5 harg5 arg6 harg6 arg7 harg7 arg8 harg8 arg9 harg9 hc0 hc1 hc2 hc3 hc4 d z w ps = gradZV 2 d w ps
      ∧ out0_C_5 c i arg3 harg3 arg4 harg4 arg5 harg5 arg6 harg6 arg7 harg7 arg8 harg8 arg9 harg9 hc0 hc1 hc2 hc3 hc4 d z w ps = gradWV 2 z d ps gw0
      ∧ out0_C_6 c i arg3 harg3 arg4 harg4 arg5 harg5 arg6 harg6 arg7 harg7 arg8 harg8 arg9 harg9 hc0 hc1 hc2 hc3 hc4 d z w ps = gradSV 2 z d w gs0 := by
  unfold out0_C_4 out0_C_5 out0_C_6
  rw [View.read_writes_eq_canon _ _ _ (cover0_C_4 c i arg3 harg3 arg4 harg4 arg5 harg5 arg6 harg6 arg7 harg7 arg8 harg8 arg9 harg9 hc0 hc1 hc2 hc3 hc4 d z w ps),
    View.read_writes_eq_canon _ _ _ (cover0_C_5 c i arg3 harg3 arg4 harg4 arg5 harg5 arg6 harg6 arg7 harg7 arg8 harg8 arg9 harg9 hc0 hc1 hc2 hc3 hc4 d z w ps),
    View.read_writes_eq_canon _ _ _ (cover0_C_6 c i arg3 harg3 arg4 harg4 arg5 harg5 arg6 harg6 arg7 harg7 arg8 harg8 arg9 harg9 hc0 hc1 hc2 hc3 hc4 d z w ps)]
  unfold kernelRun0_C
  dsimp only
  sl_unfold_words
  simp only [View.readAt_eq_ld, harg3.read_unread, harg4.read_unread, harg5.read_unread, harg6.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2,
    View.readCov_unit_zero (S := S1x256x256) _ hz3, View.readCov_unit_zero (S := S1x256) _ hz2]
  exact ⟨rfl, rfl, rfl⟩

theorem out_D (hc0 : ¬cond0_0 i) (hc1 : ¬cond0_1 i) (hc2 : cond0_2 i) (hc3 : ¬cond0_3 i) (hc4 : ¬cond0_4 i) :
    out0_D_4 c i arg3 harg3 arg4 harg4 arg5 harg5 arg6 harg6 arg7 harg7 arg8 harg8 arg9 harg9 hc0 hc1 hc2 hc3 hc4 d z w ps gw gs = gradZV 2 d w ps
      ∧ out0_D_5 c i arg3 harg3 arg4 harg4 arg5 harg5 arg6 harg6 arg7 harg7 arg8 harg8 arg9 harg9 hc0 hc1 hc2 hc3 hc4 d z w ps gw gs = gradWV 2 z d ps gw
      ∧ out0_D_6 c i arg3 harg3 arg4 harg4 arg5 harg5 arg6 harg6 arg7 harg7 arg8 harg8 arg9 harg9 hc0 hc1 hc2 hc3 hc4 d z w ps gw gs = gradSV 2 z d w gs := by
  unfold out0_D_4 out0_D_5 out0_D_6
  rw [View.read_writes_eq_canon _ _ _ (cover0_D_4 c i arg3 harg3 arg4 harg4 arg5 harg5 arg6 harg6 arg7 harg7 arg8 harg8 arg9 harg9 hc0 hc1 hc2 hc3 hc4 d z w ps gw gs),
    View.read_writes_eq_canon _ _ _ (cover0_D_5 c i arg3 harg3 arg4 harg4 arg5 harg5 arg6 harg6 arg7 harg7 arg8 harg8 arg9 harg9 hc0 hc1 hc2 hc3 hc4 d z w ps gw gs),
    View.read_writes_eq_canon _ _ _ (cover0_D_6 c i arg3 harg3 arg4 harg4 arg5 harg5 arg6 harg6 arg7 harg7 arg8 harg8 arg9 harg9 hc0 hc1 hc2 hc3 hc4 d z w ps gw gs)]
  unfold kernelRun0_D
  dsimp only
  sl_unfold_words
  simp only [View.readAt_eq_ld, harg3.read_unread, harg4.read_unread, harg5.read_unread, harg6.read_unread, harg8.read_unread, harg9.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2]
  exact ⟨rfl, rfl, rfl⟩

theorem out_E (hc0 : cond0_0 i) (hc1 : ¬cond0_1 i) (hc2 : ¬cond0_2 i) (hc3 : cond0_3 i) (hc4 : ¬cond0_4 i) :
    out0_E_4 c i arg3 harg3 arg4 harg4 arg5 harg5 arg6 harg6 arg7 harg7 arg8 harg8 arg9 harg9 hc0 hc1 hc2 hc3 hc4 d z w ps = gradZV 3 d w ps
      ∧ out0_E_5 c i arg3 harg3 arg4 harg4 arg5 harg5 arg6 harg6 arg7 harg7 arg8 harg8 arg9 harg9 hc0 hc1 hc2 hc3 hc4 d z w ps = gradWV 3 z d ps gw0
      ∧ out0_E_6 c i arg3 harg3 arg4 harg4 arg5 harg5 arg6 harg6 arg7 harg7 arg8 harg8 arg9 harg9 hc0 hc1 hc2 hc3 hc4 d z w ps = gradSV 3 z d w gs0 := by
  unfold out0_E_4 out0_E_5 out0_E_6
  rw [View.read_writes_eq_canon _ _ _ (cover0_E_4 c i arg3 harg3 arg4 harg4 arg5 harg5 arg6 harg6 arg7 harg7 arg8 harg8 arg9 harg9 hc0 hc1 hc2 hc3 hc4 d z w ps),
    View.read_writes_eq_canon _ _ _ (cover0_E_5 c i arg3 harg3 arg4 harg4 arg5 harg5 arg6 harg6 arg7 harg7 arg8 harg8 arg9 harg9 hc0 hc1 hc2 hc3 hc4 d z w ps),
    View.read_writes_eq_canon _ _ _ (cover0_E_6 c i arg3 harg3 arg4 harg4 arg5 harg5 arg6 harg6 arg7 harg7 arg8 harg8 arg9 harg9 hc0 hc1 hc2 hc3 hc4 d z w ps)]
  unfold kernelRun0_E
  dsimp only
  sl_unfold_words
  simp only [View.readAt_eq_ld, harg3.read_unread, harg4.read_unread, harg5.read_unread, harg6.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2,
    View.readCov_unit_zero (S := S1x256x256) _ hz3, View.readCov_unit_zero (S := S1x256) _ hz2]
  exact ⟨rfl, rfl, rfl⟩

theorem out_F (hc0 : ¬cond0_0 i) (hc1 : ¬cond0_1 i) (hc2 : ¬cond0_2 i) (hc3 : cond0_3 i) (hc4 : ¬cond0_4 i) :
    out0_F_4 c i arg3 harg3 arg4 harg4 arg5 harg5 arg6 harg6 arg7 harg7 arg8 harg8 arg9 harg9 hc0 hc1 hc2 hc3 hc4 d z w ps gw gs = gradZV 3 d w ps
      ∧ out0_F_5 c i arg3 harg3 arg4 harg4 arg5 harg5 arg6 harg6 arg7 harg7 arg8 harg8 arg9 harg9 hc0 hc1 hc2 hc3 hc4 d z w ps gw gs = gradWV 3 z d ps gw
      ∧ out0_F_6 c i arg3 harg3 arg4 harg4 arg5 harg5 arg6 harg6 arg7 harg7 arg8 harg8 arg9 harg9 hc0 hc1 hc2 hc3 hc4 d z w ps gw gs = gradSV 3 z d w gs := by
  unfold out0_F_4 out0_F_5 out0_F_6
  rw [View.read_writes_eq_canon _ _ _ (cover0_F_4 c i arg3 harg3 arg4 harg4 arg5 harg5 arg6 harg6 arg7 harg7 arg8 harg8 arg9 harg9 hc0 hc1 hc2 hc3 hc4 d z w ps gw gs),
    View.read_writes_eq_canon _ _ _ (cover0_F_5 c i arg3 harg3 arg4 harg4 arg5 harg5 arg6 harg6 arg7 harg7 arg8 harg8 arg9 harg9 hc0 hc1 hc2 hc3 hc4 d z w ps gw gs),
    View.read_writes_eq_canon _ _ _ (cover0_F_6 c i arg3 harg3 arg4 harg4 arg5 harg5 arg6 harg6 arg7 harg7 arg8 harg8 arg9 harg9 hc0 hc1 hc2 hc3 hc4 d z w ps gw gs)]
  unfold kernelRun0_F
  dsimp only
  sl_unfold_words
  simp only [View.readAt_eq_ld, harg3.read_unread, harg4.read_unread, harg5.read_unread, harg6.read_unread, harg8.read_unread, harg9.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2]
  exact ⟨rfl, rfl, rfl⟩

theorem out_G (hc0 : cond0_0 i) (hc1 : ¬cond0_1 i) (hc2 : ¬cond0_2 i) (hc3 : ¬cond0_3 i) (hc4 : cond0_4 i) :
    out0_G_4 c i arg3 harg3 arg4 harg4 arg5 harg5 arg6 harg6 arg7 harg7 arg8 harg8 arg9 harg9 hc0 hc1 hc2 hc3 hc4 d z w ps = gradZV 4 d w ps
      ∧ out0_G_5 c i arg3 harg3 arg4 harg4 arg5 harg5 arg6 harg6 arg7 harg7 arg8 harg8 arg9 harg9 hc0 hc1 hc2 hc3 hc4 d z w ps = gradWV 4 z d ps gw0
      ∧ out0_G_6 c i arg3 harg3 arg4 harg4 arg5 harg5 arg6 harg6 arg7 harg7 arg8 harg8 arg9 harg9 hc0 hc1 hc2 hc3 hc4 d z w ps = gradSV 4 z d w gs0 := by
  unfold out0_G_4 out0_G_5 out0_G_6
  rw [View.read_writes_eq_canon _ _ _ (cover0_G_4 c i arg3 harg3 arg4 harg4 arg5 harg5 arg6 harg6 arg7 harg7 arg8 harg8 arg9 harg9 hc0 hc1 hc2 hc3 hc4 d z w ps),
    View.read_writes_eq_canon _ _ _ (cover0_G_5 c i arg3 harg3 arg4 harg4 arg5 harg5 arg6 harg6 arg7 harg7 arg8 harg8 arg9 harg9 hc0 hc1 hc2 hc3 hc4 d z w ps),
    View.read_writes_eq_canon _ _ _ (cover0_G_6 c i arg3 harg3 arg4 harg4 arg5 harg5 arg6 harg6 arg7 harg7 arg8 harg8 arg9 harg9 hc0 hc1 hc2 hc3 hc4 d z w ps)]
  unfold kernelRun0_G
  dsimp only
  sl_unfold_words
  simp only [View.readAt_eq_ld, harg3.read_unread, harg4.read_unread, harg5.read_unread, harg6.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2,
    View.readCov_unit_zero (S := S1x256x256) _ hz3, View.readCov_unit_zero (S := S1x256) _ hz2]
  exact ⟨rfl, rfl, rfl⟩

theorem out_H (hc0 : ¬cond0_0 i) (hc1 : ¬cond0_1 i) (hc2 : ¬cond0_2 i) (hc3 : ¬cond0_3 i) (hc4 : cond0_4 i) :
    out0_H_4 c i arg3 harg3 arg4 harg4 arg5 harg5 arg6 harg6 arg7 harg7 arg8 harg8 arg9 harg9 hc0 hc1 hc2 hc3 hc4 d z w ps gw gs = gradZV 4 d w ps
      ∧ out0_H_5 c i arg3 harg3 arg4 harg4 arg5 harg5 arg6 harg6 arg7 harg7 arg8 harg8 arg9 harg9 hc0 hc1 hc2 hc3 hc4 d z w ps gw gs = gradWV 4 z d ps gw
      ∧ out0_H_6 c i arg3 harg3 arg4 harg4 arg5 harg5 arg6 harg6 arg7 harg7 arg8 harg8 arg9 harg9 hc0 hc1 hc2 hc3 hc4 d z w ps gw gs = gradSV 4 z d w gs := by
  unfold out0_H_4 out0_H_5 out0_H_6
  rw [View.read_writes_eq_canon _ _ _ (cover0_H_4 c i arg3 harg3 arg4 harg4 arg5 harg5 arg6 harg6 arg7 harg7 arg8 harg8 arg9 harg9 hc0 hc1 hc2 hc3 hc4 d z w ps gw gs),
    View.read_writes_eq_canon _ _ _ (cover0_H_5 c i arg3 harg3 arg4 harg4 arg5 harg5 arg6 harg6 arg7 harg7 arg8 harg8 arg9 harg9 hc0 hc1 hc2 hc3 hc4 d z w ps gw gs),
    View.read_writes_eq_canon _ _ _ (cover0_H_6 c i arg3 harg3 arg4 harg4 arg5 harg5 arg6 harg6 arg7 harg7 arg8 harg8 arg9 harg9 hc0 hc1 hc2 hc3 hc4 d z w ps gw gs)]
  unfold kernelRun0_H
  dsimp only
  sl_unfold_words
  simp only [View.readAt_eq_ld, harg3.read_unread, harg4.read_unread, harg5.read_unread, harg6.read_unread, harg8.read_unread, harg9.read_unread,
    View.ld_unit_zero (S := S1x2048x256) hz3, View.ld_unit_zero (S := S1x256x256) hz3, View.ld_unit_zero (S := S2048x256) hz2,
    View.ld_unit_zero (S := S1x256) hz2, View.canon_cons_unit_zero (S := S1x2048x256) hz3,
    View.canon_cons_unit_zero (S := S1x256x256) hz3, View.canon_cons_unit_zero (S := S1x256) hz2]
  exact ⟨rfl, rfl, rfl⟩

end Cert.PoolIdeal.Value

end
-- ==== Proof.PoolArray.lean ====
/-
  The pooling's gradient over the whole arrays: which entries of the arguments each grid point reads, and what the three
  results hold after the run.
-/
module

public import proofs.«01_k».proof.Proof.PoolBlock

@[expose] public section

noncomputable section

namespace Cert.PoolIdeal.Value

open Cert.PoolIdeal Cert.PoolIdeal.Gen Idealize.ShloMosaic Idealize.ShloMosaic.TcCoe Idealize.SL.Sem
open Idealize.ShloMosaic.Pipeline (Dat)
open Cert.Conv3 (tok)
open Cert.PoolSpec (col zcol)

variable (m : (ℓ : Loc nD τ sig) → Buf (Elt Ideal) ℓ) (c : Dev nD)

/-- The arguments as arrays of extended reals. -/
abbrev aO : (⟨3, ![6, 4096, 1024]⟩ : Shape).Idx → EReal := m ((c : Thread nD τ).loc main_arg0)
abbrev aD : (⟨3, ![2, 4096, 1024]⟩ : Shape).Idx → EReal := m ((c : Thread nD τ).loc main_arg1)
abbrev aZ : (⟨2, ![4096, 6144]⟩ : Shape).Idx → EReal := m ((c : Thread nD τ).loc main_arg2)
abbrev aW : (⟨3, ![4, 256, 256]⟩ : Shape).Idx → EReal := m ((c : Thread nD τ).loc main_arg3)
abbrev aS : (⟨2, ![1, 1024]⟩ : Shape).Idx → EReal := m ((c : Thread nD τ).loc main_arg4)

/-- The group and the sequence of a grid point, and the point of a group and a sequence. -/
def grp (t : Fin cfg0.N) : Fin 4 := ⟨t.val / 2, by have h : t.val < 8 := t.isLt.trans_eq N_0; omega⟩
def sqn (t : Fin cfg0.N) : Fin 2 := ⟨t.val % 2, Nat.mod_lt _ (by decide)⟩
def pt (g : Fin 4) (b : Fin 2) : Fin cfg0.N := ⟨g.val * 2 + b.val, by rw [show cfg0.N = 8 from N_0]; omega⟩

theorem grp_pt (g : Fin 4) (b : Fin 2) : grp (pt g b) = g := Fin.ext (by show (g.val * 2 + b.val) / 2 = g.val; omega)
theorem sqn_pt (g : Fin 4) (b : Fin 2) : sqn (pt g b) = b := Fin.ext (by show (g.val * 2 + b.val) % 2 = b.val; omega)

/-! ### The blocks a grid point reads and writes -/

theorem index0 : ∀ t : Fin cfg0.N, win0_0.index t 0 = 0 ∧ win0_0.index t 1 = t.val % 2 ∧ win0_0.index t 2 = t.val / 2 :=
  (by decide +kernel : ∀ t : Fin grid0.N, win0_0.index t 0 = 0 ∧ win0_0.index t 1 = t.val % 2 ∧ win0_0.index t 2 = t.val / 2)
theorem index1 : ∀ t : Fin cfg0.N, win0_1.index t 0 = t.val % 2 ∧ win0_1.index t 1 = t.val / 2 :=
  (by decide +kernel : ∀ t : Fin grid0.N, win0_1.index t 0 = t.val % 2 ∧ win0_1.index t 1 = t.val / 2)
theorem index2 : ∀ t : Fin cfg0.N, win0_2.index t 0 = t.val / 2 ∧ win0_2.index t 1 = 0 ∧ win0_2.index t 2 = 0 :=
  (by decide +kernel : ∀ t : Fin grid0.N, win0_2.index t 0 = t.val / 2 ∧ win0_2.index t 1 = 0 ∧ win0_2.index t 2 = 0)
theorem index3 : ∀ t : Fin cfg0.N, win0_3.index t 0 = 0 ∧ win0_3.index t 1 = t.val / 2 :=
  (by decide +kernel : ∀ t : Fin grid0.N, win0_3.index t 0 = 0 ∧ win0_3.index t 1 = t.val / 2)
theorem index4 : ∀ t : Fin cfg0.N, win0_4.index t 0 = 3 ∧ win0_4.index t 1 = t.val % 2 ∧ win0_4.index t 2 = t.val / 2 :=
  (by decide +kernel : ∀ t : Fin grid0.N, win0_4.index t 0 = 3 ∧ win0_4.index t 1 = t.val % 2 ∧ win0_4.index t 2 = t.val / 2)
theorem index5 : ∀ t : Fin cfg0.N, win0_5.index t 0 = t.val / 2 ∧ win0_5.index t 1 = 0 ∧ win0_5.index t 2 = 0 :=
  (by decide +kernel : ∀ t : Fin grid0.N, win0_5.index t 0 = t.val / 2 ∧ win0_5.index t 1 = 0 ∧ win0_5.index t 2 = 0)
theorem index6 : ∀ t : Fin cfg0.N, win0_6.index t 0 = 0 ∧ win0_6.index t 1 = t.val / 2 :=
  (by decide +kernel : ∀ t : Fin grid0.N, win0_6.index t 0 = 0 ∧ win0_6.index t 1 = t.val / 2)

theorem iblk0 (t : Fin cfg0.N) (s : Fin 2048) (l : Fin 256) :
    (iblk m c 0 t : Vec Ideal S1x2048x256 .bf16) (ix3 0 s l) = aD m c (ix3 0 (tok (sqn t) s) (col (grp t) l)) := by
  unfold iblk
  rw [View.read_apply]
  show V m c main_arg1 _ = m _ _
  rw [V_main_arg1]
  congr 1
  funext a
  apply Fin.ext
  match a with
  | ⟨0, _⟩ => show win0_0.index t 0 * 1 + 1 * 0 = 0; rw [(index0 t).1]
  | ⟨1, _⟩ => show win0_0.index t 1 * 2048 + 1 * s.val = t.val % 2 * 2048 + s.val; rw [(index0 t).2.1]; omega
  | ⟨2, _⟩ => show win0_0.index t 2 * 256 + 1 * l.val = t.val / 2 * 256 + l.val; rw [(index0 t).2.2]; omega

theorem iblk1 (t : Fin cfg0.N) (s : Fin 2048) (l : Fin 256) :
    (iblk m c 1 t : Vec Ideal S2048x256 .bf16) (ix2 s l) = aZ m c (ix2 (tok (sqn t) s) (zcol (grp t) l)) := by
  unfold iblk
  rw [View.read_apply]
  show V m c main_arg2 _ = m _ _
  rw [V_main_arg2]
  congr 1
  funext a
  apply Fin.ext
  match a with
  | ⟨0, _⟩ => show win0_1.index t 0 * 2048 + 1 * s.val = t.val % 2 * 2048 + s.val; rw [(index1 t).1]; omega
  | ⟨1, _⟩ => show win0_1.index t 1 * 256 + 1 * l.val = t.val / 2 * 256 + l.val; rw [(index1 t).2]; omega

theorem iblk2 (t : Fin cfg0.N) (k l : Fin 256) :
    (iblk m c 2 t : Vec Ideal S1x256x256 .bf16) (ix3 0 k l) = aW m c (ix3 (grp t) k l) := by
  unfold iblk
  rw [View.read_apply]
  show V m c main_arg3 _ = m _ _
  rw [V_main_arg3]
  congr 1
  funext a
  apply Fin.ext
  match a with
  | ⟨0, _⟩ => show win0_2.index t 0 * 1 + 1 * 0 = t.val / 2; rw [(index2 t).1]; omega
  | ⟨1, _⟩ => show win0_2.index t 1 * 256 + 1 * k.val = k.val; rw [(index2 t).2.1]; omega
  | ⟨2, _⟩ => show win0_2.index t 2 * 256 + 1 * l.val = l.val; rw [(index2 t).2.2]; omega

theorem iblk3 (t : Fin cfg0.N) (l : Fin 256) :
    (iblk m c 3 t : Vec Ideal S1x256 .f32) (ix2 0 l) = aS m c (ix2 0 (col (grp t) l)) := by
  unfold iblk
  rw [View.read_apply]
  show V m c main_arg4 _ = m _ _
  rw [V_main_arg4]
  congr 1
  funext a
  apply Fin.ext
  match a with
  | ⟨0, _⟩ => show win0_3.index t 0 * 1 + 1 * 0 = 0; rw [(index3 t).1]
  | ⟨1, _⟩ => show win0_3.index t 1 * 256 + 1 * l.val = t.val / 2 * 256 + l.val; rw [(index3 t).2]; omega

/-! ### What the points leave -/

/-- The three vectors of a point, from what the two accumulated results held before it. -/
def left (t : Fin cfg0.N) (gw : Vec Ideal S1x256x256 .f32) (gs : Vec Ideal S1x256 .f32) :
    Vec Ideal S1x2048x256 .bf16 × Vec Ideal S1x256x256 .f32 × Vec Ideal S1x256 .f32 :=
  (gradZV (t.val / 2 + 1) (iblk m c 0 t) (iblk m c 2 t) (iblk m c 3 t),
    gradWV (t.val / 2 + 1) (iblk m c 1 t) (iblk m c 0 t) (iblk m c 3 t) gw,
    gradSV (t.val / 2 + 1) (iblk m c 1 t) (iblk m c 0 t) (iblk m c 2 t) gs)

theorem left_of {t : Fin cfg0.N} {j : ℕ} (hj : t.val / 2 + 1 = j) {gw : Vec Ideal S1x256x256 .f32} {gs : Vec Ideal S1x256 .f32}
    {p : Vec Ideal S1x2048x256 .bf16} {q : Vec Ideal S1x256x256 .f32} {r : Vec Ideal S1x256 .f32}
    (h : p = gradZV j (iblk m c 0 t) (iblk m c 2 t) (iblk m c 3 t)
      ∧ q = gradWV j (iblk m c 1 t) (iblk m c 0 t) (iblk m c 3 t) gw
      ∧ r = gradSV j (iblk m c 1 t) (iblk m c 0 t) (iblk m c 2 t) gs) : (p, q, r) = left m c t gw gs := by
  subst hj
  rw [h.1, h.2.1, h.2.2]
  rfl

/-- A group's first point starts from zeros. -/
theorem outs_first (t : Fin cfg0.N) (h0 : t.val % 2 = 0) : outsAt0 m c t.val t.isLt = left m c t gw0 gs0 := by
  have ht : t.val < 8 := t.isLt.trans_eq N_0
  obtain h | h | h | h : t.val / 2 = 0 ∨ t.val / 2 = 1 ∨ t.val / 2 = 2 ∨ t.val / 2 = 3 := by omega
  · refine (outsAt0_A m c t h0 (by omega) (by omega) (by omega) (by omega)).trans (left_of m c (show t.val / 2 + 1 = 1 by omega) ?_)
    exact out_A _ _ _ _ c _ _ _ _ _ _ _ _ _ _ _ _ _ _ _ _ _ _ _ _
  · refine (outsAt0_C m c t h0 (by omega) (by omega) (by omega) (by omega)).trans (left_of m c (show t.val / 2 + 1 = 2 by omega) ?_)
    exact out_C _ _ _ _ c _ _ _ _ _ _ _ _ _ _ _ _ _ _ _ _ _ _ _ _
  · refine (outsAt0_E m c t h0 (by omega) (by omega) (by omega) (by omega)).trans (left_of m c (show t.val / 2 + 1 = 3 by omega) ?_)
    exact out_E _ _ _ _ c _ _ _ _ _ _ _ _ _ _ _ _ _ _ _ _ _ _ _ _
  · refine (outsAt0_G m c t h0 (by omega) (by omega) (by omega) (by omega)).trans (left_of m c (show t.val / 2 + 1 = 4 by omega) ?_)
    exact out_G _ _ _ _ c _ _ _ _ _ _ _ _ _ _ _ _ _ _ _ _ _ _ _ _

/-- Its second point starts from what the first left. -/
theorem outs_second (t : Fin cfg0.N) (h0 : ¬ t.val % 2 = 0) (h' : t.val - 1 < cfg0.N) :
    outsAt0 m c t.val t.isLt = left m c t (outsAt0 m c (t.val - 1) h').2.1 (outsAt0 m c (t.val - 1) h').2.2 := by
  have ht : t.val < 8 := t.isLt.trans_eq N_0
  obtain h | h | h | h : t.val / 2 = 0 ∨ t.val / 2 = 1 ∨ t.val / 2 = 2 ∨ t.val / 2 = 3 := by omega
  · refine (outsAt0_B m c t h0 (by omega) (by omega) (by omega) (by omega)).trans (left_of m c (show t.val / 2 + 1 = 1 by omega) ?_)
    exact out_B _ _ _ _ _ _ c _ _ _ _ _ _ _ _ _ _ _ _ _ _ _ _ _ _ _ _
  · refine (outsAt0_D m c t h0 (by omega) (by omega) (by omega) (by omega)).trans (left_of m c (show t.val / 2 + 1 = 2 by omega) ?_)
    exact out_D _ _ _ _ _ _ c _ _ _ _ _ _ _ _ _ _ _ _ _ _ _ _ _ _ _ _
  · refine (outsAt0_F m c t h0 (by omega) (by omega) (by omega) (by omega)).trans (left_of m c (show t.val / 2 + 1 = 3 by omega) ?_)
    exact out_F _ _ _ _ _ _ c _ _ _ _ _ _ _ _ _ _ _ _ _ _ _ _ _ _ _ _
  · refine (outsAt0_H m c t h0 (by omega) (by omega) (by omega) (by omega)).trans (left_of m c (show t.val / 2 + 1 = 4 by omega) ?_)
    exact out_H _ _ _ _ _ _ c _ _ _ _ _ _ _ _ _ _ _ _ _ _ _ _ _ _ _ _

theorem pow_grp (t : Fin cfg0.N) : 2 ^ (t.val / 2 + 1) = PoolSpec.win (grp t) := rfl
theorem grp_le (t : Fin cfg0.N) : t.val / 2 + 1 ≤ 11 := by have h : t.val < 8 := t.isLt.trans_eq N_0; omega

theorem left1 (t : Fin cfg0.N) (gw gs) (s : Fin 2048) (l : Fin 256) :
    (left m c t gw gs).1 (ix3 0 s l) = PoolSpec.gradZ (aD m c) (aW m c) (aS m c) (grp t) (sqn t) l s := by
  refine (gradZV_apply _ _ _ _ (grp_le t) s l).trans ?_
  simp only [iblk0, iblk2, iblk3, pow_grp]
  rfl

theorem left2 (t : Fin cfg0.N) (gw gs) (k l : Fin 256) :
    (left m c t gw gs).2.1 (ix3 0 k l)
      = gw (ix3 0 k l) + PoolSpec.partW (aD m c) (aZ m c) (aS m c) (grp t) k l (sqn t) := by
  refine (gradWV_apply _ _ _ _ _ (grp_le t) k l).trans ?_
  simp only [iblk0, iblk1, iblk3, pow_grp]
  rfl

theorem left3 (t : Fin cfg0.N) (gw gs) (l : Fin 256) :
    (left m c t gw gs).2.2 (ix2 0 l)
      = gs (ix2 0 l) + PoolSpec.partS (aD m c) (aZ m c) (aW m c) (grp t) l (sqn t) := by
  refine (gradSV_apply _ _ _ _ _ (grp_le t) l).trans ?_
  simp only [iblk0, iblk1, iblk2, pow_grp]
  rfl

theorem outs_eq (t : Fin cfg0.N) : ∃ gw gs, outsAt0 m c t.val t.isLt = left m c t gw gs := by
  by_cases h0 : t.val % 2 = 0
  · exact ⟨_, _, outs_first m c t h0⟩
  · exact ⟨_, _, outs_second m c t h0 (Nat.lt_of_le_of_lt (Nat.sub_le _ _) t.isLt)⟩

theorem outs_last (g : Fin 4) : outsAt0 m c (pt g 1).val (pt g 1).isLt
    = left m c (pt g 1) (left m c (pt g 0) gw0 gs0).2.1 (left m c (pt g 0) gw0 gs0).2.2 := by
  have e := outs_second m c (pt g 1) (by show ¬ (g.val * 2 + 1) % 2 = 0; omega) (pt g 0).isLt
  rw [e]
  refine congrArg₂ (left m c (pt g 1)) ?_ ?_
  · exact congrArg (fun p => p.2.1) (outs_first m c (pt g 0) (by show (g.val * 2 + 0) % 2 = 0; omega))
  · exact congrArg (fun p => p.2.2) (outs_first m c (pt g 0) (by show (g.val * 2 + 0) % 2 = 0; omega))

theorem gw0_apply (k l : Fin 256) : gw0 (ix3 0 k l) = 0 := by
  unfold gw0 k0_pay1
  pointwise
theorem gs0_apply (l : Fin 256) : gs0 (ix2 0 l) = 0 := by
  unfold gs0 k0_pay2
  pointwise

theorem outs5 (g : Fin 4) (k l : Fin 256) :
    (outsAt0 m c (pt g 1).val (pt g 1).isLt).2.1 (ix3 0 k l) = PoolSpec.gradW (aD m c) (aZ m c) (aS m c) g k l := by
  rw [outs_last, left2, left2, gw0_apply, zero_add]
  simp only [grp_pt, sqn_pt]
  exact (Fin.sum_univ_two _).symm

theorem outs6 (g : Fin 4) (l : Fin 256) :
    (outsAt0 m c (pt g 1).val (pt g 1).isLt).2.2 (ix2 0 l) = PoolSpec.gradS (aD m c) (aZ m c) (aW m c) g l := by
  rw [outs_last, left3, left3, gs0_apply, zero_add]
  simp only [grp_pt, sqn_pt]
  exact (Fin.sum_univ_two _).symm

/-! ### The results after the run -/

theorem final4 (g : Fin 4) (b : Fin 2) (s : Fin 2048) (l : Fin 256) :
    ((dats m 0 c).arrAt 4 cfg0.N : (⟨3, ![6, 4096, 1024]⟩ : Shape).Idx → EReal) (ix3 3 (tok b s) (col g l))
      = PoolSpec.gradZ (aD m c) (aW m c) (aS m c) g b l s := by
  have e := (dats m 0 c).arrAt_emb_eq_flushed 4 disjoint4 (pt g b) (flush0_4 (pt g b)) (ix3 0 s l)
  have ei : ((cfg0.win 4).blk (pt g b)).view.emb (ix3 0 s l) = ix3 3 (tok b s) (col g l) := by
    funext a
    apply Fin.ext
    match a with
    | ⟨0, _⟩ => show win0_4.index (pt g b) 0 * 1 + 1 * 0 = 3; rw [(index4 _).1]
    | ⟨1, _⟩ =>
      show win0_4.index (pt g b) 1 * 2048 + 1 * s.val = b.val * 2048 + s.val
      rw [(index4 _).2.1]; show (g.val * 2 + b.val) % 2 * 2048 + _ = _; omega
    | ⟨2, _⟩ =>
      show win0_4.index (pt g b) 2 * 256 + 1 * l.val = g.val * 256 + l.val
      rw [(index4 _).2.2]; show (g.val * 2 + b.val) / 2 * 256 + _ = _; omega
  rw [ei] at e
  refine e.trans ?_
  rw [cast_eq, flushed4]
  obtain ⟨gw, gs, h⟩ := outs_eq m c (pt g b)
  refine (congrFun (congrArg Prod.fst h) _).trans ((left1 m c (pt g b) gw gs s l).trans ?_)
  rw [grp_pt, sqn_pt]

/-- The other planes are the first argument's. -/
theorem final4_kept (p : Fin 6) (hp : p.val ≠ 3) (r : Fin 4096) (k : Fin 1024) :
    ((dats m 0 c).arrAt 4 cfg0.N : (⟨3, ![6, 4096, 1024]⟩ : Shape).Idx → EReal) (ix3 p r k) = aO m c (ix3 p r k) := by
  refine (entry4 m c _ fun t _ hi => hp ?_).trans rfl
  have hi : ix3 p r k ∈ ((View.whole main_v0_0).slice (win0_4.rect t)).set := hi
  rw [View.set_slice_whole, Rect.mem_set_unit] at hi
  have h1 : win0_4.index t 0 * 1 ≤ p.val := (hi 0).1
  have h2 : p.val < win0_4.index t 0 * 1 + 1 := (hi 0).2
  rw [(index4 t).1] at h1 h2
  omega

theorem disjoint_last {w : Fin 7} (hk : (cfg0.win w).kind = Pipeline.WinKind.blocked) (hf : ∀ t : Fin cfg0.N, (cfg0.win w).flush t = true ↔ t.val % 2 = 1)
    (hi : ∀ t t' : Fin cfg0.N, (cfg0.win w).index t = (cfg0.win w).index t' → t.val / 2 = t'.val / 2) :
    ∀ t t' : Fin cfg0.N, (cfg0.win w).flush t = true → (cfg0.win w).flush t' = true → t ≠ t' →
      Disjoint ((cfg0.win w).blk t).view.set ((cfg0.win w).blk t').view.set :=
  fun t t' h h' hne => (cfg0.win w).disjoint_blk (hk := hk) fun e => hne (Fin.ext (by
    have a := (hf t).mp h
    have a' := (hf t').mp h'
    have b := hi t t' e
    omega))

theorem final5 (g : Fin 4) (k l : Fin 256) :
    ((dats m 0 c).arrAt 5 cfg0.N : (⟨3, ![4, 256, 256]⟩ : Shape).Idx → EReal) (ix3 g k l)
      = PoolSpec.gradW (aD m c) (aZ m c) (aS m c) g k l := by
  have e := (dats m 0 c).arrAt_emb_eq_flushed 5
    (disjoint_last rfl flush0_5 fun t t' h => (index5 t).1.symm.trans ((congrFun h 0).trans (index5 t').1))
    (pt g 1) ((flush0_5 _).mpr (by show (g.val * 2 + 1) % 2 = 1; omega)) (ix3 0 k l)
  have ei : ((cfg0.win 5).blk (pt g 1)).view.emb (ix3 0 k l) = ix3 g k l := by
    funext a
    apply Fin.ext
    match a with
    | ⟨0, _⟩ =>
      show win0_5.index (pt g 1) 0 * 1 + 1 * 0 = g.val
      rw [(index5 _).1]; show (g.val * 2 + 1) / 2 * 1 + _ = _; omega
    | ⟨1, _⟩ => show win0_5.index (pt g 1) 1 * 256 + 1 * k.val = k.val; rw [(index5 _).2.1]; omega
    | ⟨2, _⟩ => show win0_5.index (pt g 1) 2 * 256 + 1 * l.val = l.val; rw [(index5 _).2.2]; omega
  rw [ei] at e
  refine e.trans ?_
  rw [cast_eq, flushed5]
  exact outs5 m c g k l

theorem final6 (g : Fin 4) (l : Fin 256) :
    ((dats m 0 c).arrAt 6 cfg0.N : (⟨2, ![1, 1024]⟩ : Shape).Idx → EReal) (ix2 0 (col g l))
      = PoolSpec.gradS (aD m c) (aZ m c) (aW m c) g l := by
  have e := (dats m 0 c).arrAt_emb_eq_flushed 6
    (disjoint_last rfl flush0_6 fun t t' h => (index6 t).2.symm.trans ((congrFun h 1).trans (index6 t').2))
    (pt g 1) ((flush0_6 _).mpr (by show (g.val * 2 + 1) % 2 = 1; omega)) (ix2 0 l)
  have ei : ((cfg0.win 6).blk (pt g 1)).view.emb (ix2 0 l) = ix2 0 (col g l) := by
    funext a
    apply Fin.ext
    match a with
    | ⟨0, _⟩ => show win0_6.index (pt g 1) 0 * 1 + 1 * 0 = 0; rw [(index6 _).1]
    | ⟨1, _⟩ =>
      show win0_6.index (pt g 1) 1 * 256 + 1 * l.val = g.val * 256 + l.val
      rw [(index6 _).2]; show (g.val * 2 + 1) / 2 * 256 + _ = _; omega
  rw [ei] at e
  refine e.trans ?_
  rw [cast_eq, flushed6]
  exact outs6 m c g l

end Cert.PoolIdeal.Value

end
-- ==== Proof.Cumsum.lean ====
/-
  A host program's cumulative sum along the middle axis of a rank-three array, forwards and backwards: it is printed as a sum
  over a window of the whole axis, padded with zeros on one side.
-/
module

public import proofs.«01_k».proof.Proof.PoolSpec

@[expose] public section

noncomputable section

namespace Cert.Cumsum

open Idealize.ShloMosaic

theorem foldl_sum {ι : Type} (g : ι → EReal) : ∀ (L : List ι) (v : EReal), L.foldl (fun r k => r + g k) v = v + (L.map g).sum
  | [], v => (add_zero v).symm
  | k :: L, v => by rw [List.foldl_cons, foldl_sum g L, List.map_cons, List.sum_cons, add_assoc]

abbrev Win (n : ℕ) : Shape := ⟨3, ![1, n, 1]⟩

/-- Adding over the positions of a window one axis wide is a sum over that axis. -/
theorem foldl_window {n : ℕ} (g : (Win n).Idx → EReal) :
    (List.finRange (Win n).numel).foldl (fun r k => r + g ((Win n).rowMajor.symm k)) 0 = ∑ k : Fin n, g (ix3 0 k 0) := by
  rw [foldl_sum (fun k => g ((Win n).rowMajor.symm k)), zero_add, ← Fin.sum_univ_def, Equiv.sum_comp (Win n).rowMajor.symm g]
  refine (Finset.sum_bij (fun (k : Fin n) _ => (ix3 0 k 0 : (Win n).Idx)) (fun _ _ => Finset.mem_univ _) (fun p _ q _ e => ?_) ?_
    fun _ _ => rfl).symm
  · exact (congrFun e 1 : (ix3 0 p 0 : (Win n).Idx) 1 = (ix3 0 q 0 : (Win n).Idx) 1)
  intro i _
  refine ⟨i 1, Finset.mem_univ _, ?_⟩
  funext a
  match a with
  | ⟨0, _⟩ => exact Subsingleton.elim (α := Fin 1) _ _
  | ⟨1, _⟩ => rfl
  | ⟨2, _⟩ => exact Subsingleton.elim (α := Fin 1) _ _

variable {n0 n n2 : ℕ} (x : (⟨3, ![n0, n, n2]⟩ : Shape).Idx → EReal) (b : Fin n0) (s : Fin n) (l : Fin n2)

/-- The window's entry that falls on position `p`, if that is one. -/
theorem pick {p : Fin 3 → ℕ} {lo : Fin 3 → ℕ} {q : ℕ} (h0 : p 0 = b.val) (h2 : p 2 = l.val) (l0 : lo 0 = 0) (l2 : lo 2 = 0)
    (h1 : p 1 - lo 1 = q) :
    (if hin : ∀ a, lo a ≤ p a ∧ p a - lo a < (⟨3, ![n0, n, n2]⟩ : Shape).size a then x (fun a => ⟨p a - lo a, (hin a).2⟩) else 0)
      = if h : lo 1 ≤ p 1 ∧ q < n then x (ix3 b ⟨q, h.2⟩ l) else 0 := by
  by_cases h : lo 1 ≤ p 1 ∧ q < n
  · rw [dif_pos h, dif_pos]
    · refine congrArg x (funext fun a => Fin.ext ?_)
      match a with
      | ⟨0, _⟩ => show p 0 - lo 0 = b.val; omega
      | ⟨1, _⟩ => exact h1
      | ⟨2, _⟩ => show p 2 - lo 2 = l.val; omega
    · intro a
      match a with
      | ⟨0, _⟩ => exact ⟨by show lo 0 ≤ p 0; omega, by show p 0 - lo 0 < n0; omega⟩
      | ⟨1, _⟩ => exact ⟨h.1, by show p 1 - lo 1 < n; omega⟩
      | ⟨2, _⟩ => exact ⟨by show lo 2 ≤ p 2; omega, by show p 2 - lo 2 < n2; omega⟩
  · rw [dif_neg h, dif_neg]
    intro hin
    exact h ⟨(hin 1).1, h1 ▸ (hin 1).2⟩

/-- A padded windowed sum along the middle axis, term by term. -/
theorem window_sum (lo hi : Fin 3 → ℕ) (l0 : lo 0 = 0) (l2 : lo 2 = 0)
    (h : (⟨3, ![n0, n, n2]⟩ : Shape).ReduceWindows ![1, n, 1] ![1, 1, 1] lo hi ⟨3, ![n0, n, n2]⟩) :
    Ideal.hostReduceWindowAdd ![1, n, 1] ![1, 1, 1] lo hi h x 0 (ix3 b s l)
      = ∑ k : Fin n, if h : lo 1 ≤ s.val + k.val ∧ s.val + k.val - lo 1 < n then x (ix3 b ⟨s.val + k.val - lo 1, h.2⟩ l) else 0 := by
  unfold Ideal.hostReduceWindowAdd Host.reduceWindow
  let p (i : (Win n).Idx) (a : Fin 3) : ℕ := (ix3 b s l a).val * (![1, 1, 1] : Fin 3 → ℕ) a + (i a).val
  let g (i : (Win n).Idx) : EReal :=
    if hin : ∀ a, lo a ≤ p i a ∧ p i a - lo a < (⟨3, ![n0, n, n2]⟩ : Shape).size a then x (fun a => ⟨p i a - lo a, (hin a).2⟩) else 0
  refine ((congrArg (fun f => List.foldl f (0 : EReal) (List.finRange (Win n).numel)) (funext fun r => funext fun k => ?_)).trans
    (foldl_window (n := n) g)).trans
    (Finset.sum_congr rfl fun k _ => ?_)
  · exact congrArg (r + ·) (dite_congr rfl (fun _ => rfl) fun _ => rfl)
  have e1 : s.val * 1 + k.val = s.val + k.val := by rw [Nat.mul_one]
  refine (pick x b l (p := p (ix3 0 k 0)) (lo := lo)
    (q := s.val + k.val - lo 1) (Nat.mul_one _) (Nat.mul_one _) l0 l2 (congrArg (· - lo 1) e1)).trans ?_
  exact dite_congr (congrArg (fun t => lo 1 ≤ t ∧ _) e1) (fun _ => rfl) fun _ => rfl

/-- The cumulative sum. -/
theorem forward {m : ℕ} (hm : m + 1 = n) {u : Shape} (init : FVec Ideal u .f32) (h0 : ∀ i, init i = 0) (hu : 0 < u.numel)
    (h : (⟨3, ![n0, n, n2]⟩ : Shape).ReduceWindows ![1, n, 1] ![1, 1, 1] ![0, m, 0] ![0, 0, 0] ⟨3, ![n0, n, n2]⟩) :
    Host.reduceWindowAdd (F := Ideal) (φ := .f32) ![1, n, 1] ![1, 1, 1] ![0, m, 0] ![0, 0, 0] x init h hu (ix3 b s l)
      = Shift.winD n (fun t => x (ix3 b t l)) s := by
  show Ideal.hostReduceWindowAdd ![1, n, 1] ![1, 1, 1] ![0, m, 0] ![0, 0, 0] h x (init _) (ix3 b s l) = _
  rw [h0, window_sum x b s l _ _ rfl rfl h]
  unfold Shift.winD
  rw [← Finset.sum_range_reflect, Finset.sum_range]
  refine Finset.sum_congr rfl fun k _ => ?_
  show (if h : m ≤ s.val + k.val ∧ s.val + k.val - m < n then x (ix3 b ⟨s.val + k.val - m, h.2⟩ l) else 0) = _
  unfold Shift.dn
  by_cases hk : n - 1 - k.val ≤ s.val
  · rw [if_pos hk, dif_pos ⟨by omega, by omega⟩]
    exact congrArg (fun t => x (ix3 b t l)) (Fin.ext (by show s.val + k.val - m = s.val - (n - 1 - k.val); omega))
  · rw [if_neg hk, dif_neg (by omega)]

/-- The cumulative sum from the end. -/
theorem backward {m : ℕ} {u : Shape} (init : FVec Ideal u .f32) (h0 : ∀ i, init i = 0) (hu : 0 < u.numel)
    (h : (⟨3, ![n0, n, n2]⟩ : Shape).ReduceWindows ![1, n, 1] ![1, 1, 1] ![0, 0, 0] ![0, m, 0] ⟨3, ![n0, n, n2]⟩) :
    Host.reduceWindowAdd (F := Ideal) (φ := .f32) ![1, n, 1] ![1, 1, 1] ![0, 0, 0] ![0, m, 0] x init h hu (ix3 b s l)
      = Shift.winU n (fun t => x (ix3 b t l)) s := by
  show Ideal.hostReduceWindowAdd ![1, n, 1] ![1, 1, 1] ![0, 0, 0] ![0, m, 0] h x (init _) (ix3 b s l) = _
  rw [h0, window_sum x b s l _ _ rfl rfl h]
  unfold Shift.winU
  rw [Finset.sum_range]
  refine Finset.sum_congr rfl fun k _ => ?_
  show (if h : 0 ≤ s.val + k.val ∧ s.val + k.val - 0 < n then x (ix3 b ⟨s.val + k.val - 0, h.2⟩ l) else 0) = _
  unfold Shift.up
  by_cases hk : s.val + k.val < n
  · rw [dif_pos hk, dif_pos ⟨Nat.zero_le _, hk⟩]
    rfl
  · rw [dif_neg hk, dif_neg (by omega)]

end Cert.Cumsum

end
-- ==== Proof.PoolRef.lean ====
/-
  What the reference of the pooling's gradient computes, read at an index from its arguments.
-/
module

public import proofs.«01_k».proof.Proof.Cumsum
public import proofs.«01_k».proof.Proof.HostSum
public import proofs.«01_k».proof.Proof.Preds
public import proofs.«01_k».proof.Proof.Gen.PoolRefIdeal.Read
public import Idealize.ShloMosaic.Lib.Pointwise

@[expose] public section

noncomputable section

namespace Cert.PoolRefIdeal.Value

open Cert.PoolRefIdeal Cert.PoolRefIdeal.Gen Cert.PoolRefIdeal.Read Idealize.ShloMosaic Idealize.ShloMosaic.TcCoe Idealize.SL.Sem
open Cert.PoolSpec Cert.Rms Cert.Preds
open Cert.Conv3 (tok)

variable (D : (⟨3, ![2, 4096, 1024]⟩ : Shape).Idx → EReal) (Z : (⟨2, ![4096, 6144]⟩ : Shape).Idx → EReal)
  (W : (⟨3, ![4, 256, 256]⟩ : Shape).Idx → EReal) (S : (⟨2, ![1, 1024]⟩ : Shape).Idx → EReal)

/-! ### What the four groups share -/

/-- The cumulative sum behind `a` rows of zeros and one more. -/
theorem lagged {a w : ℕ} (hw : a + 1 = w) (f : Fin 2048 → EReal) (s : Fin 2048) :
    (if _h : s.val < a then 0 else if _h : s.val - a < 1 then 0 else f ⟨s.val - a - 1, by omega⟩) = Shift.dn w f s := by
  unfold Shift.dn
  by_cases h : w ≤ s.val
  · rw [dif_neg (by omega), dif_neg (by omega), if_pos h]
    exact congrArg f (Fin.ext (by show s.val - a - 1 = s.val - w; omega))
  · rw [if_neg h]
    by_cases h1 : s.val < a
    · rw [dif_pos h1]
    · rw [dif_neg h1, dif_pos (by omega)]

/-- The number of positions in the window that ends at `s`. -/
theorem count (s : Fin 2048) (w : ℕ) (x : EReal) (hx : x = ((w : ℝ) : EReal)) :
    min (FloatOps.sitofp (F := Ideal) .f32 (IntOp.addi 1#32 (BitVec.ofNat 32 s.val))) x = cnt w s := by
  have e : (IntOp.addi 1#32 (BitVec.ofNat 32 s.val)).toInt = (s.val + 1 : ℕ) := by
    rw [show IntOp.addi 1#32 (BitVec.ofNat 32 s.val) = BitVec.ofNat 32 (1 + s.val) from (BitVec.ofNat_add ..).symm,
      BitVec.toInt_eq_toNat_of_lt] <;> simp [BitVec.toNat_ofNat] <;> omega
  show min (((IntOp.addi 1#32 (BitVec.ofNat 32 s.val)).toInt : ℝ) : EReal) x = _
  rw [e, hx, Int.cast_natCast]
  unfold cnt
  rw [Nat.cast_min]
  exact (EReal.coe_strictMono.monotone.map_min).symm

theorem k2 : Ideal.ofBits .f32 1073741824#32 = ((2 : ℕ) : ℝ) := by
  simp [Ideal.ofBits, Ideal.ieee, -EReal.coe_mul]; norm_num
theorem k4 : Ideal.ofBits .f32 1082130432#32 = ((4 : ℕ) : ℝ) := by
  simp [Ideal.ofBits, Ideal.ieee, -EReal.coe_mul]; norm_num
theorem k8 : Ideal.ofBits .f32 1090519040#32 = ((8 : ℕ) : ℝ) := by
  simp [Ideal.ofBits, Ideal.ieee, -EReal.coe_mul]; norm_num
theorem k16 : Ideal.ofBits .f32 1098907648#32 = ((16 : ℕ) : ℝ) := by
  simp [Ideal.ofBits, Ideal.ieee, -EReal.coe_mul]; norm_num

/-- A difference of two cumulative sums is the window's sum. -/
theorem mean_of (w : ℕ) {f : Fin 2048 → EReal} (hf : ∀ s, IsReal (f s)) (s : Fin 2048) :
    Ideal.div (Shift.winD 2048 f s - Shift.dn w (Shift.winD 2048 f) s) (cnt w s) - f s = mean w f s := by
  rw [Shift.winD_sub w hf]
  rfl

/-! ### The pooled channels -/

/-- The channels the windows are taken over are real numbers. -/
def Pooled1 : Prop := ∀ (r : Fin 4096) (k : Fin 1024), IsReal (Z (ix2 r ⟨k.val, by omega⟩))

variable {Z} in
theorem Pooled1.at_zcol (hZ : Pooled1 Z) (r : Fin 4096) (g : Fin 4) (l : Fin 256) : IsReal (Z (ix2 r (zcol g l))) := hZ r (col g l)

theorem v2 (b : Fin 2) (s : Fin 2048) (k : Fin 1024) :
    val_main_v2 (F := Ideal) Z (ix3 b s k) = Z (ix2 (tok b s) ⟨k.val, by omega⟩) := by
  unfold val_main_v2 val_main_v1 val_main_v0
  pointwise
  rfl

theorem v12 (b : Fin 2) (s : Fin 2048) (l : Fin 256) : val_main_v12 (F := Ideal) Z (ix3 b s l) = Z (ix2 (tok b s) (zcol 0 l)) := by
  unfold val_main_v12
  pointwise [v2]
  exact congrArg (fun k => Z (ix2 (tok b s) k)) (Fin.ext (by show _ = 0 * 256 + l.val; dsimp only; omega))

theorem v14 (b : Fin 2) (l : Fin 256) : (fun s => val_main_v14 (F := Ideal) Z (ix3 b s l)) = Shift.winD 2048 (fun t => Z (ix2 (tok b t) (zcol 0 l))) := by
  have e : (fun t => Z (ix2 (tok b t) (zcol 0 l))) = fun t => val_main_v12 (F := Ideal) Z (ix3 b t l) := funext fun t => (v12 Z b t l).symm
  rw [e]
  unfold val_main_v14
  generalize val_main_v12 (F := Ideal) Z = x
  exact funext fun s => Cumsum.forward (n0 := 2) (n := 2048) (n2 := 256) (m := 2047) x b s l (by norm_num) (val_main_call0_call0_v0 (F := Ideal))
    (fun i => (val_main_call0_call0_v0_apply i).trans (Ideal.ofBits_zero .f32)) h_S_ reduceWindows_S2x2048x256_S2x2048x256_w1s1p0_0_w2048s1p2047_0_w1s1p0_0

theorem v24 (s : Fin 2048) : val_main_v24 (F := Ideal) (ix3 0 s 0) = cnt 2 s := by
  unfold val_main_v24 val_main_v23 val_main_v22 val_main_v11 val_main_v10 val_main_v9 val_main_v8 val_main_c val_main_cst_3
  pointwise
  exact count s 2 _ k2

theorem v28 (hZ : Pooled1 Z) (b : Fin 2) (s : Fin 2048) (l : Fin 256) :
    val_main_v28 (F := Ideal) Z (ix3 b s l) = pooled Z 0 b l s := by
  rw [show pooled Z 0 b l s = _ from (mean_of 2 (fun t => hZ.at_zcol (tok b t) 0 l) s).symm, ← v14, ← lagged (a := 1) (by norm_num)]
  unfold val_main_v28 val_main_v27 val_main_v26 val_main_v25 val_main_v17 val_main_v20 val_main_v19 val_main_v18 val_main_v15 val_main_v13 val_main_cst val_main_cst_1
  pointwise [v12, v24]

theorem v29 (b : Fin 2) (s : Fin 2048) (l : Fin 256) : val_main_v29 (F := Ideal) Z (ix3 b s l) = Z (ix2 (tok b s) (zcol 1 l)) := by
  unfold val_main_v29
  pointwise [v2]
  rfl

theorem v31 (b : Fin 2) (l : Fin 256) : (fun s => val_main_v31 (F := Ideal) Z (ix3 b s l)) = Shift.winD 2048 (fun t => Z (ix2 (tok b t) (zcol 1 l))) := by
  have e : (fun t => Z (ix2 (tok b t) (zcol 1 l))) = fun t => val_main_v29 (F := Ideal) Z (ix3 b t l) := funext fun t => (v29 Z b t l).symm
  rw [e]
  unfold val_main_v31
  generalize val_main_v29 (F := Ideal) Z = x
  exact funext fun s => Cumsum.forward (n0 := 2) (n := 2048) (n2 := 256) (m := 2047) x b s l (by norm_num) (val_main_call1_call0_v0 (F := Ideal))
    (fun i => (val_main_call1_call0_v0_apply i).trans (Ideal.ofBits_zero .f32)) h_S_ reduceWindows_S2x2048x256_S2x2048x256_w1s1p0_0_w2048s1p2047_0_w1s1p0_0

theorem v41 (s : Fin 2048) : val_main_v41 (F := Ideal) (ix3 0 s 0) = cnt 4 s := by
  unfold val_main_v41 val_main_v40 val_main_v39 val_main_v11 val_main_v10 val_main_v9 val_main_v8 val_main_c val_main_cst_8
  pointwise
  exact count s 4 _ k4

theorem v45 (hZ : Pooled1 Z) (b : Fin 2) (s : Fin 2048) (l : Fin 256) :
    val_main_v45 (F := Ideal) Z (ix3 b s l) = pooled Z 1 b l s := by
  rw [show pooled Z 1 b l s = _ from (mean_of 4 (fun t => hZ.at_zcol (tok b t) 1 l) s).symm, ← v31, ← lagged (a := 3) (by norm_num)]
  unfold val_main_v45 val_main_v44 val_main_v43 val_main_v42 val_main_v34 val_main_v37 val_main_v36 val_main_v35 val_main_v32 val_main_v30 val_main_cst_4 val_main_cst_6
  pointwise [v29, v41]

theorem v46 (b : Fin 2) (s : Fin 2048) (l : Fin 256) : val_main_v46 (F := Ideal) Z (ix3 b s l) = Z (ix2 (tok b s) (zcol 2 l)) := by
  unfold val_main_v46
  pointwise [v2]
  rfl

theorem v48 (b : Fin 2) (l : Fin 256) : (fun s => val_main_v48 (F := Ideal) Z (ix3 b s l)) = Shift.winD 2048 (fun t => Z (ix2 (tok b t) (zcol 2 l))) := by
  have e : (fun t => Z (ix2 (tok b t) (zcol 2 l))) = fun t => val_main_v46 (F := Ideal) Z (ix3 b t l) := funext fun t => (v46 Z b t l).symm
  rw [e]
  unfold val_main_v48
  generalize val_main_v46 (F := Ideal) Z = x
  exact funext fun s => Cumsum.forward (n0 := 2) (n := 2048) (n2 := 256) (m := 2047) x b s l (by norm_num) (val_main_call2_call0_v0 (F := Ideal))
    (fun i => (val_main_call2_call0_v0_apply i).trans (Ideal.ofBits_zero .f32)) h_S_ reduceWindows_S2x2048x256_S2x2048x256_w1s1p0_0_w2048s1p2047_0_w1s1p0_0

theorem v58 (s : Fin 2048) : val_main_v58 (F := Ideal) (ix3 0 s 0) = cnt 8 s := by
  unfold val_main_v58 val_main_v57 val_main_v56 val_main_v11 val_main_v10 val_main_v9 val_main_v8 val_main_c val_main_cst_13
  pointwise
  exact count s 8 _ k8

theorem v62 (hZ : Pooled1 Z) (b : Fin 2) (s : Fin 2048) (l : Fin 256) :
    val_main_v62 (F := Ideal) Z (ix3 b s l) = pooled Z 2 b l s := by
  rw [show pooled Z 2 b l s = _ from (mean_of 8 (fun t => hZ.at_zcol (tok b t) 2 l) s).symm, ← v48, ← lagged (a := 7) (by norm_num)]
  unfold val_main_v62 val_main_v61 val_main_v60 val_main_v59 val_main_v51 val_main_v54 val_main_v53 val_main_v52 val_main_v49 val_main_v47 val_main_cst_9 val_main_cst_11
  pointwise [v46, v58]

theorem v63 (b : Fin 2) (s : Fin 2048) (l : Fin 256) : val_main_v63 (F := Ideal) Z (ix3 b s l) = Z (ix2 (tok b s) (zcol 3 l)) := by
  unfold val_main_v63
  pointwise [v2]
  rfl

theorem v65 (b : Fin 2) (l : Fin 256) : (fun s => val_main_v65 (F := Ideal) Z (ix3 b s l)) = Shift.winD 2048 (fun t => Z (ix2 (tok b t) (zcol 3 l))) := by
  have e : (fun t => Z (ix2 (tok b t) (zcol 3 l))) = fun t => val_main_v63 (F := Ideal) Z (ix3 b t l) := funext fun t => (v63 Z b t l).symm
  rw [e]
  unfold val_main_v65
  generalize val_main_v63 (F := Ideal) Z = x
  exact funext fun s => Cumsum.forward (n0 := 2) (n := 2048) (n2 := 256) (m := 2047) x b s l (by norm_num) (val_main_call3_call0_v0 (F := Ideal))
    (fun i => (val_main_call3_call0_v0_apply i).trans (Ideal.ofBits_zero .f32)) h_S_ reduceWindows_S2x2048x256_S2x2048x256_w1s1p0_0_w2048s1p2047_0_w1s1p0_0

theorem v75 (s : Fin 2048) : val_main_v75 (F := Ideal) (ix3 0 s 0) = cnt 16 s := by
  unfold val_main_v75 val_main_v74 val_main_v73 val_main_v11 val_main_v10 val_main_v9 val_main_v8 val_main_c val_main_cst_18
  pointwise
  exact count s 16 _ k16

theorem v79 (hZ : Pooled1 Z) (b : Fin 2) (s : Fin 2048) (l : Fin 256) :
    val_main_v79 (F := Ideal) Z (ix3 b s l) = pooled Z 3 b l s := by
  rw [show pooled Z 3 b l s = _ from (mean_of 16 (fun t => hZ.at_zcol (tok b t) 3 l) s).symm, ← v65, ← lagged (a := 15) (by norm_num)]
  unfold val_main_v79 val_main_v78 val_main_v77 val_main_v76 val_main_v68 val_main_v71 val_main_v70 val_main_v69 val_main_v66 val_main_v64 val_main_cst_14 val_main_cst_16
  pointwise [v63, v75]

theorem v84 (hZ : Pooled1 Z) (b : Fin 2) (s : Fin 2048) (g : Fin 4) (l : Fin 256) :
    val_main_v84 (F := Ideal) Z (ix4 b s g l) = pooled Z g b l s := by
  unfold val_main_v84 val_main_v83 val_main_v82 val_main_v81 val_main_v80
  pointwise [v28 Z hZ, v45 Z hZ, v62 Z hZ, v79 Z hZ]
  match g with
  | 0 => rfl
  | 1 => rfl
  | 2 => rfl
  | 3 => rfl

/-! ### The scale's gradient -/

theorem v6 (b : Fin 2) (s : Fin 2048) (k : Fin 1024) : val_main_v6 (F := Ideal) D (ix3 b s k) = D (ix3 0 (tok b s) k) := by
  unfold val_main_v6 val_main_v5 val_main_v4 val_main_v3
  pointwise
  rfl

theorem v86 (hZ : Pooled1 Z) (b : Fin 2) (s : Fin 2048) (g : Fin 4) (l : Fin 256) :
    val_main_v86 (F := Ideal) Z W (ix4 b s g l) = lin Z W g b l s := by
  unfold val_main_v86 val_main_v85 val_main_v7
  pointwise [v84 Z hZ]
  exact Finset.sum_congr rfl fun k _ => mul_comm _ _

theorem v87 (hZ : Pooled1 Z) (b : Fin 2) (s : Fin 2048) (g : Fin 4) (l : Fin 256) :
    val_main_v87 (F := Ideal) Z W (ix3 b s (col g l)) = lin Z W g b l s := by
  have e1 : (⟨(col g l).val / 256, by omega⟩ : Fin 4) = g := Fin.ext (by show (g.val * 256 + l.val) / 256 = g.val; omega)
  have e2 : (⟨(col g l).val % 256, by omega⟩ : Fin 256) = l := Fin.ext (by show (g.val * 256 + l.val) % 256 = l.val; omega)
  unfold val_main_v87
  pointwise
  rw [e1, e2]
  exact v86 Z W hZ b s g l

theorem v97 (hZ : Pooled1 Z) (g : Fin 4) (l : Fin 256) :
    val_main_v97 (F := Ideal) D Z W (ix2 0 (col g l)) = gradS D Z W g l := by
  unfold val_main_v97 val_main_v96 val_main_v93 val_main_v92 val_main_v91 val_main_cst_19 val_main_cst_20
  pointwise [HostSum.hostReduceAdd_two, v6, v87 Z W hZ]
  simp only [Finset.univ_unique, Finset.sum_singleton]
  exact Finset.sum_congr rfl fun b _ => Finset.sum_congr rfl fun t _ => mul_comm _ _

/-! ### The weight's gradient -/

theorem v95 (b : Fin 2) (s : Fin 2048) (k : Fin 1024) :
    val_main_v95 (F := Ideal) D S (ix3 b s k) = D (ix3 0 (tok b s) k) * S (ix2 0 k) := by
  unfold val_main_v95 val_main_v94 val_main_v88
  pointwise [v6]

theorem v99 (b : Fin 2) (s : Fin 2048) (g : Fin 4) (l : Fin 256) :
    val_main_v99 (F := Ideal) D S (ix4 g l b s) = scaled D S g b l s := by
  unfold val_main_v99 val_main_v98
  pointwise
  exact v95 D S b s (col g l)

theorem v101 (b : Fin 2) (s : Fin 2048) (g : Fin 4) (l : Fin 256) :
    val_main_v101 (F := Ideal) D W S (ix4 b s g l) = dpool D W S g b l s := by
  unfold val_main_v101 val_main_v100 val_main_v7
  pointwise [v99]
  rfl

theorem v103 (hZ : Pooled1 Z) (g : Fin 4) (k l : Fin 256) :
    val_main_v103 (F := Ideal) D Z S (ix3 g k l) = gradW D Z S g k l := by
  unfold val_main_v103 val_main_v102
  pointwise [v99, v84 Z hZ]
  exact Finset.sum_congr rfl fun b _ => Finset.sum_congr rfl fun t _ => mul_comm _ _

/-! ### Back through the windows -/

/-- The pieces of one group's gradient that the cumulative sums pass back: later by one row minus later by the window. -/
theorem spread {a w m : ℕ} (hw : a + 1 = w) (hm : m + a = 2048) (g : Fin 2048 → EReal) (s : Fin 2048) :
    (if h : 1 + s.val < m then -g ⟨a + (1 + s.val), by omega⟩ else 0) + g s = -Shift.up w g s + g s := by
  unfold Shift.up
  by_cases h : s.val + w < 2048
  · rw [dif_pos (by omega), dif_pos h]
    exact congrArg (fun k => -g k + g s) (Fin.ext (by show a + (1 + s.val) = s.val + w; omega))
  · rw [dif_neg (by omega), dif_neg h, neg_zero]

theorem back_of {w : ℕ} (hw : 0 < w) {d : Fin 2048 → EReal} (hd : ∀ s, IsReal (d s)) (s : Fin 2048) :
    -d s + Shift.winU 2048 (fun t => -Shift.up w (fun t => Ideal.div (d t) (cnt w t)) t + Ideal.div (d t) (cnt w t)) s = back w d s := by
  rw [Shift.winU_sub w fun t => div_cnt_real hw t (hd t), add_comm, ← sub_eq_add_neg]
  rfl

theorem v114 (b : Fin 2) (s : Fin 2048) (l : Fin 256) :
    val_main_v114 (F := Ideal) D W S (ix3 b s l) = Ideal.div (dpool D W S 3 b l s) (cnt 16 s) := by
  unfold val_main_v114 val_main_v113 val_main_v111 val_main_v110
  pointwise [v101, v75]

theorem v122 (b : Fin 2) (s : Fin 2048) (l : Fin 256) :
    val_main_v122 (F := Ideal) D W S (ix3 b s l)
      = -Shift.up 16 (fun t => Ideal.div (dpool D W S 3 b l t) (cnt 16 t)) s + Ideal.div (dpool D W S 3 b l s) (cnt 16 s) := by
  rw [← spread (a := 15) (m := 2033) (by norm_num) (by norm_num)]
  unfold val_main_v122 val_main_v120 val_main_v119 val_main_v118 val_main_v117 val_main_v115 val_main_cst_21 val_main_cst_22
  pointwise [v114]

theorem v124 (hD : Fin1 D) (hW : Fin1 W) (hS : Fin1 S) (b : Fin 2) (s : Fin 2048) (l : Fin 256) :
    val_main_v124 (F := Ideal) D W S (ix3 b s l) = gradZ D W S 3 b l s := by
  have e : val_main_v123 (F := Ideal) D W S (ix3 b s l) = Shift.winU 2048 (fun t => val_main_v122 (F := Ideal) D W S (ix3 b t l)) s := by
    unfold val_main_v123
    generalize val_main_v122 (F := Ideal) D W S = x
    exact Cumsum.backward (n0 := 2) (n := 2048) (n2 := 256) (m := 2047) x b s l (val_main_call4_call0_v0 (F := Ideal))
      (fun i => (val_main_call4_call0_v0_apply i).trans (Ideal.ofBits_zero .f32)) h_S_ reduceWindows_S2x2048x256_S2x2048x256_w1s1p0_0_w2048s1p0_2047_w1s1p0_0
  simp only [v122] at e
  rw [show gradZ D W S 3 b l s = _ from (back_of (w := 16) (by norm_num) (dpool_real hD hW hS 3 b l) s).symm, ← e]
  unfold val_main_v124 val_main_v112 val_main_v111 val_main_v110
  pointwise [v101]

theorem v128 (b : Fin 2) (s : Fin 2048) (l : Fin 256) :
    val_main_v128 (F := Ideal) D W S (ix3 b s l) = Ideal.div (dpool D W S 2 b l s) (cnt 8 s) := by
  unfold val_main_v128 val_main_v127 val_main_v109 val_main_v108
  pointwise [v101, v58]

theorem v136 (b : Fin 2) (s : Fin 2048) (l : Fin 256) :
    val_main_v136 (F := Ideal) D W S (ix3 b s l)
      = -Shift.up 8 (fun t => Ideal.div (dpool D W S 2 b l t) (cnt 8 t)) s + Ideal.div (dpool D W S 2 b l s) (cnt 8 s) := by
  rw [← spread (a := 7) (m := 2041) (by norm_num) (by norm_num)]
  unfold val_main_v136 val_main_v134 val_main_v133 val_main_v132 val_main_v131 val_main_v129 val_main_cst_24 val_main_cst_25
  pointwise [v128]

theorem v138 (hD : Fin1 D) (hW : Fin1 W) (hS : Fin1 S) (b : Fin 2) (s : Fin 2048) (l : Fin 256) :
    val_main_v138 (F := Ideal) D W S (ix3 b s l) = gradZ D W S 2 b l s := by
  have e : val_main_v137 (F := Ideal) D W S (ix3 b s l) = Shift.winU 2048 (fun t => val_main_v136 (F := Ideal) D W S (ix3 b t l)) s := by
    unfold val_main_v137
    generalize val_main_v136 (F := Ideal) D W S = x
    exact Cumsum.backward (n0 := 2) (n := 2048) (n2 := 256) (m := 2047) x b s l (val_main_call5_call0_v0 (F := Ideal))
      (fun i => (val_main_call5_call0_v0_apply i).trans (Ideal.ofBits_zero .f32)) h_S_ reduceWindows_S2x2048x256_S2x2048x256_w1s1p0_0_w2048s1p0_2047_w1s1p0_0
  simp only [v136] at e
  rw [show gradZ D W S 2 b l s = _ from (back_of (w := 8) (by norm_num) (dpool_real hD hW hS 2 b l) s).symm, ← e]
  unfold val_main_v138 val_main_v126 val_main_v109 val_main_v108
  pointwise [v101]

theorem v143 (b : Fin 2) (s : Fin 2048) (l : Fin 256) :
    val_main_v143 (F := Ideal) D W S (ix3 b s l) = Ideal.div (dpool D W S 1 b l s) (cnt 4 s) := by
  unfold val_main_v143 val_main_v142 val_main_v107 val_main_v106
  pointwise [v101, v41]

theorem v151 (b : Fin 2) (s : Fin 2048) (l : Fin 256) :
    val_main_v151 (F := Ideal) D W S (ix3 b s l)
      = -Shift.up 4 (fun t => Ideal.div (dpool D W S 1 b l t) (cnt 4 t)) s + Ideal.div (dpool D W S 1 b l s) (cnt 4 s) := by
  rw [← spread (a := 3) (m := 2045) (by norm_num) (by norm_num)]
  unfold val_main_v151 val_main_v149 val_main_v148 val_main_v147 val_main_v146 val_main_v144 val_main_cst_27 val_main_cst_28
  pointwise [v143]

theorem v153 (hD : Fin1 D) (hW : Fin1 W) (hS : Fin1 S) (b : Fin 2) (s : Fin 2048) (l : Fin 256) :
    val_main_v153 (F := Ideal) D W S (ix3 b s l) = gradZ D W S 1 b l s := by
  have e : val_main_v152 (F := Ideal) D W S (ix3 b s l) = Shift.winU 2048 (fun t => val_main_v151 (F := Ideal) D W S (ix3 b t l)) s := by
    unfold val_main_v152
    generalize val_main_v151 (F := Ideal) D W S = x
    exact Cumsum.backward (n0 := 2) (n := 2048) (n2 := 256) (m := 2047) x b s l (val_main_call6_call0_v0 (F := Ideal))
      (fun i => (val_main_call6_call0_v0_apply i).trans (Ideal.ofBits_zero .f32)) h_S_ reduceWindows_S2x2048x256_S2x2048x256_w1s1p0_0_w2048s1p0_2047_w1s1p0_0
  simp only [v151] at e
  rw [show gradZ D W S 1 b l s = _ from (back_of (w := 4) (by norm_num) (dpool_real hD hW hS 1 b l) s).symm, ← e]
  unfold val_main_v153 val_main_v141 val_main_v107 val_main_v106
  pointwise [v101]

theorem v158 (b : Fin 2) (s : Fin 2048) (l : Fin 256) :
    val_main_v158 (F := Ideal) D W S (ix3 b s l) = Ideal.div (dpool D W S 0 b l s) (cnt 2 s) := by
  unfold val_main_v158 val_main_v157 val_main_v105 val_main_v104
  pointwise [v101, v24]

theorem v166 (b : Fin 2) (s : Fin 2048) (l : Fin 256) :
    val_main_v166 (F := Ideal) D W S (ix3 b s l)
      = -Shift.up 2 (fun t => Ideal.div (dpool D W S 0 b l t) (cnt 2 t)) s + Ideal.div (dpool D W S 0 b l s) (cnt 2 s) := by
  rw [← spread (a := 1) (m := 2047) (by norm_num) (by norm_num)]
  unfold val_main_v166 val_main_v164 val_main_v163 val_main_v162 val_main_v161 val_main_v159 val_main_cst_30 val_main_cst_31
  pointwise [v158]

theorem v168 (hD : Fin1 D) (hW : Fin1 W) (hS : Fin1 S) (b : Fin 2) (s : Fin 2048) (l : Fin 256) :
    val_main_v168 (F := Ideal) D W S (ix3 b s l) = gradZ D W S 0 b l s := by
  have e : val_main_v167 (F := Ideal) D W S (ix3 b s l) = Shift.winU 2048 (fun t => val_main_v166 (F := Ideal) D W S (ix3 b t l)) s := by
    unfold val_main_v167
    generalize val_main_v166 (F := Ideal) D W S = x
    exact Cumsum.backward (n0 := 2) (n := 2048) (n2 := 256) (m := 2047) x b s l (val_main_call7_call0_v0 (F := Ideal))
      (fun i => (val_main_call7_call0_v0_apply i).trans (Ideal.ofBits_zero .f32)) h_S_ reduceWindows_S2x2048x256_S2x2048x256_w1s1p0_0_w2048s1p0_2047_w1s1p0_0
  simp only [v166] at e
  rw [show gradZ D W S 0 b l s = _ from (back_of (w := 2) (by norm_num) (dpool_real hD hW hS 0 b l) s).symm, ← e]
  unfold val_main_v168 val_main_v156 val_main_v105 val_main_v104
  pointwise [v101]

/-! ### The planes -/

/-- The columns that one group's piece fills. -/
theorem piece {n q : ℕ} (hn : n = q * 256) (f : Fin 256 → EReal) (g : Fin 4) (l : Fin 256) :
    (if h : n ≤ (col g l).val ∧ (col g l).val - n < 256 then f ⟨(col g l).val - n, h.2⟩ else 0) = if g.val = q then f l else 0 := by
  have hc : (col g l).val = g.val * 256 + l.val := rfl
  by_cases h : g.val = q
  · rw [if_pos h, dif_pos (by omega)]
    exact congrArg f (Fin.ext (by show (col g l).val - n = l.val; omega))
  · rw [if_neg h, dif_neg (by omega)]

theorem piece_first (f : Fin 256 → EReal) (g : Fin 4) (l : Fin 256) :
    (if h : (col g l).val < 256 then f ⟨(col g l).val, h⟩ else 0) = if g.val = 0 then f l else 0 := by
  rw [← piece (n := 0) rfl]
  exact dite_congr (propext ⟨fun h => ⟨Nat.zero_le _, h⟩, And.right⟩) (fun _ => rfl) fun _ => rfl

theorem v170 (hD : Fin1 D) (hW : Fin1 W) (hS : Fin1 S) (b : Fin 2) (s : Fin 2048) (g : Fin 4) (l : Fin 256) :
    val_main_v170 (F := Ideal) D W S (ix3 b s (col g l)) = gradZ D W S g b l s := by
  unfold val_main_v170 val_main_v169 val_main_v155 val_main_v154 val_main_v140 val_main_v139 val_main_v125
    val_main_cst_23 val_main_cst_26 val_main_cst_29 val_main_cst_32
  pointwise [v124 D W S hD hW hS, v138 D W S hD hW hS, v153 D W S hD hW hS, v168 D W S hD hW hS]
  rw [piece (n := 768) (q := 3) rfl fun l => gradZ D W S 3 b l s, piece (n := 512) (q := 2) rfl fun l => gradZ D W S 2 b l s,
    piece (n := 256) (q := 1) rfl fun l => gradZ D W S 1 b l s, piece_first fun l => gradZ D W S 0 b l s]
  match g with
  | 0 => simp
  | 1 => simp
  | 2 => simp
  | 3 => simp

theorem planes (dz : (⟨3, ![6, 4096, 1024]⟩ : Shape).Idx → EReal) (p : Fin 6) (r : Fin 4096) (k : Fin 1024) :
    val_main_v175 (F := Ideal) dz D W S (ix3 p r k)
      = if p.val = 3 then val_main_v170 (F := Ideal) D W S (ix3 ⟨r.val / 2048, by omega⟩ ⟨r.val % 2048, by omega⟩ k) else dz (ix3 p r k) := by
  unfold val_main_v175 val_main_v172 val_main_v171 val_main_v173 val_main_v174
  pointwise
  match p with
  | 0 => rfl
  | 1 => rfl
  | 2 => rfl
  | 3 => rfl
  | 4 => rfl
  | 5 => rfl

end Cert.PoolRefIdeal.Value

end
-- ==== Proof.Pool.lean ====
/-
  The equation for the pooling's gradient: at every entry of the three results the kernel's arrays and the reference's are the
  same functions of the arguments.
-/
module

public import proofs.«01_k».proof.Defs
public import proofs.«01_k».proof.Proof.Preds
public import proofs.«01_k».proof.Proof.PoolArray
public import proofs.«01_k».proof.Proof.PoolRef
public import proofs.«01_k».proof.Proof.Gen.PoolRefIdeal.Run

@[expose] public section

noncomputable section

namespace Cert.PoolClaim

open Idealize.ShloMosaic Idealize.ShloMosaic.TcCoe Idealize.SL.Sem
open Cert.PoolIdeal Cert.PoolIdeal.Gen Cert.PoolIdeal.Value
open Cert.PoolSpec (col)

/-- The reference runs, keeps its arguments, and has no semaphores. -/
theorem frame_reference : Cert.quiescent_PoolRefIdeal := fun m ρ _ =>
  (θ_run Cert.PoolRefIdeal.defs _ _).mono (fun r h => ⟨fun c => (h c).2.2.2, sem_eq_zero_of_no_sems (by decide) r.2⟩)
    (Cert.PoolRefIdeal.Value.run (F := Ideal) m ρ)

variable (m : (ℓ : Loc nD τ sig) → Buf (Elt Ideal) ℓ) (c : Dev nD)

theorem col_split (k : Fin 1024) : ∃ g l, k = col g l :=
  ⟨⟨k.val / 256, by omega⟩, ⟨k.val % 256, by omega⟩, Fin.ext (by show k.val = k.val / 256 * 256 + k.val % 256; omega)⟩

/-- The planes: the fourth is written, the others are kept. -/
theorem result0 (hD : Preds.Fin1 (aD m c)) (hW : Preds.Fin1 (aW m c)) (hS : Preds.Fin1 (aS m c)) (i : (⟨3, ![6, 4096, 1024]⟩ : Shape).Idx) :
    Cert.PoolRefIdeal.Read.val_main_v175 (F := Ideal) (aO m c) (aD m c) (aW m c) (aS m c) i = (dats m 0 c).arrAt 4 cfg0.N i := by
  obtain ⟨p, r, k, rfl⟩ : ∃ (p : Fin 6) (r : Fin 4096) (k : Fin 1024), i = ix3 p r k := ⟨i 0, i 1, i 2, eq_ix3 i⟩
  refine (Cert.PoolRefIdeal.Value.planes _ _ _ _ p r k).trans ?_
  by_cases hp : p.val = 3
  · obtain ⟨g, l, rfl⟩ := col_split k
    have e := final4 m c g ⟨r.val / 2048, by omega⟩ ⟨r.val % 2048, by omega⟩ l
    rw [show Conv3.tok ⟨r.val / 2048, by omega⟩ ⟨r.val % 2048, by omega⟩ = r from
      Fin.ext (by show r.val / 2048 * 2048 + r.val % 2048 = r.val; omega), show (3 : Fin 6) = p from Fin.ext hp.symm] at e
    rw [if_pos hp]
    exact (Cert.PoolRefIdeal.Value.v170 _ _ _ hD hW hS _ _ g l).trans e.symm
  · rw [if_neg hp]
    exact (final4_kept m c p hp r k).symm

/-- The weight's gradient. -/
theorem result1 (hZ : Cert.PoolRefIdeal.Value.Pooled1 (aZ m c)) (i : (⟨3, ![4, 256, 256]⟩ : Shape).Idx) :
    Cert.PoolRefIdeal.Read.val_main_v103 (F := Ideal) (aD m c) (aZ m c) (aS m c) i = (dats m 0 c).arrAt 5 cfg0.N i := by
  obtain ⟨g, k, l, rfl⟩ : ∃ (g : Fin 4) (k l : Fin 256), i = ix3 g k l := ⟨i 0, i 1, i 2, eq_ix3 i⟩
  exact (Cert.PoolRefIdeal.Value.v103 _ _ _ hZ g k l).trans (final5 m c g k l).symm

/-- The scale's gradient. -/
theorem result2 (hZ : Cert.PoolRefIdeal.Value.Pooled1 (aZ m c)) (i : (⟨2, ![1, 1024]⟩ : Shape).Idx) :
    Cert.PoolRefIdeal.Read.val_main_v97 (F := Ideal) (aD m c) (aZ m c) (aW m c) i = (dats m 0 c).arrAt 6 cfg0.N i := by
  obtain ⟨r, k, rfl⟩ : ∃ (r : Fin 1) (k : Fin 1024), i = ix2 r k := ⟨i 0, i 1, eq_ix2 i⟩
  obtain ⟨g, l, rfl⟩ := col_split k
  rw [Subsingleton.elim r 0]
  exact (Cert.PoolRefIdeal.Value.v97 _ _ _ hZ g l).trans (final6 m c g l).symm

attribute [local instance] Preds.facts_pool_finite

theorem algebraic : Cert.algebraic_PoolIdeal_PoolRefIdeal_pre_pool_finite := by
  intro m g m' g' hpre hin
  refine ⟨fun c => (dats m 0 c).arrAt 4 cfg0.N, fun c => (dats m 0 c).arrAt 5 cfg0.N, fun c => (dats m 0 c).arrAt 6 cfg0.N,
    Cert.PoolIdeal.Value.run_blocks m g, (θ_run _ _ _).mono (fun r h c => ?_) (Cert.PoolRefIdeal.Value.run m' g')⟩
  obtain ⟨e0, e1, e2, ha⟩ := h c
  obtain ⟨a0, a1, a2, a3, a4⟩ := hin c
  obtain ⟨hD, hF, hW, hS⟩ := Preds.pool_finite (hpre c)
  have hZ : Cert.PoolRefIdeal.Value.Pooled1 (aZ m c) := fun r k => hF _
  change StableHlo.launchContents m' c (Proc.devRef .tc Cert.PoolRefIdeal.main_arg0) = _ at a0
  change StableHlo.launchContents m' c (Proc.devRef .tc Cert.PoolRefIdeal.main_arg1) = _ at a1
  change StableHlo.launchContents m' c (Proc.devRef .tc Cert.PoolRefIdeal.main_arg2) = _ at a2
  change StableHlo.launchContents m' c (Proc.devRef .tc Cert.PoolRefIdeal.main_arg3) = _ at a3
  change StableHlo.launchContents m' c (Proc.devRef .tc Cert.PoolRefIdeal.main_arg4) = _ at a4
  rw [Cert.PoolRefIdeal.Read.val_main_v175_eq, a0, a1, a3, a4] at e0
  rw [Cert.PoolRefIdeal.Read.val_main_v103_eq, a1, a2, a4] at e1
  rw [Cert.PoolRefIdeal.Read.val_main_v97_eq, a1, a2, a3] at e2
  exact ⟨e0.trans (funext (result0 m c hD hW hS)), e1.trans (funext (result1 m c hZ)), e2.trans (funext (result2 m c hZ)), ha⟩

end Cert.PoolClaim

end
-- ==== Proof.MidRun.lean ====
/-
  The run of the two calls of the gated middle: every weakly fair execution ends with each result array at what its
  call's write-backs leave of it, and with the arguments as they were.
-/
module

public import proofs.«01_k».proof.Proof.Gen.MidIdeal.Frame

@[expose] public section

set_option maxRecDepth 16384

noncomputable section

namespace Cert.MidIdeal.Value

open Cert.MidIdeal Cert.MidIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding definitions inside types
set_option backward.isDefEq.respectTransparency.types false in
/-- Every buffer the host can see ends at the last boundary's contents. -/
theorem run_contents : θ_run defs (onTc (τ := τ) (main (F := F))) ⟨m, fun _ => 0, ρ⟩ (fun r =>
    ∀ c : Dev nD, ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun _ h _ => h)

/-- The second call stages none of the first call's results but the convolved planes. -/
theorem W3_act (c : Dev nD) : W3 m ρ c (Proc.devRef .tc main_v3_0) = (dat0 (V1 m ρ) c).arrAt 3 cfg0.N :=
  (W3_of m ρ c main_v3_0 (by decide +kernel)).trans (W2_arr m ρ c 3)

/-- The results and the arguments after the run. -/
theorem run_blocks : θ_run defs (onTc (τ := τ) (main (F := F))) ⟨m, fun _ => 0, ρ⟩ (fun r => ∀ c : Dev nD,
      r.2.mem ((c.tc : Thread nD τ).loc main_v3_0) = (dat0 (V1 m ρ) c).arrAt 3 cfg0.N
      ∧ r.2.mem ((c.tc : Thread nD τ).loc main_v4_0) = (dat1 (V2 m ρ) c).arrAt 4 cfg1.N
      ∧ r.2.mem ((c.tc : Thread nD τ).loc main_v4_1) = (dat1 (V2 m ρ) c).arrAt 5 cfg1.N
      ∧ r.2.mem ((c.tc : Thread nD τ).loc main_v4_2) = (dat1 (V2 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3_0 (by decide))).trans (W3_act m ρ c),
     (h c _ (mem_uc main_v4_0 (by decide))).trans (W3_arr m ρ c 4),
     (h c _ (mem_uc main_v4_1 (by decide))).trans (W3_arr m ρ c 5),
     (h c _ (mem_uc main_v4_2 (by decide))).trans (W3_arr m ρ c 6),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c)⟩) (run_contents m ρ)

end Cert.MidIdeal.Value

end
-- ==== Proof.MidFwdBlock.lean ====
/-
  What one grid point of the forward middle leaves: the gated activations of its block of channels and the two convolved
  planes, element by element, from the point's blocks of the planes, the taps and the biases.
-/
module

public import proofs.«01_k».proof.Proof.Gen.MidIdeal.Frame
public import proofs.«01_k».proof.Proof.MidSpec
public import proofs.«01_k».proof.Proof.Planes
public import Idealize.ShloMosaic.Lib.Pointwise
public import Idealize.ShloMosaic.Lib.KernelVsHost

@[expose] public section

noncomputable section

namespace Cert.MidIdeal.Fwd

open Cert.MidIdeal Cert.MidIdeal.Gen Idealize.ShloMosaic Idealize.ShloMosaic.TcCoe Idealize.SL.Sem
open Cert.Shift Cert.Planes
open Cert.GateSpec (sig)

variable (x0 : Vec Ideal S2x2048x256 .bf16) (x1 : Vec Ideal S2x3x256 .f32) (x2 : Vec Ideal S2x1x256 .f32)

/-- A channel of plane `p` of the block, convolved, with the bias. -/
def convB (p : Fin 2) (l : Fin 256) (s : Fin 2048) : EReal :=
  Conv3.fwd (x1 (ix3 p 0 l)) (x1 (ix3 p 1 l)) (x1 (ix3 p 2 l)) (fun s => x0 (ix3 p s l)) s + x2 (ix3 p 0 l)

/-- The rows moved down by `k`, with zeros above: a rotation whose first rows are replaced. -/
def dnV (k : BitVec 32) (v : FVec Ideal S2048x256 .f32) : FVec Ideal S2048x256 .f32 :=
  select (cmpi .sge (iota Kind.tc S2048x256 32 [0] iota_S2048x256_d0_w32) (broadcast S2048x256 k))
    (dynamicRotate 0 k none v rotates_S2048x256_d0) (broadcast S2048x256 (Scalar.ofBits (F := Ideal) .f32 0x00000000#32))

theorem rot_apply (k : BitVec 32) (v : FVec Ideal S2048x256 .f32) (s : Fin 2048) (l : Fin 256) :
    dynamicRotate 0 k none v rotates_S2048x256_d0 (ix2 s l)
      = v (ix2 ⟨(s.val + 2048 - k.toNat % 2048) % 2048, Nat.mod_lt _ (by decide)⟩ l) := by
  refine dynamicRotate_apply 0 k v _ _ _ fun b => ?_
  match b with
  | ⟨0, _⟩ => rfl
  | ⟨1, _⟩ => rfl

theorem dnV_apply (k : BitVec 32) (v : FVec Ideal S2048x256 .f32) (s : Fin 2048) (l : Fin 256) :
    dnV k v (ix2 s l)
      = Scalar.select (IntOp.cmpi .sge (BitVec.ofNat 32 s.val) k)
          (v (ix2 ⟨(s.val + 2048 - k.toNat % 2048) % 2048, Nat.mod_lt _ (by decide)⟩ l)) 0 := by
  rw [← rot_apply k v s l]
  unfold dnV
  generalize dynamicRotate 0 k none v rotates_S2048x256_d0 = q
  pointwise

theorem dn1_apply (v : FVec Ideal S2048x256 .f32) (s : Fin 2048) (l : Fin 256) :
    dnV 1#32 v (ix2 s l) = dn 1 (fun s => v (ix2 s l)) s :=
  (dnV_apply _ v s l).trans (select_dn 1 (by decide) (by decide) (fun s => v (ix2 s l)) s _)
theorem dn2_apply (v : FVec Ideal S2048x256 .f32) (s : Fin 2048) (l : Fin 256) :
    dnV 2#32 v (ix2 s l) = dn 2 (fun s => v (ix2 s l)) s :=
  (dnV_apply _ v s l).trans (select_dn 2 (by decide) (by decide) (fun s => v (ix2 s l)) s _)

variable (v : Vec Ideal S1x2048x256 .bf16) (w2 w1 w0 bias : Vec Ideal S1x1x256 .f32)

/-- The plane as the body reads it. -/
def planeV : FVec Ideal S2048x256 .f32 :=
  extf .f32 (shapeCast S2048x256 v shapeCasts_S1x2048x256_S2048x256 : FVec Ideal S2048x256 .bf16) bitsLt_bf16_f32

theorem planeV_apply (s : Fin 2048) (l : Fin 256) : planeV v (ix2 s l) = v (ix3 0 s l) := by
  unfold planeV
  pointwise

theorem pay3_apply (s : Fin 2048) (l : Fin 256) :
    k0_pay3 v w2 w1 w0 bias (ix2 s l)
      = Conv3.fwd (w0 (ix3 0 0 l)) (w1 (ix3 0 0 l)) (w2 (ix3 0 0 l)) (fun s => v (ix3 0 s l)) s + bias (ix3 0 0 l) := by
  show addf (addf (addf
      (mulf (broadcastTo S2048x256 (shapeCast S1x256 w2 shapeCasts_S1x1x256_S1x256) broadcasts_S1x256_S2048x256) (planeV v))
      (mulf (broadcastTo S2048x256 (shapeCast S1x256 w1 shapeCasts_S1x1x256_S1x256) broadcasts_S1x256_S2048x256) (dnV 1#32 (planeV v))))
      (mulf (broadcastTo S2048x256 (shapeCast S1x256 w0 shapeCasts_S1x1x256_S1x256) broadcasts_S1x256_S2048x256) (dnV 2#32 (planeV v))))
    (broadcastTo S2048x256 (shapeCast S1x256 bias shapeCasts_S1x1x256_S1x256) broadcasts_S1x256_S2048x256) (ix2 s l) = _
  pointwise [dn1_apply, dn2_apply, planeV_apply]
  rfl

theorem pay6_eq (x0 : Vec Ideal S2x2048x256 .bf16) (x1 : Vec Ideal S2x3x256 .f32) (x2 : Vec Ideal S2x1x256 .f32) :
    k0_pay6 (k0_pay8 x0 x1 x2) v w2 w1 w0 bias = k0_pay3 v w2 w1 w0 bias := rfl

/-- A row of a plane of a rank-three buffer, loaded. -/
theorem ld_row3 {n m p : ℕ} {ε : EltTy} (x : (⟨3, ![n, m, p]⟩ : Shape).Idx → Elt Ideal ε) (o k : ℕ) (ho : o < n) (hk : k < m)
    (inb : ∀ a, (![o, k, 0] : Fin 3 → ℕ) a + (![1, 1, p] : Fin 3 → ℕ) a ≤ (⟨3, ![n, m, p]⟩ : Shape).size a) (l : Fin p) :
    View.ld x (Rect.unit (s := ⟨3, ![n, m, p]⟩) ![o, k, 0] ![1, 1, p] inb) (ix3 0 0 l) = x (ix3 ⟨o, ho⟩ ⟨k, hk⟩ l) :=
  congrArg x (emb_unit_eq (S := ⟨3, ![n, m, p]⟩) ![o, k, 0] ![1, 1, p] inb (ix3 (0 : Fin 1) (0 : Fin 1) l) (ix3 ⟨o, ho⟩ ⟨k, hk⟩ l) (fun b => by
    match b with
    | ⟨0, _⟩ => rfl
    | ⟨1, _⟩ => rfl
    | ⟨2, _⟩ => exact (Nat.zero_add _).symm))

/-- The convolved gate plane of the block. -/
theorem gate_apply (s : Fin 2048) (l : Fin 256) :
    k0_pay3 (View.ld x0 r0_0) (View.ld x1 r0_1) (View.ld x1 r0_2) (View.ld x1 r0_3) (View.ld x2 r0_4) (ix2 s l)
      = convB x0 x1 x2 0 l s := by
  rw [pay3_apply, ld_row3 x1 0 0 (by decide) (by decide), ld_row3 x1 0 1 (by decide) (by decide),
    ld_row3 x1 0 2 (by decide) (by decide), ld_row3 x2 0 0 (by decide) (by decide),
    funext fun s => ld_plane x0 0 (by decide) _ s l]
  rfl

/-- The convolved value plane of the block. -/
theorem value_apply (s : Fin 2048) (l : Fin 256) :
    k0_pay3 (View.ld x0 r0_5) (View.ld x1 r0_6) (View.ld x1 r0_7) (View.ld x1 r0_8) (View.ld x2 r0_9) (ix2 s l)
      = convB x0 x1 x2 1 l s := by
  rw [pay3_apply, ld_row3 x1 1 0 (by decide) (by decide), ld_row3 x1 1 1 (by decide) (by decide),
    ld_row3 x1 1 2 (by decide) (by decide), ld_row3 x2 1 0 (by decide) (by decide),
    funext fun s => ld_plane x0 1 (by decide) _ s l]
  rfl

theorem out3_apply (s : Fin 2048) (l : Fin 256) :
    out0_3 x0 x1 x2 (ix2 s l) = MidSpec.gated (convB x0 x1 x2 0 l s) (convB x0 x1 x2 1 l s) := by
  unfold out0_3
  rw [View.canon_cons_unit_zero (S := S2048x256) hz2, pay6_eq]
  unfold k0_pay2
  pointwise [gate_apply, value_apply]
  rw [zero_sub]
  rfl

theorem out4_apply (p : Fin 2) (s : Fin 2048) (l : Fin 256) : out0_4 x0 x1 x2 (ix3 p s l) = convB x0 x1 x2 p l s := by
  unfold out0_4 k0_pay7 k0_pay4
  rw [pay6_eq, canon_plane, canon_plane]
  unfold k0_pay1 k0_pay5
  fin_cases p
  · rw [if_neg (by decide), if_pos rfl]
    pointwise [gate_apply]
  · rw [if_pos rfl]
    pointwise [value_apply]

end Cert.MidIdeal.Fwd

end
-- ==== Proof.MidArray.lean ====
/-
  The forward middle over the whole arrays: what each grid point reads of the arguments, and what the activations and the
  convolved planes hold after the call.
-/
module

public import proofs.«01_k».proof.Proof.MidRun
public import proofs.«01_k».proof.Proof.MidFwdBlock
public import Idealize.ShloMosaic.Lib.Claim

@[expose] public section

noncomputable section

namespace Cert.MidIdeal.Value

open Cert.MidIdeal Cert.MidIdeal.Gen Idealize.ShloMosaic Idealize.ShloMosaic.TcCoe Idealize.SL.Sem
open Idealize.ShloMosaic.Pipeline (Dat)
open Cert.Conv3 (tok)

variable (m : (ℓ : Loc nD τ sig) → Buf (Elt Ideal) ℓ) (ρ : Dev nD → PrngReg) (c : Dev nD)

/-- The arguments as arrays of extended reals. -/
abbrev aA : (⟨2, ![4096, 2816]⟩ : Shape).Idx → EReal := m ((c : Thread nD τ).loc main_arg0)
abbrev aU : (⟨3, ![2, 4096, 2816]⟩ : Shape).Idx → EReal := m ((c : Thread nD τ).loc main_arg1)
abbrev aW : (⟨2, ![3, 5632]⟩ : Shape).Idx → EReal := m ((c : Thread nD τ).loc main_arg2)
abbrev aB : (⟨2, ![1, 5632]⟩ : Shape).Idx → EReal := m ((c : Thread nD τ).loc main_arg3)

/-! ### The arrays the host prepares -/

theorem entry_u (p : Fin 2) (r : Fin 4096) (l : Fin 2816) :
    (V1 m ρ c main_arg1 : (⟨3, ![2, 4096, 2816]⟩ : Shape).Idx → EReal) (ix3 p r l) = aU m c (ix3 p r l) :=
  congrFun (W1_args m ρ c main_arg1 (by decide)) _

theorem entry_w (p : Fin 2) (k : Fin 3) (l : Fin 2816) :
    (V1 m ρ c main_v1 : (⟨3, ![2, 3, 2816]⟩ : Shape).Idx → EReal) (ix3 p k l) = aW m c (ix2 k (MidSpec.col p l)) := by
  show StableHlo.after hostOps0 (W0 m ρ c) (Proc.devRef .tc main_v1) _ = _
  entry_read
  pointwise
  rfl

theorem entry_b (p : Fin 2) (l : Fin 2816) :
    (V1 m ρ c main_v2 : (⟨3, ![2, 1, 2816]⟩ : Shape).Idx → EReal) (ix3 p 0 l) = aB m c (ix2 0 (MidSpec.col p l)) := by
  show StableHlo.after hostOps0 (W0 m ρ c) (Proc.devRef .tc main_v2) _ = _
  entry_read
  pointwise
  rfl

/-! ### The blocks a grid point reads -/

/-- Sequence and channel of a grid point. -/
def seqF (t : Fin cfg0.N) : Fin 2 := ⟨t.val % 2, Nat.mod_lt _ (by decide)⟩
def chanF (t : Fin cfg0.N) (l : Fin 256) : Fin 2816 :=
  ⟨t.val / 2 * 256 + l.val, by have h : t.val < 22 := t.isLt.trans_eq N_0; omega⟩

theorem index0_0 : ∀ t : Fin cfg0.N, win0_0.index t 0 = 0 ∧ win0_0.index t 1 = t.val % 2 ∧ win0_0.index t 2 = t.val / 2 :=
  (by decide +kernel : ∀ t : Fin grid0.N, win0_0.index t 0 = 0 ∧ win0_0.index t 1 = t.val % 2 ∧ win0_0.index t 2 = t.val / 2)
theorem index0_1 : ∀ t : Fin cfg0.N, win0_1.index t 0 = 0 ∧ win0_1.index t 1 = 0 ∧ win0_1.index t 2 = t.val / 2 :=
  (by decide +kernel : ∀ t : Fin grid0.N, win0_1.index t 0 = 0 ∧ win0_1.index t 1 = 0 ∧ win0_1.index t 2 = t.val / 2)
theorem index0_2 : ∀ t : Fin cfg0.N, win0_2.index t 0 = 0 ∧ win0_2.index t 1 = 0 ∧ win0_2.index t 2 = t.val / 2 :=
  (by decide +kernel : ∀ t : Fin grid0.N, win0_2.index t 0 = 0 ∧ win0_2.index t 1 = 0 ∧ win0_2.index t 2 = t.val / 2)
theorem index0_3 : ∀ t : Fin cfg0.N, win0_3.index t 0 = t.val % 2 ∧ win0_3.index t 1 = t.val / 2 :=
  (by decide +kernel : ∀ t : Fin grid0.N, win0_3.index t 0 = t.val % 2 ∧ win0_3.index t 1 = t.val / 2)
theorem index0_4 : ∀ t : Fin cfg0.N, win0_4.index t 0 = 0 ∧ win0_4.index t 1 = t.val % 2 ∧ win0_4.index t 2 = t.val / 2 :=
  (by decide +kernel : ∀ t : Fin grid0.N, win0_4.index t 0 = 0 ∧ win0_4.index t 1 = t.val % 2 ∧ win0_4.index t 2 = t.val / 2)

theorem block0_u (t : Fin cfg0.N) (p : Fin 2) (s : Fin 2048) (l : Fin 256) :
    (iblk0 (V1 m ρ) c 0 t : Vec Ideal S2x2048x256 .bf16) (ix3 p s l) = MidSpec.seq (aU m c) p (seqF t) (chanF t l) s := by
  unfold iblk0
  rw [View.read_apply]
  refine Eq.trans ?_ (entry_u m ρ c p (tok (seqF t) s) (chanF t l))
  refine congrArg (V1 m ρ c main_arg1) ?_
  funext a
  apply Fin.ext
  match a with
  | ⟨0, _⟩ => show win0_0.index t 0 * 2 + 1 * p.val = p.val; rw [(index0_0 t).1]; omega
  | ⟨1, _⟩ => show win0_0.index t 1 * 2048 + 1 * s.val = t.val % 2 * 2048 + s.val; rw [(index0_0 t).2.1]; omega
  | ⟨2, _⟩ => show win0_0.index t 2 * 256 + 1 * l.val = t.val / 2 * 256 + l.val; rw [(index0_0 t).2.2]; omega

theorem block0_w (t : Fin cfg0.N) (p : Fin 2) (k : Fin 3) (l : Fin 256) :
    (iblk0 (V1 m ρ) c 1 t : Vec Ideal S2x3x256 .f32) (ix3 p k l) = aW m c (ix2 k (MidSpec.col p (chanF t l))) := by
  unfold iblk0
  rw [View.read_apply]
  refine Eq.trans ?_ (entry_w m ρ c p k (chanF t l))
  refine congrArg (V1 m ρ c main_v1) ?_
  funext a
  apply Fin.ext
  match a with
  | ⟨0, _⟩ => show win0_1.index t 0 * 2 + 1 * p.val = p.val; rw [(index0_1 t).1]; omega
  | ⟨1, _⟩ => show win0_1.index t 1 * 3 + 1 * k.val = k.val; rw [(index0_1 t).2.1]; omega
  | ⟨2, _⟩ => show win0_1.index t 2 * 256 + 1 * l.val = t.val / 2 * 256 + l.val; rw [(index0_1 t).2.2]; omega

theorem block0_b (t : Fin cfg0.N) (p : Fin 2) (l : Fin 256) :
    (iblk0 (V1 m ρ) c 2 t : Vec Ideal S2x1x256 .f32) (ix3 p 0 l) = aB m c (ix2 0 (MidSpec.col p (chanF t l))) := by
  unfold iblk0
  rw [View.read_apply]
  refine Eq.trans ?_ (entry_b m ρ c p (chanF t l))
  refine congrArg (V1 m ρ c main_v2) ?_
  funext a
  apply Fin.ext
  match a with
  | ⟨0, _⟩ => show win0_2.index t 0 * 2 + 1 * p.val = p.val; rw [(index0_2 t).1]; omega
  | ⟨1, _⟩ => show win0_2.index t 1 * 1 + 1 * 0 = 0; rw [(index0_2 t).2.1]
  | ⟨2, _⟩ => show win0_2.index t 2 * 256 + 1 * l.val = t.val / 2 * 256 + l.val; rw [(index0_2 t).2.2]; omega

/-- A point's convolved channels are those of the whole arrays. -/
theorem convB_block (t : Fin cfg0.N) (p : Fin 2) (l : Fin 256) (s : Fin 2048) :
    Fwd.convB (iblk0 (V1 m ρ) c 0 t) (iblk0 (V1 m ρ) c 1 t) (iblk0 (V1 m ρ) c 2 t) p l s
      = MidSpec.conv (aU m c) (aW m c) (aB m c) p (seqF t) (chanF t l) s := by
  unfold Fwd.convB MidSpec.conv
  rw [block0_w, block0_w, block0_w, block0_b]
  exact congrArg (fun q => Conv3.fwd _ _ _ q s + _) (funext fun s => block0_u m ρ c t p s l)

/-! ### The two results after the call -/

/-- The activations, and the convolved planes, as whole arrays. -/
def actA (y : (⟨2, ![4096, 2816]⟩ : Shape).Idx) : EReal :=
  MidSpec.act (aU m c) (aW m c) (aB m c) (MidSpec.seqOf (y 0)) (MidSpec.posOf (y 0)) (y 1)
def convA (y : (⟨3, ![2, 4096, 2816]⟩ : Shape).Idx) : EReal :=
  MidSpec.conv (aU m c) (aW m c) (aB m c) (y 0) (MidSpec.seqOf (y 1)) (y 2) (MidSpec.posOf (y 1))

theorem final_act :
    ((dat0 (V1 m ρ) c).arrAt 3 cfg0.N : (⟨2, ![4096, 2816]⟩ : Shape).Idx → EReal) = actA m c := by
  refine (dat0 (V1 m ρ) c).arrAt_eq_of_cover 3 (actA m c) (fun t _ => ?_) fun i => ?_
  · show (cfg0.win 3).cut (grid0.coords t) ((dat0 (V1 m ρ) c).after 3 t) = _
    rw [after0_3]
    funext x
    rw [View.read_apply]
    obtain ⟨s, l, rfl⟩ : ∃ (s : Fin 2048) (l : Fin 256), x = ix2 s l := ⟨_, _, eq_ix2 x⟩
    refine (Fwd.out3_apply _ _ _ s l).trans ?_
    rw [convB_block, convB_block]
    have e : ((cfg0.win 3).blk t).view.emb (ix2 s l) = ix2 (tok (seqF t) s) (chanF t l) := by
      funext a
      apply Fin.ext
      match a with
      | ⟨0, _⟩ => show win0_3.index t 0 * 2048 + 1 * s.val = t.val % 2 * 2048 + s.val; rw [(index0_3 t).1]; omega
      | ⟨1, _⟩ => show win0_3.index t 1 * 256 + 1 * l.val = t.val / 2 * 256 + l.val; rw [(index0_3 t).2]; omega
    show _ = actA m c _
    rw [e]
    unfold actA
    show _ = MidSpec.act _ _ _ (MidSpec.seqOf (tok (seqF t) s)) (MidSpec.posOf (tok (seqF t) s)) (chanF t l)
    rw [MidSpec.seqOf_tok, MidSpec.posOf_tok]
    rfl
  · obtain ⟨r, l, rfl⟩ : ∃ (r : Fin 4096) (l : Fin 2816), i = ix2 r l := ⟨_, _, eq_ix2 i⟩
    let t : Fin cfg0.N := ⟨l.val / 256 * 2 + r.val / 2048, by rw [show cfg0.N = 22 from N_0]; omega⟩
    have ht : t.val = l.val / 256 * 2 + r.val / 2048 := rfl
    refine ⟨t, flush0_3 t, ?_⟩
    show ix2 r l ∈ ((View.whole main_v3_0).slice (win0_3.rect t)).set
    rw [View.set_slice_whole, Rect.mem_set_unit]
    intro a
    match a with
    | ⟨0, _⟩ => show win0_3.index t 0 * 2048 ≤ r.val ∧ r.val < win0_3.index t 0 * 2048 + 2048; rw [(index0_3 t).1]; omega
    | ⟨1, _⟩ => show win0_3.index t 1 * 256 ≤ l.val ∧ l.val < win0_3.index t 1 * 256 + 256; rw [(index0_3 t).2]; omega

theorem final_conv :
    ((dat0 (V1 m ρ) c).arrAt 4 cfg0.N : (⟨3, ![2, 4096, 2816]⟩ : Shape).Idx → EReal) = convA m c := by
  refine (dat0 (V1 m ρ) c).arrAt_eq_of_cover 4 (convA m c) (fun t _ => ?_) fun i => ?_
  · show (cfg0.win 4).cut (grid0.coords t) ((dat0 (V1 m ρ) c).after 4 t) = _
    rw [after0_4]
    funext x
    rw [View.read_apply]
    obtain ⟨p, s, l, rfl⟩ : ∃ (p : Fin 2) (s : Fin 2048) (l : Fin 256), x = ix3 p s l := ⟨_, _, _, eq_ix3 x⟩
    refine (Fwd.out4_apply _ _ _ p s l).trans ?_
    rw [convB_block]
    have e : ((cfg0.win 4).blk t).view.emb (ix3 p s l) = ix3 p (tok (seqF t) s) (chanF t l) := by
      funext a
      apply Fin.ext
      match a with
      | ⟨0, _⟩ => show win0_4.index t 0 * 2 + 1 * p.val = p.val; rw [(index0_4 t).1]; omega
      | ⟨1, _⟩ => show win0_4.index t 1 * 2048 + 1 * s.val = t.val % 2 * 2048 + s.val; rw [(index0_4 t).2.1]; omega
      | ⟨2, _⟩ => show win0_4.index t 2 * 256 + 1 * l.val = t.val / 2 * 256 + l.val; rw [(index0_4 t).2.2]; omega
    show _ = convA m c _
    rw [e]
    unfold convA
    show _ = MidSpec.conv _ _ _ p (MidSpec.seqOf (tok (seqF t) s)) (chanF t l) (MidSpec.posOf (tok (seqF t) s))
    rw [MidSpec.seqOf_tok, MidSpec.posOf_tok]
  · obtain ⟨p, r, l, rfl⟩ : ∃ (p : Fin 2) (r : Fin 4096) (l : Fin 2816), i = ix3 p r l := ⟨_, _, _, eq_ix3 i⟩
    let t : Fin cfg0.N := ⟨l.val / 256 * 2 + r.val / 2048, by rw [show cfg0.N = 22 from N_0]; omega⟩
    have ht : t.val = l.val / 256 * 2 + r.val / 2048 := rfl
    refine ⟨t, flush0_4 t, ?_⟩
    show ix3 p r l ∈ ((View.whole main_v3_1).slice (win0_4.rect t)).set
    rw [View.set_slice_whole, Rect.mem_set_unit]
    intro a
    match a with
    | ⟨0, _⟩ => show win0_4.index t 0 * 2 ≤ p.val ∧ p.val < win0_4.index t 0 * 2 + 2; rw [(index0_4 t).1]; omega
    | ⟨1, _⟩ => show win0_4.index t 1 * 2048 ≤ r.val ∧ r.val < win0_4.index t 1 * 2048 + 2048; rw [(index0_4 t).2.1]; omega
    | ⟨2, _⟩ => show win0_4.index t 2 * 256 ≤ l.val ∧ l.val < win0_4.index t 2 * 256 + 256; rw [(index0_4 t).2.2]; omega

end Cert.MidIdeal.Value

end
-- ==== Proof.MidChunk.lean ====
/-
  A chunk of 64 rows of a sequence processed from its end: the rows moved up by one or two with the next chunk's first rows
  behind them, and sums folded onto eight rows.
-/
module

public import proofs.«01_k».proof.Proof.Gen.MidIdeal.Frame
public import proofs.«01_k».proof.Proof.MidSpec
public import proofs.«01_k».proof.Proof.Accum
public import proofs.«01_k».proof.Proof.Planes
public import Idealize.ShloMosaic.Lib.Pointwise
public import Idealize.ShloMosaic.Lib.KernelVsHost

@[expose] public section

noncomputable section

namespace Cert.MidIdeal.Chunk

open Cert.MidIdeal Cert.MidIdeal.Gen Idealize.ShloMosaic Idealize.ShloMosaic.TcCoe Idealize.SL.Sem
open Cert.Shift Cert.Planes
open Cert.Accum (ext ext_of_lt)

/-- 64 rows of a sequence, the last `8` of the 72 rows taken from the chunk after it. -/
def joined (d : FVec Ideal S64x128 .f32) (nx : FVec Ideal S8x128 .f32) : FVec Ideal S72x128 .f32 :=
  concatenate S72x128 0 [⟨S64x128, d⟩, ⟨S8x128, nx⟩] concatenates_S64x128_S8x128_S72x128_d0

/-- The chunk moved up by `72 - k` rows. -/
def moved (k : BitVec 32) (d : FVec Ideal S64x128 .f32) (nx : FVec Ideal S8x128 .f32) : FVec Ideal S64x128 .f32 :=
  extractStridedSlice S64x128 ![0, 0] (dynamicRotate 0 k none (joined d nx) rotates_S72x128_d0) slices_S72x128_o0_0_S64x128

theorem rot_apply (k : BitVec 32) (v : FVec Ideal S72x128 .f32) (s : Fin 72) (l : Fin 128) :
    dynamicRotate 0 k none v rotates_S72x128_d0 (ix2 s l)
      = v (ix2 ⟨(s.val + 72 - k.toNat % 72) % 72, Nat.mod_lt _ (by decide)⟩ l) := by
  refine dynamicRotate_apply 0 k v _ _ _ fun b => ?_
  match b with
  | ⟨0, _⟩ => rfl
  | ⟨1, _⟩ => rfl

theorem joined_apply (d : FVec Ideal S64x128 .f32) (nx : FVec Ideal S8x128 .f32) (s : Fin 72) (l : Fin 128) :
    joined d nx (ix2 s l) = if h : s.val < 64 then d (ix2 ⟨s.val, h⟩ l) else nx (ix2 ⟨s.val - 64, by omega⟩ l) := by
  unfold joined
  pointwise

/-- The chunk holds rows `b, b + 1, …` of the sequence `e`, and `nx` the first rows of the chunk after it. -/
structure Holds (e : Fin 2048 → EReal) (l : Fin 128) (b : ℕ) (d : FVec Ideal S64x128 .f32) (nx : FVec Ideal S8x128 .f32) : Prop where
  le : b + 64 ≤ 2048
  here : ∀ r : Fin 64, d (ix2 r l) = e ⟨b + r.val, by omega⟩
  next : ∀ q : Fin 8, nx (ix2 q l) = ext e (b + 64 + q.val)

variable {e : Fin 2048 → EReal} {l : Fin 128} {b : ℕ} {d : FVec Ideal S64x128 .f32} {nx : FVec Ideal S8x128 .f32}

theorem Holds.joined (H : Holds e l b d nx) (s : Fin 72) : Chunk.joined d nx (ix2 s l) = ext e (b + s.val) := by
  rw [joined_apply]
  by_cases h : s.val < 64
  · rw [dif_pos h, H.here, ext_of_lt]
  · rw [dif_neg h, H.next]
    exact congrArg (ext e) (by dsimp only; omega)

theorem up_eq_ext (k : ℕ) (s : Fin 2048) : up k e s = ext e (s.val + k) := rfl

theorem Holds.moved (H : Holds e l b d nx) (n : ℕ) (k : BitVec 32) (hk : k.toNat = 72 - n) (h0 : 0 < n) (h8 : n ≤ 8) (r : Fin 64) :
    Chunk.moved k d nx (ix2 r l) = up n e ⟨b + r.val, by have := H.le; omega⟩ := by
  rw [up_eq_ext]
  unfold Chunk.moved
  pointwise [rot_apply]
  refine (H.joined _).trans (congrArg (ext e) ?_)
  dsimp only
  rw [hk]
  omega

/-- The rows of a chunk folded onto eight. -/
def folded (v : FVec Ideal S64x128 .f32) : FVec Ideal S8x128 .f32 :=
  multiReduction .add [0] S8x128 (shapeCast S8x8x128 v shapeCasts_S64x128_S8x8x128) 0x00000000#32 reduces_S8x8x128_S8x128 (.inl rfl) rfl

theorem folded_apply (v : FVec Ideal S64x128 .f32) (q : Fin 8) (l : Fin 128) :
    folded v (ix2 q l) = ∑ i : Fin 8, v (ix2 ⟨8 * i.val + q.val, by omega⟩ l) := by
  unfold folded
  pointwise
  rfl

/-- The sums over the last `k` chunks, folded onto eight rows. -/
def tail (g : Fin 2048 → EReal) (k : ℕ) (q : Fin 8) : EReal :=
  ∑ j ∈ Finset.range k, ∑ i : Fin 8, ext g ((31 - j) * 64 + (8 * i.val + q.val))

theorem tail_zero (g : Fin 2048 → EReal) (q : Fin 8) : tail g 0 q = 0 := rfl

theorem tail_succ (g : Fin 2048 → EReal) (k : ℕ) (hk : k < 32) (q : Fin 8) (v : FVec Ideal S64x128 .f32)
    (hv : ∀ r : Fin 64, v (ix2 r l) = g ⟨(31 - k) * 64 + r.val, by omega⟩) :
    tail g k q + folded v (ix2 q l) = tail g (k + 1) q := by
  unfold tail
  rw [Finset.sum_range_succ, folded_apply]
  exact congrArg _ (Finset.sum_congr rfl fun i _ => (hv _).trans (ext_of_lt g _).symm)

theorem tail_all (g : Fin 2048 → EReal) : ∑ q : Fin 8, tail g 32 q = ∑ s, g s := by
  have h1 : ∀ q : Fin 8, tail g 32 q = ∑ j : Fin 32, ∑ i : Fin 8, ext g (j.val * 64 + (8 * i.val + q.val)) := fun q => by
    unfold tail
    rw [← Finset.sum_range_reflect, Finset.sum_range]
    exact Finset.sum_congr rfl fun j _ => Finset.sum_congr rfl fun i _ => congrArg (ext g) (by omega)
  rw [Finset.sum_congr rfl fun q _ => h1 q, Finset.sum_comm,
    ← Equiv.sum_comp (finProdFinEquiv (m := 32) (n := 64)) g, Fintype.sum_prod_type]
  refine Finset.sum_congr rfl fun j _ => ?_
  rw [Finset.sum_comm, ← Equiv.sum_comp (finProdFinEquiv (m := 8) (n := 8)), Fintype.sum_prod_type]
  refine Finset.sum_congr rfl fun i _ => Finset.sum_congr rfl fun q _ => ?_
  rw [ext_of_lt g (by omega)]
  refine congrArg g (Fin.ext ?_)
  simp only [finProdFinEquiv_apply_val]
  omega

end Cert.MidIdeal.Chunk

end
-- ==== Proof.MidLoop.lean ====
/-
  The backward middle's loop over the chunks of a sequence, from the last to the first: what one trip yields and stores, and
  what the trips before it left.
-/
module

public import proofs.«01_k».proof.Proof.MidChunk

@[expose] public section

noncomputable section

namespace Cert.MidIdeal.Bwd

open Cert.MidIdeal Cert.MidIdeal.Gen Idealize.ShloMosaic Idealize.ShloMosaic.TcCoe Idealize.SL.Sem
open Cert.Shift Cert.Planes Cert.MidIdeal.Chunk
open Cert.Accum (ext ext_of_lt)

abbrev V8 := FVec Ideal S8x128 FTy.f32
abbrev V64 := FVec Ideal S64x128 FTy.f32
/-- What the loop carries: per plane the next chunk's first rows, then per plane four folded sums. -/
abbrev Carry := V8 × V8 × V8 × V8 × V8 × V8 × V8 × V8 × V8 × V8

variable (x0 : Vec Ideal S2048x128 .bf16) (x1 x2 : Vec Ideal S2x2048x128 .bf16) (x3 : Vec Ideal S2x3x128 .f32)

/-- The cotangent of the convolved plane `p` in the block, and the plane itself. -/
def duB (p : Fin 2) (l : Fin 128) (s : Fin 2048) : EReal := MidSpec.cot p (x0 (ix2 s l)) (x2 (ix3 0 s l)) (x2 (ix3 1 s l))
def uB (p : Fin 2) (l : Fin 128) (s : Fin 2048) : EReal := x1 (ix3 p s l)

/-- What the four sums of a plane add up. -/
def term (p : Fin 2) (l : Fin 128) (j : Fin 4) (s : Fin 2048) : EReal :=
  match j with
  | 0 => duB x0 x2 p l s
  | 1 => up 2 (duB x0 x2 p l) s * uB x1 p l s
  | 2 => up 1 (duB x0 x2 p l) s * uB x1 p l s
  | 3 => duB x0 x2 p l s * uB x1 p l s

/-- The gradient of plane `p` in the block. -/
def gradB (p : Fin 2) (s : Fin 2048) (l : Fin 128) : EReal :=
  Conv3.bwd (x3 (ix3 p 0 l)) (x3 (ix3 p 1 l)) (x3 (ix3 p 2 l)) (duB x0 x2 p l) s

theorem off1_eq (k : Fin k1_t1_loop.trips) : k1_off1 k = ![0, (31 - k.val) * 64, 0] := by revert k; decide +kernel
theorem off2_eq (k : Fin k1_t1_loop.trips) : k1_off2 k = ![1, (31 - k.val) * 64, 0] := by revert k; decide +kernel
theorem off3_eq (k : Fin k1_t1_loop.trips) : k1_off3 k = ![(31 - k.val) * 64, 0] := by revert k; decide +kernel
theorem trip_lt (k : Fin k1_t1_loop.trips) : k.val < 32 := Nat.lt_of_lt_of_le k.isLt k1_t1_abs.2.1

/-- The chunk a trip reads of a two-plane buffer, and of the cotangents. -/
def slab (x : Vec Ideal S2x2048x128 .bf16) (p : Fin 2) (k : Fin k1_t1_loop.trips) : Vec Ideal S1x64x128 .bf16 :=
  match p with
  | 0 => View.ld x (Rect.unit (s := S2x2048x128) (k1_off1 k) S1x64x128.size (k1_off1_inb k))
  | 1 => View.ld x (Rect.unit (s := S2x2048x128) (k1_off2 k) S1x64x128.size (k1_off2_inb k))
def slab0 (k : Fin k1_t1_loop.trips) : Vec Ideal S64x128 .bf16 :=
  View.ld x0 (Rect.unit (s := S2048x128) (k1_off3 k) S64x128.size (k1_off3_inb k))

theorem slab_apply (x : Vec Ideal S2x2048x128 .bf16) (p : Fin 2) (k : Fin k1_t1_loop.trips) (r : Fin 64) (l : Fin 128) :
    slab x p k (ix3 0 r l) = x (ix3 p ⟨(31 - k.val) * 64 + r.val, by omega⟩ l) := by
  match p with
  | 0 =>
    refine congrArg x (emb_unit_eq (S := S2x2048x128) _ _ (k1_off1_inb k) (ix3 (0 : Fin 1) r l) (ix3 0 _ l) fun b => ?_)
    refine Eq.trans ?_ (congrArg (· + _) (congrFun (off1_eq k) b).symm)
    match b with
    | ⟨0, _⟩ => rfl
    | ⟨1, _⟩ => rfl
    | ⟨2, _⟩ => exact (Nat.zero_add _).symm
  | 1 =>
    refine congrArg x (emb_unit_eq (S := S2x2048x128) _ _ (k1_off2_inb k) (ix3 (0 : Fin 1) r l) (ix3 1 _ l) fun b => ?_)
    refine Eq.trans ?_ (congrArg (· + _) (congrFun (off2_eq k) b).symm)
    match b with
    | ⟨0, _⟩ => rfl
    | ⟨1, _⟩ => rfl
    | ⟨2, _⟩ => exact (Nat.zero_add _).symm

theorem slab0_apply (k : Fin k1_t1_loop.trips) (r : Fin 64) (l : Fin 128) :
    slab0 x0 k (ix2 r l) = x0 (ix2 ⟨(31 - k.val) * 64 + r.val, by omega⟩ l) := by
  refine congrArg x0 (emb_unit_eq (S := S2048x128) _ _ (k1_off3_inb k) (ix2 r l) (ix2 _ l) fun b => ?_)
  refine Eq.trans ?_ (congrArg (· + _) (congrFun (off3_eq k) b).symm)
  match b with
  | ⟨0, _⟩ => rfl
  | ⟨1, _⟩ => exact (Nat.zero_add _).symm

/-- The cotangents of plane `p` in a trip's chunk. -/
def cotC (p : Fin 2) (k : Fin k1_t1_loop.trips) : V64 :=
  match p with
  | 0 => k1_pay6 (slab x2 0 k) (slab x2 1 k) (slab0 x0 k)
  | 1 => k1_pay7 (slab x2 0 k) (slab0 x0 k)

theorem cotC_apply (p : Fin 2) (k : Fin k1_t1_loop.trips) (r : Fin 64) (l : Fin 128) :
    cotC x0 x2 p k (ix2 r l) = duB x0 x2 p l ⟨(31 - k.val) * 64 + r.val, by omega⟩ := by
  match p with
  | 0 =>
    unfold cotC k1_pay6 k1_pay5 k1_pay4 k1_pay3
    pointwise [slab_apply, slab0_apply]
    rw [zero_sub]
    rfl
  | 1 =>
    unfold cotC k1_pay7 k1_pay5 k1_pay4 k1_pay3
    pointwise [slab_apply, slab0_apply]
    rw [zero_sub]
    rfl

/-- Plane `p` in a trip's chunk. -/
def planeC (p : Fin 2) (k : Fin k1_t1_loop.trips) : V64 := k1_pay13 (slab x1 p k)

theorem planeC_apply (p : Fin 2) (k : Fin k1_t1_loop.trips) (r : Fin 64) (l : Fin 128) :
    planeC x1 p k (ix2 r l) = uB x1 p l ⟨(31 - k.val) * 64 + r.val, by omega⟩ := by
  unfold planeC k1_pay13
  pointwise [slab_apply]
  rfl

/-- A chunk's first eight rows. -/
def top (d : V64) : V8 := extractStridedSlice S8x128 ![0, 0] d slices_S64x128_o0_0_S8x128

theorem top_apply (d : V64) (q : Fin 8) (l : Fin 128) : top d (ix2 q l) = d (ix2 ⟨q.val, by omega⟩ l) := by
  unfold top
  pointwise

/-- What a trip adds to the four sums of a plane. -/
def added (d u : V64) (nx : V8) (j : Fin 4) : V64 :=
  match j with
  | 0 => d
  | 1 => mulf (moved 70#32 d nx) u
  | 2 => mulf (moved 71#32 d nx) u
  | 3 => mulf d u

/-- A plane's taps, as stored. -/
def tapRow (p : Fin 2) (j : Fin 3) : Vec Ideal S1x1x128 .f32 := fun y => x3 (ix3 p j (y 2))

/-- What a trip stores in a plane. -/
def stored (p : Fin 2) (d : V64) (nx : V8) : Vec Ideal S1x64x128 .bf16 :=
  k1_pay26 d (moved 71#32 d nx) (moved 70#32 d nx) (k1_pay22 (tapRow x3 p 2)) (tapRow x3 p 1) (tapRow x3 p 0)

theorem tapRow_eq (p : Fin 2) (j : Fin 3)
    (inb : ∀ a, (![p.val, j.val, 0] : Fin 3 → ℕ) a + (![1, 1, 128] : Fin 3 → ℕ) a ≤ S2x3x128.size a) :
    View.ld x3 (Rect.unit (s := S2x3x128) ![p.val, j.val, 0] ![1, 1, 128] inb) = tapRow x3 p j := by
  funext y
  refine congrArg x3 (emb_unit_eq (S := S2x3x128) _ _ inb y _ fun b => ?_)
  match b with
  | ⟨0, _⟩ => exact (congrArg (p.val + ·) (Nat.lt_one_iff.mp (y 0).isLt)).symm
  | ⟨1, _⟩ => exact (congrArg (j.val + ·) (Nat.lt_one_iff.mp (y 1).isLt)).symm
  | ⟨2, _⟩ => exact (Nat.zero_add _).symm

theorem stored_apply (p : Fin 2) (d : V64) (nx : V8) {b : ℕ} {l : Fin 128} (H : Holds (duB x0 x2 p l) l b d nx) (r : Fin 64) :
    stored x3 p d nx (ix3 0 r l) = gradB x0 x2 x3 p ⟨b + r.val, by have := H.le; omega⟩ l := by
  unfold stored k1_pay26 k1_pay22
  pointwise [H.here, H.moved 1 71#32 rfl (by decide) (by decide), H.moved 2 70#32 rfl (by decide) (by decide)]
  rfl

theorem added_apply (p : Fin 2) (d u : V64) (nx : V8) {b : ℕ} {l : Fin 128} (H : Holds (duB x0 x2 p l) l b d nx)
    (hu : ∀ r : Fin 64, u (ix2 r l) = uB x1 p l ⟨b + r.val, by have := H.le; omega⟩) (j : Fin 4) (r : Fin 64) :
    added d u nx j (ix2 r l) = term x0 x1 x2 p l j ⟨b + r.val, by have := H.le; omega⟩ := by
  match j with
  | 0 => exact H.here r
  | 1 => exact congrArg₂ (fun a b : EReal => a * b) (H.moved 2 70#32 rfl (by decide) (by decide) r) (hu r)
  | 2 => exact congrArg₂ (fun a b : EReal => a * b) (H.moved 1 71#32 rfl (by decide) (by decide) r) (hu r)
  | 3 => exact congrArg₂ (fun a b : EReal => a * b) (H.here r) (hu r)

/-- The parts of what is carried. -/
def nextOf (a : Carry) (p : Fin 2) : V8 := match p with | 0 => a.1 | 1 => a.2.1
def sumOf (a : Carry) (p : Fin 2) (j : Fin 4) : V8 :=
  match p, j with
  | 0, 0 => a.2.2.1
  | 0, 1 => a.2.2.2.1
  | 0, 2 => a.2.2.2.2.1
  | 0, 3 => a.2.2.2.2.2.1
  | 1, 0 => a.2.2.2.2.2.2.1
  | 1, 1 => a.2.2.2.2.2.2.2.1
  | 1, 2 => a.2.2.2.2.2.2.2.2.1
  | 1, 3 => a.2.2.2.2.2.2.2.2.2

variable (c : Dev nD) (i : grid1.Coords) (arg2 : Memref sig .tc .vmem S2048x128 .bf16) (harg2 : arg2.IsWhole)
  (arg3 : Memref sig .tc .vmem S2x2048x128 .bf16) (harg3 : arg3.IsWhole) (arg4 : Memref sig .tc .vmem S2x2048x128 .bf16) (harg4 : arg4.IsWhole)
  (arg5 : Memref sig .tc .vmem S2x3x128 .f32) (harg5 : arg5.IsWhole) (arg6 : Memref sig .tc .vmem S2x2048x128 .bf16) (harg6 : arg6.IsWhole)
  (arg7 : Memref sig .tc .vmem S2x3x128 .f32) (harg7 : arg7.IsWhole) (arg8 : Memref sig .tc .vmem S2x1x128 .f32) (harg8 : arg8.IsWhole)

/-- One trip of the loop: what it yields and what it stores. -/
abbrev yields (k : Fin k1_t1_loop.trips) (a : Carry) : Carry :=
  tripR_k1_t1 (F := Ideal) Variants.none c none i arg2 harg2 arg3 harg3 arg4 harg4 arg5 harg5 arg6 harg6 arg7 harg7 arg8 harg8
    (harg2.unread x0) (harg3.unread x1) (harg4.unread x2) (harg5.unread x3) k a
abbrev stores (k : Fin k1_t1_loop.trips) (a : Carry) : List (View.Piece (Elt Ideal) S2x2048x128 .bf16) :=
  tripL_k1_t1 (F := Ideal) Variants.none c none i arg2 harg2 arg3 harg3 arg4 harg4 arg5 harg5 arg6 harg6 arg7 harg7 arg8 harg8
    (harg2.unread x0) (harg3.unread x1) (harg4.unread x2) (harg5.unread x3) k a

/-- The chunks of plane `p` in a trip with carried value `a`. -/
abbrev sumNew (k : Fin k1_t1_loop.trips) (a : Carry) (p : Fin 2) (j : Fin 4) : V8 :=
  addf (sumOf a p j) (folded (added (cotC x0 x2 p k) (planeC x1 p k) (nextOf a p) j))

theorem yields_eq (k : Fin k1_t1_loop.trips) (a : Carry) :
    yields x0 x1 x2 x3 c i arg2 harg2 arg3 harg3 arg4 harg4 arg5 harg5 arg6 harg6 arg7 harg7 arg8 harg8 k a
      = (top (cotC x0 x2 0 k), top (cotC x0 x2 1 k), sumNew x0 x1 x2 k a 0 0, sumNew x0 x1 x2 k a 0 1, sumNew x0 x1 x2 k a 0 2,
          sumNew x0 x1 x2 k a 0 3, sumNew x0 x1 x2 k a 1 0, sumNew x0 x1 x2 k a 1 1, sumNew x0 x1 x2 k a 1 2, sumNew x0 x1 x2 k a 1 3) := by
  unfold yields tripR_k1_t1 trip_k1_t1
  dsimp only
  sl_unfold_words
  simp only [View.readAt_eq_ld, harg2.read_unread, harg3.read_unread, harg4.read_unread, harg5.read_unread]
  rfl

theorem stores_eq (k : Fin k1_t1_loop.trips) (a : Carry) :
    stores x0 x1 x2 x3 c i arg2 harg2 arg3 harg3 arg4 harg4 arg5 harg5 arg6 harg6 arg7 harg7 arg8 harg8 k a
      = [⟨Rect.unit (s := S2x2048x128) (k1_off2 k) S1x64x128.size (k1_off2_inb k), stored x3 1 (cotC x0 x2 1 k) (nextOf a 1)⟩,
          ⟨Rect.unit (s := S2x2048x128) (k1_off1 k) S1x64x128.size (k1_off1_inb k), stored x3 0 (cotC x0 x2 0 k) (nextOf a 0)⟩] := by
  unfold stores tripL_k1_t1 trip_k1_t1
  dsimp only
  sl_unfold_words
  simp only [View.readAt_eq_ld, harg2.read_unread, harg3.read_unread, harg4.read_unread, harg5.read_unread]
  unfold stored
  rw [← tapRow_eq x3 0 0 inb_S2x3x128_S1x1x128_0_0_0, ← tapRow_eq x3 0 1 inb_S2x3x128_S1x1x128_0_1_0, ← tapRow_eq x3 0 2 inb_S2x3x128_S1x1x128_0_2_0,
    ← tapRow_eq x3 1 0 inb_S2x3x128_S1x1x128_1_0_0, ← tapRow_eq x3 1 1 inb_S2x3x128_S1x1x128_1_1_0, ← tapRow_eq x3 1 2 inb_S2x3x128_S1x1x128_1_2_0]
  rfl

/-- A stored slab of rows of a plane, read back. -/
theorem canon_slab {n m p t : ℕ} {ε : EltTy} (off : Fin 3 → ℕ) (o b : ℕ) (hoff : off = ![o, b, 0])
    (inb : ∀ a, off a + (![1, t, p] : Fin 3 → ℕ) a ≤ (⟨3, ![n, m, p]⟩ : Shape).size a)
    (w : (⟨3, ![1, t, p]⟩ : Shape).Idx → Elt Ideal ε) (L : List (View.Piece (Elt Ideal) ⟨3, ![n, m, p]⟩ ε))
    (k : Fin n) (s : Fin m) (l : Fin p) :
    View.canon ((⟨Rect.unit off ![1, t, p] inb, w⟩ : View.Piece (Elt Ideal) ⟨3, ![n, m, p]⟩ ε) :: L) (ix3 k s l)
      = if h : k.val = o ∧ b ≤ s.val ∧ s.val < b + t then w (ix3 0 ⟨s.val - b, by omega⟩ l) else View.canon L (ix3 k s l) := by
  subst hoff
  by_cases h : k.val = o ∧ b ≤ s.val ∧ s.val < b + t
  · rw [dif_pos h]
    have e := emb_unit_eq (S := ⟨3, ![n, m, p]⟩) ![o, b, 0] ![1, t, p] inb (ix3 (0 : Fin 1) ⟨s.val - b, by omega⟩ l) (ix3 k s l) (fun a => by
      match a with
      | ⟨0, _⟩ => exact h.1
      | ⟨1, _⟩ => show s.val = b + (s.val - b); omega
      | ⟨2, _⟩ => exact (Nat.zero_add _).symm)
    rw [← e]
    exact View.canon_cons_emb _ _ _ _
  · rw [dif_neg h]
    refine View.canon_cons_of_not_mem _ _ fun hm => h ?_
    have hm := (Rect.mem_set_unit (s := ⟨3, ![n, m, p]⟩) (inb := inb)).mp hm
    have h0 : o ≤ k.val := (hm 0).1
    have h1 : k.val < o + 1 := (hm 0).2
    have h2 : b ≤ s.val := (hm 1).1
    have h3 : s.val < b + t := (hm 1).2
    exact ⟨by omega, h2, h3⟩

/-- What holds before trip `k`: the carried rows and sums, and the rows stored so far. -/
structure Inv (k : ℕ) (s : Carry × List (View.Piece (Elt Ideal) S2x2048x128 .bf16)) : Prop where
  next : ∀ (p : Fin 2) (q : Fin 8) (l : Fin 128), nextOf s.1 p (ix2 q l) = ext (duB x0 x2 p l) ((32 - k) * 64 + q.val)
  sum : ∀ (p : Fin 2) (j : Fin 4) (q : Fin 8) (l : Fin 128), sumOf s.1 p j (ix2 q l) = tail (term x0 x1 x2 p l j) k q
  done : ∀ (p : Fin 2) (t : Fin 2048) (l : Fin 128), (32 - k) * 64 ≤ t.val → View.canon s.2 (ix3 p t l) = gradB x0 x2 x3 p t l

/-- The state before trip `k`, all carried values starting at zero. -/
abbrev state (k : ℕ) : Carry × List (View.Piece (Elt Ideal) S2x2048x128 .bf16) :=
  st_k1_t1 (F := Ideal) Variants.none c none i arg2 harg2 arg3 harg3 arg4 harg4 arg5 harg5 arg6 harg6 arg7 harg7 arg8 harg8
    (harg2.unread x0) (harg3.unread x1) (harg4.unread x2) (harg5.unread x3)
    (k1_pay25, k1_pay25, k1_pay25, k1_pay25, k1_pay25, k1_pay25, k1_pay25, k1_pay25, k1_pay25, k1_pay25) k

theorem pay25_apply (y : S8x128.Idx) : (k1_pay25 (F := Ideal)) y = 0 := by unfold k1_pay25; pointwise

theorem inv_zero : Inv x0 x1 x2 x3 0 (state x0 x1 x2 x3 c i arg2 harg2 arg3 harg3 arg4 harg4 arg5 harg5 arg6 harg6 arg7 harg7 arg8 harg8 0) where
  next p q l := by
    rw [ext, dif_neg (by omega)]
    fin_cases p <;> exact pay25_apply (ix2 q l)
  sum p j q l := by
    rw [tail_zero]
    fin_cases p <;> fin_cases j <;> exact pay25_apply (ix2 q l)
  done p t l h := absurd t.isLt (by omega)

theorem inv_succ (k : Fin k1_t1_loop.trips)
    (H : Inv x0 x1 x2 x3 k.val (state x0 x1 x2 x3 c i arg2 harg2 arg3 harg3 arg4 harg4 arg5 harg5 arg6 harg6 arg7 harg7 arg8 harg8 k.val)) :
    Inv x0 x1 x2 x3 (k.val + 1) (state x0 x1 x2 x3 c i arg2 harg2 arg3 harg3 arg4 harg4 arg5 harg5 arg6 harg6 arg7 harg7 arg8 harg8 (k.val + 1)) := by
  have hk := trip_lt k
  have e := st_k1_t1_succ (F := Ideal) Variants.none c none i arg2 harg2 arg3 harg3 arg4 harg4 arg5 harg5 arg6 harg6 arg7 harg7 arg8 harg8
    (harg2.unread x0) (harg3.unread x1) (harg4.unread x2) (harg5.unread x3)
    (k1_pay25, k1_pay25, k1_pay25, k1_pay25, k1_pay25, k1_pay25, k1_pay25, k1_pay25, k1_pay25, k1_pay25) k
  rw [show state x0 x1 x2 x3 c i arg2 harg2 arg3 harg3 arg4 harg4 arg5 harg5 arg6 harg6 arg7 harg7 arg8 harg8 (k.val + 1) = _ from e]
  clear e
  unfold state at H
  generalize st_k1_t1 (F := Ideal) Variants.none c none i arg2 harg2 arg3 harg3 arg4 harg4 arg5 harg5 arg6 harg6 arg7 harg7 arg8 harg8
    (harg2.unread x0) (harg3.unread x1) (harg4.unread x2) (harg5.unread x3)
    (k1_pay25, k1_pay25, k1_pay25, k1_pay25, k1_pay25, k1_pay25, k1_pay25, k1_pay25, k1_pay25, k1_pay25) k.val = s at H ⊢
  have ey := yields_eq x0 x1 x2 x3 c i arg2 harg2 arg3 harg3 arg4 harg4 arg5 harg5 arg6 harg6 arg7 harg7 arg8 harg8 k s.1
  have es := stores_eq x0 x1 x2 x3 c i arg2 harg2 arg3 harg3 arg4 harg4 arg5 harg5 arg6 harg6 arg7 harg7 arg8 harg8 k s.1
  unfold yields at ey
  unfold stores at es
  rw [ey, es]
  clear ey es
  have hh : ∀ p l, Holds (duB x0 x2 p l) l ((31 - k.val) * 64) (cotC x0 x2 p k) (nextOf s.1 p) := fun p l =>
    { le := by omega
      here := fun r => cotC_apply x0 x2 p k r l
      next := fun q => (H.next p q l).trans (congrArg (ext _) (by omega)) }
  refine ⟨fun p q l => ?_, fun p j q l => ?_, fun p t l ht => ?_⟩
  · have h1 : top (cotC x0 x2 p k) (ix2 q l) = ext (duB x0 x2 p l) ((32 - (k.val + 1)) * 64 + q.val) := by
      rw [top_apply, cotC_apply, ← ext_of_lt (duB x0 x2 p l) (by omega)]
      exact congrArg (ext _) (by dsimp only; omega)
    refine Eq.trans ?_ h1
    fin_cases p <;> rfl
  · have h1 : sumNew x0 x1 x2 k s.1 p j (ix2 q l) = tail (term x0 x1 x2 p l j) (k.val + 1) q := by
      rw [← tail_succ (l := l) (term x0 x1 x2 p l j) k.val hk q _ (added_apply x0 x1 x2 p _ (planeC x1 p k) _ (hh p l)
        (fun r => planeC_apply x1 p k r l) j), ← H.sum p j q l]
      rfl
    refine Eq.trans ?_ h1
    fin_cases p <;> fin_cases j <;> rfl
  · show View.canon (_ :: _ :: s.2) _ = _
    rw [canon_slab _ 1 ((31 - k.val) * 64) (off2_eq k), canon_slab _ 0 ((31 - k.val) * 64) (off1_eq k)]
    have hs : ∀ (p : Fin 2) (h : (31 - k.val) * 64 ≤ t.val ∧ t.val < (31 - k.val) * 64 + 64),
        stored x3 p (cotC x0 x2 p k) (nextOf s.1 p) (ix3 0 ⟨t.val - (31 - k.val) * 64, by omega⟩ l) = gradB x0 x2 x3 p t l := fun p h => by
      rw [stored_apply x0 x2 x3 p _ _ (hh p l)]
      exact congrArg (fun t => gradB x0 x2 x3 p t l) (Fin.ext (by dsimp only; omega))
    by_cases hr : t.val < (31 - k.val) * 64 + 64
    · fin_cases p
      · rw [dif_neg (by intro h; exact absurd h.1 (by decide)), dif_pos ⟨rfl, by omega, hr⟩]
        exact hs 0 ⟨by omega, hr⟩
      · rw [dif_pos ⟨rfl, by omega, hr⟩]
        exact hs 1 ⟨by omega, hr⟩
    · rw [dif_neg (by omega), dif_neg (by omega)]
      exact H.done p t l (by omega)

/-- After the last trip. -/
theorem inv_all : Inv x0 x1 x2 x3 32 (state x0 x1 x2 x3 c i arg2 harg2 arg3 harg3 arg4 harg4 arg5 harg5 arg6 harg6 arg7 harg7 arg8 harg8 32) := by
  have h : ∀ k, k ≤ 32 → Inv x0 x1 x2 x3 k (state x0 x1 x2 x3 c i arg2 harg2 arg3 harg3 arg4 harg4 arg5 harg5 arg6 harg6 arg7 harg7 arg8 harg8 k) := by
    intro k
    induction k with
    | zero => exact fun _ => inv_zero x0 x1 x2 x3 c i arg2 harg2 arg3 harg3 arg4 harg4 arg5 harg5 arg6 harg6 arg7 harg7 arg8 harg8
    | succ k ih =>
      exact fun hk => inv_succ x0 x1 x2 x3 c i arg2 harg2 arg3 harg3 arg4 harg4 arg5 harg5 arg6 harg6 arg7 harg7 arg8 harg8
        ⟨k, lt_of_lt_of_eq hk (by decide +kernel)⟩ (ih (by omega))
  exact h 32 le_rfl

end Cert.MidIdeal.Bwd

end
-- ==== Proof.MidBwdBlock.lean ====
/-
  What one grid point of the backward middle leaves: the gradients of the two planes of its block, and the rows of the weight
  and the bias gradients, to which every point of a channel block adds the sums over its sequence.
-/
module

public import proofs.«01_k».proof.Proof.MidLoop

@[expose] public section

noncomputable section

namespace Cert.MidIdeal.Bwd

open Cert.MidIdeal Cert.MidIdeal.Gen Idealize.ShloMosaic Idealize.ShloMosaic.TcCoe Idealize.SL.Sem
open Cert.Shift Cert.Planes Cert.MidIdeal.Chunk

/-! Rows of a two-plane buffer to which a sum over eight rows is added. -/

section Rows

variable {m : ℕ} {sig : RefSig} {κ : Kind} {sp : Space} (v : View sig κ sp ⟨3, ![2, m, 128]⟩ .f32)

abbrev Rows (m : ℕ) := List (View.Piece (Elt Ideal) ⟨3, ![2, m, 128]⟩ .f32)

theorem row_inb (x : Fin 2 × Fin m) (a : Fin 3) :
    (![x.1.val, x.2.val, 0] : Fin 3 → ℕ) a + (![1, 1, 128] : Fin 3 → ℕ) a ≤ (⟨3, ![2, m, 128]⟩ : Shape).size a := by
  match a with
  | ⟨0, _⟩ => exact x.1.isLt
  | ⟨1, _⟩ => exact x.2.isLt
  | ⟨2, _⟩ => exact le_of_eq (Nat.zero_add _)

/-- Row `x.2` of plane `x.1`. -/
abbrev rowRect (x : Fin 2 × Fin m) : Rect ⟨3, ![2, m, 128]⟩ := Rect.unit (s := ⟨3, ![2, m, 128]⟩) ![x.1.val, x.2.val, 0] ![1, 1, 128] (row_inb x)

/-- A row plus the sum over eight rows. -/
def addRow (s : V8) (w : Vec Ideal S1x1x128 .f32) : FVec Ideal S1x1x128 .f32 :=
  shapeCast S1x1x128 (addf (shapeCast S1x128 w shapeCasts_S1x1x128_S1x128)
    (shapeCast S1x128 (multiReduction .add [0] S128 s 0x00000000#32 reduces_S8x128_S128 (.inl rfl) rfl) shapeCasts_S128_S1x128))
    shapeCasts_S1x128_S1x1x128

theorem addRow_apply (s : V8) (w : Vec Ideal S1x1x128 .f32) (l : Fin 128) :
    addRow s w (ix3 0 0 l) = w (ix3 0 0 l) + ∑ q : Fin 8, s (ix2 q l) := by
  unfold addRow
  pointwise

theorem emb_row (x : Fin 2 × Fin m) (l : Fin 128) : (rowRect x).emb (ix3 (0 : Fin 1) (0 : Fin 1) l) = ix3 x.1 x.2 l :=
  emb_unit_eq (S := ⟨3, ![2, m, 128]⟩) _ _ (row_inb x) _ _ fun b => by
    match b with
    | ⟨0, _⟩ => rfl
    | ⟨1, _⟩ => rfl
    | ⟨2, _⟩ => exact (Nat.zero_add _).symm

theorem canon_cons_row (x : Fin 2 × Fin m) (w : Vec Ideal S1x1x128 .f32) (L : Rows m) (p : Fin 2) (k : Fin m) (l : Fin 128) :
    View.canon (⟨rowRect x, w⟩ :: L) (ix3 p k l) = if x = (p, k) then w (ix3 0 0 l) else View.canon L (ix3 p k l) := by
  by_cases h : x = (p, k)
  · rw [if_pos h]
    subst h
    rw [← emb_row (p, k) l]
    exact View.canon_cons_emb _ _ _ _
  · rw [if_neg h, canon_slab _ x.1.val x.2.val rfl, dif_neg]
    intro hc
    exact h (Prod.ext (Fin.ext hc.1.symm) (Fin.ext (show x.2.val = k.val by have : x.2.val ≤ k.val ∧ k.val < x.2.val + 1 := hc.2; omega)))

/-- The rows `xs` (last first) added to a zeroed buffer one after the other. -/
def fromZero (z : Vec Ideal ⟨3, ![2, m, 128]⟩ .f32)
    (inb : ∀ a, (![0, 0, 0] : Fin 3 → ℕ) a + (![2, m, 128] : Fin 3 → ℕ) a ≤ (⟨3, ![2, m, 128]⟩ : Shape).size a) (f : Fin 2 × Fin m → V8) : List (Fin 2 × Fin m) → Rows m
  | [] => [⟨Rect.unit ![0, 0, 0] ![2, m, 128] inb, z⟩]
  | x :: xs => ⟨rowRect x, addRow (f x) (v.readCov (fromZero z inb f xs) (rowRect x).toLoadRect)⟩ :: fromZero z inb f xs

theorem fromZero_apply (z : Vec Ideal ⟨3, ![2, m, 128]⟩ .f32) (hz : ∀ y, z y = 0) (inb) (f : Fin 2 × Fin m → V8)
    (p : Fin 2) (k : Fin m) (l : Fin 128) (xs : List (Fin 2 × Fin m)) (hx : xs.Nodup) :
    View.canon (fromZero v z inb f xs) (ix3 p k l) = if (p, k) ∈ xs then ∑ q : Fin 8, f (p, k) (ix2 q l) else 0 := by
  induction xs with
  | nil =>
    rw [if_neg (List.not_mem_nil)]
    unfold fromZero
    rw [View.canon_cons_unit_zero (S := ⟨3, ![2, m, 128]⟩) hz3]
    exact hz _
  | cons x xs ih =>
    obtain ⟨h1, h2⟩ := List.nodup_cons.mp hx
    unfold fromZero
    rw [canon_cons_row]
    by_cases h : x = (p, k)
    · subst h
      rw [if_pos rfl, if_pos List.mem_cons_self, addRow_apply, View.readCov_eq_canon']
      have e0 : View.canon (fromZero v z inb f xs) ((rowRect (p, k)).emb (ix3 (0 : Fin 1) (0 : Fin 1) l)) = 0 := by
        rw [emb_row (p, k) l, ih h2, if_neg h1]
      exact (congrArg (· + _) e0).trans (zero_add _)
    · rw [if_neg h, ih h2]
      have e : (p, k) ∈ x :: xs ↔ (p, k) ∈ xs := by
        rw [List.mem_cons]
        exact or_iff_right (Ne.symm h)
      simp only [e]

/-- The rows `xs` added to what the buffer held. -/
def fromHeld (w : Vec Ideal ⟨3, ![2, m, 128]⟩ .f32) (f : Fin 2 × Fin m → V8) (xs : List (Fin 2 × Fin m)) : Rows m :=
  xs.map fun x => ⟨rowRect x, addRow (f x) (View.ld w (rowRect x))⟩

theorem fromHeld_apply (w : Vec Ideal ⟨3, ![2, m, 128]⟩ .f32) (f : Fin 2 × Fin m → V8) (p : Fin 2) (k : Fin m) (l : Fin 128)
    (xs : List (Fin 2 × Fin m)) (hx : (p, k) ∈ xs) :
    View.canon (fromHeld w f xs) (ix3 p k l) = w (ix3 p k l) + ∑ q : Fin 8, f (p, k) (ix2 q l) := by
  induction xs with
  | nil => exact absurd hx (List.not_mem_nil)
  | cons x xs ih =>
    unfold fromHeld
    rw [List.map_cons, canon_cons_row]
    by_cases h : x = (p, k)
    · subst h
      rw [if_pos rfl, addRow_apply]
      exact congrArg (· + _) (congrArg w (emb_row (p, k) l))
    · rw [if_neg h]
      exact ih ((List.mem_cons.mp hx).resolve_left (Ne.symm h))

end Rows

variable (x0 : Vec Ideal S2048x128 .bf16) (x1 x2 : Vec Ideal S2x2048x128 .bf16) (x3 : Vec Ideal S2x3x128 .f32)
variable (c : Dev nD) (i : grid1.Coords) (arg2 : Memref sig .tc .vmem S2048x128 .bf16) (harg2 : arg2.IsWhole)
  (arg3 : Memref sig .tc .vmem S2x2048x128 .bf16) (harg3 : arg3.IsWhole) (arg4 : Memref sig .tc .vmem S2x2048x128 .bf16) (harg4 : arg4.IsWhole)
  (arg5 : Memref sig .tc .vmem S2x3x128 .f32) (harg5 : arg5.IsWhole) (arg6 : Memref sig .tc .vmem S2x2048x128 .bf16) (harg6 : arg6.IsWhole)
  (arg7 : Memref sig .tc .vmem S2x3x128 .f32) (harg7 : arg7.IsWhole) (arg8 : Memref sig .tc .vmem S2x1x128 .f32) (harg8 : arg8.IsWhole)

theorem trips_eq : Scf.trips (0#32) (Scalar.addi 0#32 32#32) 1#32 = 32 := by decide +kernel

/-- The state the loop ends in. -/
abbrev final : Carry × List (View.Piece (Elt Ideal) S2x2048x128 .bf16) :=
  state x0 x1 x2 x3 c i arg2 harg2 arg3 harg3 arg4 harg4 arg5 harg5 arg6 harg6 arg7 harg7 arg8 harg8 (Scf.trips (0#32) (Scalar.addi 0#32 32#32) 1#32)

theorem final_inv : Inv x0 x1 x2 x3 32 (final x0 x1 x2 x3 c i arg2 harg2 arg3 harg3 arg4 harg4 arg5 harg5 arg6 harg6 arg7 harg7 arg8 harg8) := by
  unfold final
  rw [trips_eq]
  exact inv_all x0 x1 x2 x3 c i arg2 harg2 arg3 harg3 arg4 harg4 arg5 harg5 arg6 harg6 arg7 harg7 arg8 harg8

/-- The four sums over the block's sequence. -/
theorem sums (p : Fin 2) (j : Fin 4) (l : Fin 128) :
    ∑ q : Fin 8, sumOf (final x0 x1 x2 x3 c i arg2 harg2 arg3 harg3 arg4 harg4 arg5 harg5 arg6 harg6 arg7 harg7 arg8 harg8).1 p j (ix2 q l)
      = ∑ s, term x0 x1 x2 p l j s :=
  (Finset.sum_congr rfl fun q _ => (final_inv x0 x1 x2 x3 c i arg2 harg2 arg3 harg3 arg4 harg4 arg5 harg5 arg6 harg6 arg7 harg7 arg8 harg8).sum p j q l).trans
    (tail_all _)

/-- The order in which the rows are stored, last first. -/
def order3 : List (Fin 2 × Fin 3) := [(1, 2), (1, 1), (1, 0), (0, 2), (0, 1), (0, 0)]
def order1 : List (Fin 2 × Fin 1) := [(1, 0), (0, 0)]

/-- The sums that the rows of the weight and of the bias gradient receive. -/
abbrev taps (x : Fin 2 × Fin 3) : V8 :=
  sumOf (final x0 x1 x2 x3 c i arg2 harg2 arg3 harg3 arg4 harg4 arg5 harg5 arg6 harg6 arg7 harg7 arg8 harg8).1 x.1 x.2.succ
abbrev biases (x : Fin 2 × Fin 1) : V8 :=
  sumOf (final x0 x1 x2 x3 c i arg2 harg2 arg3 harg3 arg4 harg4 arg5 harg5 arg6 harg6 arg7 harg7 arg8 harg8).1 x.1 0

theorem out_A4 (hc0 : cond1_0 i) (p : Fin 2) (s : Fin 2048) (l : Fin 128) :
    out1_A_4 c i arg2 harg2 arg3 harg3 arg4 harg4 arg5 harg5 arg6 harg6 arg7 harg7 arg8 harg8 hc0 x0 x1 x2 x3 (ix3 p s l)
      = gradB x0 x2 x3 p s l := by
  unfold out1_A_4
  rw [View.read_writes_eq_canon _ _ _ (cover1_A_4 c i arg2 harg2 arg3 harg3 arg4 harg4 arg5 harg5 arg6 harg6 arg7 harg7 arg8 harg8 hc0 x0 x1 x2 x3),
    ← (final_inv x0 x1 x2 x3 c i arg2 harg2 arg3 harg3 arg4 harg4 arg5 harg5 arg6 harg6 arg7 harg7 arg8 harg8).done p s l (by omega)]
  unfold kernelRun1_A
  dsimp only

theorem out_B4 (hc0 : ¬ cond1_0 i) (xo5 : Vec Ideal S2x3x128 .f32) (xo6 : Vec Ideal S2x1x128 .f32) (p : Fin 2) (s : Fin 2048) (l : Fin 128) :
    out1_B_4 c i arg2 harg2 arg3 harg3 arg4 harg4 arg5 harg5 arg6 harg6 arg7 harg7 arg8 harg8 hc0 x0 x1 x2 x3 xo5 xo6 (ix3 p s l)
      = gradB x0 x2 x3 p s l := by
  unfold out1_B_4
  rw [View.read_writes_eq_canon _ _ _ (cover1_B_4 c i arg2 harg2 arg3 harg3 arg4 harg4 arg5 harg5 arg6 harg6 arg7 harg7 arg8 harg8 hc0 x0 x1 x2 x3 xo5 xo6),
    ← (final_inv x0 x1 x2 x3 c i arg2 harg2 arg3 harg3 arg4 harg4 arg5 harg5 arg6 harg6 arg7 harg7 arg8 harg8).done p s l (by omega)]
  unfold kernelRun1_B
  dsimp only

theorem out_A5 (hc0 : cond1_0 i) (p : Fin 2) (k : Fin 3) (l : Fin 128) :
    out1_A_5 c i arg2 harg2 arg3 harg3 arg4 harg4 arg5 harg5 arg6 harg6 arg7 harg7 arg8 harg8 hc0 x0 x1 x2 x3 (ix3 p k l)
      = ∑ s, term x0 x1 x2 p l k.succ s := by
  unfold out1_A_5
  rw [View.read_writes_eq_canon _ _ _ (cover1_A_5 c i arg2 harg2 arg3 harg3 arg4 harg4 arg5 harg5 arg6 harg6 arg7 harg7 arg8 harg8 hc0 x0 x1 x2 x3),
    ← sums x0 x1 x2 x3 c i arg2 harg2 arg3 harg3 arg4 harg4 arg5 harg5 arg6 harg6 arg7 harg7 arg8 harg8 p k.succ l]
  refine Eq.trans ?_ ((fromZero_apply arg7.view (k1_pay23 (F := Ideal)) (fun y => by unfold k1_pay23; pointwise) inb_S2x3x128_S2x3x128_0_0_0
    (taps x0 x1 x2 x3 c i arg2 harg2 arg3 harg3 arg4 harg4 arg5 harg5 arg6 harg6 arg7 harg7 arg8 harg8) p k l order3 (by decide)).trans
    (if_pos (by revert p k; decide)))
  unfold kernelRun1_A
  dsimp only
  sl_unfold_words
  rfl

theorem out_A6 (hc0 : cond1_0 i) (p : Fin 2) (l : Fin 128) :
    out1_A_6 c i arg2 harg2 arg3 harg3 arg4 harg4 arg5 harg5 arg6 harg6 arg7 harg7 arg8 harg8 hc0 x0 x1 x2 x3 (ix3 p 0 l)
      = ∑ s, term x0 x1 x2 p l 0 s := by
  unfold out1_A_6
  rw [View.read_writes_eq_canon _ _ _ (cover1_A_6 c i arg2 harg2 arg3 harg3 arg4 harg4 arg5 harg5 arg6 harg6 arg7 harg7 arg8 harg8 hc0 x0 x1 x2 x3),
    ← sums x0 x1 x2 x3 c i arg2 harg2 arg3 harg3 arg4 harg4 arg5 harg5 arg6 harg6 arg7 harg7 arg8 harg8 p 0 l]
  refine Eq.trans ?_ ((fromZero_apply arg8.view (k1_pay24 (F := Ideal)) (fun y => by unfold k1_pay24; pointwise) inb_S2x1x128_S2x1x128_0_0_0
    (biases x0 x1 x2 x3 c i arg2 harg2 arg3 harg3 arg4 harg4 arg5 harg5 arg6 harg6 arg7 harg7 arg8 harg8) p 0 l order1 (by decide)).trans
    (if_pos (by revert p; decide)))
  unfold kernelRun1_A
  dsimp only
  sl_unfold_words
  rfl

theorem out_B5 (hc0 : ¬ cond1_0 i) (xo5 : Vec Ideal S2x3x128 .f32) (xo6 : Vec Ideal S2x1x128 .f32) (p : Fin 2) (k : Fin 3) (l : Fin 128) :
    out1_B_5 c i arg2 harg2 arg3 harg3 arg4 harg4 arg5 harg5 arg6 harg6 arg7 harg7 arg8 harg8 hc0 x0 x1 x2 x3 xo5 xo6 (ix3 p k l)
      = xo5 (ix3 p k l) + ∑ s, term x0 x1 x2 p l k.succ s := by
  unfold out1_B_5
  rw [View.read_writes_eq_canon _ _ _ (cover1_B_5 c i arg2 harg2 arg3 harg3 arg4 harg4 arg5 harg5 arg6 harg6 arg7 harg7 arg8 harg8 hc0 x0 x1 x2 x3 xo5 xo6),
    ← sums x0 x1 x2 x3 c i arg2 harg2 arg3 harg3 arg4 harg4 arg5 harg5 arg6 harg6 arg7 harg7 arg8 harg8 p k.succ l]
  refine Eq.trans ?_ (fromHeld_apply xo5
    (taps x0 x1 x2 x3 c i arg2 harg2 arg3 harg3 arg4 harg4 arg5 harg5 arg6 harg6 arg7 harg7 arg8 harg8) p k l order3 (by revert p k; decide))
  unfold kernelRun1_B
  dsimp only
  sl_unfold_words
  simp only [View.readAt_eq_ld, harg7.read_unread]
  rfl

theorem out_B6 (hc0 : ¬ cond1_0 i) (xo5 : Vec Ideal S2x3x128 .f32) (xo6 : Vec Ideal S2x1x128 .f32) (p : Fin 2) (l : Fin 128) :
    out1_B_6 c i arg2 harg2 arg3 harg3 arg4 harg4 arg5 harg5 arg6 harg6 arg7 harg7 arg8 harg8 hc0 x0 x1 x2 x3 xo5 xo6 (ix3 p 0 l)
      = xo6 (ix3 p 0 l) + ∑ s, term x0 x1 x2 p l 0 s := by
  unfold out1_B_6
  rw [View.read_writes_eq_canon _ _ _ (cover1_B_6 c i arg2 harg2 arg3 harg3 arg4 harg4 arg5 harg5 arg6 harg6 arg7 harg7 arg8 harg8 hc0 x0 x1 x2 x3 xo5 xo6),
    ← sums x0 x1 x2 x3 c i arg2 harg2 arg3 harg3 arg4 harg4 arg5 harg5 arg6 harg6 arg7 harg7 arg8 harg8 p 0 l]
  refine Eq.trans ?_ (fromHeld_apply xo6
    (biases x0 x1 x2 x3 c i arg2 harg2 arg3 harg3 arg4 harg4 arg5 harg5 arg6 harg6 arg7 harg7 arg8 harg8) p 0 l order1 (by revert p; decide))
  unfold kernelRun1_B
  dsimp only
  sl_unfold_words
  simp only [View.readAt_eq_ld, harg8.read_unread]
  rfl

end Cert.MidIdeal.Bwd

end
-- ==== Proof.MidGradArray.lean ====
/-
  The gradient of the middle over the whole arrays: what each grid point reads of the arguments and of the convolved planes,
  and what the three gradients hold after the call.
-/
module

public import proofs.«01_k».proof.Proof.MidArray
public import proofs.«01_k».proof.Proof.MidBwdBlock

@[expose] public section

noncomputable section

namespace Cert.MidIdeal.Value

open Cert.MidIdeal Cert.MidIdeal.Gen Idealize.ShloMosaic Idealize.ShloMosaic.TcCoe Idealize.SL.Sem
open Idealize.ShloMosaic.Pipeline (Dat)
open Cert.Conv3 (tok)

variable (m : (ℓ : Loc nD τ sig) → Buf (Elt Ideal) ℓ) (ρ : Dev nD → PrngReg) (c : Dev nD)

/-! ### What the call finds -/

theorem found_a (r : Fin 4096) (l : Fin 2816) :
    (V2 m ρ c main_arg0 : (⟨2, ![4096, 2816]⟩ : Shape).Idx → EReal) (ix2 r l) = aA m c (ix2 r l) :=
  congrFun (W2_args m ρ c main_arg0 (by decide)) _

theorem found_u (p : Fin 2) (r : Fin 4096) (l : Fin 2816) :
    (V2 m ρ c main_arg1 : (⟨3, ![2, 4096, 2816]⟩ : Shape).Idx → EReal) (ix3 p r l) = aU m c (ix3 p r l) :=
  congrFun (W2_args m ρ c main_arg1 (by decide)) _

theorem found_conv (p : Fin 2) (r : Fin 4096) (l : Fin 2816) :
    (V2 m ρ c main_v3_1 : (⟨3, ![2, 4096, 2816]⟩ : Shape).Idx → EReal) (ix3 p r l) = convA m c (ix3 p r l) :=
  congrFun ((W2_arr m ρ c 4).trans (final_conv m ρ c)) _

theorem found_w (p : Fin 2) (k : Fin 3) (l : Fin 2816) :
    (V2 m ρ c main_v1 : (⟨3, ![2, 3, 2816]⟩ : Shape).Idx → EReal) (ix3 p k l) = aW m c (ix2 k (MidSpec.col p l)) :=
  (congrFun (W2_of m ρ c main_v1 (by decide +kernel)) _).trans (entry_w m ρ c p k l)

/-! ### The blocks a grid point reads -/

/-- Sequence and channel of a grid point. -/
def seqG (t : Fin cfg1.N) : Fin 2 := ⟨t.val % 2, Nat.mod_lt _ (by decide)⟩
def chanG (t : Fin cfg1.N) (l : Fin 128) : Fin 2816 :=
  ⟨t.val / 2 * 128 + l.val, by have h : t.val < 44 := t.isLt.trans_eq N_1; omega⟩

theorem index1_0 : ∀ t : Fin cfg1.N, win1_0.index t 0 = t.val % 2 ∧ win1_0.index t 1 = t.val / 2 :=
  (by decide +kernel : ∀ t : Fin grid1.N, win1_0.index t 0 = t.val % 2 ∧ win1_0.index t 1 = t.val / 2)
theorem index1_1 : ∀ t : Fin cfg1.N, win1_1.index t 0 = 0 ∧ win1_1.index t 1 = t.val % 2 ∧ win1_1.index t 2 = t.val / 2 :=
  (by decide +kernel : ∀ t : Fin grid1.N, win1_1.index t 0 = 0 ∧ win1_1.index t 1 = t.val % 2 ∧ win1_1.index t 2 = t.val / 2)
theorem index1_2 : ∀ t : Fin cfg1.N, win1_2.index t 0 = 0 ∧ win1_2.index t 1 = t.val % 2 ∧ win1_2.index t 2 = t.val / 2 :=
  (by decide +kernel : ∀ t : Fin grid1.N, win1_2.index t 0 = 0 ∧ win1_2.index t 1 = t.val % 2 ∧ win1_2.index t 2 = t.val / 2)
theorem index1_3 : ∀ t : Fin cfg1.N, win1_3.index t 0 = 0 ∧ win1_3.index t 1 = 0 ∧ win1_3.index t 2 = t.val / 2 :=
  (by decide +kernel : ∀ t : Fin grid1.N, win1_3.index t 0 = 0 ∧ win1_3.index t 1 = 0 ∧ win1_3.index t 2 = t.val / 2)
theorem index1_4 : ∀ t : Fin cfg1.N, win1_4.index t 0 = 0 ∧ win1_4.index t 1 = t.val % 2 ∧ win1_4.index t 2 = t.val / 2 :=
  (by decide +kernel : ∀ t : Fin grid1.N, win1_4.index t 0 = 0 ∧ win1_4.index t 1 = t.val % 2 ∧ win1_4.index t 2 = t.val / 2)
theorem index1_5 : ∀ t : Fin cfg1.N, win1_5.index t 0 = 0 ∧ win1_5.index t 1 = 0 ∧ win1_5.index t 2 = t.val / 2 :=
  (by decide +kernel : ∀ t : Fin grid1.N, win1_5.index t 0 = 0 ∧ win1_5.index t 1 = 0 ∧ win1_5.index t 2 = t.val / 2)
theorem index1_6 : ∀ t : Fin cfg1.N, win1_6.index t 0 = 0 ∧ win1_6.index t 1 = 0 ∧ win1_6.index t 2 = t.val / 2 :=
  (by decide +kernel : ∀ t : Fin grid1.N, win1_6.index t 0 = 0 ∧ win1_6.index t 1 = 0 ∧ win1_6.index t 2 = t.val / 2)

theorem block1_a (t : Fin cfg1.N) (s : Fin 2048) (l : Fin 128) :
    (iblk1 (V2 m ρ) c 0 t : Vec Ideal S2048x128 .bf16) (ix2 s l) = aA m c (ix2 (tok (seqG t) s) (chanG t l)) := by
  unfold iblk1
  rw [View.read_apply]
  refine Eq.trans ?_ (found_a m ρ c (tok (seqG t) s) (chanG t l))
  refine congrArg (V2 m ρ c main_arg0) ?_
  funext a
  apply Fin.ext
  match a with
  | ⟨0, _⟩ => show win1_0.index t 0 * 2048 + 1 * s.val = t.val % 2 * 2048 + s.val; rw [(index1_0 t).1]; omega
  | ⟨1, _⟩ => show win1_0.index t 1 * 128 + 1 * l.val = t.val / 2 * 128 + l.val; rw [(index1_0 t).2]; omega

theorem block1_u (t : Fin cfg1.N) (p : Fin 2) (s : Fin 2048) (l : Fin 128) :
    (iblk1 (V2 m ρ) c 1 t : Vec Ideal S2x2048x128 .bf16) (ix3 p s l) = MidSpec.seq (aU m c) p (seqG t) (chanG t l) s := by
  unfold iblk1
  rw [View.read_apply]
  refine Eq.trans ?_ (found_u m ρ c p (tok (seqG t) s) (chanG t l))
  refine congrArg (V2 m ρ c main_arg1) ?_
  funext a
  apply Fin.ext
  match a with
  | ⟨0, _⟩ => show win1_1.index t 0 * 2 + 1 * p.val = p.val; rw [(index1_1 t).1]; omega
  | ⟨1, _⟩ => show win1_1.index t 1 * 2048 + 1 * s.val = t.val % 2 * 2048 + s.val; rw [(index1_1 t).2.1]; omega
  | ⟨2, _⟩ => show win1_1.index t 2 * 128 + 1 * l.val = t.val / 2 * 128 + l.val; rw [(index1_1 t).2.2]; omega

theorem block1_conv (t : Fin cfg1.N) (p : Fin 2) (s : Fin 2048) (l : Fin 128) :
    (iblk1 (V2 m ρ) c 2 t : Vec Ideal S2x2048x128 .bf16) (ix3 p s l)
      = MidSpec.conv (aU m c) (aW m c) (aB m c) p (seqG t) (chanG t l) s := by
  unfold iblk1
  rw [View.read_apply]
  refine Eq.trans ?_ ((found_conv m ρ c p (tok (seqG t) s) (chanG t l)).trans ?_)
  · refine congrArg (V2 m ρ c main_v3_1) ?_
    funext a
    apply Fin.ext
    match a with
    | ⟨0, _⟩ => show win1_2.index t 0 * 2 + 1 * p.val = p.val; rw [(index1_2 t).1]; omega
    | ⟨1, _⟩ => show win1_2.index t 1 * 2048 + 1 * s.val = t.val % 2 * 2048 + s.val; rw [(index1_2 t).2.1]; omega
    | ⟨2, _⟩ => show win1_2.index t 2 * 128 + 1 * l.val = t.val / 2 * 128 + l.val; rw [(index1_2 t).2.2]; omega
  · show MidSpec.conv _ _ _ p (MidSpec.seqOf (tok (seqG t) s)) (chanG t l) (MidSpec.posOf (tok (seqG t) s)) = _
    rw [MidSpec.seqOf_tok, MidSpec.posOf_tok]

theorem block1_w (t : Fin cfg1.N) (p : Fin 2) (k : Fin 3) (l : Fin 128) :
    (iblk1 (V2 m ρ) c 3 t : Vec Ideal S2x3x128 .f32) (ix3 p k l) = aW m c (ix2 k (MidSpec.col p (chanG t l))) := by
  unfold iblk1
  rw [View.read_apply]
  refine Eq.trans ?_ (found_w m ρ c p k (chanG t l))
  refine congrArg (V2 m ρ c main_v1) ?_
  funext a
  apply Fin.ext
  match a with
  | ⟨0, _⟩ => show win1_3.index t 0 * 2 + 1 * p.val = p.val; rw [(index1_3 t).1]; omega
  | ⟨1, _⟩ => show win1_3.index t 1 * 3 + 1 * k.val = k.val; rw [(index1_3 t).2.1]; omega
  | ⟨2, _⟩ => show win1_3.index t 2 * 128 + 1 * l.val = t.val / 2 * 128 + l.val; rw [(index1_3 t).2.2]; omega

/-- A point's cotangents and sequences are those of the whole arrays. -/
theorem duB_block (t : Fin cfg1.N) (p : Fin 2) (l : Fin 128) :
    Bwd.duB (iblk1 (V2 m ρ) c 0 t) (iblk1 (V2 m ρ) c 2 t) p l
      = MidSpec.du (aA m c) (aU m c) (aW m c) (aB m c) p (seqG t) (chanG t l) := by
  funext s
  unfold Bwd.duB MidSpec.du
  rw [block1_a, block1_conv, block1_conv]

theorem gradB_block (t : Fin cfg1.N) (p : Fin 2) (s : Fin 2048) (l : Fin 128) :
    Bwd.gradB (iblk1 (V2 m ρ) c 0 t) (iblk1 (V2 m ρ) c 2 t) (iblk1 (V2 m ρ) c 3 t) p s l
      = MidSpec.gradU (aA m c) (aU m c) (aW m c) (aB m c) p (seqG t) s (chanG t l) := by
  unfold Bwd.gradB MidSpec.gradU
  rw [duB_block, block1_w, block1_w, block1_w]

/-- The four sums of a point: the taps' and the bias's share of its sequence. -/
theorem tap_block (t : Fin cfg1.N) (p : Fin 2) (k : Fin 3) (l : Fin 128) :
    ∑ s, Bwd.term (iblk1 (V2 m ρ) c 0 t) (iblk1 (V2 m ρ) c 1 t) (iblk1 (V2 m ρ) c 2 t) p l k.succ s
      = Conv3.tap k (MidSpec.du (aA m c) (aU m c) (aW m c) (aB m c) p (seqG t) (chanG t l)) (MidSpec.seq (aU m c) p (seqG t) (chanG t l)) := by
  rw [← MidSpec.tapUp_eq, ← duB_block m ρ c t p l,
    ← (funext fun s => block1_u m ρ c t p s l : Bwd.uB (iblk1 (V2 m ρ) c 1 t) p l = MidSpec.seq (aU m c) p (seqG t) (chanG t l))]
  match k with
  | 0 => rfl
  | 1 => rfl
  | 2 => rfl

theorem bias_block (t : Fin cfg1.N) (p : Fin 2) (l : Fin 128) :
    ∑ s, Bwd.term (iblk1 (V2 m ρ) c 0 t) (iblk1 (V2 m ρ) c 1 t) (iblk1 (V2 m ρ) c 2 t) p l 0 s
      = ∑ s, MidSpec.du (aA m c) (aU m c) (aW m c) (aB m c) p (seqG t) (chanG t l) s := by
  rw [← duB_block m ρ c t p l]
  rfl

/-! ### What a point leaves -/

theorem outs4_apply (t : Fin cfg1.N) (p : Fin 2) (s : Fin 2048) (l : Fin 128) :
    (outsAt1 (V2 m ρ) c t.val t.isLt).1 (ix3 p s l)
      = MidSpec.gradU (aA m c) (aU m c) (aW m c) (aB m c) p (seqG t) s (chanG t l) := by
  refine Eq.trans ?_ (gradB_block m ρ c t p s l)
  by_cases h0 : t.val % 2 = 0
  · refine (congrFun (congrArg Prod.fst (outsAt1_A (V2 m ρ) c t h0)) _).trans ?_
    dsimp only
    rw [Bwd.out_A4]
  · refine (congrFun (congrArg Prod.fst (outsAt1_B (V2 m ρ) c t h0)) _).trans ?_
    dsimp only
    rw [Bwd.out_B4]

/-- The first sequence's point, and the second's after it. -/
theorem first_second (t : Fin cfg1.N) (h1 : t.val % 2 = 1) (hp : t.val - 1 < cfg1.N) (l : Fin 128) :
    seqG ⟨t.val - 1, hp⟩ = 0 ∧ seqG t = 1 ∧ chanG ⟨t.val - 1, hp⟩ l = chanG t l :=
  ⟨Fin.ext (by show (t.val - 1) % 2 = 0; omega), Fin.ext h1,
    Fin.ext (by show (t.val - 1) / 2 * 128 + l.val = t.val / 2 * 128 + l.val; omega)⟩

theorem outs5_apply (t : Fin cfg1.N) (h1 : t.val % 2 = 1) (p : Fin 2) (k : Fin 3) (l : Fin 128) :
    (outsAt1 (V2 m ρ) c t.val t.isLt).2.1 (ix3 p k l)
      = MidSpec.gradW (aA m c) (aU m c) (aW m c) (aB m c) p k (chanG t l) := by
  have hp : t.val - 1 < cfg1.N := (Nat.sub_le _ _).trans_lt t.isLt
  refine (congrFun (congrArg (fun q => q.2.1) (outsAt1_B (V2 m ρ) c t (by omega))) _).trans ?_
  dsimp only
  rw [Bwd.out_B5]
  have ha := congrFun (congrArg (fun q => q.2.1) (outsAt1_A (V2 m ρ) c ⟨t.val - 1, hp⟩ (by show (t.val - 1) % 2 = 0; omega))) (ix3 p k l)
  dsimp only at ha
  rw [Bwd.out_A5] at ha
  obtain ⟨e0, e1, e2⟩ := first_second t h1 hp l
  rw [ha, tap_block, tap_block, e0, e1, e2]
  rfl

theorem outs6_apply (t : Fin cfg1.N) (h1 : t.val % 2 = 1) (p : Fin 2) (l : Fin 128) :
    (outsAt1 (V2 m ρ) c t.val t.isLt).2.2 (ix3 p 0 l)
      = MidSpec.gradB (aA m c) (aU m c) (aW m c) (aB m c) p (chanG t l) := by
  have hp : t.val - 1 < cfg1.N := (Nat.sub_le _ _).trans_lt t.isLt
  refine (congrFun (congrArg (fun q => q.2.2) (outsAt1_B (V2 m ρ) c t (by omega))) _).trans ?_
  dsimp only
  rw [Bwd.out_B6]
  have ha := congrFun (congrArg (fun q => q.2.2) (outsAt1_A (V2 m ρ) c ⟨t.val - 1, hp⟩ (by show (t.val - 1) % 2 = 0; omega))) (ix3 p 0 l)
  dsimp only at ha
  rw [Bwd.out_A6] at ha
  obtain ⟨e0, e1, e2⟩ := first_second t h1 hp l
  rw [ha, bias_block, bias_block, e0, e1, e2]
  rfl

/-! ### The three gradients after the call -/

/-- They, as whole arrays. -/
def gradUA (y : (⟨3, ![2, 4096, 2816]⟩ : Shape).Idx) : EReal :=
  MidSpec.gradU (aA m c) (aU m c) (aW m c) (aB m c) (y 0) (MidSpec.seqOf (y 1)) (MidSpec.posOf (y 1)) (y 2)
def gradWA (y : (⟨3, ![2, 3, 2816]⟩ : Shape).Idx) : EReal :=
  MidSpec.gradW (aA m c) (aU m c) (aW m c) (aB m c) (y 0) (y 1) (y 2)
def gradBA (y : (⟨3, ![2, 1, 2816]⟩ : Shape).Idx) : EReal :=
  MidSpec.gradB (aA m c) (aU m c) (aW m c) (aB m c) (y 0) (y 2)

theorem final_gradU :
    ((dat1 (V2 m ρ) c).arrAt 4 cfg1.N : (⟨3, ![2, 4096, 2816]⟩ : Shape).Idx → EReal) = gradUA m c := by
  refine (dat1 (V2 m ρ) c).arrAt_eq_of_cover 4 (gradUA m c) (fun t _ => ?_) fun i => ?_
  · show (cfg1.win 4).cut (grid1.coords t) ((dat1 (V2 m ρ) c).after 4 t) = _
    rw [after1_4]
    funext x
    rw [View.read_apply]
    obtain ⟨p, s, l, rfl⟩ : ∃ (p : Fin 2) (s : Fin 2048) (l : Fin 128), x = ix3 p s l := ⟨_, _, _, eq_ix3 x⟩
    refine (outs4_apply m ρ c t p s l).trans ?_
    have e : ((cfg1.win 4).blk t).view.emb (ix3 p s l) = ix3 p (tok (seqG t) s) (chanG t l) := by
      funext a
      apply Fin.ext
      match a with
      | ⟨0, _⟩ => show win1_4.index t 0 * 2 + 1 * p.val = p.val; rw [(index1_4 t).1]; omega
      | ⟨1, _⟩ => show win1_4.index t 1 * 2048 + 1 * s.val = t.val % 2 * 2048 + s.val; rw [(index1_4 t).2.1]; omega
      | ⟨2, _⟩ => show win1_4.index t 2 * 128 + 1 * l.val = t.val / 2 * 128 + l.val; rw [(index1_4 t).2.2]; omega
    show _ = gradUA m c _
    rw [e]
    unfold gradUA
    show _ = MidSpec.gradU _ _ _ _ p (MidSpec.seqOf (tok (seqG t) s)) (MidSpec.posOf (tok (seqG t) s)) (chanG t l)
    rw [MidSpec.seqOf_tok, MidSpec.posOf_tok]
  · obtain ⟨p, r, l, rfl⟩ : ∃ (p : Fin 2) (r : Fin 4096) (l : Fin 2816), i = ix3 p r l := ⟨_, _, _, eq_ix3 i⟩
    let t : Fin cfg1.N := ⟨l.val / 128 * 2 + r.val / 2048, by rw [show cfg1.N = 44 from N_1]; omega⟩
    have ht : t.val = l.val / 128 * 2 + r.val / 2048 := rfl
    refine ⟨t, flush1_4 t, ?_⟩
    show ix3 p r l ∈ ((View.whole main_v4_0).slice (win1_4.rect t)).set
    rw [View.set_slice_whole, Rect.mem_set_unit]
    intro a
    match a with
    | ⟨0, _⟩ => show win1_4.index t 0 * 2 ≤ p.val ∧ p.val < win1_4.index t 0 * 2 + 2; rw [(index1_4 t).1]; omega
    | ⟨1, _⟩ => show win1_4.index t 1 * 2048 ≤ r.val ∧ r.val < win1_4.index t 1 * 2048 + 2048; rw [(index1_4 t).2.1]; omega
    | ⟨2, _⟩ => show win1_4.index t 2 * 128 ≤ l.val ∧ l.val < win1_4.index t 2 * 128 + 128; rw [(index1_4 t).2.2]; omega

/-- The point that writes channel `l` of the sums back. -/
def lastOf (l : Fin 2816) : Fin cfg1.N := ⟨l.val / 128 * 2 + 1, by rw [show cfg1.N = 44 from N_1]; omega⟩
theorem lastOf_val (l : Fin 2816) : (lastOf l).val = l.val / 128 * 2 + 1 := rfl

theorem final_gradW :
    ((dat1 (V2 m ρ) c).arrAt 5 cfg1.N : (⟨3, ![2, 3, 2816]⟩ : Shape).Idx → EReal) = gradWA m c := by
  refine (dat1 (V2 m ρ) c).arrAt_eq_of_cover 5 (gradWA m c) (fun t hf => ?_) fun i => ?_
  · show (cfg1.win 5).cut (grid1.coords t) ((dat1 (V2 m ρ) c).after 5 t) = _
    rw [after1_5]
    funext x
    rw [View.read_apply]
    obtain ⟨p, k, l, rfl⟩ : ∃ (p : Fin 2) (k : Fin 3) (l : Fin 128), x = ix3 p k l := ⟨_, _, _, eq_ix3 x⟩
    refine (outs5_apply m ρ c t ((flush1_5 t).mp hf) p k l).trans ?_
    refine congrArg (gradWA m c) (a₁ := ix3 p k (chanG t l)) ?_
    funext a
    apply Fin.ext
    match a with
    | ⟨0, _⟩ => show p.val = win1_5.index t 0 * 2 + 1 * p.val; rw [(index1_5 t).1]; omega
    | ⟨1, _⟩ => show k.val = win1_5.index t 1 * 3 + 1 * k.val; rw [(index1_5 t).2.1]; omega
    | ⟨2, _⟩ => show t.val / 2 * 128 + l.val = win1_5.index t 2 * 128 + 1 * l.val; rw [(index1_5 t).2.2]; omega
  · obtain ⟨p, k, l, rfl⟩ : ∃ (p : Fin 2) (k : Fin 3) (l : Fin 2816), i = ix3 p k l := ⟨_, _, _, eq_ix3 i⟩
    have ht := lastOf_val l
    refine ⟨lastOf l, (flush1_5 _).mpr (by omega), ?_⟩
    show ix3 p k l ∈ ((View.whole main_v4_1).slice (win1_5.rect (lastOf l))).set
    rw [View.set_slice_whole, Rect.mem_set_unit]
    intro a
    match a with
    | ⟨0, _⟩ => show win1_5.index (lastOf l) 0 * 2 ≤ p.val ∧ p.val < win1_5.index (lastOf l) 0 * 2 + 2; rw [(index1_5 _).1]; omega
    | ⟨1, _⟩ => show win1_5.index (lastOf l) 1 * 3 ≤ k.val ∧ k.val < win1_5.index (lastOf l) 1 * 3 + 3; rw [(index1_5 _).2.1]; omega
    | ⟨2, _⟩ => show win1_5.index (lastOf l) 2 * 128 ≤ l.val ∧ l.val < win1_5.index (lastOf l) 2 * 128 + 128; rw [(index1_5 _).2.2]; omega

theorem final_gradB :
    ((dat1 (V2 m ρ) c).arrAt 6 cfg1.N : (⟨3, ![2, 1, 2816]⟩ : Shape).Idx → EReal) = gradBA m c := by
  refine (dat1 (V2 m ρ) c).arrAt_eq_of_cover 6 (gradBA m c) (fun t hf => ?_) fun i => ?_
  · show (cfg1.win 6).cut (grid1.coords t) ((dat1 (V2 m ρ) c).after 6 t) = _
    rw [after1_6]
    funext x
    rw [View.read_apply]
    obtain ⟨p, k, l, rfl⟩ : ∃ (p : Fin 2) (k : Fin 1) (l : Fin 128), x = ix3 p k l := ⟨_, _, _, eq_ix3 x⟩
    obtain rfl : k = 0 := Subsingleton.elim _ _
    refine (outs6_apply m ρ c t ((flush1_6 t).mp hf) p l).trans ?_
    refine congrArg (gradBA m c) (a₁ := ix3 p 0 (chanG t l)) ?_
    funext a
    apply Fin.ext
    match a with
    | ⟨0, _⟩ => show p.val = win1_6.index t 0 * 2 + 1 * p.val; rw [(index1_6 t).1]; omega
    | ⟨1, _⟩ => show 0 = win1_6.index t 1 * 1 + 1 * 0; rw [(index1_6 t).2.1]
    | ⟨2, _⟩ => show t.val / 2 * 128 + l.val = win1_6.index t 2 * 128 + 1 * l.val; rw [(index1_6 t).2.2]; omega
  · obtain ⟨p, k, l, rfl⟩ : ∃ (p : Fin 2) (k : Fin 1) (l : Fin 2816), i = ix3 p k l := ⟨_, _, _, eq_ix3 i⟩
    have ht := lastOf_val l
    refine ⟨lastOf l, (flush1_6 _).mpr (by omega), ?_⟩
    show ix3 p k l ∈ ((View.whole main_v4_2).slice (win1_6.rect (lastOf l))).set
    rw [View.set_slice_whole, Rect.mem_set_unit]
    intro a
    match a with
    | ⟨0, _⟩ => show win1_6.index (lastOf l) 0 * 2 ≤ p.val ∧ p.val < win1_6.index (lastOf l) 0 * 2 + 2; rw [(index1_6 _).1]; omega
    | ⟨1, _⟩ => show win1_6.index (lastOf l) 1 * 1 ≤ k.val ∧ k.val < win1_6.index (lastOf l) 1 * 1 + 1; rw [(index1_6 _).2.1]; omega
    | ⟨2, _⟩ => show win1_6.index (lastOf l) 2 * 128 ≤ l.val ∧ l.val < win1_6.index (lastOf l) 2 * 128 + 128; rw [(index1_6 _).2.2]; omega

end Cert.MidIdeal.Value

end
-- ==== Proof.MidRef.lean ====
/-
  What the reference of the gated middle computes, read at an index from its arguments: the activations, and the reverse-mode
  derivative of the convolved, gated planes. A column of the `5632` is a channel of one of the two planes.
-/
module

public import proofs.«01_k».proof.Proof.MidReal
public import proofs.«01_k».proof.Proof.HostSum
public import proofs.«01_k».proof.Proof.Gen.MidRefIdeal.Read
public import Idealize.ShloMosaic.Lib.Pointwise

@[expose] public section

noncomputable section

namespace Cert.MidRefIdeal.Value

open Cert.MidRefIdeal Cert.MidRefIdeal.Gen Cert.MidRefIdeal.Read Idealize.ShloMosaic Idealize.ShloMosaic.TcCoe Idealize.SL.Sem
open Cert.Conv3 (tok)
open Cert.MidSpec (col)
open Cert.Preds (Fin1)

variable (A : (⟨2, ![4096, 2816]⟩ : Shape).Idx → EReal) (U : (⟨3, ![2, 4096, 2816]⟩ : Shape).Idx → EReal)
  (W : (⟨2, ![3, 5632]⟩ : Shape).Idx → EReal) (B : (⟨2, ![1, 5632]⟩ : Shape).Idx → EReal)

/-! ### A column's sequence, its shifts, and the taps -/

/-- Column `j` of sequence `b`. -/
def useq (b : Fin 2) (j : Fin 5632) (s : Fin 2048) : EReal := val_main_v2 (F := Ideal) U (ix3 b s j)

theorem useq_col (b : Fin 2) (p : Fin 2) (l : Fin 2816) : useq U b (col p l) = MidSpec.seq U p b l := by
  funext s
  unfold useq val_main_v2 val_main_v1 val_main_v0
  pointwise
  refine congrArg₂ (fun q k => U (ix3 q (tok b s) k)) (Fin.ext ?_) (Fin.ext ?_)
  · show (p.val * 2816 + l.val) / 2816 = p.val; omega
  · show (p.val * 2816 + l.val) % 2816 = l.val; omega

theorem v4 (b : Fin 2) (s : Fin 2048) (l : Fin 2816) : val_main_v4 (F := Ideal) A (ix3 b s l) = A (ix2 (tok b s) l) := by
  unfold val_main_v4 val_main_v3
  pointwise
  rfl

theorem v7 (b : Fin 2) (s : Fin 2048) (j : Fin 5632) :
    val_main_v7 (F := Ideal) U (ix3 b s j) = Shift.dn 1 (useq U b j) s := by
  unfold val_main_v7 val_main_v6 val_main_v5 val_main_cst
  pointwise
  unfold Shift.dn
  by_cases h : 1 ≤ s.val
  · rw [dif_neg (by omega), if_pos h]; rfl
  · rw [dif_pos (by omega), if_neg h]

theorem v11 (b : Fin 2) (s : Fin 2048) (j : Fin 5632) :
    val_main_v11 (F := Ideal) U (ix3 b s j) = Shift.dn 2 (useq U b j) s := by
  unfold val_main_v11 val_main_v10 val_main_v9 val_main_cst_1
  pointwise
  unfold Shift.dn
  by_cases h : 2 ≤ s.val
  · rw [dif_neg (by omega), if_pos h]; rfl
  · rw [dif_pos (by omega), if_neg h]

theorem v15 (j : Fin 5632) : val_main_v15 (F := Ideal) W (ix3 0 0 j) = W (ix2 0 j) := by
  unfold val_main_v15 val_main_v14 val_main_v13
  pointwise

theorem v20 (j : Fin 5632) : val_main_v20 (F := Ideal) W (ix3 0 0 j) = W (ix2 1 j) := by
  unfold val_main_v20 val_main_v19 val_main_v18
  pointwise

theorem v26 (j : Fin 5632) : val_main_v26 (F := Ideal) W (ix3 0 0 j) = W (ix2 2 j) := by
  unfold val_main_v26 val_main_v25 val_main_v24
  pointwise

theorem v32 (b : Fin 2) (s : Fin 2048) (j : Fin 5632) :
    val_main_v32 (F := Ideal) U W B (ix3 b s j)
      = Conv3.fwd (W (ix2 0 j)) (W (ix2 1 j)) (W (ix2 2 j)) (useq U b j) s + B (ix2 0 j) := by
  unfold val_main_v32 val_main_v31 val_main_v30 val_main_v29 val_main_v28 val_main_v27 val_main_v23 val_main_v22 val_main_v21
    val_main_v17 val_main_v16
  pointwise [v7, v11, v15, v20, v26]
  unfold Conv3.fwd
  rw [add_comm (W (ix2 0 j) * _), add_comm _ (W (ix2 2 j) * _), ← add_assoc]
  rfl

theorem v32_col (p b : Fin 2) (s : Fin 2048) (l : Fin 2816) :
    val_main_v32 (F := Ideal) U W B (ix3 b s (col p l)) = MidSpec.conv U W B p b l s := by
  rw [v32, useq_col]
  rfl

/-! ### The gate and the value -/

theorem v33 (b : Fin 2) (s : Fin 2048) (l : Fin 2816) :
    val_main_v33 (F := Ideal) U W B (ix3 b s l) = MidSpec.conv U W B 0 b l s := by
  rw [← v32_col]
  unfold val_main_v33
  pointwise
  exact congrArg (fun q => val_main_v32 (F := Ideal) U W B (ix3 b s q)) (Fin.ext (by show l.val = 0 * 2816 + l.val; omega))

theorem v34 (b : Fin 2) (s : Fin 2048) (l : Fin 2816) :
    val_main_v34 (F := Ideal) U W B (ix3 b s l) = MidSpec.conv U W B 1 b l s := by
  rw [← v32_col]
  unfold val_main_v34
  pointwise
  exact congrArg (fun q => val_main_v32 (F := Ideal) U W B (ix3 b s q)) (Fin.ext (by show 2816 + l.val = 1 * 2816 + l.val; omega))

theorem v35_2 (b : Fin 2) (s : Fin 2048) (l : Fin 2816) :
    val_main_v35_2 (F := Ideal) U W B (ix3 b s l) = GateSpec.sig (MidSpec.conv U W B 0 b l s) := by
  unfold val_main_v35_2 val_main_call0_v4 val_main_call0_v3 val_main_call0_v2 val_main_call0_v1 val_main_call0_v0
    val_main_call0_cst val_main_call0_cst_0
  pointwise [v33]
  rfl

theorem v35_1 (b : Fin 2) (s : Fin 2048) (l : Fin 2816) :
    val_main_v35_1 (F := Ideal) U W B (ix3 b s l)
      = GateSpec.sig (MidSpec.conv U W B 0 b l s) * (1 - GateSpec.sig (MidSpec.conv U W B 0 b l s)) := by
  unfold val_main_v35_1 val_main_call0_v7 val_main_call0_v6 val_main_call0_cst_1
  pointwise [v35_2]

theorem v35_0 (b : Fin 2) (s : Fin 2048) (l : Fin 2816) :
    val_main_v35_0 (F := Ideal) U W B (ix3 b s l)
      = MidSpec.conv U W B 0 b l s * GateSpec.sig (MidSpec.conv U W B 0 b l s) := by
  unfold val_main_v35_0
  pointwise [v33, v35_2]

theorem v36 (b : Fin 2) (s : Fin 2048) (l : Fin 2816) :
    val_main_v36 (F := Ideal) U W B (ix3 b s l) = MidSpec.act U W B b s l := by
  unfold val_main_v36
  pointwise [v35_0, v34]
  rfl

/-- The activations. -/
theorem act_eq (y : (⟨2, ![4096, 2816]⟩ : Shape).Idx) :
    val_main_v80 (F := Ideal) U W B y = MidSpec.act U W B (MidSpec.seqOf (y 0)) (MidSpec.posOf (y 0)) (y 1) := by
  obtain ⟨r, l, rfl⟩ : ∃ r l, y = ix2 r l := ⟨_, _, eq_ix2 y⟩
  unfold val_main_v80 val_main_v79
  pointwise
  exact v36 U W B _ _ _

/-! ### The cotangents of the convolved columns -/

theorem v38 (b : Fin 2) (s : Fin 2048) (l : Fin 2816) :
    val_main_v38 (F := Ideal) A U W B (ix3 b s l) = A (ix2 (tok b s) l) * MidSpec.conv U W B 1 b l s := by
  unfold val_main_v38
  pointwise [v4, v34]

theorem v37 (b : Fin 2) (s : Fin 2048) (l : Fin 2816) :
    val_main_v37 (F := Ideal) A U W B (ix3 b s l) = MidSpec.du A U W B 1 b l s := by
  unfold val_main_v37
  pointwise [v4, v35_0]
  exact mul_comm _ _

variable {A U W B} (hA : Fin1 A) (hU : Fin1 U) (hW : Fin1 W) (hB : Fin1 B)

include hA hU hW hB in
theorem v39 (b : Fin 2) (s : Fin 2048) (l : Fin 2816) :
    val_main_v39 (F := Ideal) A U W B (ix3 b s l) = MidSpec.du A U W B 0 b l s := by
  refine Eq.trans ?_ (MidSpec.cot_eq (hA (ix2 (tok b s) l)) (MidSpec.conv_real hU hW hB 0 b l s) (MidSpec.conv_real hU hW hB 1 b l s))
  unfold val_main_v39 val_main_call1_v2 val_main_call1_v1 val_main_call1_v0
  pointwise [v38, v33, v35_2, v35_1]

variable (A U W B) in
/-- The cotangent of column `j` of sequence `b`. -/
def eseq (b : Fin 2) (j : Fin 5632) (s : Fin 2048) : EReal := val_main_v40 (F := Ideal) A U W B (ix3 b s j)

include hA hU hW hB in
theorem eseq_col (b p : Fin 2) (l : Fin 2816) : eseq A U W B b (col p l) = MidSpec.du A U W B p b l := by
  funext s
  unfold eseq val_main_v40
  pointwise [v37, v39 hA hU hW hB]
  match p with
  | 0 =>
    have h : (col 0 l).val = l.val := by show 0 * 2816 + l.val = l.val; omega
    rw [dif_pos (by omega)]
    exact congrArg (fun q => MidSpec.du A U W B 0 b q s) (Fin.ext h)
  | 1 =>
    have h : (col 1 l).val = 2816 + l.val := by show 1 * 2816 + l.val = 2816 + l.val; omega
    rw [dif_neg (by omega)]
    exact congrArg (fun q => MidSpec.du A U W B 1 b q s) (Fin.ext (by show (col 1 l).val - 2816 = l.val; omega))

/-! ### The gradient of the planes -/

variable (A U W B)

theorem v73 (b : Fin 2) (s : Fin 2048) (j : Fin 5632) :
    val_main_v73 (F := Ideal) A U W B (ix3 b s j) = W (ix2 0 j) * Shift.up 2 (eseq A U W B b j) s := by
  rw [← Shift.up_mul]
  unfold val_main_v73 val_main_v72 val_main_v63 val_main_v62 val_main_cst_14
  pointwise [v15]
  unfold Shift.up
  by_cases h : s.val + 2 < 2048
  · rw [dif_pos (by omega), dif_pos h]
    simp only [Nat.add_comm 2]
    rfl
  · rw [dif_neg (by omega), dif_neg h]

theorem v77 (b : Fin 2) (s : Fin 2048) (j : Fin 5632) :
    val_main_v77 (F := Ideal) A U W B (ix3 b s j) = W (ix2 1 j) * Shift.up 1 (eseq A U W B b j) s := by
  rw [← Shift.up_mul]
  unfold val_main_v77 val_main_v76 val_main_v54 val_main_v53 val_main_cst_15
  pointwise [v20]
  unfold Shift.up
  by_cases h : s.val + 1 < 2048
  · rw [dif_pos (by omega), dif_pos h]
    simp only [Nat.add_comm 1]
    rfl
  · rw [dif_neg (by omega), dif_neg h]

theorem v78 (b : Fin 2) (s : Fin 2048) (j : Fin 5632) :
    val_main_v78 (F := Ideal) A U W B (ix3 b s j)
      = Conv3.bwd (W (ix2 0 j)) (W (ix2 1 j)) (W (ix2 2 j)) (eseq A U W B b j) s := by
  unfold val_main_v78 val_main_v74 val_main_v46 val_main_v45
  pointwise [v26, v73, v77]
  unfold Conv3.bwd
  rw [add_right_comm]
  rfl

/-! ### The sums over tokens -/

theorem v43 (j : Fin 5632) : val_main_v43 (F := Ideal) A U W B (ix1 j) = ∑ b : Fin 2, ∑ s, eseq A U W B b j s := by
  unfold val_main_v43 val_main_v42 val_main_v41 val_main_cst_3 val_main_cst_4
  pointwise [HostSum.hostReduceAdd_two]
  simp [eseq]

theorem v50 (j : Fin 5632) : val_main_v50 (F := Ideal) A U W B (ix1 j) = ∑ b : Fin 2, Conv3.tap 2 (eseq A U W B b j) (useq U b j) := by
  unfold val_main_v50 val_main_v49 val_main_v48 val_main_v47 val_main_cst_5 val_main_cst_6
  pointwise [HostSum.hostReduceAdd_two]
  simp [Conv3.tap, eseq, useq]

theorem v58 (j : Fin 5632) : val_main_v58 (F := Ideal) A U W B (ix1 j) = ∑ b : Fin 2, Conv3.tap 1 (eseq A U W B b j) (useq U b j) := by
  unfold val_main_v58 val_main_v57 val_main_v56 val_main_v55 val_main_cst_8 val_main_cst_9
  pointwise [HostSum.hostReduceAdd_two, v7]
  simp [Conv3.tap, eseq]

theorem v67 (j : Fin 5632) : val_main_v67 (F := Ideal) A U W B (ix1 j) = ∑ b : Fin 2, Conv3.tap 0 (eseq A U W B b j) (useq U b j) := by
  unfold val_main_v67 val_main_v66 val_main_v65 val_main_v64 val_main_cst_11 val_main_cst_12
  pointwise [HostSum.hostReduceAdd_two, v11]
  simp [Conv3.tap, eseq]

theorem v70 (k : Fin 3) (j : Fin 5632) :
    val_main_v70 (F := Ideal) A U W B (ix2 k j) = ∑ b : Fin 2, Conv3.tap k (eseq A U W B b j) (useq U b j) := by
  unfold val_main_v70 val_main_v61 val_main_v52 val_main_v60 val_main_v69 val_main_v51 val_main_v59 val_main_v68
    val_main_cst_7 val_main_cst_10 val_main_cst_13
  pointwise [v50, v58, v67]
  match k with
  | 0 => simp
  | 1 => simp
  | 2 => simp

/-! ### The three gradients -/

variable {A U W B}

include hA hU hW hB in
theorem gradU_eq (y : (⟨3, ![2, 4096, 2816]⟩ : Shape).Idx) :
    val_main_v83 (F := Ideal) A U W B y = MidSpec.gradU A U W B (y 0) (MidSpec.seqOf (y 1)) (MidSpec.posOf (y 1)) (y 2) := by
  obtain ⟨p, r, l, rfl⟩ : ∃ p r l, y = ix3 p r l := ⟨_, _, _, eq_ix3 y⟩
  refine Eq.trans ?_ ((v78 A U W B (MidSpec.seqOf r) (MidSpec.posOf r) (col p l)).trans ?_)
  · unfold val_main_v83 val_main_v82 val_main_v81
    pointwise
    rfl
  · rw [eseq_col hA hU hW hB]
    rfl

include hA hU hW hB in
theorem gradW_eq (y : (⟨3, ![2, 3, 2816]⟩ : Shape).Idx) :
    val_main_v85 (F := Ideal) A U W B y = MidSpec.gradW A U W B (y 0) (y 1) (y 2) := by
  obtain ⟨p, k, l, rfl⟩ : ∃ p k l, y = ix3 p k l := ⟨_, _, _, eq_ix3 y⟩
  refine Eq.trans ?_ ((v70 A U W B k (col p l)).trans ?_)
  · unfold val_main_v85 val_main_v84
    pointwise
    rfl
  · rw [Fin.sum_univ_two, eseq_col hA hU hW hB, eseq_col hA hU hW hB, useq_col, useq_col]
    rfl

include hA hU hW hB in
theorem gradB_eq (y : (⟨3, ![2, 1, 2816]⟩ : Shape).Idx) :
    val_main_v86 (F := Ideal) A U W B y = MidSpec.gradB A U W B (y 0) (y 2) := by
  obtain ⟨p, k, l, rfl⟩ : ∃ (p : Fin 2) (k : Fin 1) (l : Fin 2816), y = ix3 p k l := ⟨_, _, _, eq_ix3 y⟩
  obtain rfl : k = 0 := Subsingleton.elim _ _
  refine Eq.trans ?_ ((v43 A U W B (col p l)).trans ?_)
  · unfold val_main_v86 val_main_v44
    pointwise
    rfl
  · rw [Fin.sum_univ_two, eseq_col hA hU hW hB, eseq_col hA hU hW hB]
    rfl

end Cert.MidRefIdeal.Value

end
-- ==== Proof.Mid.lean ====
/-
  The equation for the gated middle and its gradient: the two calls' four arrays and the reference's are the same functions
  of the arguments, where those are real numbers.
-/
module

public import proofs.«01_k».proof.Defs
public import proofs.«01_k».proof.Proof.Preds
public import proofs.«01_k».proof.Proof.MidGradArray
public import proofs.«01_k».proof.Proof.MidRef
public import proofs.«01_k».proof.Proof.Gen.MidRefIdeal.Run

@[expose] public section

noncomputable section

namespace Cert.MidClaim

open Idealize.ShloMosaic Idealize.ShloMosaic.TcCoe Idealize.SL.Sem

attribute [local instance] Cert.Preds.facts_mid_finite

/-- The reference runs, keeps its arguments, and has no semaphores. -/
theorem frame_reference : Cert.quiescent_MidRefIdeal := fun m ρ _ =>
  (θ_run Cert.MidRefIdeal.defs _ _).mono (fun r h => ⟨fun c => (h c).2.2.2.2, sem_eq_zero_of_no_sems (by decide) r.2⟩)
    (Cert.MidRefIdeal.Value.run (F := Ideal) m ρ)

theorem algebraic : Cert.algebraic_MidIdeal_MidRefIdeal_pre_mid_finite := by
  intro m g m' g' hpre hin
  refine ⟨_, _, _, _, Cert.MidIdeal.Value.run_blocks m g, ?_⟩
  refine (θ_run _ _ _).mono (fun r h c => ?_) (Cert.MidRefIdeal.Value.run m' g')
  obtain ⟨e0, e1, e2, e3, ha⟩ := h c
  obtain ⟨a0, a1, a2, a3⟩ := hin c
  obtain ⟨hA, hU, hW, hB⟩ := Cert.Preds.mid_finite (hpre c)
  refine ⟨e0.trans ?_, e1.trans ?_, e2.trans ?_, e3.trans ?_, ha⟩
  · rw [Cert.MidRefIdeal.Read.val_main_v80_eq, a1, a2, a3]
    exact (funext fun y => Cert.MidRefIdeal.Value.act_eq _ _ _ y).trans (Cert.MidIdeal.Value.final_act m g c).symm
  · rw [Cert.MidRefIdeal.Read.val_main_v83_eq, a0, a1, a2, a3]
    exact (funext fun y => Cert.MidRefIdeal.Value.gradU_eq hA hU hW hB y).trans (Cert.MidIdeal.Value.final_gradU m g c).symm
  · rw [Cert.MidRefIdeal.Read.val_main_v85_eq, a0, a1, a2, a3]
    exact (funext fun y => Cert.MidRefIdeal.Value.gradW_eq hA hU hW hB y).trans (Cert.MidIdeal.Value.final_gradW m g c).symm
  · rw [Cert.MidRefIdeal.Read.val_main_v86_eq, a0, a1, a2, a3]
    exact (funext fun y => Cert.MidRefIdeal.Value.gradB_eq hA hU hW hB y).trans (Cert.MidIdeal.Value.final_gradB m g c).symm

end Cert.MidClaim

end
-- ==== Proof.OutSpec.lean ====
/-
  The merge of the two branches by their gates, the output projection with the residual, and the norm after it, as functions
  of the arguments: `X` the block's input rows, `Z` the input projection, `P` the two branches before their projections, `W`
  the three square weights, `G` the norm's gain.
-/
module

public import proofs.«01_k».proof.Proof.GateSpec
public import proofs.«01_k».proof.Proof.Rms

@[expose] public section

noncomputable section

namespace Cert.OutSpec

open Idealize.ShloMosaic

variable (P : (⟨3, ![2, 4096, 1024]⟩ : Shape).Idx → EReal) (Z : (⟨2, ![4096, 6144]⟩ : Shape).Idx → EReal)
  (X : (⟨2, ![4096, 1024]⟩ : Shape).Idx → EReal) (W : (⟨3, ![3, 1024, 1024]⟩ : Shape).Idx → EReal)
  (G : (⟨2, ![1, 1024]⟩ : Shape).Idx → EReal)

/-- The merged branches. -/
def merged (r : Fin 4096) (k : Fin 1024) : EReal :=
  GateSpec.gate Z 0 r k * GateSpec.branch P W 0 r k + GateSpec.gate Z 1 r k * GateSpec.branch P W 1 r k

/-- The rows after the mixer. -/
def mixed (r : Fin 4096) (k : Fin 1024) : EReal := X (ix2 r k) + ∑ j : Fin 1024, merged P Z W r j * W (ix3 2 j k)

/-- The rows after the norm. -/
def normed (r : Fin 4096) (k : Fin 1024) : EReal := mixed P Z X W r k * Rms.inv (mixed P Z X W r) * G (ix2 0 k)

end Cert.OutSpec

end
-- ==== Proof.OutBlock.lean ====
/-
  What one grid point of the gated merge computes, element by element, from the point's blocks: `x0` the two branches, `x1`
  and `x2` the two gates' arguments, `x3` the rows, `x4` the three weights, `x5` the norm's gain.
-/
module

public import proofs.«01_k».proof.Proof.Gen.OutIdeal.Value
public import proofs.«01_k».proof.Proof.OutSpec
public import proofs.«01_k».proof.Proof.TwoPlanes
public import Idealize.ShloMosaic.Lib.KernelVsHost

@[expose] public section

noncomputable section

namespace Cert.OutIdeal.Value

open Cert.OutIdeal Cert.OutIdeal.Gen Idealize.ShloMosaic Idealize.ShloMosaic.TcCoe Idealize.SL.Sem
open Cert.Planes

variable (x0 : Vec Ideal S2x256x1024 .bf16) (x1 x2 : Vec Ideal S256x1024 .bf16) (x3 : Vec Ideal S256x1024 .f32)
  (x4 : Vec Ideal S3x1024x1024 .bf16) (x5 : Vec Ideal S1x1024 .f32)

/-- The projected branches, the merge, the rows after the projection and the rows after the norm. -/
def branchB (p : Fin 2) (s : Fin 256) (k : Fin 1024) : EReal := ∑ j : Fin 1024, x0 (ix3 p s j) * x4 (ix3 (GateSpec.proj p) j k)
def mergedB (s : Fin 256) (k : Fin 1024) : EReal :=
  GateSpec.sig (x1 (ix2 s k)) * branchB x0 x4 0 s k + GateSpec.sig (x2 (ix2 s k)) * branchB x0 x4 1 s k
def mixedB (s : Fin 256) (k : Fin 1024) : EReal := x3 (ix2 s k) + ∑ j : Fin 1024, mergedB x0 x1 x2 x4 s j * x4 (ix3 2 j k)
def normedB (s : Fin 256) (k : Fin 1024) : EReal :=
  mixedB x0 x1 x2 x3 x4 s k * Rms.inv (mixedB x0 x1 x2 x3 x4 s) * x5 (ix2 0 k)

/-- The weight and the branch of an index, as the kernel loads them. -/
abbrev wB (o : ℕ) (inb : ∀ a, (![o, 0, 0] : Fin 3 → ℕ) a + (![1, 1024, 1024] : Fin 3 → ℕ) a ≤ S3x1024x1024.size a) :
    Vec Ideal S1x1024x1024 .bf16 := View.ld x4 (Rect.unit (s := S3x1024x1024) ![o, 0, 0] ![1, 1024, 1024] inb)
abbrev pB (o : ℕ) (inb : ∀ a, (![o, 0, 0] : Fin 3 → ℕ) a + (![1, 256, 1024] : Fin 3 → ℕ) a ≤ S2x256x1024.size a) :
    Vec Ideal S1x256x1024 .bf16 := View.ld x0 (Rect.unit (s := S2x256x1024) ![o, 0, 0] ![1, 256, 1024] inb)

theorem wB_apply (o : ℕ) (ho : o < 3) (inb) (j k : Fin 1024) : wB x4 o inb (ix3 0 j k) = x4 (ix3 ⟨o, ho⟩ j k) :=
  ld_plane (n := 3) (m := 1024) (p := 1024) x4 o ho inb j k
theorem pB_apply (o : ℕ) (ho : o < 2) (inb) (s : Fin 256) (k : Fin 1024) : pB x0 o inb (ix3 0 s k) = x0 (ix3 ⟨o, ho⟩ s k) :=
  ld_plane (n := 2) (m := 256) (p := 1024) x0 o ho inb s k

/-! ### The kernel's values at an entry -/

theorem pay6_apply (inb inb') (s : Fin 256) (k : Fin 1024) : k0_pay6 (pB x0 0 inb) (wB x4 0 inb') (ix2 s k) = branchB x0 x4 0 s k := by
  unfold k0_pay6
  pointwise [wB_apply x4 0 (by decide), pB_apply x0 0 (by decide)]
  rfl
theorem pay7_apply (inb inb') (s : Fin 256) (k : Fin 1024) : k0_pay7 (pB x0 1 inb) (wB x4 1 inb') (ix2 s k) = branchB x0 x4 1 s k := by
  unfold k0_pay7
  pointwise [wB_apply x4 1 (by decide), pB_apply x0 1 (by decide)]
  rfl

/-- The merged rows of a point, as the kernel holds them. -/
def mB : FVec Ideal S256x1024 .bf16 :=
  k0_pay8 (pB x0 0 inb_S2x256x1024_S1x256x1024_0_0_0) (wB x4 0 inb_S3x1024x1024_S1x1024x1024_0_0_0)
    (pB x0 1 inb_S2x256x1024_S1x256x1024_1_0_0) (wB x4 1 inb_S3x1024x1024_S1x1024x1024_1_0_0) x1 x2

theorem mB_apply (s : Fin 256) (k : Fin 1024) : mB x0 x1 x2 x4 (ix2 s k) = mergedB x0 x1 x2 x4 s k := by
  unfold mB k0_pay8
  pointwise [pay6_apply, pay7_apply]
  rw [zero_sub, zero_sub]
  rfl

theorem pay1_apply (inb) (s : Fin 256) (k : Fin 1024) :
    k0_pay1 (mB x0 x1 x2 x4) x3 (wB x4 2 inb) (ix2 s k) = mixedB x0 x1 x2 x3 x4 s k := by
  unfold k0_pay1
  pointwise [wB_apply x4 2 (by decide), mB_apply]
  rfl
theorem pay5_apply (inb) (s : Fin 256) (k : Fin 1024) :
    k0_pay5 (mB x0 x1 x2 x4) x3 (wB x4 2 inb) x5 (ix2 s k) = normedB x0 x1 x2 x3 x4 x5 s k := by
  unfold k0_pay5
  pointwise [pay1_apply x0 x1 x2 x3 x4]
  rfl

/-! ### The four blocks -/

variable (c : Dev nD) (i : grid0.Coords)
  (arg2 : Memref sig .tc .vmem S2x256x1024 .bf16) (harg2 : arg2.IsWhole) (arg3 : Memref sig .tc .vmem S256x1024 .bf16) (harg3 : arg3.IsWhole)
  (arg4 : Memref sig .tc .vmem S256x1024 .bf16) (harg4 : arg4.IsWhole) (arg5 : Memref sig .tc .vmem S256x1024 .f32) (harg5 : arg5.IsWhole)
  (arg6 : Memref sig .tc .vmem S3x1024x1024 .bf16) (harg6 : arg6.IsWhole) (arg7 : Memref sig .tc .vmem S1x1024 .f32) (harg7 : arg7.IsWhole)
  (arg8 : Memref sig .tc .vmem S1x256x1024 .bf16) (harg8 : arg8.IsWhole) (arg9 : Memref sig .tc .vmem S2x256x1024 .bf16) (harg9 : arg9.IsWhole)
  (arg10 : Memref sig .tc .vmem S256x1024 .f32) (harg10 : arg10.IsWhole) (arg11 : Memref sig .tc .vmem S256x1024 .bf16) (harg11 : arg11.IsWhole)
  (p : Fin 2) (s : Fin 256) (k : Fin 1024)

theorem out6 :
    out0_A_6 c i arg2 harg2 arg3 harg3 arg4 harg4 arg5 harg5 arg6 harg6 arg7 harg7 arg8 harg8 arg9 harg9 arg10 harg10 arg11 harg11 x0 x1 x2 x3 x4 x5 (ix3 0 s k)
      = mergedB x0 x1 x2 x4 s k := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg2.read_unread, harg3.read_unread, harg4.read_unread, harg5.read_unread, harg6.read_unread, harg7.read_unread,
    View.ld_unit_zero (S := S256x1024) hz2, View.ld_unit_zero (S := S1x1024) hz2]
  refine (canon_plane (n := 1) (m := 256) (p := 1024) _ _ _ _ 0 s k).trans ((if_pos rfl).trans ?_)
  unfold k0_pay4
  pointwise [show ∀ s k, k0_pay8 _ _ _ _ x1 x2 (ix2 s k) = _ from mB_apply x0 x1 x2 x4]

theorem out7 :
    out0_A_7 c i arg2 harg2 arg3 harg3 arg4 harg4 arg5 harg5 arg6 harg6 arg7 harg7 arg8 harg8 arg9 harg9 arg10 harg10 arg11 harg11 x0 x1 x2 x3 x4 x5 (ix3 p s k)
      = branchB x0 x4 p s k := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg2.read_unread, harg3.read_unread, harg4.read_unread, harg5.read_unread, harg6.read_unread, harg7.read_unread,
    View.ld_unit_zero (S := S256x1024) hz2, View.ld_unit_zero (S := S1x1024) hz2]
  refine two_planes _ _ _ _ (branchB x0 x4) (fun s k => ?_) (fun s k => ?_) p s k
  · unfold k0_pay2
    pointwise [pay6_apply x0 x4]
  · unfold k0_pay3
    pointwise [pay7_apply x0 x4]

theorem out8 :
    out0_A_8 c i arg2 harg2 arg3 harg3 arg4 harg4 arg5 harg5 arg6 harg6 arg7 harg7 arg8 harg8 arg9 harg9 arg10 harg10 arg11 harg11 x0 x1 x2 x3 x4 x5 (ix2 s k)
      = mixedB x0 x1 x2 x3 x4 s k := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg2.read_unread, harg3.read_unread, harg4.read_unread, harg5.read_unread, harg6.read_unread, harg7.read_unread,
    View.ld_unit_zero (S := S256x1024) hz2, View.ld_unit_zero (S := S1x1024) hz2]
  rw [View.canon_cons_unit_zero (S := S256x1024) hz2]
  exact pay1_apply x0 x1 x2 x3 x4 _ s k

theorem out9 :
    out0_A_9 c i arg2 harg2 arg3 harg3 arg4 harg4 arg5 harg5 arg6 harg6 arg7 harg7 arg8 harg8 arg9 harg9 arg10 harg10 arg11 harg11 x0 x1 x2 x3 x4 x5 (ix2 s k)
      = normedB x0 x1 x2 x3 x4 x5 s k := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3 x4 x5)]
  unfold kernelRun0_A
  dsimp only
  sl_unfold_words
  simp only [View.readAt_eq_ld, harg2.read_unread, harg3.read_unread, harg4.read_unread, harg5.read_unread, harg6.read_unread, harg7.read_unread,
    View.ld_unit_zero (S := S256x1024) hz2, View.ld_unit_zero (S := S1x1024) hz2]
  rw [View.canon_cons_unit_zero (S := S256x1024) hz2]
  exact pay5_apply x0 x1 x2 x3 x4 x5 _ s k

end Cert.OutIdeal.Value

end
-- ==== Proof.OutArray.lean ====
/-
  The gated merge over the whole arrays: which entries of the arguments each grid point reads, and what the four results hold
  after the run.
-/
module

public import proofs.«01_k».proof.Proof.OutBlock

@[expose] public section

noncomputable section

namespace Cert.OutIdeal.Value

open Cert.OutIdeal Cert.OutIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments as arrays of extended reals. -/
abbrev aP : (⟨3, ![2, 4096, 1024]⟩ : Shape).Idx → EReal := m ((c : Thread nD τ).loc main_arg0)
abbrev aZ : (⟨2, ![4096, 6144]⟩ : Shape).Idx → EReal := m ((c : Thread nD τ).loc main_arg1)
abbrev aX : (⟨2, ![4096, 1024]⟩ : Shape).Idx → EReal := m ((c : Thread nD τ).loc main_arg2)
abbrev aW : (⟨3, ![3, 1024, 1024]⟩ : Shape).Idx → EReal := m ((c : Thread nD τ).loc main_arg3)
abbrev aG : (⟨2, ![1, 1024]⟩ : Shape).Idx → EReal := m ((c : Thread nD τ).loc main_arg4)

/-- The token of a row of a grid point's blocks. -/
def row (t : Fin cfg0.N) (s : Fin 256) : Fin 4096 :=
  ⟨t.val * 256 + s.val, by have h : t.val < 16 := t.isLt.trans_eq N_0; omega⟩

/-- The array that the launch overwrites in place holds the two branches in its first planes. -/
theorem entry2 (p : Fin 2) (r : Fin 4096) (k : Fin 1024) :
    (V m c main_v2_0 : (⟨3, ![3, 4096, 1024]⟩ : Shape).Idx → EReal) (ix3 ⟨p.val, by omega⟩ r k) = aP m c (ix3 p r k) := by
  entry_read
  pointwise

/-! ### The blocks a grid point reads -/

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ t : Fin cfg0.N, win0_1.index t 0 = t.val ∧ win0_1.index t 1 = 4 :=
  (by decide +kernel : ∀ t : Fin grid0.N, win0_1.index t 0 = t.val ∧ win0_1.index t 1 = 4)
theorem index2 : ∀ t : Fin cfg0.N, win0_2.index t 0 = t.val ∧ win0_2.index t 1 = 5 :=
  (by decide +kernel : ∀ t : Fin grid0.N, win0_2.index t 0 = t.val ∧ win0_2.index t 1 = 5)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 2 ∧ win0_6.index t 1 = t.val ∧ win0_6.index t 2 = 0 :=
  (by decide +kernel : ∀ t : Fin grid0.N, win0_6.index t 0 = 2 ∧ win0_6.index t 1 = t.val ∧ win0_6.index t 2 = 0)
theorem index7 : ∀ t : Fin cfg0.N, win0_7.index t 0 = 0 ∧ win0_7.index t 1 = t.val ∧ win0_7.index t 2 = 0 :=
  (by decide +kernel : ∀ t : Fin grid0.N, win0_7.index t 0 = 0 ∧ win0_7.index t 1 = t.val ∧ win0_7.index t 2 = 0)
theorem index8 : ∀ t : Fin cfg0.N, win0_8.index t 0 = t.val ∧ win0_8.index t 1 = 0 :=
  (by decide +kernel : ∀ t : Fin grid0.N, win0_8.index t 0 = t.val ∧ win0_8.index t 1 = 0)
theorem index9 : ∀ t : Fin cfg0.N, win0_9.index t 0 = t.val ∧ win0_9.index t 1 = 0 :=
  (by decide +kernel : ∀ t : Fin grid0.N, win0_9.index t 0 = t.val ∧ win0_9.index t 1 = 0)

theorem iblk0 (t : Fin cfg0.N) (p : Fin 2) (s : Fin 256) (k : Fin 1024) :
    (iblk m c 0 t : Vec Ideal S2x256x1024 .bf16) (ix3 p s k) = aP m c (ix3 p (row t s) k) := by
  unfold iblk
  rw [View.read_apply]
  show V m c main_arg0 _ = m _ _
  rw [V_main_arg0]
  congr 1
  funext a
  apply Fin.ext
  match a with
  | ⟨0, _⟩ => show win0_0.index t 0 * 2 + 1 * p.val = p.val; rw [(index0 t).1]; omega
  | ⟨1, _⟩ => show win0_0.index t 1 * 256 + 1 * s.val = t.val * 256 + s.val; rw [(index0 t).2.1]; omega
  | ⟨2, _⟩ => show win0_0.index t 2 * 1024 + 1 * k.val = k.val; rw [(index0 t).2.2]; omega

theorem iblk1 (t : Fin cfg0.N) (s : Fin 256) (k : Fin 1024) :
    (iblk m c 1 t : Vec Ideal S256x1024 .bf16) (ix2 s k) = aZ m c (ix2 (row t s) (GateSpec.gcol 0 k)) := by
  unfold iblk
  rw [View.read_apply]
  show V m c main_arg1 _ = m _ _
  rw [V_main_arg1]
  congr 1
  funext a
  apply Fin.ext
  match a with
  | ⟨0, _⟩ => show win0_1.index t 0 * 256 + 1 * s.val = t.val * 256 + s.val; rw [(index1 t).1]; omega
  | ⟨1, _⟩ => show win0_1.index t 1 * 1024 + 1 * k.val = 4096 + 0 * 1024 + k.val; rw [(index1 t).2]; omega

theorem iblk2 (t : Fin cfg0.N) (s : Fin 256) (k : Fin 1024) :
    (iblk m c 2 t : Vec Ideal S256x1024 .bf16) (ix2 s k) = aZ m c (ix2 (row t s) (GateSpec.gcol 1 k)) := by
  unfold iblk
  rw [View.read_apply]
  show V m c main_arg1 _ = m _ _
  rw [V_main_arg1]
  congr 1
  funext a
  apply Fin.ext
  match a with
  | ⟨0, _⟩ => show win0_2.index t 0 * 256 + 1 * s.val = t.val * 256 + s.val; rw [(index2 t).1]; omega
  | ⟨1, _⟩ => show win0_2.index t 1 * 1024 + 1 * k.val = 4096 + 1 * 1024 + k.val; rw [(index2 t).2]; omega

theorem iblk3 (t : Fin cfg0.N) (s : Fin 256) (k : Fin 1024) :
    (iblk m c 3 t : Vec Ideal S256x1024 .f32) (ix2 s k) = aX m c (ix2 (row t s) k) := by
  unfold iblk
  rw [View.read_apply]
  show V m c main_arg2 _ = m _ _
  rw [V_main_arg2]
  congr 1
  funext a
  apply Fin.ext
  match a with
  | ⟨0, _⟩ => show win0_3.index t 0 * 256 + 1 * s.val = t.val * 256 + s.val; rw [(index3 t).1]; omega
  | ⟨1, _⟩ => show win0_3.index t 1 * 1024 + 1 * k.val = k.val; rw [(index3 t).2]; omega

theorem iblk4 (t : Fin cfg0.N) (o : Fin 3) (j k : Fin 1024) :
    (iblk m c 4 t : Vec Ideal S3x1024x1024 .bf16) (ix3 o j k) = aW m c (ix3 o j k) := by
  unfold iblk
  rw [View.read_apply]
  show V m c main_arg3 _ = m _ _
  rw [V_main_arg3]
  congr 1
  funext a
  apply Fin.ext
  match a with
  | ⟨0, _⟩ => show win0_4.index t 0 * 3 + 1 * o.val = o.val; rw [(index4 t).1]; omega
  | ⟨1, _⟩ => show win0_4.index t 1 * 1024 + 1 * j.val = j.val; rw [(index4 t).2.1]; omega
  | ⟨2, _⟩ => show win0_4.index t 2 * 1024 + 1 * k.val = k.val; rw [(index4 t).2.2]; omega

theorem iblk5 (t : Fin cfg0.N) (k : Fin 1024) :
    (iblk m c 5 t : Vec Ideal S1x1024 .f32) (ix2 0 k) = aG m c (ix2 0 k) := by
  unfold iblk
  rw [View.read_apply]
  show V m c main_arg4 _ = m _ _
  rw [V_main_arg4]
  congr 1
  funext a
  apply Fin.ext
  match a with
  | ⟨0, _⟩ => show win0_5.index t 0 * 1 + 1 * 0 = 0; rw [(index5 t).1]
  | ⟨1, _⟩ => show win0_5.index t 1 * 1024 + 1 * k.val = k.val; rw [(index5 t).2]; omega

/-! ### A point's blocks are those of the whole arrays -/

theorem branch_iblk (t : Fin cfg0.N) (p : Fin 2) (s : Fin 256) (k : Fin 1024) :
    branchB (iblk m c 0 t) (iblk m c 4 t) p s k = GateSpec.branch (aP m c) (aW m c) p (row t s) k :=
  Finset.sum_congr rfl fun j _ => congrArg₂ (· * ·) (iblk0 m c t p s j) (iblk4 m c t _ j k)

theorem merged_iblk (t : Fin cfg0.N) (s : Fin 256) (k : Fin 1024) :
    mergedB (iblk m c 0 t) (iblk m c 1 t) (iblk m c 2 t) (iblk m c 4 t) s k
      = OutSpec.merged (aP m c) (aZ m c) (aW m c) (row t s) k :=
  congrArg₂ (· + ·) (congrArg₂ (· * ·) (congrArg GateSpec.sig (iblk1 m c t s k)) (branch_iblk m c t 0 s k))
    (congrArg₂ (· * ·) (congrArg GateSpec.sig (iblk2 m c t s k)) (branch_iblk m c t 1 s k))

theorem mixed_iblk (t : Fin cfg0.N) (s : Fin 256) :
    mixedB (iblk m c 0 t) (iblk m c 1 t) (iblk m c 2 t) (iblk m c 3 t) (iblk m c 4 t) s
      = OutSpec.mixed (aP m c) (aZ m c) (aX m c) (aW m c) (row t s) :=
  funext fun k => congrArg₂ (· + ·) (iblk3 m c t s k)
    (Finset.sum_congr rfl fun j _ => congrArg₂ (· * ·) (merged_iblk m c t s j) (iblk4 m c t 2 j k))

theorem normed_iblk (t : Fin cfg0.N) (s : Fin 256) (k : Fin 1024) :
    normedB (iblk m c 0 t) (iblk m c 1 t) (iblk m c 2 t) (iblk m c 3 t) (iblk m c 4 t) (iblk m c 5 t) s k
      = OutSpec.normed (aP m c) (aZ m c) (aX m c) (aW m c) (aG m c) (row t s) k := by
  unfold normedB OutSpec.normed
  rw [mixed_iblk, iblk5]

/-! ### The results after the run -/

/-- The grid point of a token, and the token's row there. -/
def pt (r : Fin 4096) : Fin cfg0.N := ⟨r.val / 256, by rw [show cfg0.N = 16 from N_0]; omega⟩
def rw256 (r : Fin 4096) : Fin 256 := ⟨r.val % 256, Nat.mod_lt _ (by decide)⟩

theorem row_pt (r : Fin 4096) : row (pt r) (rw256 r) = r := Fin.ext (by show r.val / 256 * 256 + r.val % 256 = r.val; omega)

theorem pt_row (r : Fin 4096) : (pt r).val * 256 + 1 * (r.val % 256) = r.val := by
  show r.val / 256 * 256 + _ = _
  omega

theorem final6 (r : Fin 4096) (k : Fin 1024) :
    ((dats m 0 c).arrAt 6 cfg0.N : (⟨3, ![3, 4096, 1024]⟩ : Shape).Idx → EReal) (ix3 2 r k)
      = OutSpec.merged (aP m c) (aZ m c) (aW m c) r k := by
  have e := (dats m 0 c).arrAt_emb_eq_flushed 6 disjoint6 (pt r) (flush0_6 (pt r)) (ix3 0 (rw256 r) k)
  have ei : ((cfg0.win 6).blk (pt r)).view.emb (ix3 0 (rw256 r) k) = ix3 2 r k := by
    funext a
    apply Fin.ext
    match a with
    | ⟨0, _⟩ => show win0_6.index (pt r) 0 * 1 + 1 * 0 = 2; rw [(index6 _).1]
    | ⟨1, _⟩ => show win0_6.index (pt r) 1 * 256 + 1 * (r.val % 256) = r.val; rw [(index6 _).2.1]; exact pt_row r
    | ⟨2, _⟩ => show win0_6.index (pt r) 2 * 1024 + 1 * k.val = k.val; rw [(index6 _).2.2]; omega
  rw [ei] at e
  refine e.trans ?_
  rw [cast_eq, flushed6_A]
  refine (out6 _ _ _ _ _ _ c _ _ _ _ _ _ _ _ _ _ _ _ _ _ _ _ _ _ _ _ _ _ _).trans ?_
  refine (merged_iblk m c (pt r) (rw256 r) k).trans ?_
  rw [row_pt]

theorem final7 (p : Fin 2) (r : Fin 4096) (k : Fin 1024) :
    ((dats m 0 c).arrAt 7 cfg0.N : (⟨3, ![2, 4096, 1024]⟩ : Shape).Idx → EReal) (ix3 p r k)
      = GateSpec.branch (aP m c) (aW m c) p r k := by
  have e := (dats m 0 c).arrAt_emb_eq_flushed 7 disjoint7 (pt r) (flush0_7 (pt r)) (ix3 p (rw256 r) k)
  have ei : ((cfg0.win 7).blk (pt r)).view.emb (ix3 p (rw256 r) k) = ix3 p r k := by
    funext a
    apply Fin.ext
    match a with
    | ⟨0, _⟩ => show win0_7.index (pt r) 0 * 2 + 1 * p.val = p.val; rw [(index7 _).1]; omega
    | ⟨1, _⟩ => show win0_7.index (pt r) 1 * 256 + 1 * (r.val % 256) = r.val; rw [(index7 _).2.1]; exact pt_row r
    | ⟨2, _⟩ => show win0_7.index (pt r) 2 * 1024 + 1 * k.val = k.val; rw [(index7 _).2.2]; omega
  rw [ei] at e
  refine e.trans ?_
  rw [cast_eq, flushed7_A]
  refine (out7 _ _ _ _ _ _ c _ _ _ _ _ _ _ _ _ _ _ _ _ _ _ _ _ _ _ _ _ _ _ _).trans ?_
  refine (branch_iblk m c (pt r) p (rw256 r) k).trans ?_
  rw [row_pt]

theorem final8 (r : Fin 4096) (k : Fin 1024) :
    ((dats m 0 c).arrAt 8 cfg0.N : (⟨2, ![4096, 1024]⟩ : Shape).Idx → EReal) (ix2 r k)
      = OutSpec.mixed (aP m c) (aZ m c) (aX m c) (aW m c) r k := by
  have e := (dats m 0 c).arrAt_emb_eq_flushed 8 disjoint8 (pt r) (flush0_8 (pt r)) (ix2 (rw256 r) k)
  have ei : ((cfg0.win 8).blk (pt r)).view.emb (ix2 (rw256 r) k) = ix2 r k := by
    funext a
    apply Fin.ext
    match a with
    | ⟨0, _⟩ => show win0_8.index (pt r) 0 * 256 + 1 * (r.val % 256) = r.val; rw [(index8 _).1]; exact pt_row r
    | ⟨1, _⟩ => show win0_8.index (pt r) 1 * 1024 + 1 * k.val = k.val; rw [(index8 _).2]; omega
  rw [ei] at e
  refine e.trans ?_
  rw [cast_eq, flushed8_A]
  refine (out8 _ _ _ _ _ _ c _ _ _ _ _ _ _ _ _ _ _ _ _ _ _ _ _ _ _ _ _ _ _).trans ?_
  refine (congrFun (mixed_iblk m c (pt r) (rw256 r)) k).trans ?_
  rw [row_pt]

theorem final9 (r : Fin 4096) (k : Fin 1024) :
    ((dats m 0 c).arrAt 9 cfg0.N : (⟨2, ![4096, 1024]⟩ : Shape).Idx → EReal) (ix2 r k)
      = OutSpec.normed (aP m c) (aZ m c) (aX m c) (aW m c) (aG m c) r k := by
  have e := (dats m 0 c).arrAt_emb_eq_flushed 9 disjoint9 (pt r) (flush0_9 (pt r)) (ix2 (rw256 r) k)
  have ei : ((cfg0.win 9).blk (pt r)).view.emb (ix2 (rw256 r) k) = ix2 r k := by
    funext a
    apply Fin.ext
    match a with
    | ⟨0, _⟩ => show win0_9.index (pt r) 0 * 256 + 1 * (r.val % 256) = r.val; rw [(index9 _).1]; exact pt_row r
    | ⟨1, _⟩ => show win0_9.index (pt r) 1 * 1024 + 1 * k.val = k.val; rw [(index9 _).2]; omega
  rw [ei] at e
  refine e.trans ?_
  rw [cast_eq, flushed9_A]
  refine (out9 _ _ _ _ _ _ c _ _ _ _ _ _ _ _ _ _ _ _ _ _ _ _ _ _ _ _ _ _ _).trans ?_
  refine (normed_iblk m c (pt r) (rw256 r) k).trans ?_
  rw [row_pt]

theorem final6_kept (p : Fin 2) (r : Fin 4096) (k : Fin 1024) :
    ((dats m 0 c).arrAt 6 cfg0.N : (⟨3, ![3, 4096, 1024]⟩ : Shape).Idx → EReal) (ix3 ⟨p.val, by omega⟩ r k) = aP m c (ix3 p r k) := by
  refine (entry6 m c _ fun t _ hi => ?_).trans (entry2 m c p r k)
  have hi : ix3 (⟨p.val, by omega⟩ : Fin 3) r k ∈ ((View.whole main_v2_0).slice (win0_6.rect t)).set := hi
  rw [View.set_slice_whole, Rect.mem_set_unit] at hi
  have h2 : win0_6.index t 0 * 1 ≤ p.val := (hi 0).1
  rw [(index6 t).1] at h2
  omega

end Cert.OutIdeal.Value

end
-- ==== Proof.OutRef.lean ====
/-
  What the reference of the gated merge computes, read at an index from its arguments.
-/
module

public import proofs.«01_k».proof.Proof.OutSpec
public import proofs.«01_k».proof.Proof.Planes
public import proofs.«01_k».proof.Proof.Gen.OutRefIdeal.Read
public import Idealize.ShloMosaic.Lib.Pointwise

@[expose] public section

noncomputable section

namespace Cert.OutRefIdeal.Value

open Cert.Planes Cert.OutRefIdeal Cert.OutRefIdeal.Gen Cert.OutRefIdeal.Read Idealize.ShloMosaic Idealize.ShloMosaic.TcCoe Idealize.SL.Sem

variable (P : (⟨3, ![2, 4096, 1024]⟩ : Shape).Idx → EReal) (Z : (⟨2, ![4096, 6144]⟩ : Shape).Idx → EReal)
  (X : (⟨2, ![4096, 1024]⟩ : Shape).Idx → EReal) (W : (⟨3, ![3, 1024, 1024]⟩ : Shape).Idx → EReal)
  (G : (⟨2, ![1, 1024]⟩ : Shape).Idx → EReal)

/-! ### The projected branches -/

theorem weight (j k : Fin 1024) : val_main_v8 (F := Ideal) W (ix2 j k) = W (ix3 0 j k)
    ∧ val_main_v10 (F := Ideal) W (ix2 j k) = W (ix3 1 j k) ∧ val_main_v33 (F := Ideal) W (ix2 j k) = W (ix3 2 j k) := by
  unfold val_main_v8 val_main_v7 val_main_v10 val_main_v9 val_main_v33 val_main_v32 val_main_v0
  refine ⟨?_, ?_, ?_⟩ <;> pointwise

theorem plane (r : Fin 4096) (j : Fin 1024) :
    val_main_v3 (F := Ideal) P (ix2 r j) = P (ix3 0 r j) ∧ val_main_v6 (F := Ideal) P (ix2 r j) = P (ix3 1 r j) := by
  unfold val_main_v3 val_main_v2 val_main_v1 val_main_v6 val_main_v5 val_main_v4
  refine ⟨?_, ?_⟩ <;> pointwise

theorem v11 (r : Fin 4096) (k : Fin 1024) : val_main_v11 (F := Ideal) P W (ix2 r k) = GateSpec.branch P W 0 r k := by
  rw [val_main_v11_apply]
  exact Finset.sum_congr rfl fun j _ => congrArg₂ (· * ·) (at2 (plane P r j).1) (at2 (weight W j k).1)

theorem v12 (r : Fin 4096) (k : Fin 1024) : val_main_v12 (F := Ideal) P W (ix2 r k) = GateSpec.branch P W 1 r k := by
  rw [val_main_v12_apply]
  exact Finset.sum_congr rfl fun j _ => congrArg₂ (· * ·) (at2 (plane P r j).2) (at2 (weight W j k).2.1)

/-! ### The merge and the rows after it -/

theorem v31 (r : Fin 4096) (k : Fin 1024) : val_main_v31 (F := Ideal) P Z W (ix2 r k) = OutSpec.merged P Z W r k := by
  unfold val_main_v31 val_main_v30 val_main_v29 val_main_v28 val_main_v27 val_main_v26 val_main_v25 val_main_v24 val_main_v23
    val_main_v22 val_main_v21 val_main_v20 val_main_v19 val_main_v18 val_main_v17 val_main_v16 val_main_v15 val_main_v14
    val_main_v13 val_main_cst val_main_cst_0 val_main_cst_1 val_main_cst_2
  pointwise [v11, v12]
  rfl

theorem v35 (r : Fin 4096) (k : Fin 1024) : val_main_v35 (F := Ideal) P Z X W (ix2 r k) = OutSpec.mixed P Z X W r k := by
  unfold val_main_v35
  pointwise
  refine congrArg _ ?_
  rw [val_main_v34_apply]
  exact Finset.sum_congr rfl fun j _ => congrArg₂ (· * ·) (at2 (v31 P Z W r j)) (at2 (weight W j k).2.2)

theorem v43 (r : Fin 4096) : val_main_v43 (F := Ideal) P Z X W (ix2 r 0) = Rms.inv (OutSpec.mixed P Z X W r) := by
  unfold val_main_v43 val_main_v42 val_main_v41 val_main_v40 val_main_v39 val_main_v38 val_main_v37 val_main_v36
    val_main_cst_3 val_main_cst_4 val_main_cst_5
  pointwise [v35]
  rfl

/-! ### The results -/

theorem v50_lo (p : Fin 2) (r : Fin 4096) (k : Fin 1024) :
    val_main_v50 (F := Ideal) P Z W (ix3 ⟨p.val, by omega⟩ r k) = P (ix3 p r k) := by
  unfold val_main_v50
  pointwise

theorem v50_hi (r : Fin 4096) (k : Fin 1024) : val_main_v50 (F := Ideal) P Z W (ix3 2 r k) = OutSpec.merged P Z W r k := by
  unfold val_main_v50 val_main_v49 val_main_v48
  pointwise [v31]

theorem v54 (p : Fin 2) (r : Fin 4096) (k : Fin 1024) :
    val_main_v54 (F := Ideal) P W (ix3 p r k) = GateSpec.branch P W p r k := by
  unfold val_main_v54 val_main_v53 val_main_v52 val_main_v51
  pointwise [v11, v12]
  match p with
  | 0 => simp
  | 1 => simp

theorem v55 (r : Fin 4096) (k : Fin 1024) :
    val_main_v55 (F := Ideal) P Z X W G (ix2 r k) = OutSpec.normed P Z X W G r k := by
  unfold val_main_v55 val_main_v47 val_main_v46 val_main_v45 val_main_v44
  pointwise [v35, v43]
  rfl

end Cert.OutRefIdeal.Value

end
-- ==== Proof.Out.lean ====
/-
  The equation for the gated merge: at every entry the kernel's four arrays and the reference's are the same functions of the
  arguments.
-/
module

public import proofs.«01_k».proof.Defs
public import proofs.«01_k».proof.Proof.OutArray
public import proofs.«01_k».proof.Proof.OutRef
public import proofs.«01_k».proof.Proof.Gen.OutRefIdeal.Run

@[expose] public section

noncomputable section

namespace Cert.OutClaim

open Idealize.ShloMosaic Idealize.ShloMosaic.TcCoe Idealize.SL.Sem
open Cert.OutIdeal Cert.OutIdeal.Gen Cert.OutIdeal.Value

/-- The reference runs, keeps its arguments, and has no semaphores. -/
theorem frame_reference : Cert.quiescent_OutRefIdeal := fun m ρ _ =>
  (θ_run Cert.OutRefIdeal.defs _ _).mono (fun r h => ⟨fun c => (h c).2.2.2.2, sem_eq_zero_of_no_sems (by decide) r.2⟩)
    (Cert.OutRefIdeal.Value.run (F := Ideal) m ρ)

variable (m : (ℓ : Loc nD τ sig) → Buf (Elt Ideal) ℓ) (c : Dev nD)

/-- The first result: the two branches, which the launch keeps, and the merge. -/
theorem result0 (i : (⟨3, ![3, 4096, 1024]⟩ : Shape).Idx) :
    Cert.OutRefIdeal.Read.val_main_v50 (F := Ideal) (aP m c) (aZ m c) (aW m c) i = (dats m 0 c).arrAt 6 cfg0.N i := by
  obtain ⟨p, r, k, rfl⟩ : ∃ (p : Fin 3) (r : Fin 4096) (k : Fin 1024), i = ix3 p r k := ⟨i 0, i 1, i 2, eq_ix3 i⟩
  match p with
  | 0 => exact (Cert.OutRefIdeal.Value.v50_lo _ _ _ 0 r k).trans (final6_kept m c 0 r k).symm
  | 1 => exact (Cert.OutRefIdeal.Value.v50_lo _ _ _ 1 r k).trans (final6_kept m c 1 r k).symm
  | 2 => exact (Cert.OutRefIdeal.Value.v50_hi _ _ _ r k).trans (final6 m c r k).symm

/-- The second result: the projected branches. -/
theorem result1 (i : (⟨3, ![2, 4096, 1024]⟩ : Shape).Idx) :
    Cert.OutRefIdeal.Read.val_main_v54 (F := Ideal) (aP m c) (aW m c) i = (dats m 0 c).arrAt 7 cfg0.N i := by
  obtain ⟨p, r, k, rfl⟩ : ∃ (p : Fin 2) (r : Fin 4096) (k : Fin 1024), i = ix3 p r k := ⟨i 0, i 1, i 2, eq_ix3 i⟩
  exact (Cert.OutRefIdeal.Value.v54 _ _ p r k).trans (final7 m c p r k).symm

/-- The third result: the rows after the mixer. -/
theorem result2 (i : (⟨2, ![4096, 1024]⟩ : Shape).Idx) :
    Cert.OutRefIdeal.Read.val_main_v35 (F := Ideal) (aP m c) (aZ m c) (aX m c) (aW m c) i = (dats m 0 c).arrAt 8 cfg0.N i := by
  obtain ⟨r, k, rfl⟩ : ∃ (r : Fin 4096) (k : Fin 1024), i = ix2 r k := ⟨i 0, i 1, eq_ix2 i⟩
  exact (Cert.OutRefIdeal.Value.v35 _ _ _ _ r k).trans (final8 m c r k).symm

/-- The fourth result: the rows after the norm. -/
theorem result3 (i : (⟨2, ![4096, 1024]⟩ : Shape).Idx) :
    Cert.OutRefIdeal.Read.val_main_v55 (F := Ideal) (aP m c) (aZ m c) (aX m c) (aW m c) (aG m c) i = (dats m 0 c).arrAt 9 cfg0.N i := by
  obtain ⟨r, k, rfl⟩ : ∃ (r : Fin 4096) (k : Fin 1024), i = ix2 r k := ⟨i 0, i 1, eq_ix2 i⟩
  exact (Cert.OutRefIdeal.Value.v55 _ _ _ _ _ r k).trans (final9 m c r k).symm

theorem algebraic : Cert.algebraic_OutIdeal_OutRefIdeal := by
  intro m g m' g' _ hin
  refine ⟨fun c => (dats m 0 c).arrAt 6 cfg0.N, fun c => (dats m 0 c).arrAt 7 cfg0.N, fun c => (dats m 0 c).arrAt 8 cfg0.N,
    fun c => (dats m 0 c).arrAt 9 cfg0.N, run_blocks m g, (θ_run _ _ _).mono (fun r h c => ?_) (Cert.OutRefIdeal.Value.run m' g')⟩
  obtain ⟨e0, e1, e2, e3, ha⟩ := h c
  obtain ⟨a0, a1, a2, a3, a4⟩ := hin c
  rw [Cert.OutRefIdeal.Read.val_main_v50_eq, a0, a1, a3] at e0
  rw [Cert.OutRefIdeal.Read.val_main_v54_eq, a0, a3] at e1
  rw [Cert.OutRefIdeal.Read.val_main_v35_eq, a0, a1, a2, a3] at e2
  rw [Cert.OutRefIdeal.Read.val_main_v55_eq, a0, a1, a2, a3, a4] at e3
  exact ⟨e0.trans (funext (result0 m c)), e1.trans (funext (result1 m c)), e2.trans (funext (result2 m c)),
    e3.trans (funext (result3 m c)), ha⟩

end Cert.OutClaim

end
-- ==== Proof.MixBlock.lean ====
/-
  What one grid point of the two mixers' forward call leaves: the pooled channels of the point's group through the group's
  projection and the scale, and the gated short convolution of the same channels.
-/
module

public import proofs.«01_k».proof.Proof.Gen.MixIdeal.Value
public import proofs.«01_k».proof.Proof.PoolVec
public import proofs.«01_k».proof.Proof.TwoPlanes
public import proofs.«01_k».proof.Proof.ConvSpec

@[expose] public section

noncomputable section

namespace Cert.MixIdeal.Value

open Cert.MixIdeal Cert.MixIdeal.Gen Idealize.ShloMosaic Idealize.ShloMosaic.TcCoe Idealize.SL.Sem
open Cert.Planes
open Cert.PoolIdeal.Value (linV linV_apply pos rot rot_apply)

variable (x0 x1 x2 x3 : Vec Ideal S2048x256 .bf16) (x4 : Vec Ideal S1x256x256 .bf16) (x5 : Vec Ideal S1x256 .f32) (x6 : Vec Ideal S3x256 .f32)

/-- The two planes of the block, for a window of `2 ^ j` positions. -/
def planeB (j : ℕ) (p : Fin 2) (s : Fin 2048) (l : Fin 256) : EReal :=
  match p with
  | 0 => (∑ k : Fin 256, PoolSpec.mean (2 ^ j) (fun t => x0 (ix2 t k)) s * x4 (ix3 0 k l)) * x5 (ix2 0 l)
  | 1 => x1 (ix2 s l) * Conv3.fwd (x6 (ix2 0 l)) (x6 (ix2 1 l)) (x6 (ix2 2 l)) (fun t => x2 (ix2 t l) * x3 (ix2 t l)) s

/-! ### The pooling's plane -/

/-- The pooled channels through the projection and the scale, as the kernel holds them. -/
def poolV (j : ℕ) : FVec Ideal S1x2048x256 .bf16 :=
  shapeCast S1x2048x256 (truncf .bf16 (mulf (linV j x0 x4) (broadcastTo S2048x256 x5 broadcasts_S1x256_S2048x256)) bitsLt_bf16_f32)
    shapeCasts_S2048x256_S1x2048x256

theorem poolV_apply (j : ℕ) (hj : j ≤ 11) (s : Fin 2048) (l : Fin 256) :
    poolV x0 x4 x5 j (ix3 0 s l) = planeB x0 x1 x2 x3 x4 x5 x6 j 0 s l := by
  unfold poolV
  pointwise [linV_apply j x0 x4 hj]
  rfl

/-! ### The convolution's plane -/

/-- The rows moved down by `k`, with zeros above: a rotation whose first rows are replaced. -/
def dnV (k : BitVec 32) (v : FVec Ideal S2048x256 .f32) : FVec Ideal S2048x256 .f32 :=
  select (cmpi .sge pos (broadcast S2048x256 k)) (rot k v) (broadcast S2048x256 (Scalar.ofBits (F := Ideal) .f32 0x00000000#32))

theorem dnV_apply (k : BitVec 32) (v : FVec Ideal S2048x256 .f32) (s : Fin 2048) (l : Fin 256) :
    dnV k v (ix2 s l)
      = Scalar.select (IntOp.cmpi .sge (BitVec.ofNat 32 s.val) k)
          (v (ix2 ⟨(s.val + 2048 - k.toNat % 2048) % 2048, Nat.mod_lt _ (by decide)⟩ l)) 0 := by
  rw [← rot_apply k v s l]
  unfold dnV pos
  generalize rot k v = q
  pointwise

theorem dn1_apply (v : FVec Ideal S2048x256 .f32) (s : Fin 2048) (l : Fin 256) :
    dnV 1#32 v (ix2 s l) = Shift.dn 1 (fun s => v (ix2 s l)) s :=
  (dnV_apply _ v s l).trans (Shift.select_dn 1 (by decide) (by decide) (fun s => v (ix2 s l)) s _)
theorem dn2_apply (v : FVec Ideal S2048x256 .f32) (s : Fin 2048) (l : Fin 256) :
    dnV 2#32 v (ix2 s l) = Shift.dn 2 (fun s => v (ix2 s l)) s :=
  (dnV_apply _ v s l).trans (Shift.select_dn 2 (by decide) (by decide) (fun s => v (ix2 s l)) s _)

/-- The gated convolution, as the kernel holds it. -/
def uV : FVec Ideal S2048x256 .f32 := mulf (extf .f32 x2 bitsLt_bf16_f32) (extf .f32 x3 bitsLt_bf16_f32)
def convV (w0 w1 w2 : Vec Ideal S1x256 .f32) : FVec Ideal S1x2048x256 .bf16 :=
  shapeCast S1x2048x256 (truncf .bf16 (mulf (extf .f32 x1 bitsLt_bf16_f32)
    (addf (addf (mulf (broadcastTo S2048x256 w2 broadcasts_S1x256_S2048x256) (uV x2 x3))
      (mulf (broadcastTo S2048x256 w1 broadcasts_S1x256_S2048x256) (dnV 1#32 (uV x2 x3))))
      (mulf (broadcastTo S2048x256 w0 broadcasts_S1x256_S2048x256) (dnV 2#32 (uV x2 x3))))) bitsLt_bf16_f32)
    shapeCasts_S2048x256_S1x2048x256

theorem uV_apply (s : Fin 2048) (l : Fin 256) : uV x2 x3 (ix2 s l) = x2 (ix2 s l) * x3 (ix2 s l) := by
  unfold uV
  pointwise

theorem convV_apply (w0 w1 w2 : Vec Ideal S1x256 .f32) (s : Fin 2048) (l : Fin 256) :
    convV x1 x2 x3 w0 w1 w2 (ix3 0 s l)
      = x1 (ix2 s l) * Conv3.fwd (w0 (ix2 0 l)) (w1 (ix2 0 l)) (w2 (ix2 0 l)) (fun t => x2 (ix2 t l) * x3 (ix2 t l)) s := by
  unfold convV
  pointwise [dn1_apply, dn2_apply, uV_apply]
  rfl

theorem convV_taps (h0 h1 h2) (s : Fin 2048) (l : Fin 256) (j : ℕ) :
    convV x1 x2 x3 (View.ld x6 (Rect.unit ![0, 0] ![1, 256] h0)) (View.ld x6 (Rect.unit ![1, 0] ![1, 256] h1))
      (View.ld x6 (Rect.unit ![2, 0] ![1, 256] h2)) (ix3 0 s l) = planeB x0 x1 x2 x3 x4 x5 x6 j 1 s l := by
  rw [convV_apply]
  pointwise
  rfl

/-! ### What each group's point leaves -/

variable (c : Dev nD) (i : grid0.Coords)
  (arg2 : Memref sig .tc .vmem S2048x256 .bf16) (harg2 : arg2.IsWhole) (arg3 : Memref sig .tc .vmem S2048x256 .bf16) (harg3 : arg3.IsWhole)
  (arg4 : Memref sig .tc .vmem S2048x256 .bf16) (harg4 : arg4.IsWhole) (arg5 : Memref sig .tc .vmem S2048x256 .bf16) (harg5 : arg5.IsWhole)
  (arg6 : Memref sig .tc .vmem S1x256x256 .bf16) (harg6 : arg6.IsWhole) (arg7 : Memref sig .tc .vmem S1x256 .f32) (harg7 : arg7.IsWhole)
  (arg8 : Memref sig .tc .vmem S3x256 .f32) (harg8 : arg8.IsWhole) (arg9 : Memref sig .tc .vmem S2x2048x256 .bf16) (harg9 : arg9.IsWhole)
  (p : Fin 2) (s : Fin 2048) (l : Fin 256)

theorem out_A (hc0 : cond0_0 i) (hc1 : ¬cond0_1 i) (hc2 : ¬cond0_2 i) (hc3 : ¬cond0_3 i) :
    out0_A_7 c i arg2 harg2 arg3 harg3 arg4 harg4 arg5 harg5 arg6 harg6 arg7 harg7 arg8 harg8 arg9 harg9 hc0 hc1 hc2 hc3 x0 x1 x2 x3 x4 x5 x6 (ix3 p s l)
      = planeB x0 x1 x2 x3 x4 x5 x6 1 p s l := by
  unfold out0_A_7
  rw [View.read_writes_eq_canon _ _ _ (cover0_A_7 c i arg2 harg2 arg3 harg3 arg4 harg4 arg5 harg5 arg6 harg6 arg7 harg7 arg8 harg8 arg9 harg9 hc0 hc1 hc2 hc3 x0 x1 x2 x3 x4 x5 x6)]
  unfold kernelRun0_A
  dsimp only
  sl_unfold_words
  simp only [View.readAt_eq_ld, harg2.read_unread, harg3.read_unread, harg4.read_unread, harg5.read_unread, harg6.read_unread, harg7.read_unread,
    harg8.read_unread, View.ld_unit_zero (S := S1x256x256) hz3, View.ld_unit_zero (S := S2048x256) hz2, View.ld_unit_zero (S := S1x256) hz2]
  exact two_planes _ _ _ _ (planeB x0 x1 x2 x3 x4 x5 x6 1) (poolV_apply x0 x1 x2 x3 x4 x5 x6 1 (by decide))
    (fun s l => convV_taps x0 x1 x2 x3 x4 x5 x6 _ _ _ s l 1) p s l

theorem out_B (hc0 : ¬cond0_0 i) (hc1 : cond0_1 i) (hc2 : ¬cond0_2 i) (hc3 : ¬cond0_3 i) :
    out0_B_7 c i arg2 harg2 arg3 harg3 arg4 harg4 arg5 harg5 arg6 harg6 arg7 harg7 arg8 harg8 arg9 harg9 hc0 hc1 hc2 hc3 x0 x1 x2 x3 x4 x5 x6 (ix3 p s l)
      = planeB x0 x1 x2 x3 x4 x5 x6 2 p s l := by
  unfold out0_B_7
  rw [View.read_writes_eq_canon _ _ _ (cover0_B_7 c i arg2 harg2 arg3 harg3 arg4 harg4 arg5 harg5 arg6 harg6 arg7 harg7 arg8 harg8 arg9 harg9 hc0 hc1 hc2 hc3 x0 x1 x2 x3 x4 x5 x6)]
  unfold kernelRun0_B
  dsimp only
  sl_unfold_words
  simp only [View.readAt_eq_ld, harg2.read_unread, harg3.read_unread, harg4.read_unread, harg5.read_unread, harg6.read_unread, harg7.read_unread,
    harg8.read_unread, View.ld_unit_zero (S := S1x256x256) hz3, View.ld_unit_zero (S := S2048x256) hz2, View.ld_unit_zero (S := S1x256) hz2]
  exact two_planes _ _ _ _ (planeB x0 x1 x2 x3 x4 x5 x6 2) (poolV_apply x0 x1 x2 x3 x4 x5 x6 2 (by decide))
    (fun s l => convV_taps x0 x1 x2 x3 x4 x5 x6 _ _ _ s l 2) p s l

theorem out_C (hc0 : ¬cond0_0 i) (hc1 : ¬cond0_1 i) (hc2 : cond0_2 i) (hc3 : ¬cond0_3 i) :
    out0_C_7 c i arg2 harg2 arg3 harg3 arg4 harg4 arg5 harg5 arg6 harg6 arg7 harg7 arg8 harg8 arg9 harg9 hc0 hc1 hc2 hc3 x0 x1 x2 x3 x4 x5 x6 (ix3 p s l)
      = planeB x0 x1 x2 x3 x4 x5 x6 3 p s l := by
  unfold out0_C_7
  rw [View.read_writes_eq_canon _ _ _ (cover0_C_7 c i arg2 harg2 arg3 harg3 arg4 harg4 arg5 harg5 arg6 harg6 arg7 harg7 arg8 harg8 arg9 harg9 hc0 hc1 hc2 hc3 x0 x1 x2 x3 x4 x5 x6)]
  unfold kernelRun0_C
  dsimp only
  sl_unfold_words
  simp only [View.readAt_eq_ld, harg2.read_unread, harg3.read_unread, harg4.read_unread, harg5.read_unread, harg6.read_unread, harg7.read_unread,
    harg8.read_unread, View.ld_unit_zero (S := S1x256x256) hz3, View.ld_unit_zero (S := S2048x256) hz2, View.ld_unit_zero (S := S1x256) hz2]
  exact two_planes _ _ _ _ (planeB x0 x1 x2 x3 x4 x5 x6 3) (poolV_apply x0 x1 x2 x3 x4 x5 x6 3 (by decide))
    (fun s l => convV_taps x0 x1 x2 x3 x4 x5 x6 _ _ _ s l 3) p s l

theorem out_D (hc0 : ¬cond0_0 i) (hc1 : ¬cond0_1 i) (hc2 : ¬cond0_2 i) (hc3 : cond0_3 i) :
    out0_D_7 c i arg2 harg2 arg3 harg3 arg4 harg4 arg5 harg5 arg6 harg6 arg7 harg7 arg8 harg8 arg9 harg9 hc0 hc1 hc2 hc3 x0 x1 x2 x3 x4 x5 x6 (ix3 p s l)
      = planeB x0 x1 x2 x3 x4 x5 x6 4 p s l := by
  unfold out0_D_7
  rw [View.read_writes_eq_canon _ _ _ (cover0_D_7 c i arg2 harg2 arg3 harg3 arg4 harg4 arg5 harg5 arg6 harg6 arg7 harg7 arg8 harg8 arg9 harg9 hc0 hc1 hc2 hc3 x0 x1 x2 x3 x4 x5 x6)]
  unfold kernelRun0_D
  dsimp only
  sl_unfold_words
  simp only [View.readAt_eq_ld, harg2.read_unread, harg3.read_unread, harg4.read_unread, harg5.read_unread, harg6.read_unread, harg7.read_unread,
    harg8.read_unread, View.ld_unit_zero (S := S1x256x256) hz3, View.ld_unit_zero (S := S2048x256) hz2, View.ld_unit_zero (S := S1x256) hz2]
  exact two_planes _ _ _ _ (planeB x0 x1 x2 x3 x4 x5 x6 4) (poolV_apply x0 x1 x2 x3 x4 x5 x6 4 (by decide))
    (fun s l => convV_taps x0 x1 x2 x3 x4 x5 x6 _ _ _ s l 4) p s l

end Cert.MixIdeal.Value

end
-- ==== Proof.MixSpec.lean ====
/-
  The two mixers' forward results as functions of whole arrays: the pooled channels through their group's projection and
  the scale, and the gated short convolution.
-/
module

public import proofs.«01_k».proof.Proof.PoolSpec
public import proofs.«01_k».proof.Proof.ConvSpec

@[expose] public section

noncomputable section

namespace Cert.MixSpec

open Idealize.ShloMosaic
open Cert.Conv3 (tok)
open Cert.PoolSpec (col)

variable (Z : (⟨2, ![4096, 6144]⟩ : Shape).Idx → EReal) (W : (⟨3, ![4, 256, 256]⟩ : Shape).Idx → EReal)
  (S : (⟨2, ![1, 1024]⟩ : Shape).Idx → EReal) (T : (⟨2, ![3, 1024]⟩ : Shape).Idx → EReal)

/-- The pooling mixer's result at a token and a channel of a group. -/
def pool (b : Fin 2) (s : Fin 2048) (g : Fin 4) (l : Fin 256) : EReal := PoolSpec.lin Z W g b l s * S (ix2 0 (col g l))

/-- The convolution mixer's result at a token and a channel. -/
def conv (b : Fin 2) (s : Fin 2048) (k : Fin 1024) : EReal :=
  Z (ix2 (tok b s) (Conv3.col 1 k)) * Conv3.fwd (T (ix2 0 k)) (T (ix2 1 k)) (T (ix2 2 k)) (Conv3.u Z b k) s

/-- The two planes the call writes. -/
def plane (p : Fin 2) (b : Fin 2) (s : Fin 2048) (g : Fin 4) (l : Fin 256) : EReal :=
  match p with
  | 0 => pool Z W S b s g l
  | 1 => conv Z T b s (col g l)

end Cert.MixSpec

end
-- ==== Proof.MixArray.lean ====
/-
  The mixers' forward call over the whole arrays: which entries of the arguments each grid point reads, and what the first
  two planes of the result hold after the run.
-/
module

public import proofs.«01_k».proof.Proof.MixBlock
public import proofs.«01_k».proof.Proof.MixSpec

@[expose] public section

noncomputable section

namespace Cert.MixIdeal.Value

open Cert.MixIdeal Cert.MixIdeal.Gen Idealize.ShloMosaic Idealize.ShloMosaic.TcCoe Idealize.SL.Sem
open Idealize.ShloMosaic.Pipeline (Dat)
open Cert.Conv3 (tok)
open Cert.PoolSpec (col)

variable (m : (ℓ : Loc nD τ sig) → Buf (Elt Ideal) ℓ) (c : Dev nD)

/-- The arguments as arrays of extended reals. -/
abbrev aZ : (⟨2, ![4096, 6144]⟩ : Shape).Idx → EReal := m ((c : Thread nD τ).loc main_arg0)
abbrev aW : (⟨3, ![4, 256, 256]⟩ : Shape).Idx → EReal := m ((c : Thread nD τ).loc main_arg1)
abbrev aS : (⟨2, ![1, 1024]⟩ : Shape).Idx → EReal := m ((c : Thread nD τ).loc main_arg2)
abbrev aT : (⟨2, ![3, 1024]⟩ : Shape).Idx → EReal := m ((c : Thread nD τ).loc main_arg3)

/-- The sequence and the group of a grid point, and the point of a sequence and a group. -/
def sqn (t : Fin cfg0.N) : Fin 2 := ⟨t.val / 4, by have h : t.val < 8 := t.isLt.trans_eq N_0; omega⟩
def grp (t : Fin cfg0.N) : Fin 4 := ⟨t.val % 4, Nat.mod_lt _ (by decide)⟩
def pt (b : Fin 2) (g : Fin 4) : Fin cfg0.N := ⟨b.val * 4 + g.val, by rw [show cfg0.N = 8 from N_0]; omega⟩

theorem sqn_pt (b : Fin 2) (g : Fin 4) : sqn (pt b g) = b := Fin.ext (by show (b.val * 4 + g.val) / 4 = b.val; omega)
theorem grp_pt (b : Fin 2) (g : Fin 4) : grp (pt b g) = g := Fin.ext (by show (b.val * 4 + g.val) % 4 = g.val; omega)

/-! ### The blocks a grid point reads and writes -/

theorem indexZ : ∀ t : Fin cfg0.N,
    (win0_0.index t 0 = t.val / 4 ∧ win0_0.index t 1 = t.val % 4) ∧ (win0_1.index t 0 = t.val / 4 ∧ win0_1.index t 1 = 4 + t.val % 4)
      ∧ (win0_2.index t 0 = t.val / 4 ∧ win0_2.index t 1 = 8 + t.val % 4) ∧ (win0_3.index t 0 = t.val / 4 ∧ win0_3.index t 1 = 12 + t.val % 4) :=
  (by decide +kernel : ∀ t : Fin grid0.N,
    (win0_0.index t 0 = t.val / 4 ∧ win0_0.index t 1 = t.val % 4) ∧ (win0_1.index t 0 = t.val / 4 ∧ win0_1.index t 1 = 4 + t.val % 4)
      ∧ (win0_2.index t 0 = t.val / 4 ∧ win0_2.index t 1 = 8 + t.val % 4) ∧ (win0_3.index t 0 = t.val / 4 ∧ win0_3.index t 1 = 12 + t.val % 4))
theorem index4 : ∀ t : Fin cfg0.N, win0_4.index t 0 = t.val % 4 ∧ win0_4.index t 1 = 0 ∧ win0_4.index t 2 = 0 :=
  (by decide +kernel : ∀ t : Fin grid0.N, win0_4.index t 0 = t.val % 4 ∧ win0_4.index t 1 = 0 ∧ win0_4.index t 2 = 0)
theorem index5 : ∀ t : Fin cfg0.N, win0_5.index t 0 = 0 ∧ win0_5.index t 1 = t.val % 4 :=
  (by decide +kernel : ∀ t : Fin grid0.N, win0_5.index t 0 = 0 ∧ win0_5.index t 1 = t.val % 4)
theorem index6 : ∀ t : Fin cfg0.N, win0_6.index t 0 = 0 ∧ win0_6.index t 1 = t.val % 4 :=
  (by decide +kernel : ∀ t : Fin grid0.N, win0_6.index t 0 = 0 ∧ win0_6.index t 1 = t.val % 4)
theorem index7 : ∀ t : Fin cfg0.N, win0_7.index t 0 = 0 ∧ win0_7.index t 1 = t.val / 4 ∧ win0_7.index t 2 = t.val % 4 :=
  (by decide +kernel : ∀ t : Fin grid0.N, win0_7.index t 0 = 0 ∧ win0_7.index t 1 = t.val / 4 ∧ win0_7.index t 2 = t.val % 4)

/-- An entry of a block of `Z`'s columns, from where the block lies. -/
theorem z_entry {i : (⟨2, ![4096, 6144]⟩ : Shape).Idx} (t : Fin cfg0.N) (k : Fin 6) (s : Fin 2048) (l : Fin 256)
    (h0 : (i 0).val = t.val / 4 * 2048 + 1 * s.val) (h1 : (i 1).val = (4 * k.val + t.val % 4) * 256 + 1 * l.val) :
    i = ix2 (tok (sqn t) s) (Conv3.col k (col (grp t) l)) := by
  funext a
  apply Fin.ext
  match a with
  | ⟨0, _⟩ => refine h0.trans ?_; show _ = t.val / 4 * 2048 + s.val; omega
  | ⟨1, _⟩ => refine h1.trans ?_; show _ = k.val * 1024 + (t.val % 4 * 256 + l.val); omega

theorem iblk0 (t : Fin cfg0.N) (s : Fin 2048) (l : Fin 256) :
    (iblk m c 0 t : Vec Ideal S2048x256 .bf16) (ix2 s l) = aZ m c (ix2 (tok (sqn t) s) (Conv3.col 0 (col (grp t) l))) := by
  unfold iblk
  rw [View.read_apply]
  show V m c main_arg0 _ = m _ _
  rw [V_main_arg0]
  refine congrArg _ (z_entry t 0 s l ?_ ?_)
  · show win0_0.index t 0 * 2048 + 1 * s.val = _; rw [(indexZ t).1.1]
  · show win0_0.index t 1 * 256 + 1 * l.val = _; rw [(indexZ t).1.2]; show _ = (4 * 0 + t.val % 4) * 256 + 1 * l.val; omega

theorem iblk1 (t : Fin cfg0.N) (s : Fin 2048) (l : Fin 256) :
    (iblk m c 1 t : Vec Ideal S2048x256 .bf16) (ix2 s l) = aZ m c (ix2 (tok (sqn t) s) (Conv3.col 1 (col (grp t) l))) := by
  unfold iblk
  rw [View.read_apply]
  show V m c main_arg0 _ = m _ _
  rw [V_main_arg0]
  refine congrArg _ (z_entry t 1 s l ?_ ?_)
  · show win0_1.index t 0 * 2048 + 1 * s.val = _; rw [(indexZ t).2.1.1]
  · show win0_1.index t 1 * 256 + 1 * l.val = _; rw [(indexZ t).2.1.2]; show _ = (4 * 1 + t.val % 4) * 256 + 1 * l.val; omega

theorem iblk2 (t : Fin cfg0.N) (s : Fin 2048) (l : Fin 256) :
    (iblk m c 2 t : Vec Ideal S2048x256 .bf16) (ix2 s l) = aZ m c (ix2 (tok (sqn t) s) (Conv3.col 2 (col (grp t) l))) := by
  unfold iblk
  rw [View.read_apply]
  show V m c main_arg0 _ = m _ _
  rw [V_main_arg0]
  refine congrArg _ (z_entry t 2 s l ?_ ?_)
  · show win0_2.index t 0 * 2048 + 1 * s.val = _; rw [(indexZ t).2.2.1.1]
  · show win0_2.index t 1 * 256 + 1 * l.val = _; rw [(indexZ t).2.2.1.2]; show _ = (4 * 2 + t.val % 4) * 256 + 1 * l.val; omega

theorem iblk3 (t : Fin cfg0.N) (s : Fin 2048) (l : Fin 256) :
    (iblk m c 3 t : Vec Ideal S2048x256 .bf16) (ix2 s l) = aZ m c (ix2 (tok (sqn t) s) (Conv3.col 3 (col (grp t) l))) := by
  unfold iblk
  rw [View.read_apply]
  show V m c main_arg0 _ = m _ _
  rw [V_main_arg0]
  refine congrArg _ (z_entry t 3 s l ?_ ?_)
  · show win0_3.index t 0 * 2048 + 1 * s.val = _; rw [(indexZ t).2.2.2.1]
  · show win0_3.index t 1 * 256 + 1 * l.val = _; rw [(indexZ t).2.2.2.2]; show _ = (4 * 3 + t.val % 4) * 256 + 1 * l.val; omega

theorem iblk4 (t : Fin cfg0.N) (k l : Fin 256) :
    (iblk m c 4 t : Vec Ideal S1x256x256 .bf16) (ix3 0 k l) = aW m c (ix3 (grp t) k l) := by
  unfold iblk
  rw [View.read_apply]
  show V m c main_arg1 _ = m _ _
  rw [V_main_arg1]
  congr 1
  funext a
  apply Fin.ext
  match a with
  | ⟨0, _⟩ => show win0_4.index t 0 * 1 + 1 * 0 = t.val % 4; rw [(index4 t).1]; omega
  | ⟨1, _⟩ => show win0_4.index t 1 * 256 + 1 * k.val = k.val; rw [(index4 t).2.1]; omega
  | ⟨2, _⟩ => show win0_4.index t 2 * 256 + 1 * l.val = l.val; rw [(index4 t).2.2]; omega

theorem iblk5 (t : Fin cfg0.N) (l : Fin 256) :
    (iblk m c 5 t : Vec Ideal S1x256 .f32) (ix2 0 l) = aS m c (ix2 0 (col (grp t) l)) := by
  unfold iblk
  rw [View.read_apply]
  show V m c main_arg2 _ = m _ _
  rw [V_main_arg2]
  congr 1
  funext a
  apply Fin.ext
  match a with
  | ⟨0, _⟩ => show win0_5.index t 0 * 1 + 1 * 0 = 0; rw [(index5 t).1]
  | ⟨1, _⟩ => show win0_5.index t 1 * 256 + 1 * l.val = t.val % 4 * 256 + l.val; rw [(index5 t).2]; omega

theorem iblk6 (t : Fin cfg0.N) (k : Fin 3) (l : Fin 256) :
    (iblk m c 6 t : Vec Ideal S3x256 .f32) (ix2 k l) = aT m c (ix2 k (col (grp t) l)) := by
  unfold iblk
  rw [View.read_apply]
  show V m c main_arg3 _ = m _ _
  rw [V_main_arg3]
  congr 1
  funext a
  apply Fin.ext
  match a with
  | ⟨0, _⟩ => show win0_6.index t 0 * 3 + 1 * k.val = k.val; rw [(index6 t).1]; omega
  | ⟨1, _⟩ => show win0_6.index t 1 * 256 + 1 * l.val = t.val % 4 * 256 + l.val; rw [(index6 t).2]; omega

/-- What a point computes from its blocks, from the arrays. -/
theorem plane_iblk (t : Fin cfg0.N) (p : Fin 2) (s : Fin 2048) (l : Fin 256) :
    planeB (iblk m c 0 t) (iblk m c 1 t) (iblk m c 2 t) (iblk m c 3 t) (iblk m c 4 t) (iblk m c 5 t) (iblk m c 6 t) (t.val % 4 + 1) p s l
      = MixSpec.plane (aZ m c) (aW m c) (aS m c) (aT m c) p (sqn t) s (grp t) l := by
  match p with
  | 0 =>
    show (∑ k : Fin 256, PoolSpec.mean _ (fun r => iblk m c 0 t (ix2 r k)) s * iblk m c 4 t (ix3 0 k l)) * iblk m c 5 t (ix2 0 l) = _
    refine congrArg₂ (· * ·) (Finset.sum_congr rfl fun k _ => ?_) (iblk5 m c t l)
    refine congrArg₂ (· * ·) ?_ (iblk4 m c t k l)
    refine congrArg (fun f => PoolSpec.mean _ f s) (funext fun r => (iblk0 m c t r k).trans ?_)
    exact congrArg (fun j => aZ m c (ix2 (tok (sqn t) r) j)) (Fin.ext (by show 0 * 1024 + _ = _; exact Nat.zero_add _))
  | 1 =>
    unfold planeB
    dsimp only
    rw [iblk1, iblk6, iblk6, iblk6]
    refine congrArg (fun f => _ * Conv3.fwd _ _ _ f s) (funext fun r => ?_)
    rw [iblk2, iblk3]
    rfl

/-! ### The result after the run -/

/-- The result's three planes do not divide into blocks of two: the part of a point's block inside the array is all of it. -/
theorem xsize7 : ∀ t : Fin cfg0.N, (cfg0.win 7).xsize (cfg0.grid.coords t) = ![2, 2048, 256] :=
  (by decide +kernel : ∀ t : Fin grid0.N, win0_7.xsize (grid0.coords t) = ![2, 2048, 256])

def y7 (t : Fin cfg0.N) (p : Fin 2) (s : Fin 2048) (l : Fin 256) : ((cfg0.win 7).xblock (cfg0.grid.coords t)).Idx := fun a =>
  match a with
  | ⟨0, _⟩ => ⟨p.val, p.isLt.trans_eq (congrFun (xsize7 t) 0).symm⟩
  | ⟨1, _⟩ => ⟨s.val, s.isLt.trans_eq (congrFun (xsize7 t) 1).symm⟩
  | ⟨2, _⟩ => ⟨l.val, l.isLt.trans_eq (congrFun (xsize7 t) 2).symm⟩

theorem xinj7 (t : Fin cfg0.N) (p : Fin 2) (s : Fin 2048) (l : Fin 256) :
    ((cfg0.win 7).xinj (cfg0.grid.coords t) (y7 t p s l) : S2x2048x256.Idx) = ix3 p s l := by
  funext a
  match a with
  | ⟨0, _⟩ => rfl
  | ⟨1, _⟩ => rfl
  | ⟨2, _⟩ => rfl

/-- What a point writes back, whichever group it is. -/
theorem flushed (t : Fin cfg0.N) (p : Fin 2) (s : Fin 2048) (l : Fin 256) :
    (dats m 0 c).flushed 7 t (y7 t p s l) = MixSpec.plane (aZ m c) (aW m c) (aS m c) (aT m c) p (sqn t) s (grp t) l := by
  refine Eq.trans ?_ (plane_iblk m c t p s l)
  have r : ∀ j, t.val % 4 = j → planeB (iblk m c 0 t) (iblk m c 1 t) (iblk m c 2 t) (iblk m c 3 t) (iblk m c 4 t) (iblk m c 5 t) (iblk m c 6 t) (j + 1) p s l
      = planeB (iblk m c 0 t) (iblk m c 1 t) (iblk m c 2 t) (iblk m c 3 t) (iblk m c 4 t) (iblk m c 5 t) (iblk m c 6 t) (t.val % 4 + 1) p s l :=
    fun j h => h ▸ rfl
  obtain h | h | h | h : t.val % 4 = 0 ∨ t.val % 4 = 1 ∨ t.val % 4 = 2 ∨ t.val % 4 = 3 := by omega
  · refine (congrFun (flushed7_A m c t h (by omega) (by omega) (by omega)) _).trans (Eq.trans ?_ (r 0 h))
    exact (congrArg _ (xinj7 t p s l)).trans (out_A _ _ _ _ _ _ _ c _ _ _ _ _ _ _ _ _ _ _ _ _ _ _ _ _ p s l _ _ _ _)
  · refine (congrFun (flushed7_B m c t (by omega) h (by omega) (by omega)) _).trans (Eq.trans ?_ (r 1 h))
    exact (congrArg _ (xinj7 t p s l)).trans (out_B _ _ _ _ _ _ _ c _ _ _ _ _ _ _ _ _ _ _ _ _ _ _ _ _ p s l _ _ _ _)
  · refine (congrFun (flushed7_C m c t (by omega) (by omega) h (by omega)) _).trans (Eq.trans ?_ (r 2 h))
    exact (congrArg _ (xinj7 t p s l)).trans (out_C _ _ _ _ _ _ _ c _ _ _ _ _ _ _ _ _ _ _ _ _ _ _ _ _ p s l _ _ _ _)
  · refine (congrFun (flushed7_D m c t (by omega) (by omega) (by omega) h) _).trans (Eq.trans ?_ (r 3 h))
    exact (congrArg _ (xinj7 t p s l)).trans (out_D _ _ _ _ _ _ _ c _ _ _ _ _ _ _ _ _ _ _ _ _ _ _ _ _ p s l _ _ _ _)

theorem final7 (p : Fin 2) (b : Fin 2) (s : Fin 2048) (g : Fin 4) (l : Fin 256) :
    ((dats m 0 c).arrAt 7 cfg0.N : (⟨3, ![3, 4096, 1024]⟩ : Shape).Idx → EReal) (ix3 ⟨p.val, by omega⟩ (tok b s) (col g l))
      = MixSpec.plane (aZ m c) (aW m c) (aS m c) (aT m c) p b s g l := by
  have e := (dats m 0 c).arrAt_emb_eq_flushed 7 disjoint7 (pt b g) (flush0_7 (pt b g)) (y7 (pt b g) p s l)
  have ei : ((cfg0.win 7).blk (pt b g)).view.emb (y7 (pt b g) p s l) = ix3 ⟨p.val, by omega⟩ (tok b s) (col g l) := by
    funext a
    apply Fin.ext
    match a with
    | ⟨0, _⟩ => show win0_7.index (pt b g) 0 * 2 + 1 * p.val = p.val; rw [(index7 _).1]; omega
    | ⟨1, _⟩ =>
      show win0_7.index (pt b g) 1 * 2048 + 1 * s.val = b.val * 2048 + s.val
      rw [(index7 _).2.1, show (pt b g).val / 4 = b.val from congrArg Fin.val (sqn_pt b g)]; omega
    | ⟨2, _⟩ =>
      show win0_7.index (pt b g) 2 * 256 + 1 * l.val = g.val * 256 + l.val
      rw [(index7 _).2.2, show (pt b g).val % 4 = g.val from congrArg Fin.val (grp_pt b g)]; omega
  rw [ei] at e
  refine e.trans ?_
  rw [cast_eq, flushed, sqn_pt, grp_pt]

end Cert.MixIdeal.Value

end
-- ==== Proof.MixRef.lean ====
/-
  What the reference of the mixers' forward call computes, read at an index from its arguments. Its pooling and its
  convolution are the lines the two gradients' references begin with, so what those lines hold is known already.
-/
module

public import proofs.«01_k».proof.Proof.PoolRef
public import proofs.«01_k».proof.Proof.ConvRef
public import proofs.«01_k».proof.Proof.MixSpec
public import proofs.«01_k».proof.Proof.Gen.MixRefIdeal.Read

@[expose] public section

noncomputable section

namespace Cert.MixRefIdeal.Value

open Cert.MixRefIdeal Cert.MixRefIdeal.Gen Cert.MixRefIdeal.Read Idealize.ShloMosaic Idealize.ShloMosaic.TcCoe Idealize.SL.Sem
open Cert.Conv3 (tok)
open Cert.PoolSpec (col)
open Cert.PoolRefIdeal.Value (Pooled1)

variable (Z : (⟨2, ![4096, 6144]⟩ : Shape).Idx → EReal) (W : (⟨3, ![4, 256, 256]⟩ : Shape).Idx → EReal)
  (S : (⟨2, ![1, 1024]⟩ : Shape).Idx → EReal) (T : (⟨2, ![3, 1024]⟩ : Shape).Idx → EReal)

/-- The pooled channels after their projection. -/
theorem v84 (hZ : Pooled1 Z) (b : Fin 2) (s : Fin 2048) (g : Fin 4) (l : Fin 256) :
    val_main_v84 (F := Ideal) Z W (ix3 b s (col g l)) = PoolSpec.lin Z W g b l s :=
  Cert.PoolRefIdeal.Value.v87 Z W hZ b s g l

/-- The row of a token among the 4096 gives back its sequence and its position. -/
theorem tok_div (b : Fin 2) (s : Fin 2048) : (⟨(tok b s).val / 2048, by omega⟩ : Fin 2) = b :=
  Fin.ext (by show (b.val * 2048 + s.val) / 2048 = b.val; omega)
theorem tok_mod (b : Fin 2) (s : Fin 2048) : (⟨(tok b s).val % 2048, by omega⟩ : Fin 2048) = s :=
  Fin.ext (by show (b.val * 2048 + s.val) % 2048 = s.val; omega)

theorem v89 (hZ : Pooled1 Z) (b : Fin 2) (s : Fin 2048) (g : Fin 4) (l : Fin 256) :
    val_main_v89 (F := Ideal) Z W S (ix2 (tok b s) (col g l)) = MixSpec.pool Z W S b s g l := by
  unfold val_main_v89 val_main_v88 val_main_v87 val_main_v86 val_main_v85
  pointwise
  rw [tok_div, tok_mod, v84 Z W hZ]
  rfl

/-- The convolved sequence and its gate. -/
theorem v113 (b : Fin 2) (s : Fin 2048) (k : Fin 1024) :
    val_main_v113 (F := Ideal) Z T (ix3 b s k) = Conv3.fwd (T (ix2 0 k)) (T (ix2 1 k)) (T (ix2 2 k)) (Conv3.u Z b k) s :=
  Cert.ConvRefIdeal.Value.v38 Z T b s k

theorem v5 (b : Fin 2) (s : Fin 2048) (k : Fin 1024) : val_main_v5 (F := Ideal) Z (ix3 b s k) = Z (ix2 (tok b s) (Conv3.col 1 k)) :=
  Cert.ConvRefIdeal.Value.v2 Z b s k

theorem v116 (b : Fin 2) (s : Fin 2048) (k : Fin 1024) :
    val_main_v116 (F := Ideal) Z T (ix2 (tok b s) k) = MixSpec.conv Z T b s k := by
  unfold val_main_v116 val_main_v115 val_main_v114
  pointwise
  rw [tok_div, tok_mod, v5, v113]
  rfl

/-- The planes the call writes. -/
theorem v121 (hZ : Pooled1 Z) (p : Fin 2) (b : Fin 2) (s : Fin 2048) (g : Fin 4) (l : Fin 256) :
    val_main_v121 (F := Ideal) Z W S T (ix3 ⟨p.val, by omega⟩ (tok b s) (col g l)) = MixSpec.plane Z W S T p b s g l := by
  unfold val_main_v121 val_main_v118 val_main_v119
  match p with
  | 0 =>
    pointwise
    exact v89 Z W S hZ b s g l
  | 1 =>
    pointwise
    exact v116 Z T b s (col g l)

end Cert.MixRefIdeal.Value

end
-- ==== Proof.Mix.lean ====
/-
  The equation for the two mixers' forward call: at every entry it writes, the kernel's result and the reference's are the
  same functions of the arguments.
-/
module

public import proofs.«01_k».proof.Defs
public import proofs.«01_k».proof.Proof.Preds
public import proofs.«01_k».proof.Proof.MixArray
public import proofs.«01_k».proof.Proof.MixRef
public import proofs.«01_k».proof.Proof.Gen.MixRefIdeal.Run

@[expose] public section

noncomputable section

namespace Cert.MixClaim

open Idealize.ShloMosaic Idealize.ShloMosaic.TcCoe Idealize.SL.Sem
open Cert.MixIdeal Cert.MixIdeal.Gen Cert.MixIdeal.Value
open Cert.Conv3 (tok)
open Cert.PoolSpec (col)

/-- The reference runs, keeps its arguments, and has no semaphores. -/
theorem frame_reference : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

variable (m : (ℓ : Loc nD τ sig) → Buf (Elt Ideal) ℓ) (c : Dev nD)

/-- The result, at the planes the launch writes. -/
theorem result (hZ : Cert.PoolRefIdeal.Value.Pooled1 (aZ m c)) (i : (⟨3, ![3, 4096, 1024]⟩ : Shape).Idx) (hi : (i 0).val < 2) :
    Cert.MixRefIdeal.Read.val_main_v121 (F := Ideal) (aZ m c) (aW m c) (aS m c) (aT m c) i = (dats m 0 c).arrAt 7 cfg0.N i := by
  obtain ⟨q, r, k, rfl⟩ : ∃ (q : Fin 3) (r : Fin 4096) (k : Fin 1024), i = ix3 q r k := ⟨i 0, i 1, i 2, eq_ix3 i⟩
  obtain ⟨p, rfl⟩ : ∃ p : Fin 2, q = ⟨p.val, p.isLt.trans (by decide)⟩ := ⟨⟨q.val, hi⟩, rfl⟩
  obtain ⟨b, s, rfl⟩ : ∃ (b : Fin 2) (s : Fin 2048), r = tok b s :=
    ⟨⟨r.val / 2048, by omega⟩, ⟨r.val % 2048, by omega⟩, Fin.ext (by show r.val = r.val / 2048 * 2048 + r.val % 2048; omega)⟩
  obtain ⟨g, l, rfl⟩ : ∃ (g : Fin 4) (l : Fin 256), k = col g l :=
    ⟨⟨k.val / 256, by omega⟩, ⟨k.val % 256, by omega⟩, Fin.ext (by show k.val = k.val / 256 * 256 + k.val % 256; omega)⟩
  exact (Cert.MixRefIdeal.Value.v121 _ _ _ _ hZ p b s g l).trans (final7 m c p b s g l).symm

attribute [local instance] Preds.facts_mix_written Preds.facts_mix_finite

theorem algebraic : Cert.algebraic_MixIdeal_MixRefIdeal_on_mix_written_pre_mix_finite := by
  intro m g m' g' hpre hin
  refine ⟨fun c => (dats m 0 c).arrAt 7 cfg0.N,
    (θ_run _ _ _).mono (fun r h c => ?_) (run_blocks m g), (θ_run _ _ _).mono (fun r h c => ?_) (Cert.MixRefIdeal.Value.run m' g')⟩
  · obtain ⟨e0, ha⟩ := h c
    exact ⟨fun i _ => congrFun e0 i, ha⟩
  · obtain ⟨e0, ha⟩ := h c
    obtain ⟨a0, a1, a2, a3⟩ := hin c
    rw [Cert.MixRefIdeal.Read.val_main_v121_eq, a0, a1, a2, a3] at e0
    exact ⟨fun i hi => (congrFun e0 i).trans (result m c (fun r k => Preds.mix_finite (hpre c) r k) i (Preds.mix_plane i hi)), ha⟩

end Cert.MixClaim

end
-- ==== Proof.UpArray.lean ====
/-
  The up-projection's kernel: one grid point multiplies 2048 rows by one shard of the weight's columns. What the point's block
  holds, which entries it reads, and what the result holds after the run.
-/
module

public import proofs.«01_k».proof.Proof.Gen.UpIdeal.Value
public import proofs.«01_k».proof.Proof.Planes
public import Idealize.ShloMosaic.Lib.KernelVsHost

@[expose] public section

noncomputable section

namespace Cert.UpIdeal.Value

open Cert.Planes Cert.UpIdeal Cert.UpIdeal.Gen Idealize.ShloMosaic Idealize.ShloMosaic.TcCoe Idealize.SL.Sem

/-- Column `l` of shard `q` of the weight, and the plane and the column where the result keeps it. -/
def plane (q : Fin 4) : Fin 2 := ⟨q.val / 2, by omega⟩
def col (q : Fin 4) (l : Fin 1408) : Fin 2816 := ⟨q.val % 2 * 1408 + l.val, by omega⟩

/-- The product of a row and a column of a shard. -/
def up (H : (⟨2, ![4096, 1024]⟩ : Shape).Idx → EReal) (W : (⟨3, ![4, 1024, 1408]⟩ : Shape).Idx → EReal) (q : Fin 4)
    (r : Fin 4096) (l : Fin 1408) : EReal := ∑ j : Fin 1024, H (ix2 r j) * W (ix3 q j l)

/-- One point's block. -/
theorem block (x0 : Vec Ideal S2048x1024 .bf16) (x1 : Vec Ideal S1x1024x1408 .bf16) (s : Fin 2048) (l : Fin 1408) :
    (out0_2 x0 x1 : Vec Ideal S1x2048x1408 .bf16) (ix3 0 s l) = ∑ j : Fin 1024, x0 (ix2 s j) * x1 (ix3 0 j l) := by
  unfold out0_2
  rw [View.ld_unit_zero (S := S2048x1024) hz2, View.ld_unit_zero (S := S1x1024x1408) hz3]
  refine (canon_plane (n := 1) (m := 2048) (p := 1408) _ _ _ _ 0 s l).trans ((if_pos rfl).trans ?_)
  unfold k0_pay1
  pointwise

variable (m : (ℓ : Loc nD τ sig) → Buf (Elt Ideal) ℓ) (c : Dev nD)

/-- The arguments as arrays of extended reals. -/
abbrev aH : (⟨2, ![4096, 1024]⟩ : Shape).Idx → EReal := m ((c : Thread nD τ).loc main_arg0)
abbrev aW : (⟨3, ![4, 1024, 1408]⟩ : Shape).Idx → EReal := m ((c : Thread nD τ).loc main_arg1)

/-- The point that computes row `r` against shard `q`, and the row's place in its block. -/
def pt (q : Fin 4) (r : Fin 4096) : Fin cfg0.N := ⟨r.val / 2048 * 4 + q.val, by rw [show cfg0.N = 8 from N_0]; omega⟩
def sub (r : Fin 4096) : Fin 2048 := ⟨r.val % 2048, Nat.mod_lt _ (by decide)⟩

theorem index0 : ∀ t : Fin cfg0.N, win0_0.index t 0 = t.val / 4 ∧ win0_0.index t 1 = 0 :=
  (by decide +kernel : ∀ t : Fin grid0.N, win0_0.index t 0 = t.val / 4 ∧ win0_0.index t 1 = 0)
theorem index1 : ∀ t : Fin cfg0.N, win0_1.index t 0 = t.val % 4 ∧ win0_1.index t 1 = 0 ∧ win0_1.index t 2 = 0 :=
  (by decide +kernel : ∀ t : Fin grid0.N, win0_1.index t 0 = t.val % 4 ∧ win0_1.index t 1 = 0 ∧ win0_1.index t 2 = 0)
theorem index2 : ∀ t : Fin cfg0.N, win0_2.index t 0 = t.val % 4 / 2 ∧ win0_2.index t 1 = t.val / 4 ∧ win0_2.index t 2 = t.val % 4 % 2 :=
  (by decide +kernel : ∀ t : Fin grid0.N, win0_2.index t 0 = t.val % 4 / 2 ∧ win0_2.index t 1 = t.val / 4 ∧ win0_2.index t 2 = t.val % 4 % 2)

theorem pt_div (q : Fin 4) (r : Fin 4096) : (pt q r).val / 4 = r.val / 2048 := by show (r.val / 2048 * 4 + q.val) / 4 = _; omega
theorem pt_mod (q : Fin 4) (r : Fin 4096) : (pt q r).val % 4 = q.val := by show (r.val / 2048 * 4 + q.val) % 4 = _; omega

theorem iblk0 (q : Fin 4) (r : Fin 4096) (j : Fin 1024) :
    (iblk m c 0 (pt q r) : Vec Ideal S2048x1024 .bf16) (ix2 (sub r) j) = aH m c (ix2 r j) := by
  unfold iblk
  rw [View.read_apply]
  show V m c main_arg0 _ = m _ _
  rw [V_main_arg0]
  congr 1
  funext a
  apply Fin.ext
  match a with
  | ⟨0, _⟩ => show win0_0.index (pt q r) 0 * 2048 + 1 * (r.val % 2048) = r.val; rw [(index0 _).1, pt_div]; omega
  | ⟨1, _⟩ => show win0_0.index (pt q r) 1 * 1024 + 1 * j.val = j.val; rw [(index0 _).2]; omega

theorem iblk1 (q : Fin 4) (r : Fin 4096) (j : Fin 1024) (l : Fin 1408) :
    (iblk m c 1 (pt q r) : Vec Ideal S1x1024x1408 .bf16) (ix3 0 j l) = aW m c (ix3 q j l) := by
  unfold iblk
  rw [View.read_apply]
  show V m c main_arg1 _ = m _ _
  rw [V_main_arg1]
  congr 1
  funext a
  apply Fin.ext
  match a with
  | ⟨0, _⟩ => show win0_1.index (pt q r) 0 * 1 + 1 * 0 = q.val; rw [(index1 _).1, pt_mod]; omega
  | ⟨1, _⟩ => show win0_1.index (pt q r) 1 * 1024 + 1 * j.val = j.val; rw [(index1 _).2.1]; omega
  | ⟨2, _⟩ => show win0_1.index (pt q r) 2 * 1408 + 1 * l.val = l.val; rw [(index1 _).2.2]; omega

theorem final2 (q : Fin 4) (r : Fin 4096) (l : Fin 1408) :
    ((dats m 0 c).arrAt 2 cfg0.N : (⟨3, ![2, 4096, 2816]⟩ : Shape).Idx → EReal) (ix3 (plane q) r (col q l))
      = up (aH m c) (aW m c) q r l := by
  have e := (dats m 0 c).arrAt_emb_eq_flushed 2 disjoint2 (pt q r) (flush0_2 (pt q r)) (ix3 0 (sub r) l)
  have ei : ((cfg0.win 2).blk (pt q r)).view.emb (ix3 0 (sub r) l) = ix3 (plane q) r (col q l) := by
    funext a
    apply Fin.ext
    match a with
    | ⟨0, _⟩ => show win0_2.index (pt q r) 0 * 1 + 1 * 0 = q.val / 2; rw [(index2 _).1, pt_mod]; omega
    | ⟨1, _⟩ => show win0_2.index (pt q r) 1 * 2048 + 1 * (r.val % 2048) = r.val; rw [(index2 _).2.1, pt_div]; omega
    | ⟨2, _⟩ => show win0_2.index (pt q r) 2 * 1408 + 1 * l.val = q.val % 2 * 1408 + l.val; rw [(index2 _).2.2, pt_mod]; omega
  rw [ei] at e
  refine e.trans ?_
  rw [cast_eq, flushed2]
  exact (block _ _ (sub r) l).trans
    (Finset.sum_congr rfl fun j _ => congrArg₂ (· * ·) (iblk0 m c q r j) (iblk1 m c q r j l))

end Cert.UpIdeal.Value

end
-- ==== Proof.Up.lean ====
/-
  The equation for the up-projection: at every entry the reference's product against the whole weight is the kernel's product
  against one shard of it.
-/
module

public import proofs.«01_k».proof.Defs
public import proofs.«01_k».proof.Proof.UpArray
public import proofs.«01_k».proof.Proof.Gen.UpRefIdeal.Read
public import proofs.«01_k».proof.Proof.Gen.UpRefIdeal.Run

@[expose] public section

noncomputable section

namespace Cert.UpClaim

open Cert.Planes Idealize.ShloMosaic Idealize.ShloMosaic.TcCoe Idealize.SL.Sem
open Cert.UpIdeal Cert.UpIdeal.Gen Cert.UpIdeal.Value Cert.UpRefIdeal.Read

/-- The reference runs, keeps its arguments, and has no semaphores. -/
theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-! ### The reference -/

section Reference

variable (H : (⟨2, ![4096, 1024]⟩ : Shape).Idx → EReal) (W : (⟨3, ![4, 1024, 1408]⟩ : Shape).Idx → EReal)

/-- The whole weight's columns, shard after shard. -/
theorem v2 (j : Fin 1024) (q : Fin 4) (l : Fin 1408) (n : Fin 5632) (hn : n.val = q.val * 1408 + l.val) :
    val_main_v2 (F := Ideal) W (ix2 j n) = W (ix3 q j l) := by
  rw [val_main_v2_apply, val_main_v1_apply, val_main_v0_apply]
  refine congrArg W (funext fun a => Fin.ext ?_)
  match a with
  | ⟨0, _⟩ => show (j.val * 5632 + n.val) / 1408 % 4 = q.val; omega
  | ⟨1, _⟩ => show (j.val * 5632 + n.val) / 5632 = j.val; omega
  | ⟨2, _⟩ => show (j.val * 5632 + n.val) % 1408 = l.val; omega

theorem v4 (r : Fin 4096) (q : Fin 4) (l : Fin 1408) (n : Fin 5632) (hn : n.val = q.val * 1408 + l.val) :
    val_main_v4 (F := Ideal) H W (ix2 r n) = up H W q r l := by
  rw [val_main_v4_apply]
  exact Finset.sum_congr rfl fun j _ => congrArg₂ (· * ·) ((val_main_v3_apply _ _).trans (at2 rfl)) (at2 (v2 W j q l n hn))

/-- The result keeps the product's columns in two planes. -/
theorem v7 (q : Fin 4) (r : Fin 4096) (l : Fin 1408) :
    val_main_v7 (F := Ideal) H W (ix3 (plane q) r (col q l)) = up H W q r l := by
  rw [val_main_v7_apply, val_main_v6_apply, val_main_v5_apply]
  refine (congrArg (val_main_v4 (F := Ideal) H W) (funext fun a => Fin.ext ?_)).trans
    (v4 H W r q l ⟨q.val * 1408 + l.val, by omega⟩ rfl)
  match a with
  | ⟨0, _⟩ => show ((r.val * 2 + q.val / 2) * 2816 + (q.val % 2 * 1408 + l.val)) / 5632 = r.val; omega
  | ⟨1, _⟩ => show ((r.val * 2 + q.val / 2) * 2816 + (q.val % 2 * 1408 + l.val)) % 5632 = q.val * 1408 + l.val; omega

end Reference

/-! ### The claim -/

variable (m : (ℓ : Loc nD τ sig) → Buf (Elt Ideal) ℓ) (c : Dev nD)

theorem result (i : (⟨3, ![2, 4096, 2816]⟩ : Shape).Idx) :
    val_main_v7 (F := Ideal) (aH m c) (aW m c) i = (dats m 0 c).arrAt 2 cfg0.N i := by
  obtain ⟨p, r, n, rfl⟩ : ∃ (p : Fin 2) (r : Fin 4096) (n : Fin 2816), i = ix3 p r n := ⟨i 0, i 1, i 2, eq_ix3 i⟩
  have hp : plane ⟨p.val * 2 + n.val / 1408, by omega⟩ = p := Fin.ext (by show (p.val * 2 + n.val / 1408) / 2 = p.val; omega)
  have hn : col ⟨p.val * 2 + n.val / 1408, by omega⟩ ⟨n.val % 1408, Nat.mod_lt _ (by decide)⟩ = n :=
    Fin.ext (by show (p.val * 2 + n.val / 1408) % 2 * 1408 + n.val % 1408 = n.val; omega)
  have e := (v7 (aH m c) (aW m c) ⟨p.val * 2 + n.val / 1408, by omega⟩ r ⟨n.val % 1408, Nat.mod_lt _ (by decide)⟩).trans
    (final2 m c _ r _).symm
  rw [hp, hn] at e
  exact e

theorem algebraic : Cert.algebraic_UpIdeal_UpRefIdeal := by
  intro m g m' g' _ hin
  refine ⟨fun c => (dats m 0 c).arrAt 2 cfg0.N, run_blocks m g, (θ_run _ _ _).mono (fun r h c => ?_) (Cert.UpRefIdeal.Value.run m' g')⟩
  obtain ⟨e0, ha⟩ := h c
  obtain ⟨a0, a1⟩ := hin c
  rw [val_main_v7_eq, a0, a1] at e0
  exact ⟨e0.trans (funext (result m c)), ha⟩

end Cert.UpClaim

end
-- ==== Proof.DaArray.lean ====
/-
  The kernel of the down-projection's gradient: one grid point multiplies 512 rows by the whole transposed weight. What the
  point's block holds, which entries it reads, and what the result holds after the run.
-/
module

public import proofs.«01_k».proof.Proof.Gen.DaIdeal.Value
public import proofs.«01_k».proof.Proof.Planes
public import Idealize.ShloMosaic.Lib.KernelVsHost

@[expose] public section

noncomputable section

namespace Cert.DaIdeal.Value

open Cert.Planes Cert.DaIdeal Cert.DaIdeal.Gen Idealize.ShloMosaic Idealize.ShloMosaic.TcCoe Idealize.SL.Sem

/-- The gradient of one entry: the row's cotangent against the weight's row. -/
def da (D : (⟨2, ![4096, 1024]⟩ : Shape).Idx → EReal) (W : (⟨2, ![2816, 1024]⟩ : Shape).Idx → EReal) (r : Fin 4096)
    (f : Fin 2816) : EReal := ∑ j : Fin 1024, D (ix2 r j) * W (ix2 f j)

/-- One point's block. -/
theorem block (x0 : Vec Ideal S512x1024 .bf16) (x1 : Vec Ideal S2816x1024 .bf16) (s : Fin 512) (f : Fin 2816) :
    (out0_2 x0 x1 : Vec Ideal S512x2816 .bf16) (ix2 s f) = ∑ j : Fin 1024, x0 (ix2 s j) * x1 (ix2 f j) := by
  unfold out0_2
  rw [View.ld_unit_zero (S := S512x1024) hz2, View.ld_unit_zero (S := S2816x1024) hz2,
    View.canon_cons_unit_zero (S := S512x2816) hz2]
  unfold k0_pay1
  pointwise

variable (m : (ℓ : Loc nD τ sig) → Buf (Elt Ideal) ℓ) (c : Dev nD)

/-- The arguments as arrays of extended reals. -/
abbrev aD : (⟨2, ![4096, 1024]⟩ : Shape).Idx → EReal := m ((c : Thread nD τ).loc main_arg0)
abbrev aW : (⟨2, ![2816, 1024]⟩ : Shape).Idx → EReal := m ((c : Thread nD τ).loc main_arg1)

/-- The point that computes row `r`, and the row's place in its block. -/
def pt (r : Fin 4096) : Fin cfg0.N := ⟨r.val / 512, by rw [show cfg0.N = 8 from N_0]; omega⟩
def sub (r : Fin 4096) : Fin 512 := ⟨r.val % 512, Nat.mod_lt _ (by decide)⟩

theorem pt_sub (r : Fin 4096) : (pt r).val * 512 + 1 * (r.val % 512) = r.val := by
  show r.val / 512 * 512 + _ = _
  omega

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

theorem iblk0 (r : Fin 4096) (j : Fin 1024) :
    (iblk m c 0 (pt r) : Vec Ideal S512x1024 .bf16) (ix2 (sub r) j) = aD m c (ix2 r j) := by
  unfold iblk
  rw [View.read_apply]
  show V m c main_arg0 _ = m _ _
  rw [V_main_arg0]
  congr 1
  funext a
  apply Fin.ext
  match a with
  | ⟨0, _⟩ => show win0_0.index (pt r) 0 * 512 + 1 * (r.val % 512) = r.val; rw [(index0 _).1]; exact pt_sub r
  | ⟨1, _⟩ => show win0_0.index (pt r) 1 * 1024 + 1 * j.val = j.val; rw [(index0 _).2]; omega

theorem iblk1 (t : Fin cfg0.N) (f : Fin 2816) (j : Fin 1024) :
    (iblk m c 1 t : Vec Ideal S2816x1024 .bf16) (ix2 f j) = aW m c (ix2 f j) := by
  unfold iblk
  rw [View.read_apply]
  show V m c main_arg1 _ = m _ _
  rw [V_main_arg1]
  congr 1
  funext a
  apply Fin.ext
  match a with
  | ⟨0, _⟩ => show win0_1.index t 0 * 2816 + 1 * f.val = f.val; rw [(index1 _).1]; omega
  | ⟨1, _⟩ => show win0_1.index t 1 * 1024 + 1 * j.val = j.val; rw [(index1 _).2]; omega

theorem final2 (r : Fin 4096) (f : Fin 2816) :
    ((dats m 0 c).arrAt 2 cfg0.N : (⟨2, ![4096, 2816]⟩ : Shape).Idx → EReal) (ix2 r f) = da (aD m c) (aW m c) r f := by
  have e := (dats m 0 c).arrAt_emb_eq_flushed 2 disjoint2 (pt r) (flush0_2 (pt r)) (ix2 (sub r) f)
  have ei : ((cfg0.win 2).blk (pt r)).view.emb (ix2 (sub r) f) = ix2 r f := by
    funext a
    apply Fin.ext
    match a with
    | ⟨0, _⟩ => show win0_2.index (pt r) 0 * 512 + 1 * (r.val % 512) = r.val; rw [(index2 _).1]; exact pt_sub r
    | ⟨1, _⟩ => show win0_2.index (pt r) 1 * 2816 + 1 * f.val = f.val; rw [(index2 _).2]; omega
  rw [ei] at e
  refine e.trans ?_
  rw [cast_eq, flushed2]
  exact (block _ _ (sub r) f).trans
    (Finset.sum_congr rfl fun j _ => congrArg₂ (· * ·) (iblk0 m c r j) (iblk1 m c (pt r) f j))

end Cert.DaIdeal.Value

end
-- ==== Proof.Da.lean ====
/-
  The equation for the down-projection's gradient: at every entry the kernel and the reference are the same sum of products.
-/
module

public import proofs.«01_k».proof.Defs
public import proofs.«01_k».proof.Proof.DaArray
public import proofs.«01_k».proof.Proof.Gen.DaRefIdeal.Read
public import proofs.«01_k».proof.Proof.Gen.DaRefIdeal.Run

@[expose] public section

noncomputable section

namespace Cert.DaClaim

open Cert.Planes Idealize.ShloMosaic Idealize.ShloMosaic.TcCoe Idealize.SL.Sem
open Cert.DaIdeal Cert.DaIdeal.Gen Cert.DaIdeal.Value Cert.DaRefIdeal.Read

/-- The reference runs, keeps its arguments, and has no semaphores. -/
theorem frame_reference : Cert.quiescent_DaRefIdeal := fun m ρ _ =>
  (θ_run Cert.DaRefIdeal.defs _ _).mono (fun r h => ⟨fun c => (h c).2, sem_eq_zero_of_no_sems (by decide) r.2⟩)
    (Cert.DaRefIdeal.Value.run (F := Ideal) m ρ)

theorem v5 (D : (⟨2, ![4096, 1024]⟩ : Shape).Idx → EReal) (W : (⟨2, ![2816, 1024]⟩ : Shape).Idx → EReal) (r : Fin 4096)
    (f : Fin 2816) : val_main_v5 (F := Ideal) D W (ix2 r f) = da D W r f := by
  rw [val_main_v5_apply]
  refine (val_main_v4_apply D W (ix2 r f)).trans ?_
  exact Finset.sum_congr rfl fun j _ =>
    congrArg₂ (· * ·) ((val_main_v3_apply _ _).trans (at2 rfl)) ((val_main_v0_apply _ _).trans (at2 rfl))

variable (m : (ℓ : Loc nD τ sig) → Buf (Elt Ideal) ℓ) (c : Dev nD)

theorem result (i : (⟨2, ![4096, 2816]⟩ : Shape).Idx) :
    val_main_v5 (F := Ideal) (aD m c) (aW m c) i = (dats m 0 c).arrAt 2 cfg0.N i := by
  obtain ⟨r, f, rfl⟩ : ∃ (r : Fin 4096) (f : Fin 2816), i = ix2 r f := ⟨i 0, i 1, eq_ix2 i⟩
  exact (v5 _ _ r f).trans (final2 m c r f).symm

theorem algebraic : Cert.algebraic_DaIdeal_DaRefIdeal := by
  intro m g m' g' _ hin
  refine ⟨fun c => (dats m 0 c).arrAt 2 cfg0.N, run_blocks m g, (θ_run _ _ _).mono (fun r h c => ?_) (Cert.DaRefIdeal.Value.run m' g')⟩
  obtain ⟨e0, ha⟩ := h c
  obtain ⟨a0, a1⟩ := hin c
  rw [val_main_v5_eq, a0, a1] at e0
  exact ⟨e0.trans (funext (result m c)), ha⟩

end Cert.DaClaim

end
-- ==== Proof.WuArray.lean ====
/-
  The kernel of the up-projection's weight gradient: one grid point sums over all the tokens, for one shard of the weight's
  columns. What the point's block holds, which entries it reads, and what the result holds after the run.
-/
module

public import proofs.«01_k».proof.Proof.Gen.WuIdeal.Value
public import proofs.«01_k».proof.Proof.Planes
public import Idealize.ShloMosaic.Lib.KernelVsHost

@[expose] public section

noncomputable section

namespace Cert.WuIdeal.Value

open Cert.Planes Cert.WuIdeal Cert.WuIdeal.Gen Idealize.ShloMosaic Idealize.ShloMosaic.TcCoe Idealize.SL.Sem

/-- The plane and the column of the cotangent that belong to column `l` of shard `q`. -/
def plane (q : Fin 4) : Fin 2 := ⟨q.val / 2, by omega⟩
def col (q : Fin 4) (l : Fin 1408) : Fin 2816 := ⟨q.val % 2 * 1408 + l.val, by omega⟩

/-- The gradient of one entry of the weight. -/
def wu (H : (⟨2, ![4096, 1024]⟩ : Shape).Idx → EReal) (D : (⟨3, ![2, 4096, 2816]⟩ : Shape).Idx → EReal) (q : Fin 4)
    (k : Fin 1024) (l : Fin 1408) : EReal := ∑ r : Fin 4096, H (ix2 r k) * D (ix3 (plane q) r (col q l))

/-- One point's block. -/
theorem block (x0 : Vec Ideal S4096x1024 .bf16) (x1 : Vec Ideal S1x4096x1408 .bf16) (k : Fin 1024) (l : Fin 1408) :
    (out0_2 x0 x1 : Vec Ideal S1x1024x1408 .bf16) (ix3 0 k l) = ∑ r : Fin 4096, x0 (ix2 r k) * x1 (ix3 0 r l) := by
  unfold out0_2
  rw [View.ld_unit_zero (S := S4096x1024) hz2, View.ld_unit_zero (S := S1x4096x1408) hz3]
  refine (canon_plane (n := 1) (m := 1024) (p := 1408) _ _ _ _ 0 k l).trans ((if_pos rfl).trans ?_)
  unfold k0_pay1
  pointwise

variable (m : (ℓ : Loc nD τ sig) → Buf (Elt Ideal) ℓ) (c : Dev nD)

/-- The arguments as arrays of extended reals. -/
abbrev aH : (⟨2, ![4096, 1024]⟩ : Shape).Idx → EReal := m ((c : Thread nD τ).loc main_arg0)
abbrev aD : (⟨3, ![2, 4096, 2816]⟩ : Shape).Idx → EReal := m ((c : Thread nD τ).loc main_arg1)

/-- The point that computes shard `q`. -/
def pt (q : Fin 4) : Fin cfg0.N := ⟨q.val, by rw [show cfg0.N = 4 from N_0]; omega⟩

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val / 2 ∧ win0_1.index t 1 = 0 ∧ win0_1.index t 2 = t.val % 2 :=
  (by decide +kernel : ∀ t : Fin grid0.N, win0_1.index t 0 = t.val / 2 ∧ win0_1.index t 1 = 0 ∧ win0_1.index t 2 = t.val % 2)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

theorem iblk0 (t : Fin cfg0.N) (r : Fin 4096) (k : Fin 1024) :
    (iblk m c 0 t : Vec Ideal S4096x1024 .bf16) (ix2 r k) = aH m c (ix2 r k) := by
  unfold iblk
  rw [View.read_apply]
  show V m c main_arg0 _ = m _ _
  rw [V_main_arg0]
  congr 1
  funext a
  apply Fin.ext
  match a with
  | ⟨0, _⟩ => show win0_0.index t 0 * 4096 + 1 * r.val = r.val; rw [(index0 _).1]; omega
  | ⟨1, _⟩ => show win0_0.index t 1 * 1024 + 1 * k.val = k.val; rw [(index0 _).2]; omega

theorem iblk1 (q : Fin 4) (r : Fin 4096) (l : Fin 1408) :
    (iblk m c 1 (pt q) : Vec Ideal S1x4096x1408 .bf16) (ix3 0 r l) = aD m c (ix3 (plane q) r (col q l)) := by
  unfold iblk
  rw [View.read_apply]
  show V m c main_arg1 _ = m _ _
  rw [V_main_arg1]
  congr 1
  funext a
  apply Fin.ext
  match a with
  | ⟨0, _⟩ => show win0_1.index (pt q) 0 * 1 + 1 * 0 = q.val / 2; rw [(index1 _).1]; show q.val / 2 * 1 + 1 * 0 = _; omega
  | ⟨1, _⟩ => show win0_1.index (pt q) 1 * 4096 + 1 * r.val = r.val; rw [(index1 _).2.1]; omega
  | ⟨2, _⟩ =>
    show win0_1.index (pt q) 2 * 1408 + 1 * l.val = q.val % 2 * 1408 + l.val
    rw [(index1 _).2.2]
    show q.val % 2 * 1408 + 1 * l.val = _
    omega

theorem final2 (q : Fin 4) (k : Fin 1024) (l : Fin 1408) :
    ((dats m 0 c).arrAt 2 cfg0.N : (⟨3, ![4, 1024, 1408]⟩ : Shape).Idx → EReal) (ix3 q k l) = wu (aH m c) (aD m c) q k l := by
  have e := (dats m 0 c).arrAt_emb_eq_flushed 2 disjoint2 (pt q) (flush0_2 (pt q)) (ix3 0 k l)
  have ei : ((cfg0.win 2).blk (pt q)).view.emb (ix3 0 k l) = ix3 q k l := by
    funext a
    apply Fin.ext
    match a with
    | ⟨0, _⟩ => show win0_2.index (pt q) 0 * 1 + 1 * 0 = q.val; rw [(index2 _).1]; show q.val * 1 + 1 * 0 = _; omega
    | ⟨1, _⟩ => show win0_2.index (pt q) 1 * 1024 + 1 * k.val = k.val; rw [(index2 _).2.1]; omega
    | ⟨2, _⟩ => show win0_2.index (pt q) 2 * 1408 + 1 * l.val = l.val; rw [(index2 _).2.2]; omega
  rw [ei] at e
  refine e.trans ?_
  rw [cast_eq, flushed2]
  exact (block _ _ k l).trans
    (Finset.sum_congr rfl fun r _ => congrArg₂ (· * ·) (iblk0 m c (pt q) r k) (iblk1 m c q r l))

end Cert.WuIdeal.Value

end
-- ==== Proof.Wu.lean ====
/-
  The equation for the up-projection's weight gradient: the reference sums against all the cotangent's columns and lays the
  result out shard by shard, the kernel computes one shard at a time, and the two products have their factors in opposite order.
-/
module

public import proofs.«01_k».proof.Defs
public import proofs.«01_k».proof.Proof.WuArray
public import proofs.«01_k».proof.Proof.Gen.WuRefIdeal.Read
public import proofs.«01_k».proof.Proof.Gen.WuRefIdeal.Run

@[expose] public section

noncomputable section

namespace Cert.WuClaim

open Cert.Planes Idealize.ShloMosaic Idealize.ShloMosaic.TcCoe Idealize.SL.Sem
open Cert.WuIdeal Cert.WuIdeal.Gen Cert.WuIdeal.Value Cert.WuRefIdeal.Read

/-- The reference runs, keeps its arguments, and has no semaphores. -/
theorem frame_reference : Cert.quiescent_WuRefIdeal := fun m ρ _ =>
  (θ_run Cert.WuRefIdeal.defs _ _).mono (fun r h => ⟨fun c => (h c).2, sem_eq_zero_of_no_sems (by decide) r.2⟩)
    (Cert.WuRefIdeal.Value.run (F := Ideal) m ρ)

/-! ### The reference -/

section Reference

variable (H : (⟨2, ![4096, 1024]⟩ : Shape).Idx → EReal) (D : (⟨3, ![2, 4096, 2816]⟩ : Shape).Idx → EReal)

/-- The cotangent's columns, plane after plane. -/
theorem v3 (r : Fin 4096) (q : Fin 4) (l : Fin 1408) (n : Fin 5632) (hn : n.val = q.val * 1408 + l.val) :
    val_main_v3 (F := Ideal) D (ix2 r n) = D (ix3 (plane q) r (col q l)) := by
  rw [val_main_v3_apply, val_main_v2_apply, val_main_v1_apply]
  refine congrArg D (funext fun a => Fin.ext ?_)
  match a with
  | ⟨0, _⟩ => show (r.val * 5632 + n.val) / 2816 % 2 = q.val / 2; omega
  | ⟨1, _⟩ => show (r.val * 5632 + n.val) / 5632 = r.val; omega
  | ⟨2, _⟩ => show (r.val * 5632 + n.val) % 2816 = q.val % 2 * 1408 + l.val; omega

theorem v6 (q : Fin 4) (k : Fin 1024) (l : Fin 1408) (n : Fin 5632) (hn : n.val = q.val * 1408 + l.val) :
    val_main_v6 (F := Ideal) H D (ix2 n k) = wu H D q k l := by
  rw [val_main_v6_apply]
  exact Finset.sum_congr rfl fun r _ => (congrArg₂ (· * ·) (at2 (v3 D r q l n hn)) ((val_main_v0_apply _ _).trans (at2 rfl))).trans
    (mul_comm _ _)

theorem v10 (q : Fin 4) (k : Fin 1024) (l : Fin 1408) : val_main_v10 (F := Ideal) H D (ix3 q k l) = wu H D q k l := by
  rw [val_main_v10_apply, val_main_v9_apply, val_main_v8_apply, val_main_v7_apply]
  refine (congrArg (val_main_v6 (F := Ideal) H D) (funext fun a => Fin.ext ?_)).trans
    (v6 H D q k l ⟨q.val * 1408 + l.val, by omega⟩ rfl)
  match a with
  | ⟨0, _⟩ => show ((k.val * 4 + q.val) * 1408 + l.val) % 5632 = q.val * 1408 + l.val; omega
  | ⟨1, _⟩ => show ((k.val * 4 + q.val) * 1408 + l.val) / 5632 = k.val; omega

end Reference

/-! ### The claim -/

variable (m : (ℓ : Loc nD τ sig) → Buf (Elt Ideal) ℓ) (c : Dev nD)

theorem result (i : (⟨3, ![4, 1024, 1408]⟩ : Shape).Idx) :
    val_main_v10 (F := Ideal) (aH m c) (aD m c) i = (dats m 0 c).arrAt 2 cfg0.N i := by
  obtain ⟨q, k, l, rfl⟩ : ∃ (q : Fin 4) (k : Fin 1024) (l : Fin 1408), i = ix3 q k l := ⟨i 0, i 1, i 2, eq_ix3 i⟩
  exact (v10 _ _ q k l).trans (final2 m c q k l).symm

theorem algebraic : Cert.algebraic_WuIdeal_WuRefIdeal := by
  intro m g m' g' _ hin
  refine ⟨fun c => (dats m 0 c).arrAt 2 cfg0.N, run_blocks m g, (θ_run _ _ _).mono (fun r h c => ?_) (Cert.WuRefIdeal.Value.run m' g')⟩
  obtain ⟨e0, ha⟩ := h c
  obtain ⟨a0, a1⟩ := hin c
  rw [val_main_v10_eq, a0, a1] at e0
  exact ⟨e0.trans (funext (result m c)), ha⟩

end Cert.WuClaim

end
-- ==== Proof.WiArray.lean ====
/-
  The kernel of the input projection's weight gradient: one grid point sums over all the tokens, for 512 of the weight's 6144
  columns, which meet one half of a plane of the cotangent. What the point's block holds, which entries it reads, and what the
  result holds after the run. The twelve parts of the columns are those of the norm's gradient.
-/
module

public import proofs.«01_k».proof.Proof.Gen.WiIdeal.Value
public import proofs.«01_k».proof.Proof.DxSpec
public import proofs.«01_k».proof.Proof.Planes
public import Idealize.ShloMosaic.Lib.KernelVsHost

@[expose] public section

noncomputable section

namespace Cert.WiIdeal.Value

open Cert.Planes Cert.WiIdeal Cert.WiIdeal.Gen Idealize.ShloMosaic Idealize.ShloMosaic.TcCoe Idealize.SL.Sem

/-- The gradient of one entry of the weight: column `j` of part `k` of its columns, row `i`. -/
def wi (H : (⟨2, ![4096, 1024]⟩ : Shape).Idx → EReal) (D : (⟨3, ![6, 4096, 1024]⟩ : Shape).Idx → EReal) (k : Fin 12)
    (i : Fin 1024) (j : Fin 512) : EReal := ∑ r : Fin 4096, H (ix2 r i) * D (ix3 (DxSpec.plane k) r (DxSpec.col k j))

/-- One point's block. -/
theorem block (x0 : Vec Ideal S4096x1024 .bf16) (x1 : Vec Ideal S1x4096x512 .bf16) (i : Fin 1024) (j : Fin 512) :
    (out0_2 x0 x1 : Vec Ideal S1x1024x512 .bf16) (ix3 0 i j) = ∑ r : Fin 4096, x0 (ix2 r i) * x1 (ix3 0 r j) := by
  unfold out0_2
  rw [View.ld_unit_zero (S := S4096x1024) hz2, View.ld_unit_zero (S := S1x4096x512) hz3]
  refine (canon_plane (n := 1) (m := 1024) (p := 512) _ _ _ _ 0 i j).trans ((if_pos rfl).trans ?_)
  unfold k0_pay1
  pointwise

variable (m : (ℓ : Loc nD τ sig) → Buf (Elt Ideal) ℓ) (c : Dev nD)

/-- The arguments as arrays of extended reals. -/
abbrev aH : (⟨2, ![4096, 1024]⟩ : Shape).Idx → EReal := m ((c : Thread nD τ).loc main_arg0)
abbrev aD : (⟨3, ![6, 4096, 1024]⟩ : Shape).Idx → EReal := m ((c : Thread nD τ).loc main_arg1)

/-- The point that computes part `k`. -/
def pt (k : Fin 12) : Fin cfg0.N := ⟨k.val, by rw [show cfg0.N = 12 from N_0]; omega⟩

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ k : Fin 12, win0_1.index (pt k) 0 = (DxSpec.plane k).val ∧ win0_1.index (pt k) 1 = 0 ∧ win0_1.index (pt k) 2 = k.val % 2 :=
  by decide +kernel
theorem index2 : ∀ k : Fin 12, win0_2.index (pt k) 0 = k.val / 3 ∧ win0_2.index (pt k) 1 = 0 ∧ win0_2.index (pt k) 2 = k.val % 3 :=
  by decide +kernel

theorem iblk0 (t : Fin cfg0.N) (r : Fin 4096) (i : Fin 1024) :
    (iblk m c 0 t : Vec Ideal S4096x1024 .bf16) (ix2 r i) = aH m c (ix2 r i) := by
  unfold iblk
  rw [View.read_apply]
  show V m c main_arg0 _ = m _ _
  rw [V_main_arg0]
  congr 1
  funext a
  apply Fin.ext
  match a with
  | ⟨0, _⟩ => show win0_0.index t 0 * 4096 + 1 * r.val = r.val; rw [(index0 _).1]; omega
  | ⟨1, _⟩ => show win0_0.index t 1 * 1024 + 1 * i.val = i.val; rw [(index0 _).2]; omega

theorem iblk1 (k : Fin 12) (r : Fin 4096) (j : Fin 512) :
    (iblk m c 1 (pt k) : Vec Ideal S1x4096x512 .bf16) (ix3 0 r j) = aD m c (ix3 (DxSpec.plane k) r (DxSpec.col k j)) := by
  unfold iblk
  rw [View.read_apply]
  show V m c main_arg1 _ = m _ _
  rw [V_main_arg1]
  congr 1
  funext a
  apply Fin.ext
  match a with
  | ⟨0, _⟩ => show win0_1.index (pt k) 0 * 1 + 1 * 0 = (DxSpec.plane k).val; rw [(index1 k).1]; omega
  | ⟨1, _⟩ => show win0_1.index (pt k) 1 * 4096 + 1 * r.val = r.val; rw [(index1 k).2.1]; omega
  | ⟨2, _⟩ => show win0_1.index (pt k) 2 * 512 + 1 * j.val = (DxSpec.col k j).val; rw [(index1 k).2.2]; show _ = k.val % 2 * 512 + j.val; omega

theorem final2 (k : Fin 12) (i : Fin 1024) (j : Fin 512) :
    ((dats m 0 c).arrAt 2 cfg0.N : (⟨3, ![4, 1024, 1536]⟩ : Shape).Idx → EReal) (ix3 (DxSpec.shard k) i (DxSpec.wcol k j))
      = wi (aH m c) (aD m c) k i j := by
  have e := (dats m 0 c).arrAt_emb_eq_flushed 2 disjoint2 (pt k) (flush0_2 (pt k)) (ix3 0 i j)
  have ei : ((cfg0.win 2).blk (pt k)).view.emb (ix3 0 i j) = ix3 (DxSpec.shard k) i (DxSpec.wcol k j) := by
    funext a
    apply Fin.ext
    match a with
    | ⟨0, _⟩ => show win0_2.index (pt k) 0 * 1 + 1 * 0 = (DxSpec.shard k).val; rw [(index2 k).1]; show _ = k.val / 3; omega
    | ⟨1, _⟩ => show win0_2.index (pt k) 1 * 1024 + 1 * i.val = i.val; rw [(index2 k).2.1]; omega
    | ⟨2, _⟩ => show win0_2.index (pt k) 2 * 512 + 1 * j.val = (DxSpec.wcol k j).val; rw [(index2 k).2.2]; show _ = k.val % 3 * 512 + j.val; omega
  rw [ei] at e
  refine e.trans ?_
  rw [cast_eq, flushed2]
  exact (block _ _ i j).trans
    (Finset.sum_congr rfl fun r _ => congrArg₂ (· * ·) (iblk0 m c (pt k) r i) (iblk1 m c k r j))

end Cert.WiIdeal.Value

end
-- ==== Proof.Wi.lean ====
/-
  The equation for the input projection's weight gradient: the reference puts the cotangent's six planes side by side, in the
  order the projection's columns take them, and sums against all of them; the kernel finds the plane of each part of the columns.
-/
module

public import proofs.«01_k».proof.Defs
public import proofs.«01_k».proof.Proof.WiArray
public import proofs.«01_k».proof.Proof.Gen.WiRefIdeal.Read
public import proofs.«01_k».proof.Proof.Gen.WiRefIdeal.Run
public import Idealize.ShloMosaic.Lib.Pointwise

@[expose] public section

noncomputable section

namespace Cert.WiClaim

open Cert.Planes Idealize.ShloMosaic Idealize.ShloMosaic.TcCoe Idealize.SL.Sem
open Cert.WiIdeal Cert.WiIdeal.Gen Cert.WiIdeal.Value Cert.WiRefIdeal.Read

/-- The reference runs, keeps its arguments, and has no semaphores. -/
theorem frame_reference : Cert.quiescent_WiRefIdeal := fun m ρ _ =>
  (θ_run Cert.WiRefIdeal.defs _ _).mono (fun r h => ⟨fun c => (h c).2, sem_eq_zero_of_no_sems (by decide) r.2⟩)
    (Cert.WiRefIdeal.Value.run (F := Ideal) m ρ)

/-! ### The reference -/

section Reference

variable (H : (⟨2, ![4096, 1024]⟩ : Shape).Idx → EReal) (D : (⟨3, ![6, 4096, 1024]⟩ : Shape).Idx → EReal)

/-- The plane that stands at each place. -/
theorem planes (r : Fin 4096) (l : Fin 1024) :
    val_main_v3 (F := Ideal) D (ix2 r l) = D (ix3 3 r l) ∧ val_main_v5 (F := Ideal) D (ix2 r l) = D (ix3 0 r l)
    ∧ val_main_v7 (F := Ideal) D (ix2 r l) = D (ix3 1 r l) ∧ val_main_v9 (F := Ideal) D (ix2 r l) = D (ix3 2 r l)
    ∧ val_main_v11 (F := Ideal) D (ix2 r l) = D (ix3 4 r l) ∧ val_main_v13 (F := Ideal) D (ix2 r l) = D (ix3 5 r l) := by
  unfold val_main_v3 val_main_v2 val_main_v5 val_main_v4 val_main_v7 val_main_v6 val_main_v9 val_main_v8 val_main_v11
    val_main_v10 val_main_v13 val_main_v12 val_main_v1
  refine ⟨?_, ?_, ?_, ?_, ?_, ?_⟩ <;> pointwise

/-- Piece `p` of blocks of 1024 columns side by side. -/
theorem beside (xs : List ((s : Shape) × (s.Idx → EReal))) (h : Shape.Concatenates (xs.map (·.1)) Cert.WiRefIdeal.S4096x6144 1)
    (p : ℕ) (hp : p < xs.length) (x : Cert.WiRefIdeal.S4096x1024.Idx → EReal) (hx : xs[p] = ⟨Cert.WiRefIdeal.S4096x1024, x⟩)
    (hs : (((xs.take p).map (·.1)).map fun s => if h : s.rank = Cert.WiRefIdeal.S4096x6144.rank
      then s.size ((1 : Fin Cert.WiRefIdeal.S4096x6144.rank).cast h.symm) else 0).sum = p * 1024)
    (r : Fin 4096) (l : Fin 1024) (n : Fin 6144) (hn : p * 1024 + l.val = n.val) :
    concatenate Cert.WiRefIdeal.S4096x6144 1 xs h (ix2 r n) = x (ix2 r l) :=
  concatenate_apply_piece (1 : Fin Cert.WiRefIdeal.S4096x6144.rank) xs h (ix2 r n) p hp Cert.WiRefIdeal.S4096x1024 x hx rfl (p * 1024)
    hs (ix2 r l) (fun a ha => by
      match a with
      | ⟨0, _⟩ => rfl
      | ⟨1, _⟩ => exact absurd rfl ha) hn

set_option maxRecDepth 10000 in
/-- The planes side by side, part by part. -/
theorem v14 (r : Fin 4096) (k : Fin 12) (j : Fin 512) (n : Fin 6144) (hn : n.val = k.val * 512 + j.val) :
    val_main_v14 (F := Ideal) D (ix2 r n) = D (ix3 (DxSpec.plane k) r (DxSpec.col k j)) := by
  have hl : k.val / 2 * 1024 + (DxSpec.col k j).val = n.val := by
    show k.val / 2 * 1024 + (k.val % 2 * 512 + j.val) = n.val
    omega
  have ho : ∀ p : Fin 6, k.val / 2 = p.val → ![3, 0, 1, 2, 4, 5] p = DxSpec.plane k := (by decide :
    ∀ (k : Fin 12) (p : Fin 6), k.val / 2 = p.val → ![3, 0, 1, 2, 4, 5] p = DxSpec.plane k) k
  obtain ⟨h0, h1, h2, h3, h4, h5⟩ := planes D r (DxSpec.col k j)
  unfold val_main_v14
  rcases (by omega : k.val / 2 = 0 ∨ k.val / 2 = 1 ∨ k.val / 2 = 2 ∨ k.val / 2 = 3 ∨ k.val / 2 = 4 ∨ k.val / 2 = 5)
    with h | h | h | h | h | h <;> rw [h] at hl
  · rw [← ho 0 h]; exact (beside _ _ 0 (by simp) (val_main_v3 (F := Ideal) D) rfl rfl r _ n hl).trans h0
  · rw [← ho 1 h]; exact (beside _ _ 1 (by simp) (val_main_v5 (F := Ideal) D) rfl rfl r _ n hl).trans h1
  · rw [← ho 2 h]; exact (beside _ _ 2 (by simp) (val_main_v7 (F := Ideal) D) rfl rfl r _ n hl).trans h2
  · rw [← ho 3 h]; exact (beside _ _ 3 (by simp) (val_main_v9 (F := Ideal) D) rfl rfl r _ n hl).trans h3
  · rw [← ho 4 h]; exact (beside _ _ 4 (by simp) (val_main_v11 (F := Ideal) D) rfl rfl r _ n hl).trans h4
  · rw [← ho 5 h]; exact (beside _ _ 5 (by simp) (val_main_v13 (F := Ideal) D) rfl rfl r _ n hl).trans h5

theorem v17 (k : Fin 12) (i : Fin 1024) (j : Fin 512) (n : Fin 6144) (hn : n.val = k.val * 512 + j.val) :
    val_main_v17 (F := Ideal) H D (ix2 n i) = wi H D k i j := by
  rw [val_main_v17_apply]
  exact Finset.sum_congr rfl fun r _ => (congrArg₂ (· * ·) (at2 (v14 D r k j n hn)) ((val_main_v0_apply _ _).trans (at2 rfl))).trans
    (mul_comm _ _)

theorem v21 (k : Fin 12) (i : Fin 1024) (j : Fin 512) :
    val_main_v21 (F := Ideal) H D (ix3 (DxSpec.shard k) i (DxSpec.wcol k j)) = wi H D k i j := by
  rw [val_main_v21_apply, val_main_v20_apply, val_main_v19_apply, val_main_v18_apply]
  refine (congrArg (val_main_v17 (F := Ideal) H D) (funext fun a => Fin.ext ?_)).trans
    (v17 H D k i j ⟨k.val * 512 + j.val, by omega⟩ rfl)
  match a with
  | ⟨0, _⟩ => show ((i.val * 4 + k.val / 3) * 1536 + (k.val % 3 * 512 + j.val)) % 6144 = k.val * 512 + j.val; omega
  | ⟨1, _⟩ => show ((i.val * 4 + k.val / 3) * 1536 + (k.val % 3 * 512 + j.val)) / 6144 = i.val; omega

end Reference

/-! ### The claim -/

variable (m : (ℓ : Loc nD τ sig) → Buf (Elt Ideal) ℓ) (c : Dev nD)

theorem result (i : (⟨3, ![4, 1024, 1536]⟩ : Shape).Idx) :
    val_main_v21 (F := Ideal) (aH m c) (aD m c) i = (dats m 0 c).arrAt 2 cfg0.N i := by
  obtain ⟨q, s, n, rfl⟩ : ∃ (q : Fin 4) (s : Fin 1024) (n : Fin 1536), i = ix3 q s n := ⟨i 0, i 1, i 2, eq_ix3 i⟩
  have hq : DxSpec.shard ⟨q.val * 3 + n.val / 512, by omega⟩ = q := Fin.ext (by show (q.val * 3 + n.val / 512) / 3 = q.val; omega)
  have hn : DxSpec.wcol ⟨q.val * 3 + n.val / 512, by omega⟩ ⟨n.val % 512, Nat.mod_lt _ (by decide)⟩ = n :=
    Fin.ext (by show (q.val * 3 + n.val / 512) % 3 * 512 + n.val % 512 = n.val; omega)
  have e := (v21 (aH m c) (aD m c) ⟨q.val * 3 + n.val / 512, by omega⟩ s ⟨n.val % 512, Nat.mod_lt _ (by decide)⟩).trans
    (final2 m c _ s _).symm
  rw [hq, hn] at e
  exact e

theorem algebraic : Cert.algebraic_WiIdeal_WiRefIdeal := by
  intro m g m' g' _ hin
  refine ⟨fun c => (dats m 0 c).arrAt 2 cfg0.N, run_blocks m g, (θ_run _ _ _).mono (fun r h c => ?_) (Cert.WiRefIdeal.Value.run m' g')⟩
  obtain ⟨e0, ha⟩ := h c
  obtain ⟨a0, a1⟩ := hin c
  rw [val_main_v21_eq, a0, a1] at e0
  exact ⟨e0.trans (funext (result m c)), ha⟩

end Cert.WiClaim

end
-- ==== Proof.Adam.lean ====
/-
  The equation for one step of the optimiser: the kernel computes each entry of the gradient's copy, the step and the two moments
  from the same entry of its four arguments, by the same operations as the reference.
-/
module

public import proofs.«01_k».proof.Defs
public import proofs.«01_k».proof.Proof.Planes
public import proofs.«01_k».proof.Proof.Gen.AdamIdeal.Value
public import proofs.«01_k».proof.Proof.Gen.AdamRefIdeal.Read
public import proofs.«01_k».proof.Proof.Gen.AdamRefIdeal.Run
public import Idealize.ShloMosaic.Lib.KernelVsHost
public import Idealize.ShloMosaic.Lib.Pointwise

@[expose] public section

noncomputable section

namespace Cert.AdamClaim

open Cert.Planes Idealize.ShloMosaic Idealize.ShloMosaic.TcCoe Idealize.SL.Sem
open Cert.AdamIdeal Cert.AdamIdeal.Gen Cert.AdamIdeal.Value Cert.AdamRefIdeal.Read

/-- The reference runs, keeps its arguments, and has no semaphores. -/
theorem frame_reference : Cert.quiescent_AdamRefIdeal := fun m ρ _ =>
  (θ_run Cert.AdamRefIdeal.defs _ _).mono (fun r h => ⟨fun c => (h c).2.2.2.2, sem_eq_zero_of_no_sems (by decide) r.2⟩)
    (Cert.AdamRefIdeal.Value.run (F := Ideal) m ρ)

/-! ### One entry of a block, and the same entry of the reference -/

section Entry

variable (xw xg xm xv : Vec Ideal S128x1536 .f32) (W G M V : (⟨2, ![1024, 1536]⟩ : Shape).Idx → EReal)
  (s : Fin 128) (r : Fin 1024) (j : Fin 1536) (hw : xw (ix2 s j) = W (ix2 r j)) (hg : xg (ix2 s j) = G (ix2 r j))
  (hm : xm (ix2 s j) = M (ix2 r j)) (hv : xv (ix2 s j) = V (ix2 r j))

include hg hm in
theorem first : (k0_pay1 (F := Ideal) xg xm : S128x1536.Idx → EReal) (ix2 s j) = val_main_v4 (F := Ideal) G M (ix2 r j) := by
  unfold k0_pay1 val_main_v4 val_main_v3 val_main_v2 val_main_v1 val_main_v0 val_main_cst val_main_cst_0
  pointwise [hg, hm]

include hg hv in
theorem second : (k0_pay2 (F := Ideal) xg xv : S128x1536.Idx → EReal) (ix2 s j) = val_main_v10 (F := Ideal) G V (ix2 r j) := by
  unfold k0_pay2 val_main_v10 val_main_v9 val_main_v8 val_main_v7 val_main_v6 val_main_v5 val_main_cst_1 val_main_cst_2
  pointwise [hg, hv]

include hw hg hm hv in
theorem step : (k0_pay3 (F := Ideal) xg xm xv xw : S128x1536.Idx → EReal) (ix2 s j) = val_main_v23 (F := Ideal) W G M V (ix2 r j) := by
  unfold k0_pay3 val_main_v23 val_main_v22 val_main_v21 val_main_v20 val_main_v19 val_main_v18 val_main_v17 val_main_v16
    val_main_v15 val_main_v14 val_main_v13 val_main_v12 val_main_v11 val_main_cst_3 val_main_cst_4 val_main_cst_5 val_main_cst_6
    val_main_cst_7
  pointwise [first xg xm G M s r j hg hm, second xg xv G V s r j hg hv, hw]

end Entry

/-! ### The arrays after the run -/

variable (m : (ℓ : Loc nD τ sig) → Buf (Elt Ideal) ℓ) (c : Dev nD)

/-- The arguments as arrays of extended reals. -/
abbrev aW : (⟨2, ![1024, 1536]⟩ : Shape).Idx → EReal := m ((c : Thread nD τ).loc main_arg0)
abbrev aG : (⟨2, ![1024, 1536]⟩ : Shape).Idx → EReal := m ((c : Thread nD τ).loc main_arg1)
abbrev aM : (⟨2, ![1024, 1536]⟩ : Shape).Idx → EReal := m ((c : Thread nD τ).loc main_arg2)
abbrev aV : (⟨2, ![1024, 1536]⟩ : Shape).Idx → EReal := m ((c : Thread nD τ).loc main_arg3)

/-- The point that computes row `r`, and the row's place in its block. -/
def pt (r : Fin 1024) : Fin cfg0.N := ⟨r.val / 128, by rw [show cfg0.N = 8 from N_0]; omega⟩
def sub (r : Fin 1024) : Fin 128 := ⟨r.val % 128, Nat.mod_lt _ (by decide)⟩

/-- Where an entry of the point's block stands, for a window whose blocks follow the points. -/
theorem row (r : Fin 1024) (n : ℕ) (h : n = (pt r).val) : n * 128 + 1 * (r.val % 128) = r.val := by
  rw [h]
  show r.val / 128 * 128 + 1 * (r.val % 128) = r.val
  omega
theorem column (j : Fin 1536) (n : ℕ) (h : n = 0) : n * 1536 + 1 * j.val = j.val := by
  rw [h]
  omega

theorem index : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

theorem iblk0 (r : Fin 1024) (j : Fin 1536) :
    (iblk m c 0 (pt r) : Vec Ideal S128x1536 .f32) (ix2 (sub r) j) = aW m c (ix2 r j) := by
  unfold iblk
  rw [View.read_apply]
  show V m c main_arg0 _ = m _ _
  rw [V_main_arg0]
  congr 1
  funext a
  apply Fin.ext
  match a with
  | ⟨0, _⟩ => exact row r _ (index _).1.1
  | ⟨1, _⟩ => exact column j _ (index _).1.2

theorem iblk1 (r : Fin 1024) (j : Fin 1536) :
    (iblk m c 1 (pt r) : Vec Ideal S128x1536 .f32) (ix2 (sub r) j) = aG m c (ix2 r j) := by
  unfold iblk
  rw [View.read_apply]
  show V m c main_arg1 _ = m _ _
  rw [V_main_arg1]
  congr 1
  funext a
  apply Fin.ext
  match a with
  | ⟨0, _⟩ => exact row r _ (index _).2.1.1
  | ⟨1, _⟩ => exact column j _ (index _).2.1.2

theorem iblk2 (r : Fin 1024) (j : Fin 1536) :
    (iblk m c 2 (pt r) : Vec Ideal S128x1536 .f32) (ix2 (sub r) j) = aM m c (ix2 r j) := by
  unfold iblk
  rw [View.read_apply]
  show V m c main_arg2 _ = m _ _
  rw [V_main_arg2]
  congr 1
  funext a
  apply Fin.ext
  match a with
  | ⟨0, _⟩ => exact row r _ (index _).2.2.1.1
  | ⟨1, _⟩ => exact column j _ (index _).2.2.1.2

theorem iblk3 (r : Fin 1024) (j : Fin 1536) :
    (iblk m c 3 (pt r) : Vec Ideal S128x1536 .f32) (ix2 (sub r) j) = aV m c (ix2 r j) := by
  unfold iblk
  rw [View.read_apply]
  show V m c main_arg3 _ = m _ _
  rw [V_main_arg3]
  congr 1
  funext a
  apply Fin.ext
  match a with
  | ⟨0, _⟩ => exact row r _ (index _).2.2.2.1.1
  | ⟨1, _⟩ => exact column j _ (index _).2.2.2.1.2

theorem final4 (r : Fin 1024) (j : Fin 1536) :
    ((dats m 0 c).arrAt 4 cfg0.N : (⟨2, ![1024, 1536]⟩ : Shape).Idx → EReal) (ix2 r j)
      = aG m c (ix2 r j) := by
  have e := (dats m 0 c).arrAt_emb_eq_flushed 4 disjoint4 (pt r) (flush0_4 (pt r)) (ix2 (sub r) j)
  have ei : ((cfg0.win 4).blk (pt r)).view.emb (ix2 (sub r) j) = ix2 r j := by
    funext a
    apply Fin.ext
    match a with
    | ⟨0, _⟩ => exact row r _ (index _).2.2.2.2.1.1
    | ⟨1, _⟩ => exact column j _ (index _).2.2.2.2.1.2
  rw [ei] at e
  refine e.trans ?_
  rw [cast_eq, flushed4]
  unfold out0_4
  rw [View.canon_cons_unit_zero (S := S128x1536) hz2]
  simp only [View.ld_unit_zero (S := S128x1536) hz2]
  exact iblk1 m c r j

theorem final5 (r : Fin 1024) (j : Fin 1536) :
    ((dats m 0 c).arrAt 5 cfg0.N : (⟨2, ![1024, 1536]⟩ : Shape).Idx → EReal) (ix2 r j)
      = val_main_v23 (F := Ideal) (aW m c) (aG m c) (aM m c) (aV m c) (ix2 r j) := by
  have e := (dats m 0 c).arrAt_emb_eq_flushed 5 disjoint5 (pt r) (flush0_5 (pt r)) (ix2 (sub r) j)
  have ei : ((cfg0.win 5).blk (pt r)).view.emb (ix2 (sub r) j) = ix2 r j := by
    funext a
    apply Fin.ext
    match a with
    | ⟨0, _⟩ => exact row r _ (index _).2.2.2.2.2.1.1
    | ⟨1, _⟩ => exact column j _ (index _).2.2.2.2.2.1.2
  rw [ei] at e
  refine e.trans ?_
  rw [cast_eq, flushed5]
  unfold out0_5
  rw [View.canon_cons_unit_zero (S := S128x1536) hz2]
  simp only [View.ld_unit_zero (S := S128x1536) hz2]
  exact step _ _ _ _ _ _ _ _ _ r j (iblk0 m c r j) (iblk1 m c r j) (iblk2 m c r j) (iblk3 m c r j)

theorem final6 (r : Fin 1024) (j : Fin 1536) :
    ((dats m 0 c).arrAt 6 cfg0.N : (⟨2, ![1024, 1536]⟩ : Shape).Idx → EReal) (ix2 r j)
      = val_main_v4 (F := Ideal) (aG m c) (aM m c) (ix2 r j) := by
  have e := (dats m 0 c).arrAt_emb_eq_flushed 6 disjoint6 (pt r) (flush0_6 (pt r)) (ix2 (sub r) j)
  have ei : ((cfg0.win 6).blk (pt r)).view.emb (ix2 (sub r) j) = ix2 r j := by
    funext a
    apply Fin.ext
    match a with
    | ⟨0, _⟩ => exact row r _ (index _).2.2.2.2.2.2.1.1
    | ⟨1, _⟩ => exact column j _ (index _).2.2.2.2.2.2.1.2
  rw [ei] at e
  refine e.trans ?_
  rw [cast_eq, flushed6]
  unfold out0_6
  rw [View.canon_cons_unit_zero (S := S128x1536) hz2]
  simp only [View.ld_unit_zero (S := S128x1536) hz2]
  exact first _ _ _ _ _ r j (iblk1 m c r j) (iblk2 m c r j)

theorem final7 (r : Fin 1024) (j : Fin 1536) :
    ((dats m 0 c).arrAt 7 cfg0.N : (⟨2, ![1024, 1536]⟩ : Shape).Idx → EReal) (ix2 r j)
      = val_main_v10 (F := Ideal) (aG m c) (aV m c) (ix2 r j) := by
  have e := (dats m 0 c).arrAt_emb_eq_flushed 7 disjoint7 (pt r) (flush0_7 (pt r)) (ix2 (sub r) j)
  have ei : ((cfg0.win 7).blk (pt r)).view.emb (ix2 (sub r) j) = ix2 r j := by
    funext a
    apply Fin.ext
    match a with
    | ⟨0, _⟩ => exact row r _ (index _).2.2.2.2.2.2.2.1
    | ⟨1, _⟩ => exact column j _ (index _).2.2.2.2.2.2.2.2
  rw [ei] at e
  refine e.trans ?_
  rw [cast_eq, flushed7]
  unfold out0_7
  rw [View.canon_cons_unit_zero (S := S128x1536) hz2]
  simp only [View.ld_unit_zero (S := S128x1536) hz2]
  exact second _ _ _ _ _ r j (iblk1 m c r j) (iblk3 m c r j)

/-! ### The claim -/

/-- Two arrays that agree at every pair of coordinates. -/
theorem ext2 {f h : (⟨2, ![1024, 1536]⟩ : Shape).Idx → EReal} (e : ∀ (r : Fin 1024) (j : Fin 1536), h (ix2 r j) = f (ix2 r j)) : f = h := by
  funext i
  obtain ⟨r, j, rfl⟩ : ∃ (r : Fin 1024) (j : Fin 1536), i = ix2 r j := ⟨i 0, i 1, eq_ix2 i⟩
  exact (e r j).symm

theorem algebraic : Cert.algebraic_AdamIdeal_AdamRefIdeal := by
  intro m g m' g' _ hin
  refine ⟨fun c => (dats m 0 c).arrAt 4 cfg0.N, fun c => (dats m 0 c).arrAt 5 cfg0.N, fun c => (dats m 0 c).arrAt 6 cfg0.N,
    fun c => (dats m 0 c).arrAt 7 cfg0.N, run_blocks m g, (θ_run _ _ _).mono (fun r h c => ?_) (Cert.AdamRefIdeal.Value.run m' g')⟩
  obtain ⟨e0, e1, e2, e3, ha⟩ := h c
  obtain ⟨a0, a1, a2, a3⟩ := hin c
  rw [a1] at e0
  rw [val_main_v23_eq, a0, a1, a2, a3] at e1
  rw [val_main_v4_eq, a1, a2] at e2
  rw [val_main_v10_eq, a1, a3] at e3
  exact ⟨e0.trans (ext2 (final4 m c)), e1.trans (ext2 (final5 m c)), e2.trans (ext2 (final6 m c)), e3.trans (ext2 (final7 m c)), ha⟩

end Cert.AdamClaim

end
-- ==== Proof.Slots.lean ====
/-
  The equation for the sum over the eight devices' small gradients: the kernel adds the eight planes one after another, the
  reference sums the axis at once.
-/
module

public import proofs.«01_k».proof.Defs
public import proofs.«01_k».proof.Proof.Planes
public import proofs.«01_k».proof.Proof.Gen.SlotsIdeal.Value
public import proofs.«01_k».proof.Proof.Gen.SlotsRefIdeal.Read
public import proofs.«01_k».proof.Proof.Gen.SlotsRefIdeal.Run
public import Idealize.ShloMosaic.Lib.Pointwise

@[expose] public section

noncomputable section

namespace Cert.SlotsClaim

open Cert.Planes Idealize.ShloMosaic Idealize.ShloMosaic.TcCoe Idealize.SL.Sem
open Cert.SlotsIdeal Cert.SlotsIdeal.Gen Cert.SlotsIdeal.Value Cert.SlotsRefIdeal.Read

/-- The reference runs, keeps its argument, and has no semaphores. -/
theorem frame_reference : Cert.quiescent_SlotsRefIdeal := fun m ρ _ =>
  (θ_run Cert.SlotsRefIdeal.defs _ _).mono (fun r h => ⟨fun c => (h c).2, sem_eq_zero_of_no_sems (by decide) r.2⟩)
    (Cert.SlotsRefIdeal.Value.run (F := Ideal) m ρ)

/-- Eight planes, added one after another. -/
theorem sum_planes (x : (⟨3, ![8, 240, 128]⟩ : Shape).Idx → EReal) (s : Fin 240) (l : Fin 128) :
    (G1 (F := Ideal) x : S240x128.Idx → EReal) (ix2 s l) = ∑ k : Fin 8, x (ix3 k s l) := by
  rw [Fin.sum_univ_eight]
  have e (o : ℕ) (ho : o < 8) (inb) : View.ld (Val := Elt Ideal) (e' := .f32) x (Rect.unit (s := S8x240x128) ![o, 0, 0] S1x240x128.size inb)
      (ix3 0 s l) = x (ix3 ⟨o, ho⟩ s l) := ld_plane (ε := .f32) x o ho inb s l
  unfold G1 k0_pay1
  pointwise [e 0 (by decide), e 1 (by decide), e 2 (by decide), e 3 (by decide), e 4 (by decide), e 5 (by decide), e 6 (by decide),
    e 7 (by decide)]

theorem v0 (x : (⟨3, ![8, 240, 128]⟩ : Shape).Idx → EReal) (s : Fin 240) (l : Fin 128) :
    val_main_v0 (F := Ideal) x (ix2 s l) = ∑ k : Fin 8, x (ix3 k s l) := by
  rw [val_main_v0_apply]
  refine (congrArg₂ (· + ·) ((val_main_cst_apply _).trans (Ideal.ofBits_zero .f32))
    (Finset.sum_congr rfl fun k _ => at3 rfl)).trans (zero_add _)

theorem result (x : (⟨3, ![8, 240, 128]⟩ : Shape).Idx → EReal) (i : (⟨2, ![240, 128]⟩ : Shape).Idx) :
    val_main_v0 (F := Ideal) x i = G1 (F := Ideal) x i := by
  obtain ⟨s, l, rfl⟩ : ∃ (s : Fin 240) (l : Fin 128), i = ix2 s l := ⟨i 0, i 1, eq_ix2 i⟩
  exact (v0 x s l).trans (sum_planes x s l).symm

theorem algebraic : Cert.algebraic_SlotsIdeal_SlotsRefIdeal := by
  intro m g m' g' _ hin
  refine ⟨fun c => G1 (m ((c : Thread nD τ).loc main_arg0)), Cert.SlotsIdeal.Value.run m g, (θ_run _ _ _).mono (fun r h c => ?_)
    (Cert.SlotsRefIdeal.Value.run m' g')⟩
  obtain ⟨e0, ha⟩ := h c
  rw [val_main_v0_eq, hin c] at e0
  exact ⟨e0.trans (funext (result _)), ha⟩

end Cert.SlotsClaim

end
-- ==== Proof.lean ====
/-
  The proof of everything the certificate claims: for each program that it runs and keeps its arguments, and for each pair of
  programs that the kernel's results are the reference's.
-/
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Dx1
public import proofs.«01_k».proof.Proof.Gen.Dx1.Skeleton
public import proofs.«01_k».proof.Proof.Gen.Dx1.Launch
public import proofs.«01_k».proof.Proof.Gen.Dx1.Points
public import proofs.«01_k».proof.Proof.Gen.Dx1.Frame
public import proofs.«01_k».proof.Proof.Gen.Dx1Ideal
public import proofs.«01_k».proof.Proof.Gen.Dx1Ideal.Skeleton
public import proofs.«01_k».proof.Proof.Gen.Dx1Ideal.Launch
public import proofs.«01_k».proof.Proof.Gen.Dx1Ideal.Points
public import proofs.«01_k».proof.Proof.Gen.Dx1Ideal.Frame
public import proofs.«01_k».proof.Proof.Gen.Dx1Ideal.Value
public import proofs.«01_k».proof.Proof.Gen.Dx1RefIdeal
public import proofs.«01_k».proof.Proof.Gen.Dx1RefIdeal.Run
public import proofs.«01_k».proof.Proof.Gen.Dx1RefIdeal.Read
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxIdeal.Value
public import proofs.«01_k».proof.Proof.Gen.DxRefIdeal
public import proofs.«01_k».proof.Proof.Gen.DxRefIdeal.Run
public import proofs.«01_k».proof.Proof.Gen.DxRefIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.Pool.Frame
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidRefIdeal.Run
public import proofs.«01_k».proof.Proof.Gen.MidRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Da
public import proofs.«01_k».proof.Proof.Gen.Da.Skeleton
public import proofs.«01_k».proof.Proof.Gen.Da.Launch
public import proofs.«01_k».proof.Proof.Gen.Da.Points
public import proofs.«01_k».proof.Proof.Gen.Da.Frame
public import proofs.«01_k».proof.Proof.Gen.DaIdeal
public import proofs.«01_k».proof.Proof.Gen.DaIdeal.Skeleton
public import proofs.«01_k».proof.Proof.Gen.DaIdeal.Launch
public import proofs.«01_k».proof.Proof.Gen.DaIdeal.Points
public import proofs.«01_k».proof.Proof.Gen.DaIdeal.Frame
public import proofs.«01_k».proof.Proof.Gen.DaIdeal.Value
public import proofs.«01_k».proof.Proof.Gen.DaRefIdeal
public import proofs.«01_k».proof.Proof.Gen.DaRefIdeal.Run
public import proofs.«01_k».proof.Proof.Gen.DaRefIdeal.Read
public import proofs.«01_k».proof.Proof.Gen.Wu
public import proofs.«01_k».proof.Proof.Gen.Wu.Skeleton
public import proofs.«01_k».proof.Proof.Gen.Wu.Launch
public import proofs.«01_k».proof.Proof.Gen.Wu.Points
public import proofs.«01_k».proof.Proof.Gen.Wu.Frame
public import proofs.«01_k».proof.Proof.Gen.WuIdeal
public import proofs.«01_k».proof.Proof.Gen.WuIdeal.Skeleton
public import proofs.«01_k».proof.Proof.Gen.WuIdeal.Launch
public import proofs.«01_k».proof.Proof.Gen.WuIdeal.Points
public import proofs.«01_k».proof.Proof.Gen.WuIdeal.Frame
public import proofs.«01_k».proof.Proof.Gen.WuIdeal.Value
public import proofs.«01_k».proof.Proof.Gen.WuRefIdeal
public import proofs.«01_k».proof.Proof.Gen.WuRefIdeal.Run
public import proofs.«01_k».proof.Proof.Gen.WuRefIdeal.Read
public import proofs.«01_k».proof.Proof.Gen.Wi
public import proofs.«01_k».proof.Proof.Gen.Wi.Skeleton
public import proofs.«01_k».proof.Proof.Gen.Wi.Launch
public import proofs.«01_k».proof.Proof.Gen.Wi.Points
public import proofs.«01_k».proof.Proof.Gen.Wi.Frame
public import proofs.«01_k».proof.Proof.Gen.WiIdeal
public import proofs.«01_k».proof.Proof.Gen.WiIdeal.Skeleton
public import proofs.«01_k».proof.Proof.Gen.WiIdeal.Launch
public import proofs.«01_k».proof.Proof.Gen.WiIdeal.Points
public import proofs.«01_k».proof.Proof.Gen.WiIdeal.Frame
public import proofs.«01_k».proof.Proof.Gen.WiIdeal.Value
public import proofs.«01_k».proof.Proof.Gen.WiRefIdeal
public import proofs.«01_k».proof.Proof.Gen.WiRefIdeal.Run
public import proofs.«01_k».proof.Proof.Gen.WiRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsIdeal.Value
public import proofs.«01_k».proof.Proof.Gen.SlotsRefIdeal
public import proofs.«01_k».proof.Proof.Gen.SlotsRefIdeal.Run
public import proofs.«01_k».proof.Proof.Gen.SlotsRefIdeal.Read
public import proofs.«01_k».proof.Proof.Conv
public import proofs.«01_k».proof.Proof.Gate
public import proofs.«01_k».proof.Proof.Dx1
public import proofs.«01_k».proof.Proof.Dx
public import proofs.«01_k».proof.Proof.Loss
public import proofs.«01_k».proof.Proof.Pool
public import proofs.«01_k».proof.Proof.Mid
public import proofs.«01_k».proof.Proof.Out
public import proofs.«01_k».proof.Proof.Mix
public import proofs.«01_k».proof.Proof.Up
public import proofs.«01_k».proof.Proof.Da
public import proofs.«01_k».proof.Proof.Wu
public import proofs.«01_k».proof.Proof.Wi
public import proofs.«01_k».proof.Proof.Adam
public import proofs.«01_k».proof.Proof.Slots
public import Idealize.ShloMosaic.Adequacy
public import Idealize.ShloMosaic.Init

@[expose] public section

noncomputable section

namespace Cert.Proof

open Idealize.ShloMosaic Idealize.SL.Sem

theorem claim : Cert.Claim := ⟨
  Cert.Conv.Gen.facts,
  Cert.ConvIdeal.Gen.facts,
  Cert.ConvRefIdeal.Gen.facts,
  Cert.Gate.Gen.facts,
  Cert.GateIdeal.Gen.facts,
  Cert.GateRefIdeal.Gen.facts,
  Cert.Dx1.Gen.facts,
  Cert.Dx1Ideal.Gen.facts,
  Cert.Dx1RefIdeal.Gen.facts,
  Cert.Dx.Gen.facts,
  Cert.DxIdeal.Gen.facts,
  Cert.DxRefIdeal.Gen.facts,
  Cert.Loss.Gen.facts,
  Cert.LossIdeal.Gen.facts,
  Cert.LossRefIdeal.Gen.facts,
  Cert.Pool.Gen.facts,
  Cert.PoolIdeal.Gen.facts,
  Cert.PoolRefIdeal.Gen.facts,
  Cert.Mid.Gen.facts,
  Cert.MidIdeal.Gen.facts,
  Cert.MidRefIdeal.Gen.facts,
  Cert.Out.Gen.facts,
  Cert.OutIdeal.Gen.facts,
  Cert.OutRefIdeal.Gen.facts,
  Cert.Mix.Gen.facts,
  Cert.MixIdeal.Gen.facts,
  Cert.MixRefIdeal.Gen.facts,
  Cert.Up.Gen.facts,
  Cert.UpIdeal.Gen.facts,
  Cert.UpRefIdeal.Gen.facts,
  Cert.Da.Gen.facts,
  Cert.DaIdeal.Gen.facts,
  Cert.DaRefIdeal.Gen.facts,
  Cert.Wu.Gen.facts,
  Cert.WuIdeal.Gen.facts,
  Cert.WuRefIdeal.Gen.facts,
  Cert.Wi.Gen.facts,
  Cert.WiIdeal.Gen.facts,
  Cert.WiRefIdeal.Gen.facts,
  Cert.Adam.Gen.facts,
  Cert.AdamIdeal.Gen.facts,
  Cert.AdamRefIdeal.Gen.facts,
  Cert.Slots.Gen.facts,
  Cert.SlotsIdeal.Gen.facts,
  Cert.SlotsRefIdeal.Gen.facts,
  Cert.Preds.facts_dx1_finite,
  Cert.Preds.facts_dx_finite,
  Cert.Preds.facts_loss_finite,
  Cert.Preds.facts_pool_finite,
  Cert.Preds.facts_mid_finite,
  Cert.Preds.facts_mix_finite,
  Cert.Preds.facts_gate_written,
  Cert.Preds.facts_dx1_written,
  Cert.Preds.facts_mix_written,
  fun m ρ _ => Cert.Conv.Gen.frame m ρ,
  fun m ρ _ => Cert.ConvIdeal.Gen.frame m ρ,
  Cert.ConvClaim.frame_reference,
  fun m ρ _ => Cert.Gate.Gen.frame m ρ,
  fun m ρ _ => Cert.GateIdeal.Gen.frame m ρ,
  Cert.GateClaim.frame_reference,
  fun m ρ _ => Cert.Dx1.Gen.frame m ρ,
  fun m ρ _ => Cert.Dx1Ideal.Gen.frame m ρ,
  fun m ρ _ => Cert.Dx1Ideal.Gen.frame m ρ,
  Cert.Dx1Claim.frame_reference,
  fun m ρ _ => Cert.Dx1Claim.frame_reference m ρ trivial,
  fun m ρ _ => Cert.Dx.Gen.frame m ρ,
  fun m ρ _ => Cert.DxIdeal.Gen.frame m ρ,
  fun m ρ _ => Cert.DxIdeal.Gen.frame m ρ,
  Cert.DxClaim.frame_reference,
  fun m ρ _ => Cert.DxClaim.frame_reference m ρ trivial,
  fun m ρ _ => Cert.Loss.Gen.frame m ρ,
  fun m ρ _ => Cert.LossIdeal.Gen.frame m ρ,
  fun m ρ _ => Cert.LossIdeal.Gen.frame m ρ,
  Cert.LossClaim.frame_reference,
  fun m ρ _ => Cert.LossClaim.frame_reference m ρ trivial,
  fun m ρ _ => Cert.Pool.Gen.frame m ρ,
  fun m ρ _ => Cert.PoolIdeal.Gen.frame m ρ,
  fun m ρ _ => Cert.PoolIdeal.Gen.frame m ρ,
  Cert.PoolClaim.frame_reference,
  fun m ρ _ => Cert.PoolClaim.frame_reference m ρ trivial,
  fun m ρ _ => Cert.Mid.Gen.frame m ρ,
  fun m ρ _ => Cert.MidIdeal.Gen.frame m ρ,
  fun m ρ _ => Cert.MidIdeal.Gen.frame m ρ,
  Cert.MidClaim.frame_reference,
  fun m ρ _ => Cert.MidClaim.frame_reference m ρ trivial,
  fun m ρ _ => Cert.Out.Gen.frame m ρ,
  fun m ρ _ => Cert.OutIdeal.Gen.frame m ρ,
  Cert.OutClaim.frame_reference,
  fun m ρ _ => Cert.Mix.Gen.frame m ρ,
  fun m ρ _ => Cert.MixIdeal.Gen.frame m ρ,
  fun m ρ _ => Cert.MixIdeal.Gen.frame m ρ,
  Cert.MixClaim.frame_reference,
  fun m ρ _ => Cert.MixClaim.frame_reference m ρ trivial,
  fun m ρ _ => Cert.Up.Gen.frame m ρ,
  fun m ρ _ => Cert.UpIdeal.Gen.frame m ρ,
  Cert.UpClaim.frame_reference,
  fun m ρ _ => Cert.Da.Gen.frame m ρ,
  fun m ρ _ => Cert.DaIdeal.Gen.frame m ρ,
  Cert.DaClaim.frame_reference,
  fun m ρ _ => Cert.Wu.Gen.frame m ρ,
  fun m ρ _ => Cert.WuIdeal.Gen.frame m ρ,
  Cert.WuClaim.frame_reference,
  fun m ρ _ => Cert.Wi.Gen.frame m ρ,
  fun m ρ _ => Cert.WiIdeal.Gen.frame m ρ,
  Cert.WiClaim.frame_reference,
  fun m ρ _ => Cert.Adam.Gen.frame m ρ,
  fun m ρ _ => Cert.AdamIdeal.Gen.frame m ρ,
  Cert.AdamClaim.frame_reference,
  fun m ρ _ => Cert.Slots.Gen.frame m ρ,
  fun m ρ _ => Cert.SlotsIdeal.Gen.frame m ρ,
  Cert.SlotsClaim.frame_reference,
  trivial,
  Cert.ConvClaim.algebraic,
  trivial,
  Cert.GateClaim.algebraic,
  trivial,
  Cert.Dx1Claim.algebraic,
  trivial,
  Cert.DxClaim.algebraic,
  trivial,
  Cert.LossClaim.algebraic,
  trivial,
  Cert.PoolClaim.algebraic,
  trivial,
  Cert.MidClaim.algebraic,
  trivial,
  Cert.OutClaim.algebraic,
  trivial,
  Cert.MixClaim.algebraic,
  trivial,
  Cert.UpClaim.algebraic,
  trivial,
  Cert.DaClaim.algebraic,
  trivial,
  Cert.WuClaim.algebraic,
  trivial,
  Cert.WiClaim.algebraic,
  trivial,
  Cert.AdamClaim.algebraic,
  trivial,
  Cert.SlotsClaim.algebraic⟩

end Cert.Proof

end
